-- ==== Defs.lean ====
def Pre_Kernel [hPre_triangle : Cert.Pre_triangle.Facts] (m : (ℓ : Loc Cert.Kernel.nD Cert.Kernel.τ Cert.Kernel.sig) → Buf (Elt Bits) ℓ) : Prop :=
  ∀ c : Dev Cert.Kernel.nD,
    (Cert.Pre_triangle.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_triangle : Cert.Pre_triangle.Facts] (m : (ℓ : Loc Cert.KernelIdeal.nD Cert.KernelIdeal.τ Cert.KernelIdeal.sig) → Buf (Elt Ideal) ℓ) : Prop :=
  ∀ c : Dev Cert.KernelIdeal.nD,
    (Cert.Pre_triangle.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_real_scores [hPre_real_scores : Cert.Pre_real_scores.Facts] (m : (ℓ : Loc Cert.KernelIdeal.nD Cert.KernelIdeal.τ Cert.KernelIdeal.sig) → Buf (Elt Ideal) ℓ) : Prop :=
  ∀ c : Dev Cert.KernelIdeal.nD,
    (Cert.Pre_real_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_scores [hPre_real_scores : Cert.Pre_real_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] [hPre_triangle : Cert.Pre_triangle.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_triangle : Cert.Pre_triangle.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_real_scores [hKernelIdeal : Cert.KernelIdeal.Facts] [hPre_real_scores : Cert.Pre_real_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_real_scores [hReferenceIdeal : Cert.ReferenceIdeal.Facts] [hPre_real_scores : Cert.Pre_real_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  IdealRules.named_const.Statement Cert.KernelIdeal.κ "masked" .f32 0xF149F2CA#32 ⊥

def algebraic_KernelIdeal_ReferenceIdeal_pre_real_scores [hKernelIdeal : Cert.KernelIdeal.Facts] [hReferenceIdeal : Cert.ReferenceIdeal.Facts] [hPre_real_scores : Cert.Pre_real_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)) (v5 : (c : Dev Cert.Kernel2Ideal.nD) → Buf (Elt Ideal) ((c.tc : Thread Cert.Kernel2Ideal.nD Cert.Kernel2Ideal.τ).loc Cert.Kernel2Ideal.main_v0_5)) (v6 : (c : Dev Cert.Kernel2Ideal.nD) → Buf (Elt Ideal) ((c.tc : Thread Cert.Kernel2Ideal.nD Cert.Kernel2Ideal.τ).loc Cert.Kernel2Ideal.main_v0_6)) (v7 : (c : Dev Cert.Kernel2Ideal.nD) → Buf (Elt Ideal) ((c.tc : Thread Cert.Kernel2Ideal.nD Cert.Kernel2Ideal.τ).loc Cert.Kernel2Ideal.main_v0_7)) (v8 : (c : Dev Cert.Kernel2Ideal.nD) → Buf (Elt Ideal) ((c.tc : Thread Cert.Kernel2Ideal.nD Cert.Kernel2Ideal.τ).loc Cert.Kernel2Ideal.main_v0_8)) (v9 : (c : Dev Cert.Kernel2Ideal.nD) → Buf (Elt Ideal) ((c.tc : Thread Cert.Kernel2Ideal.nD Cert.Kernel2Ideal.τ).loc Cert.Kernel2Ideal.main_v0_9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_v0_5) = v5 c
          ∧ r.2.mem ((c.tc : Thread Cert.Kernel2Ideal.nD Cert.Kernel2Ideal.τ).loc Cert.Kernel2Ideal.main_v0_6) = v6 c
          ∧ r.2.mem ((c.tc : Thread Cert.Kernel2Ideal.nD Cert.Kernel2Ideal.τ).loc Cert.Kernel2Ideal.main_v0_7) = v7 c
          ∧ r.2.mem ((c.tc : Thread Cert.Kernel2Ideal.nD Cert.Kernel2Ideal.τ).loc Cert.Kernel2Ideal.main_v0_8) = v8 c
          ∧ r.2.mem ((c.tc : Thread Cert.Kernel2Ideal.nD Cert.Kernel2Ideal.τ).loc Cert.Kernel2Ideal.main_v0_9) = v9 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_v52) = v1 c
          ∧ r.2.mem ((c.tc : Thread Cert.Reference2Ideal.nD Cert.Reference2Ideal.τ).loc Cert.Reference2Ideal.main_v60) = v2 c
          ∧ r.2.mem ((c.tc : Thread Cert.Reference2Ideal.nD Cert.Reference2Ideal.τ).loc Cert.Reference2Ideal.main_v61) = v3 c
          ∧ r.2.mem ((c.tc : Thread Cert.Reference2Ideal.nD Cert.Reference2Ideal.τ).loc Cert.Reference2Ideal.main_v62) = v4 c
          ∧ r.2.mem ((c.tc : Thread Cert.Reference2Ideal.nD Cert.Reference2Ideal.τ).loc Cert.Reference2Ideal.main_v64) = v5 c
          ∧ r.2.mem ((c.tc : Thread Cert.Reference2Ideal.nD Cert.Reference2Ideal.τ).loc Cert.Reference2Ideal.main_v24) = v6 c
          ∧ r.2.mem ((c.tc : Thread Cert.Reference2Ideal.nD Cert.Reference2Ideal.τ).loc Cert.Reference2Ideal.main_v25) = v7 c
          ∧ r.2.mem ((c.tc : Thread Cert.Reference2Ideal.nD Cert.Reference2Ideal.τ).loc Cert.Reference2Ideal.main_v57) = v8 c
          ∧ r.2.mem ((c.tc : Thread Cert.Reference2Ideal.nD Cert.Reference2Ideal.τ).loc Cert.Reference2Ideal.main_v65) = v9 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v71_0)) (v1 : (c : Dev Cert.Kernel4Ideal.nD) → Buf (Elt Ideal) ((c.tc : Thread Cert.Kernel4Ideal.nD Cert.Kernel4Ideal.τ).loc Cert.Kernel4Ideal.main_v71_1)) (v2 : (c : Dev Cert.Kernel4Ideal.nD) → Buf (Elt Ideal) ((c.tc : Thread Cert.Kernel4Ideal.nD Cert.Kernel4Ideal.τ).loc Cert.Kernel4Ideal.main_v71_2)) (v3 : (c : Dev Cert.Kernel4Ideal.nD) → Buf (Elt Ideal) ((c.tc : Thread Cert.Kernel4Ideal.nD Cert.Kernel4Ideal.τ).loc Cert.Kernel4Ideal.main_v71_3)) (v4 : (c : Dev Cert.Kernel4Ideal.nD) → Buf (Elt Ideal) ((c.tc : Thread Cert.Kernel4Ideal.nD Cert.Kernel4Ideal.τ).loc Cert.Kernel4Ideal.main_v71_4)) (v5 : (c : Dev Cert.Kernel4Ideal.nD) → Buf (Elt Ideal) ((c.tc : Thread Cert.Kernel4Ideal.nD Cert.Kernel4Ideal.τ).loc Cert.Kernel4Ideal.main_v71_5)) (v6 : (c : Dev Cert.Kernel4Ideal.nD) → Buf (Elt Ideal) ((c.tc : Thread Cert.Kernel4Ideal.nD Cert.Kernel4Ideal.τ).loc Cert.Kernel4Ideal.main_v71_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v71_0) = v0 c
          ∧ r.2.mem ((c.tc : Thread Cert.Kernel4Ideal.nD Cert.Kernel4Ideal.τ).loc Cert.Kernel4Ideal.main_v71_1) = v1 c
          ∧ r.2.mem ((c.tc : Thread Cert.Kernel4Ideal.nD Cert.Kernel4Ideal.τ).loc Cert.Kernel4Ideal.main_v71_2) = v2 c
          ∧ r.2.mem ((c.tc : Thread Cert.Kernel4Ideal.nD Cert.Kernel4Ideal.τ).loc Cert.Kernel4Ideal.main_v71_3) = v3 c
          ∧ r.2.mem ((c.tc : Thread Cert.Kernel4Ideal.nD Cert.Kernel4Ideal.τ).loc Cert.Kernel4Ideal.main_v71_4) = v4 c
          ∧ r.2.mem ((c.tc : Thread Cert.Kernel4Ideal.nD Cert.Kernel4Ideal.τ).loc Cert.Kernel4Ideal.main_v71_5) = v5 c
          ∧ r.2.mem ((c.tc : Thread Cert.Kernel4Ideal.nD Cert.Kernel4Ideal.τ).loc Cert.Kernel4Ideal.main_v71_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v149) = v0 c
          ∧ r.2.mem ((c.tc : Thread Cert.Reference4Ideal.nD Cert.Reference4Ideal.τ).loc Cert.Reference4Ideal.main_v151) = v1 c
          ∧ r.2.mem ((c.tc : Thread Cert.Reference4Ideal.nD Cert.Reference4Ideal.τ).loc Cert.Reference4Ideal.main_v153) = v2 c
          ∧ r.2.mem ((c.tc : Thread Cert.Reference4Ideal.nD Cert.Reference4Ideal.τ).loc Cert.Reference4Ideal.main_v89) = v3 c
          ∧ r.2.mem ((c.tc : Thread Cert.Reference4Ideal.nD Cert.Reference4Ideal.τ).loc Cert.Reference4Ideal.main_v102) = v4 c
          ∧ r.2.mem ((c.tc : Thread Cert.Reference4Ideal.nD Cert.Reference4Ideal.τ).loc Cert.Reference4Ideal.main_v155) = v5 c
          ∧ r.2.mem ((c.tc : Thread Cert.Reference4Ideal.nD Cert.Reference4Ideal.τ).loc Cert.Reference4Ideal.main_v156) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v94_0)) (v1 : (c : Dev Cert.Kernel5Ideal.nD) → Buf (Elt Ideal) ((c.tc : Thread Cert.Kernel5Ideal.nD Cert.Kernel5Ideal.τ).loc Cert.Kernel5Ideal.main_v94_1)) (v2 : (c : Dev Cert.Kernel5Ideal.nD) → Buf (Elt Ideal) ((c.tc : Thread Cert.Kernel5Ideal.nD Cert.Kernel5Ideal.τ).loc Cert.Kernel5Ideal.main_v94_2)) (v3 : (c : Dev Cert.Kernel5Ideal.nD) → Buf (Elt Ideal) ((c.tc : Thread Cert.Kernel5Ideal.nD Cert.Kernel5Ideal.τ).loc Cert.Kernel5Ideal.main_v94_3)) (v4 : (c : Dev Cert.Kernel5Ideal.nD) → Buf (Elt Ideal) ((c.tc : Thread Cert.Kernel5Ideal.nD Cert.Kernel5Ideal.τ).loc Cert.Kernel5Ideal.main_v94_4)) (v5 : (c : Dev Cert.Kernel5Ideal.nD) → Buf (Elt Ideal) ((c.tc : Thread Cert.Kernel5Ideal.nD Cert.Kernel5Ideal.τ).loc Cert.Kernel5Ideal.main_v94_5)) (v6 : (c : Dev Cert.Kernel5Ideal.nD) → Buf (Elt Ideal) ((c.tc : Thread Cert.Kernel5Ideal.nD Cert.Kernel5Ideal.τ).loc Cert.Kernel5Ideal.main_v94_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v94_0) = v0 c
          ∧ r.2.mem ((c.tc : Thread Cert.Kernel5Ideal.nD Cert.Kernel5Ideal.τ).loc Cert.Kernel5Ideal.main_v94_1) = v1 c
          ∧ r.2.mem ((c.tc : Thread Cert.Kernel5Ideal.nD Cert.Kernel5Ideal.τ).loc Cert.Kernel5Ideal.main_v94_2) = v2 c
          ∧ r.2.mem ((c.tc : Thread Cert.Kernel5Ideal.nD Cert.Kernel5Ideal.τ).loc Cert.Kernel5Ideal.main_v94_3) = v3 c
          ∧ r.2.mem ((c.tc : Thread Cert.Kernel5Ideal.nD Cert.Kernel5Ideal.τ).loc Cert.Kernel5Ideal.main_v94_4) = v4 c
          ∧ r.2.mem ((c.tc : Thread Cert.Kernel5Ideal.nD Cert.Kernel5Ideal.τ).loc Cert.Kernel5Ideal.main_v94_5) = v5 c
          ∧ r.2.mem ((c.tc : Thread Cert.Kernel5Ideal.nD Cert.Kernel5Ideal.τ).loc Cert.Kernel5Ideal.main_v94_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v141) = v0 c
          ∧ r.2.mem ((c.tc : Thread Cert.Reference5Ideal.nD Cert.Reference5Ideal.τ).loc Cert.Reference5Ideal.main_v89) = v1 c
          ∧ r.2.mem ((c.tc : Thread Cert.Reference5Ideal.nD Cert.Reference5Ideal.τ).loc Cert.Reference5Ideal.main_v100) = v2 c
          ∧ r.2.mem ((c.tc : Thread Cert.Reference5Ideal.nD Cert.Reference5Ideal.τ).loc Cert.Reference5Ideal.main_v98) = v3 c
          ∧ r.2.mem ((c.tc : Thread Cert.Reference5Ideal.nD Cert.Reference5Ideal.τ).loc Cert.Reference5Ideal.main_v124) = v4 c
          ∧ r.2.mem ((c.tc : Thread Cert.Reference5Ideal.nD Cert.Reference5Ideal.τ).loc Cert.Reference5Ideal.main_v143) = v5 c
          ∧ r.2.mem ((c.tc : Thread Cert.Reference5Ideal.nD Cert.Reference5Ideal.τ).loc Cert.Reference5Ideal.main_v144) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_triangle : Cert.Pre_triangle.Facts) (hPre_real_scores : Cert.Pre_real_scores.Facts),
    quiescent_Kernel (hKernel := hKernel) (hPre_triangle := hPre_triangle)
    ∧ quiescent_KernelIdeal (hKernelIdeal := hKernelIdeal) (hPre_triangle := hPre_triangle)
    ∧ quiescent_KernelIdeal_pre_real_scores (hKernelIdeal := hKernelIdeal) (hPre_real_scores := hPre_real_scores)
    ∧ quiescent_ReferenceIdeal (hReferenceIdeal := hReferenceIdeal)
    ∧ quiescent_ReferenceIdeal_pre_real_scores (hReferenceIdeal := hReferenceIdeal) (hPre_real_scores := hPre_real_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_real_scores (hKernelIdeal := hKernelIdeal) (hReferenceIdeal := hReferenceIdeal) (hPre_real_scores := hPre_real_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_real_scores.lean ====
abbrev S136 : Shape := ⟨1, ![136]⟩
abbrev S4x8192x1024 : Shape := ⟨3, ![4, 8192, 1024]⟩
abbrev S4x8192x512 : Shape := ⟨3, ![4, 8192, 512]⟩
abbrev S_ : Shape := ⟨0, ![]⟩

class Facts : Prop where
  bitsLt_bf16_f32 : FTy.bits .bf16 < FTy.bits .f32
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S136 : S_.BroadcastsInDim S136 (![] : Fin 0 → Fin S136.rank)
  reducesTo_S136_S_d0 : S136.ReducesTo [0] S_

variable [Facts]

def fn_part1 {F : FTy → Type} [FloatOps F] (main_arg0 : IVec S136 32) (main_arg1 : IVec S136 32) (main_v4 : IVec S_ 1) (main_v9 : IVec S_ 1) (main_v10 : IVec S136 32) (main_v17 : IVec S136 1) : IVec S_ 1 :=
  let main_c_4 : IVec S_ 32 := constantI S_ 32 2#32
  let main_v18 : IVec S136 32 := broadcastInDim S136 ![] bcast_S_S136 main_c_4
  let main_v19 : IVec S136 32 := muli main_v18 main_v10
  let main_c_5 : IVec S_ 32 := constantI S_ 32 1#32
  let main_v20 : IVec S136 32 := broadcastInDim S136 ![] bcast_S_S136 main_c_5
  let main_v21 : IVec S136 32 := addi main_arg0 main_v20
  let main_v22 : IVec S136 32 := muli main_arg0 main_v21
  let main_c_6 : IVec S_ 32 := constantI S_ 32 2#32
  let main_v23 : IVec S136 32 := broadcastInDim S136 ![] bcast_S_S136 main_c_6
  let main_v24 : IVec S136 32 := muli main_v23 main_arg1
  let main_v25 : IVec S136 32 := addi main_v22 main_v24
  let main_v26 : IVec S136 1 := cmpi .eq main_v19 main_v25
  let main_v27 : IVec S136 1 := andi main_v17 main_v26
  let main_c_7 : IVec S_ 1 := constantI S_ 1 1#1
  let main_v28 : IVec S_ 1 := (fun x v => Host.reduce IntOp.andi x v reducesTo_S136_S_d0 h_S_) main_v27 main_c_7
  let main_v29 : IVec S_ 1 := andi main_v28 main_v4
  let main_v30 : IVec S_ 1 := andi main_v29 main_v9
  main_v30

def fn {F : FTy → Type} [FloatOps F] (main_arg0 : IVec S136 32) (main_arg1 : IVec S136 32) (main_arg2 : FVec F S4x8192x1024 .bf16) (main_arg3 : FVec F S4x8192x1024 .bf16) (main_arg4 : FVec F S4x8192x512 .bf16) (main_arg5 : FVec F S4x8192x512 .bf16) : IVec S_ 1 :=
  let main_v0 : FVec F S4x8192x1024 .f32 := (extf .f32 · bitsLt_bf16_f32) main_arg2
  let main_v1 : FVec F S4x8192x1024 .f32 := Host.absf main_v0
  let main_cst : FVec F S_ .f32 := constant S_ .f32 0x7F800000#32
  let main_v2 : FVec F S4x8192x1024 .f32 := broadcastInDim S4x8192x1024 ![] bcast_S_S4x8192x1024 main_cst
  let main_v3 : IVec S4x8192x1024 1 := cmpf .olt main_v1 main_v2
  let main_c : IVec S_ 1 := constantI S_ 1 1#1
  let main_v4 : IVec S_ 1 := (fun x v => Host.reduce IntOp.andi x v reducesTo_S4x8192x1024_S_d0_1_2 h_S_) main_v3 main_c
  let main_v5 : FVec F S4x8192x1024 .f32 := (extf .f32 · bitsLt_bf16_f32) main_arg3
  let main_v6 : FVec F S4x8192x1024 .f32 := Host.absf main_v5
  let main_cst_0 : FVec F S_ .f32 := constant S_ .f32 0x7F800000#32
  let main_v7 : FVec F S4x8192x1024 .f32 := broadcastInDim S4x8192x1024 ![] bcast_S_S4x8192x1024 main_cst_0
  let main_v8 : IVec S4x8192x1024 1 := cmpf .olt main_v6 main_v7
  let main_c_1 : IVec S_ 1 := constantI S_ 1 1#1
  let main_v9 : IVec S_ 1 := (fun x v => Host.reduce IntOp.andi x v reducesTo_S4x8192x1024_S_d0_1_2 h_S_) main_v8 main_c_1
  let main_v10 : IVec S136 32 := iotaInDim S136 32 0
  let main_c_2 : IVec S_ 32 := constantI S_ 32 0#32
  let main_v11 : IVec S136 32 := broadcastInDim S136 ![] bcast_S_S136 main_c_2
  let main_v12 : IVec S136 1 := cmpi .sge main_arg1 main_v11
  let main_v13 : IVec S136 1 := cmpi .sle main_arg1 main_arg0
  let main_v14 : IVec S136 1 := andi main_v12 main_v13
  let main_c_3 : IVec S_ 32 := constantI S_ 32 16#32
  let main_v15 : IVec S136 32 := broadcastInDim S136 ![] bcast_S_S136 main_c_3
  let main_v16 : IVec S136 1 := cmpi .slt main_arg0 main_v15
  let main_v17 : IVec S136 1 := andi main_v14 main_v16
  fn_part1 (F := F) main_arg0 main_arg1 main_v4 main_v9 main_v10 main_v17
-- ==== Pre_triangle.lean ====
abbrev S136 : Shape := ⟨1, ![136]⟩
abbrev S4x8192x1024 : Shape := ⟨3, ![4, 8192, 1024]⟩
abbrev S4x8192x512 : Shape := ⟨3, ![4, 8192, 512]⟩
abbrev S_ : Shape := ⟨0, ![]⟩

class Facts : Prop where
  bcast_S_S136 : S_.BroadcastsInDim S136 (![] : Fin 0 → Fin S136.rank)
  reducesTo_S136_S_d0 : S136.ReducesTo [0] S_
  h_S_ : 0 < S_.numel

variable [Facts]

def fn_part1 {F : FTy → Type} [FloatOps F] (main_v17 : IVec S136 1) (main_c_4 : IVec S_ 1) : IVec S_ 1 :=
  let main_v18 : IVec S_ 1 := (fun x v => Host.reduce IntOp.andi x v reducesTo_S136_S_d0 h_S_) main_v17 main_c_4
  main_v18

def fn {F : FTy → Type} [FloatOps F] (main_arg0 : IVec S136 32) (main_arg1 : IVec S136 32) (main_arg2 : FVec F S4x8192x1024 .bf16) (main_arg3 : FVec F S4x8192x1024 .bf16) (main_arg4 : FVec F S4x8192x512 .bf16) (main_arg5 : FVec F S4x8192x512 .bf16) : IVec S_ 1 :=
  let main_v0 : IVec S136 32 := iotaInDim S136 32 0
  let main_c : IVec S_ 32 := constantI S_ 32 0#32
  let main_v1 : IVec S136 32 := broadcastInDim S136 ![] bcast_S_S136 main_c
  let main_v2 : IVec S136 1 := cmpi .sge main_arg1 main_v1
  let main_v3 : IVec S136 1 := cmpi .sle main_arg1 main_arg0
  let main_v4 : IVec S136 1 := andi main_v2 main_v3
  let main_c_0 : IVec S_ 32 := constantI S_ 32 16#32
  let main_v5 : IVec S136 32 := broadcastInDim S136 ![] bcast_S_S136 main_c_0
  let main_v6 : IVec S136 1 := cmpi .slt main_arg0 main_v5
  let main_v7 : IVec S136 1 := andi main_v4 main_v6
  let main_c_1 : IVec S_ 32 := constantI S_ 32 2#32
  let main_v8 : IVec S136 32 := broadcastInDim S136 ![] bcast_S_S136 main_c_1
  let main_v9 : IVec S136 32 := muli main_v8 main_v0
  let main_c_2 : IVec S_ 32 := constantI S_ 32 1#32
  let main_v10 : IVec S136 32 := broadcastInDim S136 ![] bcast_S_S136 main_c_2
  let main_v11 : IVec S136 32 := addi main_arg0 main_v10
  let main_v12 : IVec S136 32 := muli main_arg0 main_v11
  let main_c_3 : IVec S_ 32 := constantI S_ 32 2#32
  let main_v13 : IVec S136 32 := broadcastInDim S136 ![] bcast_S_S136 main_c_3
  let main_v14 : IVec S136 32 := muli main_v13 main_arg1
  let main_v15 : IVec S136 32 := addi main_v12 main_v14
  let main_v16 : IVec S136 1 := cmpi .eq main_v9 main_v15
  let main_v17 : IVec S136 1 := andi main_v7 main_v16
  let main_c_4 : IVec S_ 1 := constantI S_ 1 1#1
  fn_part1 (F := F) main_v17 main_c_4
-- ==== Kernel.lean ====
abbrev S136 : Shape := ⟨1, ![136]⟩
abbrev S4x8192x1024 : Shape := ⟨3, ![4, 8192, 1024]⟩
abbrev S4x8192x512 : Shape := ⟨3, ![4, 8192, 512]⟩
abbrev S1x512x1024 : Shape := ⟨3, ![1, 512, 1024]⟩
abbrev S1 : Shape := ⟨1, ![1]⟩
abbrev S1x512x512 : Shape := ⟨3, ![1, 512, 512]⟩
abbrev S8x512x128 : Shape := ⟨3, ![8, 512, 128]⟩
abbrev S1x512x128 : Shape := ⟨3, ![1, 512, 128]⟩
abbrev S512x128 : Shape := ⟨2, ![512, 128]⟩
abbrev S512x512 : Shape := ⟨2, ![512, 512]⟩
abbrev S512 : Shape := ⟨1, ![512]⟩
abbrev S512x1 : Shape := ⟨2, ![512, 1]⟩

abbrev nBuf : Space → Nat
  | .hbm => 5
  | .vmem => 13
  | .smem => 2
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S4x8192x512, .bf16⟩
  | .hbm, ⟨3, _⟩ => ⟨S4x8192x512, .bf16⟩
  | .hbm, ⟨4, _⟩ => ⟨S4x8192x512, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S8x512x128, .f32⟩
  | .local _ .vmem, ⟨11, _⟩ => ⟨S8x512x128, .f32⟩
  | .local _ .vmem, ⟨12, _⟩ => ⟨S8x512x128, .f32⟩
  | .local _ .smem, ⟨0, _⟩ => ⟨S136, .i32⟩
  | .local _ .smem, ⟨1, _⟩ => ⟨S136, .i32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 136], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, v1.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  ![arg0.toNat, v1.toNat, c0_i32.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, v1.toNat, c0_i32.toNat]

def cc0_transform_4 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "masked" => some ⊥
  | _ => none
-- ==== ReferenceIdeal.lean ====
abbrev S136 : Shape := ⟨1, ![136]⟩
abbrev S4x8192x1024 : Shape := ⟨3, ![4, 8192, 1024]⟩
abbrev S4x8192x512 : Shape := ⟨3, ![4, 8192, 512]⟩
abbrev S4x8192x8x128 : Shape := ⟨4, ![4, 8192, 8, 128]⟩
abbrev S4x8192x8x64 : Shape := ⟨4, ![4, 8192, 8, 64]⟩
abbrev S4x8x8192x8192 : Shape := ⟨4, ![4, 8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S4x8x8192 : Shape := ⟨3, ![4, 8, 8192]⟩
abbrev S4x8x8192x1 : Shape := ⟨4, ![4, 8, 8192, 1]⟩
abbrev S4x8x64x8192 : Shape := ⟨4, ![4, 8, 64, 8192]⟩

abbrev nBuf : Space → Nat
  | .hbm => 41
  | .vmem => 0
  | .smem => 0
  | _ => 0

abbrev bufTy : (tb : Table) → Fin (tcTables nBuf tb) → BufTy
  | .hbm, ⟨0, _⟩ => ⟨S136, .i32⟩
  | .hbm, ⟨1, _⟩ => ⟨S136, .i32⟩
  | .hbm, ⟨2, _⟩ => ⟨S4x8192x1024, .bf16⟩
  | .hbm, ⟨3, _⟩ => ⟨S4x8192x1024, .bf16⟩
  | .hbm, ⟨4, _⟩ => ⟨S4x8192x512, .bf16⟩
  | .hbm, ⟨5, _⟩ => ⟨S4x8192x512, .bf16⟩
  | .hbm, ⟨6, _⟩ => ⟨S4x8192x8x128, .bf16⟩
  | .hbm, ⟨7, _⟩ => ⟨S4x8192x8x128, .bf16⟩
  | .hbm, ⟨8, _⟩ => ⟨S4x8192x8x64, .bf16⟩
  | .hbm, ⟨9, _⟩ => ⟨S4x8x8192x8192, .f32⟩
  | .hbm, ⟨10, _⟩ => ⟨S8192, .i32⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S_, .f32⟩
  | .hbm, ⟨17, _⟩ => ⟨S_, .f32⟩
  | .hbm, ⟨18, _⟩ => ⟨S4x8x8192x8192, .i1⟩
  | .hbm, ⟨19, _⟩ => ⟨S4x8x8192x8192, .f32⟩
  | .hbm, ⟨20, _⟩ => ⟨S4x8x8192x8192, .f32⟩
  | .hbm, ⟨21, _⟩ => ⟨S_, .f32⟩
  | .hbm, ⟨22, _⟩ => ⟨S4x8x8192, .f32⟩
  | .hbm, ⟨23, _⟩ => ⟨S_, .f32⟩
  | .hbm, ⟨24, _⟩ => ⟨S4x8x8192, .f32⟩
  | .hbm, ⟨25, _⟩ => ⟨S4x8x8192, .f32⟩
  | .hbm, ⟨26, _⟩ => ⟨S4x8x8192x1, .f32⟩
  | .hbm, ⟨27, _⟩ => ⟨S4x8x8192x8192, .f32⟩
  | .hbm, ⟨28, _⟩ => ⟨S4x8x8192x8192, .f32⟩
  | .hbm, ⟨29, _⟩ => ⟨S4x8x8192x8192, .f32⟩
  | .hbm, ⟨30, _⟩ => ⟨S_, .f32⟩
  | .hbm, ⟨31, _⟩ => ⟨S4x8x8192, .f32⟩
  | .hbm, ⟨32, _⟩ => ⟨S4x8x8192x1, .f32⟩
  | .hbm, ⟨33, _⟩ => ⟨S4x8x8192x8192, .f32⟩
  | .hbm, ⟨34, _⟩ => ⟨S4x8x8192x8192, .f32⟩
  | .hbm, ⟨35, _⟩ => ⟨S4x8x8192x8192, .bf16⟩
  | .hbm, ⟨36, _⟩ => ⟨S4x8x64x8192, .f32⟩
  | .hbm, ⟨37, _⟩ => ⟨S4x8192x8x64, .f32⟩
  | .hbm, ⟨38, _⟩ => ⟨S4x8192x8x64, .bf16⟩
  | .hbm, ⟨39, _⟩ => ⟨S4x8192x512, .bf16⟩
  | .hbm, ⟨40, _⟩ => ⟨S4x8192x512, .bf16⟩
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel2.lean ====
abbrev S4x8192x512 : Shape := ⟨3, ![4, 8192, 512]⟩
abbrev S4x8192x1024 : Shape := ⟨3, ![4, 8192, 1024]⟩
abbrev S1024x1024 : Shape := ⟨2, ![1024, 1024]⟩
abbrev S1x1024 : Shape := ⟨2, ![1, 1024]⟩
abbrev S1024x4096 : Shape := ⟨2, ![1024, 4096]⟩
abbrev S3x512 : Shape := ⟨2, ![3, 512]⟩
abbrev S4x32x1x512 : Shape := ⟨4, ![4, 32, 1, 512]⟩
abbrev S4x2x512 : Shape := ⟨3, ![4, 2, 512]⟩
abbrev S1x512x512 : Shape := ⟨3, ![1, 512, 512]⟩
abbrev S1x512x1024 : Shape := ⟨3, ![1, 512, 1024]⟩
abbrev S1x2x1x512 : Shape := ⟨4, ![1, 2, 1, 512]⟩
abbrev S1x2x512 : Shape := ⟨3, ![1, 2, 512]⟩
abbrev S520x512 : Shape := ⟨2, ![520, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x4096 : Shape := ⟨2, ![512, 4096]⟩
abbrev S8x512 : Shape := ⟨2, ![8, 512]⟩
abbrev S1x512 : Shape := ⟨2, ![1, 512]⟩
abbrev S2x512 : Shape := ⟨2, ![2, 512]⟩
abbrev S256x512 : Shape := ⟨2, ![256, 512]⟩
abbrev S1x1x1x512 : Shape := ⟨4, ![1, 1, 1, 512]⟩

abbrev nBuf : Space → Nat
  | .hbm => 17
  | .vmem => 31
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x1024, .f32⟩
  | .hbm, ⟨3, _⟩ => ⟨S1024x1024, .bf16⟩
  | .hbm, ⟨4, _⟩ => ⟨S1x1024, .f32⟩
  | .hbm, ⟨5, _⟩ => ⟨S1024x4096, .bf16⟩
  | .hbm, ⟨6, _⟩ => ⟨S3x512, .f32⟩
  | .hbm, ⟨7, _⟩ => ⟨S4x8192x1024, .f32⟩
  | .hbm, ⟨8, _⟩ => ⟨S4x8192x512, .bf16⟩
  | .hbm, ⟨9, _⟩ => ⟨S4x8192x512, .bf16⟩
  | .hbm, ⟨10, _⟩ => ⟨S4x8192x512, .bf16⟩
  | .hbm, ⟨11, _⟩ => ⟨S4x8192x512, .bf16⟩
  | .hbm, ⟨12, _⟩ => ⟨S4x8192x512, .bf16⟩
  | .hbm, ⟨13, _⟩ => ⟨S4x8192x512, .f32⟩
  | .hbm, ⟨14, _⟩ => ⟨S4x8192x512, .f32⟩
  | .hbm, ⟨15, _⟩ => ⟨S4x32x1x512, .f32⟩
  | .hbm, ⟨16, _⟩ => ⟨S4x2x512, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x1024, .f32⟩
  | .local _ .vmem, ⟨5, _⟩ => ⟨S1x512x1024, .f32⟩
  | .local _ .vmem, ⟨6, _⟩ => ⟨S1024x1024, .bf16⟩
  | .local _ .vmem, ⟨7, _⟩ => ⟨S1x1024, .f32⟩
  | .local _ .vmem, ⟨8, _⟩ => ⟨S1024x4096, .bf16⟩
  | .local _ .vmem, ⟨9, _⟩ => ⟨S3x512, .f32⟩
  | .local _ .vmem, ⟨10, _⟩ => ⟨S1x512x1024, .f32⟩
  | .local _ .vmem, ⟨11, _⟩ => ⟨S1x512x1024, .f32⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .f32⟩
  | .local _ .vmem, ⟨23, _⟩ => ⟨S1x512x512, .f32⟩
  | .local _ .vmem, ⟨24, _⟩ => ⟨S1x512x512, .f32⟩
  | .local _ .vmem, ⟨25, _⟩ => ⟨S1x512x512, .f32⟩
  | .local _ .vmem, ⟨26, _⟩ => ⟨S1x2x1x512, .f32⟩
  | .local _ .vmem, ⟨27, _⟩ => ⟨S1x2x1x512, .f32⟩
  | .local _ .vmem, ⟨28, _⟩ => ⟨S1x2x512, .f32⟩
  | .local _ .vmem, ⟨29, _⟩ => ⟨S1x2x512, .f32⟩
  | .local _ .vmem, ⟨30, _⟩ => ⟨S520x512, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev main_v0_7 : Ref sig .tc := ⟨.hbm, 14, rfl⟩
abbrev main_v0_8 : Ref sig .tc := ⟨.hbm, 15, rfl⟩
abbrev main_v0_9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x2x1x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x2x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== Reference2Ideal.lean ====
abbrev S4x8192x512 : Shape := ⟨3, ![4, 8192, 512]⟩
abbrev S4x8192x1024 : Shape := ⟨3, ![4, 8192, 1024]⟩
abbrev S1024x1024 : Shape := ⟨2, ![1024, 1024]⟩
abbrev S1x1024 : Shape := ⟨2, ![1, 1024]⟩
abbrev S1024x4096 : Shape := ⟨2, ![1024, 4096]⟩
abbrev S3x512 : Shape := ⟨2, ![3, 512]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4096 : Shape := ⟨3, ![4, 8192, 4096]⟩
abbrev S4x8194x512 : Shape := ⟨3, ![4, 8194, 512]⟩
abbrev S1x512 : Shape := ⟨2, ![1, 512]⟩
abbrev S512 : Shape := ⟨1, ![512]⟩
abbrev S1x1x512 : Shape := ⟨3, ![1, 1, 512]⟩
abbrev S4x32x256x512 : Shape := ⟨4, ![4, 32, 256, 512]⟩
abbrev S4x32x512 : Shape := ⟨3, ![4, 32, 512]⟩
abbrev S4x32x1x512 : Shape := ⟨4, ![4, 32, 1, 512]⟩
abbrev S4x2x512 : Shape := ⟨3, ![4, 2, 512]⟩

abbrev nBuf : Space → Nat
  | .hbm => 97
  | .vmem => 0
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x1024, .f32⟩
  | .hbm, ⟨3, _⟩ => ⟨S1024x1024, .bf16⟩
  | .hbm, ⟨4, _⟩ => ⟨S1x1024, .f32⟩
  | .hbm, ⟨5, _⟩ => ⟨S1024x4096, .bf16⟩
  | .hbm, ⟨6, _⟩ => ⟨S3x512, .f32⟩
  | .hbm, ⟨7, _⟩ => ⟨S4x8192x1024, .bf16⟩
  | .hbm, ⟨8, _⟩ => ⟨S4x8192x1024, .f32⟩
  | .hbm, ⟨9, _⟩ => ⟨S4x8192x1024, .f32⟩
  | .hbm, ⟨10, _⟩ => ⟨S1024, .f32⟩
  | .hbm, ⟨11, _⟩ => ⟨S4x8192x1024, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S4x8192x1, .f32⟩
  | .hbm, ⟨22, _⟩ => ⟨S4x8192x1024, .f32⟩
  | .hbm, ⟨23, _⟩ => ⟨S4x8192x1024, .f32⟩
  | .hbm, ⟨24, _⟩ => ⟨S1x1x1024, .f32⟩
  | .hbm, ⟨25, _⟩ => ⟨S4x8192x1024, .f32⟩
  | .hbm, ⟨26, _⟩ => ⟨S4x8192x1024, .f32⟩
  | .hbm, ⟨27, _⟩ => ⟨S1024x4096, .f32⟩
  | .hbm, ⟨28, _⟩ => ⟨S4x8192x4096, .f32⟩
  | .hbm, ⟨29, _⟩ => ⟨S4x8192x512, .f32⟩
  | .hbm, ⟨30, _⟩ => ⟨S4x8192x512, .f32⟩
  | .hbm, ⟨31, _⟩ => ⟨S4x8192x512, .f32⟩
  | .hbm, ⟨32, _⟩ => ⟨S4x8192x512, .f32⟩
  | .hbm, ⟨33, _⟩ => ⟨S4x8192x512, .f32⟩
  | .hbm, ⟨34, _⟩ => ⟨S4x8192x512, .f32⟩
  | .hbm, ⟨35, _⟩ => ⟨S4x8192x512, .f32⟩
  | .hbm, ⟨36, _⟩ => ⟨S4x8192x512, .f32⟩
  | .hbm, ⟨37, _⟩ => ⟨S4x8192x512, .f32⟩
  | .hbm, ⟨38, _⟩ => ⟨S_, .i32⟩
  | .hbm, ⟨39, _⟩ => ⟨S_, .f32⟩
  | .hbm, ⟨40, _⟩ => ⟨S4x8194x512, .f32⟩
  | .hbm, ⟨41, _⟩ => ⟨S1x512, .f32⟩
  | .hbm, ⟨42, _⟩ => ⟨S512, .f32⟩
  | .hbm, ⟨43, _⟩ => ⟨S4x8192x512, .f32⟩
  | .hbm, ⟨44, _⟩ => ⟨S1x1x512, .f32⟩
  | .hbm, ⟨45, _⟩ => ⟨S4x8192x512, .f32⟩
  | .hbm, ⟨46, _⟩ => ⟨S4x8192x512, .f32⟩
  | .hbm, ⟨47, _⟩ => ⟨S1x512, .f32⟩
  | .hbm, ⟨48, _⟩ => ⟨S512, .f32⟩
  | .hbm, ⟨49, _⟩ => ⟨S4x8192x512, .f32⟩
  | .hbm, ⟨50, _⟩ => ⟨S1x1x512, .f32⟩
  | .hbm, ⟨51, _⟩ => ⟨S4x8192x512, .f32⟩
  | .hbm, ⟨52, _⟩ => ⟨S4x8192x512, .f32⟩
  | .hbm, ⟨53, _⟩ => ⟨S4x8192x512, .f32⟩
  | .hbm, ⟨54, _⟩ => ⟨S1x512, .f32⟩
  | .hbm, ⟨55, _⟩ => ⟨S512, .f32⟩
  | .hbm, ⟨56, _⟩ => ⟨S4x8192x512, .f32⟩
  | .hbm, ⟨57, _⟩ => ⟨S1x1x512, .f32⟩
  | .hbm, ⟨58, _⟩ => ⟨S4x8192x512, .f32⟩
  | .hbm, ⟨59, _⟩ => ⟨S4x8192x512, .f32⟩
  | .hbm, ⟨60, _⟩ => ⟨S4x8192x512, .f32⟩
  | .hbm, ⟨61, _⟩ => ⟨S4x8192x512, .f32⟩
  | .hbm, ⟨62, _⟩ => ⟨S4x8192x512, .f32⟩
  | .hbm, ⟨63, _⟩ => ⟨S4x8192x512, .f32⟩
  | .hbm, ⟨64, _⟩ => ⟨S_, .f32⟩
  | .hbm, ⟨65, _⟩ => ⟨S4x8192x512, .f32⟩
  | .hbm, ⟨66, _⟩ => ⟨S4x8192x512, .f32⟩
  | .hbm, ⟨67, _⟩ => ⟨S_, .f32⟩
  | .hbm, ⟨68, _⟩ => ⟨S4x8192x512, .f32⟩
  | .hbm, ⟨69, _⟩ => ⟨S4x8192x512, .f32⟩
  | .hbm, ⟨70, _⟩ => ⟨S4x8192x512, .f32⟩
  | .hbm, ⟨71, _⟩ => ⟨S4x8192x512, .f32⟩
  | .hbm, ⟨72, _⟩ => ⟨S4x8192x512, .bf16⟩
  | .hbm, ⟨73, _⟩ => ⟨S4x32x256x512, .f32⟩
  | .hbm, ⟨74, _⟩ => ⟨S_, .f32⟩
  | .hbm, ⟨75, _⟩ => ⟨S4x32x512, .f32⟩
  | .hbm, ⟨76, _⟩ => ⟨S4x32x1x512, .f32⟩
  | .hbm, ⟨77, _⟩ => ⟨S_, .f32⟩
  | .hbm, ⟨78, _⟩ => ⟨S4x32x1x512, .f32⟩
  | .hbm, ⟨79, _⟩ => ⟨S4x32x1x512, .f32⟩
  | .hbm, ⟨80, _⟩ => ⟨S_, .f32⟩
  | .hbm, ⟨81, _⟩ => ⟨S4x8192x512, .f32⟩
  | .hbm, ⟨82, _⟩ => ⟨S4x8192x512, .f32⟩
  | .hbm, ⟨83, _⟩ => ⟨S4x8192x512, .bf16⟩
  | .hbm, ⟨84, _⟩ => ⟨S4x8192x512, .bf16⟩
  | .hbm, ⟨85, _⟩ => ⟨S4x8192x512, .bf16⟩
  | .hbm, ⟨86, _⟩ => ⟨S4x8192x512, .f32⟩
  | .hbm, ⟨87, _⟩ => ⟨S4x8192x512, .f32⟩
  | .hbm, ⟨88, _⟩ => ⟨S_, .f32⟩
  | .hbm, ⟨89, _⟩ => ⟨S4x8192x512, .f32⟩
  | .hbm, ⟨90, _⟩ => ⟨S4x8192x512, .f32⟩
  | .hbm, ⟨91, _⟩ => ⟨S_, .f32⟩
  | .hbm, ⟨92, _⟩ => ⟨S4x8192x512, .f32⟩
  | .hbm, ⟨93, _⟩ => ⟨S4x8192x512, .f32⟩
  | .hbm, ⟨94, _⟩ => ⟨S4x8192x512, .f32⟩
  | .hbm, ⟨95, _⟩ => ⟨S4x8192x512, .bf16⟩
  | .hbm, ⟨96, _⟩ => ⟨S4x2x512, .f32⟩
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c : Ref sig .tc := ⟨.hbm, 38, rfl⟩
abbrev main_call0_v0 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_call1_v5 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_2 : Ref sig .tc := ⟨.hbm, 74, rfl⟩
abbrev main_v54 : Ref sig .tc := ⟨.hbm, 75, rfl⟩
abbrev main_v55 : Ref sig .tc := ⟨.hbm, 76, rfl⟩
abbrev main_cst_3 : Ref sig .tc := ⟨.hbm, 77, rfl⟩
abbrev main_v56 : Ref sig .tc := ⟨.hbm, 78, rfl⟩
abbrev main_v57 : Ref sig .tc := ⟨.hbm, 79, rfl⟩
abbrev main_cst_4 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_call2_v0 : Ref sig .tc := ⟨.hbm, 86, rfl⟩
abbrev main_call2_v1 : Ref sig .tc := ⟨.hbm, 87, rfl⟩
abbrev main_call2_cst : Ref sig .tc := ⟨.hbm, 88, rfl⟩
abbrev main_call2_v2 : Ref sig .tc := ⟨.hbm, 89, rfl⟩
abbrev main_call2_v3 : Ref sig .tc := ⟨.hbm, 90, rfl⟩
abbrev main_call2_cst_0 : Ref sig .tc := ⟨.hbm, 91, rfl⟩
abbrev main_call2_v4 : Ref sig .tc := ⟨.hbm, 92, rfl⟩
abbrev main_call2_v5 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩

abbrev nD : Nat := 1
abbrev τ : Topo := Topo.v7x

variable {F : FTy → Type} [FloatOps F]
-- ==== Kernel3.lean ====
abbrev S4x8192x512 : Shape := ⟨3, ![4, 8192, 512]⟩
abbrev S4x8192x1024 : Shape := ⟨3, ![4, 8192, 1024]⟩
abbrev S1024x1024 : Shape := ⟨2, ![1024, 1024]⟩
abbrev S1x1024 : Shape := ⟨2, ![1, 1024]⟩
abbrev S1x512x512 : Shape := ⟨3, ![1, 512, 512]⟩
abbrev S1x512x1024 : Shape := ⟨3, ![1, 512, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x1024, .f32⟩
  | .hbm, ⟨3, _⟩ => ⟨S1024x1024, .bf16⟩
  | .hbm, ⟨4, _⟩ => ⟨S1x1024, .f32⟩
  | .hbm, ⟨5, _⟩ => ⟨S4x8192x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x1024, .f32⟩
  | .local _ .vmem, ⟨5, _⟩ => ⟨S1x512x1024, .f32⟩
  | .local _ .vmem, ⟨6, _⟩ => ⟨S1024x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S4x8192x512 : Shape := ⟨3, ![4, 8192, 512]⟩
abbrev S4x8192x1024 : Shape := ⟨3, ![4, 8192, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x1024, .f32⟩
  | .hbm, ⟨3, _⟩ => ⟨S1024x1024, .bf16⟩
  | .hbm, ⟨4, _⟩ => ⟨S1x1024, .f32⟩
  | .hbm, ⟨5, _⟩ => ⟨S4x8192x1024, .bf16⟩
  | .hbm, ⟨6, _⟩ => ⟨S4x8192x1024, .f32⟩
  | .hbm, ⟨7, _⟩ => ⟨S4x8192x1024, .f32⟩
  | .hbm, ⟨8, _⟩ => ⟨S1024, .f32⟩
  | .hbm, ⟨9, _⟩ => ⟨S4x8192x1024, .f32⟩
  | .hbm, ⟨10, _⟩ => ⟨S_, .f32⟩
  | .hbm, ⟨11, _⟩ => ⟨S4x8192, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S4x8192x1, .f32⟩
  | .hbm, ⟨20, _⟩ => ⟨S4x8192x1024, .f32⟩
  | .hbm, ⟨21, _⟩ => ⟨S4x8192x1024, .f32⟩
  | .hbm, ⟨22, _⟩ => ⟨S1x1x1024, .f32⟩
  | .hbm, ⟨23, _⟩ => ⟨S4x8192x1024, .f32⟩
  | .hbm, ⟨24, _⟩ => ⟨S4x8192x1024, .f32⟩
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel4.lean ====
abbrev S4x8192x1024 : Shape := ⟨3, ![4, 8192, 1024]⟩
abbrev S1024 : Shape := ⟨1, ![1024]⟩
abbrev S1024x2464 : Shape := ⟨2, ![1024, 2464]⟩
abbrev S256 : Shape := ⟨1, ![256]⟩
abbrev S128 : Shape := ⟨1, ![128]⟩
abbrev S256x8x96 : Shape := ⟨3, ![256, 8, 96]⟩
abbrev S128x8x128 : Shape := ⟨3, ![128, 8, 128]⟩
abbrev S512 : Shape := ⟨1, ![512]⟩
abbrev S8x128x128 : Shape := ⟨3, ![8, 128, 128]⟩
abbrev S8x128 : Shape := ⟨2, ![8, 128]⟩
abbrev S1024x256 : Shape := ⟨2, ![1024, 256]⟩
abbrev S1024x128 : Shape := ⟨2, ![1024, 128]⟩
abbrev S1024x32 : Shape := ⟨2, ![1024, 32]⟩
abbrev S_ : Shape := ⟨0, ![]⟩
abbrev S1024x64 : Shape := ⟨2, ![1024, 64]⟩
abbrev S1024x16 : Shape := ⟨2, ![1024, 16]⟩
abbrev S1024x512 : Shape := ⟨2, ![1024, 512]⟩
abbrev S1024x2048 : Shape := ⟨2, ![1024, 2048]⟩
abbrev S256x8x64 : Shape := ⟨3, ![256, 8, 64]⟩
abbrev S256x8x32 : Shape := ⟨3, ![256, 8, 32]⟩
abbrev S256x8x16 : Shape := ⟨3, ![256, 8, 16]⟩
abbrev S256x8x128 : Shape := ⟨3, ![256, 8, 128]⟩
abbrev S256x1024 : Shape := ⟨2, ![256, 1024]⟩
abbrev S128x8x64 : Shape := ⟨3, ![128, 8, 64]⟩
abbrev S128x1024 : Shape := ⟨2, ![128, 1024]⟩
abbrev S128x512 : Shape := ⟨2, ![128, 512]⟩
abbrev S128x8 : Shape := ⟨2, ![128, 8]⟩
abbrev S8192 : Shape := ⟨1, ![8192]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S8192x64 : Shape := ⟨2, ![8192, 64]⟩
abbrev S8192x128 : Shape := ⟨2, ![8192, 128]⟩
abbrev S1x8192x128 : Shape := ⟨3, ![1, 8192, 128]⟩
abbrev S4x8192x128 : Shape := ⟨3, ![4, 8192, 128]⟩
abbrev S1x1024 : Shape := ⟨2, ![1, 1024]⟩
abbrev S1x256 : Shape := ⟨2, ![1, 256]⟩
abbrev S1x128 : Shape := ⟨2, ![1, 128]⟩
abbrev S1x512 : Shape := ⟨2, ![1, 512]⟩
abbrev S4x8192x512 : Shape := ⟨3, ![4, 8192, 512]⟩
abbrev S4x8192x32 : Shape := ⟨3, ![4, 8192, 32]⟩
abbrev S1x512x1024 : Shape := ⟨3, ![1, 512, 1024]⟩
abbrev S4x512x128 : Shape := ⟨3, ![4, 512, 128]⟩
abbrev S1x512x512 : Shape := ⟨3, ![1, 512, 512]⟩
abbrev S1x512x128 : Shape := ⟨3, ![1, 512, 128]⟩
abbrev S1x512x32 : Shape := ⟨3, ![1, 512, 32]⟩
abbrev S512x1024 : Shape := ⟨2, ![512, 1024]⟩
abbrev S512x1 : Shape := ⟨2, ![512, 1]⟩
abbrev S512x512 : Shape := ⟨2, ![512, 512]⟩
abbrev S512x2048 : Shape := ⟨2, ![512, 2048]⟩
abbrev S512x256 : Shape := ⟨2, ![512, 256]⟩
abbrev S512x128 : Shape := ⟨2, ![512, 128]⟩
abbrev S512x32 : Shape := ⟨2, ![512, 32]⟩
abbrev S128x128 : Shape := ⟨2, ![128, 128]⟩
abbrev S1x128x128 : Shape := ⟨3, ![1, 128, 128]⟩

abbrev nBuf : Space → Nat
  | .hbm => 98
  | .vmem => 30
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x2464, .f32⟩
  | .hbm, ⟨3, _⟩ => ⟨S256, .f32⟩
  | .hbm, ⟨4, _⟩ => ⟨S128, .f32⟩
  | .hbm, ⟨5, _⟩ => ⟨S256x8x96, .f32⟩
  | .hbm, ⟨6, _⟩ => ⟨S128x8x128, .f32⟩
  | .hbm, ⟨7, _⟩ => ⟨S512, .f32⟩
  | .hbm, ⟨8, _⟩ => ⟨S512, .f32⟩
  | .hbm, ⟨9, _⟩ => ⟨S8x128x128, .f32⟩
  | .hbm, ⟨10, _⟩ => ⟨S8x128, .f32⟩
  | .hbm, ⟨11, _⟩ => ⟨S1024x256, .f32⟩
  | .hbm, ⟨12, _⟩ => ⟨S1024x128, .f32⟩
  | .hbm, ⟨13, _⟩ => ⟨S1024x32, .f32⟩
  | .hbm, ⟨14, _⟩ => ⟨S_, .f32⟩
  | .hbm, ⟨15, _⟩ => ⟨S1024x64, .f32⟩
  | .hbm, ⟨16, _⟩ => ⟨S1024x16, .f32⟩
  | .hbm, ⟨17, _⟩ => ⟨S1024x16, .f32⟩
  | .hbm, ⟨18, _⟩ => ⟨S1024x16, .f32⟩
  | .hbm, ⟨19, _⟩ => ⟨S1024x32, .f32⟩
  | .hbm, ⟨20, _⟩ => ⟨S1024x128, .f32⟩
  | .hbm, ⟨21, _⟩ => ⟨S1024x512, .f32⟩
  | .hbm, ⟨22, _⟩ => ⟨S1024x512, .bf16⟩
  | .hbm, ⟨23, _⟩ => ⟨S1024x2048, .f32⟩
  | .hbm, ⟨24, _⟩ => ⟨S1024x2048, .bf16⟩
  | .hbm, ⟨25, _⟩ => ⟨S256x8x64, .f32⟩
  | .hbm, ⟨26, _⟩ => ⟨S256x8x32, .f32⟩
  | .hbm, ⟨27, _⟩ => ⟨S256x8x16, .f32⟩
  | .hbm, ⟨28, _⟩ => ⟨S256x8x16, .f32⟩
  | .hbm, ⟨29, _⟩ => ⟨S256x8x16, .f32⟩
  | .hbm, ⟨30, _⟩ => ⟨S256x8x32, .f32⟩
  | .hbm, ⟨31, _⟩ => ⟨S256x8x128, .f32⟩
  | .hbm, ⟨32, _⟩ => ⟨S256x1024, .f32⟩
  | .hbm, ⟨33, _⟩ => ⟨S256x1024, .bf16⟩
  | .hbm, ⟨34, _⟩ => ⟨S128x8x64, .f32⟩
  | .hbm, ⟨35, _⟩ => ⟨S128x8x64, .f32⟩
  | .hbm, ⟨36, _⟩ => ⟨S_, .f32⟩
  | .hbm, ⟨37, _⟩ => ⟨S128x8x64, .f32⟩
  | .hbm, ⟨38, _⟩ => ⟨S128x8x128, .f32⟩
  | .hbm, ⟨39, _⟩ => ⟨S128x1024, .f32⟩
  | .hbm, ⟨40, _⟩ => ⟨S128x1024, .bf16⟩
  | .hbm, ⟨41, _⟩ => ⟨S128x512, .f32⟩
  | .hbm, ⟨42, _⟩ => ⟨S128x512, .bf16⟩
  | .hbm, ⟨43, _⟩ => ⟨S128x8, .f32⟩
  | .hbm, ⟨44, _⟩ => ⟨S128x8x64, .f32⟩
  | .hbm, ⟨45, _⟩ => ⟨S128x512, .f32⟩
  | .hbm, ⟨46, _⟩ => ⟨S8192, .i32⟩
  | .hbm, ⟨47, _⟩ => ⟨S16, .f32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S_, .f32⟩
  | .hbm, ⟨53, _⟩ => ⟨S16, .f32⟩
  | .hbm, ⟨54, _⟩ => ⟨S16, .f32⟩
  | .hbm, ⟨55, _⟩ => ⟨S8192, .f32⟩
  | .hbm, ⟨56, _⟩ => ⟨S8192x1, .f32⟩
  | .hbm, ⟨57, _⟩ => ⟨S1x16, .f32⟩
  | .hbm, ⟨58, _⟩ => ⟨S8192x16, .f32⟩
  | .hbm, ⟨59, _⟩ => ⟨S8192x16, .f32⟩
  | .hbm, ⟨60, _⟩ => ⟨S8192x16, .f32⟩
  | .hbm, ⟨61, _⟩ => ⟨S8192x16, .f32⟩
  | .hbm, ⟨62, _⟩ => ⟨S8192x16, .f32⟩
  | .hbm, ⟨63, _⟩ => ⟨S8192x32, .f32⟩
  | .hbm, ⟨64, _⟩ => ⟨S8192x32, .f32⟩
  | .hbm, ⟨65, _⟩ => ⟨S_, .f32⟩
  | .hbm, ⟨66, _⟩ => ⟨S8192x64, .f32⟩
  | .hbm, ⟨67, _⟩ => ⟨S_, .f32⟩
  | .hbm, ⟨68, _⟩ => ⟨S8192x64, .f32⟩
  | .hbm, ⟨69, _⟩ => ⟨S_, .f32⟩
  | .hbm, ⟨70, _⟩ => ⟨S8192x32, .f32⟩
  | .hbm, ⟨71, _⟩ => ⟨S8192x128, .f32⟩
  | .hbm, ⟨72, _⟩ => ⟨S_, .f32⟩
  | .hbm, ⟨73, _⟩ => ⟨S8192x128, .f32⟩
  | .hbm, ⟨74, _⟩ => ⟨S8192x128, .f32⟩
  | .hbm, ⟨75, _⟩ => ⟨S8192x128, .f32⟩
  | .hbm, ⟨76, _⟩ => ⟨S_, .f32⟩
  | .hbm, ⟨77, _⟩ => ⟨S8192x128, .f32⟩
  | .hbm, ⟨78, _⟩ => ⟨S8192x128, .f32⟩
  | .hbm, ⟨79, _⟩ => ⟨S8192x128, .f32⟩
  | .hbm, ⟨80, _⟩ => ⟨S8192x128, .f32⟩
  | .hbm, ⟨81, _⟩ => ⟨S1x8192x128, .f32⟩
  | .hbm, ⟨82, _⟩ => ⟨S1x8192x128, .f32⟩
  | .hbm, ⟨83, _⟩ => ⟨S1x8192x128, .f32⟩
  | .hbm, ⟨84, _⟩ => ⟨S1x8192x128, .f32⟩
  | .hbm, ⟨85, _⟩ => ⟨S4x8192x128, .f32⟩
  | .hbm, ⟨86, _⟩ => ⟨S1x1024, .f32⟩
  | .hbm, ⟨87, _⟩ => ⟨S1x256, .f32⟩
  | .hbm, ⟨88, _⟩ => ⟨S1x128, .f32⟩
  | .hbm, ⟨89, _⟩ => ⟨S1x512, .f32⟩
  | .hbm, ⟨90, _⟩ => ⟨S1x512, .f32⟩
  | .hbm, ⟨91, _⟩ => ⟨S4x8192x1024, .bf16⟩
  | .hbm, ⟨92, _⟩ => ⟨S4x8192x1024, .bf16⟩
  | .hbm, ⟨93, _⟩ => ⟨S4x8192x512, .bf16⟩
  | .hbm, ⟨94, _⟩ => ⟨S4x8192x128, .f32⟩
  | .hbm, ⟨95, _⟩ => ⟨S4x8192x32, .f32⟩
  | .hbm, ⟨96, _⟩ => ⟨S4x8192x512, .bf16⟩
  | .hbm, ⟨97, _⟩ => ⟨S4x8192x512, .bf16⟩
  | .local _ .vmem, ⟨0, _⟩ => ⟨S1x512x1024, .f32⟩
  | .local _ .vmem, ⟨1, _⟩ => ⟨S1x512x1024, .f32⟩
  | .local _ .vmem, ⟨2, _⟩ => ⟨S4x512x128, .f32⟩
  | .local _ .vmem, ⟨3, _⟩ => ⟨S4x512x128, .f32⟩
  | .local _ .vmem, ⟨4, _⟩ => ⟨S1x1024, .f32⟩
  | .local _ .vmem, ⟨5, _⟩ => ⟨S1024x512, .bf16⟩
  | .local _ .vmem, ⟨6, _⟩ => ⟨S1024x2048, .bf16⟩
  | .local _ .vmem, ⟨7, _⟩ => ⟨S1x256, .f32⟩
  | .local _ .vmem, ⟨8, _⟩ => ⟨S1x128, .f32⟩
  | .local _ .vmem, ⟨9, _⟩ => ⟨S256x1024, .bf16⟩
  | .local _ .vmem, ⟨10, _⟩ => ⟨S128x1024, .bf16⟩
  | .local _ .vmem, ⟨11, _⟩ => ⟨S128x512, .bf16⟩
  | .local _ .vmem, ⟨12, _⟩ => ⟨S1x512, .f32⟩
  | .local _ .vmem, ⟨13, _⟩ => ⟨S1x512, .f32⟩
  | .local _ .vmem, ⟨14, _⟩ => ⟨S8x128x128, .f32⟩
  | .local _ .vmem, ⟨15, _⟩ => ⟨S128x512, .f32⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x128, .f32⟩
  | .local _ .vmem, ⟨23, _⟩ => ⟨S1x512x128, .f32⟩
  | .local _ .vmem, ⟨24, _⟩ => ⟨S1x512x32, .f32⟩
  | .local _ .vmem, ⟨25, _⟩ => ⟨S1x512x32, .f32⟩
  | .local _ .vmem, ⟨26, _⟩ => ⟨S1x512x512, .bf16⟩
  | .local _ .vmem, ⟨27, _⟩ => ⟨S1x512x512, .bf16⟩
  | .local _ .vmem, ⟨28, _⟩ => ⟨S1x512x512, .bf16⟩
  | .local _ .vmem, ⟨29, _⟩ => ⟨S1x512x512, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_1 : Ref sig .tc := ⟨.hbm, 49, rfl⟩
abbrev main_v36 : Ref sig .tc := ⟨.hbm, 50, rfl⟩
abbrev main_v37 : Ref sig .tc := ⟨.hbm, 51, rfl⟩
abbrev main_cst_2 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_3 : Ref sig .tc := ⟨.hbm, 65, rfl⟩
abbrev main_v50 : Ref sig .tc := ⟨.hbm, 66, rfl⟩
abbrev main_cst_4 : Ref sig .tc := ⟨.hbm, 67, rfl⟩
abbrev main_v51 : Ref sig .tc := ⟨.hbm, 68, rfl⟩
abbrev main_cst_5 : Ref sig .tc := ⟨.hbm, 69, rfl⟩
abbrev main_v52 : Ref sig .tc := ⟨.hbm, 70, rfl⟩
abbrev main_v53 : Ref sig .tc := ⟨.hbm, 71, rfl⟩
abbrev main_cst_6 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_7 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71_0 : Ref sig .tc := ⟨.hbm, 91, rfl⟩
abbrev main_v71_1 : Ref sig .tc := ⟨.hbm, 92, rfl⟩
abbrev main_v71_2 : Ref sig .tc := ⟨.hbm, 93, rfl⟩
abbrev main_v71_3 : Ref sig .tc := ⟨.hbm, 94, rfl⟩
abbrev main_v71_4 : Ref sig .tc := ⟨.hbm, 95, rfl⟩
abbrev main_v71_5 : Ref sig .tc := ⟨.hbm, 96, rfl⟩
abbrev main_v71_6 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S8x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x32 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Reference4Ideal.lean ====
abbrev S4x8192x1024 : Shape := ⟨3, ![4, 8192, 1024]⟩
abbrev S1024 : Shape := ⟨1, ![1024]⟩
abbrev S1024x2464 : Shape := ⟨2, ![1024, 2464]⟩
abbrev S256 : Shape := ⟨1, ![256]⟩
abbrev S128 : Shape := ⟨1, ![128]⟩
abbrev S256x8x96 : Shape := ⟨3, ![256, 8, 96]⟩
abbrev S128x8x128 : Shape := ⟨3, ![128, 8, 128]⟩
abbrev S512 : Shape := ⟨1, ![512]⟩
abbrev S8x128x128 : Shape := ⟨3, ![8, 128, 128]⟩
abbrev S8x128 : Shape := ⟨2, ![8, 128]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2464 : Shape := ⟨3, ![4, 8192, 2464]⟩
abbrev S4x8192x256 : Shape := ⟨3, ![4, 8192, 256]⟩
abbrev S4x8192x128 : Shape := ⟨3, ![4, 8192, 128]⟩
abbrev S4x8192x32 : Shape := ⟨3, ![4, 8192, 32]⟩
abbrev S4x8192x512 : Shape := ⟨3, ![4, 8192, 512]⟩
abbrev S16 : Shape := ⟨1, ![16]⟩
abbrev S8192 : Shape := ⟨1, ![8192]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S1x1x256 : Shape := ⟨3, ![1, 1, 256]⟩
abbrev S4x8192x8x96 : Shape := ⟨4, ![4, 8192, 8, 96]⟩
abbrev S256x8x32 : Shape := ⟨3, ![256, 8, 32]⟩
abbrev S256x8x16 : Shape := ⟨3, ![256, 8, 16]⟩
abbrev S4x8192x8x32 : Shape := ⟨4, ![4, 8192, 8, 32]⟩
abbrev S8192x1x32 : Shape := ⟨3, ![8192, 1, 32]⟩
abbrev S1x8192x1x32 : Shape := ⟨4, ![1, 8192, 1, 32]⟩
abbrev S4x8192x8x64 : Shape := ⟨4, ![4, 8192, 8, 64]⟩
abbrev S4x8192x8x128 : Shape := ⟨4, ![4, 8192, 8, 128]⟩
abbrev S1x1x128 : Shape := ⟨3, ![1, 1, 128]⟩
abbrev S1x8192x32 : Shape := ⟨3, ![1, 8192, 32]⟩
abbrev S1024x32 : Shape := ⟨2, ![1024, 32]⟩
abbrev S1024x16 : Shape := ⟨2, ![1024, 16]⟩
abbrev S4x8192x1x32 : Shape := ⟨4, ![4, 8192, 1, 32]⟩
abbrev S1x1x512 : Shape := ⟨3, ![1, 1, 512]⟩
abbrev S4x64x128x8x64 : Shape := ⟨5, ![4, 64, 128, 8, 64]⟩
abbrev S128x128 : Shape := ⟨2, ![128, 128]⟩
abbrev S8x4x64x64x128 : Shape := ⟨5, ![8, 4, 64, 64, 128]⟩
abbrev S128x8 : Shape := ⟨2, ![128, 8]⟩
abbrev S1x1x128x8x1 : Shape := ⟨5, ![1, 1, 128, 8, 1]⟩

abbrev nBuf : Space → Nat
  | .hbm => 218
  | .vmem => 0
  | .smem => 0
  | _ => 0

abbrev hbmTy0_0 (i : Nat) : BufTy := match i % 128 with
  | 0 => ⟨S4x8192x1024, .f32⟩
  | 1 => ⟨S1024, .f32⟩
  | 2 => ⟨S1024x2464, .f32⟩
  | 3 => ⟨S256, .f32⟩
  | 4 => ⟨S128, .f32⟩
  | 5 => ⟨S256x8x96, .f32⟩
  | 6 => ⟨S128x8x128, .f32⟩
  | 7 => ⟨S512, .f32⟩
  | 8 => ⟨S512, .f32⟩
  | 9 => ⟨S8x128x128, .f32⟩
  | 10 => ⟨S8x128, .f32⟩
  | 11 => ⟨S4x8192x1024, .f32⟩
  | 12 => ⟨S_, .f32⟩
  | 13 => ⟨S4x8192, .f32⟩
  | 14 => ⟨S4x8192x1, .f32⟩
  | 15 => ⟨S_, .f32⟩
  | 16 => ⟨S4x8192x1, .f32⟩
  | 17 => ⟨S4x8192x1, .f32⟩
  | 18 => ⟨S_, .f32⟩
  | 19 => ⟨S4x8192x1, .f32⟩
  | 20 => ⟨S4x8192x1, .f32⟩
  | 21 => ⟨S4x8192x1, .f32⟩
  | 22 => ⟨S4x8192x1024, .f32⟩
  | 23 => ⟨S4x8192x1024, .f32⟩
  | 24 => ⟨S1x1x1024, .f32⟩
  | 25 => ⟨S4x8192x1024, .f32⟩
  | 26 => ⟨S4x8192x1024, .f32⟩
  | 27 => ⟨S4x8192x2464, .f32⟩
  | 28 => ⟨S4x8192x256, .f32⟩
  | 29 => ⟨S4x8192x128, .f32⟩
  | 30 => ⟨S4x8192x32, .f32⟩
  | 31 => ⟨S4x8192x512, .f32⟩
  | 32 => ⟨S4x8192x512, .f32⟩
  | 33 => ⟨S4x8192x512, .f32⟩
  | 34 => ⟨S4x8192x512, .f32⟩
  | 35 => ⟨S16, .f32⟩
  | 36 => ⟨S16, .f32⟩
  | 37 => ⟨S_, .f32⟩
  | 38 => ⟨S16, .f32⟩
  | 39 => ⟨S16, .f32⟩
  | 40 => ⟨S_, .f32⟩
  | 41 => ⟨S16, .f32⟩
  | 42 => ⟨S16, .f32⟩
  | 43 => ⟨S8192, .i32⟩
  | 44 => ⟨S8192, .f32⟩
  | 45 => ⟨S8192x1, .f32⟩
  | 46 => ⟨S1x16, .f32⟩
  | 47 => ⟨S8192x16, .f32⟩
  | 48 => ⟨S8192x16, .f32⟩
  | 49 => ⟨S8192x16, .f32⟩
  | 50 => ⟨S8192x16, .f32⟩
  | 51 => ⟨S8192x16, .f32⟩
  | 52 => ⟨S8192x32, .f32⟩
  | 53 => ⟨S8192x32, .f32⟩
  | 54 => ⟨S4x8192x256, .f32⟩
  | 55 => ⟨S_, .f32⟩
  | 56 => ⟨S4x8192, .f32⟩
  | 57 => ⟨S4x8192x1, .f32⟩
  | 58 => ⟨S_, .f32⟩
  | 59 => ⟨S4x8192x1, .f32⟩
  | 60 => ⟨S4x8192x1, .f32⟩
  | 61 => ⟨S_, .f32⟩
  | 62 => ⟨S4x8192x1, .f32⟩
  | 63 => ⟨S4x8192x1, .f32⟩
  | 64 => ⟨S4x8192x1, .f32⟩
  | 65 => ⟨S4x8192x256, .f32⟩
  | 66 => ⟨S4x8192x256, .f32⟩
  | 67 => ⟨S1x1x256, .f32⟩
  | 68 => ⟨S4x8192x256, .f32⟩
  | 69 => ⟨S4x8192x256, .f32⟩
  | 70 => ⟨S4x8192x8x96, .f32⟩
  | 71 => ⟨S256x8x32, .f32⟩
  | 72 => ⟨S256x8x16, .f32⟩
  | 73 => ⟨S256x8x16, .f32⟩
  | 74 => ⟨S256x8x16, .f32⟩
  | 75 => ⟨S256x8x32, .f32⟩
  | 76 => ⟨S4x8192x8x32, .f32⟩
  | 77 => ⟨S4x8192x8x32, .f32⟩
  | 78 => ⟨S_, .f32⟩
  | 79 => ⟨S8192x32, .f32⟩
  | 80 => ⟨S8192x32, .f32⟩
  | 81 => ⟨S8192x1x32, .f32⟩
  | 82 => ⟨S1x8192x1x32, .f32⟩
  | 83 => ⟨S4x8192x8x32, .f32⟩
  | 84 => ⟨S4x8192x8x32, .f32⟩
  | 85 => ⟨S_, .f32⟩
  | 86 => ⟨S8192x32, .f32⟩
  | 87 => ⟨S8192x32, .f32⟩
  | 88 => ⟨S8192x1x32, .f32⟩
  | 89 => ⟨S1x8192x1x32, .f32⟩
  | 90 => ⟨S4x8192x8x32, .f32⟩
  | 91 => ⟨S4x8192x8x32, .f32⟩
  | 92 => ⟨S4x8192x8x32, .f32⟩
  | 93 => ⟨S4x8192x8x64, .f32⟩
  | 94 => ⟨S_, .f32⟩
  | 95 => ⟨S4x8192x8x64, .f32⟩
  | 96 => ⟨S4x8192x8x64, .f32⟩
  | 97 => ⟨S_, .f32⟩
  | 98 => ⟨S4x8192x8x32, .f32⟩
  | 99 => ⟨S4x8192x8x128, .f32⟩
  | 100 => ⟨S4x8192x128, .f32⟩
  | 101 => ⟨S_, .f32⟩
  | 102 => ⟨S4x8192, .f32⟩
  | 103 => ⟨S4x8192x1, .f32⟩
  | 104 => ⟨S_, .f32⟩
  | 105 => ⟨S4x8192x1, .f32⟩
  | 106 => ⟨S4x8192x1, .f32⟩
  | 107 => ⟨S_, .f32⟩
  | 108 => ⟨S4x8192x1, .f32⟩
  | 109 => ⟨S4x8192x1, .f32⟩
  | 110 => ⟨S4x8192x1, .f32⟩
  | 111 => ⟨S4x8192x128, .f32⟩
  | 112 => ⟨S4x8192x128, .f32⟩
  | 113 => ⟨S1x1x128, .f32⟩
  | 114 => ⟨S4x8192x128, .f32⟩
  | 115 => ⟨S4x8192x128, .f32⟩
  | 116 => ⟨S1x8192x32, .f32⟩
  | 117 => ⟨S4x8192x32, .f32⟩
  | 118 => ⟨S4x8192x32, .f32⟩
  | 119 => ⟨S1024x32, .f32⟩
  | 120 => ⟨S1024x16, .f32⟩
  | 121 => ⟨S1024x16, .f32⟩
  | 122 => ⟨S1024x16, .f32⟩
  | 123 => ⟨S1024x32, .f32⟩
  | 124 => ⟨S4x8192x32, .f32⟩
  | 125 => ⟨S1x8192x32, .f32⟩
  | 126 => ⟨S4x8192x32, .f32⟩
  | 127 => ⟨S4x8192x32, .f32⟩
  | _ => ⟨S4x8192x1024, .f32⟩

abbrev hbmTy0_1 (i : Nat) : BufTy := match i % 128 with
  | 0 => ⟨S4x8192x32, .f32⟩
  | 1 => ⟨S4x8192x8x128, .f32⟩
  | 2 => ⟨S4x8192x1x32, .f32⟩
  | 3 => ⟨S4x8192x8x32, .f32⟩
  | 4 => ⟨S4x8192x8x64, .f32⟩
  | 5 => ⟨S_, .f32⟩
  | 6 => ⟨S4x8192x8x32, .f32⟩
  | 7 => ⟨S4x8192x8x128, .f32⟩
  | 8 => ⟨S4x8192x8x64, .f32⟩
  | 9 => ⟨S_, .f32⟩
  | 10 => ⟨S4x8192, .f32⟩
  | 11 => ⟨S4x8192x1, .f32⟩
  | 12 => ⟨S_, .f32⟩
  | 13 => ⟨S4x8192x1, .f32⟩
  | 14 => ⟨S4x8192x1, .f32⟩
  | 15 => ⟨S4x8192x512, .f32⟩
  | 16 => ⟨S4x8192x512, .f32⟩
  | 17 => ⟨S4x8192x512, .f32⟩
  | 18 => ⟨S_, .f32⟩
  | 19 => ⟨S4x8192, .f32⟩
  | 20 => ⟨S4x8192x1, .f32⟩
  | 21 => ⟨S_, .f32⟩
  | 22 => ⟨S4x8192x1, .f32⟩
  | 23 => ⟨S4x8192x1, .f32⟩
  | 24 => ⟨S4x8192x512, .f32⟩
  | 25 => ⟨S4x8192x512, .f32⟩
  | 26 => ⟨S_, .f32⟩
  | 27 => ⟨S4x8192x1, .f32⟩
  | 28 => ⟨S4x8192x1, .f32⟩
  | 29 => ⟨S4x8192x1, .f32⟩
  | 30 => ⟨S4x8192x512, .f32⟩
  | 31 => ⟨S4x8192x512, .f32⟩
  | 32 => ⟨S1x1x512, .f32⟩
  | 33 => ⟨S4x8192x512, .f32⟩
  | 34 => ⟨S4x8192x512, .f32⟩
  | 35 => ⟨S1x1x512, .f32⟩
  | 36 => ⟨S4x8192x512, .f32⟩
  | 37 => ⟨S4x8192x512, .f32⟩
  | 38 => ⟨S4x64x128x8x64, .f32⟩
  | 39 => ⟨S_, .i1⟩
  | 40 => ⟨S128x128, .i1⟩
  | 41 => ⟨S128x128, .i32⟩
  | 42 => ⟨S_, .i32⟩
  | 43 => ⟨S128x128, .i32⟩
  | 44 => ⟨S128x128, .i32⟩
  | 45 => ⟨S128x128, .i32⟩
  | 46 => ⟨S128x128, .i1⟩
  | 47 => ⟨S_, .i1⟩
  | 48 => ⟨S128x128, .i1⟩
  | 49 => ⟨S128x128, .i1⟩
  | 50 => ⟨S_, .i32⟩
  | 51 => ⟨S_, .f32⟩
  | 52 => ⟨S8x128x128, .i1⟩
  | 53 => ⟨S8x128x128, .f32⟩
  | 54 => ⟨S8x128x128, .f32⟩
  | 55 => ⟨S8x4x64x64x128, .f32⟩
  | 56 => ⟨S4x64x128x8x64, .f32⟩
  | 57 => ⟨S128x8, .f32⟩
  | 58 => ⟨S1x1x128x8x1, .f32⟩
  | 59 => ⟨S4x64x128x8x64, .f32⟩
  | 60 => ⟨S4x64x128x8x64, .f32⟩
  | 61 => ⟨S4x8192x512, .f32⟩
  | 62 => ⟨S4x8192x512, .f32⟩
  | 63 => ⟨S4x8192x512, .f32⟩
  | 64 => ⟨S4x8192x512, .f32⟩
  | 65 => ⟨S_, .f32⟩
  | 66 => ⟨S4x8192x512, .f32⟩
  | 67 => ⟨S4x8192x512, .f32⟩
  | 68 => ⟨S_, .f32⟩
  | 69 => ⟨S4x8192x512, .f32⟩
  | 70 => ⟨S4x8192x512, .f32⟩
  | 71 => ⟨S4x8192x512, .f32⟩
  | 72 => ⟨S4x8192x512, .f32⟩
  | 73 => ⟨S4x8192x1024, .f32⟩
  | 74 => ⟨S4x8192x1024, .bf16⟩
  | 75 => ⟨S4x8192x1024, .f32⟩
  | 76 => ⟨S4x8192x1024, .bf16⟩
  | 77 => ⟨S4x8192x512, .f32⟩
  | 78 => ⟨S4x8192x512, .bf16⟩
  | 79 => ⟨S4x8192x512, .f32⟩
  | 80 => ⟨S4x8192x512, .f32⟩
  | 81 => ⟨S_, .f32⟩
  | 82 => ⟨S4x8192x512, .f32⟩
  | 83 => ⟨S4x8192x512, .f32⟩
  | 84 => ⟨S_, .f32⟩
  | 85 => ⟨S4x8192x512, .f32⟩
  | 86 => ⟨S4x8192x512, .f32⟩
  | 87 => ⟨S4x8192x512, .f32⟩
  | 88 => ⟨S4x8192x512, .bf16⟩
  | 89 => ⟨S4x8192x512, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_4 : Ref sig .tc := ⟨.hbm, 55, rfl⟩
abbrev main_v39 : Ref sig .tc := ⟨.hbm, 56, rfl⟩
abbrev main_v40 : Ref sig .tc := ⟨.hbm, 57, rfl⟩
abbrev main_cst_5 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_7 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_8 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_9 : Ref sig .tc := ⟨.hbm, 94, rfl⟩
abbrev main_v73 : Ref sig .tc := ⟨.hbm, 95, rfl⟩
abbrev main_v74 : Ref sig .tc := ⟨.hbm, 96, rfl⟩
abbrev main_cst_10 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_11 : Ref sig .tc := ⟨.hbm, 101, rfl⟩
abbrev main_v78 : Ref sig .tc := ⟨.hbm, 102, rfl⟩
abbrev main_v79 : Ref sig .tc := ⟨.hbm, 103, rfl⟩
abbrev main_cst_12 : Ref sig .tc := ⟨.hbm, 104, rfl⟩
abbrev main_v80 : Ref sig .tc := ⟨.hbm, 105, rfl⟩
abbrev main_v81 : Ref sig .tc := ⟨.hbm, 106, rfl⟩
abbrev main_cst_13 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_cst_14 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_cst_15 : Ref sig .tc := ⟨.hbm, 137, rfl⟩
abbrev main_v110 : Ref sig .tc := ⟨.hbm, 138, rfl⟩
abbrev main_v111 : Ref sig .tc := ⟨.hbm, 139, rfl⟩
abbrev main_cst_16 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_cst_17 : Ref sig .tc := ⟨.hbm, 146, rfl⟩
abbrev main_v117 : Ref sig .tc := ⟨.hbm, 147, rfl⟩
abbrev main_v118 : Ref sig .tc := ⟨.hbm, 148, rfl⟩
abbrev main_cst_18 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_cst_19 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_c : Ref sig .tc := ⟨.hbm, 167, rfl⟩
abbrev main_v135 : Ref sig .tc := ⟨.hbm, 168, rfl⟩
abbrev main_call0_v0 : Ref sig .tc := ⟨.hbm, 169, rfl⟩
abbrev main_call0_c : Ref sig .tc := ⟨.hbm, 170, rfl⟩
abbrev main_call0_v1 : Ref sig .tc := ⟨.hbm, 171, rfl⟩
abbrev main_call0_v2 : Ref sig .tc := ⟨.hbm, 172, rfl⟩
abbrev main_call0_v3 : Ref sig .tc := ⟨.hbm, 173, rfl⟩
abbrev main_call0_v4 : Ref sig .tc := ⟨.hbm, 174, rfl⟩
abbrev main_call0_c_0 : Ref sig .tc := ⟨.hbm, 175, rfl⟩
abbrev main_call0_v5 : Ref sig .tc := ⟨.hbm, 176, rfl⟩
abbrev main_v136 : Ref sig .tc := ⟨.hbm, 177, rfl⟩
abbrev main_c_20 : Ref sig .tc := ⟨.hbm, 178, rfl⟩
abbrev main_call1_v0 : Ref sig .tc := ⟨.hbm, 179, rfl⟩
abbrev main_call1_v1 : Ref sig .tc := ⟨.hbm, 180, rfl⟩
abbrev main_call1_v2 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_call2_v0 : Ref sig .tc := ⟨.hbm, 191, rfl⟩
abbrev main_call2_v1 : Ref sig .tc := ⟨.hbm, 192, rfl⟩
abbrev main_call2_cst : Ref sig .tc := ⟨.hbm, 193, rfl⟩
abbrev main_call2_v2 : Ref sig .tc := ⟨.hbm, 194, rfl⟩
abbrev main_call2_v3 : Ref sig .tc := ⟨.hbm, 195, rfl⟩
abbrev main_call2_cst_0 : Ref sig .tc := ⟨.hbm, 196, rfl⟩
abbrev main_call2_v4 : Ref sig .tc := ⟨.hbm, 197, rfl⟩
abbrev main_call2_v5 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_call3_v0 : Ref sig .tc := ⟨.hbm, 207, rfl⟩
abbrev main_call3_v1 : Ref sig .tc := ⟨.hbm, 208, rfl⟩
abbrev main_call3_cst : Ref sig .tc := ⟨.hbm, 209, rfl⟩
abbrev main_call3_v2 : Ref sig .tc := ⟨.hbm, 210, rfl⟩
abbrev main_call3_v3 : Ref sig .tc := ⟨.hbm, 211, rfl⟩
abbrev main_call3_cst_0 : Ref sig .tc := ⟨.hbm, 212, rfl⟩
abbrev main_call3_v4 : Ref sig .tc := ⟨.hbm, 213, rfl⟩
abbrev main_call3_v5 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩

abbrev nD : Nat := 1
abbrev τ : Topo := Topo.v7x

variable {F : FTy → Type} [FloatOps F]
-- ==== Kernel5.lean ====
abbrev S128x1024 : Shape := ⟨2, ![128, 1024]⟩
abbrev S1024 : Shape := ⟨1, ![1024]⟩
abbrev S1024x2464 : Shape := ⟨2, ![1024, 2464]⟩
abbrev S256 : Shape := ⟨1, ![256]⟩
abbrev S128 : Shape := ⟨1, ![128]⟩
abbrev S256x8x96 : Shape := ⟨3, ![256, 8, 96]⟩
abbrev S128x8x128 : Shape := ⟨3, ![128, 8, 128]⟩
abbrev S512 : Shape := ⟨1, ![512]⟩
abbrev S8x128x128 : Shape := ⟨3, ![8, 128, 128]⟩
abbrev S8x128 : Shape := ⟨2, ![8, 128]⟩
abbrev S1024x256 : Shape := ⟨2, ![1024, 256]⟩
abbrev S1024x128 : Shape := ⟨2, ![1024, 128]⟩
abbrev S1024x32 : Shape := ⟨2, ![1024, 32]⟩
abbrev S_ : Shape := ⟨0, ![]⟩
abbrev S1024x64 : Shape := ⟨2, ![1024, 64]⟩
abbrev S1024x16 : Shape := ⟨2, ![1024, 16]⟩
abbrev S1024x512 : Shape := ⟨2, ![1024, 512]⟩
abbrev S1024x2048 : Shape := ⟨2, ![1024, 2048]⟩
abbrev S256x8x64 : Shape := ⟨3, ![256, 8, 64]⟩
abbrev S256x8x32 : Shape := ⟨3, ![256, 8, 32]⟩
abbrev S256x8x16 : Shape := ⟨3, ![256, 8, 16]⟩
abbrev S256x8x128 : Shape := ⟨3, ![256, 8, 128]⟩
abbrev S256x1024 : Shape := ⟨2, ![256, 1024]⟩
abbrev S128x8x64 : Shape := ⟨3, ![128, 8, 64]⟩
abbrev S128x512 : Shape := ⟨2, ![128, 512]⟩
abbrev S8x64x128 : Shape := ⟨3, ![8, 64, 128]⟩
abbrev S8x64x256 : Shape := ⟨3, ![8, 64, 256]⟩
abbrev S128x128 : Shape := ⟨2, ![128, 128]⟩
abbrev S64x128 : Shape := ⟨2, ![64, 128]⟩
abbrev S64x256 : Shape := ⟨2, ![64, 256]⟩
abbrev S1x64x256 : Shape := ⟨3, ![1, 64, 256]⟩
abbrev S8x128x256 : Shape := ⟨3, ![8, 128, 256]⟩
abbrev S8x1x1 : Shape := ⟨3, ![8, 1, 1]⟩
abbrev S8 : Shape := ⟨1, ![8]⟩
abbrev S8x64 : Shape := ⟨2, ![8, 64]⟩
abbrev S1x512 : Shape := ⟨2, ![1, 512]⟩
abbrev S128x8 : Shape := ⟨2, ![128, 8]⟩
abbrev S16 : Shape := ⟨1, ![16]⟩
abbrev S128x1 : Shape := ⟨2, ![128, 1]⟩
abbrev S1x16 : Shape := ⟨2, ![1, 16]⟩
abbrev S128x16 : Shape := ⟨2, ![128, 16]⟩
abbrev S128x32 : Shape := ⟨2, ![128, 32]⟩
abbrev S128x64 : Shape := ⟨2, ![128, 64]⟩
abbrev S1x128x128 : Shape := ⟨3, ![1, 128, 128]⟩
abbrev S4x128x128 : Shape := ⟨3, ![4, 128, 128]⟩
abbrev S1x1024 : Shape := ⟨2, ![1, 1024]⟩
abbrev S1x256 : Shape := ⟨2, ![1, 256]⟩
abbrev S1x128 : Shape := ⟨2, ![1, 128]⟩
abbrev S128x2048 : Shape := ⟨2, ![128, 2048]⟩
abbrev S128x256 : Shape := ⟨2, ![128, 256]⟩
abbrev S1x128x256 : Shape := ⟨3, ![1, 128, 256]⟩

abbrev nBuf : Space → Nat
  | .hbm => 125
  | .vmem => 20
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x2464, .f32⟩
  | .hbm, ⟨3, _⟩ => ⟨S256, .f32⟩
  | .hbm, ⟨4, _⟩ => ⟨S128, .f32⟩
  | .hbm, ⟨5, _⟩ => ⟨S256x8x96, .f32⟩
  | .hbm, ⟨6, _⟩ => ⟨S128x8x128, .f32⟩
  | .hbm, ⟨7, _⟩ => ⟨S512, .f32⟩
  | .hbm, ⟨8, _⟩ => ⟨S512, .f32⟩
  | .hbm, ⟨9, _⟩ => ⟨S8x128x128, .f32⟩
  | .hbm, ⟨10, _⟩ => ⟨S8x128, .f32⟩
  | .hbm, ⟨11, _⟩ => ⟨S1024x256, .f32⟩
  | .hbm, ⟨12, _⟩ => ⟨S1024x128, .f32⟩
  | .hbm, ⟨13, _⟩ => ⟨S1024x32, .f32⟩
  | .hbm, ⟨14, _⟩ => ⟨S_, .f32⟩
  | .hbm, ⟨15, _⟩ => ⟨S1024x64, .f32⟩
  | .hbm, ⟨16, _⟩ => ⟨S1024x16, .f32⟩
  | .hbm, ⟨17, _⟩ => ⟨S1024x16, .f32⟩
  | .hbm, ⟨18, _⟩ => ⟨S1024x16, .f32⟩
  | .hbm, ⟨19, _⟩ => ⟨S1024x32, .f32⟩
  | .hbm, ⟨20, _⟩ => ⟨S1024x128, .f32⟩
  | .hbm, ⟨21, _⟩ => ⟨S1024x512, .f32⟩
  | .hbm, ⟨22, _⟩ => ⟨S1024x512, .bf16⟩
  | .hbm, ⟨23, _⟩ => ⟨S1024x2048, .f32⟩
  | .hbm, ⟨24, _⟩ => ⟨S1024x2048, .bf16⟩
  | .hbm, ⟨25, _⟩ => ⟨S256x8x64, .f32⟩
  | .hbm, ⟨26, _⟩ => ⟨S256x8x32, .f32⟩
  | .hbm, ⟨27, _⟩ => ⟨S256x8x16, .f32⟩
  | .hbm, ⟨28, _⟩ => ⟨S256x8x16, .f32⟩
  | .hbm, ⟨29, _⟩ => ⟨S256x8x16, .f32⟩
  | .hbm, ⟨30, _⟩ => ⟨S256x8x32, .f32⟩
  | .hbm, ⟨31, _⟩ => ⟨S256x8x128, .f32⟩
  | .hbm, ⟨32, _⟩ => ⟨S256x1024, .f32⟩
  | .hbm, ⟨33, _⟩ => ⟨S256x1024, .bf16⟩
  | .hbm, ⟨34, _⟩ => ⟨S128x8x64, .f32⟩
  | .hbm, ⟨35, _⟩ => ⟨S128x8x64, .f32⟩
  | .hbm, ⟨36, _⟩ => ⟨S_, .f32⟩
  | .hbm, ⟨37, _⟩ => ⟨S128x8x64, .f32⟩
  | .hbm, ⟨38, _⟩ => ⟨S128x8x128, .f32⟩
  | .hbm, ⟨39, _⟩ => ⟨S128x1024, .f32⟩
  | .hbm, ⟨40, _⟩ => ⟨S128x1024, .bf16⟩
  | .hbm, ⟨41, _⟩ => ⟨S128x512, .f32⟩
  | .hbm, ⟨42, _⟩ => ⟨S128x512, .bf16⟩
  | .hbm, ⟨43, _⟩ => ⟨S128x8x64, .f32⟩
  | .hbm, ⟨44, _⟩ => ⟨S8x64x128, .f32⟩
  | .hbm, ⟨45, _⟩ => ⟨S_, .f32⟩
  | .hbm, ⟨46, _⟩ => ⟨S8x64x128, .f32⟩
  | .hbm, ⟨47, _⟩ => ⟨S8x64x256, .f32⟩
  | .hbm, ⟨48, _⟩ => ⟨S128x128, .i32⟩
  | .hbm, ⟨49, _⟩ => ⟨S128x128, .i32⟩
  | .hbm, ⟨50, _⟩ => ⟨S_, .i32⟩
  | .hbm, ⟨51, _⟩ => ⟨S128x128, .i32⟩
  | .hbm, ⟨52, _⟩ => ⟨S128x128, .i32⟩
  | .hbm, ⟨53, _⟩ => ⟨S128x128, .i1⟩
  | .hbm, ⟨54, _⟩ => ⟨S128x128, .f32⟩
  | .hbm, ⟨55, _⟩ => ⟨S64x128, .f32⟩
  | .hbm, ⟨56, _⟩ => ⟨S_, .f32⟩
  | .hbm, ⟨57, _⟩ => ⟨S64x128, .f32⟩
  | .hbm, ⟨58, _⟩ => ⟨S64x256, .f32⟩
  | .hbm, ⟨59, _⟩ => ⟨S1x64x256, .f32⟩
  | .hbm, ⟨60, _⟩ => ⟨S8x64x256, .f32⟩
  | .hbm, ⟨61, _⟩ => ⟨S8x128x256, .f32⟩
  | .hbm, ⟨62, _⟩ => ⟨S8x128x256, .bf16⟩
  | .hbm, ⟨63, _⟩ => ⟨S8x1x1, .f32⟩
  | .hbm, ⟨64, _⟩ => ⟨S8, .f32⟩
  | .hbm, ⟨65, _⟩ => ⟨S8x64, .f32⟩
  | .hbm, ⟨66, _⟩ => ⟨S512, .f32⟩
  | .hbm, ⟨67, _⟩ => ⟨S1x512, .f32⟩
  | .hbm, ⟨68, _⟩ => ⟨S128x8, .f32⟩
  | .hbm, ⟨69, _⟩ => ⟨S128x8x64, .f32⟩
  | .hbm, ⟨70, _⟩ => ⟨S128x512, .f32⟩
  | .hbm, ⟨71, _⟩ => ⟨S1x512, .f32⟩
  | .hbm, ⟨72, _⟩ => ⟨S_, .i32⟩
  | .hbm, ⟨73, _⟩ => ⟨S128, .i32⟩
  | .hbm, ⟨74, _⟩ => ⟨S16, .f32⟩
  | .hbm, ⟨75, _⟩ => ⟨S16, .f32⟩
  | .hbm, ⟨76, _⟩ => ⟨S_, .f32⟩
  | .hbm, ⟨77, _⟩ => ⟨S16, .f32⟩
  | .hbm, ⟨78, _⟩ => ⟨S16, .f32⟩
  | .hbm, ⟨79, _⟩ => ⟨S_, .f32⟩
  | .hbm, ⟨80, _⟩ => ⟨S16, .f32⟩
  | .hbm, ⟨81, _⟩ => ⟨S16, .f32⟩
  | .hbm, ⟨82, _⟩ => ⟨S128, .f32⟩
  | .hbm, ⟨83, _⟩ => ⟨S128x1, .f32⟩
  | .hbm, ⟨84, _⟩ => ⟨S1x16, .f32⟩
  | .hbm, ⟨85, _⟩ => ⟨S128x16, .f32⟩
  | .hbm, ⟨86, _⟩ => ⟨S128x16, .f32⟩
  | .hbm, ⟨87, _⟩ => ⟨S128x16, .f32⟩
  | .hbm, ⟨88, _⟩ => ⟨S128x16, .f32⟩
  | .hbm, ⟨89, _⟩ => ⟨S128x16, .f32⟩
  | .hbm, ⟨90, _⟩ => ⟨S128x32, .f32⟩
  | .hbm, ⟨91, _⟩ => ⟨S128x32, .f32⟩
  | .hbm, ⟨92, _⟩ => ⟨S_, .f32⟩
  | .hbm, ⟨93, _⟩ => ⟨S128x64, .f32⟩
  | .hbm, ⟨94, _⟩ => ⟨S_, .f32⟩
  | .hbm, ⟨95, _⟩ => ⟨S128x64, .f32⟩
  | .hbm, ⟨96, _⟩ => ⟨S_, .f32⟩
  | .hbm, ⟨97, _⟩ => ⟨S128x32, .f32⟩
  | .hbm, ⟨98, _⟩ => ⟨S128x128, .f32⟩
  | .hbm, ⟨99, _⟩ => ⟨S_, .f32⟩
  | .hbm, ⟨100, _⟩ => ⟨S128x128, .f32⟩
  | .hbm, ⟨101, _⟩ => ⟨S128x128, .f32⟩
  | .hbm, ⟨102, _⟩ => ⟨S128x128, .f32⟩
  | .hbm, ⟨103, _⟩ => ⟨S_, .f32⟩
  | .hbm, ⟨104, _⟩ => ⟨S128x128, .f32⟩
  | .hbm, ⟨105, _⟩ => ⟨S128x128, .f32⟩
  | .hbm, ⟨106, _⟩ => ⟨S128x128, .f32⟩
  | .hbm, ⟨107, _⟩ => ⟨S128x128, .f32⟩
  | .hbm, ⟨108, _⟩ => ⟨S1x128x128, .f32⟩
  | .hbm, ⟨109, _⟩ => ⟨S1x128x128, .f32⟩
  | .hbm, ⟨110, _⟩ => ⟨S1x128x128, .f32⟩
  | .hbm, ⟨111, _⟩ => ⟨S1x128x128, .f32⟩
  | .hbm, ⟨112, _⟩ => ⟨S4x128x128, .f32⟩
  | .hbm, ⟨113, _⟩ => ⟨S1x1024, .f32⟩
  | .hbm, ⟨114, _⟩ => ⟨S1x256, .f32⟩
  | .hbm, ⟨115, _⟩ => ⟨S1x128, .f32⟩
  | .hbm, ⟨116, _⟩ => ⟨S1x512, .f32⟩
  | .hbm, ⟨117, _⟩ => ⟨S1x512, .f32⟩
  | .hbm, ⟨118, _⟩ => ⟨S128x2048, .bf16⟩
  | .hbm, ⟨119, _⟩ => ⟨S128x128, .f32⟩
  | .hbm, ⟨120, _⟩ => ⟨S128x128, .f32⟩
  | .hbm, ⟨121, _⟩ => ⟨S128x32, .f32⟩
  | .hbm, ⟨122, _⟩ => ⟨S128x512, .f32⟩
  | .hbm, ⟨123, _⟩ => ⟨S128x512, .bf16⟩
  | .hbm, ⟨124, _⟩ => ⟨S128x512, .bf16⟩
  | .local _ .vmem, ⟨0, _⟩ => ⟨S128x1024, .f32⟩
  | .local _ .vmem, ⟨1, _⟩ => ⟨S4x128x128, .f32⟩
  | .local _ .vmem, ⟨2, _⟩ => ⟨S1x1024, .f32⟩
  | .local _ .vmem, ⟨3, _⟩ => ⟨S1024x512, .bf16⟩
  | .local _ .vmem, ⟨4, _⟩ => ⟨S1024x2048, .bf16⟩
  | .local _ .vmem, ⟨5, _⟩ => ⟨S1x256, .f32⟩
  | .local _ .vmem, ⟨6, _⟩ => ⟨S1x128, .f32⟩
  | .local _ .vmem, ⟨7, _⟩ => ⟨S256x1024, .bf16⟩
  | .local _ .vmem, ⟨8, _⟩ => ⟨S8x128x256, .bf16⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S128x2048, .bf16⟩
  | .local _ .vmem, ⟨14, _⟩ => ⟨S128x128, .f32⟩
  | .local _ .vmem, ⟨15, _⟩ => ⟨S128x128, .f32⟩
  | .local _ .vmem, ⟨16, _⟩ => ⟨S128x32, .f32⟩
  | .local _ .vmem, ⟨17, _⟩ => ⟨S128x512, .f32⟩
  | .local _ .vmem, ⟨18, _⟩ => ⟨S128x512, .bf16⟩
  | .local _ .vmem, ⟨19, _⟩ => ⟨S128x512, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_1 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_2 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_c_3 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_4 : Ref sig .tc := ⟨.hbm, 76, rfl⟩
abbrev main_v59 : Ref sig .tc := ⟨.hbm, 77, rfl⟩
abbrev main_v60 : Ref sig .tc := ⟨.hbm, 78, rfl⟩
abbrev main_cst_5 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_6 : Ref sig .tc := ⟨.hbm, 92, rfl⟩
abbrev main_v73 : Ref sig .tc := ⟨.hbm, 93, rfl⟩
abbrev main_cst_7 : Ref sig .tc := ⟨.hbm, 94, rfl⟩
abbrev main_v74 : Ref sig .tc := ⟨.hbm, 95, rfl⟩
abbrev main_cst_8 : Ref sig .tc := ⟨.hbm, 96, rfl⟩
abbrev main_v75 : Ref sig .tc := ⟨.hbm, 97, rfl⟩
abbrev main_v76 : Ref sig .tc := ⟨.hbm, 98, rfl⟩
abbrev main_cst_9 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_10 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94_0 : Ref sig .tc := ⟨.hbm, 118, rfl⟩
abbrev main_v94_1 : Ref sig .tc := ⟨.hbm, 119, rfl⟩
abbrev main_v94_2 : Ref sig .tc := ⟨.hbm, 120, rfl⟩
abbrev main_v94_3 : Ref sig .tc := ⟨.hbm, 121, rfl⟩
abbrev main_v94_4 : Ref sig .tc := ⟨.hbm, 122, rfl⟩
abbrev main_v94_5 : Ref sig .tc := ⟨.hbm, 123, rfl⟩
abbrev main_v94_6 : Ref sig .tc := ⟨.hbm, 124, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := .none

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S128x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S128x32 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S128x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S128x512 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S128x512 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
-- ==== Reference5Ideal.lean ====
abbrev S128x1024 : Shape := ⟨2, ![128, 1024]⟩
abbrev S1024 : Shape := ⟨1, ![1024]⟩
abbrev S1024x2464 : Shape := ⟨2, ![1024, 2464]⟩
abbrev S256 : Shape := ⟨1, ![256]⟩
abbrev S128 : Shape := ⟨1, ![128]⟩
abbrev S256x8x96 : Shape := ⟨3, ![256, 8, 96]⟩
abbrev S128x8x128 : Shape := ⟨3, ![128, 8, 128]⟩
abbrev S512 : Shape := ⟨1, ![512]⟩
abbrev S8x128x128 : Shape := ⟨3, ![8, 128, 128]⟩
abbrev S8x128 : Shape := ⟨2, ![8, 128]⟩
abbrev S_ : Shape := ⟨0, ![]⟩
abbrev S128x1 : Shape := ⟨2, ![128, 1]⟩
abbrev S1x1024 : Shape := ⟨2, ![1, 1024]⟩
abbrev S128x2464 : Shape := ⟨2, ![128, 2464]⟩
abbrev S128x256 : Shape := ⟨2, ![128, 256]⟩
abbrev S128x128 : Shape := ⟨2, ![128, 128]⟩
abbrev S128x32 : Shape := ⟨2, ![128, 32]⟩
abbrev S128x512 : Shape := ⟨2, ![128, 512]⟩
abbrev S16 : Shape := ⟨1, ![16]⟩
abbrev S1x16 : Shape := ⟨2, ![1, 16]⟩
abbrev S128x16 : Shape := ⟨2, ![128, 16]⟩
abbrev S1x256 : Shape := ⟨2, ![1, 256]⟩
abbrev S128x8x96 : Shape := ⟨3, ![128, 8, 96]⟩
abbrev S256x8x32 : Shape := ⟨3, ![256, 8, 32]⟩
abbrev S256x8x16 : Shape := ⟨3, ![256, 8, 16]⟩
abbrev S128x8x32 : Shape := ⟨3, ![128, 8, 32]⟩
abbrev S128x1x32 : Shape := ⟨3, ![128, 1, 32]⟩
abbrev S128x8x64 : Shape := ⟨3, ![128, 8, 64]⟩
abbrev S128x8x256 : Shape := ⟨3, ![128, 8, 256]⟩
abbrev S1x128 : Shape := ⟨2, ![1, 128]⟩
abbrev S1024x32 : Shape := ⟨2, ![1024, 32]⟩
abbrev S1024x16 : Shape := ⟨2, ![1024, 16]⟩
abbrev S1x512 : Shape := ⟨2, ![1, 512]⟩
abbrev S8x1x1 : Shape := ⟨3, ![8, 1, 1]⟩
abbrev S8 : Shape := ⟨1, ![8]⟩
abbrev S1x8x1 : Shape := ⟨3, ![1, 8, 1]⟩
abbrev S8x1 : Shape := ⟨2, ![8, 1]⟩
abbrev S128x2048 : Shape := ⟨2, ![128, 2048]⟩

abbrev nBuf : Space → Nat
  | .hbm => 194
  | .vmem => 0
  | .smem => 0
  | _ => 0

abbrev hbmTy0_0 (i : Nat) : BufTy := match i % 128 with
  | 0 => ⟨S128x1024, .f32⟩
  | 1 => ⟨S1024, .f32⟩
  | 2 => ⟨S1024x2464, .f32⟩
  | 3 => ⟨S256, .f32⟩
  | 4 => ⟨S128, .f32⟩
  | 5 => ⟨S256x8x96, .f32⟩
  | 6 => ⟨S128x8x128, .f32⟩
  | 7 => ⟨S512, .f32⟩
  | 8 => ⟨S512, .f32⟩
  | 9 => ⟨S8x128x128, .f32⟩
  | 10 => ⟨S8x128, .f32⟩
  | 11 => ⟨S128x1024, .f32⟩
  | 12 => ⟨S_, .f32⟩
  | 13 => ⟨S128, .f32⟩
  | 14 => ⟨S128x1, .f32⟩
  | 15 => ⟨S_, .f32⟩
  | 16 => ⟨S128x1, .f32⟩
  | 17 => ⟨S128x1, .f32⟩
  | 18 => ⟨S_, .f32⟩
  | 19 => ⟨S128x1, .f32⟩
  | 20 => ⟨S128x1, .f32⟩
  | 21 => ⟨S128x1, .f32⟩
  | 22 => ⟨S128x1024, .f32⟩
  | 23 => ⟨S128x1024, .f32⟩
  | 24 => ⟨S1x1024, .f32⟩
  | 25 => ⟨S128x1024, .f32⟩
  | 26 => ⟨S128x1024, .f32⟩
  | 27 => ⟨S128x2464, .f32⟩
  | 28 => ⟨S128x256, .f32⟩
  | 29 => ⟨S128x128, .f32⟩
  | 30 => ⟨S128x32, .f32⟩
  | 31 => ⟨S128x512, .f32⟩
  | 32 => ⟨S128x512, .f32⟩
  | 33 => ⟨S128x512, .f32⟩
  | 34 => ⟨S128x512, .f32⟩
  | 35 => ⟨S16, .f32⟩
  | 36 => ⟨S16, .f32⟩
  | 37 => ⟨S_, .f32⟩
  | 38 => ⟨S16, .f32⟩
  | 39 => ⟨S16, .f32⟩
  | 40 => ⟨S_, .f32⟩
  | 41 => ⟨S16, .f32⟩
  | 42 => ⟨S16, .f32⟩
  | 43 => ⟨S_, .i32⟩
  | 44 => ⟨S128x1, .i32⟩
  | 45 => ⟨S128x1, .f32⟩
  | 46 => ⟨S1x16, .f32⟩
  | 47 => ⟨S128x16, .f32⟩
  | 48 => ⟨S128x16, .f32⟩
  | 49 => ⟨S128x16, .f32⟩
  | 50 => ⟨S128x16, .f32⟩
  | 51 => ⟨S128x16, .f32⟩
  | 52 => ⟨S128x32, .f32⟩
  | 53 => ⟨S128x32, .f32⟩
  | 54 => ⟨S128x256, .f32⟩
  | 55 => ⟨S_, .f32⟩
  | 56 => ⟨S128, .f32⟩
  | 57 => ⟨S128x1, .f32⟩
  | 58 => ⟨S_, .f32⟩
  | 59 => ⟨S128x1, .f32⟩
  | 60 => ⟨S128x1, .f32⟩
  | 61 => ⟨S_, .f32⟩
  | 62 => ⟨S128x1, .f32⟩
  | 63 => ⟨S128x1, .f32⟩
  | 64 => ⟨S128x1, .f32⟩
  | 65 => ⟨S128x256, .f32⟩
  | 66 => ⟨S128x256, .f32⟩
  | 67 => ⟨S1x256, .f32⟩
  | 68 => ⟨S128x256, .f32⟩
  | 69 => ⟨S128x256, .f32⟩
  | 70 => ⟨S128x8x96, .f32⟩
  | 71 => ⟨S256x8x32, .f32⟩
  | 72 => ⟨S256x8x16, .f32⟩
  | 73 => ⟨S256x8x16, .f32⟩
  | 74 => ⟨S256x8x16, .f32⟩
  | 75 => ⟨S256x8x32, .f32⟩
  | 76 => ⟨S128x8x32, .f32⟩
  | 77 => ⟨S128x8x32, .f32⟩
  | 78 => ⟨S_, .f32⟩
  | 79 => ⟨S128x32, .f32⟩
  | 80 => ⟨S128x32, .f32⟩
  | 81 => ⟨S128x1x32, .f32⟩
  | 82 => ⟨S128x8x32, .f32⟩
  | 83 => ⟨S128x8x32, .f32⟩
  | 84 => ⟨S_, .f32⟩
  | 85 => ⟨S128x32, .f32⟩
  | 86 => ⟨S128x32, .f32⟩
  | 87 => ⟨S128x1x32, .f32⟩
  | 88 => ⟨S128x8x32, .f32⟩
  | 89 => ⟨S128x8x32, .f32⟩
  | 90 => ⟨S128x8x32, .f32⟩
  | 91 => ⟨S128x8x64, .f32⟩
  | 92 => ⟨S_, .f32⟩
  | 93 => ⟨S128x8x64, .f32⟩
  | 94 => ⟨S128x8x64, .f32⟩
  | 95 => ⟨S128x8x64, .f32⟩
  | 96 => ⟨S8x128x128, .f32⟩
  | 97 => ⟨S128x8x128, .f32⟩
  | 98 => ⟨S_, .f32⟩
  | 99 => ⟨S128x8x32, .f32⟩
  | 100 => ⟨S128x8x256, .f32⟩
  | 101 => ⟨S128x128, .f32⟩
  | 102 => ⟨S_, .f32⟩
  | 103 => ⟨S128, .f32⟩
  | 104 => ⟨S128x1, .f32⟩
  | 105 => ⟨S_, .f32⟩
  | 106 => ⟨S128x1, .f32⟩
  | 107 => ⟨S128x1, .f32⟩
  | 108 => ⟨S_, .f32⟩
  | 109 => ⟨S128x1, .f32⟩
  | 110 => ⟨S128x1, .f32⟩
  | 111 => ⟨S128x1, .f32⟩
  | 112 => ⟨S128x128, .f32⟩
  | 113 => ⟨S128x128, .f32⟩
  | 114 => ⟨S1x128, .f32⟩
  | 115 => ⟨S128x128, .f32⟩
  | 116 => ⟨S128x128, .f32⟩
  | 117 => ⟨S128x32, .f32⟩
  | 118 => ⟨S1024x32, .f32⟩
  | 119 => ⟨S1024x16, .f32⟩
  | 120 => ⟨S1024x16, .f32⟩
  | 121 => ⟨S1024x16, .f32⟩
  | 122 => ⟨S1024x32, .f32⟩
  | 123 => ⟨S128x32, .f32⟩
  | 124 => ⟨S128x32, .f32⟩
  | 125 => ⟨S128x32, .f32⟩
  | 126 => ⟨S_, .f32⟩
  | 127 => ⟨S128x32, .f32⟩
  | _ => ⟨S128x1024, .f32⟩

abbrev hbmTy0_1 (i : Nat) : BufTy := match i % 128 with
  | 0 => ⟨S128x128, .f32⟩
  | 1 => ⟨S_, .f32⟩
  | 2 => ⟨S128, .f32⟩
  | 3 => ⟨S128x1, .f32⟩
  | 4 => ⟨S_, .f32⟩
  | 5 => ⟨S128x1, .f32⟩
  | 6 => ⟨S128x1, .f32⟩
  | 7 => ⟨S128x512, .f32⟩
  | 8 => ⟨S128x512, .f32⟩
  | 9 => ⟨S128x512, .f32⟩
  | 10 => ⟨S_, .f32⟩
  | 11 => ⟨S128, .f32⟩
  | 12 => ⟨S128x1, .f32⟩
  | 13 => ⟨S_, .f32⟩
  | 14 => ⟨S128x1, .f32⟩
  | 15 => ⟨S128x1, .f32⟩
  | 16 => ⟨S128x512, .f32⟩
  | 17 => ⟨S128x512, .f32⟩
  | 18 => ⟨S_, .f32⟩
  | 19 => ⟨S128x1, .f32⟩
  | 20 => ⟨S128x1, .f32⟩
  | 21 => ⟨S128x1, .f32⟩
  | 22 => ⟨S128x512, .f32⟩
  | 23 => ⟨S128x512, .f32⟩
  | 24 => ⟨S1x512, .f32⟩
  | 25 => ⟨S128x512, .f32⟩
  | 26 => ⟨S128x512, .f32⟩
  | 27 => ⟨S1x512, .f32⟩
  | 28 => ⟨S128x512, .f32⟩
  | 29 => ⟨S128x512, .f32⟩
  | 30 => ⟨S128x8x64, .f32⟩
  | 31 => ⟨S8x1x1, .f32⟩
  | 32 => ⟨S8, .f32⟩
  | 33 => ⟨S1x8x1, .f32⟩
  | 34 => ⟨S128x8x64, .f32⟩
  | 35 => ⟨S128x8x64, .f32⟩
  | 36 => ⟨S8x1, .f32⟩
  | 37 => ⟨S8, .f32⟩
  | 38 => ⟨S1x8x1, .f32⟩
  | 39 => ⟨S128x8x64, .f32⟩
  | 40 => ⟨S128x8x64, .f32⟩
  | 41 => ⟨S128x512, .f32⟩
  | 42 => ⟨S128x512, .f32⟩
  | 43 => ⟨S128x512, .f32⟩
  | 44 => ⟨S128x512, .f32⟩
  | 45 => ⟨S_, .f32⟩
  | 46 => ⟨S128x512, .f32⟩
  | 47 => ⟨S128x512, .f32⟩
  | 48 => ⟨S_, .f32⟩
  | 49 => ⟨S128x512, .f32⟩
  | 50 => ⟨S128x512, .f32⟩
  | 51 => ⟨S128x512, .f32⟩
  | 52 => ⟨S128x512, .f32⟩
  | 53 => ⟨S128x2048, .f32⟩
  | 54 => ⟨S128x2048, .bf16⟩
  | 55 => ⟨S128x512, .f32⟩
  | 56 => ⟨S128x512, .f32⟩
  | 57 => ⟨S_, .f32⟩
  | 58 => ⟨S128x512, .f32⟩
  | 59 => ⟨S128x512, .f32⟩
  | 60 => ⟨S_, .f32⟩
  | 61 => ⟨S128x512, .f32⟩
  | 62 => ⟨S128x512, .f32⟩
  | 63 => ⟨S128x512, .f32⟩
  | 64 => ⟨S128x512, .bf16⟩
  | 65 => ⟨S128x512, .bf16⟩
  | _ => ⟨S128x1024, .f32⟩

abbrev hbmTy (i : Nat) : BufTy := match i / 128 with
  | 0 => hbmTy0_0 i
  | 1 => hbmTy0_1 i
  | _ => ⟨S128x1024, .f32⟩

abbrev bufTy : (tb : Table) → Fin (tcTables nBuf tb) → BufTy
  | .hbm, ⟨i, _⟩ => hbmTy i
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_c : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_4 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_7 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_8 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_9 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_10 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_11 : Ref sig .tc := ⟨.hbm, 102, rfl⟩
abbrev main_v78 : Ref sig .tc := ⟨.hbm, 103, rfl⟩
abbrev main_v79 : Ref sig .tc := ⟨.hbm, 104, rfl⟩
abbrev main_cst_12 : Ref sig .tc := ⟨.hbm, 105, rfl⟩
abbrev main_v80 : Ref sig .tc := ⟨.hbm, 106, rfl⟩
abbrev main_v81 : Ref sig .tc := ⟨.hbm, 107, rfl⟩
abbrev main_cst_13 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_cst_14 : Ref sig .tc := ⟨.hbm, 126, rfl⟩
abbrev main_v99 : Ref sig .tc := ⟨.hbm, 127, rfl⟩
abbrev main_v100 : Ref sig .tc := ⟨.hbm, 128, rfl⟩
abbrev main_cst_15 : Ref sig .tc := ⟨.hbm, 129, rfl⟩
abbrev main_v101 : Ref sig .tc := ⟨.hbm, 130, rfl⟩
abbrev main_v102 : Ref sig .tc := ⟨.hbm, 131, rfl⟩
abbrev main_cst_16 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_cst_17 : Ref sig .tc := ⟨.hbm, 138, rfl⟩
abbrev main_v108 : Ref sig .tc := ⟨.hbm, 139, rfl⟩
abbrev main_v109 : Ref sig .tc := ⟨.hbm, 140, rfl⟩
abbrev main_cst_18 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_cst_19 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_call0_v0 : Ref sig .tc := ⟨.hbm, 171, rfl⟩
abbrev main_call0_v1 : Ref sig .tc := ⟨.hbm, 172, rfl⟩
abbrev main_call0_cst : Ref sig .tc := ⟨.hbm, 173, rfl⟩
abbrev main_call0_v2 : Ref sig .tc := ⟨.hbm, 174, rfl⟩
abbrev main_call0_v3 : Ref sig .tc := ⟨.hbm, 175, rfl⟩
abbrev main_call0_cst_0 : Ref sig .tc := ⟨.hbm, 176, rfl⟩
abbrev main_call0_v4 : Ref sig .tc := ⟨.hbm, 177, rfl⟩
abbrev main_call0_v5 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_call1_v0 : Ref sig .tc := ⟨.hbm, 183, rfl⟩
abbrev main_call1_v1 : Ref sig .tc := ⟨.hbm, 184, rfl⟩
abbrev main_call1_cst : Ref sig .tc := ⟨.hbm, 185, rfl⟩
abbrev main_call1_v2 : Ref sig .tc := ⟨.hbm, 186, rfl⟩
abbrev main_call1_v3 : Ref sig .tc := ⟨.hbm, 187, rfl⟩
abbrev main_call1_cst_0 : Ref sig .tc := ⟨.hbm, 188, rfl⟩
abbrev main_call1_v4 : Ref sig .tc := ⟨.hbm, 189, rfl⟩
abbrev main_call1_v5 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩

abbrev nD : Nat := 1
abbrev τ : Topo := Topo.v7x

variable {F : FTy → Type} [FloatOps F]
-- ==== Kernel6.lean ====
abbrev S1x128x512 : Shape := ⟨3, ![1, 128, 512]⟩
abbrev S1x128x1024 : Shape := ⟨3, ![1, 128, 1024]⟩
abbrev S1024x1024 : Shape := ⟨2, ![1024, 1024]⟩
abbrev S1x1024 : Shape := ⟨2, ![1, 1024]⟩
abbrev S128x1024 : Shape := ⟨2, ![128, 1024]⟩
abbrev S128x512 : Shape := ⟨2, ![128, 512]⟩
abbrev S512x1024 : Shape := ⟨2, ![512, 1024]⟩
abbrev S128 : Shape := ⟨1, ![128]⟩
abbrev S128x1 : Shape := ⟨2, ![128, 1]⟩

abbrev nBuf : Space → Nat
  | .hbm => 6
  | .vmem => 6
  | .smem => 0
  | _ => 0

abbrev bufTy : (tb : Table) → Fin (tcTables nBuf tb) → BufTy
  | .hbm, ⟨0, _⟩ => ⟨S1x128x512, .bf16⟩
  | .hbm, ⟨1, _⟩ => ⟨S1x128x512, .bf16⟩
  | .hbm, ⟨2, _⟩ => ⟨S1x128x1024, .f32⟩
  | .hbm, ⟨3, _⟩ => ⟨S1024x1024, .bf16⟩
  | .hbm, ⟨4, _⟩ => ⟨S1x1024, .f32⟩
  | .hbm, ⟨5, _⟩ => ⟨S1x128x1024, .f32⟩
  | .local _ .vmem, ⟨0, _⟩ => ⟨S1x128x512, .bf16⟩
  | .local _ .vmem, ⟨1, _⟩ => ⟨S1x128x512, .bf16⟩
  | .local _ .vmem, ⟨2, _⟩ => ⟨S1x128x1024, .f32⟩
  | .local _ .vmem, ⟨3, _⟩ => ⟨S1024x1024, .bf16⟩
  | .local _ .vmem, ⟨4, _⟩ => ⟨S1x1024, .f32⟩
  | .local _ .vmem, ⟨5, _⟩ => ⟨S1x128x1024, .f32⟩
  | _, _ => ⟨S1x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]
-- ==== Reference6Ideal.lean ====
abbrev S1x128x512 : Shape := ⟨3, ![1, 128, 512]⟩
abbrev S1x128x1024 : Shape := ⟨3, ![1, 128, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S1x128 : Shape := ⟨2, ![1, 128]⟩
abbrev S1x128x1 : Shape := ⟨3, ![1, 128, 1]⟩
abbrev S1x1x1024 : Shape := ⟨3, ![1, 1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S1x128x512, .bf16⟩
  | .hbm, ⟨1, _⟩ => ⟨S1x128x512, .bf16⟩
  | .hbm, ⟨2, _⟩ => ⟨S1x128x1024, .f32⟩
  | .hbm, ⟨3, _⟩ => ⟨S1024x1024, .bf16⟩
  | .hbm, ⟨4, _⟩ => ⟨S1x1024, .f32⟩
  | .hbm, ⟨5, _⟩ => ⟨S1x128x1024, .bf16⟩
  | .hbm, ⟨6, _⟩ => ⟨S1x128x1024, .f32⟩
  | .hbm, ⟨7, _⟩ => ⟨S1x128x1024, .f32⟩
  | .hbm, ⟨8, _⟩ => ⟨S1024, .f32⟩
  | .hbm, ⟨9, _⟩ => ⟨S1x128x1024, .f32⟩
  | .hbm, ⟨10, _⟩ => ⟨S_, .f32⟩
  | .hbm, ⟨11, _⟩ => ⟨S1x128, .f32⟩
  | .hbm, ⟨12, _⟩ => ⟨S1x128x1, .f32⟩
  | .hbm, ⟨13, _⟩ => ⟨S_, .f32⟩
  | .hbm, ⟨14, _⟩ => ⟨S1x128x1, .f32⟩
  | .hbm, ⟨15, _⟩ => ⟨S1x128x1, .f32⟩
  | .hbm, ⟨16, _⟩ => ⟨S_, .f32⟩
  | .hbm, ⟨17, _⟩ => ⟨S1x128x1, .f32⟩
  | .hbm, ⟨18, _⟩ => ⟨S1x128x1, .f32⟩
  | .hbm, ⟨19, _⟩ => ⟨S1x128x1, .f32⟩
  | .hbm, ⟨20, _⟩ => ⟨S1x128x1024, .f32⟩
  | .hbm, ⟨21, _⟩ => ⟨S1x128x1024, .f32⟩
  | .hbm, ⟨22, _⟩ => ⟨S1x1x1024, .f32⟩
  | .hbm, ⟨23, _⟩ => ⟨S1x128x1024, .f32⟩
  | .hbm, ⟨24, _⟩ => ⟨S1x128x1024, .f32⟩
  | _, _ => ⟨S1x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Proof.Pre.lean ====
/- What the preconditions say of the memory: `triangle` fixes the two tables to the walk over the pairs
   `ki ≤ qi < 16`, and `real_scores` says besides that the queries and the keys are real numbers. -/
module

public import proofs.«01_k».proof.Defs
public import proofs.«01_k».proof.Proof.Gen.Kernel.Flash.Pins
public import proofs.«01_k».proof.Proof.Gen.KernelIdeal.Flash.Pins
public import proofs.«01_k».proof.Proof.Gen.Pre_real_scores
public import proofs.«01_k».proof.Proof.Gen.Pre_triangle
public import Idealize.ShloMosaic.Lib.ReduceAll
public import Idealize.ShloMosaic.Lib.ValueIdx
public import Idealize.ShloMosaic.PureOps.Ideal

@[expose] public section

set_option maxRecDepth 16384

noncomputable section

namespace Cert.Pre

open Idealize.ShloMosaic Idealize.ShloMosaic.ValueIdx Idealize.ShloMosaic.Host Idealize.SL.Sem

abbrev T136 : Shape := ⟨1, ![136]⟩

/-- One entry of the two tables as the precondition tests it: `0 ≤ k ≤ q < 16` and `2 n = q (q + 1) + 2 k`, on words. -/
def Entry (n : Nat) (q k : BitVec 32) : Prop :=
  IntOp.andi (IntOp.andi (IntOp.andi (IntOp.cmpi .sge k 0#32) (IntOp.cmpi .sle k q)) (IntOp.cmpi .slt q 16#32))
    (IntOp.cmpi .eq (IntOp.muli 2#32 (BitVec.ofNat 32 n)) (IntOp.addi (IntOp.muli q (IntOp.addi q 1#32)) (IntOp.muli 2#32 k))) = 1#1

theorem and_split (a b : BitVec 1) (h : IntOp.andi a b = 1#1) : a = 1#1 ∧ b = 1#1 := by
  revert h; revert a b; decide

theorem of_ofBool (b : Bool) (h : BitVec.ofBool b = 1#1) : b = true := by
  revert h; revert b; decide

/-- The entry's two words are small numbers in the order tested, on the parabola. -/
theorem Entry.small {n : Nat} {q k : BitVec 32} (h : Entry n q k) :
    ∃ a b : Fin 16, q = BitVec.ofNat 32 a.val ∧ k = BitVec.ofNat 32 b.val
      ∧ Entry n (BitVec.ofNat 32 a.val) (BitVec.ofNat 32 b.val) := by
  have h0 := h
  obtain ⟨h1, _⟩ := and_split _ _ h
  obtain ⟨h2, h3⟩ := and_split _ _ h1
  obtain ⟨h4, h5⟩ := and_split _ _ h2
  have e3 : q.toInt < 16 := by
    have := of_ofBool _ h3
    simpa [BitVec.slt] using this
  have e5 : k.toInt ≤ q.toInt := by
    have := of_ofBool _ h5
    simpa [BitVec.sle] using this
  have e4 : 0 ≤ k.toInt := by
    have := of_ofBool _ h4
    simpa [BitVec.sle] using this
  have hq : q.toNat < 16 := by
    have hq := q.isLt; rw [BitVec.toInt_eq_toNat_cond] at e3; have : 0 ≤ q.toInt := by omega
    rw [BitVec.toInt_eq_toNat_cond] at this; split at e3 <;> simp_all <;> omega
  have hk : k.toNat < 16 := by
    have hk := k.isLt; rw [BitVec.toInt_eq_toNat_cond] at e4; rw [BitVec.toInt_eq_toNat_cond, BitVec.toInt_eq_toNat_cond] at e5; split at e4 <;> split at e5 <;> omega
  refine ⟨⟨q.toNat, hq⟩, ⟨k.toNat, hk⟩, by simp, by simp, by simpa using h0⟩

instance (n : Nat) (q k : BitVec 32) : Decidable (Entry n q k) := by unfold Entry; infer_instance

/-- The generated tables are the ones the test fixes, entry by entry. -/
theorem tables_unique : ∀ n : Fin 136, ∀ a b : Fin 16, Entry n.val (BitVec.ofNat 32 a.val) (BitVec.ofNat 32 b.val) →
    Cert.KernelIdeal.Gen.pinT_0 0 (ix1 n) = BitVec.ofNat 32 a.val
      ∧ Cert.KernelIdeal.Gen.pinT_1 0 (ix1 n) = BitVec.ofNat 32 b.val := by
  decide +kernel

/-- Tables that pass the test at every entry are the generated ones. -/
theorem tables_eq (x0 x1 : T136.Idx → BitVec 32) (h : ∀ i : T136.Idx, Entry (i 0).val (x0 i) (x1 i)) :
    x0 = Cert.KernelIdeal.Gen.pinT_0 0 ∧ x1 = Cert.KernelIdeal.Gen.pinT_1 0 := by
  have key : ∀ i : T136.Idx, Cert.KernelIdeal.Gen.pinT_0 0 i = x0 i ∧ Cert.KernelIdeal.Gen.pinT_1 0 i = x1 i := by
    intro i
    obtain ⟨a, b, ha, hb, he⟩ := (h i).small
    have := tables_unique (i 0) a b he
    rw [ha, hb]
    have hi : i = ix1 (i 0) := by funext a; fin_cases a; rfl
    rw [hi]; exact this
  exact ⟨funext fun i => (key i).1.symm, funext fun i => (key i).2.symm⟩

instance : Subsingleton (Shape.Idx ⟨0, ![]⟩) := ⟨fun a b => funext fun i => i.elim0⟩

/-- `triangle` read: every entry passes. -/
theorem entries_of_triangle {F : FTy → Type} [FloatOps F] (x0 x1 : T136.Idx → BitVec 32)
    (x2 x3 : FVec F ⟨3, ![4, 8192, 1024]⟩ .bf16) (x4 x5 : FVec F ⟨3, ![4, 8192, 512]⟩ .bf16)
    (h : Cert.Pre_triangle.fn (F := F) x0 x1 x2 x3 x4 x5 = fun _ => 1#1) :
    ∀ i : T136.Idx, Entry (i 0).val (x0 i) (x1 i) := by
  intro i
  have e := congrFun h (fun a => a.elim0)
  exact reduce_andi_all _ _ _ _ _ e i

/-- An ordered less-than against the pattern of `+∞` that holds, as an inequality. -/
theorem lt_of_cmp (x : EReal) (h : Ideal.cmp .olt x (Ideal.ofBits .f32 0x7F800000#32) = 1#1) : x < (⊤ : EReal) := by
  have hb : Ideal.ofBits .f32 0x7F800000#32 = (⊤ : EReal) := by simp [Ideal.ofBits, Ideal.ieee]
  rw [hb] at h
  by_contra hc
  have : Ideal.cmp .olt x (⊤ : EReal) = 0#1 := by simp only [Ideal.cmp, decide_eq_false hc]; rfl
  rw [this] at h
  exact absurd h (by decide)

/-- `real_scores` read: every entry of the tables passes, and every query and key lies strictly below `⊤` in absolute value. -/
theorem entries_of_real_scores (x0 x1 : T136.Idx → BitVec 32)
    (x2 x3 : FVec Ideal ⟨3, ![4, 8192, 1024]⟩ .bf16) (x4 x5 : FVec Ideal ⟨3, ![4, 8192, 512]⟩ .bf16)
    (h : Cert.Pre_real_scores.fn (F := Ideal) x0 x1 x2 x3 x4 x5 = fun _ => 1#1) :
    (∀ i : T136.Idx, Entry (i 0).val (x0 i) (x1 i)) ∧ (∀ i, x2 i ≠ ⊤ ∧ x2 i ≠ ⊥) ∧ (∀ i, x3 i ≠ ⊤ ∧ x3 i ≠ ⊥) := by
  have e := congrFun h (fun a => a.elim0)
  obtain ⟨e1, e3⟩ := and_split _ _ e
  obtain ⟨e1, e2⟩ := and_split _ _ e1
  have fin : ∀ x : EReal, max x (-x) < (⊤ : EReal) → x ≠ ⊤ ∧ x ≠ ⊥ := by
    intro x hx
    constructor
    · rintro rfl; simp at hx
    · rintro rfl; simp at hx
  refine ⟨fun i => reduce_andi_all _ _ _ _ _ e1 i, fun i => ?_, fun i => ?_⟩
  · exact fin (x2 i) (lt_of_cmp (max (x2 i) (-(x2 i))) (reduce_andi_all _ _ _ _ _ e2 i))
  · exact fin (x3 i) (lt_of_cmp (max (x3 i) (-(x3 i))) (reduce_andi_all _ _ _ _ _ e3 i))

end Cert.Pre

namespace Cert.Kernel

open Idealize.ShloMosaic Idealize.SL.Sem

/-- The precondition pins the tables of the program at the bits. -/
theorem pinned_of_pre (m : (ℓ : Loc nD τ sig) → Buf (Elt Bits) ℓ) (h : Cert.Pre_Kernel m) : Gen.Pinned 0 m :=
  ⟨fun c => (Pre.tables_eq _ _ (Pre.entries_of_triangle _ _ _ _ _ _ (h c))).1,
   fun c => (Pre.tables_eq _ _ (Pre.entries_of_triangle _ _ _ _ _ _ (h c))).2⟩

end Cert.Kernel

namespace Cert.KernelIdeal

open Idealize.ShloMosaic Idealize.SL.Sem

/-- The precondition pins the tables of the program at the ideal numbers. -/
theorem pinned_of_pre (m : (ℓ : Loc nD τ sig) → Buf (Elt Ideal) ℓ) (h : Cert.Pre_KernelIdeal m) : Gen.Pinned 0 m :=
  ⟨fun c => (Pre.tables_eq _ _ (Pre.entries_of_triangle _ _ _ _ _ _ (h c))).1,
   fun c => (Pre.tables_eq _ _ (Pre.entries_of_triangle _ _ _ _ _ _ (h c))).2⟩

/-- So does the stronger precondition of the value claim. -/
theorem pinned_of_real (m : (ℓ : Loc nD τ sig) → Buf (Elt Ideal) ℓ) (h : Cert.Pre_KernelIdeal_real_scores m) : Gen.Pinned 0 m :=
  ⟨fun c => (Pre.tables_eq _ _ (Pre.entries_of_real_scores _ _ _ _ _ _ (h c)).1).1,
   fun c => (Pre.tables_eq _ _ (Pre.entries_of_real_scores _ _ _ _ _ _ (h c)).1).2⟩

end Cert.KernelIdeal

end
-- ==== Proof.Online.lean ====
/- The running softmax over the extended reals: a row's keys come in tiles; the maximum so far, the sum of the
   exponentials and the weighted sum of the values are carried from tile to tile, rescaled when the maximum moves. What is
   carried after the first `n` keys is what the plain softmax of those keys would hold, and the quotient at the end is the
   plain softmax's weighted sum. The values may be anything; the scores are real or `⊥` (masked). -/
module

public import Idealize.ShloMosaic.PureOps.Ideal

@[expose] public section

noncomputable section

namespace Cert.Online

open Idealize.ShloMosaic Finset

/-- The weight of a score under a maximum, as a real number: nothing for a masked score. -/
def wt (s m : EReal) : ℝ := if s = ⊥ then 0 else Real.exp (s.toReal - m.toReal)

theorem wt_nonneg (s m : EReal) : 0 ≤ wt s m := by
  unfold wt; split
  · exact le_rfl
  · exact (Real.exp_pos _).le

theorem exp_sub {s m : EReal} (hs : s ≠ ⊤) (hm : m ≠ ⊤) (hm' : m ≠ ⊥) : Ideal.exp (s - m) = (wt s m : EReal) := by
  lift m to ℝ using ⟨hm, hm'⟩
  induction s with
  | bot => rw [sub_eq_add_neg, EReal.bot_add]; simp [wt]
  | top => exact absurd rfl hs
  | coe s =>
    rw [← EReal.coe_sub]
    show ((Real.exp (s - m) : ℝ) : EReal) = _
    simp [wt]

/-- Moving the maximum rescales a weight by the exponential of the move. -/
theorem wt_move (s : EReal) (m m' : EReal) : wt m m' * wt s m = wt s m' ∨ m = ⊥ := by
  by_cases h : m = ⊥
  · exact Or.inr h
  · refine Or.inl ?_
    unfold wt
    rw [if_neg h]
    split
    · simp
    · rw [← Real.exp_add]; congr 1; ring

theorem coe_sum_real {ι : Type} (t : Finset ι) (f : ι → ℝ) : ((∑ i ∈ t, f i : ℝ) : EReal) = ∑ i ∈ t, (f i : EReal) := by
  classical
  induction t using Finset.induction_on with
  | empty => simp
  | insert a t ha ih => rw [sum_insert ha, sum_insert ha, EReal.coe_add, ih]

theorem mul_sum_real {ι : Type} (t : Finset ι) (f : ι → EReal) (c : ℝ) (hc : 0 ≤ c) :
    (c : EReal) * ∑ i ∈ t, f i = ∑ i ∈ t, (c : EReal) * f i := by
  classical
  induction t using Finset.induction_on with
  | empty => simp
  | insert a t ha ih =>
    rw [sum_insert ha, sum_insert ha, EReal.left_distrib_of_nonneg_of_ne_top (by exact_mod_cast hc) (EReal.coe_ne_top c), ih]

/-- What is carried after the first `n` keys. -/
structure Inv (S V : ℕ → EReal) (n : ℕ) (M L A : EReal) : Prop where
  top : M = (range n).sup S
  sum : L = ∑ k ∈ range n, Ideal.exp (S k - M)
  acc : A = ∑ k ∈ range n, Ideal.exp (S k - M) * V k

theorem Inv.zero (S V : ℕ → EReal) : Inv S V 0 ⊥ 0 0 := ⟨by simp, by simp, by simp⟩

theorem sup_ne_top {S : ℕ → EReal} (hS : ∀ k, S k ≠ ⊤) (n : ℕ) : (range n).sup S ≠ ⊤ := by
  refine ne_of_lt ((Finset.sup_lt_iff (bot_lt_top)).2 fun k _ => lt_of_le_of_ne le_top (hS k))

theorem sup_ne_bot {S : ℕ → EReal} (h0 : S 0 ≠ ⊥) {n : ℕ} (hn : 0 < n) : (range n).sup S ≠ ⊥ := by
  intro h
  have : S 0 ≤ (range n).sup S := Finset.le_sup (mem_range.2 hn)
  rw [h] at this
  exact h0 (le_bot_iff.1 this)

theorem sup_tile (S : ℕ → EReal) (n w : ℕ) :
    (range (n + w)).sup S = max ((range n).sup S) ((univ : Finset (Fin w)).sup fun c => S (n + c.val)) := by
  apply le_antisymm
  · refine Finset.sup_le fun k hk => ?_
    by_cases h : k < n
    · exact le_max_of_le_left (Finset.le_sup (f := S) (mem_range.2 h))
    · refine le_max_of_le_right ?_
      have hk := mem_range.1 hk
      have := Finset.le_sup (f := fun c : Fin w => S (n + c.val)) (mem_univ ⟨k - n, by omega⟩)
      simpa [Nat.add_sub_cancel' (Nat.le_of_not_lt h)] using this
  · refine max_le (Finset.sup_mono (range_mono (Nat.le_add_right n w))) (Finset.sup_le fun c _ => ?_)
    exact Finset.le_sup (f := S) (mem_range.2 (Nat.add_lt_add_left c.isLt n))

/-- One tile of `w` keys. -/
theorem Inv.step {S V : ℕ → EReal} (hS : ∀ k, S k ≠ ⊤) (h0 : S 0 ≠ ⊥) {n w : ℕ} (hw : 0 < w) {M L A : EReal} (h : Inv S V n M L A)
    {M' : EReal} (hM : M' = max M ((univ : Finset (Fin w)).sup fun c => S (n + c.val))) :
    Inv S V (n + w) M' (Ideal.exp (M - M') * L + ∑ c : Fin w, Ideal.exp (S (n + c.val) - M'))
      (A * Ideal.exp (M - M') + ∑ c : Fin w, Ideal.exp (S (n + c.val) - M') * V (n + c.val)) := by
  have hM' : M' = (range (n + w)).sup S := by rw [hM, h.top, sup_tile]
  have ht : M' ≠ ⊤ := hM' ▸ sup_ne_top hS _
  have hb : M' ≠ ⊥ := hM' ▸ sup_ne_bot h0 (by omega)
  have key : ∀ f : ℕ → EReal, Ideal.exp (M - M') * ∑ k ∈ range n, Ideal.exp (S k - M) * f k
      = ∑ k ∈ range n, Ideal.exp (S k - M') * f k := by
    intro f
    rcases Nat.eq_zero_or_pos n with rfl | hn
    · simp
    · have mt : M ≠ ⊤ := h.top ▸ sup_ne_top hS _
      have mb : M ≠ ⊥ := h.top ▸ sup_ne_bot h0 hn
      rw [exp_sub mt ht hb, mul_sum_real _ _ _ (wt_nonneg _ _)]
      refine sum_congr rfl fun k _ => ?_
      rw [exp_sub (hS k) mt mb, exp_sub (hS k) ht hb, ← mul_assoc, ← EReal.coe_mul, (wt_move (S k) M M').resolve_right mb]
  refine ⟨hM', ?_, ?_⟩
  · rw [sum_range_add, h.sum]
    have := key fun _ => 1
    simp only [mul_one] at this
    rw [this]; congr 1; exact (Finset.sum_range fun x => Ideal.exp (S (n + x) - M')).symm
  · rw [sum_range_add, h.acc, mul_comm, key V, Finset.sum_range (fun x => Ideal.exp (S (n + x) - M') * V (n + x))]

/-- The quotient after all the keys a row sees is the plain softmax's weighted sum over every key, masked ones included. -/
theorem Inv.quotient {S V : ℕ → EReal} (hS : ∀ k, S k ≠ ⊤) (h0 : S 0 ≠ ⊥) {n N : ℕ} (hn : 0 < n) (hN : n ≤ N)
    (hmask : ∀ k, n ≤ k → S k = ⊥) {M L A : EReal} (h : Inv S V n M L A) :
    Ideal.div A L = ∑ k ∈ range N, V k * Ideal.div (Ideal.exp (S k - (range N).sup S))
      (∑ j ∈ range N, Ideal.exp (S j - (range N).sup S)) := by
  have hM : (range N).sup S = M := by
    rw [h.top]
    refine le_antisymm (Finset.sup_le fun k _ => ?_) (Finset.sup_mono (range_mono hN))
    by_cases hk : k < n
    · exact Finset.le_sup (f := S) (mem_range.2 hk)
    · rw [hmask k (Nat.le_of_not_lt hk)]; exact bot_le
  have mt : M ≠ ⊤ := h.top ▸ sup_ne_top hS _
  have mb : M ≠ ⊥ := h.top ▸ sup_ne_bot h0 hn
  have hz : ∀ k, n ≤ k → wt (S k) M = 0 := fun k hk => by simp [wt, hmask k hk]
  have ext : ∀ f : ℕ → EReal, (∀ k, n ≤ k → f k = 0) → ∑ k ∈ range N, f k = ∑ k ∈ range n, f k := fun f hf =>
    (Finset.sum_subset (range_mono hN) fun k _ hk => hf k (by simpa using hk)).symm
  rw [hM, h.acc]
  have hL : L = ((∑ k ∈ range n, wt (S k) M : ℝ) : EReal) := by
    rw [h.sum, coe_sum_real]
    exact sum_congr rfl fun k _ => exp_sub (hS k) mt mb
  have hpos : 0 < ∑ k ∈ range n, wt (S k) M := by
    refine Finset.sum_pos' (fun k _ => wt_nonneg _ _) ⟨0, mem_range.2 hn, ?_⟩
    unfold wt; rw [if_neg h0]; exact Real.exp_pos _
  have hL' : ∑ j ∈ range N, Ideal.exp (S j - M) = L := by
    rw [ext _ fun k hk => by rw [exp_sub (hS k) mt mb, hz k hk]; rfl, h.sum]
  rw [hL', hL]
  generalize hR : (∑ k ∈ range n, wt (S k) M) = R at hpos
  have hne : ((R : ℝ) : EReal) ≠ 0 := by exact_mod_cast hpos.ne'
  have hdiv : ∀ x : EReal, Ideal.div x (R : EReal) = ((R⁻¹ : ℝ) : EReal) * x := fun x => by
    unfold Ideal.div; rw [if_neg hne, ← EReal.coe_inv, mul_comm]
  rw [hdiv, mul_sum_real _ _ _ (inv_nonneg.2 hpos.le)]
  simp only [hdiv]
  rw [ext _ fun k hk => by rw [exp_sub (hS k) mt mb, hz k hk]; simp]
  refine sum_congr rfl fun k _ => ?_
  rw [← mul_assoc, mul_comm]

end Cert.Online

end
-- ==== Proof.Head.lean ====
/- One head's update of the kernel body on its vectors — scores, running maximum, rescaling, running sum and running
   weighted sum — and what each holds at an index. -/
module

public import proofs.«01_k».proof.Proof.Gen.KernelIdeal
public import proofs.«01_k».proof.Proof.Gen.KernelIdeal.Skeleton
public import proofs.«01_k».proof.Proof.Online
public import Idealize.ShloMosaic.Lib.Pointwise
public import Idealize.ShloMosaic.Lib.WordCmp
public import Idealize.ShloMosaic.Lib.ValueIdx

@[expose] public section

set_option maxRecDepth 16384

noncomputable section

namespace Cert.KernelIdeal.Head

open Idealize.ShloMosaic Cert.KernelIdeal.Gen

/-- The scores of a tile: queries against keys. -/
def scores (q k : Vec Ideal S1x512x128 .bf16) : FVec Ideal S512x512 .f32 :=
  matmul dot_S512x128_S512x128_S512x512_1_1_0_0_n_n none
    (shapeCast S512x128 q shapeCasts_S1x512x128_S512x128 : FVec Ideal S512x128 .bf16)
    (shapeCast S512x128 k shapeCasts_S1x512x128_S512x128 : FVec Ideal S512x128 .bf16) (constant S512x512 .f32 0x00000000#32)

/-- The keys a query of the same tile sees: those not after it. -/
def keep : IVec S512x512 1 :=
  cmpi .sle (iota .tc S512x512 32 [1] iota_S512x512_d1_w32) (iota .tc S512x512 32 [0] iota_S512x512_d0_w32)

/-- The scores of the tile on the diagonal: the keys after the query masked. -/
def masked (s : FVec Ideal S512x512 .f32) : FVec Ideal S512x512 .f32 :=
  select keep s (broadcast S512x512 (Named.named κ "masked" 0xF149F2CA#32 : Ideal .f32))

/-- The running maximum after the tile. -/
def top (s : FVec Ideal S512x512 .f32) (m : Vec Ideal S1x512x128 .f32) : FVec Ideal S512x128 .f32 :=
  maximumf (shapeCast S512x128 m shapeCasts_S1x512x128_S512x128 : FVec Ideal S512x128 .f32)
    (broadcastTo S512x128 (shapeCast S512x1
      (multiReduction .maximumf [1] S512 s 0xFF800000#32 reduces_S512x512_S512 (.inl rfl) rfl) shapeCasts_S512_S512x1)
      broadcasts_S512x1_S512x128)

/-- The weights of the tile under that maximum. -/
def weights (s : FVec Ideal S512x512 .f32) (t : FVec Ideal S512x128 .f32) : FVec Ideal S512x512 .f32 :=
  exp (subf s (concatenate S512x512 1 [⟨S512x128, t⟩, ⟨S512x128, t⟩, ⟨S512x128, t⟩, ⟨S512x128, t⟩]
    concatenates_S512x128_S512x128_S512x128_S512x128_S512x512_d1))

/-- The factor by which what was carried is rescaled. -/
def factor (m : Vec Ideal S1x512x128 .f32) (t : FVec Ideal S512x128 .f32) : FVec Ideal S512x128 .f32 :=
  exp (subf (shapeCast S512x128 m shapeCasts_S1x512x128_S512x128 : FVec Ideal S512x128 .f32) t)

/-- The maximum as stored. -/
def newM (s : FVec Ideal S512x512 .f32) (m : Vec Ideal S1x512x128 .f32) : FVec Ideal S1x512x128 .f32 :=
  shapeCast S1x512x128 (top s m) shapeCasts_S512x128_S1x512x128

/-- The sum of the weights as stored. -/
def newL (s : FVec Ideal S512x512 .f32) (m l : Vec Ideal S1x512x128 .f32) : FVec Ideal S1x512x128 .f32 :=
  shapeCast S1x512x128 (addf (mulf (factor m (top s m)) (shapeCast S512x128 l shapeCasts_S1x512x128_S512x128 : FVec Ideal S512x128 .f32))
    (broadcastTo S512x128 (shapeCast S512x1
      (multiReduction .add [1] S512 (weights s (top s m)) 0x00000000#32 reduces_S512x512_S512 (.inl rfl) rfl) shapeCasts_S512_S512x1)
      broadcasts_S512x1_S512x128)) shapeCasts_S512x128_S1x512x128

/-- The weighted sum of the values as stored. -/
def newA (s : FVec Ideal S512x512 .f32) (m a : Vec Ideal S1x512x128 .f32) (v : Vec Ideal S1x512x128 .bf16) : FVec Ideal S1x512x128 .f32 :=
  shapeCast S1x512x128 (addf (mulf (shapeCast S512x128 a shapeCasts_S1x512x128_S512x128 : FVec Ideal S512x128 .f32) (factor m (top s m)))
    (matmul dot_S512x512_S512x128_S512x128_1_0_0_1_n_n none (truncf .bf16 (weights s (top s m)) bitsLt_bf16_f32)
      (shapeCast S512x128 v shapeCasts_S1x512x128_S512x128 : FVec Ideal S512x128 .bf16) (constant S512x128 .f32 0x00000000#32)))
    shapeCasts_S512x128_S1x512x128

theorem scores_apply (q k : Vec Ideal S1x512x128 .bf16) (r c : Fin 512) :
    scores q k (ix2 r c) = ∑ e : Fin 128, q (ix3 0 r e) * k (ix3 0 c e) := by
  pointwise [scores]

theorem sle_small (c r : Fin 512) :
    IntOp.cmpi .sle (BitVec.ofNat 32 c.val) (BitVec.ofNat 32 r.val) = BitVec.ofBool (decide (c ≤ r)) := by
  rw [WordCmp.cmpi_sle_ofNat (by have := c.isLt; omega) (by have := r.isLt; omega)]
  rfl

theorem masked_apply (s : FVec Ideal S512x512 .f32) (r c : Fin 512) :
    masked s (ix2 r c) = if c ≤ r then s (ix2 r c) else ⊥ := by
  pointwise [masked, keep]
  have hm : (Named.named κ "masked" 0xF149F2CA#32 : Ideal .f32) = ⊥ := IdealRules.named_const.ideal_named_scalar _ _ _ _ rfl
  rw [hm]
  rw [sle_small]
  by_cases h : c ≤ r
  · rw [if_pos h, decide_eq_true h]; rfl
  · rw [if_neg h, decide_eq_false h]; rfl

theorem top_apply (s : FVec Ideal S512x512 .f32) (m : Vec Ideal S1x512x128 .f32) (r : Fin 512) (x : Fin 128) :
    top s m (ix2 r x) = max (m (ix3 0 r x)) ((Finset.univ : Finset (Fin 512)).sup fun c => s (ix2 r c)) := by
  pointwise [top]
  have hb : Ideal.ofBits .f32 0xFF800000#32 = (⊥ : EReal) := by simp [Ideal.ofBits, Ideal.ieee]
  rw [hb]; rfl

theorem weights_apply (s : FVec Ideal S512x512 .f32) (t : FVec Ideal S512x128 .f32) (r c : Fin 512) :
    weights s t (ix2 r c) = Ideal.exp (s (ix2 r c) - t (ix2 r ⟨c.val % 128, Nat.mod_lt _ (by decide)⟩)) := by
  pointwise [weights]
  congr 2
  have := c.isLt
  split
  · congr 2; apply Fin.ext; show c.val = c.val % 128; omega
  · split
    · congr 2; apply Fin.ext; show c.val - 128 = c.val % 128; omega
    · split
      · congr 2; apply Fin.ext; show c.val - 128 - 128 = c.val % 128; omega
      · congr 2; apply Fin.ext; show c.val - 128 - 128 - 128 = c.val % 128; omega

theorem factor_apply (m : Vec Ideal S1x512x128 .f32) (t : FVec Ideal S512x128 .f32) (r : Fin 512) (x : Fin 128) :
    factor m t (ix2 r x) = Ideal.exp (m (ix3 0 r x) - t (ix2 r x)) := by
  pointwise [factor]

theorem newM_apply (s : FVec Ideal S512x512 .f32) (m : Vec Ideal S1x512x128 .f32) (r : Fin 512) (x : Fin 128) :
    newM s m (ix3 0 r x) = top s m (ix2 r x) := by
  pointwise [newM]

theorem newL_apply (s : FVec Ideal S512x512 .f32) (m l : Vec Ideal S1x512x128 .f32) (r : Fin 512) (x : Fin 128) :
    newL s m l (ix3 0 r x) = factor m (top s m) (ix2 r x) * l (ix3 0 r x) + ∑ c : Fin 512, weights s (top s m) (ix2 r c) := by
  pointwise [newL]

theorem newA_apply (s : FVec Ideal S512x512 .f32) (m a : Vec Ideal S1x512x128 .f32) (v : Vec Ideal S1x512x128 .bf16) (r : Fin 512) (x : Fin 128) :
    newA s m a v (ix3 0 r x) = a (ix3 0 r x) * factor m (top s m) (ix2 r x)
      + ∑ c : Fin 512, weights s (top s m) (ix2 r c) * v (ix3 0 c x) := by
  pointwise [newA]

end Cert.KernelIdeal.Head

end
-- ==== Proof.Planes.lean ====
/- The scratch arrays as lists of stores, one plane per head: what such a list reads at an index, what a load of one
   plane reads, and what a head's window of a block holds. -/
module

public import proofs.«01_k».proof.Proof.Gen.KernelIdeal.Flash
public import proofs.«01_k».proof.Proof.Head
public import Idealize.ShloMosaic.Lib.VecWindow
public import Idealize.ShloMosaic.Lib.WritesUnit

@[expose] public section

set_option maxRecDepth 16384

noncomputable section

namespace Cert.KernelIdeal.Head

open Idealize.ShloMosaic Cert.KernelIdeal.Gen

/-- A store or a load of plane `n` of a scratch array. -/
abbrev plane (n : ℕ) (h : ∀ a, (![n, 0, 0] : Fin 3 → ℕ) a + S1x512x128.size a ≤ S8x512x128.size a) : Rect S8x512x128 :=
  Rect.unit ![n, 0, 0] S1x512x128.size h

/-- Every store of a scratch array in one list, the newest (head 7) first. -/
def planes (f : Fin 8 → FVec Ideal S1x512x128 .f32) : List (View.Piece (Elt Ideal) S8x512x128 .f32) :=
  [⟨plane 7 inb_S8x512x128_S1x512x128_7_0_0, f 7⟩, ⟨plane 6 inb_S8x512x128_S1x512x128_6_0_0, f 6⟩,
   ⟨plane 5 inb_S8x512x128_S1x512x128_5_0_0, f 5⟩, ⟨plane 4 inb_S8x512x128_S1x512x128_4_0_0, f 4⟩,
   ⟨plane 3 inb_S8x512x128_S1x512x128_3_0_0, f 3⟩, ⟨plane 2 inb_S8x512x128_S1x512x128_2_0_0, f 2⟩,
   ⟨plane 1 inb_S8x512x128_S1x512x128_1_0_0, f 1⟩, ⟨plane 0 inb_S8x512x128_S1x512x128_0_0_0, f 0⟩]

section Lists

variable {sig : RefSig} {κ : Kind} {sp : Space} (v : View sig κ sp S8x512x128 .f32)

theorem read_plane (g : v.ty.Contents (Elt Ideal)) (n : ℕ) (hn) (w : FVec Ideal S1x512x128 .f32)
    (L : List (View.Piece (Elt Ideal) S8x512x128 .f32)) (h : Fin 8) (r : Fin 512) (x : Fin 128) :
    v.read (Elt Ideal) (v.writes (Elt Ideal) g (⟨plane n hn, w⟩ :: L)) (ix3 h r x)
      = if h.val = n then w (ix3 0 r x) else v.read (Elt Ideal) (v.writes (Elt Ideal) g L) (ix3 h r x) := by
  by_cases e : h.val = n
  · rw [if_pos e]
    refine View.read_writes_cons_unit_of_mem v g hn w L (ix3 h r x) (ix3 0 r x) rfl fun a => ?_
    fin_cases a
    · show h.val = n + 0; omega
    · show r.val = 0 + r.val; omega
    · show x.val = 0 + x.val; omega
  · rw [if_neg e]
    refine View.read_writes_cons_unit_of_not_mem v g hn w L (ix3 h r x) rfl 0 ?_
    show h.val < n ∨ n + 1 ≤ h.val
    omega

/-- A list that ends in a store of every plane reads the head's store at each index. -/
theorem read_planes (g : v.ty.Contents (Elt Ideal)) (f : Fin 8 → FVec Ideal S1x512x128 .f32)
    (L : List (View.Piece (Elt Ideal) S8x512x128 .f32)) (h : Fin 8) (r : Fin 512) (x : Fin 128) :
    v.read (Elt Ideal) (v.writes (Elt Ideal) g (planes f ++ L)) (ix3 h r x) = f h (ix3 0 r x) := by
  simp only [planes, List.cons_append, List.nil_append, read_plane]
  fin_cases h <;> rfl

theorem plane_idx (n : Fin 8) (hn) (y : S1x512x128.Idx) : (plane n.val hn).toLoadRect.idx y = ix3 n (y 1) (y 2) := by
  funext a
  fin_cases a <;> apply Fin.ext
  · show n.val + 1 * (y 0).val = n.val; have : (y 0).val < 1 := (y 0).isLt; omega
  · show 0 + 1 * (y 1).val = (y 1).val; omega
  · show 0 + 1 * (y 2).val = (y 2).val; omega

/-- A load of a plane not yet stored is a load of what was there before the newest store. -/
theorem load_skip (n k : ℕ) (hn hk) (w : FVec Ideal S1x512x128 .f32) (L : List (View.Piece (Elt Ideal) S8x512x128 .f32)) (h : k < 8) (e : k ≠ n) :
    v.readCov (⟨plane n hn, w⟩ :: L) (plane k hk).toLoadRect = v.readCov L (plane k hk).toLoadRect := by
  funext y
  have e1 := plane_idx ⟨k, h⟩ hk y
  exact (congrArg (v.read _ _) e1).trans ((read_plane v _ n hn w L ⟨k, h⟩ (y 1) (y 2)).trans
    ((if_neg e).trans (congrArg (v.read _ _) e1).symm))

/-- A load of a plane from a list that stores every plane is the head's store. -/
theorem load_planes (f : Fin 8 → FVec Ideal S1x512x128 .f32) (L : List (View.Piece (Elt Ideal) S8x512x128 .f32)) (k : Fin 8) (hk) :
    v.readCov (planes f ++ L) (plane k.val hk).toLoadRect = f k := by
  funext y
  refine (congrArg (v.read _ _) (plane_idx k hk y)).trans ((read_planes v _ f L k (y 1) (y 2)).trans (congrArg (f k) ?_))
  funext a
  fin_cases a
  · apply Fin.ext; show 0 = (y 0).val; have : (y 0).val < 1 := (y 0).isLt; omega
  · rfl
  · rfl

theorem read_fill (g : v.ty.Contents (Elt Ideal)) (h0) (a : EReal) (i : S8x512x128.Idx) :
    v.read (Elt Ideal) (v.writes (Elt Ideal) g
      [(⟨Rect.unit (s := S8x512x128) ![0, 0, 0] S8x512x128.size h0, fun _ => a⟩ : View.Piece (Elt Ideal) S8x512x128 .f32)]) i = a :=
  View.read_writes_cons_unit_of_mem v g h0 (fun _ => a) [] i i rfl fun b => by
    fin_cases b <;> exact (Nat.zero_add _).symm

/-- A load of a plane after a store of one number everywhere. -/
theorem load_fill (k : ℕ) (hk h0) (a : EReal) :
    v.readCov [(⟨Rect.unit (s := S8x512x128) ![0, 0, 0] S8x512x128.size h0, fun _ => a⟩ : View.Piece (Elt Ideal) S8x512x128 .f32)] (plane k hk).toLoadRect
      = (fun _ => a : FVec Ideal S1x512x128 .f32) :=
  funext fun y => read_fill v _ h0 a _

end Lists

/-- The window of head `h` in a block of queries or keys. -/
def qk (x : Vec Ideal S1x512x1024 .bf16) (h : Fin 8) : Vec Ideal S1x512x128 .bf16 :=
  fun y => x (ix3 0 (y 1) ⟨h.val * 128 + (y 2).val, by have : (y 2).val < 128 := (y 2).isLt; have := h.isLt; omega⟩)

/-- The window of pair `j` of heads in a block of values or gates. -/
def pair (x : Vec Ideal S1x512x512 .bf16) (j : Fin 4) : Vec Ideal S1x512x128 .bf16 :=
  fun y => x (ix3 0 (y 1) ⟨j.val * 128 + (y 2).val, by have : (y 2).val < 128 := (y 2).isLt; have := j.isLt; omega⟩)

/-- The plane of head `h` of a scratch array. -/
def pl (x : S8x512x128.Idx → EReal) (h : Fin 8) : FVec Ideal S1x512x128 .f32 := fun y => x (ix3 h (y 1) (y 2))

section Loads

variable {sig : RefSig} {κ : Kind} {sp : Space}

theorem load_qk (v : View sig κ sp S1x512x1024 .bf16) (x : Vec Ideal S1x512x1024 .bf16) (h : Fin 8) (n : ℕ) (e : n = h.val * 128) (inb) :
    v.readAt (Elt Ideal) (Rect.unit (s := S1x512x1024) ![0, 0, n] S1x512x128.size inb).toLoadRect (v.rep x) = qk x h := by
  subst e
  rw [View.readAt_eq_ld, View.read_rep]
  funext y
  refine congrArg x (funext fun a => ?_)
  fin_cases a <;> apply Fin.ext
  · show 0 + 1 * (y 0).val = 0; have : (y 0).val < 1 := (y 0).isLt; omega
  · show 0 + 1 * (y 1).val = (y 1).val; omega
  · show h.val * 128 + 1 * (y 2).val = h.val * 128 + (y 2).val; omega

theorem load_pair (v : View sig κ sp S1x512x512 .bf16) (x : Vec Ideal S1x512x512 .bf16) (j : Fin 4) (n : ℕ) (e : n = j.val * 128) (inb) :
    v.readAt (Elt Ideal) (Rect.unit (s := S1x512x512) ![0, 0, n] S1x512x128.size inb).toLoadRect (v.rep x) = pair x j := by
  subst e
  rw [View.readAt_eq_ld, View.read_rep]
  funext y
  refine congrArg x (funext fun a => ?_)
  fin_cases a <;> apply Fin.ext
  · show 0 + 1 * (y 0).val = 0; have : (y 0).val < 1 := (y 0).isLt; omega
  · show 0 + 1 * (y 1).val = (y 1).val; omega
  · show j.val * 128 + 1 * (y 2).val = j.val * 128 + (y 2).val; omega

end Loads

/-- A load of plane `h` of a scratch array left by the point before. -/
theorem load_prev {sig : RefSig} {κ : Kind} {sp : Space} (v : View sig κ sp S8x512x128 .f32) (f : v.ty.Contents (Elt Ideal)) (h : Fin 8) (n : ℕ) (e : n = h.val) (inb) :
    v.readAt (Elt Ideal) (Rect.unit (s := S8x512x128) ![n, 0, 0] S1x512x128.size inb).toLoadRect f = pl (v.read (Elt Ideal) f) h := by
  subst e
  funext y
  exact congrArg (v.read _ f) (plane_idx h inb y)

/-- Head `h`'s scores in a tile off the diagonal. -/
def sc (on : Prop) [Decidable on] (x0 x1 : Vec Ideal S1x512x1024 .bf16) (h : Fin 8) : FVec Ideal S512x512 .f32 :=
  if on then masked (scores (qk x0 h) (qk x1 h)) else scores (qk x0 h) (qk x1 h)

/-- The pair a head belongs to. -/
def half (h : Fin 8) : Fin 4 := ⟨h.val / 2, by have := h.isLt; omega⟩

end Cert.KernelIdeal.Head

end
-- ==== Proof.Carry.lean ====
/- The scratch arrays after a grid point that carries on from the point before it: each head's plane is the update
   of that head's plane. -/
module

public import proofs.«01_k».proof.Proof.Gen.KernelIdeal.Flash
public import proofs.«01_k».proof.Proof.Planes

@[expose] public section

set_option maxRecDepth 16384

noncomputable section

namespace Cert.KernelIdeal.Head

open Idealize.ShloMosaic Cert.KernelIdeal.Gen

variable (c : Dev nD) (arg4 arg5 : Memref sig .tc .vmem S1x512x1024 .bf16) (arg6 : Memref sig .tc .vmem S1x512x512 .bf16) (x0 x1 : Vec Ideal S1x512x1024 .bf16) (x2 : Vec Ideal S1x512x512 .bf16)
  (xa0 : Buf (Elt Ideal) (c.tc.loc cc0_scratch0)) (xa1 : Buf (Elt Ideal) (c.tc.loc cc0_scratch1))
  (xa2 : Buf (Elt Ideal) (c.tc.loc cc0_scratch2))

/-- The maxima stored off the diagonal. -/
theorem D_newM : kernelRun0_D.sl.HS0_8 c arg4 arg5 x0 x1 xa0
    = planes (fun h => newM (sc False x0 x1 h) (pl (scM0_0.view.read (Elt Ideal) xa0) h)) := by
  have e : kernelRun0_D.sl.HS0_8 c arg4 arg5 x0 x1 xa0 =
      [⟨plane 7 inb_S8x512x128_S1x512x128_7_0_0, newM (scores (View.readAt (Elt Ideal) arg4.view (Rect.unit (s := S1x512x1024) ![0, 0, 896] S1x512x128.size inb_S1x512x1024_S1x512x128_0_0_896).toLoadRect (arg4.view.rep x0)) (View.readAt (Elt Ideal) arg5.view (Rect.unit (s := S1x512x1024) ![0, 0, 896] S1x512x128.size inb_S1x512x1024_S1x512x128_0_0_896).toLoadRect (arg5.view.rep x1))) (View.readAt (Elt Ideal) scM0_0.view (Rect.unit (s := S8x512x128) ![7, 0, 0] S1x512x128.size inb_S8x512x128_S1x512x128_7_0_0).toLoadRect xa0)⟩,
      ⟨plane 6 inb_S8x512x128_S1x512x128_6_0_0, newM (scores (View.readAt (Elt Ideal) arg4.view (Rect.unit (s := S1x512x1024) ![0, 0, 768] S1x512x128.size inb_S1x512x1024_S1x512x128_0_0_768).toLoadRect (arg4.view.rep x0)) (View.readAt (Elt Ideal) arg5.view (Rect.unit (s := S1x512x1024) ![0, 0, 768] S1x512x128.size inb_S1x512x1024_S1x512x128_0_0_768).toLoadRect (arg5.view.rep x1))) (View.readAt (Elt Ideal) scM0_0.view (Rect.unit (s := S8x512x128) ![6, 0, 0] S1x512x128.size inb_S8x512x128_S1x512x128_6_0_0).toLoadRect xa0)⟩,
      ⟨plane 5 inb_S8x512x128_S1x512x128_5_0_0, newM (scores (View.readAt (Elt Ideal) arg4.view (Rect.unit (s := S1x512x1024) ![0, 0, 640] S1x512x128.size inb_S1x512x1024_S1x512x128_0_0_640).toLoadRect (arg4.view.rep x0)) (View.readAt (Elt Ideal) arg5.view (Rect.unit (s := S1x512x1024) ![0, 0, 640] S1x512x128.size inb_S1x512x1024_S1x512x128_0_0_640).toLoadRect (arg5.view.rep x1))) (View.readAt (Elt Ideal) scM0_0.view (Rect.unit (s := S8x512x128) ![5, 0, 0] S1x512x128.size inb_S8x512x128_S1x512x128_5_0_0).toLoadRect xa0)⟩,
      ⟨plane 4 inb_S8x512x128_S1x512x128_4_0_0, newM (scores (View.readAt (Elt Ideal) arg4.view (Rect.unit (s := S1x512x1024) ![0, 0, 512] S1x512x128.size inb_S1x512x1024_S1x512x128_0_0_512).toLoadRect (arg4.view.rep x0)) (View.readAt (Elt Ideal) arg5.view (Rect.unit (s := S1x512x1024) ![0, 0, 512] S1x512x128.size inb_S1x512x1024_S1x512x128_0_0_512).toLoadRect (arg5.view.rep x1))) (View.readAt (Elt Ideal) scM0_0.view (Rect.unit (s := S8x512x128) ![4, 0, 0] S1x512x128.size inb_S8x512x128_S1x512x128_4_0_0).toLoadRect xa0)⟩,
      ⟨plane 3 inb_S8x512x128_S1x512x128_3_0_0, newM (scores (View.readAt (Elt Ideal) arg4.view (Rect.unit (s := S1x512x1024) ![0, 0, 384] S1x512x128.size inb_S1x512x1024_S1x512x128_0_0_384).toLoadRect (arg4.view.rep x0)) (View.readAt (Elt Ideal) arg5.view (Rect.unit (s := S1x512x1024) ![0, 0, 384] S1x512x128.size inb_S1x512x1024_S1x512x128_0_0_384).toLoadRect (arg5.view.rep x1))) (View.readAt (Elt Ideal) scM0_0.view (Rect.unit (s := S8x512x128) ![3, 0, 0] S1x512x128.size inb_S8x512x128_S1x512x128_3_0_0).toLoadRect xa0)⟩,
      ⟨plane 2 inb_S8x512x128_S1x512x128_2_0_0, newM (scores (View.readAt (Elt Ideal) arg4.view (Rect.unit (s := S1x512x1024) ![0, 0, 256] S1x512x128.size inb_S1x512x1024_S1x512x128_0_0_256).toLoadRect (arg4.view.rep x0)) (View.readAt (Elt Ideal) arg5.view (Rect.unit (s := S1x512x1024) ![0, 0, 256] S1x512x128.size inb_S1x512x1024_S1x512x128_0_0_256).toLoadRect (arg5.view.rep x1))) (View.readAt (Elt Ideal) scM0_0.view (Rect.unit (s := S8x512x128) ![2, 0, 0] S1x512x128.size inb_S8x512x128_S1x512x128_2_0_0).toLoadRect xa0)⟩,
      ⟨plane 1 inb_S8x512x128_S1x512x128_1_0_0, newM (scores (View.readAt (Elt Ideal) arg4.view (Rect.unit (s := S1x512x1024) ![0, 0, 128] S1x512x128.size inb_S1x512x1024_S1x512x128_0_0_128).toLoadRect (arg4.view.rep x0)) (View.readAt (Elt Ideal) arg5.view (Rect.unit (s := S1x512x1024) ![0, 0, 128] S1x512x128.size inb_S1x512x1024_S1x512x128_0_0_128).toLoadRect (arg5.view.rep x1))) (View.readAt (Elt Ideal) scM0_0.view (Rect.unit (s := S8x512x128) ![1, 0, 0] S1x512x128.size inb_S8x512x128_S1x512x128_1_0_0).toLoadRect xa0)⟩,
      ⟨plane 0 inb_S8x512x128_S1x512x128_0_0_0, newM (scores (View.readAt (Elt Ideal) arg4.view (Rect.unit (s := S1x512x1024) ![0, 0, 0] S1x512x128.size inb_S1x512x1024_S1x512x128_0_0_0).toLoadRect (arg4.view.rep x0)) (View.readAt (Elt Ideal) arg5.view (Rect.unit (s := S1x512x1024) ![0, 0, 0] S1x512x128.size inb_S1x512x1024_S1x512x128_0_0_0).toLoadRect (arg5.view.rep x1))) (View.readAt (Elt Ideal) scM0_0.view (Rect.unit (s := S8x512x128) ![0, 0, 0] S1x512x128.size inb_S8x512x128_S1x512x128_0_0_0).toLoadRect xa0)⟩] := rfl
  rw [e]
  simp only [load_qk arg4.view x0 0 0 rfl, load_qk arg5.view x1 0 0 rfl, load_prev scM0_0.view xa0 0 0 rfl, load_qk arg4.view x0 1 128 rfl, load_qk arg5.view x1 1 128 rfl, load_prev scM0_0.view xa0 1 1 rfl, load_qk arg4.view x0 2 256 rfl, load_qk arg5.view x1 2 256 rfl, load_prev scM0_0.view xa0 2 2 rfl, load_qk arg4.view x0 3 384 rfl, load_qk arg5.view x1 3 384 rfl, load_prev scM0_0.view xa0 3 3 rfl, load_qk arg4.view x0 4 512 rfl, load_qk arg5.view x1 4 512 rfl, load_prev scM0_0.view xa0 4 4 rfl, load_qk arg4.view x0 5 640 rfl, load_qk arg5.view x1 5 640 rfl, load_prev scM0_0.view xa0 5 5 rfl, load_qk arg4.view x0 6 768 rfl, load_qk arg5.view x1 6 768 rfl, load_prev scM0_0.view xa0 6 6 rfl, load_qk arg4.view x0 7 896 rfl, load_qk arg5.view x1 7 896 rfl, load_prev scM0_0.view xa0 7 7 rfl]
  rfl

/-- The sums stored off the diagonal. -/
theorem D_newL : kernelRun0_D.sl.HS1_8 c arg4 arg5 x0 x1 xa0 xa1
    = planes (fun h => newL (sc False x0 x1 h) (pl (scM0_0.view.read (Elt Ideal) xa0) h) (pl (scM0_1.view.read (Elt Ideal) xa1) h)) := by
  have e : kernelRun0_D.sl.HS1_8 c arg4 arg5 x0 x1 xa0 xa1 =
      [⟨plane 7 inb_S8x512x128_S1x512x128_7_0_0, newL (scores (View.readAt (Elt Ideal) arg4.view (Rect.unit (s := S1x512x1024) ![0, 0, 896] S1x512x128.size inb_S1x512x1024_S1x512x128_0_0_896).toLoadRect (arg4.view.rep x0)) (View.readAt (Elt Ideal) arg5.view (Rect.unit (s := S1x512x1024) ![0, 0, 896] S1x512x128.size inb_S1x512x1024_S1x512x128_0_0_896).toLoadRect (arg5.view.rep x1))) (View.readAt (Elt Ideal) scM0_0.view (Rect.unit (s := S8x512x128) ![7, 0, 0] S1x512x128.size inb_S8x512x128_S1x512x128_7_0_0).toLoadRect xa0) (View.readAt (Elt Ideal) scM0_1.view (Rect.unit (s := S8x512x128) ![7, 0, 0] S1x512x128.size inb_S8x512x128_S1x512x128_7_0_0).toLoadRect xa1)⟩,
      ⟨plane 6 inb_S8x512x128_S1x512x128_6_0_0, newL (scores (View.readAt (Elt Ideal) arg4.view (Rect.unit (s := S1x512x1024) ![0, 0, 768] S1x512x128.size inb_S1x512x1024_S1x512x128_0_0_768).toLoadRect (arg4.view.rep x0)) (View.readAt (Elt Ideal) arg5.view (Rect.unit (s := S1x512x1024) ![0, 0, 768] S1x512x128.size inb_S1x512x1024_S1x512x128_0_0_768).toLoadRect (arg5.view.rep x1))) (View.readAt (Elt Ideal) scM0_0.view (Rect.unit (s := S8x512x128) ![6, 0, 0] S1x512x128.size inb_S8x512x128_S1x512x128_6_0_0).toLoadRect xa0) (View.readAt (Elt Ideal) scM0_1.view (Rect.unit (s := S8x512x128) ![6, 0, 0] S1x512x128.size inb_S8x512x128_S1x512x128_6_0_0).toLoadRect xa1)⟩,
      ⟨plane 5 inb_S8x512x128_S1x512x128_5_0_0, newL (scores (View.readAt (Elt Ideal) arg4.view (Rect.unit (s := S1x512x1024) ![0, 0, 640] S1x512x128.size inb_S1x512x1024_S1x512x128_0_0_640).toLoadRect (arg4.view.rep x0)) (View.readAt (Elt Ideal) arg5.view (Rect.unit (s := S1x512x1024) ![0, 0, 640] S1x512x128.size inb_S1x512x1024_S1x512x128_0_0_640).toLoadRect (arg5.view.rep x1))) (View.readAt (Elt Ideal) scM0_0.view (Rect.unit (s := S8x512x128) ![5, 0, 0] S1x512x128.size inb_S8x512x128_S1x512x128_5_0_0).toLoadRect xa0) (View.readAt (Elt Ideal) scM0_1.view (Rect.unit (s := S8x512x128) ![5, 0, 0] S1x512x128.size inb_S8x512x128_S1x512x128_5_0_0).toLoadRect xa1)⟩,
      ⟨plane 4 inb_S8x512x128_S1x512x128_4_0_0, newL (scores (View.readAt (Elt Ideal) arg4.view (Rect.unit (s := S1x512x1024) ![0, 0, 512] S1x512x128.size inb_S1x512x1024_S1x512x128_0_0_512).toLoadRect (arg4.view.rep x0)) (View.readAt (Elt Ideal) arg5.view (Rect.unit (s := S1x512x1024) ![0, 0, 512] S1x512x128.size inb_S1x512x1024_S1x512x128_0_0_512).toLoadRect (arg5.view.rep x1))) (View.readAt (Elt Ideal) scM0_0.view (Rect.unit (s := S8x512x128) ![4, 0, 0] S1x512x128.size inb_S8x512x128_S1x512x128_4_0_0).toLoadRect xa0) (View.readAt (Elt Ideal) scM0_1.view (Rect.unit (s := S8x512x128) ![4, 0, 0] S1x512x128.size inb_S8x512x128_S1x512x128_4_0_0).toLoadRect xa1)⟩,
      ⟨plane 3 inb_S8x512x128_S1x512x128_3_0_0, newL (scores (View.readAt (Elt Ideal) arg4.view (Rect.unit (s := S1x512x1024) ![0, 0, 384] S1x512x128.size inb_S1x512x1024_S1x512x128_0_0_384).toLoadRect (arg4.view.rep x0)) (View.readAt (Elt Ideal) arg5.view (Rect.unit (s := S1x512x1024) ![0, 0, 384] S1x512x128.size inb_S1x512x1024_S1x512x128_0_0_384).toLoadRect (arg5.view.rep x1))) (View.readAt (Elt Ideal) scM0_0.view (Rect.unit (s := S8x512x128) ![3, 0, 0] S1x512x128.size inb_S8x512x128_S1x512x128_3_0_0).toLoadRect xa0) (View.readAt (Elt Ideal) scM0_1.view (Rect.unit (s := S8x512x128) ![3, 0, 0] S1x512x128.size inb_S8x512x128_S1x512x128_3_0_0).toLoadRect xa1)⟩,
      ⟨plane 2 inb_S8x512x128_S1x512x128_2_0_0, newL (scores (View.readAt (Elt Ideal) arg4.view (Rect.unit (s := S1x512x1024) ![0, 0, 256] S1x512x128.size inb_S1x512x1024_S1x512x128_0_0_256).toLoadRect (arg4.view.rep x0)) (View.readAt (Elt Ideal) arg5.view (Rect.unit (s := S1x512x1024) ![0, 0, 256] S1x512x128.size inb_S1x512x1024_S1x512x128_0_0_256).toLoadRect (arg5.view.rep x1))) (View.readAt (Elt Ideal) scM0_0.view (Rect.unit (s := S8x512x128) ![2, 0, 0] S1x512x128.size inb_S8x512x128_S1x512x128_2_0_0).toLoadRect xa0) (View.readAt (Elt Ideal) scM0_1.view (Rect.unit (s := S8x512x128) ![2, 0, 0] S1x512x128.size inb_S8x512x128_S1x512x128_2_0_0).toLoadRect xa1)⟩,
      ⟨plane 1 inb_S8x512x128_S1x512x128_1_0_0, newL (scores (View.readAt (Elt Ideal) arg4.view (Rect.unit (s := S1x512x1024) ![0, 0, 128] S1x512x128.size inb_S1x512x1024_S1x512x128_0_0_128).toLoadRect (arg4.view.rep x0)) (View.readAt (Elt Ideal) arg5.view (Rect.unit (s := S1x512x1024) ![0, 0, 128] S1x512x128.size inb_S1x512x1024_S1x512x128_0_0_128).toLoadRect (arg5.view.rep x1))) (View.readAt (Elt Ideal) scM0_0.view (Rect.unit (s := S8x512x128) ![1, 0, 0] S1x512x128.size inb_S8x512x128_S1x512x128_1_0_0).toLoadRect xa0) (View.readAt (Elt Ideal) scM0_1.view (Rect.unit (s := S8x512x128) ![1, 0, 0] S1x512x128.size inb_S8x512x128_S1x512x128_1_0_0).toLoadRect xa1)⟩,
      ⟨plane 0 inb_S8x512x128_S1x512x128_0_0_0, newL (scores (View.readAt (Elt Ideal) arg4.view (Rect.unit (s := S1x512x1024) ![0, 0, 0] S1x512x128.size inb_S1x512x1024_S1x512x128_0_0_0).toLoadRect (arg4.view.rep x0)) (View.readAt (Elt Ideal) arg5.view (Rect.unit (s := S1x512x1024) ![0, 0, 0] S1x512x128.size inb_S1x512x1024_S1x512x128_0_0_0).toLoadRect (arg5.view.rep x1))) (View.readAt (Elt Ideal) scM0_0.view (Rect.unit (s := S8x512x128) ![0, 0, 0] S1x512x128.size inb_S8x512x128_S1x512x128_0_0_0).toLoadRect xa0) (View.readAt (Elt Ideal) scM0_1.view (Rect.unit (s := S8x512x128) ![0, 0, 0] S1x512x128.size inb_S8x512x128_S1x512x128_0_0_0).toLoadRect xa1)⟩] := rfl
  rw [e]
  simp only [load_qk arg4.view x0 0 0 rfl, load_qk arg5.view x1 0 0 rfl, load_prev scM0_0.view xa0 0 0 rfl, load_prev scM0_1.view xa1 0 0 rfl, load_qk arg4.view x0 1 128 rfl, load_qk arg5.view x1 1 128 rfl, load_prev scM0_0.view xa0 1 1 rfl, load_prev scM0_1.view xa1 1 1 rfl, load_qk arg4.view x0 2 256 rfl, load_qk arg5.view x1 2 256 rfl, load_prev scM0_0.view xa0 2 2 rfl, load_prev scM0_1.view xa1 2 2 rfl, load_qk arg4.view x0 3 384 rfl, load_qk arg5.view x1 3 384 rfl, load_prev scM0_0.view xa0 3 3 rfl, load_prev scM0_1.view xa1 3 3 rfl, load_qk arg4.view x0 4 512 rfl, load_qk arg5.view x1 4 512 rfl, load_prev scM0_0.view xa0 4 4 rfl, load_prev scM0_1.view xa1 4 4 rfl, load_qk arg4.view x0 5 640 rfl, load_qk arg5.view x1 5 640 rfl, load_prev scM0_0.view xa0 5 5 rfl, load_prev scM0_1.view xa1 5 5 rfl, load_qk arg4.view x0 6 768 rfl, load_qk arg5.view x1 6 768 rfl, load_prev scM0_0.view xa0 6 6 rfl, load_prev scM0_1.view xa1 6 6 rfl, load_qk arg4.view x0 7 896 rfl, load_qk arg5.view x1 7 896 rfl, load_prev scM0_0.view xa0 7 7 rfl, load_prev scM0_1.view xa1 7 7 rfl]
  rfl

/-- The weighted sums stored off the diagonal. -/
theorem D_newA : kernelRun0_D.sl.HS2_8 c arg4 arg5 arg6 x0 x1 x2 xa0 xa2
    = planes (fun h => newA (sc False x0 x1 h) (pl (scM0_0.view.read (Elt Ideal) xa0) h) (pl (scM0_2.view.read (Elt Ideal) xa2) h) (pair x2 (half h))) := by
  have e : kernelRun0_D.sl.HS2_8 c arg4 arg5 arg6 x0 x1 x2 xa0 xa2 =
      [⟨plane 7 inb_S8x512x128_S1x512x128_7_0_0, newA (scores (View.readAt (Elt Ideal) arg4.view (Rect.unit (s := S1x512x1024) ![0, 0, 896] S1x512x128.size inb_S1x512x1024_S1x512x128_0_0_896).toLoadRect (arg4.view.rep x0)) (View.readAt (Elt Ideal) arg5.view (Rect.unit (s := S1x512x1024) ![0, 0, 896] S1x512x128.size inb_S1x512x1024_S1x512x128_0_0_896).toLoadRect (arg5.view.rep x1))) (View.readAt (Elt Ideal) scM0_0.view (Rect.unit (s := S8x512x128) ![7, 0, 0] S1x512x128.size inb_S8x512x128_S1x512x128_7_0_0).toLoadRect xa0) (View.readAt (Elt Ideal) scM0_2.view (Rect.unit (s := S8x512x128) ![7, 0, 0] S1x512x128.size inb_S8x512x128_S1x512x128_7_0_0).toLoadRect xa2) (View.readAt (Elt Ideal) arg6.view (Rect.unit (s := S1x512x512) ![0, 0, 384] S1x512x128.size inb_S1x512x512_S1x512x128_0_0_384).toLoadRect (arg6.view.rep x2))⟩,
      ⟨plane 6 inb_S8x512x128_S1x512x128_6_0_0, newA (scores (View.readAt (Elt Ideal) arg4.view (Rect.unit (s := S1x512x1024) ![0, 0, 768] S1x512x128.size inb_S1x512x1024_S1x512x128_0_0_768).toLoadRect (arg4.view.rep x0)) (View.readAt (Elt Ideal) arg5.view (Rect.unit (s := S1x512x1024) ![0, 0, 768] S1x512x128.size inb_S1x512x1024_S1x512x128_0_0_768).toLoadRect (arg5.view.rep x1))) (View.readAt (Elt Ideal) scM0_0.view (Rect.unit (s := S8x512x128) ![6, 0, 0] S1x512x128.size inb_S8x512x128_S1x512x128_6_0_0).toLoadRect xa0) (View.readAt (Elt Ideal) scM0_2.view (Rect.unit (s := S8x512x128) ![6, 0, 0] S1x512x128.size inb_S8x512x128_S1x512x128_6_0_0).toLoadRect xa2) (View.readAt (Elt Ideal) arg6.view (Rect.unit (s := S1x512x512) ![0, 0, 384] S1x512x128.size inb_S1x512x512_S1x512x128_0_0_384).toLoadRect (arg6.view.rep x2))⟩,
      ⟨plane 5 inb_S8x512x128_S1x512x128_5_0_0, newA (scores (View.readAt (Elt Ideal) arg4.view (Rect.unit (s := S1x512x1024) ![0, 0, 640] S1x512x128.size inb_S1x512x1024_S1x512x128_0_0_640).toLoadRect (arg4.view.rep x0)) (View.readAt (Elt Ideal) arg5.view (Rect.unit (s := S1x512x1024) ![0, 0, 640] S1x512x128.size inb_S1x512x1024_S1x512x128_0_0_640).toLoadRect (arg5.view.rep x1))) (View.readAt (Elt Ideal) scM0_0.view (Rect.unit (s := S8x512x128) ![5, 0, 0] S1x512x128.size inb_S8x512x128_S1x512x128_5_0_0).toLoadRect xa0) (View.readAt (Elt Ideal) scM0_2.view (Rect.unit (s := S8x512x128) ![5, 0, 0] S1x512x128.size inb_S8x512x128_S1x512x128_5_0_0).toLoadRect xa2) (View.readAt (Elt Ideal) arg6.view (Rect.unit (s := S1x512x512) ![0, 0, 256] S1x512x128.size inb_S1x512x512_S1x512x128_0_0_256).toLoadRect (arg6.view.rep x2))⟩,
      ⟨plane 4 inb_S8x512x128_S1x512x128_4_0_0, newA (scores (View.readAt (Elt Ideal) arg4.view (Rect.unit (s := S1x512x1024) ![0, 0, 512] S1x512x128.size inb_S1x512x1024_S1x512x128_0_0_512).toLoadRect (arg4.view.rep x0)) (View.readAt (Elt Ideal) arg5.view (Rect.unit (s := S1x512x1024) ![0, 0, 512] S1x512x128.size inb_S1x512x1024_S1x512x128_0_0_512).toLoadRect (arg5.view.rep x1))) (View.readAt (Elt Ideal) scM0_0.view (Rect.unit (s := S8x512x128) ![4, 0, 0] S1x512x128.size inb_S8x512x128_S1x512x128_4_0_0).toLoadRect xa0) (View.readAt (Elt Ideal) scM0_2.view (Rect.unit (s := S8x512x128) ![4, 0, 0] S1x512x128.size inb_S8x512x128_S1x512x128_4_0_0).toLoadRect xa2) (View.readAt (Elt Ideal) arg6.view (Rect.unit (s := S1x512x512) ![0, 0, 256] S1x512x128.size inb_S1x512x512_S1x512x128_0_0_256).toLoadRect (arg6.view.rep x2))⟩,
      ⟨plane 3 inb_S8x512x128_S1x512x128_3_0_0, newA (scores (View.readAt (Elt Ideal) arg4.view (Rect.unit (s := S1x512x1024) ![0, 0, 384] S1x512x128.size inb_S1x512x1024_S1x512x128_0_0_384).toLoadRect (arg4.view.rep x0)) (View.readAt (Elt Ideal) arg5.view (Rect.unit (s := S1x512x1024) ![0, 0, 384] S1x512x128.size inb_S1x512x1024_S1x512x128_0_0_384).toLoadRect (arg5.view.rep x1))) (View.readAt (Elt Ideal) scM0_0.view (Rect.unit (s := S8x512x128) ![3, 0, 0] S1x512x128.size inb_S8x512x128_S1x512x128_3_0_0).toLoadRect xa0) (View.readAt (Elt Ideal) scM0_2.view (Rect.unit (s := S8x512x128) ![3, 0, 0] S1x512x128.size inb_S8x512x128_S1x512x128_3_0_0).toLoadRect xa2) (View.readAt (Elt Ideal) arg6.view (Rect.unit (s := S1x512x512) ![0, 0, 128] S1x512x128.size inb_S1x512x512_S1x512x128_0_0_128).toLoadRect (arg6.view.rep x2))⟩,
      ⟨plane 2 inb_S8x512x128_S1x512x128_2_0_0, newA (scores (View.readAt (Elt Ideal) arg4.view (Rect.unit (s := S1x512x1024) ![0, 0, 256] S1x512x128.size inb_S1x512x1024_S1x512x128_0_0_256).toLoadRect (arg4.view.rep x0)) (View.readAt (Elt Ideal) arg5.view (Rect.unit (s := S1x512x1024) ![0, 0, 256] S1x512x128.size inb_S1x512x1024_S1x512x128_0_0_256).toLoadRect (arg5.view.rep x1))) (View.readAt (Elt Ideal) scM0_0.view (Rect.unit (s := S8x512x128) ![2, 0, 0] S1x512x128.size inb_S8x512x128_S1x512x128_2_0_0).toLoadRect xa0) (View.readAt (Elt Ideal) scM0_2.view (Rect.unit (s := S8x512x128) ![2, 0, 0] S1x512x128.size inb_S8x512x128_S1x512x128_2_0_0).toLoadRect xa2) (View.readAt (Elt Ideal) arg6.view (Rect.unit (s := S1x512x512) ![0, 0, 128] S1x512x128.size inb_S1x512x512_S1x512x128_0_0_128).toLoadRect (arg6.view.rep x2))⟩,
      ⟨plane 1 inb_S8x512x128_S1x512x128_1_0_0, newA (scores (View.readAt (Elt Ideal) arg4.view (Rect.unit (s := S1x512x1024) ![0, 0, 128] S1x512x128.size inb_S1x512x1024_S1x512x128_0_0_128).toLoadRect (arg4.view.rep x0)) (View.readAt (Elt Ideal) arg5.view (Rect.unit (s := S1x512x1024) ![0, 0, 128] S1x512x128.size inb_S1x512x1024_S1x512x128_0_0_128).toLoadRect (arg5.view.rep x1))) (View.readAt (Elt Ideal) scM0_0.view (Rect.unit (s := S8x512x128) ![1, 0, 0] S1x512x128.size inb_S8x512x128_S1x512x128_1_0_0).toLoadRect xa0) (View.readAt (Elt Ideal) scM0_2.view (Rect.unit (s := S8x512x128) ![1, 0, 0] S1x512x128.size inb_S8x512x128_S1x512x128_1_0_0).toLoadRect xa2) (View.readAt (Elt Ideal) arg6.view (Rect.unit (s := S1x512x512) ![0, 0, 0] S1x512x128.size inb_S1x512x512_S1x512x128_0_0_0).toLoadRect (arg6.view.rep x2))⟩,
      ⟨plane 0 inb_S8x512x128_S1x512x128_0_0_0, newA (scores (View.readAt (Elt Ideal) arg4.view (Rect.unit (s := S1x512x1024) ![0, 0, 0] S1x512x128.size inb_S1x512x1024_S1x512x128_0_0_0).toLoadRect (arg4.view.rep x0)) (View.readAt (Elt Ideal) arg5.view (Rect.unit (s := S1x512x1024) ![0, 0, 0] S1x512x128.size inb_S1x512x1024_S1x512x128_0_0_0).toLoadRect (arg5.view.rep x1))) (View.readAt (Elt Ideal) scM0_0.view (Rect.unit (s := S8x512x128) ![0, 0, 0] S1x512x128.size inb_S8x512x128_S1x512x128_0_0_0).toLoadRect xa0) (View.readAt (Elt Ideal) scM0_2.view (Rect.unit (s := S8x512x128) ![0, 0, 0] S1x512x128.size inb_S8x512x128_S1x512x128_0_0_0).toLoadRect xa2) (View.readAt (Elt Ideal) arg6.view (Rect.unit (s := S1x512x512) ![0, 0, 0] S1x512x128.size inb_S1x512x512_S1x512x128_0_0_0).toLoadRect (arg6.view.rep x2))⟩] := rfl
  rw [e]
  simp only [load_qk arg4.view x0 0 0 rfl, load_qk arg5.view x1 0 0 rfl, load_prev scM0_0.view xa0 0 0 rfl, load_prev scM0_2.view xa2 0 0 rfl, load_pair arg6.view x2 0 0 rfl, load_qk arg4.view x0 1 128 rfl, load_qk arg5.view x1 1 128 rfl, load_prev scM0_0.view xa0 1 1 rfl, load_prev scM0_2.view xa2 1 1 rfl, load_qk arg4.view x0 2 256 rfl, load_qk arg5.view x1 2 256 rfl, load_prev scM0_0.view xa0 2 2 rfl, load_prev scM0_2.view xa2 2 2 rfl, load_pair arg6.view x2 1 128 rfl, load_qk arg4.view x0 3 384 rfl, load_qk arg5.view x1 3 384 rfl, load_prev scM0_0.view xa0 3 3 rfl, load_prev scM0_2.view xa2 3 3 rfl, load_qk arg4.view x0 4 512 rfl, load_qk arg5.view x1 4 512 rfl, load_prev scM0_0.view xa0 4 4 rfl, load_prev scM0_2.view xa2 4 4 rfl, load_pair arg6.view x2 2 256 rfl, load_qk arg4.view x0 5 640 rfl, load_qk arg5.view x1 5 640 rfl, load_prev scM0_0.view xa0 5 5 rfl, load_prev scM0_2.view xa2 5 5 rfl, load_qk arg4.view x0 6 768 rfl, load_qk arg5.view x1 6 768 rfl, load_prev scM0_0.view xa0 6 6 rfl, load_prev scM0_2.view xa2 6 6 rfl, load_pair arg6.view x2 3 384 rfl, load_qk arg4.view x0 7 896 rfl, load_qk arg5.view x1 7 896 rfl, load_prev scM0_0.view xa0 7 7 rfl, load_prev scM0_2.view xa2 7 7 rfl]
  rfl

/-- The maxima stored on the diagonal. -/
theorem C_newM : kernelRun0_C.sl.HS0_8 c arg4 arg5 x0 x1 xa0
    = planes (fun h => newM (sc True x0 x1 h) (pl (scM0_0.view.read (Elt Ideal) xa0) h)) := by
  have e : kernelRun0_C.sl.HS0_8 c arg4 arg5 x0 x1 xa0 =
      [⟨plane 7 inb_S8x512x128_S1x512x128_7_0_0, newM (masked (scores (View.readAt (Elt Ideal) arg4.view (Rect.unit (s := S1x512x1024) ![0, 0, 896] S1x512x128.size inb_S1x512x1024_S1x512x128_0_0_896).toLoadRect (arg4.view.rep x0)) (View.readAt (Elt Ideal) arg5.view (Rect.unit (s := S1x512x1024) ![0, 0, 896] S1x512x128.size inb_S1x512x1024_S1x512x128_0_0_896).toLoadRect (arg5.view.rep x1)))) (View.readAt (Elt Ideal) scM0_0.view (Rect.unit (s := S8x512x128) ![7, 0, 0] S1x512x128.size inb_S8x512x128_S1x512x128_7_0_0).toLoadRect xa0)⟩,
      ⟨plane 6 inb_S8x512x128_S1x512x128_6_0_0, newM (masked (scores (View.readAt (Elt Ideal) arg4.view (Rect.unit (s := S1x512x1024) ![0, 0, 768] S1x512x128.size inb_S1x512x1024_S1x512x128_0_0_768).toLoadRect (arg4.view.rep x0)) (View.readAt (Elt Ideal) arg5.view (Rect.unit (s := S1x512x1024) ![0, 0, 768] S1x512x128.size inb_S1x512x1024_S1x512x128_0_0_768).toLoadRect (arg5.view.rep x1)))) (View.readAt (Elt Ideal) scM0_0.view (Rect.unit (s := S8x512x128) ![6, 0, 0] S1x512x128.size inb_S8x512x128_S1x512x128_6_0_0).toLoadRect xa0)⟩,
      ⟨plane 5 inb_S8x512x128_S1x512x128_5_0_0, newM (masked (scores (View.readAt (Elt Ideal) arg4.view (Rect.unit (s := S1x512x1024) ![0, 0, 640] S1x512x128.size inb_S1x512x1024_S1x512x128_0_0_640).toLoadRect (arg4.view.rep x0)) (View.readAt (Elt Ideal) arg5.view (Rect.unit (s := S1x512x1024) ![0, 0, 640] S1x512x128.size inb_S1x512x1024_S1x512x128_0_0_640).toLoadRect (arg5.view.rep x1)))) (View.readAt (Elt Ideal) scM0_0.view (Rect.unit (s := S8x512x128) ![5, 0, 0] S1x512x128.size inb_S8x512x128_S1x512x128_5_0_0).toLoadRect xa0)⟩,
      ⟨plane 4 inb_S8x512x128_S1x512x128_4_0_0, newM (masked (scores (View.readAt (Elt Ideal) arg4.view (Rect.unit (s := S1x512x1024) ![0, 0, 512] S1x512x128.size inb_S1x512x1024_S1x512x128_0_0_512).toLoadRect (arg4.view.rep x0)) (View.readAt (Elt Ideal) arg5.view (Rect.unit (s := S1x512x1024) ![0, 0, 512] S1x512x128.size inb_S1x512x1024_S1x512x128_0_0_512).toLoadRect (arg5.view.rep x1)))) (View.readAt (Elt Ideal) scM0_0.view (Rect.unit (s := S8x512x128) ![4, 0, 0] S1x512x128.size inb_S8x512x128_S1x512x128_4_0_0).toLoadRect xa0)⟩,
      ⟨plane 3 inb_S8x512x128_S1x512x128_3_0_0, newM (masked (scores (View.readAt (Elt Ideal) arg4.view (Rect.unit (s := S1x512x1024) ![0, 0, 384] S1x512x128.size inb_S1x512x1024_S1x512x128_0_0_384).toLoadRect (arg4.view.rep x0)) (View.readAt (Elt Ideal) arg5.view (Rect.unit (s := S1x512x1024) ![0, 0, 384] S1x512x128.size inb_S1x512x1024_S1x512x128_0_0_384).toLoadRect (arg5.view.rep x1)))) (View.readAt (Elt Ideal) scM0_0.view (Rect.unit (s := S8x512x128) ![3, 0, 0] S1x512x128.size inb_S8x512x128_S1x512x128_3_0_0).toLoadRect xa0)⟩,
      ⟨plane 2 inb_S8x512x128_S1x512x128_2_0_0, newM (masked (scores (View.readAt (Elt Ideal) arg4.view (Rect.unit (s := S1x512x1024) ![0, 0, 256] S1x512x128.size inb_S1x512x1024_S1x512x128_0_0_256).toLoadRect (arg4.view.rep x0)) (View.readAt (Elt Ideal) arg5.view (Rect.unit (s := S1x512x1024) ![0, 0, 256] S1x512x128.size inb_S1x512x1024_S1x512x128_0_0_256).toLoadRect (arg5.view.rep x1)))) (View.readAt (Elt Ideal) scM0_0.view (Rect.unit (s := S8x512x128) ![2, 0, 0] S1x512x128.size inb_S8x512x128_S1x512x128_2_0_0).toLoadRect xa0)⟩,
      ⟨plane 1 inb_S8x512x128_S1x512x128_1_0_0, newM (masked (scores (View.readAt (Elt Ideal) arg4.view (Rect.unit (s := S1x512x1024) ![0, 0, 128] S1x512x128.size inb_S1x512x1024_S1x512x128_0_0_128).toLoadRect (arg4.view.rep x0)) (View.readAt (Elt Ideal) arg5.view (Rect.unit (s := S1x512x1024) ![0, 0, 128] S1x512x128.size inb_S1x512x1024_S1x512x128_0_0_128).toLoadRect (arg5.view.rep x1)))) (View.readAt (Elt Ideal) scM0_0.view (Rect.unit (s := S8x512x128) ![1, 0, 0] S1x512x128.size inb_S8x512x128_S1x512x128_1_0_0).toLoadRect xa0)⟩,
      ⟨plane 0 inb_S8x512x128_S1x512x128_0_0_0, newM (masked (scores (View.readAt (Elt Ideal) arg4.view (Rect.unit (s := S1x512x1024) ![0, 0, 0] S1x512x128.size inb_S1x512x1024_S1x512x128_0_0_0).toLoadRect (arg4.view.rep x0)) (View.readAt (Elt Ideal) arg5.view (Rect.unit (s := S1x512x1024) ![0, 0, 0] S1x512x128.size inb_S1x512x1024_S1x512x128_0_0_0).toLoadRect (arg5.view.rep x1)))) (View.readAt (Elt Ideal) scM0_0.view (Rect.unit (s := S8x512x128) ![0, 0, 0] S1x512x128.size inb_S8x512x128_S1x512x128_0_0_0).toLoadRect xa0)⟩] := rfl
  rw [e]
  simp only [load_qk arg4.view x0 0 0 rfl, load_qk arg5.view x1 0 0 rfl, load_prev scM0_0.view xa0 0 0 rfl, load_qk arg4.view x0 1 128 rfl, load_qk arg5.view x1 1 128 rfl, load_prev scM0_0.view xa0 1 1 rfl, load_qk arg4.view x0 2 256 rfl, load_qk arg5.view x1 2 256 rfl, load_prev scM0_0.view xa0 2 2 rfl, load_qk arg4.view x0 3 384 rfl, load_qk arg5.view x1 3 384 rfl, load_prev scM0_0.view xa0 3 3 rfl, load_qk arg4.view x0 4 512 rfl, load_qk arg5.view x1 4 512 rfl, load_prev scM0_0.view xa0 4 4 rfl, load_qk arg4.view x0 5 640 rfl, load_qk arg5.view x1 5 640 rfl, load_prev scM0_0.view xa0 5 5 rfl, load_qk arg4.view x0 6 768 rfl, load_qk arg5.view x1 6 768 rfl, load_prev scM0_0.view xa0 6 6 rfl, load_qk arg4.view x0 7 896 rfl, load_qk arg5.view x1 7 896 rfl, load_prev scM0_0.view xa0 7 7 rfl]
  rfl

/-- The sums stored on the diagonal. -/
theorem C_newL : kernelRun0_C.sl.HS1_8 c arg4 arg5 x0 x1 xa0 xa1
    = planes (fun h => newL (sc True x0 x1 h) (pl (scM0_0.view.read (Elt Ideal) xa0) h) (pl (scM0_1.view.read (Elt Ideal) xa1) h)) := by
  have e : kernelRun0_C.sl.HS1_8 c arg4 arg5 x0 x1 xa0 xa1 =
      [⟨plane 7 inb_S8x512x128_S1x512x128_7_0_0, newL (masked (scores (View.readAt (Elt Ideal) arg4.view (Rect.unit (s := S1x512x1024) ![0, 0, 896] S1x512x128.size inb_S1x512x1024_S1x512x128_0_0_896).toLoadRect (arg4.view.rep x0)) (View.readAt (Elt Ideal) arg5.view (Rect.unit (s := S1x512x1024) ![0, 0, 896] S1x512x128.size inb_S1x512x1024_S1x512x128_0_0_896).toLoadRect (arg5.view.rep x1)))) (View.readAt (Elt Ideal) scM0_0.view (Rect.unit (s := S8x512x128) ![7, 0, 0] S1x512x128.size inb_S8x512x128_S1x512x128_7_0_0).toLoadRect xa0) (View.readAt (Elt Ideal) scM0_1.view (Rect.unit (s := S8x512x128) ![7, 0, 0] S1x512x128.size inb_S8x512x128_S1x512x128_7_0_0).toLoadRect xa1)⟩,
      ⟨plane 6 inb_S8x512x128_S1x512x128_6_0_0, newL (masked (scores (View.readAt (Elt Ideal) arg4.view (Rect.unit (s := S1x512x1024) ![0, 0, 768] S1x512x128.size inb_S1x512x1024_S1x512x128_0_0_768).toLoadRect (arg4.view.rep x0)) (View.readAt (Elt Ideal) arg5.view (Rect.unit (s := S1x512x1024) ![0, 0, 768] S1x512x128.size inb_S1x512x1024_S1x512x128_0_0_768).toLoadRect (arg5.view.rep x1)))) (View.readAt (Elt Ideal) scM0_0.view (Rect.unit (s := S8x512x128) ![6, 0, 0] S1x512x128.size inb_S8x512x128_S1x512x128_6_0_0).toLoadRect xa0) (View.readAt (Elt Ideal) scM0_1.view (Rect.unit (s := S8x512x128) ![6, 0, 0] S1x512x128.size inb_S8x512x128_S1x512x128_6_0_0).toLoadRect xa1)⟩,
      ⟨plane 5 inb_S8x512x128_S1x512x128_5_0_0, newL (masked (scores (View.readAt (Elt Ideal) arg4.view (Rect.unit (s := S1x512x1024) ![0, 0, 640] S1x512x128.size inb_S1x512x1024_S1x512x128_0_0_640).toLoadRect (arg4.view.rep x0)) (View.readAt (Elt Ideal) arg5.view (Rect.unit (s := S1x512x1024) ![0, 0, 640] S1x512x128.size inb_S1x512x1024_S1x512x128_0_0_640).toLoadRect (arg5.view.rep x1)))) (View.readAt (Elt Ideal) scM0_0.view (Rect.unit (s := S8x512x128) ![5, 0, 0] S1x512x128.size inb_S8x512x128_S1x512x128_5_0_0).toLoadRect xa0) (View.readAt (Elt Ideal) scM0_1.view (Rect.unit (s := S8x512x128) ![5, 0, 0] S1x512x128.size inb_S8x512x128_S1x512x128_5_0_0).toLoadRect xa1)⟩,
      ⟨plane 4 inb_S8x512x128_S1x512x128_4_0_0, newL (masked (scores (View.readAt (Elt Ideal) arg4.view (Rect.unit (s := S1x512x1024) ![0, 0, 512] S1x512x128.size inb_S1x512x1024_S1x512x128_0_0_512).toLoadRect (arg4.view.rep x0)) (View.readAt (Elt Ideal) arg5.view (Rect.unit (s := S1x512x1024) ![0, 0, 512] S1x512x128.size inb_S1x512x1024_S1x512x128_0_0_512).toLoadRect (arg5.view.rep x1)))) (View.readAt (Elt Ideal) scM0_0.view (Rect.unit (s := S8x512x128) ![4, 0, 0] S1x512x128.size inb_S8x512x128_S1x512x128_4_0_0).toLoadRect xa0) (View.readAt (Elt Ideal) scM0_1.view (Rect.unit (s := S8x512x128) ![4, 0, 0] S1x512x128.size inb_S8x512x128_S1x512x128_4_0_0).toLoadRect xa1)⟩,
      ⟨plane 3 inb_S8x512x128_S1x512x128_3_0_0, newL (masked (scores (View.readAt (Elt Ideal) arg4.view (Rect.unit (s := S1x512x1024) ![0, 0, 384] S1x512x128.size inb_S1x512x1024_S1x512x128_0_0_384).toLoadRect (arg4.view.rep x0)) (View.readAt (Elt Ideal) arg5.view (Rect.unit (s := S1x512x1024) ![0, 0, 384] S1x512x128.size inb_S1x512x1024_S1x512x128_0_0_384).toLoadRect (arg5.view.rep x1)))) (View.readAt (Elt Ideal) scM0_0.view (Rect.unit (s := S8x512x128) ![3, 0, 0] S1x512x128.size inb_S8x512x128_S1x512x128_3_0_0).toLoadRect xa0) (View.readAt (Elt Ideal) scM0_1.view (Rect.unit (s := S8x512x128) ![3, 0, 0] S1x512x128.size inb_S8x512x128_S1x512x128_3_0_0).toLoadRect xa1)⟩,
      ⟨plane 2 inb_S8x512x128_S1x512x128_2_0_0, newL (masked (scores (View.readAt (Elt Ideal) arg4.view (Rect.unit (s := S1x512x1024) ![0, 0, 256] S1x512x128.size inb_S1x512x1024_S1x512x128_0_0_256).toLoadRect (arg4.view.rep x0)) (View.readAt (Elt Ideal) arg5.view (Rect.unit (s := S1x512x1024) ![0, 0, 256] S1x512x128.size inb_S1x512x1024_S1x512x128_0_0_256).toLoadRect (arg5.view.rep x1)))) (View.readAt (Elt Ideal) scM0_0.view (Rect.unit (s := S8x512x128) ![2, 0, 0] S1x512x128.size inb_S8x512x128_S1x512x128_2_0_0).toLoadRect xa0) (View.readAt (Elt Ideal) scM0_1.view (Rect.unit (s := S8x512x128) ![2, 0, 0] S1x512x128.size inb_S8x512x128_S1x512x128_2_0_0).toLoadRect xa1)⟩,
      ⟨plane 1 inb_S8x512x128_S1x512x128_1_0_0, newL (masked (scores (View.readAt (Elt Ideal) arg4.view (Rect.unit (s := S1x512x1024) ![0, 0, 128] S1x512x128.size inb_S1x512x1024_S1x512x128_0_0_128).toLoadRect (arg4.view.rep x0)) (View.readAt (Elt Ideal) arg5.view (Rect.unit (s := S1x512x1024) ![0, 0, 128] S1x512x128.size inb_S1x512x1024_S1x512x128_0_0_128).toLoadRect (arg5.view.rep x1)))) (View.readAt (Elt Ideal) scM0_0.view (Rect.unit (s := S8x512x128) ![1, 0, 0] S1x512x128.size inb_S8x512x128_S1x512x128_1_0_0).toLoadRect xa0) (View.readAt (Elt Ideal) scM0_1.view (Rect.unit (s := S8x512x128) ![1, 0, 0] S1x512x128.size inb_S8x512x128_S1x512x128_1_0_0).toLoadRect xa1)⟩,
      ⟨plane 0 inb_S8x512x128_S1x512x128_0_0_0, newL (masked (scores (View.readAt (Elt Ideal) arg4.view (Rect.unit (s := S1x512x1024) ![0, 0, 0] S1x512x128.size inb_S1x512x1024_S1x512x128_0_0_0).toLoadRect (arg4.view.rep x0)) (View.readAt (Elt Ideal) arg5.view (Rect.unit (s := S1x512x1024) ![0, 0, 0] S1x512x128.size inb_S1x512x1024_S1x512x128_0_0_0).toLoadRect (arg5.view.rep x1)))) (View.readAt (Elt Ideal) scM0_0.view (Rect.unit (s := S8x512x128) ![0, 0, 0] S1x512x128.size inb_S8x512x128_S1x512x128_0_0_0).toLoadRect xa0) (View.readAt (Elt Ideal) scM0_1.view (Rect.unit (s := S8x512x128) ![0, 0, 0] S1x512x128.size inb_S8x512x128_S1x512x128_0_0_0).toLoadRect xa1)⟩] := rfl
  rw [e]
  simp only [load_qk arg4.view x0 0 0 rfl, load_qk arg5.view x1 0 0 rfl, load_prev scM0_0.view xa0 0 0 rfl, load_prev scM0_1.view xa1 0 0 rfl, load_qk arg4.view x0 1 128 rfl, load_qk arg5.view x1 1 128 rfl, load_prev scM0_0.view xa0 1 1 rfl, load_prev scM0_1.view xa1 1 1 rfl, load_qk arg4.view x0 2 256 rfl, load_qk arg5.view x1 2 256 rfl, load_prev scM0_0.view xa0 2 2 rfl, load_prev scM0_1.view xa1 2 2 rfl, load_qk arg4.view x0 3 384 rfl, load_qk arg5.view x1 3 384 rfl, load_prev scM0_0.view xa0 3 3 rfl, load_prev scM0_1.view xa1 3 3 rfl, load_qk arg4.view x0 4 512 rfl, load_qk arg5.view x1 4 512 rfl, load_prev scM0_0.view xa0 4 4 rfl, load_prev scM0_1.view xa1 4 4 rfl, load_qk arg4.view x0 5 640 rfl, load_qk arg5.view x1 5 640 rfl, load_prev scM0_0.view xa0 5 5 rfl, load_prev scM0_1.view xa1 5 5 rfl, load_qk arg4.view x0 6 768 rfl, load_qk arg5.view x1 6 768 rfl, load_prev scM0_0.view xa0 6 6 rfl, load_prev scM0_1.view xa1 6 6 rfl, load_qk arg4.view x0 7 896 rfl, load_qk arg5.view x1 7 896 rfl, load_prev scM0_0.view xa0 7 7 rfl, load_prev scM0_1.view xa1 7 7 rfl]
  rfl

/-- The weighted sums stored on the diagonal. -/
theorem C_newA : kernelRun0_C.sl.HS2_8 c arg4 arg5 arg6 x0 x1 x2 xa0 xa2
    = planes (fun h => newA (sc True x0 x1 h) (pl (scM0_0.view.read (Elt Ideal) xa0) h) (pl (scM0_2.view.read (Elt Ideal) xa2) h) (pair x2 (half h))) := by
  have e : kernelRun0_C.sl.HS2_8 c arg4 arg5 arg6 x0 x1 x2 xa0 xa2 =
      [⟨plane 7 inb_S8x512x128_S1x512x128_7_0_0, newA (masked (scores (View.readAt (Elt Ideal) arg4.view (Rect.unit (s := S1x512x1024) ![0, 0, 896] S1x512x128.size inb_S1x512x1024_S1x512x128_0_0_896).toLoadRect (arg4.view.rep x0)) (View.readAt (Elt Ideal) arg5.view (Rect.unit (s := S1x512x1024) ![0, 0, 896] S1x512x128.size inb_S1x512x1024_S1x512x128_0_0_896).toLoadRect (arg5.view.rep x1)))) (View.readAt (Elt Ideal) scM0_0.view (Rect.unit (s := S8x512x128) ![7, 0, 0] S1x512x128.size inb_S8x512x128_S1x512x128_7_0_0).toLoadRect xa0) (View.readAt (Elt Ideal) scM0_2.view (Rect.unit (s := S8x512x128) ![7, 0, 0] S1x512x128.size inb_S8x512x128_S1x512x128_7_0_0).toLoadRect xa2) (View.readAt (Elt Ideal) arg6.view (Rect.unit (s := S1x512x512) ![0, 0, 384] S1x512x128.size inb_S1x512x512_S1x512x128_0_0_384).toLoadRect (arg6.view.rep x2))⟩,
      ⟨plane 6 inb_S8x512x128_S1x512x128_6_0_0, newA (masked (scores (View.readAt (Elt Ideal) arg4.view (Rect.unit (s := S1x512x1024) ![0, 0, 768] S1x512x128.size inb_S1x512x1024_S1x512x128_0_0_768).toLoadRect (arg4.view.rep x0)) (View.readAt (Elt Ideal) arg5.view (Rect.unit (s := S1x512x1024) ![0, 0, 768] S1x512x128.size inb_S1x512x1024_S1x512x128_0_0_768).toLoadRect (arg5.view.rep x1)))) (View.readAt (Elt Ideal) scM0_0.view (Rect.unit (s := S8x512x128) ![6, 0, 0] S1x512x128.size inb_S8x512x128_S1x512x128_6_0_0).toLoadRect xa0) (View.readAt (Elt Ideal) scM0_2.view (Rect.unit (s := S8x512x128) ![6, 0, 0] S1x512x128.size inb_S8x512x128_S1x512x128_6_0_0).toLoadRect xa2) (View.readAt (Elt Ideal) arg6.view (Rect.unit (s := S1x512x512) ![0, 0, 384] S1x512x128.size inb_S1x512x512_S1x512x128_0_0_384).toLoadRect (arg6.view.rep x2))⟩,
      ⟨plane 5 inb_S8x512x128_S1x512x128_5_0_0, newA (masked (scores (View.readAt (Elt Ideal) arg4.view (Rect.unit (s := S1x512x1024) ![0, 0, 640] S1x512x128.size inb_S1x512x1024_S1x512x128_0_0_640).toLoadRect (arg4.view.rep x0)) (View.readAt (Elt Ideal) arg5.view (Rect.unit (s := S1x512x1024) ![0, 0, 640] S1x512x128.size inb_S1x512x1024_S1x512x128_0_0_640).toLoadRect (arg5.view.rep x1)))) (View.readAt (Elt Ideal) scM0_0.view (Rect.unit (s := S8x512x128) ![5, 0, 0] S1x512x128.size inb_S8x512x128_S1x512x128_5_0_0).toLoadRect xa0) (View.readAt (Elt Ideal) scM0_2.view (Rect.unit (s := S8x512x128) ![5, 0, 0] S1x512x128.size inb_S8x512x128_S1x512x128_5_0_0).toLoadRect xa2) (View.readAt (Elt Ideal) arg6.view (Rect.unit (s := S1x512x512) ![0, 0, 256] S1x512x128.size inb_S1x512x512_S1x512x128_0_0_256).toLoadRect (arg6.view.rep x2))⟩,
      ⟨plane 4 inb_S8x512x128_S1x512x128_4_0_0, newA (masked (scores (View.readAt (Elt Ideal) arg4.view (Rect.unit (s := S1x512x1024) ![0, 0, 512] S1x512x128.size inb_S1x512x1024_S1x512x128_0_0_512).toLoadRect (arg4.view.rep x0)) (View.readAt (Elt Ideal) arg5.view (Rect.unit (s := S1x512x1024) ![0, 0, 512] S1x512x128.size inb_S1x512x1024_S1x512x128_0_0_512).toLoadRect (arg5.view.rep x1)))) (View.readAt (Elt Ideal) scM0_0.view (Rect.unit (s := S8x512x128) ![4, 0, 0] S1x512x128.size inb_S8x512x128_S1x512x128_4_0_0).toLoadRect xa0) (View.readAt (Elt Ideal) scM0_2.view (Rect.unit (s := S8x512x128) ![4, 0, 0] S1x512x128.size inb_S8x512x128_S1x512x128_4_0_0).toLoadRect xa2) (View.readAt (Elt Ideal) arg6.view (Rect.unit (s := S1x512x512) ![0, 0, 256] S1x512x128.size inb_S1x512x512_S1x512x128_0_0_256).toLoadRect (arg6.view.rep x2))⟩,
      ⟨plane 3 inb_S8x512x128_S1x512x128_3_0_0, newA (masked (scores (View.readAt (Elt Ideal) arg4.view (Rect.unit (s := S1x512x1024) ![0, 0, 384] S1x512x128.size inb_S1x512x1024_S1x512x128_0_0_384).toLoadRect (arg4.view.rep x0)) (View.readAt (Elt Ideal) arg5.view (Rect.unit (s := S1x512x1024) ![0, 0, 384] S1x512x128.size inb_S1x512x1024_S1x512x128_0_0_384).toLoadRect (arg5.view.rep x1)))) (View.readAt (Elt Ideal) scM0_0.view (Rect.unit (s := S8x512x128) ![3, 0, 0] S1x512x128.size inb_S8x512x128_S1x512x128_3_0_0).toLoadRect xa0) (View.readAt (Elt Ideal) scM0_2.view (Rect.unit (s := S8x512x128) ![3, 0, 0] S1x512x128.size inb_S8x512x128_S1x512x128_3_0_0).toLoadRect xa2) (View.readAt (Elt Ideal) arg6.view (Rect.unit (s := S1x512x512) ![0, 0, 128] S1x512x128.size inb_S1x512x512_S1x512x128_0_0_128).toLoadRect (arg6.view.rep x2))⟩,
      ⟨plane 2 inb_S8x512x128_S1x512x128_2_0_0, newA (masked (scores (View.readAt (Elt Ideal) arg4.view (Rect.unit (s := S1x512x1024) ![0, 0, 256] S1x512x128.size inb_S1x512x1024_S1x512x128_0_0_256).toLoadRect (arg4.view.rep x0)) (View.readAt (Elt Ideal) arg5.view (Rect.unit (s := S1x512x1024) ![0, 0, 256] S1x512x128.size inb_S1x512x1024_S1x512x128_0_0_256).toLoadRect (arg5.view.rep x1)))) (View.readAt (Elt Ideal) scM0_0.view (Rect.unit (s := S8x512x128) ![2, 0, 0] S1x512x128.size inb_S8x512x128_S1x512x128_2_0_0).toLoadRect xa0) (View.readAt (Elt Ideal) scM0_2.view (Rect.unit (s := S8x512x128) ![2, 0, 0] S1x512x128.size inb_S8x512x128_S1x512x128_2_0_0).toLoadRect xa2) (View.readAt (Elt Ideal) arg6.view (Rect.unit (s := S1x512x512) ![0, 0, 128] S1x512x128.size inb_S1x512x512_S1x512x128_0_0_128).toLoadRect (arg6.view.rep x2))⟩,
      ⟨plane 1 inb_S8x512x128_S1x512x128_1_0_0, newA (masked (scores (View.readAt (Elt Ideal) arg4.view (Rect.unit (s := S1x512x1024) ![0, 0, 128] S1x512x128.size inb_S1x512x1024_S1x512x128_0_0_128).toLoadRect (arg4.view.rep x0)) (View.readAt (Elt Ideal) arg5.view (Rect.unit (s := S1x512x1024) ![0, 0, 128] S1x512x128.size inb_S1x512x1024_S1x512x128_0_0_128).toLoadRect (arg5.view.rep x1)))) (View.readAt (Elt Ideal) scM0_0.view (Rect.unit (s := S8x512x128) ![1, 0, 0] S1x512x128.size inb_S8x512x128_S1x512x128_1_0_0).toLoadRect xa0) (View.readAt (Elt Ideal) scM0_2.view (Rect.unit (s := S8x512x128) ![1, 0, 0] S1x512x128.size inb_S8x512x128_S1x512x128_1_0_0).toLoadRect xa2) (View.readAt (Elt Ideal) arg6.view (Rect.unit (s := S1x512x512) ![0, 0, 0] S1x512x128.size inb_S1x512x512_S1x512x128_0_0_0).toLoadRect (arg6.view.rep x2))⟩,
      ⟨plane 0 inb_S8x512x128_S1x512x128_0_0_0, newA (masked (scores (View.readAt (Elt Ideal) arg4.view (Rect.unit (s := S1x512x1024) ![0, 0, 0] S1x512x128.size inb_S1x512x1024_S1x512x128_0_0_0).toLoadRect (arg4.view.rep x0)) (View.readAt (Elt Ideal) arg5.view (Rect.unit (s := S1x512x1024) ![0, 0, 0] S1x512x128.size inb_S1x512x1024_S1x512x128_0_0_0).toLoadRect (arg5.view.rep x1)))) (View.readAt (Elt Ideal) scM0_0.view (Rect.unit (s := S8x512x128) ![0, 0, 0] S1x512x128.size inb_S8x512x128_S1x512x128_0_0_0).toLoadRect xa0) (View.readAt (Elt Ideal) scM0_2.view (Rect.unit (s := S8x512x128) ![0, 0, 0] S1x512x128.size inb_S8x512x128_S1x512x128_0_0_0).toLoadRect xa2) (View.readAt (Elt Ideal) arg6.view (Rect.unit (s := S1x512x512) ![0, 0, 0] S1x512x128.size inb_S1x512x512_S1x512x128_0_0_0).toLoadRect (arg6.view.rep x2))⟩] := rfl
  rw [e]
  simp only [load_qk arg4.view x0 0 0 rfl, load_qk arg5.view x1 0 0 rfl, load_prev scM0_0.view xa0 0 0 rfl, load_prev scM0_2.view xa2 0 0 rfl, load_pair arg6.view x2 0 0 rfl, load_qk arg4.view x0 1 128 rfl, load_qk arg5.view x1 1 128 rfl, load_prev scM0_0.view xa0 1 1 rfl, load_prev scM0_2.view xa2 1 1 rfl, load_qk arg4.view x0 2 256 rfl, load_qk arg5.view x1 2 256 rfl, load_prev scM0_0.view xa0 2 2 rfl, load_prev scM0_2.view xa2 2 2 rfl, load_pair arg6.view x2 1 128 rfl, load_qk arg4.view x0 3 384 rfl, load_qk arg5.view x1 3 384 rfl, load_prev scM0_0.view xa0 3 3 rfl, load_prev scM0_2.view xa2 3 3 rfl, load_qk arg4.view x0 4 512 rfl, load_qk arg5.view x1 4 512 rfl, load_prev scM0_0.view xa0 4 4 rfl, load_prev scM0_2.view xa2 4 4 rfl, load_pair arg6.view x2 2 256 rfl, load_qk arg4.view x0 5 640 rfl, load_qk arg5.view x1 5 640 rfl, load_prev scM0_0.view xa0 5 5 rfl, load_prev scM0_2.view xa2 5 5 rfl, load_qk arg4.view x0 6 768 rfl, load_qk arg5.view x1 6 768 rfl, load_prev scM0_0.view xa0 6 6 rfl, load_prev scM0_2.view xa2 6 6 rfl, load_pair arg6.view x2 3 384 rfl, load_qk arg4.view x0 7 896 rfl, load_qk arg5.view x1 7 896 rfl, load_prev scM0_0.view xa0 7 7 rfl, load_prev scM0_2.view xa2 7 7 rfl]
  rfl

end Cert.KernelIdeal.Head

end
-- ==== Proof.Fresh.lean ====
/- The scratch arrays after the first grid point of a block of queries: every array is filled with one number, then
   each head updates its plane. -/
module

public import proofs.«01_k».proof.Proof.Gen.KernelIdeal.Flash
public import proofs.«01_k».proof.Proof.Planes

@[expose] public section

set_option maxRecDepth 16384

noncomputable section

namespace Cert.KernelIdeal.Head

open Idealize.ShloMosaic Cert.KernelIdeal.Gen

theorem fill_m : (k0_pay1 : FVec Ideal S8x512x128 .f32) = fun _ => (⊥ : EReal) := by
  funext i
  exact IdealRules.named_const.ideal_named_scalar _ _ _ _ rfl

theorem fill_l : (k0_pay2 : FVec Ideal S8x512x128 .f32) = fun _ => (0 : EReal) := by
  funext i
  show Ideal.ofBits .f32 0x00000000#32 = 0
  simp [Ideal.ofBits, Ideal.ieee]

theorem fill_a : (k0_pay3 : FVec Ideal S8x512x128 .f32) = fun _ => (0 : EReal) := fill_l

variable (arg4 arg5 : Memref sig .tc .vmem S1x512x1024 .bf16) (arg6 : Memref sig .tc .vmem S1x512x512 .bf16) (x0 x1 : Vec Ideal S1x512x1024 .bf16) (x2 : Vec Ideal S1x512x512 .bf16)

theorem B_cons0_0 : (kernelRun0_B.sl.HS0_2 arg4 arg5 x0 x1) =
    ⟨plane 0 inb_S8x512x128_S1x512x128_0_0_0, newM (scores (View.readAt (Elt Ideal) arg4.view (Rect.unit (s := S1x512x1024) ![0, 0, 0] S1x512x128.size inb_S1x512x1024_S1x512x128_0_0_0).toLoadRect (arg4.view.rep x0)) (View.readAt (Elt Ideal) arg5.view (Rect.unit (s := S1x512x1024) ![0, 0, 0] S1x512x128.size inb_S1x512x1024_S1x512x128_0_0_0).toLoadRect (arg5.view.rep x1))) (scM0_0.view.readCov (kernelRun0_B.sl.HS0_1) (plane 0 inb_S8x512x128_S1x512x128_0_0_0).toLoadRect)⟩ :: (kernelRun0_B.sl.HS0_1) := rfl

theorem B_cons0_1 : (kernelRun0_B.sl.HS0_3 arg4 arg5 x0 x1) =
    ⟨plane 1 inb_S8x512x128_S1x512x128_1_0_0, newM (scores (View.readAt (Elt Ideal) arg4.view (Rect.unit (s := S1x512x1024) ![0, 0, 128] S1x512x128.size inb_S1x512x1024_S1x512x128_0_0_128).toLoadRect (arg4.view.rep x0)) (View.readAt (Elt Ideal) arg5.view (Rect.unit (s := S1x512x1024) ![0, 0, 128] S1x512x128.size inb_S1x512x1024_S1x512x128_0_0_128).toLoadRect (arg5.view.rep x1))) (scM0_0.view.readCov (kernelRun0_B.sl.HS0_2 arg4 arg5 x0 x1) (plane 1 inb_S8x512x128_S1x512x128_1_0_0).toLoadRect)⟩ :: (kernelRun0_B.sl.HS0_2 arg4 arg5 x0 x1) := rfl

theorem B_cons0_2 : (kernelRun0_B.sl.HS0_4 arg4 arg5 x0 x1) =
    ⟨plane 2 inb_S8x512x128_S1x512x128_2_0_0, newM (scores (View.readAt (Elt Ideal) arg4.view (Rect.unit (s := S1x512x1024) ![0, 0, 256] S1x512x128.size inb_S1x512x1024_S1x512x128_0_0_256).toLoadRect (arg4.view.rep x0)) (View.readAt (Elt Ideal) arg5.view (Rect.unit (s := S1x512x1024) ![0, 0, 256] S1x512x128.size inb_S1x512x1024_S1x512x128_0_0_256).toLoadRect (arg5.view.rep x1))) (scM0_0.view.readCov (kernelRun0_B.sl.HS0_3 arg4 arg5 x0 x1) (plane 2 inb_S8x512x128_S1x512x128_2_0_0).toLoadRect)⟩ :: (kernelRun0_B.sl.HS0_3 arg4 arg5 x0 x1) := rfl

theorem B_cons0_3 : (kernelRun0_B.sl.HS0_5 arg4 arg5 x0 x1) =
    ⟨plane 3 inb_S8x512x128_S1x512x128_3_0_0, newM (scores (View.readAt (Elt Ideal) arg4.view (Rect.unit (s := S1x512x1024) ![0, 0, 384] S1x512x128.size inb_S1x512x1024_S1x512x128_0_0_384).toLoadRect (arg4.view.rep x0)) (View.readAt (Elt Ideal) arg5.view (Rect.unit (s := S1x512x1024) ![0, 0, 384] S1x512x128.size inb_S1x512x1024_S1x512x128_0_0_384).toLoadRect (arg5.view.rep x1))) (scM0_0.view.readCov (kernelRun0_B.sl.HS0_4 arg4 arg5 x0 x1) (plane 3 inb_S8x512x128_S1x512x128_3_0_0).toLoadRect)⟩ :: (kernelRun0_B.sl.HS0_4 arg4 arg5 x0 x1) := rfl

theorem B_cons0_4 : (kernelRun0_B.sl.HS0_6 arg4 arg5 x0 x1) =
    ⟨plane 4 inb_S8x512x128_S1x512x128_4_0_0, newM (scores (View.readAt (Elt Ideal) arg4.view (Rect.unit (s := S1x512x1024) ![0, 0, 512] S1x512x128.size inb_S1x512x1024_S1x512x128_0_0_512).toLoadRect (arg4.view.rep x0)) (View.readAt (Elt Ideal) arg5.view (Rect.unit (s := S1x512x1024) ![0, 0, 512] S1x512x128.size inb_S1x512x1024_S1x512x128_0_0_512).toLoadRect (arg5.view.rep x1))) (scM0_0.view.readCov (kernelRun0_B.sl.HS0_5 arg4 arg5 x0 x1) (plane 4 inb_S8x512x128_S1x512x128_4_0_0).toLoadRect)⟩ :: (kernelRun0_B.sl.HS0_5 arg4 arg5 x0 x1) := rfl

theorem B_cons0_5 : (kernelRun0_B.sl.HS0_7 arg4 arg5 x0 x1) =
    ⟨plane 5 inb_S8x512x128_S1x512x128_5_0_0, newM (scores (View.readAt (Elt Ideal) arg4.view (Rect.unit (s := S1x512x1024) ![0, 0, 640] S1x512x128.size inb_S1x512x1024_S1x512x128_0_0_640).toLoadRect (arg4.view.rep x0)) (View.readAt (Elt Ideal) arg5.view (Rect.unit (s := S1x512x1024) ![0, 0, 640] S1x512x128.size inb_S1x512x1024_S1x512x128_0_0_640).toLoadRect (arg5.view.rep x1))) (scM0_0.view.readCov (kernelRun0_B.sl.HS0_6 arg4 arg5 x0 x1) (plane 5 inb_S8x512x128_S1x512x128_5_0_0).toLoadRect)⟩ :: (kernelRun0_B.sl.HS0_6 arg4 arg5 x0 x1) := rfl

theorem B_cons0_6 : (kernelRun0_B.sl.HS0_8 arg4 arg5 x0 x1) =
    ⟨plane 6 inb_S8x512x128_S1x512x128_6_0_0, newM (scores (View.readAt (Elt Ideal) arg4.view (Rect.unit (s := S1x512x1024) ![0, 0, 768] S1x512x128.size inb_S1x512x1024_S1x512x128_0_0_768).toLoadRect (arg4.view.rep x0)) (View.readAt (Elt Ideal) arg5.view (Rect.unit (s := S1x512x1024) ![0, 0, 768] S1x512x128.size inb_S1x512x1024_S1x512x128_0_0_768).toLoadRect (arg5.view.rep x1))) (scM0_0.view.readCov (kernelRun0_B.sl.HS0_7 arg4 arg5 x0 x1) (plane 6 inb_S8x512x128_S1x512x128_6_0_0).toLoadRect)⟩ :: (kernelRun0_B.sl.HS0_7 arg4 arg5 x0 x1) := rfl

theorem B_cons0_7 : (kernelRun0_B.sl.HS0_9 arg4 arg5 x0 x1) =
    ⟨plane 7 inb_S8x512x128_S1x512x128_7_0_0, newM (scores (View.readAt (Elt Ideal) arg4.view (Rect.unit (s := S1x512x1024) ![0, 0, 896] S1x512x128.size inb_S1x512x1024_S1x512x128_0_0_896).toLoadRect (arg4.view.rep x0)) (View.readAt (Elt Ideal) arg5.view (Rect.unit (s := S1x512x1024) ![0, 0, 896] S1x512x128.size inb_S1x512x1024_S1x512x128_0_0_896).toLoadRect (arg5.view.rep x1))) (scM0_0.view.readCov (kernelRun0_B.sl.HS0_8 arg4 arg5 x0 x1) (plane 7 inb_S8x512x128_S1x512x128_7_0_0).toLoadRect)⟩ :: (kernelRun0_B.sl.HS0_8 arg4 arg5 x0 x1) := rfl

theorem B_load0_0 : (scM0_0.view.readCov (kernelRun0_B.sl.HS0_1) (plane 0 inb_S8x512x128_S1x512x128_0_0_0).toLoadRect) = fun _ => (⊥ : EReal) := by
  exact (congrArg (fun w => scM0_0.view.readCov [(⟨Rect.unit (s := S8x512x128) ![0, 0, 0] S8x512x128.size inb_S8x512x128_S8x512x128_0_0_0, w⟩ : View.Piece (Elt Ideal) S8x512x128 .f32)] _) fill_m).trans (load_fill scM0_0.view 0 _ _ _)

theorem B_load0_1 : (scM0_0.view.readCov (kernelRun0_B.sl.HS0_2 arg4 arg5 x0 x1) (plane 1 inb_S8x512x128_S1x512x128_1_0_0).toLoadRect) = fun _ => (⊥ : EReal) := by
  refine (congrArg (fun L => scM0_0.view.readCov L _) (B_cons0_0 arg4 arg5 x0 x1)).trans ((load_skip scM0_0.view 0 1 _ _ _ _ (by decide) (by decide)).trans ?_)
  exact (congrArg (fun w => scM0_0.view.readCov [(⟨Rect.unit (s := S8x512x128) ![0, 0, 0] S8x512x128.size inb_S8x512x128_S8x512x128_0_0_0, w⟩ : View.Piece (Elt Ideal) S8x512x128 .f32)] _) fill_m).trans (load_fill scM0_0.view 1 _ _ _)

theorem B_load0_2 : (scM0_0.view.readCov (kernelRun0_B.sl.HS0_3 arg4 arg5 x0 x1) (plane 2 inb_S8x512x128_S1x512x128_2_0_0).toLoadRect) = fun _ => (⊥ : EReal) := by
  refine (congrArg (fun L => scM0_0.view.readCov L _) (B_cons0_1 arg4 arg5 x0 x1)).trans ((load_skip scM0_0.view 1 2 _ _ _ _ (by decide) (by decide)).trans ?_)
  refine (congrArg (fun L => scM0_0.view.readCov L _) (B_cons0_0 arg4 arg5 x0 x1)).trans ((load_skip scM0_0.view 0 2 _ _ _ _ (by decide) (by decide)).trans ?_)
  exact (congrArg (fun w => scM0_0.view.readCov [(⟨Rect.unit (s := S8x512x128) ![0, 0, 0] S8x512x128.size inb_S8x512x128_S8x512x128_0_0_0, w⟩ : View.Piece (Elt Ideal) S8x512x128 .f32)] _) fill_m).trans (load_fill scM0_0.view 2 _ _ _)

theorem B_load0_3 : (scM0_0.view.readCov (kernelRun0_B.sl.HS0_4 arg4 arg5 x0 x1) (plane 3 inb_S8x512x128_S1x512x128_3_0_0).toLoadRect) = fun _ => (⊥ : EReal) := by
  refine (congrArg (fun L => scM0_0.view.readCov L _) (B_cons0_2 arg4 arg5 x0 x1)).trans ((load_skip scM0_0.view 2 3 _ _ _ _ (by decide) (by decide)).trans ?_)
  refine (congrArg (fun L => scM0_0.view.readCov L _) (B_cons0_1 arg4 arg5 x0 x1)).trans ((load_skip scM0_0.view 1 3 _ _ _ _ (by decide) (by decide)).trans ?_)
  refine (congrArg (fun L => scM0_0.view.readCov L _) (B_cons0_0 arg4 arg5 x0 x1)).trans ((load_skip scM0_0.view 0 3 _ _ _ _ (by decide) (by decide)).trans ?_)
  exact (congrArg (fun w => scM0_0.view.readCov [(⟨Rect.unit (s := S8x512x128) ![0, 0, 0] S8x512x128.size inb_S8x512x128_S8x512x128_0_0_0, w⟩ : View.Piece (Elt Ideal) S8x512x128 .f32)] _) fill_m).trans (load_fill scM0_0.view 3 _ _ _)

theorem B_load0_4 : (scM0_0.view.readCov (kernelRun0_B.sl.HS0_5 arg4 arg5 x0 x1) (plane 4 inb_S8x512x128_S1x512x128_4_0_0).toLoadRect) = fun _ => (⊥ : EReal) := by
  refine (congrArg (fun L => scM0_0.view.readCov L _) (B_cons0_3 arg4 arg5 x0 x1)).trans ((load_skip scM0_0.view 3 4 _ _ _ _ (by decide) (by decide)).trans ?_)
  refine (congrArg (fun L => scM0_0.view.readCov L _) (B_cons0_2 arg4 arg5 x0 x1)).trans ((load_skip scM0_0.view 2 4 _ _ _ _ (by decide) (by decide)).trans ?_)
  refine (congrArg (fun L => scM0_0.view.readCov L _) (B_cons0_1 arg4 arg5 x0 x1)).trans ((load_skip scM0_0.view 1 4 _ _ _ _ (by decide) (by decide)).trans ?_)
  refine (congrArg (fun L => scM0_0.view.readCov L _) (B_cons0_0 arg4 arg5 x0 x1)).trans ((load_skip scM0_0.view 0 4 _ _ _ _ (by decide) (by decide)).trans ?_)
  exact (congrArg (fun w => scM0_0.view.readCov [(⟨Rect.unit (s := S8x512x128) ![0, 0, 0] S8x512x128.size inb_S8x512x128_S8x512x128_0_0_0, w⟩ : View.Piece (Elt Ideal) S8x512x128 .f32)] _) fill_m).trans (load_fill scM0_0.view 4 _ _ _)

theorem B_load0_5 : (scM0_0.view.readCov (kernelRun0_B.sl.HS0_6 arg4 arg5 x0 x1) (plane 5 inb_S8x512x128_S1x512x128_5_0_0).toLoadRect) = fun _ => (⊥ : EReal) := by
  refine (congrArg (fun L => scM0_0.view.readCov L _) (B_cons0_4 arg4 arg5 x0 x1)).trans ((load_skip scM0_0.view 4 5 _ _ _ _ (by decide) (by decide)).trans ?_)
  refine (congrArg (fun L => scM0_0.view.readCov L _) (B_cons0_3 arg4 arg5 x0 x1)).trans ((load_skip scM0_0.view 3 5 _ _ _ _ (by decide) (by decide)).trans ?_)
  refine (congrArg (fun L => scM0_0.view.readCov L _) (B_cons0_2 arg4 arg5 x0 x1)).trans ((load_skip scM0_0.view 2 5 _ _ _ _ (by decide) (by decide)).trans ?_)
  refine (congrArg (fun L => scM0_0.view.readCov L _) (B_cons0_1 arg4 arg5 x0 x1)).trans ((load_skip scM0_0.view 1 5 _ _ _ _ (by decide) (by decide)).trans ?_)
  refine (congrArg (fun L => scM0_0.view.readCov L _) (B_cons0_0 arg4 arg5 x0 x1)).trans ((load_skip scM0_0.view 0 5 _ _ _ _ (by decide) (by decide)).trans ?_)
  exact (congrArg (fun w => scM0_0.view.readCov [(⟨Rect.unit (s := S8x512x128) ![0, 0, 0] S8x512x128.size inb_S8x512x128_S8x512x128_0_0_0, w⟩ : View.Piece (Elt Ideal) S8x512x128 .f32)] _) fill_m).trans (load_fill scM0_0.view 5 _ _ _)

theorem B_load0_6 : (scM0_0.view.readCov (kernelRun0_B.sl.HS0_7 arg4 arg5 x0 x1) (plane 6 inb_S8x512x128_S1x512x128_6_0_0).toLoadRect) = fun _ => (⊥ : EReal) := by
  refine (congrArg (fun L => scM0_0.view.readCov L _) (B_cons0_5 arg4 arg5 x0 x1)).trans ((load_skip scM0_0.view 5 6 _ _ _ _ (by decide) (by decide)).trans ?_)
  refine (congrArg (fun L => scM0_0.view.readCov L _) (B_cons0_4 arg4 arg5 x0 x1)).trans ((load_skip scM0_0.view 4 6 _ _ _ _ (by decide) (by decide)).trans ?_)
  refine (congrArg (fun L => scM0_0.view.readCov L _) (B_cons0_3 arg4 arg5 x0 x1)).trans ((load_skip scM0_0.view 3 6 _ _ _ _ (by decide) (by decide)).trans ?_)
  refine (congrArg (fun L => scM0_0.view.readCov L _) (B_cons0_2 arg4 arg5 x0 x1)).trans ((load_skip scM0_0.view 2 6 _ _ _ _ (by decide) (by decide)).trans ?_)
  refine (congrArg (fun L => scM0_0.view.readCov L _) (B_cons0_1 arg4 arg5 x0 x1)).trans ((load_skip scM0_0.view 1 6 _ _ _ _ (by decide) (by decide)).trans ?_)
  refine (congrArg (fun L => scM0_0.view.readCov L _) (B_cons0_0 arg4 arg5 x0 x1)).trans ((load_skip scM0_0.view 0 6 _ _ _ _ (by decide) (by decide)).trans ?_)
  exact (congrArg (fun w => scM0_0.view.readCov [(⟨Rect.unit (s := S8x512x128) ![0, 0, 0] S8x512x128.size inb_S8x512x128_S8x512x128_0_0_0, w⟩ : View.Piece (Elt Ideal) S8x512x128 .f32)] _) fill_m).trans (load_fill scM0_0.view 6 _ _ _)

theorem B_load0_7 : (scM0_0.view.readCov (kernelRun0_B.sl.HS0_8 arg4 arg5 x0 x1) (plane 7 inb_S8x512x128_S1x512x128_7_0_0).toLoadRect) = fun _ => (⊥ : EReal) := by
  refine (congrArg (fun L => scM0_0.view.readCov L _) (B_cons0_6 arg4 arg5 x0 x1)).trans ((load_skip scM0_0.view 6 7 _ _ _ _ (by decide) (by decide)).trans ?_)
  refine (congrArg (fun L => scM0_0.view.readCov L _) (B_cons0_5 arg4 arg5 x0 x1)).trans ((load_skip scM0_0.view 5 7 _ _ _ _ (by decide) (by decide)).trans ?_)
  refine (congrArg (fun L => scM0_0.view.readCov L _) (B_cons0_4 arg4 arg5 x0 x1)).trans ((load_skip scM0_0.view 4 7 _ _ _ _ (by decide) (by decide)).trans ?_)
  refine (congrArg (fun L => scM0_0.view.readCov L _) (B_cons0_3 arg4 arg5 x0 x1)).trans ((load_skip scM0_0.view 3 7 _ _ _ _ (by decide) (by decide)).trans ?_)
  refine (congrArg (fun L => scM0_0.view.readCov L _) (B_cons0_2 arg4 arg5 x0 x1)).trans ((load_skip scM0_0.view 2 7 _ _ _ _ (by decide) (by decide)).trans ?_)
  refine (congrArg (fun L => scM0_0.view.readCov L _) (B_cons0_1 arg4 arg5 x0 x1)).trans ((load_skip scM0_0.view 1 7 _ _ _ _ (by decide) (by decide)).trans ?_)
  refine (congrArg (fun L => scM0_0.view.readCov L _) (B_cons0_0 arg4 arg5 x0 x1)).trans ((load_skip scM0_0.view 0 7 _ _ _ _ (by decide) (by decide)).trans ?_)
  exact (congrArg (fun w => scM0_0.view.readCov [(⟨Rect.unit (s := S8x512x128) ![0, 0, 0] S8x512x128.size inb_S8x512x128_S8x512x128_0_0_0, w⟩ : View.Piece (Elt Ideal) S8x512x128 .f32)] _) fill_m).trans (load_fill scM0_0.view 7 _ _ _)

theorem B_put0_0 : (kernelRun0_B.sl.HS0_2 arg4 arg5 x0 x1) =
    ⟨plane 0 inb_S8x512x128_S1x512x128_0_0_0, newM (scores (qk x0 0) (qk x1 0)) (fun _ => (⊥ : EReal))⟩ :: (kernelRun0_B.sl.HS0_1) := by
  rw [B_cons0_0, load_qk arg4.view x0 0 0 rfl, load_qk arg5.view x1 0 0 rfl, B_load0_0 ] <;> rfl

theorem B_put0_1 : (kernelRun0_B.sl.HS0_3 arg4 arg5 x0 x1) =
    ⟨plane 1 inb_S8x512x128_S1x512x128_1_0_0, newM (scores (qk x0 1) (qk x1 1)) (fun _ => (⊥ : EReal))⟩ :: (kernelRun0_B.sl.HS0_2 arg4 arg5 x0 x1) := by
  rw [B_cons0_1, load_qk arg4.view x0 1 128 rfl, load_qk arg5.view x1 1 128 rfl, B_load0_1 arg4 arg5 x0 x1] <;> rfl

theorem B_put0_2 : (kernelRun0_B.sl.HS0_4 arg4 arg5 x0 x1) =
    ⟨plane 2 inb_S8x512x128_S1x512x128_2_0_0, newM (scores (qk x0 2) (qk x1 2)) (fun _ => (⊥ : EReal))⟩ :: (kernelRun0_B.sl.HS0_3 arg4 arg5 x0 x1) := by
  rw [B_cons0_2, load_qk arg4.view x0 2 256 rfl, load_qk arg5.view x1 2 256 rfl, B_load0_2 arg4 arg5 x0 x1] <;> rfl

theorem B_put0_3 : (kernelRun0_B.sl.HS0_5 arg4 arg5 x0 x1) =
    ⟨plane 3 inb_S8x512x128_S1x512x128_3_0_0, newM (scores (qk x0 3) (qk x1 3)) (fun _ => (⊥ : EReal))⟩ :: (kernelRun0_B.sl.HS0_4 arg4 arg5 x0 x1) := by
  rw [B_cons0_3, load_qk arg4.view x0 3 384 rfl, load_qk arg5.view x1 3 384 rfl, B_load0_3 arg4 arg5 x0 x1] <;> rfl

theorem B_put0_4 : (kernelRun0_B.sl.HS0_6 arg4 arg5 x0 x1) =
    ⟨plane 4 inb_S8x512x128_S1x512x128_4_0_0, newM (scores (qk x0 4) (qk x1 4)) (fun _ => (⊥ : EReal))⟩ :: (kernelRun0_B.sl.HS0_5 arg4 arg5 x0 x1) := by
  rw [B_cons0_4, load_qk arg4.view x0 4 512 rfl, load_qk arg5.view x1 4 512 rfl, B_load0_4 arg4 arg5 x0 x1] <;> rfl

theorem B_put0_5 : (kernelRun0_B.sl.HS0_7 arg4 arg5 x0 x1) =
    ⟨plane 5 inb_S8x512x128_S1x512x128_5_0_0, newM (scores (qk x0 5) (qk x1 5)) (fun _ => (⊥ : EReal))⟩ :: (kernelRun0_B.sl.HS0_6 arg4 arg5 x0 x1) := by
  rw [B_cons0_5, load_qk arg4.view x0 5 640 rfl, load_qk arg5.view x1 5 640 rfl, B_load0_5 arg4 arg5 x0 x1] <;> rfl

theorem B_put0_6 : (kernelRun0_B.sl.HS0_8 arg4 arg5 x0 x1) =
    ⟨plane 6 inb_S8x512x128_S1x512x128_6_0_0, newM (scores (qk x0 6) (qk x1 6)) (fun _ => (⊥ : EReal))⟩ :: (kernelRun0_B.sl.HS0_7 arg4 arg5 x0 x1) := by
  rw [B_cons0_6, load_qk arg4.view x0 6 768 rfl, load_qk arg5.view x1 6 768 rfl, B_load0_6 arg4 arg5 x0 x1] <;> rfl

theorem B_put0_7 : (kernelRun0_B.sl.HS0_9 arg4 arg5 x0 x1) =
    ⟨plane 7 inb_S8x512x128_S1x512x128_7_0_0, newM (scores (qk x0 7) (qk x1 7)) (fun _ => (⊥ : EReal))⟩ :: (kernelRun0_B.sl.HS0_8 arg4 arg5 x0 x1) := by
  rw [B_cons0_7, load_qk arg4.view x0 7 896 rfl, load_qk arg5.view x1 7 896 rfl, B_load0_7 arg4 arg5 x0 x1] <;> rfl

/-- The maxima stored by the first point, off the diagonal. -/
theorem B_newM : (kernelRun0_B.sl.HS0_9 arg4 arg5 x0 x1)
    = planes (fun h => newM (sc False x0 x1 h) (fun _ => (⊥ : EReal))) ++ (kernelRun0_B.sl.HS0_1) := by
  rw [B_put0_7, B_put0_6, B_put0_5, B_put0_4, B_put0_3, B_put0_2, B_put0_1, B_put0_0]
  rfl

theorem B_cons1_0 : (kernelRun0_B.sl.HS1_2 arg4 arg5 x0 x1) =
    ⟨plane 0 inb_S8x512x128_S1x512x128_0_0_0, newL (scores (View.readAt (Elt Ideal) arg4.view (Rect.unit (s := S1x512x1024) ![0, 0, 0] S1x512x128.size inb_S1x512x1024_S1x512x128_0_0_0).toLoadRect (arg4.view.rep x0)) (View.readAt (Elt Ideal) arg5.view (Rect.unit (s := S1x512x1024) ![0, 0, 0] S1x512x128.size inb_S1x512x1024_S1x512x128_0_0_0).toLoadRect (arg5.view.rep x1))) (scM0_0.view.readCov (kernelRun0_B.sl.HS0_1) (plane 0 inb_S8x512x128_S1x512x128_0_0_0).toLoadRect) (scM0_1.view.readCov (kernelRun0_B.sl.HS1_1) (plane 0 inb_S8x512x128_S1x512x128_0_0_0).toLoadRect)⟩ :: (kernelRun0_B.sl.HS1_1) := rfl

theorem B_cons1_1 : (kernelRun0_B.sl.HS1_3 arg4 arg5 x0 x1) =
    ⟨plane 1 inb_S8x512x128_S1x512x128_1_0_0, newL (scores (View.readAt (Elt Ideal) arg4.view (Rect.unit (s := S1x512x1024) ![0, 0, 128] S1x512x128.size inb_S1x512x1024_S1x512x128_0_0_128).toLoadRect (arg4.view.rep x0)) (View.readAt (Elt Ideal) arg5.view (Rect.unit (s := S1x512x1024) ![0, 0, 128] S1x512x128.size inb_S1x512x1024_S1x512x128_0_0_128).toLoadRect (arg5.view.rep x1))) (scM0_0.view.readCov (kernelRun0_B.sl.HS0_2 arg4 arg5 x0 x1) (plane 1 inb_S8x512x128_S1x512x128_1_0_0).toLoadRect) (scM0_1.view.readCov (kernelRun0_B.sl.HS1_2 arg4 arg5 x0 x1) (plane 1 inb_S8x512x128_S1x512x128_1_0_0).toLoadRect)⟩ :: (kernelRun0_B.sl.HS1_2 arg4 arg5 x0 x1) := rfl

theorem B_cons1_2 : (kernelRun0_B.sl.HS1_4 arg4 arg5 x0 x1) =
    ⟨plane 2 inb_S8x512x128_S1x512x128_2_0_0, newL (scores (View.readAt (Elt Ideal) arg4.view (Rect.unit (s := S1x512x1024) ![0, 0, 256] S1x512x128.size inb_S1x512x1024_S1x512x128_0_0_256).toLoadRect (arg4.view.rep x0)) (View.readAt (Elt Ideal) arg5.view (Rect.unit (s := S1x512x1024) ![0, 0, 256] S1x512x128.size inb_S1x512x1024_S1x512x128_0_0_256).toLoadRect (arg5.view.rep x1))) (scM0_0.view.readCov (kernelRun0_B.sl.HS0_3 arg4 arg5 x0 x1) (plane 2 inb_S8x512x128_S1x512x128_2_0_0).toLoadRect) (scM0_1.view.readCov (kernelRun0_B.sl.HS1_3 arg4 arg5 x0 x1) (plane 2 inb_S8x512x128_S1x512x128_2_0_0).toLoadRect)⟩ :: (kernelRun0_B.sl.HS1_3 arg4 arg5 x0 x1) := rfl

theorem B_cons1_3 : (kernelRun0_B.sl.HS1_5 arg4 arg5 x0 x1) =
    ⟨plane 3 inb_S8x512x128_S1x512x128_3_0_0, newL (scores (View.readAt (Elt Ideal) arg4.view (Rect.unit (s := S1x512x1024) ![0, 0, 384] S1x512x128.size inb_S1x512x1024_S1x512x128_0_0_384).toLoadRect (arg4.view.rep x0)) (View.readAt (Elt Ideal) arg5.view (Rect.unit (s := S1x512x1024) ![0, 0, 384] S1x512x128.size inb_S1x512x1024_S1x512x128_0_0_384).toLoadRect (arg5.view.rep x1))) (scM0_0.view.readCov (kernelRun0_B.sl.HS0_4 arg4 arg5 x0 x1) (plane 3 inb_S8x512x128_S1x512x128_3_0_0).toLoadRect) (scM0_1.view.readCov (kernelRun0_B.sl.HS1_4 arg4 arg5 x0 x1) (plane 3 inb_S8x512x128_S1x512x128_3_0_0).toLoadRect)⟩ :: (kernelRun0_B.sl.HS1_4 arg4 arg5 x0 x1) := rfl

theorem B_cons1_4 : (kernelRun0_B.sl.HS1_6 arg4 arg5 x0 x1) =
    ⟨plane 4 inb_S8x512x128_S1x512x128_4_0_0, newL (scores (View.readAt (Elt Ideal) arg4.view (Rect.unit (s := S1x512x1024) ![0, 0, 512] S1x512x128.size inb_S1x512x1024_S1x512x128_0_0_512).toLoadRect (arg4.view.rep x0)) (View.readAt (Elt Ideal) arg5.view (Rect.unit (s := S1x512x1024) ![0, 0, 512] S1x512x128.size inb_S1x512x1024_S1x512x128_0_0_512).toLoadRect (arg5.view.rep x1))) (scM0_0.view.readCov (kernelRun0_B.sl.HS0_5 arg4 arg5 x0 x1) (plane 4 inb_S8x512x128_S1x512x128_4_0_0).toLoadRect) (scM0_1.view.readCov (kernelRun0_B.sl.HS1_5 arg4 arg5 x0 x1) (plane 4 inb_S8x512x128_S1x512x128_4_0_0).toLoadRect)⟩ :: (kernelRun0_B.sl.HS1_5 arg4 arg5 x0 x1) := rfl

theorem B_cons1_5 : (kernelRun0_B.sl.HS1_7 arg4 arg5 x0 x1) =
    ⟨plane 5 inb_S8x512x128_S1x512x128_5_0_0, newL (scores (View.readAt (Elt Ideal) arg4.view (Rect.unit (s := S1x512x1024) ![0, 0, 640] S1x512x128.size inb_S1x512x1024_S1x512x128_0_0_640).toLoadRect (arg4.view.rep x0)) (View.readAt (Elt Ideal) arg5.view (Rect.unit (s := S1x512x1024) ![0, 0, 640] S1x512x128.size inb_S1x512x1024_S1x512x128_0_0_640).toLoadRect (arg5.view.rep x1))) (scM0_0.view.readCov (kernelRun0_B.sl.HS0_6 arg4 arg5 x0 x1) (plane 5 inb_S8x512x128_S1x512x128_5_0_0).toLoadRect) (scM0_1.view.readCov (kernelRun0_B.sl.HS1_6 arg4 arg5 x0 x1) (plane 5 inb_S8x512x128_S1x512x128_5_0_0).toLoadRect)⟩ :: (kernelRun0_B.sl.HS1_6 arg4 arg5 x0 x1) := rfl

theorem B_cons1_6 : (kernelRun0_B.sl.HS1_8 arg4 arg5 x0 x1) =
    ⟨plane 6 inb_S8x512x128_S1x512x128_6_0_0, newL (scores (View.readAt (Elt Ideal) arg4.view (Rect.unit (s := S1x512x1024) ![0, 0, 768] S1x512x128.size inb_S1x512x1024_S1x512x128_0_0_768).toLoadRect (arg4.view.rep x0)) (View.readAt (Elt Ideal) arg5.view (Rect.unit (s := S1x512x1024) ![0, 0, 768] S1x512x128.size inb_S1x512x1024_S1x512x128_0_0_768).toLoadRect (arg5.view.rep x1))) (scM0_0.view.readCov (kernelRun0_B.sl.HS0_7 arg4 arg5 x0 x1) (plane 6 inb_S8x512x128_S1x512x128_6_0_0).toLoadRect) (scM0_1.view.readCov (kernelRun0_B.sl.HS1_7 arg4 arg5 x0 x1) (plane 6 inb_S8x512x128_S1x512x128_6_0_0).toLoadRect)⟩ :: (kernelRun0_B.sl.HS1_7 arg4 arg5 x0 x1) := rfl

theorem B_cons1_7 : (kernelRun0_B.sl.HS1_9 arg4 arg5 x0 x1) =
    ⟨plane 7 inb_S8x512x128_S1x512x128_7_0_0, newL (scores (View.readAt (Elt Ideal) arg4.view (Rect.unit (s := S1x512x1024) ![0, 0, 896] S1x512x128.size inb_S1x512x1024_S1x512x128_0_0_896).toLoadRect (arg4.view.rep x0)) (View.readAt (Elt Ideal) arg5.view (Rect.unit (s := S1x512x1024) ![0, 0, 896] S1x512x128.size inb_S1x512x1024_S1x512x128_0_0_896).toLoadRect (arg5.view.rep x1))) (scM0_0.view.readCov (kernelRun0_B.sl.HS0_8 arg4 arg5 x0 x1) (plane 7 inb_S8x512x128_S1x512x128_7_0_0).toLoadRect) (scM0_1.view.readCov (kernelRun0_B.sl.HS1_8 arg4 arg5 x0 x1) (plane 7 inb_S8x512x128_S1x512x128_7_0_0).toLoadRect)⟩ :: (kernelRun0_B.sl.HS1_8 arg4 arg5 x0 x1) := rfl

theorem B_load1_0 : (scM0_1.view.readCov (kernelRun0_B.sl.HS1_1) (plane 0 inb_S8x512x128_S1x512x128_0_0_0).toLoadRect) = fun _ => (0 : EReal) := by
  exact (congrArg (fun w => scM0_1.view.readCov [(⟨Rect.unit (s := S8x512x128) ![0, 0, 0] S8x512x128.size inb_S8x512x128_S8x512x128_0_0_0, w⟩ : View.Piece (Elt Ideal) S8x512x128 .f32)] _) fill_l).trans (load_fill scM0_1.view 0 _ _ _)

theorem B_load1_1 : (scM0_1.view.readCov (kernelRun0_B.sl.HS1_2 arg4 arg5 x0 x1) (plane 1 inb_S8x512x128_S1x512x128_1_0_0).toLoadRect) = fun _ => (0 : EReal) := by
  refine (congrArg (fun L => scM0_1.view.readCov L _) (B_cons1_0 arg4 arg5 x0 x1)).trans ((load_skip scM0_1.view 0 1 _ _ _ _ (by decide) (by decide)).trans ?_)
  exact (congrArg (fun w => scM0_1.view.readCov [(⟨Rect.unit (s := S8x512x128) ![0, 0, 0] S8x512x128.size inb_S8x512x128_S8x512x128_0_0_0, w⟩ : View.Piece (Elt Ideal) S8x512x128 .f32)] _) fill_l).trans (load_fill scM0_1.view 1 _ _ _)

theorem B_load1_2 : (scM0_1.view.readCov (kernelRun0_B.sl.HS1_3 arg4 arg5 x0 x1) (plane 2 inb_S8x512x128_S1x512x128_2_0_0).toLoadRect) = fun _ => (0 : EReal) := by
  refine (congrArg (fun L => scM0_1.view.readCov L _) (B_cons1_1 arg4 arg5 x0 x1)).trans ((load_skip scM0_1.view 1 2 _ _ _ _ (by decide) (by decide)).trans ?_)
  refine (congrArg (fun L => scM0_1.view.readCov L _) (B_cons1_0 arg4 arg5 x0 x1)).trans ((load_skip scM0_1.view 0 2 _ _ _ _ (by decide) (by decide)).trans ?_)
  exact (congrArg (fun w => scM0_1.view.readCov [(⟨Rect.unit (s := S8x512x128) ![0, 0, 0] S8x512x128.size inb_S8x512x128_S8x512x128_0_0_0, w⟩ : View.Piece (Elt Ideal) S8x512x128 .f32)] _) fill_l).trans (load_fill scM0_1.view 2 _ _ _)

theorem B_load1_3 : (scM0_1.view.readCov (kernelRun0_B.sl.HS1_4 arg4 arg5 x0 x1) (plane 3 inb_S8x512x128_S1x512x128_3_0_0).toLoadRect) = fun _ => (0 : EReal) := by
  refine (congrArg (fun L => scM0_1.view.readCov L _) (B_cons1_2 arg4 arg5 x0 x1)).trans ((load_skip scM0_1.view 2 3 _ _ _ _ (by decide) (by decide)).trans ?_)
  refine (congrArg (fun L => scM0_1.view.readCov L _) (B_cons1_1 arg4 arg5 x0 x1)).trans ((load_skip scM0_1.view 1 3 _ _ _ _ (by decide) (by decide)).trans ?_)
  refine (congrArg (fun L => scM0_1.view.readCov L _) (B_cons1_0 arg4 arg5 x0 x1)).trans ((load_skip scM0_1.view 0 3 _ _ _ _ (by decide) (by decide)).trans ?_)
  exact (congrArg (fun w => scM0_1.view.readCov [(⟨Rect.unit (s := S8x512x128) ![0, 0, 0] S8x512x128.size inb_S8x512x128_S8x512x128_0_0_0, w⟩ : View.Piece (Elt Ideal) S8x512x128 .f32)] _) fill_l).trans (load_fill scM0_1.view 3 _ _ _)

theorem B_load1_4 : (scM0_1.view.readCov (kernelRun0_B.sl.HS1_5 arg4 arg5 x0 x1) (plane 4 inb_S8x512x128_S1x512x128_4_0_0).toLoadRect) = fun _ => (0 : EReal) := by
  refine (congrArg (fun L => scM0_1.view.readCov L _) (B_cons1_3 arg4 arg5 x0 x1)).trans ((load_skip scM0_1.view 3 4 _ _ _ _ (by decide) (by decide)).trans ?_)
  refine (congrArg (fun L => scM0_1.view.readCov L _) (B_cons1_2 arg4 arg5 x0 x1)).trans ((load_skip scM0_1.view 2 4 _ _ _ _ (by decide) (by decide)).trans ?_)
  refine (congrArg (fun L => scM0_1.view.readCov L _) (B_cons1_1 arg4 arg5 x0 x1)).trans ((load_skip scM0_1.view 1 4 _ _ _ _ (by decide) (by decide)).trans ?_)
  refine (congrArg (fun L => scM0_1.view.readCov L _) (B_cons1_0 arg4 arg5 x0 x1)).trans ((load_skip scM0_1.view 0 4 _ _ _ _ (by decide) (by decide)).trans ?_)
  exact (congrArg (fun w => scM0_1.view.readCov [(⟨Rect.unit (s := S8x512x128) ![0, 0, 0] S8x512x128.size inb_S8x512x128_S8x512x128_0_0_0, w⟩ : View.Piece (Elt Ideal) S8x512x128 .f32)] _) fill_l).trans (load_fill scM0_1.view 4 _ _ _)

theorem B_load1_5 : (scM0_1.view.readCov (kernelRun0_B.sl.HS1_6 arg4 arg5 x0 x1) (plane 5 inb_S8x512x128_S1x512x128_5_0_0).toLoadRect) = fun _ => (0 : EReal) := by
  refine (congrArg (fun L => scM0_1.view.readCov L _) (B_cons1_4 arg4 arg5 x0 x1)).trans ((load_skip scM0_1.view 4 5 _ _ _ _ (by decide) (by decide)).trans ?_)
  refine (congrArg (fun L => scM0_1.view.readCov L _) (B_cons1_3 arg4 arg5 x0 x1)).trans ((load_skip scM0_1.view 3 5 _ _ _ _ (by decide) (by decide)).trans ?_)
  refine (congrArg (fun L => scM0_1.view.readCov L _) (B_cons1_2 arg4 arg5 x0 x1)).trans ((load_skip scM0_1.view 2 5 _ _ _ _ (by decide) (by decide)).trans ?_)
  refine (congrArg (fun L => scM0_1.view.readCov L _) (B_cons1_1 arg4 arg5 x0 x1)).trans ((load_skip scM0_1.view 1 5 _ _ _ _ (by decide) (by decide)).trans ?_)
  refine (congrArg (fun L => scM0_1.view.readCov L _) (B_cons1_0 arg4 arg5 x0 x1)).trans ((load_skip scM0_1.view 0 5 _ _ _ _ (by decide) (by decide)).trans ?_)
  exact (congrArg (fun w => scM0_1.view.readCov [(⟨Rect.unit (s := S8x512x128) ![0, 0, 0] S8x512x128.size inb_S8x512x128_S8x512x128_0_0_0, w⟩ : View.Piece (Elt Ideal) S8x512x128 .f32)] _) fill_l).trans (load_fill scM0_1.view 5 _ _ _)

theorem B_load1_6 : (scM0_1.view.readCov (kernelRun0_B.sl.HS1_7 arg4 arg5 x0 x1) (plane 6 inb_S8x512x128_S1x512x128_6_0_0).toLoadRect) = fun _ => (0 : EReal) := by
  refine (congrArg (fun L => scM0_1.view.readCov L _) (B_cons1_5 arg4 arg5 x0 x1)).trans ((load_skip scM0_1.view 5 6 _ _ _ _ (by decide) (by decide)).trans ?_)
  refine (congrArg (fun L => scM0_1.view.readCov L _) (B_cons1_4 arg4 arg5 x0 x1)).trans ((load_skip scM0_1.view 4 6 _ _ _ _ (by decide) (by decide)).trans ?_)
  refine (congrArg (fun L => scM0_1.view.readCov L _) (B_cons1_3 arg4 arg5 x0 x1)).trans ((load_skip scM0_1.view 3 6 _ _ _ _ (by decide) (by decide)).trans ?_)
  refine (congrArg (fun L => scM0_1.view.readCov L _) (B_cons1_2 arg4 arg5 x0 x1)).trans ((load_skip scM0_1.view 2 6 _ _ _ _ (by decide) (by decide)).trans ?_)
  refine (congrArg (fun L => scM0_1.view.readCov L _) (B_cons1_1 arg4 arg5 x0 x1)).trans ((load_skip scM0_1.view 1 6 _ _ _ _ (by decide) (by decide)).trans ?_)
  refine (congrArg (fun L => scM0_1.view.readCov L _) (B_cons1_0 arg4 arg5 x0 x1)).trans ((load_skip scM0_1.view 0 6 _ _ _ _ (by decide) (by decide)).trans ?_)
  exact (congrArg (fun w => scM0_1.view.readCov [(⟨Rect.unit (s := S8x512x128) ![0, 0, 0] S8x512x128.size inb_S8x512x128_S8x512x128_0_0_0, w⟩ : View.Piece (Elt Ideal) S8x512x128 .f32)] _) fill_l).trans (load_fill scM0_1.view 6 _ _ _)

theorem B_load1_7 : (scM0_1.view.readCov (kernelRun0_B.sl.HS1_8 arg4 arg5 x0 x1) (plane 7 inb_S8x512x128_S1x512x128_7_0_0).toLoadRect) = fun _ => (0 : EReal) := by
  refine (congrArg (fun L => scM0_1.view.readCov L _) (B_cons1_6 arg4 arg5 x0 x1)).trans ((load_skip scM0_1.view 6 7 _ _ _ _ (by decide) (by decide)).trans ?_)
  refine (congrArg (fun L => scM0_1.view.readCov L _) (B_cons1_5 arg4 arg5 x0 x1)).trans ((load_skip scM0_1.view 5 7 _ _ _ _ (by decide) (by decide)).trans ?_)
  refine (congrArg (fun L => scM0_1.view.readCov L _) (B_cons1_4 arg4 arg5 x0 x1)).trans ((load_skip scM0_1.view 4 7 _ _ _ _ (by decide) (by decide)).trans ?_)
  refine (congrArg (fun L => scM0_1.view.readCov L _) (B_cons1_3 arg4 arg5 x0 x1)).trans ((load_skip scM0_1.view 3 7 _ _ _ _ (by decide) (by decide)).trans ?_)
  refine (congrArg (fun L => scM0_1.view.readCov L _) (B_cons1_2 arg4 arg5 x0 x1)).trans ((load_skip scM0_1.view 2 7 _ _ _ _ (by decide) (by decide)).trans ?_)
  refine (congrArg (fun L => scM0_1.view.readCov L _) (B_cons1_1 arg4 arg5 x0 x1)).trans ((load_skip scM0_1.view 1 7 _ _ _ _ (by decide) (by decide)).trans ?_)
  refine (congrArg (fun L => scM0_1.view.readCov L _) (B_cons1_0 arg4 arg5 x0 x1)).trans ((load_skip scM0_1.view 0 7 _ _ _ _ (by decide) (by decide)).trans ?_)
  exact (congrArg (fun w => scM0_1.view.readCov [(⟨Rect.unit (s := S8x512x128) ![0, 0, 0] S8x512x128.size inb_S8x512x128_S8x512x128_0_0_0, w⟩ : View.Piece (Elt Ideal) S8x512x128 .f32)] _) fill_l).trans (load_fill scM0_1.view 7 _ _ _)

theorem B_put1_0 : (kernelRun0_B.sl.HS1_2 arg4 arg5 x0 x1) =
    ⟨plane 0 inb_S8x512x128_S1x512x128_0_0_0, newL (scores (qk x0 0) (qk x1 0)) (fun _ => (⊥ : EReal)) (fun _ => (0 : EReal))⟩ :: (kernelRun0_B.sl.HS1_1) := by
  rw [B_cons1_0, load_qk arg4.view x0 0 0 rfl, load_qk arg5.view x1 0 0 rfl, B_load0_0 , B_load1_0 ] <;> rfl

theorem B_put1_1 : (kernelRun0_B.sl.HS1_3 arg4 arg5 x0 x1) =
    ⟨plane 1 inb_S8x512x128_S1x512x128_1_0_0, newL (scores (qk x0 1) (qk x1 1)) (fun _ => (⊥ : EReal)) (fun _ => (0 : EReal))⟩ :: (kernelRun0_B.sl.HS1_2 arg4 arg5 x0 x1) := by
  rw [B_cons1_1, load_qk arg4.view x0 1 128 rfl, load_qk arg5.view x1 1 128 rfl, B_load0_1 arg4 arg5 x0 x1, B_load1_1 arg4 arg5 x0 x1] <;> rfl

theorem B_put1_2 : (kernelRun0_B.sl.HS1_4 arg4 arg5 x0 x1) =
    ⟨plane 2 inb_S8x512x128_S1x512x128_2_0_0, newL (scores (qk x0 2) (qk x1 2)) (fun _ => (⊥ : EReal)) (fun _ => (0 : EReal))⟩ :: (kernelRun0_B.sl.HS1_3 arg4 arg5 x0 x1) := by
  rw [B_cons1_2, load_qk arg4.view x0 2 256 rfl, load_qk arg5.view x1 2 256 rfl, B_load0_2 arg4 arg5 x0 x1, B_load1_2 arg4 arg5 x0 x1] <;> rfl

theorem B_put1_3 : (kernelRun0_B.sl.HS1_5 arg4 arg5 x0 x1) =
    ⟨plane 3 inb_S8x512x128_S1x512x128_3_0_0, newL (scores (qk x0 3) (qk x1 3)) (fun _ => (⊥ : EReal)) (fun _ => (0 : EReal))⟩ :: (kernelRun0_B.sl.HS1_4 arg4 arg5 x0 x1) := by
  rw [B_cons1_3, load_qk arg4.view x0 3 384 rfl, load_qk arg5.view x1 3 384 rfl, B_load0_3 arg4 arg5 x0 x1, B_load1_3 arg4 arg5 x0 x1] <;> rfl

theorem B_put1_4 : (kernelRun0_B.sl.HS1_6 arg4 arg5 x0 x1) =
    ⟨plane 4 inb_S8x512x128_S1x512x128_4_0_0, newL (scores (qk x0 4) (qk x1 4)) (fun _ => (⊥ : EReal)) (fun _ => (0 : EReal))⟩ :: (kernelRun0_B.sl.HS1_5 arg4 arg5 x0 x1) := by
  rw [B_cons1_4, load_qk arg4.view x0 4 512 rfl, load_qk arg5.view x1 4 512 rfl, B_load0_4 arg4 arg5 x0 x1, B_load1_4 arg4 arg5 x0 x1] <;> rfl

theorem B_put1_5 : (kernelRun0_B.sl.HS1_7 arg4 arg5 x0 x1) =
    ⟨plane 5 inb_S8x512x128_S1x512x128_5_0_0, newL (scores (qk x0 5) (qk x1 5)) (fun _ => (⊥ : EReal)) (fun _ => (0 : EReal))⟩ :: (kernelRun0_B.sl.HS1_6 arg4 arg5 x0 x1) := by
  rw [B_cons1_5, load_qk arg4.view x0 5 640 rfl, load_qk arg5.view x1 5 640 rfl, B_load0_5 arg4 arg5 x0 x1, B_load1_5 arg4 arg5 x0 x1] <;> rfl

theorem B_put1_6 : (kernelRun0_B.sl.HS1_8 arg4 arg5 x0 x1) =
    ⟨plane 6 inb_S8x512x128_S1x512x128_6_0_0, newL (scores (qk x0 6) (qk x1 6)) (fun _ => (⊥ : EReal)) (fun _ => (0 : EReal))⟩ :: (kernelRun0_B.sl.HS1_7 arg4 arg5 x0 x1) := by
  rw [B_cons1_6, load_qk arg4.view x0 6 768 rfl, load_qk arg5.view x1 6 768 rfl, B_load0_6 arg4 arg5 x0 x1, B_load1_6 arg4 arg5 x0 x1] <;> rfl

theorem B_put1_7 : (kernelRun0_B.sl.HS1_9 arg4 arg5 x0 x1) =
    ⟨plane 7 inb_S8x512x128_S1x512x128_7_0_0, newL (scores (qk x0 7) (qk x1 7)) (fun _ => (⊥ : EReal)) (fun _ => (0 : EReal))⟩ :: (kernelRun0_B.sl.HS1_8 arg4 arg5 x0 x1) := by
  rw [B_cons1_7, load_qk arg4.view x0 7 896 rfl, load_qk arg5.view x1 7 896 rfl, B_load0_7 arg4 arg5 x0 x1, B_load1_7 arg4 arg5 x0 x1] <;> rfl

/-- The sums stored by the first point, off the diagonal. -/
theorem B_newL : (kernelRun0_B.sl.HS1_9 arg4 arg5 x0 x1)
    = planes (fun h => newL (sc False x0 x1 h) (fun _ => (⊥ : EReal)) (fun _ => (0 : EReal))) ++ (kernelRun0_B.sl.HS1_1) := by
  rw [B_put1_7, B_put1_6, B_put1_5, B_put1_4, B_put1_3, B_put1_2, B_put1_1, B_put1_0]
  rfl

theorem B_cons2_0 : (kernelRun0_B.sl.HS2_2 arg4 arg5 arg6 x0 x1 x2) =
    ⟨plane 0 inb_S8x512x128_S1x512x128_0_0_0, newA (scores (View.readAt (Elt Ideal) arg4.view (Rect.unit (s := S1x512x1024) ![0, 0, 0] S1x512x128.size inb_S1x512x1024_S1x512x128_0_0_0).toLoadRect (arg4.view.rep x0)) (View.readAt (Elt Ideal) arg5.view (Rect.unit (s := S1x512x1024) ![0, 0, 0] S1x512x128.size inb_S1x512x1024_S1x512x128_0_0_0).toLoadRect (arg5.view.rep x1))) (scM0_0.view.readCov (kernelRun0_B.sl.HS0_1) (plane 0 inb_S8x512x128_S1x512x128_0_0_0).toLoadRect) (scM0_2.view.readCov (kernelRun0_B.sl.HS2_1) (plane 0 inb_S8x512x128_S1x512x128_0_0_0).toLoadRect) (View.readAt (Elt Ideal) arg6.view (Rect.unit (s := S1x512x512) ![0, 0, 0] S1x512x128.size inb_S1x512x512_S1x512x128_0_0_0).toLoadRect (arg6.view.rep x2))⟩ :: (kernelRun0_B.sl.HS2_1) := rfl

theorem B_cons2_1 : (kernelRun0_B.sl.HS2_3 arg4 arg5 arg6 x0 x1 x2) =
    ⟨plane 1 inb_S8x512x128_S1x512x128_1_0_0, newA (scores (View.readAt (Elt Ideal) arg4.view (Rect.unit (s := S1x512x1024) ![0, 0, 128] S1x512x128.size inb_S1x512x1024_S1x512x128_0_0_128).toLoadRect (arg4.view.rep x0)) (View.readAt (Elt Ideal) arg5.view (Rect.unit (s := S1x512x1024) ![0, 0, 128] S1x512x128.size inb_S1x512x1024_S1x512x128_0_0_128).toLoadRect (arg5.view.rep x1))) (scM0_0.view.readCov (kernelRun0_B.sl.HS0_2 arg4 arg5 x0 x1) (plane 1 inb_S8x512x128_S1x512x128_1_0_0).toLoadRect) (scM0_2.view.readCov (kernelRun0_B.sl.HS2_2 arg4 arg5 arg6 x0 x1 x2) (plane 1 inb_S8x512x128_S1x512x128_1_0_0).toLoadRect) (View.readAt (Elt Ideal) arg6.view (Rect.unit (s := S1x512x512) ![0, 0, 0] S1x512x128.size inb_S1x512x512_S1x512x128_0_0_0).toLoadRect (arg6.view.rep x2))⟩ :: (kernelRun0_B.sl.HS2_2 arg4 arg5 arg6 x0 x1 x2) := rfl

theorem B_cons2_2 : (kernelRun0_B.sl.HS2_4 arg4 arg5 arg6 x0 x1 x2) =
    ⟨plane 2 inb_S8x512x128_S1x512x128_2_0_0, newA (scores (View.readAt (Elt Ideal) arg4.view (Rect.unit (s := S1x512x1024) ![0, 0, 256] S1x512x128.size inb_S1x512x1024_S1x512x128_0_0_256).toLoadRect (arg4.view.rep x0)) (View.readAt (Elt Ideal) arg5.view (Rect.unit (s := S1x512x1024) ![0, 0, 256] S1x512x128.size inb_S1x512x1024_S1x512x128_0_0_256).toLoadRect (arg5.view.rep x1))) (scM0_0.view.readCov (kernelRun0_B.sl.HS0_3 arg4 arg5 x0 x1) (plane 2 inb_S8x512x128_S1x512x128_2_0_0).toLoadRect) (scM0_2.view.readCov (kernelRun0_B.sl.HS2_3 arg4 arg5 arg6 x0 x1 x2) (plane 2 inb_S8x512x128_S1x512x128_2_0_0).toLoadRect) (View.readAt (Elt Ideal) arg6.view (Rect.unit (s := S1x512x512) ![0, 0, 128] S1x512x128.size inb_S1x512x512_S1x512x128_0_0_128).toLoadRect (arg6.view.rep x2))⟩ :: (kernelRun0_B.sl.HS2_3 arg4 arg5 arg6 x0 x1 x2) := rfl

theorem B_cons2_3 : (kernelRun0_B.sl.HS2_5 arg4 arg5 arg6 x0 x1 x2) =
    ⟨plane 3 inb_S8x512x128_S1x512x128_3_0_0, newA (scores (View.readAt (Elt Ideal) arg4.view (Rect.unit (s := S1x512x1024) ![0, 0, 384] S1x512x128.size inb_S1x512x1024_S1x512x128_0_0_384).toLoadRect (arg4.view.rep x0)) (View.readAt (Elt Ideal) arg5.view (Rect.unit (s := S1x512x1024) ![0, 0, 384] S1x512x128.size inb_S1x512x1024_S1x512x128_0_0_384).toLoadRect (arg5.view.rep x1))) (scM0_0.view.readCov (kernelRun0_B.sl.HS0_4 arg4 arg5 x0 x1) (plane 3 inb_S8x512x128_S1x512x128_3_0_0).toLoadRect) (scM0_2.view.readCov (kernelRun0_B.sl.HS2_4 arg4 arg5 arg6 x0 x1 x2) (plane 3 inb_S8x512x128_S1x512x128_3_0_0).toLoadRect) (View.readAt (Elt Ideal) arg6.view (Rect.unit (s := S1x512x512) ![0, 0, 128] S1x512x128.size inb_S1x512x512_S1x512x128_0_0_128).toLoadRect (arg6.view.rep x2))⟩ :: (kernelRun0_B.sl.HS2_4 arg4 arg5 arg6 x0 x1 x2) := rfl

theorem B_cons2_4 : (kernelRun0_B.sl.HS2_6 arg4 arg5 arg6 x0 x1 x2) =
    ⟨plane 4 inb_S8x512x128_S1x512x128_4_0_0, newA (scores (View.readAt (Elt Ideal) arg4.view (Rect.unit (s := S1x512x1024) ![0, 0, 512] S1x512x128.size inb_S1x512x1024_S1x512x128_0_0_512).toLoadRect (arg4.view.rep x0)) (View.readAt (Elt Ideal) arg5.view (Rect.unit (s := S1x512x1024) ![0, 0, 512] S1x512x128.size inb_S1x512x1024_S1x512x128_0_0_512).toLoadRect (arg5.view.rep x1))) (scM0_0.view.readCov (kernelRun0_B.sl.HS0_5 arg4 arg5 x0 x1) (plane 4 inb_S8x512x128_S1x512x128_4_0_0).toLoadRect) (scM0_2.view.readCov (kernelRun0_B.sl.HS2_5 arg4 arg5 arg6 x0 x1 x2) (plane 4 inb_S8x512x128_S1x512x128_4_0_0).toLoadRect) (View.readAt (Elt Ideal) arg6.view (Rect.unit (s := S1x512x512) ![0, 0, 256] S1x512x128.size inb_S1x512x512_S1x512x128_0_0_256).toLoadRect (arg6.view.rep x2))⟩ :: (kernelRun0_B.sl.HS2_5 arg4 arg5 arg6 x0 x1 x2) := rfl

theorem B_cons2_5 : (kernelRun0_B.sl.HS2_7 arg4 arg5 arg6 x0 x1 x2) =
    ⟨plane 5 inb_S8x512x128_S1x512x128_5_0_0, newA (scores (View.readAt (Elt Ideal) arg4.view (Rect.unit (s := S1x512x1024) ![0, 0, 640] S1x512x128.size inb_S1x512x1024_S1x512x128_0_0_640).toLoadRect (arg4.view.rep x0)) (View.readAt (Elt Ideal) arg5.view (Rect.unit (s := S1x512x1024) ![0, 0, 640] S1x512x128.size inb_S1x512x1024_S1x512x128_0_0_640).toLoadRect (arg5.view.rep x1))) (scM0_0.view.readCov (kernelRun0_B.sl.HS0_6 arg4 arg5 x0 x1) (plane 5 inb_S8x512x128_S1x512x128_5_0_0).toLoadRect) (scM0_2.view.readCov (kernelRun0_B.sl.HS2_6 arg4 arg5 arg6 x0 x1 x2) (plane 5 inb_S8x512x128_S1x512x128_5_0_0).toLoadRect) (View.readAt (Elt Ideal) arg6.view (Rect.unit (s := S1x512x512) ![0, 0, 256] S1x512x128.size inb_S1x512x512_S1x512x128_0_0_256).toLoadRect (arg6.view.rep x2))⟩ :: (kernelRun0_B.sl.HS2_6 arg4 arg5 arg6 x0 x1 x2) := rfl

theorem B_cons2_6 : (kernelRun0_B.sl.HS2_8 arg4 arg5 arg6 x0 x1 x2) =
    ⟨plane 6 inb_S8x512x128_S1x512x128_6_0_0, newA (scores (View.readAt (Elt Ideal) arg4.view (Rect.unit (s := S1x512x1024) ![0, 0, 768] S1x512x128.size inb_S1x512x1024_S1x512x128_0_0_768).toLoadRect (arg4.view.rep x0)) (View.readAt (Elt Ideal) arg5.view (Rect.unit (s := S1x512x1024) ![0, 0, 768] S1x512x128.size inb_S1x512x1024_S1x512x128_0_0_768).toLoadRect (arg5.view.rep x1))) (scM0_0.view.readCov (kernelRun0_B.sl.HS0_7 arg4 arg5 x0 x1) (plane 6 inb_S8x512x128_S1x512x128_6_0_0).toLoadRect) (scM0_2.view.readCov (kernelRun0_B.sl.HS2_7 arg4 arg5 arg6 x0 x1 x2) (plane 6 inb_S8x512x128_S1x512x128_6_0_0).toLoadRect) (View.readAt (Elt Ideal) arg6.view (Rect.unit (s := S1x512x512) ![0, 0, 384] S1x512x128.size inb_S1x512x512_S1x512x128_0_0_384).toLoadRect (arg6.view.rep x2))⟩ :: (kernelRun0_B.sl.HS2_7 arg4 arg5 arg6 x0 x1 x2) := rfl

theorem B_cons2_7 : (kernelRun0_B.sl.HS2_9 arg4 arg5 arg6 x0 x1 x2) =
    ⟨plane 7 inb_S8x512x128_S1x512x128_7_0_0, newA (scores (View.readAt (Elt Ideal) arg4.view (Rect.unit (s := S1x512x1024) ![0, 0, 896] S1x512x128.size inb_S1x512x1024_S1x512x128_0_0_896).toLoadRect (arg4.view.rep x0)) (View.readAt (Elt Ideal) arg5.view (Rect.unit (s := S1x512x1024) ![0, 0, 896] S1x512x128.size inb_S1x512x1024_S1x512x128_0_0_896).toLoadRect (arg5.view.rep x1))) (scM0_0.view.readCov (kernelRun0_B.sl.HS0_8 arg4 arg5 x0 x1) (plane 7 inb_S8x512x128_S1x512x128_7_0_0).toLoadRect) (scM0_2.view.readCov (kernelRun0_B.sl.HS2_8 arg4 arg5 arg6 x0 x1 x2) (plane 7 inb_S8x512x128_S1x512x128_7_0_0).toLoadRect) (View.readAt (Elt Ideal) arg6.view (Rect.unit (s := S1x512x512) ![0, 0, 384] S1x512x128.size inb_S1x512x512_S1x512x128_0_0_384).toLoadRect (arg6.view.rep x2))⟩ :: (kernelRun0_B.sl.HS2_8 arg4 arg5 arg6 x0 x1 x2) := rfl

theorem B_load2_0 : (scM0_2.view.readCov (kernelRun0_B.sl.HS2_1) (plane 0 inb_S8x512x128_S1x512x128_0_0_0).toLoadRect) = fun _ => (0 : EReal) := by
  exact (congrArg (fun w => scM0_2.view.readCov [(⟨Rect.unit (s := S8x512x128) ![0, 0, 0] S8x512x128.size inb_S8x512x128_S8x512x128_0_0_0, w⟩ : View.Piece (Elt Ideal) S8x512x128 .f32)] _) fill_a).trans (load_fill scM0_2.view 0 _ _ _)

theorem B_load2_1 : (scM0_2.view.readCov (kernelRun0_B.sl.HS2_2 arg4 arg5 arg6 x0 x1 x2) (plane 1 inb_S8x512x128_S1x512x128_1_0_0).toLoadRect) = fun _ => (0 : EReal) := by
  refine (congrArg (fun L => scM0_2.view.readCov L _) (B_cons2_0 arg4 arg5 arg6 x0 x1 x2)).trans ((load_skip scM0_2.view 0 1 _ _ _ _ (by decide) (by decide)).trans ?_)
  exact (congrArg (fun w => scM0_2.view.readCov [(⟨Rect.unit (s := S8x512x128) ![0, 0, 0] S8x512x128.size inb_S8x512x128_S8x512x128_0_0_0, w⟩ : View.Piece (Elt Ideal) S8x512x128 .f32)] _) fill_a).trans (load_fill scM0_2.view 1 _ _ _)

theorem B_load2_2 : (scM0_2.view.readCov (kernelRun0_B.sl.HS2_3 arg4 arg5 arg6 x0 x1 x2) (plane 2 inb_S8x512x128_S1x512x128_2_0_0).toLoadRect) = fun _ => (0 : EReal) := by
  refine (congrArg (fun L => scM0_2.view.readCov L _) (B_cons2_1 arg4 arg5 arg6 x0 x1 x2)).trans ((load_skip scM0_2.view 1 2 _ _ _ _ (by decide) (by decide)).trans ?_)
  refine (congrArg (fun L => scM0_2.view.readCov L _) (B_cons2_0 arg4 arg5 arg6 x0 x1 x2)).trans ((load_skip scM0_2.view 0 2 _ _ _ _ (by decide) (by decide)).trans ?_)
  exact (congrArg (fun w => scM0_2.view.readCov [(⟨Rect.unit (s := S8x512x128) ![0, 0, 0] S8x512x128.size inb_S8x512x128_S8x512x128_0_0_0, w⟩ : View.Piece (Elt Ideal) S8x512x128 .f32)] _) fill_a).trans (load_fill scM0_2.view 2 _ _ _)

theorem B_load2_3 : (scM0_2.view.readCov (kernelRun0_B.sl.HS2_4 arg4 arg5 arg6 x0 x1 x2) (plane 3 inb_S8x512x128_S1x512x128_3_0_0).toLoadRect) = fun _ => (0 : EReal) := by
  refine (congrArg (fun L => scM0_2.view.readCov L _) (B_cons2_2 arg4 arg5 arg6 x0 x1 x2)).trans ((load_skip scM0_2.view 2 3 _ _ _ _ (by decide) (by decide)).trans ?_)
  refine (congrArg (fun L => scM0_2.view.readCov L _) (B_cons2_1 arg4 arg5 arg6 x0 x1 x2)).trans ((load_skip scM0_2.view 1 3 _ _ _ _ (by decide) (by decide)).trans ?_)
  refine (congrArg (fun L => scM0_2.view.readCov L _) (B_cons2_0 arg4 arg5 arg6 x0 x1 x2)).trans ((load_skip scM0_2.view 0 3 _ _ _ _ (by decide) (by decide)).trans ?_)
  exact (congrArg (fun w => scM0_2.view.readCov [(⟨Rect.unit (s := S8x512x128) ![0, 0, 0] S8x512x128.size inb_S8x512x128_S8x512x128_0_0_0, w⟩ : View.Piece (Elt Ideal) S8x512x128 .f32)] _) fill_a).trans (load_fill scM0_2.view 3 _ _ _)

theorem B_load2_4 : (scM0_2.view.readCov (kernelRun0_B.sl.HS2_5 arg4 arg5 arg6 x0 x1 x2) (plane 4 inb_S8x512x128_S1x512x128_4_0_0).toLoadRect) = fun _ => (0 : EReal) := by
  refine (congrArg (fun L => scM0_2.view.readCov L _) (B_cons2_3 arg4 arg5 arg6 x0 x1 x2)).trans ((load_skip scM0_2.view 3 4 _ _ _ _ (by decide) (by decide)).trans ?_)
  refine (congrArg (fun L => scM0_2.view.readCov L _) (B_cons2_2 arg4 arg5 arg6 x0 x1 x2)).trans ((load_skip scM0_2.view 2 4 _ _ _ _ (by decide) (by decide)).trans ?_)
  refine (congrArg (fun L => scM0_2.view.readCov L _) (B_cons2_1 arg4 arg5 arg6 x0 x1 x2)).trans ((load_skip scM0_2.view 1 4 _ _ _ _ (by decide) (by decide)).trans ?_)
  refine (congrArg (fun L => scM0_2.view.readCov L _) (B_cons2_0 arg4 arg5 arg6 x0 x1 x2)).trans ((load_skip scM0_2.view 0 4 _ _ _ _ (by decide) (by decide)).trans ?_)
  exact (congrArg (fun w => scM0_2.view.readCov [(⟨Rect.unit (s := S8x512x128) ![0, 0, 0] S8x512x128.size inb_S8x512x128_S8x512x128_0_0_0, w⟩ : View.Piece (Elt Ideal) S8x512x128 .f32)] _) fill_a).trans (load_fill scM0_2.view 4 _ _ _)

theorem B_load2_5 : (scM0_2.view.readCov (kernelRun0_B.sl.HS2_6 arg4 arg5 arg6 x0 x1 x2) (plane 5 inb_S8x512x128_S1x512x128_5_0_0).toLoadRect) = fun _ => (0 : EReal) := by
  refine (congrArg (fun L => scM0_2.view.readCov L _) (B_cons2_4 arg4 arg5 arg6 x0 x1 x2)).trans ((load_skip scM0_2.view 4 5 _ _ _ _ (by decide) (by decide)).trans ?_)
  refine (congrArg (fun L => scM0_2.view.readCov L _) (B_cons2_3 arg4 arg5 arg6 x0 x1 x2)).trans ((load_skip scM0_2.view 3 5 _ _ _ _ (by decide) (by decide)).trans ?_)
  refine (congrArg (fun L => scM0_2.view.readCov L _) (B_cons2_2 arg4 arg5 arg6 x0 x1 x2)).trans ((load_skip scM0_2.view 2 5 _ _ _ _ (by decide) (by decide)).trans ?_)
  refine (congrArg (fun L => scM0_2.view.readCov L _) (B_cons2_1 arg4 arg5 arg6 x0 x1 x2)).trans ((load_skip scM0_2.view 1 5 _ _ _ _ (by decide) (by decide)).trans ?_)
  refine (congrArg (fun L => scM0_2.view.readCov L _) (B_cons2_0 arg4 arg5 arg6 x0 x1 x2)).trans ((load_skip scM0_2.view 0 5 _ _ _ _ (by decide) (by decide)).trans ?_)
  exact (congrArg (fun w => scM0_2.view.readCov [(⟨Rect.unit (s := S8x512x128) ![0, 0, 0] S8x512x128.size inb_S8x512x128_S8x512x128_0_0_0, w⟩ : View.Piece (Elt Ideal) S8x512x128 .f32)] _) fill_a).trans (load_fill scM0_2.view 5 _ _ _)

theorem B_load2_6 : (scM0_2.view.readCov (kernelRun0_B.sl.HS2_7 arg4 arg5 arg6 x0 x1 x2) (plane 6 inb_S8x512x128_S1x512x128_6_0_0).toLoadRect) = fun _ => (0 : EReal) := by
  refine (congrArg (fun L => scM0_2.view.readCov L _) (B_cons2_5 arg4 arg5 arg6 x0 x1 x2)).trans ((load_skip scM0_2.view 5 6 _ _ _ _ (by decide) (by decide)).trans ?_)
  refine (congrArg (fun L => scM0_2.view.readCov L _) (B_cons2_4 arg4 arg5 arg6 x0 x1 x2)).trans ((load_skip scM0_2.view 4 6 _ _ _ _ (by decide) (by decide)).trans ?_)
  refine (congrArg (fun L => scM0_2.view.readCov L _) (B_cons2_3 arg4 arg5 arg6 x0 x1 x2)).trans ((load_skip scM0_2.view 3 6 _ _ _ _ (by decide) (by decide)).trans ?_)
  refine (congrArg (fun L => scM0_2.view.readCov L _) (B_cons2_2 arg4 arg5 arg6 x0 x1 x2)).trans ((load_skip scM0_2.view 2 6 _ _ _ _ (by decide) (by decide)).trans ?_)
  refine (congrArg (fun L => scM0_2.view.readCov L _) (B_cons2_1 arg4 arg5 arg6 x0 x1 x2)).trans ((load_skip scM0_2.view 1 6 _ _ _ _ (by decide) (by decide)).trans ?_)
  refine (congrArg (fun L => scM0_2.view.readCov L _) (B_cons2_0 arg4 arg5 arg6 x0 x1 x2)).trans ((load_skip scM0_2.view 0 6 _ _ _ _ (by decide) (by decide)).trans ?_)
  exact (congrArg (fun w => scM0_2.view.readCov [(⟨Rect.unit (s := S8x512x128) ![0, 0, 0] S8x512x128.size inb_S8x512x128_S8x512x128_0_0_0, w⟩ : View.Piece (Elt Ideal) S8x512x128 .f32)] _) fill_a).trans (load_fill scM0_2.view 6 _ _ _)

theorem B_load2_7 : (scM0_2.view.readCov (kernelRun0_B.sl.HS2_8 arg4 arg5 arg6 x0 x1 x2) (plane 7 inb_S8x512x128_S1x512x128_7_0_0).toLoadRect) = fun _ => (0 : EReal) := by
  refine (congrArg (fun L => scM0_2.view.readCov L _) (B_cons2_6 arg4 arg5 arg6 x0 x1 x2)).trans ((load_skip scM0_2.view 6 7 _ _ _ _ (by decide) (by decide)).trans ?_)
  refine (congrArg (fun L => scM0_2.view.readCov L _) (B_cons2_5 arg4 arg5 arg6 x0 x1 x2)).trans ((load_skip scM0_2.view 5 7 _ _ _ _ (by decide) (by decide)).trans ?_)
  refine (congrArg (fun L => scM0_2.view.readCov L _) (B_cons2_4 arg4 arg5 arg6 x0 x1 x2)).trans ((load_skip scM0_2.view 4 7 _ _ _ _ (by decide) (by decide)).trans ?_)
  refine (congrArg (fun L => scM0_2.view.readCov L _) (B_cons2_3 arg4 arg5 arg6 x0 x1 x2)).trans ((load_skip scM0_2.view 3 7 _ _ _ _ (by decide) (by decide)).trans ?_)
  refine (congrArg (fun L => scM0_2.view.readCov L _) (B_cons2_2 arg4 arg5 arg6 x0 x1 x2)).trans ((load_skip scM0_2.view 2 7 _ _ _ _ (by decide) (by decide)).trans ?_)
  refine (congrArg (fun L => scM0_2.view.readCov L _) (B_cons2_1 arg4 arg5 arg6 x0 x1 x2)).trans ((load_skip scM0_2.view 1 7 _ _ _ _ (by decide) (by decide)).trans ?_)
  refine (congrArg (fun L => scM0_2.view.readCov L _) (B_cons2_0 arg4 arg5 arg6 x0 x1 x2)).trans ((load_skip scM0_2.view 0 7 _ _ _ _ (by decide) (by decide)).trans ?_)
  exact (congrArg (fun w => scM0_2.view.readCov [(⟨Rect.unit (s := S8x512x128) ![0, 0, 0] S8x512x128.size inb_S8x512x128_S8x512x128_0_0_0, w⟩ : View.Piece (Elt Ideal) S8x512x128 .f32)] _) fill_a).trans (load_fill scM0_2.view 7 _ _ _)

theorem B_put2_0 : (kernelRun0_B.sl.HS2_2 arg4 arg5 arg6 x0 x1 x2) =
    ⟨plane 0 inb_S8x512x128_S1x512x128_0_0_0, newA (scores (qk x0 0) (qk x1 0)) (fun _ => (⊥ : EReal)) (fun _ => (0 : EReal)) (pair x2 0)⟩ :: (kernelRun0_B.sl.HS2_1) := by
  rw [B_cons2_0, load_qk arg4.view x0 0 0 rfl, load_qk arg5.view x1 0 0 rfl, B_load0_0 , B_load2_0 , load_pair arg6.view x2 0 0 rfl] <;> rfl

theorem B_put2_1 : (kernelRun0_B.sl.HS2_3 arg4 arg5 arg6 x0 x1 x2) =
    ⟨plane 1 inb_S8x512x128_S1x512x128_1_0_0, newA (scores (qk x0 1) (qk x1 1)) (fun _ => (⊥ : EReal)) (fun _ => (0 : EReal)) (pair x2 0)⟩ :: (kernelRun0_B.sl.HS2_2 arg4 arg5 arg6 x0 x1 x2) := by
  rw [B_cons2_1, load_qk arg4.view x0 1 128 rfl, load_qk arg5.view x1 1 128 rfl, B_load0_1 arg4 arg5 x0 x1, B_load2_1 arg4 arg5 arg6 x0 x1 x2, load_pair arg6.view x2 0 0 rfl] <;> rfl

theorem B_put2_2 : (kernelRun0_B.sl.HS2_4 arg4 arg5 arg6 x0 x1 x2) =
    ⟨plane 2 inb_S8x512x128_S1x512x128_2_0_0, newA (scores (qk x0 2) (qk x1 2)) (fun _ => (⊥ : EReal)) (fun _ => (0 : EReal)) (pair x2 1)⟩ :: (kernelRun0_B.sl.HS2_3 arg4 arg5 arg6 x0 x1 x2) := by
  rw [B_cons2_2, load_qk arg4.view x0 2 256 rfl, load_qk arg5.view x1 2 256 rfl, B_load0_2 arg4 arg5 x0 x1, B_load2_2 arg4 arg5 arg6 x0 x1 x2, load_pair arg6.view x2 1 128 rfl] <;> rfl

theorem B_put2_3 : (kernelRun0_B.sl.HS2_5 arg4 arg5 arg6 x0 x1 x2) =
    ⟨plane 3 inb_S8x512x128_S1x512x128_3_0_0, newA (scores (qk x0 3) (qk x1 3)) (fun _ => (⊥ : EReal)) (fun _ => (0 : EReal)) (pair x2 1)⟩ :: (kernelRun0_B.sl.HS2_4 arg4 arg5 arg6 x0 x1 x2) := by
  rw [B_cons2_3, load_qk arg4.view x0 3 384 rfl, load_qk arg5.view x1 3 384 rfl, B_load0_3 arg4 arg5 x0 x1, B_load2_3 arg4 arg5 arg6 x0 x1 x2, load_pair arg6.view x2 1 128 rfl] <;> rfl

theorem B_put2_4 : (kernelRun0_B.sl.HS2_6 arg4 arg5 arg6 x0 x1 x2) =
    ⟨plane 4 inb_S8x512x128_S1x512x128_4_0_0, newA (scores (qk x0 4) (qk x1 4)) (fun _ => (⊥ : EReal)) (fun _ => (0 : EReal)) (pair x2 2)⟩ :: (kernelRun0_B.sl.HS2_5 arg4 arg5 arg6 x0 x1 x2) := by
  rw [B_cons2_4, load_qk arg4.view x0 4 512 rfl, load_qk arg5.view x1 4 512 rfl, B_load0_4 arg4 arg5 x0 x1, B_load2_4 arg4 arg5 arg6 x0 x1 x2, load_pair arg6.view x2 2 256 rfl] <;> rfl

theorem B_put2_5 : (kernelRun0_B.sl.HS2_7 arg4 arg5 arg6 x0 x1 x2) =
    ⟨plane 5 inb_S8x512x128_S1x512x128_5_0_0, newA (scores (qk x0 5) (qk x1 5)) (fun _ => (⊥ : EReal)) (fun _ => (0 : EReal)) (pair x2 2)⟩ :: (kernelRun0_B.sl.HS2_6 arg4 arg5 arg6 x0 x1 x2) := by
  rw [B_cons2_5, load_qk arg4.view x0 5 640 rfl, load_qk arg5.view x1 5 640 rfl, B_load0_5 arg4 arg5 x0 x1, B_load2_5 arg4 arg5 arg6 x0 x1 x2, load_pair arg6.view x2 2 256 rfl] <;> rfl

theorem B_put2_6 : (kernelRun0_B.sl.HS2_8 arg4 arg5 arg6 x0 x1 x2) =
    ⟨plane 6 inb_S8x512x128_S1x512x128_6_0_0, newA (scores (qk x0 6) (qk x1 6)) (fun _ => (⊥ : EReal)) (fun _ => (0 : EReal)) (pair x2 3)⟩ :: (kernelRun0_B.sl.HS2_7 arg4 arg5 arg6 x0 x1 x2) := by
  rw [B_cons2_6, load_qk arg4.view x0 6 768 rfl, load_qk arg5.view x1 6 768 rfl, B_load0_6 arg4 arg5 x0 x1, B_load2_6 arg4 arg5 arg6 x0 x1 x2, load_pair arg6.view x2 3 384 rfl] <;> rfl

theorem B_put2_7 : (kernelRun0_B.sl.HS2_9 arg4 arg5 arg6 x0 x1 x2) =
    ⟨plane 7 inb_S8x512x128_S1x512x128_7_0_0, newA (scores (qk x0 7) (qk x1 7)) (fun _ => (⊥ : EReal)) (fun _ => (0 : EReal)) (pair x2 3)⟩ :: (kernelRun0_B.sl.HS2_8 arg4 arg5 arg6 x0 x1 x2) := by
  rw [B_cons2_7, load_qk arg4.view x0 7 896 rfl, load_qk arg5.view x1 7 896 rfl, B_load0_7 arg4 arg5 x0 x1, B_load2_7 arg4 arg5 arg6 x0 x1 x2, load_pair arg6.view x2 3 384 rfl] <;> rfl

/-- The weighted sums stored by the first point, off the diagonal. -/
theorem B_newA : (kernelRun0_B.sl.HS2_9 arg4 arg5 arg6 x0 x1 x2)
    = planes (fun h => newA (sc False x0 x1 h) (fun _ => (⊥ : EReal)) (fun _ => (0 : EReal)) (pair x2 (half h))) ++ (kernelRun0_B.sl.HS2_1) := by
  rw [B_put2_7, B_put2_6, B_put2_5, B_put2_4, B_put2_3, B_put2_2, B_put2_1, B_put2_0]
  rfl

theorem A_cons0_0 : (kernelRun0_A.sl.HS0_2 arg4 arg5 x0 x1) =
    ⟨plane 0 inb_S8x512x128_S1x512x128_0_0_0, newM (masked (scores (View.readAt (Elt Ideal) arg4.view (Rect.unit (s := S1x512x1024) ![0, 0, 0] S1x512x128.size inb_S1x512x1024_S1x512x128_0_0_0).toLoadRect (arg4.view.rep x0)) (View.readAt (Elt Ideal) arg5.view (Rect.unit (s := S1x512x1024) ![0, 0, 0] S1x512x128.size inb_S1x512x1024_S1x512x128_0_0_0).toLoadRect (arg5.view.rep x1)))) (scM0_0.view.readCov (kernelRun0_A.sl.HS0_1) (plane 0 inb_S8x512x128_S1x512x128_0_0_0).toLoadRect)⟩ :: (kernelRun0_A.sl.HS0_1) := rfl

theorem A_cons0_1 : (kernelRun0_A.sl.HS0_3 arg4 arg5 x0 x1) =
    ⟨plane 1 inb_S8x512x128_S1x512x128_1_0_0, newM (masked (scores (View.readAt (Elt Ideal) arg4.view (Rect.unit (s := S1x512x1024) ![0, 0, 128] S1x512x128.size inb_S1x512x1024_S1x512x128_0_0_128).toLoadRect (arg4.view.rep x0)) (View.readAt (Elt Ideal) arg5.view (Rect.unit (s := S1x512x1024) ![0, 0, 128] S1x512x128.size inb_S1x512x1024_S1x512x128_0_0_128).toLoadRect (arg5.view.rep x1)))) (scM0_0.view.readCov (kernelRun0_A.sl.HS0_2 arg4 arg5 x0 x1) (plane 1 inb_S8x512x128_S1x512x128_1_0_0).toLoadRect)⟩ :: (kernelRun0_A.sl.HS0_2 arg4 arg5 x0 x1) := rfl

theorem A_cons0_2 : (kernelRun0_A.sl.HS0_4 arg4 arg5 x0 x1) =
    ⟨plane 2 inb_S8x512x128_S1x512x128_2_0_0, newM (masked (scores (View.readAt (Elt Ideal) arg4.view (Rect.unit (s := S1x512x1024) ![0, 0, 256] S1x512x128.size inb_S1x512x1024_S1x512x128_0_0_256).toLoadRect (arg4.view.rep x0)) (View.readAt (Elt Ideal) arg5.view (Rect.unit (s := S1x512x1024) ![0, 0, 256] S1x512x128.size inb_S1x512x1024_S1x512x128_0_0_256).toLoadRect (arg5.view.rep x1)))) (scM0_0.view.readCov (kernelRun0_A.sl.HS0_3 arg4 arg5 x0 x1) (plane 2 inb_S8x512x128_S1x512x128_2_0_0).toLoadRect)⟩ :: (kernelRun0_A.sl.HS0_3 arg4 arg5 x0 x1) := rfl

theorem A_cons0_3 : (kernelRun0_A.sl.HS0_5 arg4 arg5 x0 x1) =
    ⟨plane 3 inb_S8x512x128_S1x512x128_3_0_0, newM (masked (scores (View.readAt (Elt Ideal) arg4.view (Rect.unit (s := S1x512x1024) ![0, 0, 384] S1x512x128.size inb_S1x512x1024_S1x512x128_0_0_384).toLoadRect (arg4.view.rep x0)) (View.readAt (Elt Ideal) arg5.view (Rect.unit (s := S1x512x1024) ![0, 0, 384] S1x512x128.size inb_S1x512x1024_S1x512x128_0_0_384).toLoadRect (arg5.view.rep x1)))) (scM0_0.view.readCov (kernelRun0_A.sl.HS0_4 arg4 arg5 x0 x1) (plane 3 inb_S8x512x128_S1x512x128_3_0_0).toLoadRect)⟩ :: (kernelRun0_A.sl.HS0_4 arg4 arg5 x0 x1) := rfl

theorem A_cons0_4 : (kernelRun0_A.sl.HS0_6 arg4 arg5 x0 x1) =
    ⟨plane 4 inb_S8x512x128_S1x512x128_4_0_0, newM (masked (scores (View.readAt (Elt Ideal) arg4.view (Rect.unit (s := S1x512x1024) ![0, 0, 512] S1x512x128.size inb_S1x512x1024_S1x512x128_0_0_512).toLoadRect (arg4.view.rep x0)) (View.readAt (Elt Ideal) arg5.view (Rect.unit (s := S1x512x1024) ![0, 0, 512] S1x512x128.size inb_S1x512x1024_S1x512x128_0_0_512).toLoadRect (arg5.view.rep x1)))) (scM0_0.view.readCov (kernelRun0_A.sl.HS0_5 arg4 arg5 x0 x1) (plane 4 inb_S8x512x128_S1x512x128_4_0_0).toLoadRect)⟩ :: (kernelRun0_A.sl.HS0_5 arg4 arg5 x0 x1) := rfl

theorem A_cons0_5 : (kernelRun0_A.sl.HS0_7 arg4 arg5 x0 x1) =
    ⟨plane 5 inb_S8x512x128_S1x512x128_5_0_0, newM (masked (scores (View.readAt (Elt Ideal) arg4.view (Rect.unit (s := S1x512x1024) ![0, 0, 640] S1x512x128.size inb_S1x512x1024_S1x512x128_0_0_640).toLoadRect (arg4.view.rep x0)) (View.readAt (Elt Ideal) arg5.view (Rect.unit (s := S1x512x1024) ![0, 0, 640] S1x512x128.size inb_S1x512x1024_S1x512x128_0_0_640).toLoadRect (arg5.view.rep x1)))) (scM0_0.view.readCov (kernelRun0_A.sl.HS0_6 arg4 arg5 x0 x1) (plane 5 inb_S8x512x128_S1x512x128_5_0_0).toLoadRect)⟩ :: (kernelRun0_A.sl.HS0_6 arg4 arg5 x0 x1) := rfl

theorem A_cons0_6 : (kernelRun0_A.sl.HS0_8 arg4 arg5 x0 x1) =
    ⟨plane 6 inb_S8x512x128_S1x512x128_6_0_0, newM (masked (scores (View.readAt (Elt Ideal) arg4.view (Rect.unit (s := S1x512x1024) ![0, 0, 768] S1x512x128.size inb_S1x512x1024_S1x512x128_0_0_768).toLoadRect (arg4.view.rep x0)) (View.readAt (Elt Ideal) arg5.view (Rect.unit (s := S1x512x1024) ![0, 0, 768] S1x512x128.size inb_S1x512x1024_S1x512x128_0_0_768).toLoadRect (arg5.view.rep x1)))) (scM0_0.view.readCov (kernelRun0_A.sl.HS0_7 arg4 arg5 x0 x1) (plane 6 inb_S8x512x128_S1x512x128_6_0_0).toLoadRect)⟩ :: (kernelRun0_A.sl.HS0_7 arg4 arg5 x0 x1) := rfl

theorem A_cons0_7 : (kernelRun0_A.sl.HS0_9 arg4 arg5 x0 x1) =
    ⟨plane 7 inb_S8x512x128_S1x512x128_7_0_0, newM (masked (scores (View.readAt (Elt Ideal) arg4.view (Rect.unit (s := S1x512x1024) ![0, 0, 896] S1x512x128.size inb_S1x512x1024_S1x512x128_0_0_896).toLoadRect (arg4.view.rep x0)) (View.readAt (Elt Ideal) arg5.view (Rect.unit (s := S1x512x1024) ![0, 0, 896] S1x512x128.size inb_S1x512x1024_S1x512x128_0_0_896).toLoadRect (arg5.view.rep x1)))) (scM0_0.view.readCov (kernelRun0_A.sl.HS0_8 arg4 arg5 x0 x1) (plane 7 inb_S8x512x128_S1x512x128_7_0_0).toLoadRect)⟩ :: (kernelRun0_A.sl.HS0_8 arg4 arg5 x0 x1) := rfl

theorem A_load0_0 : (scM0_0.view.readCov (kernelRun0_A.sl.HS0_1) (plane 0 inb_S8x512x128_S1x512x128_0_0_0).toLoadRect) = fun _ => (⊥ : EReal) := by
  exact (congrArg (fun w => scM0_0.view.readCov [(⟨Rect.unit (s := S8x512x128) ![0, 0, 0] S8x512x128.size inb_S8x512x128_S8x512x128_0_0_0, w⟩ : View.Piece (Elt Ideal) S8x512x128 .f32)] _) fill_m).trans (load_fill scM0_0.view 0 _ _ _)

theorem A_load0_1 : (scM0_0.view.readCov (kernelRun0_A.sl.HS0_2 arg4 arg5 x0 x1) (plane 1 inb_S8x512x128_S1x512x128_1_0_0).toLoadRect) = fun _ => (⊥ : EReal) := by
  refine (congrArg (fun L => scM0_0.view.readCov L _) (A_cons0_0 arg4 arg5 x0 x1)).trans ((load_skip scM0_0.view 0 1 _ _ _ _ (by decide) (by decide)).trans ?_)
  exact (congrArg (fun w => scM0_0.view.readCov [(⟨Rect.unit (s := S8x512x128) ![0, 0, 0] S8x512x128.size inb_S8x512x128_S8x512x128_0_0_0, w⟩ : View.Piece (Elt Ideal) S8x512x128 .f32)] _) fill_m).trans (load_fill scM0_0.view 1 _ _ _)

theorem A_load0_2 : (scM0_0.view.readCov (kernelRun0_A.sl.HS0_3 arg4 arg5 x0 x1) (plane 2 inb_S8x512x128_S1x512x128_2_0_0).toLoadRect) = fun _ => (⊥ : EReal) := by
  refine (congrArg (fun L => scM0_0.view.readCov L _) (A_cons0_1 arg4 arg5 x0 x1)).trans ((load_skip scM0_0.view 1 2 _ _ _ _ (by decide) (by decide)).trans ?_)
  refine (congrArg (fun L => scM0_0.view.readCov L _) (A_cons0_0 arg4 arg5 x0 x1)).trans ((load_skip scM0_0.view 0 2 _ _ _ _ (by decide) (by decide)).trans ?_)
  exact (congrArg (fun w => scM0_0.view.readCov [(⟨Rect.unit (s := S8x512x128) ![0, 0, 0] S8x512x128.size inb_S8x512x128_S8x512x128_0_0_0, w⟩ : View.Piece (Elt Ideal) S8x512x128 .f32)] _) fill_m).trans (load_fill scM0_0.view 2 _ _ _)

theorem A_load0_3 : (scM0_0.view.readCov (kernelRun0_A.sl.HS0_4 arg4 arg5 x0 x1) (plane 3 inb_S8x512x128_S1x512x128_3_0_0).toLoadRect) = fun _ => (⊥ : EReal) := by
  refine (congrArg (fun L => scM0_0.view.readCov L _) (A_cons0_2 arg4 arg5 x0 x1)).trans ((load_skip scM0_0.view 2 3 _ _ _ _ (by decide) (by decide)).trans ?_)
  refine (congrArg (fun L => scM0_0.view.readCov L _) (A_cons0_1 arg4 arg5 x0 x1)).trans ((load_skip scM0_0.view 1 3 _ _ _ _ (by decide) (by decide)).trans ?_)
  refine (congrArg (fun L => scM0_0.view.readCov L _) (A_cons0_0 arg4 arg5 x0 x1)).trans ((load_skip scM0_0.view 0 3 _ _ _ _ (by decide) (by decide)).trans ?_)
  exact (congrArg (fun w => scM0_0.view.readCov [(⟨Rect.unit (s := S8x512x128) ![0, 0, 0] S8x512x128.size inb_S8x512x128_S8x512x128_0_0_0, w⟩ : View.Piece (Elt Ideal) S8x512x128 .f32)] _) fill_m).trans (load_fill scM0_0.view 3 _ _ _)

theorem A_load0_4 : (scM0_0.view.readCov (kernelRun0_A.sl.HS0_5 arg4 arg5 x0 x1) (plane 4 inb_S8x512x128_S1x512x128_4_0_0).toLoadRect) = fun _ => (⊥ : EReal) := by
  refine (congrArg (fun L => scM0_0.view.readCov L _) (A_cons0_3 arg4 arg5 x0 x1)).trans ((load_skip scM0_0.view 3 4 _ _ _ _ (by decide) (by decide)).trans ?_)
  refine (congrArg (fun L => scM0_0.view.readCov L _) (A_cons0_2 arg4 arg5 x0 x1)).trans ((load_skip scM0_0.view 2 4 _ _ _ _ (by decide) (by decide)).trans ?_)
  refine (congrArg (fun L => scM0_0.view.readCov L _) (A_cons0_1 arg4 arg5 x0 x1)).trans ((load_skip scM0_0.view 1 4 _ _ _ _ (by decide) (by decide)).trans ?_)
  refine (congrArg (fun L => scM0_0.view.readCov L _) (A_cons0_0 arg4 arg5 x0 x1)).trans ((load_skip scM0_0.view 0 4 _ _ _ _ (by decide) (by decide)).trans ?_)
  exact (congrArg (fun w => scM0_0.view.readCov [(⟨Rect.unit (s := S8x512x128) ![0, 0, 0] S8x512x128.size inb_S8x512x128_S8x512x128_0_0_0, w⟩ : View.Piece (Elt Ideal) S8x512x128 .f32)] _) fill_m).trans (load_fill scM0_0.view 4 _ _ _)

theorem A_load0_5 : (scM0_0.view.readCov (kernelRun0_A.sl.HS0_6 arg4 arg5 x0 x1) (plane 5 inb_S8x512x128_S1x512x128_5_0_0).toLoadRect) = fun _ => (⊥ : EReal) := by
  refine (congrArg (fun L => scM0_0.view.readCov L _) (A_cons0_4 arg4 arg5 x0 x1)).trans ((load_skip scM0_0.view 4 5 _ _ _ _ (by decide) (by decide)).trans ?_)
  refine (congrArg (fun L => scM0_0.view.readCov L _) (A_cons0_3 arg4 arg5 x0 x1)).trans ((load_skip scM0_0.view 3 5 _ _ _ _ (by decide) (by decide)).trans ?_)
  refine (congrArg (fun L => scM0_0.view.readCov L _) (A_cons0_2 arg4 arg5 x0 x1)).trans ((load_skip scM0_0.view 2 5 _ _ _ _ (by decide) (by decide)).trans ?_)
  refine (congrArg (fun L => scM0_0.view.readCov L _) (A_cons0_1 arg4 arg5 x0 x1)).trans ((load_skip scM0_0.view 1 5 _ _ _ _ (by decide) (by decide)).trans ?_)
  refine (congrArg (fun L => scM0_0.view.readCov L _) (A_cons0_0 arg4 arg5 x0 x1)).trans ((load_skip scM0_0.view 0 5 _ _ _ _ (by decide) (by decide)).trans ?_)
  exact (congrArg (fun w => scM0_0.view.readCov [(⟨Rect.unit (s := S8x512x128) ![0, 0, 0] S8x512x128.size inb_S8x512x128_S8x512x128_0_0_0, w⟩ : View.Piece (Elt Ideal) S8x512x128 .f32)] _) fill_m).trans (load_fill scM0_0.view 5 _ _ _)

theorem A_load0_6 : (scM0_0.view.readCov (kernelRun0_A.sl.HS0_7 arg4 arg5 x0 x1) (plane 6 inb_S8x512x128_S1x512x128_6_0_0).toLoadRect) = fun _ => (⊥ : EReal) := by
  refine (congrArg (fun L => scM0_0.view.readCov L _) (A_cons0_5 arg4 arg5 x0 x1)).trans ((load_skip scM0_0.view 5 6 _ _ _ _ (by decide) (by decide)).trans ?_)
  refine (congrArg (fun L => scM0_0.view.readCov L _) (A_cons0_4 arg4 arg5 x0 x1)).trans ((load_skip scM0_0.view 4 6 _ _ _ _ (by decide) (by decide)).trans ?_)
  refine (congrArg (fun L => scM0_0.view.readCov L _) (A_cons0_3 arg4 arg5 x0 x1)).trans ((load_skip scM0_0.view 3 6 _ _ _ _ (by decide) (by decide)).trans ?_)
  refine (congrArg (fun L => scM0_0.view.readCov L _) (A_cons0_2 arg4 arg5 x0 x1)).trans ((load_skip scM0_0.view 2 6 _ _ _ _ (by decide) (by decide)).trans ?_)
  refine (congrArg (fun L => scM0_0.view.readCov L _) (A_cons0_1 arg4 arg5 x0 x1)).trans ((load_skip scM0_0.view 1 6 _ _ _ _ (by decide) (by decide)).trans ?_)
  refine (congrArg (fun L => scM0_0.view.readCov L _) (A_cons0_0 arg4 arg5 x0 x1)).trans ((load_skip scM0_0.view 0 6 _ _ _ _ (by decide) (by decide)).trans ?_)
  exact (congrArg (fun w => scM0_0.view.readCov [(⟨Rect.unit (s := S8x512x128) ![0, 0, 0] S8x512x128.size inb_S8x512x128_S8x512x128_0_0_0, w⟩ : View.Piece (Elt Ideal) S8x512x128 .f32)] _) fill_m).trans (load_fill scM0_0.view 6 _ _ _)

theorem A_load0_7 : (scM0_0.view.readCov (kernelRun0_A.sl.HS0_8 arg4 arg5 x0 x1) (plane 7 inb_S8x512x128_S1x512x128_7_0_0).toLoadRect) = fun _ => (⊥ : EReal) := by
  refine (congrArg (fun L => scM0_0.view.readCov L _) (A_cons0_6 arg4 arg5 x0 x1)).trans ((load_skip scM0_0.view 6 7 _ _ _ _ (by decide) (by decide)).trans ?_)
  refine (congrArg (fun L => scM0_0.view.readCov L _) (A_cons0_5 arg4 arg5 x0 x1)).trans ((load_skip scM0_0.view 5 7 _ _ _ _ (by decide) (by decide)).trans ?_)
  refine (congrArg (fun L => scM0_0.view.readCov L _) (A_cons0_4 arg4 arg5 x0 x1)).trans ((load_skip scM0_0.view 4 7 _ _ _ _ (by decide) (by decide)).trans ?_)
  refine (congrArg (fun L => scM0_0.view.readCov L _) (A_cons0_3 arg4 arg5 x0 x1)).trans ((load_skip scM0_0.view 3 7 _ _ _ _ (by decide) (by decide)).trans ?_)
  refine (congrArg (fun L => scM0_0.view.readCov L _) (A_cons0_2 arg4 arg5 x0 x1)).trans ((load_skip scM0_0.view 2 7 _ _ _ _ (by decide) (by decide)).trans ?_)
  refine (congrArg (fun L => scM0_0.view.readCov L _) (A_cons0_1 arg4 arg5 x0 x1)).trans ((load_skip scM0_0.view 1 7 _ _ _ _ (by decide) (by decide)).trans ?_)
  refine (congrArg (fun L => scM0_0.view.readCov L _) (A_cons0_0 arg4 arg5 x0 x1)).trans ((load_skip scM0_0.view 0 7 _ _ _ _ (by decide) (by decide)).trans ?_)
  exact (congrArg (fun w => scM0_0.view.readCov [(⟨Rect.unit (s := S8x512x128) ![0, 0, 0] S8x512x128.size inb_S8x512x128_S8x512x128_0_0_0, w⟩ : View.Piece (Elt Ideal) S8x512x128 .f32)] _) fill_m).trans (load_fill scM0_0.view 7 _ _ _)

theorem A_put0_0 : (kernelRun0_A.sl.HS0_2 arg4 arg5 x0 x1) =
    ⟨plane 0 inb_S8x512x128_S1x512x128_0_0_0, newM (masked (scores (qk x0 0) (qk x1 0))) (fun _ => (⊥ : EReal))⟩ :: (kernelRun0_A.sl.HS0_1) := by
  rw [A_cons0_0, load_qk arg4.view x0 0 0 rfl, load_qk arg5.view x1 0 0 rfl, A_load0_0 ] <;> rfl

theorem A_put0_1 : (kernelRun0_A.sl.HS0_3 arg4 arg5 x0 x1) =
    ⟨plane 1 inb_S8x512x128_S1x512x128_1_0_0, newM (masked (scores (qk x0 1) (qk x1 1))) (fun _ => (⊥ : EReal))⟩ :: (kernelRun0_A.sl.HS0_2 arg4 arg5 x0 x1) := by
  rw [A_cons0_1, load_qk arg4.view x0 1 128 rfl, load_qk arg5.view x1 1 128 rfl, A_load0_1 arg4 arg5 x0 x1] <;> rfl

theorem A_put0_2 : (kernelRun0_A.sl.HS0_4 arg4 arg5 x0 x1) =
    ⟨plane 2 inb_S8x512x128_S1x512x128_2_0_0, newM (masked (scores (qk x0 2) (qk x1 2))) (fun _ => (⊥ : EReal))⟩ :: (kernelRun0_A.sl.HS0_3 arg4 arg5 x0 x1) := by
  rw [A_cons0_2, load_qk arg4.view x0 2 256 rfl, load_qk arg5.view x1 2 256 rfl, A_load0_2 arg4 arg5 x0 x1] <;> rfl

theorem A_put0_3 : (kernelRun0_A.sl.HS0_5 arg4 arg5 x0 x1) =
    ⟨plane 3 inb_S8x512x128_S1x512x128_3_0_0, newM (masked (scores (qk x0 3) (qk x1 3))) (fun _ => (⊥ : EReal))⟩ :: (kernelRun0_A.sl.HS0_4 arg4 arg5 x0 x1) := by
  rw [A_cons0_3, load_qk arg4.view x0 3 384 rfl, load_qk arg5.view x1 3 384 rfl, A_load0_3 arg4 arg5 x0 x1] <;> rfl

theorem A_put0_4 : (kernelRun0_A.sl.HS0_6 arg4 arg5 x0 x1) =
    ⟨plane 4 inb_S8x512x128_S1x512x128_4_0_0, newM (masked (scores (qk x0 4) (qk x1 4))) (fun _ => (⊥ : EReal))⟩ :: (kernelRun0_A.sl.HS0_5 arg4 arg5 x0 x1) := by
  rw [A_cons0_4, load_qk arg4.view x0 4 512 rfl, load_qk arg5.view x1 4 512 rfl, A_load0_4 arg4 arg5 x0 x1] <;> rfl

theorem A_put0_5 : (kernelRun0_A.sl.HS0_7 arg4 arg5 x0 x1) =
    ⟨plane 5 inb_S8x512x128_S1x512x128_5_0_0, newM (masked (scores (qk x0 5) (qk x1 5))) (fun _ => (⊥ : EReal))⟩ :: (kernelRun0_A.sl.HS0_6 arg4 arg5 x0 x1) := by
  rw [A_cons0_5, load_qk arg4.view x0 5 640 rfl, load_qk arg5.view x1 5 640 rfl, A_load0_5 arg4 arg5 x0 x1] <;> rfl

theorem A_put0_6 : (kernelRun0_A.sl.HS0_8 arg4 arg5 x0 x1) =
    ⟨plane 6 inb_S8x512x128_S1x512x128_6_0_0, newM (masked (scores (qk x0 6) (qk x1 6))) (fun _ => (⊥ : EReal))⟩ :: (kernelRun0_A.sl.HS0_7 arg4 arg5 x0 x1) := by
  rw [A_cons0_6, load_qk arg4.view x0 6 768 rfl, load_qk arg5.view x1 6 768 rfl, A_load0_6 arg4 arg5 x0 x1] <;> rfl

theorem A_put0_7 : (kernelRun0_A.sl.HS0_9 arg4 arg5 x0 x1) =
    ⟨plane 7 inb_S8x512x128_S1x512x128_7_0_0, newM (masked (scores (qk x0 7) (qk x1 7))) (fun _ => (⊥ : EReal))⟩ :: (kernelRun0_A.sl.HS0_8 arg4 arg5 x0 x1) := by
  rw [A_cons0_7, load_qk arg4.view x0 7 896 rfl, load_qk arg5.view x1 7 896 rfl, A_load0_7 arg4 arg5 x0 x1] <;> rfl

/-- The maxima stored by the first point, on the diagonal. -/
theorem A_newM : (kernelRun0_A.sl.HS0_9 arg4 arg5 x0 x1)
    = planes (fun h => newM (sc True x0 x1 h) (fun _ => (⊥ : EReal))) ++ (kernelRun0_A.sl.HS0_1) := by
  rw [A_put0_7, A_put0_6, A_put0_5, A_put0_4, A_put0_3, A_put0_2, A_put0_1, A_put0_0]
  rfl

theorem A_cons1_0 : (kernelRun0_A.sl.HS1_2 arg4 arg5 x0 x1) =
    ⟨plane 0 inb_S8x512x128_S1x512x128_0_0_0, newL (masked (scores (View.readAt (Elt Ideal) arg4.view (Rect.unit (s := S1x512x1024) ![0, 0, 0] S1x512x128.size inb_S1x512x1024_S1x512x128_0_0_0).toLoadRect (arg4.view.rep x0)) (View.readAt (Elt Ideal) arg5.view (Rect.unit (s := S1x512x1024) ![0, 0, 0] S1x512x128.size inb_S1x512x1024_S1x512x128_0_0_0).toLoadRect (arg5.view.rep x1)))) (scM0_0.view.readCov (kernelRun0_A.sl.HS0_1) (plane 0 inb_S8x512x128_S1x512x128_0_0_0).toLoadRect) (scM0_1.view.readCov (kernelRun0_A.sl.HS1_1) (plane 0 inb_S8x512x128_S1x512x128_0_0_0).toLoadRect)⟩ :: (kernelRun0_A.sl.HS1_1) := rfl

theorem A_cons1_1 : (kernelRun0_A.sl.HS1_3 arg4 arg5 x0 x1) =
    ⟨plane 1 inb_S8x512x128_S1x512x128_1_0_0, newL (masked (scores (View.readAt (Elt Ideal) arg4.view (Rect.unit (s := S1x512x1024) ![0, 0, 128] S1x512x128.size inb_S1x512x1024_S1x512x128_0_0_128).toLoadRect (arg4.view.rep x0)) (View.readAt (Elt Ideal) arg5.view (Rect.unit (s := S1x512x1024) ![0, 0, 128] S1x512x128.size inb_S1x512x1024_S1x512x128_0_0_128).toLoadRect (arg5.view.rep x1)))) (scM0_0.view.readCov (kernelRun0_A.sl.HS0_2 arg4 arg5 x0 x1) (plane 1 inb_S8x512x128_S1x512x128_1_0_0).toLoadRect) (scM0_1.view.readCov (kernelRun0_A.sl.HS1_2 arg4 arg5 x0 x1) (plane 1 inb_S8x512x128_S1x512x128_1_0_0).toLoadRect)⟩ :: (kernelRun0_A.sl.HS1_2 arg4 arg5 x0 x1) := rfl

theorem A_cons1_2 : (kernelRun0_A.sl.HS1_4 arg4 arg5 x0 x1) =
    ⟨plane 2 inb_S8x512x128_S1x512x128_2_0_0, newL (masked (scores (View.readAt (Elt Ideal) arg4.view (Rect.unit (s := S1x512x1024) ![0, 0, 256] S1x512x128.size inb_S1x512x1024_S1x512x128_0_0_256).toLoadRect (arg4.view.rep x0)) (View.readAt (Elt Ideal) arg5.view (Rect.unit (s := S1x512x1024) ![0, 0, 256] S1x512x128.size inb_S1x512x1024_S1x512x128_0_0_256).toLoadRect (arg5.view.rep x1)))) (scM0_0.view.readCov (kernelRun0_A.sl.HS0_3 arg4 arg5 x0 x1) (plane 2 inb_S8x512x128_S1x512x128_2_0_0).toLoadRect) (scM0_1.view.readCov (kernelRun0_A.sl.HS1_3 arg4 arg5 x0 x1) (plane 2 inb_S8x512x128_S1x512x128_2_0_0).toLoadRect)⟩ :: (kernelRun0_A.sl.HS1_3 arg4 arg5 x0 x1) := rfl

theorem A_cons1_3 : (kernelRun0_A.sl.HS1_5 arg4 arg5 x0 x1) =
    ⟨plane 3 inb_S8x512x128_S1x512x128_3_0_0, newL (masked (scores (View.readAt (Elt Ideal) arg4.view (Rect.unit (s := S1x512x1024) ![0, 0, 384] S1x512x128.size inb_S1x512x1024_S1x512x128_0_0_384).toLoadRect (arg4.view.rep x0)) (View.readAt (Elt Ideal) arg5.view (Rect.unit (s := S1x512x1024) ![0, 0, 384] S1x512x128.size inb_S1x512x1024_S1x512x128_0_0_384).toLoadRect (arg5.view.rep x1)))) (scM0_0.view.readCov (kernelRun0_A.sl.HS0_4 arg4 arg5 x0 x1) (plane 3 inb_S8x512x128_S1x512x128_3_0_0).toLoadRect) (scM0_1.view.readCov (kernelRun0_A.sl.HS1_4 arg4 arg5 x0 x1) (plane 3 inb_S8x512x128_S1x512x128_3_0_0).toLoadRect)⟩ :: (kernelRun0_A.sl.HS1_4 arg4 arg5 x0 x1) := rfl

theorem A_cons1_4 : (kernelRun0_A.sl.HS1_6 arg4 arg5 x0 x1) =
    ⟨plane 4 inb_S8x512x128_S1x512x128_4_0_0, newL (masked (scores (View.readAt (Elt Ideal) arg4.view (Rect.unit (s := S1x512x1024) ![0, 0, 512] S1x512x128.size inb_S1x512x1024_S1x512x128_0_0_512).toLoadRect (arg4.view.rep x0)) (View.readAt (Elt Ideal) arg5.view (Rect.unit (s := S1x512x1024) ![0, 0, 512] S1x512x128.size inb_S1x512x1024_S1x512x128_0_0_512).toLoadRect (arg5.view.rep x1)))) (scM0_0.view.readCov (kernelRun0_A.sl.HS0_5 arg4 arg5 x0 x1) (plane 4 inb_S8x512x128_S1x512x128_4_0_0).toLoadRect) (scM0_1.view.readCov (kernelRun0_A.sl.HS1_5 arg4 arg5 x0 x1) (plane 4 inb_S8x512x128_S1x512x128_4_0_0).toLoadRect)⟩ :: (kernelRun0_A.sl.HS1_5 arg4 arg5 x0 x1) := rfl

theorem A_cons1_5 : (kernelRun0_A.sl.HS1_7 arg4 arg5 x0 x1) =
    ⟨plane 5 inb_S8x512x128_S1x512x128_5_0_0, newL (masked (scores (View.readAt (Elt Ideal) arg4.view (Rect.unit (s := S1x512x1024) ![0, 0, 640] S1x512x128.size inb_S1x512x1024_S1x512x128_0_0_640).toLoadRect (arg4.view.rep x0)) (View.readAt (Elt Ideal) arg5.view (Rect.unit (s := S1x512x1024) ![0, 0, 640] S1x512x128.size inb_S1x512x1024_S1x512x128_0_0_640).toLoadRect (arg5.view.rep x1)))) (scM0_0.view.readCov (kernelRun0_A.sl.HS0_6 arg4 arg5 x0 x1) (plane 5 inb_S8x512x128_S1x512x128_5_0_0).toLoadRect) (scM0_1.view.readCov (kernelRun0_A.sl.HS1_6 arg4 arg5 x0 x1) (plane 5 inb_S8x512x128_S1x512x128_5_0_0).toLoadRect)⟩ :: (kernelRun0_A.sl.HS1_6 arg4 arg5 x0 x1) := rfl

theorem A_cons1_6 : (kernelRun0_A.sl.HS1_8 arg4 arg5 x0 x1) =
    ⟨plane 6 inb_S8x512x128_S1x512x128_6_0_0, newL (masked (scores (View.readAt (Elt Ideal) arg4.view (Rect.unit (s := S1x512x1024) ![0, 0, 768] S1x512x128.size inb_S1x512x1024_S1x512x128_0_0_768).toLoadRect (arg4.view.rep x0)) (View.readAt (Elt Ideal) arg5.view (Rect.unit (s := S1x512x1024) ![0, 0, 768] S1x512x128.size inb_S1x512x1024_S1x512x128_0_0_768).toLoadRect (arg5.view.rep x1)))) (scM0_0.view.readCov (kernelRun0_A.sl.HS0_7 arg4 arg5 x0 x1) (plane 6 inb_S8x512x128_S1x512x128_6_0_0).toLoadRect) (scM0_1.view.readCov (kernelRun0_A.sl.HS1_7 arg4 arg5 x0 x1) (plane 6 inb_S8x512x128_S1x512x128_6_0_0).toLoadRect)⟩ :: (kernelRun0_A.sl.HS1_7 arg4 arg5 x0 x1) := rfl

theorem A_cons1_7 : (kernelRun0_A.sl.HS1_9 arg4 arg5 x0 x1) =
    ⟨plane 7 inb_S8x512x128_S1x512x128_7_0_0, newL (masked (scores (View.readAt (Elt Ideal) arg4.view (Rect.unit (s := S1x512x1024) ![0, 0, 896] S1x512x128.size inb_S1x512x1024_S1x512x128_0_0_896).toLoadRect (arg4.view.rep x0)) (View.readAt (Elt Ideal) arg5.view (Rect.unit (s := S1x512x1024) ![0, 0, 896] S1x512x128.size inb_S1x512x1024_S1x512x128_0_0_896).toLoadRect (arg5.view.rep x1)))) (scM0_0.view.readCov (kernelRun0_A.sl.HS0_8 arg4 arg5 x0 x1) (plane 7 inb_S8x512x128_S1x512x128_7_0_0).toLoadRect) (scM0_1.view.readCov (kernelRun0_A.sl.HS1_8 arg4 arg5 x0 x1) (plane 7 inb_S8x512x128_S1x512x128_7_0_0).toLoadRect)⟩ :: (kernelRun0_A.sl.HS1_8 arg4 arg5 x0 x1) := rfl

theorem A_load1_0 : (scM0_1.view.readCov (kernelRun0_A.sl.HS1_1) (plane 0 inb_S8x512x128_S1x512x128_0_0_0).toLoadRect) = fun _ => (0 : EReal) := by
  exact (congrArg (fun w => scM0_1.view.readCov [(⟨Rect.unit (s := S8x512x128) ![0, 0, 0] S8x512x128.size inb_S8x512x128_S8x512x128_0_0_0, w⟩ : View.Piece (Elt Ideal) S8x512x128 .f32)] _) fill_l).trans (load_fill scM0_1.view 0 _ _ _)

theorem A_load1_1 : (scM0_1.view.readCov (kernelRun0_A.sl.HS1_2 arg4 arg5 x0 x1) (plane 1 inb_S8x512x128_S1x512x128_1_0_0).toLoadRect) = fun _ => (0 : EReal) := by
  refine (congrArg (fun L => scM0_1.view.readCov L _) (A_cons1_0 arg4 arg5 x0 x1)).trans ((load_skip scM0_1.view 0 1 _ _ _ _ (by decide) (by decide)).trans ?_)
  exact (congrArg (fun w => scM0_1.view.readCov [(⟨Rect.unit (s := S8x512x128) ![0, 0, 0] S8x512x128.size inb_S8x512x128_S8x512x128_0_0_0, w⟩ : View.Piece (Elt Ideal) S8x512x128 .f32)] _) fill_l).trans (load_fill scM0_1.view 1 _ _ _)

theorem A_load1_2 : (scM0_1.view.readCov (kernelRun0_A.sl.HS1_3 arg4 arg5 x0 x1) (plane 2 inb_S8x512x128_S1x512x128_2_0_0).toLoadRect) = fun _ => (0 : EReal) := by
  refine (congrArg (fun L => scM0_1.view.readCov L _) (A_cons1_1 arg4 arg5 x0 x1)).trans ((load_skip scM0_1.view 1 2 _ _ _ _ (by decide) (by decide)).trans ?_)
  refine (congrArg (fun L => scM0_1.view.readCov L _) (A_cons1_0 arg4 arg5 x0 x1)).trans ((load_skip scM0_1.view 0 2 _ _ _ _ (by decide) (by decide)).trans ?_)
  exact (congrArg (fun w => scM0_1.view.readCov [(⟨Rect.unit (s := S8x512x128) ![0, 0, 0] S8x512x128.size inb_S8x512x128_S8x512x128_0_0_0, w⟩ : View.Piece (Elt Ideal) S8x512x128 .f32)] _) fill_l).trans (load_fill scM0_1.view 2 _ _ _)

theorem A_load1_3 : (scM0_1.view.readCov (kernelRun0_A.sl.HS1_4 arg4 arg5 x0 x1) (plane 3 inb_S8x512x128_S1x512x128_3_0_0).toLoadRect) = fun _ => (0 : EReal) := by
  refine (congrArg (fun L => scM0_1.view.readCov L _) (A_cons1_2 arg4 arg5 x0 x1)).trans ((load_skip scM0_1.view 2 3 _ _ _ _ (by decide) (by decide)).trans ?_)
  refine (congrArg (fun L => scM0_1.view.readCov L _) (A_cons1_1 arg4 arg5 x0 x1)).trans ((load_skip scM0_1.view 1 3 _ _ _ _ (by decide) (by decide)).trans ?_)
  refine (congrArg (fun L => scM0_1.view.readCov L _) (A_cons1_0 arg4 arg5 x0 x1)).trans ((load_skip scM0_1.view 0 3 _ _ _ _ (by decide) (by decide)).trans ?_)
  exact (congrArg (fun w => scM0_1.view.readCov [(⟨Rect.unit (s := S8x512x128) ![0, 0, 0] S8x512x128.size inb_S8x512x128_S8x512x128_0_0_0, w⟩ : View.Piece (Elt Ideal) S8x512x128 .f32)] _) fill_l).trans (load_fill scM0_1.view 3 _ _ _)

theorem A_load1_4 : (scM0_1.view.readCov (kernelRun0_A.sl.HS1_5 arg4 arg5 x0 x1) (plane 4 inb_S8x512x128_S1x512x128_4_0_0).toLoadRect) = fun _ => (0 : EReal) := by
  refine (congrArg (fun L => scM0_1.view.readCov L _) (A_cons1_3 arg4 arg5 x0 x1)).trans ((load_skip scM0_1.view 3 4 _ _ _ _ (by decide) (by decide)).trans ?_)
  refine (congrArg (fun L => scM0_1.view.readCov L _) (A_cons1_2 arg4 arg5 x0 x1)).trans ((load_skip scM0_1.view 2 4 _ _ _ _ (by decide) (by decide)).trans ?_)
  refine (congrArg (fun L => scM0_1.view.readCov L _) (A_cons1_1 arg4 arg5 x0 x1)).trans ((load_skip scM0_1.view 1 4 _ _ _ _ (by decide) (by decide)).trans ?_)
  refine (congrArg (fun L => scM0_1.view.readCov L _) (A_cons1_0 arg4 arg5 x0 x1)).trans ((load_skip scM0_1.view 0 4 _ _ _ _ (by decide) (by decide)).trans ?_)
  exact (congrArg (fun w => scM0_1.view.readCov [(⟨Rect.unit (s := S8x512x128) ![0, 0, 0] S8x512x128.size inb_S8x512x128_S8x512x128_0_0_0, w⟩ : View.Piece (Elt Ideal) S8x512x128 .f32)] _) fill_l).trans (load_fill scM0_1.view 4 _ _ _)

theorem A_load1_5 : (scM0_1.view.readCov (kernelRun0_A.sl.HS1_6 arg4 arg5 x0 x1) (plane 5 inb_S8x512x128_S1x512x128_5_0_0).toLoadRect) = fun _ => (0 : EReal) := by
  refine (congrArg (fun L => scM0_1.view.readCov L _) (A_cons1_4 arg4 arg5 x0 x1)).trans ((load_skip scM0_1.view 4 5 _ _ _ _ (by decide) (by decide)).trans ?_)
  refine (congrArg (fun L => scM0_1.view.readCov L _) (A_cons1_3 arg4 arg5 x0 x1)).trans ((load_skip scM0_1.view 3 5 _ _ _ _ (by decide) (by decide)).trans ?_)
  refine (congrArg (fun L => scM0_1.view.readCov L _) (A_cons1_2 arg4 arg5 x0 x1)).trans ((load_skip scM0_1.view 2 5 _ _ _ _ (by decide) (by decide)).trans ?_)
  refine (congrArg (fun L => scM0_1.view.readCov L _) (A_cons1_1 arg4 arg5 x0 x1)).trans ((load_skip scM0_1.view 1 5 _ _ _ _ (by decide) (by decide)).trans ?_)
  refine (congrArg (fun L => scM0_1.view.readCov L _) (A_cons1_0 arg4 arg5 x0 x1)).trans ((load_skip scM0_1.view 0 5 _ _ _ _ (by decide) (by decide)).trans ?_)
  exact (congrArg (fun w => scM0_1.view.readCov [(⟨Rect.unit (s := S8x512x128) ![0, 0, 0] S8x512x128.size inb_S8x512x128_S8x512x128_0_0_0, w⟩ : View.Piece (Elt Ideal) S8x512x128 .f32)] _) fill_l).trans (load_fill scM0_1.view 5 _ _ _)

theorem A_load1_6 : (scM0_1.view.readCov (kernelRun0_A.sl.HS1_7 arg4 arg5 x0 x1) (plane 6 inb_S8x512x128_S1x512x128_6_0_0).toLoadRect) = fun _ => (0 : EReal) := by
  refine (congrArg (fun L => scM0_1.view.readCov L _) (A_cons1_5 arg4 arg5 x0 x1)).trans ((load_skip scM0_1.view 5 6 _ _ _ _ (by decide) (by decide)).trans ?_)
  refine (congrArg (fun L => scM0_1.view.readCov L _) (A_cons1_4 arg4 arg5 x0 x1)).trans ((load_skip scM0_1.view 4 6 _ _ _ _ (by decide) (by decide)).trans ?_)
  refine (congrArg (fun L => scM0_1.view.readCov L _) (A_cons1_3 arg4 arg5 x0 x1)).trans ((load_skip scM0_1.view 3 6 _ _ _ _ (by decide) (by decide)).trans ?_)
  refine (congrArg (fun L => scM0_1.view.readCov L _) (A_cons1_2 arg4 arg5 x0 x1)).trans ((load_skip scM0_1.view 2 6 _ _ _ _ (by decide) (by decide)).trans ?_)
  refine (congrArg (fun L => scM0_1.view.readCov L _) (A_cons1_1 arg4 arg5 x0 x1)).trans ((load_skip scM0_1.view 1 6 _ _ _ _ (by decide) (by decide)).trans ?_)
  refine (congrArg (fun L => scM0_1.view.readCov L _) (A_cons1_0 arg4 arg5 x0 x1)).trans ((load_skip scM0_1.view 0 6 _ _ _ _ (by decide) (by decide)).trans ?_)
  exact (congrArg (fun w => scM0_1.view.readCov [(⟨Rect.unit (s := S8x512x128) ![0, 0, 0] S8x512x128.size inb_S8x512x128_S8x512x128_0_0_0, w⟩ : View.Piece (Elt Ideal) S8x512x128 .f32)] _) fill_l).trans (load_fill scM0_1.view 6 _ _ _)

theorem A_load1_7 : (scM0_1.view.readCov (kernelRun0_A.sl.HS1_8 arg4 arg5 x0 x1) (plane 7 inb_S8x512x128_S1x512x128_7_0_0).toLoadRect) = fun _ => (0 : EReal) := by
  refine (congrArg (fun L => scM0_1.view.readCov L _) (A_cons1_6 arg4 arg5 x0 x1)).trans ((load_skip scM0_1.view 6 7 _ _ _ _ (by decide) (by decide)).trans ?_)
  refine (congrArg (fun L => scM0_1.view.readCov L _) (A_cons1_5 arg4 arg5 x0 x1)).trans ((load_skip scM0_1.view 5 7 _ _ _ _ (by decide) (by decide)).trans ?_)
  refine (congrArg (fun L => scM0_1.view.readCov L _) (A_cons1_4 arg4 arg5 x0 x1)).trans ((load_skip scM0_1.view 4 7 _ _ _ _ (by decide) (by decide)).trans ?_)
  refine (congrArg (fun L => scM0_1.view.readCov L _) (A_cons1_3 arg4 arg5 x0 x1)).trans ((load_skip scM0_1.view 3 7 _ _ _ _ (by decide) (by decide)).trans ?_)
  refine (congrArg (fun L => scM0_1.view.readCov L _) (A_cons1_2 arg4 arg5 x0 x1)).trans ((load_skip scM0_1.view 2 7 _ _ _ _ (by decide) (by decide)).trans ?_)
  refine (congrArg (fun L => scM0_1.view.readCov L _) (A_cons1_1 arg4 arg5 x0 x1)).trans ((load_skip scM0_1.view 1 7 _ _ _ _ (by decide) (by decide)).trans ?_)
  refine (congrArg (fun L => scM0_1.view.readCov L _) (A_cons1_0 arg4 arg5 x0 x1)).trans ((load_skip scM0_1.view 0 7 _ _ _ _ (by decide) (by decide)).trans ?_)
  exact (congrArg (fun w => scM0_1.view.readCov [(⟨Rect.unit (s := S8x512x128) ![0, 0, 0] S8x512x128.size inb_S8x512x128_S8x512x128_0_0_0, w⟩ : View.Piece (Elt Ideal) S8x512x128 .f32)] _) fill_l).trans (load_fill scM0_1.view 7 _ _ _)

theorem A_put1_0 : (kernelRun0_A.sl.HS1_2 arg4 arg5 x0 x1) =
    ⟨plane 0 inb_S8x512x128_S1x512x128_0_0_0, newL (masked (scores (qk x0 0) (qk x1 0))) (fun _ => (⊥ : EReal)) (fun _ => (0 : EReal))⟩ :: (kernelRun0_A.sl.HS1_1) := by
  rw [A_cons1_0, load_qk arg4.view x0 0 0 rfl, load_qk arg5.view x1 0 0 rfl, A_load0_0 , A_load1_0 ] <;> rfl

theorem A_put1_1 : (kernelRun0_A.sl.HS1_3 arg4 arg5 x0 x1) =
    ⟨plane 1 inb_S8x512x128_S1x512x128_1_0_0, newL (masked (scores (qk x0 1) (qk x1 1))) (fun _ => (⊥ : EReal)) (fun _ => (0 : EReal))⟩ :: (kernelRun0_A.sl.HS1_2 arg4 arg5 x0 x1) := by
  rw [A_cons1_1, load_qk arg4.view x0 1 128 rfl, load_qk arg5.view x1 1 128 rfl, A_load0_1 arg4 arg5 x0 x1, A_load1_1 arg4 arg5 x0 x1] <;> rfl

theorem A_put1_2 : (kernelRun0_A.sl.HS1_4 arg4 arg5 x0 x1) =
    ⟨plane 2 inb_S8x512x128_S1x512x128_2_0_0, newL (masked (scores (qk x0 2) (qk x1 2))) (fun _ => (⊥ : EReal)) (fun _ => (0 : EReal))⟩ :: (kernelRun0_A.sl.HS1_3 arg4 arg5 x0 x1) := by
  rw [A_cons1_2, load_qk arg4.view x0 2 256 rfl, load_qk arg5.view x1 2 256 rfl, A_load0_2 arg4 arg5 x0 x1, A_load1_2 arg4 arg5 x0 x1] <;> rfl

theorem A_put1_3 : (kernelRun0_A.sl.HS1_5 arg4 arg5 x0 x1) =
    ⟨plane 3 inb_S8x512x128_S1x512x128_3_0_0, newL (masked (scores (qk x0 3) (qk x1 3))) (fun _ => (⊥ : EReal)) (fun _ => (0 : EReal))⟩ :: (kernelRun0_A.sl.HS1_4 arg4 arg5 x0 x1) := by
  rw [A_cons1_3, load_qk arg4.view x0 3 384 rfl, load_qk arg5.view x1 3 384 rfl, A_load0_3 arg4 arg5 x0 x1, A_load1_3 arg4 arg5 x0 x1] <;> rfl

theorem A_put1_4 : (kernelRun0_A.sl.HS1_6 arg4 arg5 x0 x1) =
    ⟨plane 4 inb_S8x512x128_S1x512x128_4_0_0, newL (masked (scores (qk x0 4) (qk x1 4))) (fun _ => (⊥ : EReal)) (fun _ => (0 : EReal))⟩ :: (kernelRun0_A.sl.HS1_5 arg4 arg5 x0 x1) := by
  rw [A_cons1_4, load_qk arg4.view x0 4 512 rfl, load_qk arg5.view x1 4 512 rfl, A_load0_4 arg4 arg5 x0 x1, A_load1_4 arg4 arg5 x0 x1] <;> rfl

theorem A_put1_5 : (kernelRun0_A.sl.HS1_7 arg4 arg5 x0 x1) =
    ⟨plane 5 inb_S8x512x128_S1x512x128_5_0_0, newL (masked (scores (qk x0 5) (qk x1 5))) (fun _ => (⊥ : EReal)) (fun _ => (0 : EReal))⟩ :: (kernelRun0_A.sl.HS1_6 arg4 arg5 x0 x1) := by
  rw [A_cons1_5, load_qk arg4.view x0 5 640 rfl, load_qk arg5.view x1 5 640 rfl, A_load0_5 arg4 arg5 x0 x1, A_load1_5 arg4 arg5 x0 x1] <;> rfl

theorem A_put1_6 : (kernelRun0_A.sl.HS1_8 arg4 arg5 x0 x1) =
    ⟨plane 6 inb_S8x512x128_S1x512x128_6_0_0, newL (masked (scores (qk x0 6) (qk x1 6))) (fun _ => (⊥ : EReal)) (fun _ => (0 : EReal))⟩ :: (kernelRun0_A.sl.HS1_7 arg4 arg5 x0 x1) := by
  rw [A_cons1_6, load_qk arg4.view x0 6 768 rfl, load_qk arg5.view x1 6 768 rfl, A_load0_6 arg4 arg5 x0 x1, A_load1_6 arg4 arg5 x0 x1] <;> rfl

theorem A_put1_7 : (kernelRun0_A.sl.HS1_9 arg4 arg5 x0 x1) =
    ⟨plane 7 inb_S8x512x128_S1x512x128_7_0_0, newL (masked (scores (qk x0 7) (qk x1 7))) (fun _ => (⊥ : EReal)) (fun _ => (0 : EReal))⟩ :: (kernelRun0_A.sl.HS1_8 arg4 arg5 x0 x1) := by
  rw [A_cons1_7, load_qk arg4.view x0 7 896 rfl, load_qk arg5.view x1 7 896 rfl, A_load0_7 arg4 arg5 x0 x1, A_load1_7 arg4 arg5 x0 x1] <;> rfl

/-- The sums stored by the first point, on the diagonal. -/
theorem A_newL : (kernelRun0_A.sl.HS1_9 arg4 arg5 x0 x1)
    = planes (fun h => newL (sc True x0 x1 h) (fun _ => (⊥ : EReal)) (fun _ => (0 : EReal))) ++ (kernelRun0_A.sl.HS1_1) := by
  rw [A_put1_7, A_put1_6, A_put1_5, A_put1_4, A_put1_3, A_put1_2, A_put1_1, A_put1_0]
  rfl

theorem A_cons2_0 : (kernelRun0_A.sl.HS2_2 arg4 arg5 arg6 x0 x1 x2) =
    ⟨plane 0 inb_S8x512x128_S1x512x128_0_0_0, newA (masked (scores (View.readAt (Elt Ideal) arg4.view (Rect.unit (s := S1x512x1024) ![0, 0, 0] S1x512x128.size inb_S1x512x1024_S1x512x128_0_0_0).toLoadRect (arg4.view.rep x0)) (View.readAt (Elt Ideal) arg5.view (Rect.unit (s := S1x512x1024) ![0, 0, 0] S1x512x128.size inb_S1x512x1024_S1x512x128_0_0_0).toLoadRect (arg5.view.rep x1)))) (scM0_0.view.readCov (kernelRun0_A.sl.HS0_1) (plane 0 inb_S8x512x128_S1x512x128_0_0_0).toLoadRect) (scM0_2.view.readCov (kernelRun0_A.sl.HS2_1) (plane 0 inb_S8x512x128_S1x512x128_0_0_0).toLoadRect) (View.readAt (Elt Ideal) arg6.view (Rect.unit (s := S1x512x512) ![0, 0, 0] S1x512x128.size inb_S1x512x512_S1x512x128_0_0_0).toLoadRect (arg6.view.rep x2))⟩ :: (kernelRun0_A.sl.HS2_1) := rfl

theorem A_cons2_1 : (kernelRun0_A.sl.HS2_3 arg4 arg5 arg6 x0 x1 x2) =
    ⟨plane 1 inb_S8x512x128_S1x512x128_1_0_0, newA (masked (scores (View.readAt (Elt Ideal) arg4.view (Rect.unit (s := S1x512x1024) ![0, 0, 128] S1x512x128.size inb_S1x512x1024_S1x512x128_0_0_128).toLoadRect (arg4.view.rep x0)) (View.readAt (Elt Ideal) arg5.view (Rect.unit (s := S1x512x1024) ![0, 0, 128] S1x512x128.size inb_S1x512x1024_S1x512x128_0_0_128).toLoadRect (arg5.view.rep x1)))) (scM0_0.view.readCov (kernelRun0_A.sl.HS0_2 arg4 arg5 x0 x1) (plane 1 inb_S8x512x128_S1x512x128_1_0_0).toLoadRect) (scM0_2.view.readCov (kernelRun0_A.sl.HS2_2 arg4 arg5 arg6 x0 x1 x2) (plane 1 inb_S8x512x128_S1x512x128_1_0_0).toLoadRect) (View.readAt (Elt Ideal) arg6.view (Rect.unit (s := S1x512x512) ![0, 0, 0] S1x512x128.size inb_S1x512x512_S1x512x128_0_0_0).toLoadRect (arg6.view.rep x2))⟩ :: (kernelRun0_A.sl.HS2_2 arg4 arg5 arg6 x0 x1 x2) := rfl

theorem A_cons2_2 : (kernelRun0_A.sl.HS2_4 arg4 arg5 arg6 x0 x1 x2) =
    ⟨plane 2 inb_S8x512x128_S1x512x128_2_0_0, newA (masked (scores (View.readAt (Elt Ideal) arg4.view (Rect.unit (s := S1x512x1024) ![0, 0, 256] S1x512x128.size inb_S1x512x1024_S1x512x128_0_0_256).toLoadRect (arg4.view.rep x0)) (View.readAt (Elt Ideal) arg5.view (Rect.unit (s := S1x512x1024) ![0, 0, 256] S1x512x128.size inb_S1x512x1024_S1x512x128_0_0_256).toLoadRect (arg5.view.rep x1)))) (scM0_0.view.readCov (kernelRun0_A.sl.HS0_3 arg4 arg5 x0 x1) (plane 2 inb_S8x512x128_S1x512x128_2_0_0).toLoadRect) (scM0_2.view.readCov (kernelRun0_A.sl.HS2_3 arg4 arg5 arg6 x0 x1 x2) (plane 2 inb_S8x512x128_S1x512x128_2_0_0).toLoadRect) (View.readAt (Elt Ideal) arg6.view (Rect.unit (s := S1x512x512) ![0, 0, 128] S1x512x128.size inb_S1x512x512_S1x512x128_0_0_128).toLoadRect (arg6.view.rep x2))⟩ :: (kernelRun0_A.sl.HS2_3 arg4 arg5 arg6 x0 x1 x2) := rfl

theorem A_cons2_3 : (kernelRun0_A.sl.HS2_5 arg4 arg5 arg6 x0 x1 x2) =
    ⟨plane 3 inb_S8x512x128_S1x512x128_3_0_0, newA (masked (scores (View.readAt (Elt Ideal) arg4.view (Rect.unit (s := S1x512x1024) ![0, 0, 384] S1x512x128.size inb_S1x512x1024_S1x512x128_0_0_384).toLoadRect (arg4.view.rep x0)) (View.readAt (Elt Ideal) arg5.view (Rect.unit (s := S1x512x1024) ![0, 0, 384] S1x512x128.size inb_S1x512x1024_S1x512x128_0_0_384).toLoadRect (arg5.view.rep x1)))) (scM0_0.view.readCov (kernelRun0_A.sl.HS0_4 arg4 arg5 x0 x1) (plane 3 inb_S8x512x128_S1x512x128_3_0_0).toLoadRect) (scM0_2.view.readCov (kernelRun0_A.sl.HS2_4 arg4 arg5 arg6 x0 x1 x2) (plane 3 inb_S8x512x128_S1x512x128_3_0_0).toLoadRect) (View.readAt (Elt Ideal) arg6.view (Rect.unit (s := S1x512x512) ![0, 0, 128] S1x512x128.size inb_S1x512x512_S1x512x128_0_0_128).toLoadRect (arg6.view.rep x2))⟩ :: (kernelRun0_A.sl.HS2_4 arg4 arg5 arg6 x0 x1 x2) := rfl

theorem A_cons2_4 : (kernelRun0_A.sl.HS2_6 arg4 arg5 arg6 x0 x1 x2) =
    ⟨plane 4 inb_S8x512x128_S1x512x128_4_0_0, newA (masked (scores (View.readAt (Elt Ideal) arg4.view (Rect.unit (s := S1x512x1024) ![0, 0, 512] S1x512x128.size inb_S1x512x1024_S1x512x128_0_0_512).toLoadRect (arg4.view.rep x0)) (View.readAt (Elt Ideal) arg5.view (Rect.unit (s := S1x512x1024) ![0, 0, 512] S1x512x128.size inb_S1x512x1024_S1x512x128_0_0_512).toLoadRect (arg5.view.rep x1)))) (scM0_0.view.readCov (kernelRun0_A.sl.HS0_5 arg4 arg5 x0 x1) (plane 4 inb_S8x512x128_S1x512x128_4_0_0).toLoadRect) (scM0_2.view.readCov (kernelRun0_A.sl.HS2_5 arg4 arg5 arg6 x0 x1 x2) (plane 4 inb_S8x512x128_S1x512x128_4_0_0).toLoadRect) (View.readAt (Elt Ideal) arg6.view (Rect.unit (s := S1x512x512) ![0, 0, 256] S1x512x128.size inb_S1x512x512_S1x512x128_0_0_256).toLoadRect (arg6.view.rep x2))⟩ :: (kernelRun0_A.sl.HS2_5 arg4 arg5 arg6 x0 x1 x2) := rfl

theorem A_cons2_5 : (kernelRun0_A.sl.HS2_7 arg4 arg5 arg6 x0 x1 x2) =
    ⟨plane 5 inb_S8x512x128_S1x512x128_5_0_0, newA (masked (scores (View.readAt (Elt Ideal) arg4.view (Rect.unit (s := S1x512x1024) ![0, 0, 640] S1x512x128.size inb_S1x512x1024_S1x512x128_0_0_640).toLoadRect (arg4.view.rep x0)) (View.readAt (Elt Ideal) arg5.view (Rect.unit (s := S1x512x1024) ![0, 0, 640] S1x512x128.size inb_S1x512x1024_S1x512x128_0_0_640).toLoadRect (arg5.view.rep x1)))) (scM0_0.view.readCov (kernelRun0_A.sl.HS0_6 arg4 arg5 x0 x1) (plane 5 inb_S8x512x128_S1x512x128_5_0_0).toLoadRect) (scM0_2.view.readCov (kernelRun0_A.sl.HS2_6 arg4 arg5 arg6 x0 x1 x2) (plane 5 inb_S8x512x128_S1x512x128_5_0_0).toLoadRect) (View.readAt (Elt Ideal) arg6.view (Rect.unit (s := S1x512x512) ![0, 0, 256] S1x512x128.size inb_S1x512x512_S1x512x128_0_0_256).toLoadRect (arg6.view.rep x2))⟩ :: (kernelRun0_A.sl.HS2_6 arg4 arg5 arg6 x0 x1 x2) := rfl

theorem A_cons2_6 : (kernelRun0_A.sl.HS2_8 arg4 arg5 arg6 x0 x1 x2) =
    ⟨plane 6 inb_S8x512x128_S1x512x128_6_0_0, newA (masked (scores (View.readAt (Elt Ideal) arg4.view (Rect.unit (s := S1x512x1024) ![0, 0, 768] S1x512x128.size inb_S1x512x1024_S1x512x128_0_0_768).toLoadRect (arg4.view.rep x0)) (View.readAt (Elt Ideal) arg5.view (Rect.unit (s := S1x512x1024) ![0, 0, 768] S1x512x128.size inb_S1x512x1024_S1x512x128_0_0_768).toLoadRect (arg5.view.rep x1)))) (scM0_0.view.readCov (kernelRun0_A.sl.HS0_7 arg4 arg5 x0 x1) (plane 6 inb_S8x512x128_S1x512x128_6_0_0).toLoadRect) (scM0_2.view.readCov (kernelRun0_A.sl.HS2_7 arg4 arg5 arg6 x0 x1 x2) (plane 6 inb_S8x512x128_S1x512x128_6_0_0).toLoadRect) (View.readAt (Elt Ideal) arg6.view (Rect.unit (s := S1x512x512) ![0, 0, 384] S1x512x128.size inb_S1x512x512_S1x512x128_0_0_384).toLoadRect (arg6.view.rep x2))⟩ :: (kernelRun0_A.sl.HS2_7 arg4 arg5 arg6 x0 x1 x2) := rfl

theorem A_cons2_7 : (kernelRun0_A.sl.HS2_9 arg4 arg5 arg6 x0 x1 x2) =
    ⟨plane 7 inb_S8x512x128_S1x512x128_7_0_0, newA (masked (scores (View.readAt (Elt Ideal) arg4.view (Rect.unit (s := S1x512x1024) ![0, 0, 896] S1x512x128.size inb_S1x512x1024_S1x512x128_0_0_896).toLoadRect (arg4.view.rep x0)) (View.readAt (Elt Ideal) arg5.view (Rect.unit (s := S1x512x1024) ![0, 0, 896] S1x512x128.size inb_S1x512x1024_S1x512x128_0_0_896).toLoadRect (arg5.view.rep x1)))) (scM0_0.view.readCov (kernelRun0_A.sl.HS0_8 arg4 arg5 x0 x1) (plane 7 inb_S8x512x128_S1x512x128_7_0_0).toLoadRect) (scM0_2.view.readCov (kernelRun0_A.sl.HS2_8 arg4 arg5 arg6 x0 x1 x2) (plane 7 inb_S8x512x128_S1x512x128_7_0_0).toLoadRect) (View.readAt (Elt Ideal) arg6.view (Rect.unit (s := S1x512x512) ![0, 0, 384] S1x512x128.size inb_S1x512x512_S1x512x128_0_0_384).toLoadRect (arg6.view.rep x2))⟩ :: (kernelRun0_A.sl.HS2_8 arg4 arg5 arg6 x0 x1 x2) := rfl

theorem A_load2_0 : (scM0_2.view.readCov (kernelRun0_A.sl.HS2_1) (plane 0 inb_S8x512x128_S1x512x128_0_0_0).toLoadRect) = fun _ => (0 : EReal) := by
  exact (congrArg (fun w => scM0_2.view.readCov [(⟨Rect.unit (s := S8x512x128) ![0, 0, 0] S8x512x128.size inb_S8x512x128_S8x512x128_0_0_0, w⟩ : View.Piece (Elt Ideal) S8x512x128 .f32)] _) fill_a).trans (load_fill scM0_2.view 0 _ _ _)

theorem A_load2_1 : (scM0_2.view.readCov (kernelRun0_A.sl.HS2_2 arg4 arg5 arg6 x0 x1 x2) (plane 1 inb_S8x512x128_S1x512x128_1_0_0).toLoadRect) = fun _ => (0 : EReal) := by
  refine (congrArg (fun L => scM0_2.view.readCov L _) (A_cons2_0 arg4 arg5 arg6 x0 x1 x2)).trans ((load_skip scM0_2.view 0 1 _ _ _ _ (by decide) (by decide)).trans ?_)
  exact (congrArg (fun w => scM0_2.view.readCov [(⟨Rect.unit (s := S8x512x128) ![0, 0, 0] S8x512x128.size inb_S8x512x128_S8x512x128_0_0_0, w⟩ : View.Piece (Elt Ideal) S8x512x128 .f32)] _) fill_a).trans (load_fill scM0_2.view 1 _ _ _)

theorem A_load2_2 : (scM0_2.view.readCov (kernelRun0_A.sl.HS2_3 arg4 arg5 arg6 x0 x1 x2) (plane 2 inb_S8x512x128_S1x512x128_2_0_0).toLoadRect) = fun _ => (0 : EReal) := by
  refine (congrArg (fun L => scM0_2.view.readCov L _) (A_cons2_1 arg4 arg5 arg6 x0 x1 x2)).trans ((load_skip scM0_2.view 1 2 _ _ _ _ (by decide) (by decide)).trans ?_)
  refine (congrArg (fun L => scM0_2.view.readCov L _) (A_cons2_0 arg4 arg5 arg6 x0 x1 x2)).trans ((load_skip scM0_2.view 0 2 _ _ _ _ (by decide) (by decide)).trans ?_)
  exact (congrArg (fun w => scM0_2.view.readCov [(⟨Rect.unit (s := S8x512x128) ![0, 0, 0] S8x512x128.size inb_S8x512x128_S8x512x128_0_0_0, w⟩ : View.Piece (Elt Ideal) S8x512x128 .f32)] _) fill_a).trans (load_fill scM0_2.view 2 _ _ _)

theorem A_load2_3 : (scM0_2.view.readCov (kernelRun0_A.sl.HS2_4 arg4 arg5 arg6 x0 x1 x2) (plane 3 inb_S8x512x128_S1x512x128_3_0_0).toLoadRect) = fun _ => (0 : EReal) := by
  refine (congrArg (fun L => scM0_2.view.readCov L _) (A_cons2_2 arg4 arg5 arg6 x0 x1 x2)).trans ((load_skip scM0_2.view 2 3 _ _ _ _ (by decide) (by decide)).trans ?_)
  refine (congrArg (fun L => scM0_2.view.readCov L _) (A_cons2_1 arg4 arg5 arg6 x0 x1 x2)).trans ((load_skip scM0_2.view 1 3 _ _ _ _ (by decide) (by decide)).trans ?_)
  refine (congrArg (fun L => scM0_2.view.readCov L _) (A_cons2_0 arg4 arg5 arg6 x0 x1 x2)).trans ((load_skip scM0_2.view 0 3 _ _ _ _ (by decide) (by decide)).trans ?_)
  exact (congrArg (fun w => scM0_2.view.readCov [(⟨Rect.unit (s := S8x512x128) ![0, 0, 0] S8x512x128.size inb_S8x512x128_S8x512x128_0_0_0, w⟩ : View.Piece (Elt Ideal) S8x512x128 .f32)] _) fill_a).trans (load_fill scM0_2.view 3 _ _ _)

theorem A_load2_4 : (scM0_2.view.readCov (kernelRun0_A.sl.HS2_5 arg4 arg5 arg6 x0 x1 x2) (plane 4 inb_S8x512x128_S1x512x128_4_0_0).toLoadRect) = fun _ => (0 : EReal) := by
  refine (congrArg (fun L => scM0_2.view.readCov L _) (A_cons2_3 arg4 arg5 arg6 x0 x1 x2)).trans ((load_skip scM0_2.view 3 4 _ _ _ _ (by decide) (by decide)).trans ?_)
  refine (congrArg (fun L => scM0_2.view.readCov L _) (A_cons2_2 arg4 arg5 arg6 x0 x1 x2)).trans ((load_skip scM0_2.view 2 4 _ _ _ _ (by decide) (by decide)).trans ?_)
  refine (congrArg (fun L => scM0_2.view.readCov L _) (A_cons2_1 arg4 arg5 arg6 x0 x1 x2)).trans ((load_skip scM0_2.view 1 4 _ _ _ _ (by decide) (by decide)).trans ?_)
  refine (congrArg (fun L => scM0_2.view.readCov L _) (A_cons2_0 arg4 arg5 arg6 x0 x1 x2)).trans ((load_skip scM0_2.view 0 4 _ _ _ _ (by decide) (by decide)).trans ?_)
  exact (congrArg (fun w => scM0_2.view.readCov [(⟨Rect.unit (s := S8x512x128) ![0, 0, 0] S8x512x128.size inb_S8x512x128_S8x512x128_0_0_0, w⟩ : View.Piece (Elt Ideal) S8x512x128 .f32)] _) fill_a).trans (load_fill scM0_2.view 4 _ _ _)

theorem A_load2_5 : (scM0_2.view.readCov (kernelRun0_A.sl.HS2_6 arg4 arg5 arg6 x0 x1 x2) (plane 5 inb_S8x512x128_S1x512x128_5_0_0).toLoadRect) = fun _ => (0 : EReal) := by
  refine (congrArg (fun L => scM0_2.view.readCov L _) (A_cons2_4 arg4 arg5 arg6 x0 x1 x2)).trans ((load_skip scM0_2.view 4 5 _ _ _ _ (by decide) (by decide)).trans ?_)
  refine (congrArg (fun L => scM0_2.view.readCov L _) (A_cons2_3 arg4 arg5 arg6 x0 x1 x2)).trans ((load_skip scM0_2.view 3 5 _ _ _ _ (by decide) (by decide)).trans ?_)
  refine (congrArg (fun L => scM0_2.view.readCov L _) (A_cons2_2 arg4 arg5 arg6 x0 x1 x2)).trans ((load_skip scM0_2.view 2 5 _ _ _ _ (by decide) (by decide)).trans ?_)
  refine (congrArg (fun L => scM0_2.view.readCov L _) (A_cons2_1 arg4 arg5 arg6 x0 x1 x2)).trans ((load_skip scM0_2.view 1 5 _ _ _ _ (by decide) (by decide)).trans ?_)
  refine (congrArg (fun L => scM0_2.view.readCov L _) (A_cons2_0 arg4 arg5 arg6 x0 x1 x2)).trans ((load_skip scM0_2.view 0 5 _ _ _ _ (by decide) (by decide)).trans ?_)
  exact (congrArg (fun w => scM0_2.view.readCov [(⟨Rect.unit (s := S8x512x128) ![0, 0, 0] S8x512x128.size inb_S8x512x128_S8x512x128_0_0_0, w⟩ : View.Piece (Elt Ideal) S8x512x128 .f32)] _) fill_a).trans (load_fill scM0_2.view 5 _ _ _)

theorem A_load2_6 : (scM0_2.view.readCov (kernelRun0_A.sl.HS2_7 arg4 arg5 arg6 x0 x1 x2) (plane 6 inb_S8x512x128_S1x512x128_6_0_0).toLoadRect) = fun _ => (0 : EReal) := by
  refine (congrArg (fun L => scM0_2.view.readCov L _) (A_cons2_5 arg4 arg5 arg6 x0 x1 x2)).trans ((load_skip scM0_2.view 5 6 _ _ _ _ (by decide) (by decide)).trans ?_)
  refine (congrArg (fun L => scM0_2.view.readCov L _) (A_cons2_4 arg4 arg5 arg6 x0 x1 x2)).trans ((load_skip scM0_2.view 4 6 _ _ _ _ (by decide) (by decide)).trans ?_)
  refine (congrArg (fun L => scM0_2.view.readCov L _) (A_cons2_3 arg4 arg5 arg6 x0 x1 x2)).trans ((load_skip scM0_2.view 3 6 _ _ _ _ (by decide) (by decide)).trans ?_)
  refine (congrArg (fun L => scM0_2.view.readCov L _) (A_cons2_2 arg4 arg5 arg6 x0 x1 x2)).trans ((load_skip scM0_2.view 2 6 _ _ _ _ (by decide) (by decide)).trans ?_)
  refine (congrArg (fun L => scM0_2.view.readCov L _) (A_cons2_1 arg4 arg5 arg6 x0 x1 x2)).trans ((load_skip scM0_2.view 1 6 _ _ _ _ (by decide) (by decide)).trans ?_)
  refine (congrArg (fun L => scM0_2.view.readCov L _) (A_cons2_0 arg4 arg5 arg6 x0 x1 x2)).trans ((load_skip scM0_2.view 0 6 _ _ _ _ (by decide) (by decide)).trans ?_)
  exact (congrArg (fun w => scM0_2.view.readCov [(⟨Rect.unit (s := S8x512x128) ![0, 0, 0] S8x512x128.size inb_S8x512x128_S8x512x128_0_0_0, w⟩ : View.Piece (Elt Ideal) S8x512x128 .f32)] _) fill_a).trans (load_fill scM0_2.view 6 _ _ _)

theorem A_load2_7 : (scM0_2.view.readCov (kernelRun0_A.sl.HS2_8 arg4 arg5 arg6 x0 x1 x2) (plane 7 inb_S8x512x128_S1x512x128_7_0_0).toLoadRect) = fun _ => (0 : EReal) := by
  refine (congrArg (fun L => scM0_2.view.readCov L _) (A_cons2_6 arg4 arg5 arg6 x0 x1 x2)).trans ((load_skip scM0_2.view 6 7 _ _ _ _ (by decide) (by decide)).trans ?_)
  refine (congrArg (fun L => scM0_2.view.readCov L _) (A_cons2_5 arg4 arg5 arg6 x0 x1 x2)).trans ((load_skip scM0_2.view 5 7 _ _ _ _ (by decide) (by decide)).trans ?_)
  refine (congrArg (fun L => scM0_2.view.readCov L _) (A_cons2_4 arg4 arg5 arg6 x0 x1 x2)).trans ((load_skip scM0_2.view 4 7 _ _ _ _ (by decide) (by decide)).trans ?_)
  refine (congrArg (fun L => scM0_2.view.readCov L _) (A_cons2_3 arg4 arg5 arg6 x0 x1 x2)).trans ((load_skip scM0_2.view 3 7 _ _ _ _ (by decide) (by decide)).trans ?_)
  refine (congrArg (fun L => scM0_2.view.readCov L _) (A_cons2_2 arg4 arg5 arg6 x0 x1 x2)).trans ((load_skip scM0_2.view 2 7 _ _ _ _ (by decide) (by decide)).trans ?_)
  refine (congrArg (fun L => scM0_2.view.readCov L _) (A_cons2_1 arg4 arg5 arg6 x0 x1 x2)).trans ((load_skip scM0_2.view 1 7 _ _ _ _ (by decide) (by decide)).trans ?_)
  refine (congrArg (fun L => scM0_2.view.readCov L _) (A_cons2_0 arg4 arg5 arg6 x0 x1 x2)).trans ((load_skip scM0_2.view 0 7 _ _ _ _ (by decide) (by decide)).trans ?_)
  exact (congrArg (fun w => scM0_2.view.readCov [(⟨Rect.unit (s := S8x512x128) ![0, 0, 0] S8x512x128.size inb_S8x512x128_S8x512x128_0_0_0, w⟩ : View.Piece (Elt Ideal) S8x512x128 .f32)] _) fill_a).trans (load_fill scM0_2.view 7 _ _ _)

theorem A_put2_0 : (kernelRun0_A.sl.HS2_2 arg4 arg5 arg6 x0 x1 x2) =
    ⟨plane 0 inb_S8x512x128_S1x512x128_0_0_0, newA (masked (scores (qk x0 0) (qk x1 0))) (fun _ => (⊥ : EReal)) (fun _ => (0 : EReal)) (pair x2 0)⟩ :: (kernelRun0_A.sl.HS2_1) := by
  rw [A_cons2_0, load_qk arg4.view x0 0 0 rfl, load_qk arg5.view x1 0 0 rfl, A_load0_0 , A_load2_0 , load_pair arg6.view x2 0 0 rfl] <;> rfl

theorem A_put2_1 : (kernelRun0_A.sl.HS2_3 arg4 arg5 arg6 x0 x1 x2) =
    ⟨plane 1 inb_S8x512x128_S1x512x128_1_0_0, newA (masked (scores (qk x0 1) (qk x1 1))) (fun _ => (⊥ : EReal)) (fun _ => (0 : EReal)) (pair x2 0)⟩ :: (kernelRun0_A.sl.HS2_2 arg4 arg5 arg6 x0 x1 x2) := by
  rw [A_cons2_1, load_qk arg4.view x0 1 128 rfl, load_qk arg5.view x1 1 128 rfl, A_load0_1 arg4 arg5 x0 x1, A_load2_1 arg4 arg5 arg6 x0 x1 x2, load_pair arg6.view x2 0 0 rfl] <;> rfl

theorem A_put2_2 : (kernelRun0_A.sl.HS2_4 arg4 arg5 arg6 x0 x1 x2) =
    ⟨plane 2 inb_S8x512x128_S1x512x128_2_0_0, newA (masked (scores (qk x0 2) (qk x1 2))) (fun _ => (⊥ : EReal)) (fun _ => (0 : EReal)) (pair x2 1)⟩ :: (kernelRun0_A.sl.HS2_3 arg4 arg5 arg6 x0 x1 x2) := by
  rw [A_cons2_2, load_qk arg4.view x0 2 256 rfl, load_qk arg5.view x1 2 256 rfl, A_load0_2 arg4 arg5 x0 x1, A_load2_2 arg4 arg5 arg6 x0 x1 x2, load_pair arg6.view x2 1 128 rfl] <;> rfl

theorem A_put2_3 : (kernelRun0_A.sl.HS2_5 arg4 arg5 arg6 x0 x1 x2) =
    ⟨plane 3 inb_S8x512x128_S1x512x128_3_0_0, newA (masked (scores (qk x0 3) (qk x1 3))) (fun _ => (⊥ : EReal)) (fun _ => (0 : EReal)) (pair x2 1)⟩ :: (kernelRun0_A.sl.HS2_4 arg4 arg5 arg6 x0 x1 x2) := by
  rw [A_cons2_3, load_qk arg4.view x0 3 384 rfl, load_qk arg5.view x1 3 384 rfl, A_load0_3 arg4 arg5 x0 x1, A_load2_3 arg4 arg5 arg6 x0 x1 x2, load_pair arg6.view x2 1 128 rfl] <;> rfl

theorem A_put2_4 : (kernelRun0_A.sl.HS2_6 arg4 arg5 arg6 x0 x1 x2) =
    ⟨plane 4 inb_S8x512x128_S1x512x128_4_0_0, newA (masked (scores (qk x0 4) (qk x1 4))) (fun _ => (⊥ : EReal)) (fun _ => (0 : EReal)) (pair x2 2)⟩ :: (kernelRun0_A.sl.HS2_5 arg4 arg5 arg6 x0 x1 x2) := by
  rw [A_cons2_4, load_qk arg4.view x0 4 512 rfl, load_qk arg5.view x1 4 512 rfl, A_load0_4 arg4 arg5 x0 x1, A_load2_4 arg4 arg5 arg6 x0 x1 x2, load_pair arg6.view x2 2 256 rfl] <;> rfl

theorem A_put2_5 : (kernelRun0_A.sl.HS2_7 arg4 arg5 arg6 x0 x1 x2) =
    ⟨plane 5 inb_S8x512x128_S1x512x128_5_0_0, newA (masked (scores (qk x0 5) (qk x1 5))) (fun _ => (⊥ : EReal)) (fun _ => (0 : EReal)) (pair x2 2)⟩ :: (kernelRun0_A.sl.HS2_6 arg4 arg5 arg6 x0 x1 x2) := by
  rw [A_cons2_5, load_qk arg4.view x0 5 640 rfl, load_qk arg5.view x1 5 640 rfl, A_load0_5 arg4 arg5 x0 x1, A_load2_5 arg4 arg5 arg6 x0 x1 x2, load_pair arg6.view x2 2 256 rfl] <;> rfl

theorem A_put2_6 : (kernelRun0_A.sl.HS2_8 arg4 arg5 arg6 x0 x1 x2) =
    ⟨plane 6 inb_S8x512x128_S1x512x128_6_0_0, newA (masked (scores (qk x0 6) (qk x1 6))) (fun _ => (⊥ : EReal)) (fun _ => (0 : EReal)) (pair x2 3)⟩ :: (kernelRun0_A.sl.HS2_7 arg4 arg5 arg6 x0 x1 x2) := by
  rw [A_cons2_6, load_qk arg4.view x0 6 768 rfl, load_qk arg5.view x1 6 768 rfl, A_load0_6 arg4 arg5 x0 x1, A_load2_6 arg4 arg5 arg6 x0 x1 x2, load_pair arg6.view x2 3 384 rfl] <;> rfl

theorem A_put2_7 : (kernelRun0_A.sl.HS2_9 arg4 arg5 arg6 x0 x1 x2) =
    ⟨plane 7 inb_S8x512x128_S1x512x128_7_0_0, newA (masked (scores (qk x0 7) (qk x1 7))) (fun _ => (⊥ : EReal)) (fun _ => (0 : EReal)) (pair x2 3)⟩ :: (kernelRun0_A.sl.HS2_8 arg4 arg5 arg6 x0 x1 x2) := by
  rw [A_cons2_7, load_qk arg4.view x0 7 896 rfl, load_qk arg5.view x1 7 896 rfl, A_load0_7 arg4 arg5 x0 x1, A_load2_7 arg4 arg5 arg6 x0 x1 x2, load_pair arg6.view x2 3 384 rfl] <;> rfl

/-- The weighted sums stored by the first point, on the diagonal. -/
theorem A_newA : (kernelRun0_A.sl.HS2_9 arg4 arg5 arg6 x0 x1 x2)
    = planes (fun h => newA (sc True x0 x1 h) (fun _ => (⊥ : EReal)) (fun _ => (0 : EReal)) (pair x2 (half h))) ++ (kernelRun0_A.sl.HS2_1) := by
  rw [A_put2_7, A_put2_6, A_put2_5, A_put2_4, A_put2_3, A_put2_2, A_put2_1, A_put2_0]
  rfl

end Cert.KernelIdeal.Head

end
-- ==== Proof.Finish.lean ====
/- The block of the result the last point of a block of queries stores: each lane is a head's weighted sum over its sum
   of weights, times the gate. -/
module

public import proofs.«01_k».proof.Proof.Gen.KernelIdeal.Flash
public import proofs.«01_k».proof.Proof.Carry
public import proofs.«01_k».proof.Proof.Fresh

@[expose] public section

set_option maxRecDepth 16384

noncomputable section

namespace Cert.KernelIdeal.Head

open Idealize.ShloMosaic Cert.KernelIdeal.Gen

theorem slt_small (x : Fin 128) :
    IntOp.cmpi .slt (BitVec.ofNat 32 x.val) 64#32 = BitVec.ofBool (decide (x.val < 64)) := by
  have := x.isLt
  by_cases h : x.val < 64
  · rw [decide_eq_true h]
    exact (WordCmp.cmpi_slt_ofNat_eq_one_iff (w := 32) (a := x.val) (b := 64) (by omega) (by omega)).2 h
  · rw [decide_eq_false h]
    exact (WordCmp.cmpi_slt_ofNat_eq_zero_iff (w := 32) (a := x.val) (b := 64) (by omega) (by omega)).2 (by omega)

/-- What is stored for a pair of heads: the even head's quotient in the first 64 lanes, the odd head's in the others. -/
theorem merged_apply (a l a' l' : FVec Ideal S1x512x128 .f32) (g : Vec Ideal S1x512x128 .bf16) (r : Fin 512) (x : Fin 128) :
    k0_pay162 a l a' l' g (ix3 0 r x)
      = (if x.val < 64 then Ideal.div (a (ix3 0 r x)) (l (ix3 0 r x)) else Ideal.div (a' (ix3 0 r x)) (l' (ix3 0 r x)))
        * g (ix3 0 r x) := by
  pointwise [k0_pay162]
  rw [slt_small]
  by_cases h : x.val < 64
  · rw [if_pos h, decide_eq_true h]; rfl
  · rw [if_neg h, decide_eq_false h]; rfl

/-- A store of pair `j`'s window of the block. -/
abbrev span (n : ℕ) (h : ∀ a, (![0, 0, n] : Fin 3 → ℕ) a + S1x512x128.size a ≤ S1x512x512.size a) : Rect S1x512x512 :=
  Rect.unit ![0, 0, n] S1x512x128.size h

/-- The stores of the four windows, the newest first. -/
def spans (f : Fin 4 → FVec Ideal S1x512x128 .bf16) : List (View.Piece (Elt Ideal) S1x512x512 .bf16) :=
  [⟨span 384 inb_S1x512x512_S1x512x128_0_0_384, f 3⟩, ⟨span 256 inb_S1x512x512_S1x512x128_0_0_256, f 2⟩,
   ⟨span 128 inb_S1x512x512_S1x512x128_0_0_128, f 1⟩, ⟨span 0 inb_S1x512x512_S1x512x128_0_0_0, f 0⟩]

theorem read_span {sig : RefSig} {κ : Kind} {sp : Space} (v : View sig κ sp S1x512x512 .bf16) (g : v.ty.Contents (Elt Ideal))
    (n : ℕ) (hn) (w : FVec Ideal S1x512x128 .bf16) (L : List (View.Piece (Elt Ideal) S1x512x512 .bf16)) (r : Fin 512) (x : Fin 512) :
    v.read (Elt Ideal) (v.writes (Elt Ideal) g (⟨span n hn, w⟩ :: L)) (ix3 0 r x)
      = if h : n ≤ x.val ∧ x.val < n + 128 then w (ix3 0 r ⟨x.val - n, by omega⟩)
        else v.read (Elt Ideal) (v.writes (Elt Ideal) g L) (ix3 0 r x) := by
  by_cases h : n ≤ x.val ∧ x.val < n + 128
  · rw [dif_pos h]
    refine View.read_writes_cons_unit_of_mem v g hn w L (ix3 0 r x) (ix3 0 r ⟨x.val - n, by omega⟩) rfl fun a => ?_
    fin_cases a
    · rfl
    · show r.val = 0 + r.val; omega
    · show x.val = n + (x.val - n); omega
  · rw [dif_neg h]
    refine View.read_writes_cons_unit_of_not_mem v g hn w L (ix3 0 r x) rfl 2 ?_
    show x.val < n ∨ n + 128 ≤ x.val
    omega

theorem read_spans {sig : RefSig} {κ : Kind} {sp : Space} (v : View sig κ sp S1x512x512 .bf16) (g : v.ty.Contents (Elt Ideal))
    (f : Fin 4 → FVec Ideal S1x512x128 .bf16) (r x : Fin 512) :
    v.read (Elt Ideal) (v.writes (Elt Ideal) g (spans f)) (ix3 0 r x)
      = f ⟨x.val / 128, by have := x.isLt; omega⟩ (ix3 0 r ⟨x.val % 128, Nat.mod_lt _ (by decide)⟩) := by
  have hx := x.isLt
  have key : ∀ (j : Fin 4) (y : Fin 128), x.val = j.val * 128 + y.val →
      f j (ix3 0 r y) = f ⟨x.val / 128, by omega⟩ (ix3 0 r ⟨x.val % 128, Nat.mod_lt _ (by decide)⟩) := by
    intro j y e
    have hy := y.isLt
    have e1 : j = ⟨x.val / 128, by omega⟩ := Fin.ext (show j.val = x.val / 128 by omega)
    have e2 : y = ⟨x.val % 128, Nat.mod_lt _ (by decide)⟩ := Fin.ext (show y.val = x.val % 128 by omega)
    exact congrArg₂ (fun j y => f j (ix3 0 r y)) e1 e2
  rw [spans, read_span]
  split_ifs with h3
  · exact key 3 _ (show x.val = 3 * 128 + (x.val - 384) by omega)
  rw [read_span]
  split_ifs with h2
  · exact key 2 _ (show x.val = 2 * 128 + (x.val - 256) by omega)
  rw [read_span]
  split_ifs with h1
  · exact key 1 _ (show x.val = 1 * 128 + (x.val - 128) by omega)
  rw [read_span]
  split_ifs with h0
  · exact key 0 _ (show x.val = 0 * 128 + (x.val - 0) by omega)
  omega

/-- The first and the second head of a pair. -/
def even (j : Fin 4) : Fin 8 := ⟨2 * j.val, by have := j.isLt; omega⟩
def odd (j : Fin 4) : Fin 8 := ⟨2 * j.val + 1, by have := j.isLt; omega⟩

/-- The stores of the result, from the sums and the weighted sums of every head and the block of gates. -/
def outs (A L : Fin 8 → FVec Ideal S1x512x128 .f32) (g : Vec Ideal S1x512x512 .bf16) : List (View.Piece (Elt Ideal) S1x512x512 .bf16) :=
  spans fun j => k0_pay162 (A (even j)) (L (even j)) (A (odd j)) (L (odd j)) (pair g j)

/-- The head that lane `x` of the block belongs to. -/
def headOf (x : Fin 512) : Fin 8 := ⟨x.val / 64, by have := x.isLt; omega⟩
/-- Its lane in that head's planes. -/
def laneOf (x : Fin 512) : Fin 128 := ⟨x.val % 128, Nat.mod_lt _ (by decide)⟩

theorem read_outs {sig : RefSig} {κ : Kind} {sp : Space} (v : View sig κ sp S1x512x512 .bf16) (b : v.ty.Contents (Elt Ideal))
    (A L : Fin 8 → FVec Ideal S1x512x128 .f32) (g : Vec Ideal S1x512x512 .bf16) (r x : Fin 512) :
    v.read (Elt Ideal) (v.writes (Elt Ideal) b (outs A L g)) (ix3 0 r x)
      = Ideal.div (A (headOf x) (ix3 0 r (laneOf x))) (L (headOf x) (ix3 0 r (laneOf x))) * g (ix3 0 r x) := by
  have hx := x.isLt
  rw [outs, read_spans, merged_apply]
  have eg : pair g ⟨x.val / 128, by omega⟩ (ix3 0 r ⟨x.val % 128, Nat.mod_lt _ (by decide)⟩) = g (ix3 0 r x) := by
    refine congrArg (fun y => g (ix3 0 r y)) (Fin.ext ?_)
    show x.val / 128 * 128 + x.val % 128 = x.val
    omega
  rw [eg]
  refine congrArg (· * g (ix3 0 r x)) ?_
  by_cases h : x.val % 128 < 64
  · rw [if_pos h]
    have e : even ⟨x.val / 128, by omega⟩ = headOf x := Fin.ext (show 2 * (x.val / 128) = x.val / 64 by omega)
    rw [e]; rfl
  · rw [if_neg h]
    have e : odd ⟨x.val / 128, by omega⟩ = headOf x := Fin.ext (show 2 * (x.val / 128) + 1 = x.val / 64 by omega)
    rw [e]; rfl

theorem load_app {sig : RefSig} {κ : Kind} {sp : Space} (v : View sig κ sp S8x512x128 .f32) {H : List (View.Piece (Elt Ideal) S8x512x128 .f32)}
    {f : Fin 8 → FVec Ideal S1x512x128 .f32} (L : List (View.Piece (Elt Ideal) S8x512x128 .f32)) (e : H = planes f ++ L) (k : Fin 8) (hk) :
    v.readCov H (plane k.val hk).toLoadRect = f k := by
  rw [e]
  exact load_planes v f L k hk

theorem load_all {sig : RefSig} {κ : Kind} {sp : Space} (v : View sig κ sp S8x512x128 .f32) {H : List (View.Piece (Elt Ideal) S8x512x128 .f32)}
    {f : Fin 8 → FVec Ideal S1x512x128 .f32} (e : H = planes f) (k : Fin 8) (hk) : v.readCov H (plane k.val hk).toLoadRect = f k :=
  load_app v [] (e.trans (List.append_nil _).symm) k hk

variable (c : Dev nD) (arg4 arg5 : Memref sig .tc .vmem S1x512x1024 .bf16) (arg6 arg7 : Memref sig .tc .vmem S1x512x512 .bf16) (x0 x1 : Vec Ideal S1x512x1024 .bf16) (x2 x3 : Vec Ideal S1x512x512 .bf16)
  (xa0 : Buf (Elt Ideal) (c.tc.loc cc0_scratch0)) (xa1 : Buf (Elt Ideal) (c.tc.loc cc0_scratch1))
  (xa2 : Buf (Elt Ideal) (c.tc.loc cc0_scratch2))

theorem C_get1_0 : (scM0_1.view.readCov (kernelRun0_C.sl.HS1_8 c arg4 arg5 x0 x1 xa0 xa1) (plane 0 inb_S8x512x128_S1x512x128_0_0_0).toLoadRect) = (fun h => newL (sc True x0 x1 h) (pl (scM0_0.view.read (Elt Ideal) xa0) h) (pl (scM0_1.view.read (Elt Ideal) xa1) h)) 0 :=
  load_all scM0_1.view  (C_newL c arg4 arg5 x0 x1 xa0 xa1) 0 inb_S8x512x128_S1x512x128_0_0_0

theorem C_get1_1 : (scM0_1.view.readCov (kernelRun0_C.sl.HS1_8 c arg4 arg5 x0 x1 xa0 xa1) (plane 1 inb_S8x512x128_S1x512x128_1_0_0).toLoadRect) = (fun h => newL (sc True x0 x1 h) (pl (scM0_0.view.read (Elt Ideal) xa0) h) (pl (scM0_1.view.read (Elt Ideal) xa1) h)) 1 :=
  load_all scM0_1.view  (C_newL c arg4 arg5 x0 x1 xa0 xa1) 1 inb_S8x512x128_S1x512x128_1_0_0

theorem C_get1_2 : (scM0_1.view.readCov (kernelRun0_C.sl.HS1_8 c arg4 arg5 x0 x1 xa0 xa1) (plane 2 inb_S8x512x128_S1x512x128_2_0_0).toLoadRect) = (fun h => newL (sc True x0 x1 h) (pl (scM0_0.view.read (Elt Ideal) xa0) h) (pl (scM0_1.view.read (Elt Ideal) xa1) h)) 2 :=
  load_all scM0_1.view  (C_newL c arg4 arg5 x0 x1 xa0 xa1) 2 inb_S8x512x128_S1x512x128_2_0_0

theorem C_get1_3 : (scM0_1.view.readCov (kernelRun0_C.sl.HS1_8 c arg4 arg5 x0 x1 xa0 xa1) (plane 3 inb_S8x512x128_S1x512x128_3_0_0).toLoadRect) = (fun h => newL (sc True x0 x1 h) (pl (scM0_0.view.read (Elt Ideal) xa0) h) (pl (scM0_1.view.read (Elt Ideal) xa1) h)) 3 :=
  load_all scM0_1.view  (C_newL c arg4 arg5 x0 x1 xa0 xa1) 3 inb_S8x512x128_S1x512x128_3_0_0

theorem C_get1_4 : (scM0_1.view.readCov (kernelRun0_C.sl.HS1_8 c arg4 arg5 x0 x1 xa0 xa1) (plane 4 inb_S8x512x128_S1x512x128_4_0_0).toLoadRect) = (fun h => newL (sc True x0 x1 h) (pl (scM0_0.view.read (Elt Ideal) xa0) h) (pl (scM0_1.view.read (Elt Ideal) xa1) h)) 4 :=
  load_all scM0_1.view  (C_newL c arg4 arg5 x0 x1 xa0 xa1) 4 inb_S8x512x128_S1x512x128_4_0_0

theorem C_get1_5 : (scM0_1.view.readCov (kernelRun0_C.sl.HS1_8 c arg4 arg5 x0 x1 xa0 xa1) (plane 5 inb_S8x512x128_S1x512x128_5_0_0).toLoadRect) = (fun h => newL (sc True x0 x1 h) (pl (scM0_0.view.read (Elt Ideal) xa0) h) (pl (scM0_1.view.read (Elt Ideal) xa1) h)) 5 :=
  load_all scM0_1.view  (C_newL c arg4 arg5 x0 x1 xa0 xa1) 5 inb_S8x512x128_S1x512x128_5_0_0

theorem C_get1_6 : (scM0_1.view.readCov (kernelRun0_C.sl.HS1_8 c arg4 arg5 x0 x1 xa0 xa1) (plane 6 inb_S8x512x128_S1x512x128_6_0_0).toLoadRect) = (fun h => newL (sc True x0 x1 h) (pl (scM0_0.view.read (Elt Ideal) xa0) h) (pl (scM0_1.view.read (Elt Ideal) xa1) h)) 6 :=
  load_all scM0_1.view  (C_newL c arg4 arg5 x0 x1 xa0 xa1) 6 inb_S8x512x128_S1x512x128_6_0_0

theorem C_get1_7 : (scM0_1.view.readCov (kernelRun0_C.sl.HS1_8 c arg4 arg5 x0 x1 xa0 xa1) (plane 7 inb_S8x512x128_S1x512x128_7_0_0).toLoadRect) = (fun h => newL (sc True x0 x1 h) (pl (scM0_0.view.read (Elt Ideal) xa0) h) (pl (scM0_1.view.read (Elt Ideal) xa1) h)) 7 :=
  load_all scM0_1.view  (C_newL c arg4 arg5 x0 x1 xa0 xa1) 7 inb_S8x512x128_S1x512x128_7_0_0

theorem C_get2_0 : (scM0_2.view.readCov (kernelRun0_C.sl.HS2_8 c arg4 arg5 arg6 x0 x1 x2 xa0 xa2) (plane 0 inb_S8x512x128_S1x512x128_0_0_0).toLoadRect) = (fun h => newA (sc True x0 x1 h) (pl (scM0_0.view.read (Elt Ideal) xa0) h) (pl (scM0_2.view.read (Elt Ideal) xa2) h) (pair x2 (half h))) 0 :=
  load_all scM0_2.view  (C_newA c arg4 arg5 arg6 x0 x1 x2 xa0 xa2) 0 inb_S8x512x128_S1x512x128_0_0_0

theorem C_get2_1 : (scM0_2.view.readCov (kernelRun0_C.sl.HS2_8 c arg4 arg5 arg6 x0 x1 x2 xa0 xa2) (plane 1 inb_S8x512x128_S1x512x128_1_0_0).toLoadRect) = (fun h => newA (sc True x0 x1 h) (pl (scM0_0.view.read (Elt Ideal) xa0) h) (pl (scM0_2.view.read (Elt Ideal) xa2) h) (pair x2 (half h))) 1 :=
  load_all scM0_2.view  (C_newA c arg4 arg5 arg6 x0 x1 x2 xa0 xa2) 1 inb_S8x512x128_S1x512x128_1_0_0

theorem C_get2_2 : (scM0_2.view.readCov (kernelRun0_C.sl.HS2_8 c arg4 arg5 arg6 x0 x1 x2 xa0 xa2) (plane 2 inb_S8x512x128_S1x512x128_2_0_0).toLoadRect) = (fun h => newA (sc True x0 x1 h) (pl (scM0_0.view.read (Elt Ideal) xa0) h) (pl (scM0_2.view.read (Elt Ideal) xa2) h) (pair x2 (half h))) 2 :=
  load_all scM0_2.view  (C_newA c arg4 arg5 arg6 x0 x1 x2 xa0 xa2) 2 inb_S8x512x128_S1x512x128_2_0_0

theorem C_get2_3 : (scM0_2.view.readCov (kernelRun0_C.sl.HS2_8 c arg4 arg5 arg6 x0 x1 x2 xa0 xa2) (plane 3 inb_S8x512x128_S1x512x128_3_0_0).toLoadRect) = (fun h => newA (sc True x0 x1 h) (pl (scM0_0.view.read (Elt Ideal) xa0) h) (pl (scM0_2.view.read (Elt Ideal) xa2) h) (pair x2 (half h))) 3 :=
  load_all scM0_2.view  (C_newA c arg4 arg5 arg6 x0 x1 x2 xa0 xa2) 3 inb_S8x512x128_S1x512x128_3_0_0

theorem C_get2_4 : (scM0_2.view.readCov (kernelRun0_C.sl.HS2_8 c arg4 arg5 arg6 x0 x1 x2 xa0 xa2) (plane 4 inb_S8x512x128_S1x512x128_4_0_0).toLoadRect) = (fun h => newA (sc True x0 x1 h) (pl (scM0_0.view.read (Elt Ideal) xa0) h) (pl (scM0_2.view.read (Elt Ideal) xa2) h) (pair x2 (half h))) 4 :=
  load_all scM0_2.view  (C_newA c arg4 arg5 arg6 x0 x1 x2 xa0 xa2) 4 inb_S8x512x128_S1x512x128_4_0_0

theorem C_get2_5 : (scM0_2.view.readCov (kernelRun0_C.sl.HS2_8 c arg4 arg5 arg6 x0 x1 x2 xa0 xa2) (plane 5 inb_S8x512x128_S1x512x128_5_0_0).toLoadRect) = (fun h => newA (sc True x0 x1 h) (pl (scM0_0.view.read (Elt Ideal) xa0) h) (pl (scM0_2.view.read (Elt Ideal) xa2) h) (pair x2 (half h))) 5 :=
  load_all scM0_2.view  (C_newA c arg4 arg5 arg6 x0 x1 x2 xa0 xa2) 5 inb_S8x512x128_S1x512x128_5_0_0

theorem C_get2_6 : (scM0_2.view.readCov (kernelRun0_C.sl.HS2_8 c arg4 arg5 arg6 x0 x1 x2 xa0 xa2) (plane 6 inb_S8x512x128_S1x512x128_6_0_0).toLoadRect) = (fun h => newA (sc True x0 x1 h) (pl (scM0_0.view.read (Elt Ideal) xa0) h) (pl (scM0_2.view.read (Elt Ideal) xa2) h) (pair x2 (half h))) 6 :=
  load_all scM0_2.view  (C_newA c arg4 arg5 arg6 x0 x1 x2 xa0 xa2) 6 inb_S8x512x128_S1x512x128_6_0_0

theorem C_get2_7 : (scM0_2.view.readCov (kernelRun0_C.sl.HS2_8 c arg4 arg5 arg6 x0 x1 x2 xa0 xa2) (plane 7 inb_S8x512x128_S1x512x128_7_0_0).toLoadRect) = (fun h => newA (sc True x0 x1 h) (pl (scM0_0.view.read (Elt Ideal) xa0) h) (pl (scM0_2.view.read (Elt Ideal) xa2) h) (pair x2 (half h))) 7 :=
  load_all scM0_2.view  (C_newA c arg4 arg5 arg6 x0 x1 x2 xa0 xa2) 7 inb_S8x512x128_S1x512x128_7_0_0

theorem C_outs : kernelRun0_C.sl.HO4_4 c arg4 arg5 arg6 arg7 x0 x1 x2 x3 xa0 xa1 xa2 = outs (fun h => newA (sc True x0 x1 h) (pl (scM0_0.view.read (Elt Ideal) xa0) h) (pl (scM0_2.view.read (Elt Ideal) xa2) h) (pair x2 (half h))) (fun h => newL (sc True x0 x1 h) (pl (scM0_0.view.read (Elt Ideal) xa0) h) (pl (scM0_1.view.read (Elt Ideal) xa1) h)) x3 := by
  have e : kernelRun0_C.sl.HO4_4 c arg4 arg5 arg6 arg7 x0 x1 x2 x3 xa0 xa1 xa2 =
      [⟨span 384 inb_S1x512x512_S1x512x128_0_0_384, k0_pay162 (scM0_2.view.readCov (kernelRun0_C.sl.HS2_8 c arg4 arg5 arg6 x0 x1 x2 xa0 xa2) (plane 6 inb_S8x512x128_S1x512x128_6_0_0).toLoadRect) (scM0_1.view.readCov (kernelRun0_C.sl.HS1_8 c arg4 arg5 x0 x1 xa0 xa1) (plane 6 inb_S8x512x128_S1x512x128_6_0_0).toLoadRect) (scM0_2.view.readCov (kernelRun0_C.sl.HS2_8 c arg4 arg5 arg6 x0 x1 x2 xa0 xa2) (plane 7 inb_S8x512x128_S1x512x128_7_0_0).toLoadRect) (scM0_1.view.readCov (kernelRun0_C.sl.HS1_8 c arg4 arg5 x0 x1 xa0 xa1) (plane 7 inb_S8x512x128_S1x512x128_7_0_0).toLoadRect) (View.readAt (Elt Ideal) arg7.view (Rect.unit (s := S1x512x512) ![0, 0, 384] S1x512x128.size inb_S1x512x512_S1x512x128_0_0_384).toLoadRect (arg7.view.rep x3))⟩,
      ⟨span 256 inb_S1x512x512_S1x512x128_0_0_256, k0_pay162 (scM0_2.view.readCov (kernelRun0_C.sl.HS2_8 c arg4 arg5 arg6 x0 x1 x2 xa0 xa2) (plane 4 inb_S8x512x128_S1x512x128_4_0_0).toLoadRect) (scM0_1.view.readCov (kernelRun0_C.sl.HS1_8 c arg4 arg5 x0 x1 xa0 xa1) (plane 4 inb_S8x512x128_S1x512x128_4_0_0).toLoadRect) (scM0_2.view.readCov (kernelRun0_C.sl.HS2_8 c arg4 arg5 arg6 x0 x1 x2 xa0 xa2) (plane 5 inb_S8x512x128_S1x512x128_5_0_0).toLoadRect) (scM0_1.view.readCov (kernelRun0_C.sl.HS1_8 c arg4 arg5 x0 x1 xa0 xa1) (plane 5 inb_S8x512x128_S1x512x128_5_0_0).toLoadRect) (View.readAt (Elt Ideal) arg7.view (Rect.unit (s := S1x512x512) ![0, 0, 256] S1x512x128.size inb_S1x512x512_S1x512x128_0_0_256).toLoadRect (arg7.view.rep x3))⟩,
      ⟨span 128 inb_S1x512x512_S1x512x128_0_0_128, k0_pay162 (scM0_2.view.readCov (kernelRun0_C.sl.HS2_8 c arg4 arg5 arg6 x0 x1 x2 xa0 xa2) (plane 2 inb_S8x512x128_S1x512x128_2_0_0).toLoadRect) (scM0_1.view.readCov (kernelRun0_C.sl.HS1_8 c arg4 arg5 x0 x1 xa0 xa1) (plane 2 inb_S8x512x128_S1x512x128_2_0_0).toLoadRect) (scM0_2.view.readCov (kernelRun0_C.sl.HS2_8 c arg4 arg5 arg6 x0 x1 x2 xa0 xa2) (plane 3 inb_S8x512x128_S1x512x128_3_0_0).toLoadRect) (scM0_1.view.readCov (kernelRun0_C.sl.HS1_8 c arg4 arg5 x0 x1 xa0 xa1) (plane 3 inb_S8x512x128_S1x512x128_3_0_0).toLoadRect) (View.readAt (Elt Ideal) arg7.view (Rect.unit (s := S1x512x512) ![0, 0, 128] S1x512x128.size inb_S1x512x512_S1x512x128_0_0_128).toLoadRect (arg7.view.rep x3))⟩,
      ⟨span 0 inb_S1x512x512_S1x512x128_0_0_0, k0_pay162 (scM0_2.view.readCov (kernelRun0_C.sl.HS2_8 c arg4 arg5 arg6 x0 x1 x2 xa0 xa2) (plane 0 inb_S8x512x128_S1x512x128_0_0_0).toLoadRect) (scM0_1.view.readCov (kernelRun0_C.sl.HS1_8 c arg4 arg5 x0 x1 xa0 xa1) (plane 0 inb_S8x512x128_S1x512x128_0_0_0).toLoadRect) (scM0_2.view.readCov (kernelRun0_C.sl.HS2_8 c arg4 arg5 arg6 x0 x1 x2 xa0 xa2) (plane 1 inb_S8x512x128_S1x512x128_1_0_0).toLoadRect) (scM0_1.view.readCov (kernelRun0_C.sl.HS1_8 c arg4 arg5 x0 x1 xa0 xa1) (plane 1 inb_S8x512x128_S1x512x128_1_0_0).toLoadRect) (View.readAt (Elt Ideal) arg7.view (Rect.unit (s := S1x512x512) ![0, 0, 0] S1x512x128.size inb_S1x512x512_S1x512x128_0_0_0).toLoadRect (arg7.view.rep x3))⟩] := rfl
  rw [e, C_get1_0 c arg4 arg5 x0 x1 xa0 xa1, C_get2_0 c arg4 arg5 arg6 x0 x1 x2 xa0 xa2, C_get1_1 c arg4 arg5 x0 x1 xa0 xa1, C_get2_1 c arg4 arg5 arg6 x0 x1 x2 xa0 xa2, C_get1_2 c arg4 arg5 x0 x1 xa0 xa1, C_get2_2 c arg4 arg5 arg6 x0 x1 x2 xa0 xa2, C_get1_3 c arg4 arg5 x0 x1 xa0 xa1, C_get2_3 c arg4 arg5 arg6 x0 x1 x2 xa0 xa2, C_get1_4 c arg4 arg5 x0 x1 xa0 xa1, C_get2_4 c arg4 arg5 arg6 x0 x1 x2 xa0 xa2, C_get1_5 c arg4 arg5 x0 x1 xa0 xa1, C_get2_5 c arg4 arg5 arg6 x0 x1 x2 xa0 xa2, C_get1_6 c arg4 arg5 x0 x1 xa0 xa1, C_get2_6 c arg4 arg5 arg6 x0 x1 x2 xa0 xa2, C_get1_7 c arg4 arg5 x0 x1 xa0 xa1, C_get2_7 c arg4 arg5 arg6 x0 x1 x2 xa0 xa2, load_pair arg7.view x3 0 0 rfl, load_pair arg7.view x3 1 128 rfl, load_pair arg7.view x3 2 256 rfl, load_pair arg7.view x3 3 384 rfl]
  rfl

theorem A_get1_0 : (scM0_1.view.readCov (kernelRun0_A.sl.HS1_9 arg4 arg5 x0 x1) (plane 0 inb_S8x512x128_S1x512x128_0_0_0).toLoadRect) = (fun h => newL (sc True x0 x1 h) (fun _ => (⊥ : EReal)) (fun _ => (0 : EReal))) 0 :=
  load_app scM0_1.view kernelRun0_A.sl.HS1_1 (A_newL arg4 arg5 x0 x1) 0 inb_S8x512x128_S1x512x128_0_0_0

theorem A_get1_1 : (scM0_1.view.readCov (kernelRun0_A.sl.HS1_9 arg4 arg5 x0 x1) (plane 1 inb_S8x512x128_S1x512x128_1_0_0).toLoadRect) = (fun h => newL (sc True x0 x1 h) (fun _ => (⊥ : EReal)) (fun _ => (0 : EReal))) 1 :=
  load_app scM0_1.view kernelRun0_A.sl.HS1_1 (A_newL arg4 arg5 x0 x1) 1 inb_S8x512x128_S1x512x128_1_0_0

theorem A_get1_2 : (scM0_1.view.readCov (kernelRun0_A.sl.HS1_9 arg4 arg5 x0 x1) (plane 2 inb_S8x512x128_S1x512x128_2_0_0).toLoadRect) = (fun h => newL (sc True x0 x1 h) (fun _ => (⊥ : EReal)) (fun _ => (0 : EReal))) 2 :=
  load_app scM0_1.view kernelRun0_A.sl.HS1_1 (A_newL arg4 arg5 x0 x1) 2 inb_S8x512x128_S1x512x128_2_0_0

theorem A_get1_3 : (scM0_1.view.readCov (kernelRun0_A.sl.HS1_9 arg4 arg5 x0 x1) (plane 3 inb_S8x512x128_S1x512x128_3_0_0).toLoadRect) = (fun h => newL (sc True x0 x1 h) (fun _ => (⊥ : EReal)) (fun _ => (0 : EReal))) 3 :=
  load_app scM0_1.view kernelRun0_A.sl.HS1_1 (A_newL arg4 arg5 x0 x1) 3 inb_S8x512x128_S1x512x128_3_0_0

theorem A_get1_4 : (scM0_1.view.readCov (kernelRun0_A.sl.HS1_9 arg4 arg5 x0 x1) (plane 4 inb_S8x512x128_S1x512x128_4_0_0).toLoadRect) = (fun h => newL (sc True x0 x1 h) (fun _ => (⊥ : EReal)) (fun _ => (0 : EReal))) 4 :=
  load_app scM0_1.view kernelRun0_A.sl.HS1_1 (A_newL arg4 arg5 x0 x1) 4 inb_S8x512x128_S1x512x128_4_0_0

theorem A_get1_5 : (scM0_1.view.readCov (kernelRun0_A.sl.HS1_9 arg4 arg5 x0 x1) (plane 5 inb_S8x512x128_S1x512x128_5_0_0).toLoadRect) = (fun h => newL (sc True x0 x1 h) (fun _ => (⊥ : EReal)) (fun _ => (0 : EReal))) 5 :=
  load_app scM0_1.view kernelRun0_A.sl.HS1_1 (A_newL arg4 arg5 x0 x1) 5 inb_S8x512x128_S1x512x128_5_0_0

theorem A_get1_6 : (scM0_1.view.readCov (kernelRun0_A.sl.HS1_9 arg4 arg5 x0 x1) (plane 6 inb_S8x512x128_S1x512x128_6_0_0).toLoadRect) = (fun h => newL (sc True x0 x1 h) (fun _ => (⊥ : EReal)) (fun _ => (0 : EReal))) 6 :=
  load_app scM0_1.view kernelRun0_A.sl.HS1_1 (A_newL arg4 arg5 x0 x1) 6 inb_S8x512x128_S1x512x128_6_0_0

theorem A_get1_7 : (scM0_1.view.readCov (kernelRun0_A.sl.HS1_9 arg4 arg5 x0 x1) (plane 7 inb_S8x512x128_S1x512x128_7_0_0).toLoadRect) = (fun h => newL (sc True x0 x1 h) (fun _ => (⊥ : EReal)) (fun _ => (0 : EReal))) 7 :=
  load_app scM0_1.view kernelRun0_A.sl.HS1_1 (A_newL arg4 arg5 x0 x1) 7 inb_S8x512x128_S1x512x128_7_0_0

theorem A_get2_0 : (scM0_2.view.readCov (kernelRun0_A.sl.HS2_9 arg4 arg5 arg6 x0 x1 x2) (plane 0 inb_S8x512x128_S1x512x128_0_0_0).toLoadRect) = (fun h => newA (sc True x0 x1 h) (fun _ => (⊥ : EReal)) (fun _ => (0 : EReal)) (pair x2 (half h))) 0 :=
  load_app scM0_2.view kernelRun0_A.sl.HS2_1 (A_newA arg4 arg5 arg6 x0 x1 x2) 0 inb_S8x512x128_S1x512x128_0_0_0

theorem A_get2_1 : (scM0_2.view.readCov (kernelRun0_A.sl.HS2_9 arg4 arg5 arg6 x0 x1 x2) (plane 1 inb_S8x512x128_S1x512x128_1_0_0).toLoadRect) = (fun h => newA (sc True x0 x1 h) (fun _ => (⊥ : EReal)) (fun _ => (0 : EReal)) (pair x2 (half h))) 1 :=
  load_app scM0_2.view kernelRun0_A.sl.HS2_1 (A_newA arg4 arg5 arg6 x0 x1 x2) 1 inb_S8x512x128_S1x512x128_1_0_0

theorem A_get2_2 : (scM0_2.view.readCov (kernelRun0_A.sl.HS2_9 arg4 arg5 arg6 x0 x1 x2) (plane 2 inb_S8x512x128_S1x512x128_2_0_0).toLoadRect) = (fun h => newA (sc True x0 x1 h) (fun _ => (⊥ : EReal)) (fun _ => (0 : EReal)) (pair x2 (half h))) 2 :=
  load_app scM0_2.view kernelRun0_A.sl.HS2_1 (A_newA arg4 arg5 arg6 x0 x1 x2) 2 inb_S8x512x128_S1x512x128_2_0_0

theorem A_get2_3 : (scM0_2.view.readCov (kernelRun0_A.sl.HS2_9 arg4 arg5 arg6 x0 x1 x2) (plane 3 inb_S8x512x128_S1x512x128_3_0_0).toLoadRect) = (fun h => newA (sc True x0 x1 h) (fun _ => (⊥ : EReal)) (fun _ => (0 : EReal)) (pair x2 (half h))) 3 :=
  load_app scM0_2.view kernelRun0_A.sl.HS2_1 (A_newA arg4 arg5 arg6 x0 x1 x2) 3 inb_S8x512x128_S1x512x128_3_0_0

theorem A_get2_4 : (scM0_2.view.readCov (kernelRun0_A.sl.HS2_9 arg4 arg5 arg6 x0 x1 x2) (plane 4 inb_S8x512x128_S1x512x128_4_0_0).toLoadRect) = (fun h => newA (sc True x0 x1 h) (fun _ => (⊥ : EReal)) (fun _ => (0 : EReal)) (pair x2 (half h))) 4 :=
  load_app scM0_2.view kernelRun0_A.sl.HS2_1 (A_newA arg4 arg5 arg6 x0 x1 x2) 4 inb_S8x512x128_S1x512x128_4_0_0

theorem A_get2_5 : (scM0_2.view.readCov (kernelRun0_A.sl.HS2_9 arg4 arg5 arg6 x0 x1 x2) (plane 5 inb_S8x512x128_S1x512x128_5_0_0).toLoadRect) = (fun h => newA (sc True x0 x1 h) (fun _ => (⊥ : EReal)) (fun _ => (0 : EReal)) (pair x2 (half h))) 5 :=
  load_app scM0_2.view kernelRun0_A.sl.HS2_1 (A_newA arg4 arg5 arg6 x0 x1 x2) 5 inb_S8x512x128_S1x512x128_5_0_0

theorem A_get2_6 : (scM0_2.view.readCov (kernelRun0_A.sl.HS2_9 arg4 arg5 arg6 x0 x1 x2) (plane 6 inb_S8x512x128_S1x512x128_6_0_0).toLoadRect) = (fun h => newA (sc True x0 x1 h) (fun _ => (⊥ : EReal)) (fun _ => (0 : EReal)) (pair x2 (half h))) 6 :=
  load_app scM0_2.view kernelRun0_A.sl.HS2_1 (A_newA arg4 arg5 arg6 x0 x1 x2) 6 inb_S8x512x128_S1x512x128_6_0_0

theorem A_get2_7 : (scM0_2.view.readCov (kernelRun0_A.sl.HS2_9 arg4 arg5 arg6 x0 x1 x2) (plane 7 inb_S8x512x128_S1x512x128_7_0_0).toLoadRect) = (fun h => newA (sc True x0 x1 h) (fun _ => (⊥ : EReal)) (fun _ => (0 : EReal)) (pair x2 (half h))) 7 :=
  load_app scM0_2.view kernelRun0_A.sl.HS2_1 (A_newA arg4 arg5 arg6 x0 x1 x2) 7 inb_S8x512x128_S1x512x128_7_0_0

theorem A_outs : kernelRun0_A.sl.HO4_4 arg4 arg5 arg6 arg7 x0 x1 x2 x3 = outs (fun h => newA (sc True x0 x1 h) (fun _ => (⊥ : EReal)) (fun _ => (0 : EReal)) (pair x2 (half h))) (fun h => newL (sc True x0 x1 h) (fun _ => (⊥ : EReal)) (fun _ => (0 : EReal))) x3 := by
  have e : kernelRun0_A.sl.HO4_4 arg4 arg5 arg6 arg7 x0 x1 x2 x3 =
      [⟨span 384 inb_S1x512x512_S1x512x128_0_0_384, k0_pay162 (scM0_2.view.readCov (kernelRun0_A.sl.HS2_9 arg4 arg5 arg6 x0 x1 x2) (plane 6 inb_S8x512x128_S1x512x128_6_0_0).toLoadRect) (scM0_1.view.readCov (kernelRun0_A.sl.HS1_9 arg4 arg5 x0 x1) (plane 6 inb_S8x512x128_S1x512x128_6_0_0).toLoadRect) (scM0_2.view.readCov (kernelRun0_A.sl.HS2_9 arg4 arg5 arg6 x0 x1 x2) (plane 7 inb_S8x512x128_S1x512x128_7_0_0).toLoadRect) (scM0_1.view.readCov (kernelRun0_A.sl.HS1_9 arg4 arg5 x0 x1) (plane 7 inb_S8x512x128_S1x512x128_7_0_0).toLoadRect) (View.readAt (Elt Ideal) arg7.view (Rect.unit (s := S1x512x512) ![0, 0, 384] S1x512x128.size inb_S1x512x512_S1x512x128_0_0_384).toLoadRect (arg7.view.rep x3))⟩,
      ⟨span 256 inb_S1x512x512_S1x512x128_0_0_256, k0_pay162 (scM0_2.view.readCov (kernelRun0_A.sl.HS2_9 arg4 arg5 arg6 x0 x1 x2) (plane 4 inb_S8x512x128_S1x512x128_4_0_0).toLoadRect) (scM0_1.view.readCov (kernelRun0_A.sl.HS1_9 arg4 arg5 x0 x1) (plane 4 inb_S8x512x128_S1x512x128_4_0_0).toLoadRect) (scM0_2.view.readCov (kernelRun0_A.sl.HS2_9 arg4 arg5 arg6 x0 x1 x2) (plane 5 inb_S8x512x128_S1x512x128_5_0_0).toLoadRect) (scM0_1.view.readCov (kernelRun0_A.sl.HS1_9 arg4 arg5 x0 x1) (plane 5 inb_S8x512x128_S1x512x128_5_0_0).toLoadRect) (View.readAt (Elt Ideal) arg7.view (Rect.unit (s := S1x512x512) ![0, 0, 256] S1x512x128.size inb_S1x512x512_S1x512x128_0_0_256).toLoadRect (arg7.view.rep x3))⟩,
      ⟨span 128 inb_S1x512x512_S1x512x128_0_0_128, k0_pay162 (scM0_2.view.readCov (kernelRun0_A.sl.HS2_9 arg4 arg5 arg6 x0 x1 x2) (plane 2 inb_S8x512x128_S1x512x128_2_0_0).toLoadRect) (scM0_1.view.readCov (kernelRun0_A.sl.HS1_9 arg4 arg5 x0 x1) (plane 2 inb_S8x512x128_S1x512x128_2_0_0).toLoadRect) (scM0_2.view.readCov (kernelRun0_A.sl.HS2_9 arg4 arg5 arg6 x0 x1 x2) (plane 3 inb_S8x512x128_S1x512x128_3_0_0).toLoadRect) (scM0_1.view.readCov (kernelRun0_A.sl.HS1_9 arg4 arg5 x0 x1) (plane 3 inb_S8x512x128_S1x512x128_3_0_0).toLoadRect) (View.readAt (Elt Ideal) arg7.view (Rect.unit (s := S1x512x512) ![0, 0, 128] S1x512x128.size inb_S1x512x512_S1x512x128_0_0_128).toLoadRect (arg7.view.rep x3))⟩,
      ⟨span 0 inb_S1x512x512_S1x512x128_0_0_0, k0_pay162 (scM0_2.view.readCov (kernelRun0_A.sl.HS2_9 arg4 arg5 arg6 x0 x1 x2) (plane 0 inb_S8x512x128_S1x512x128_0_0_0).toLoadRect) (scM0_1.view.readCov (kernelRun0_A.sl.HS1_9 arg4 arg5 x0 x1) (plane 0 inb_S8x512x128_S1x512x128_0_0_0).toLoadRect) (scM0_2.view.readCov (kernelRun0_A.sl.HS2_9 arg4 arg5 arg6 x0 x1 x2) (plane 1 inb_S8x512x128_S1x512x128_1_0_0).toLoadRect) (scM0_1.view.readCov (kernelRun0_A.sl.HS1_9 arg4 arg5 x0 x1) (plane 1 inb_S8x512x128_S1x512x128_1_0_0).toLoadRect) (View.readAt (Elt Ideal) arg7.view (Rect.unit (s := S1x512x512) ![0, 0, 0] S1x512x128.size inb_S1x512x512_S1x512x128_0_0_0).toLoadRect (arg7.view.rep x3))⟩] := rfl
  rw [e, A_get1_0 arg4 arg5 x0 x1, A_get2_0 arg4 arg5 arg6 x0 x1 x2, A_get1_1 arg4 arg5 x0 x1, A_get2_1 arg4 arg5 arg6 x0 x1 x2, A_get1_2 arg4 arg5 x0 x1, A_get2_2 arg4 arg5 arg6 x0 x1 x2, A_get1_3 arg4 arg5 x0 x1, A_get2_3 arg4 arg5 arg6 x0 x1 x2, A_get1_4 arg4 arg5 x0 x1, A_get2_4 arg4 arg5 arg6 x0 x1 x2, A_get1_5 arg4 arg5 x0 x1, A_get2_5 arg4 arg5 arg6 x0 x1 x2, A_get1_6 arg4 arg5 x0 x1, A_get2_6 arg4 arg5 arg6 x0 x1 x2, A_get1_7 arg4 arg5 x0 x1, A_get2_7 arg4 arg5 arg6 x0 x1 x2, load_pair arg7.view x3 0 0 rfl, load_pair arg7.view x3 1 128 rfl, load_pair arg7.view x3 2 256 rfl, load_pair arg7.view x3 3 384 rfl]
  rfl

end Cert.KernelIdeal.Head

end
-- ==== Proof.Reads.lean ====
/- What each of the four kinds of point leaves in the scratch arrays and, on the diagonal, in the result's block. -/
module

public import proofs.«01_k».proof.Proof.Finish

@[expose] public section

set_option maxRecDepth 16384

noncomputable section

namespace Cert.KernelIdeal.Head

open Idealize.ShloMosaic Cert.KernelIdeal.Gen

theorem read_of {sig : RefSig} {κ : Kind} {sp : Space} (v : View sig κ sp S8x512x128 .f32) (g : v.ty.Contents (Elt Ideal))
    {H : List (View.Piece (Elt Ideal) S8x512x128 .f32)} {f : Fin 8 → FVec Ideal S1x512x128 .f32}
    (L : List (View.Piece (Elt Ideal) S8x512x128 .f32)) (e : H = planes f ++ L) (h : Fin 8) (r : Fin 512) (x : Fin 128) :
    v.read (Elt Ideal) (v.writes (Elt Ideal) g H) (ix3 h r x) = f h (ix3 0 r x) := by
  rw [e]
  exact read_planes v g f L h r x

theorem A_read0 (c : Dev nD) (i a4 h4 a5 h5 a6 h6 a7 h7 a8 h8 T0 T1 x0 x1 x2 x3 q0 q1 q2) (h : Fin 8) (r : Fin 512) (x : Fin 128) :
    scM0_0.view.read (Elt Ideal) (kernelRun0_A c i a4 h4 a5 h5 a6 h6 a7 h7 a8 h8 T0 T1 x0 x1 x2 x3 q0 q1 q2).2.1 (ix3 h r x) = newM (sc True x0 x1 h) (fun _ => (⊥ : EReal)) (ix3 0 r x) := by
  have e : (kernelRun0_A c i a4 h4 a5 h5 a6 h6 a7 h7 a8 h8 T0 T1 x0 x1 x2 x3 q0 q1 q2).2.1 = (View.whole cc0_scratch0).writes (Elt Ideal) (View.whole cc0_scratch0).junk (kernelRun0_A.sl.HS0_9 a4 a5 x0 x1) := by
    unfold kernelRun0_A
    dsimp only
  rw [e]
  exact read_of (View.whole cc0_scratch0) _ _ ((A_newM a4 a5 x0 x1)) h r x

theorem A_read1 (c : Dev nD) (i a4 h4 a5 h5 a6 h6 a7 h7 a8 h8 T0 T1 x0 x1 x2 x3 q0 q1 q2) (h : Fin 8) (r : Fin 512) (x : Fin 128) :
    scM0_1.view.read (Elt Ideal) (kernelRun0_A c i a4 h4 a5 h5 a6 h6 a7 h7 a8 h8 T0 T1 x0 x1 x2 x3 q0 q1 q2).2.2.1 (ix3 h r x) = newL (sc True x0 x1 h) (fun _ => (⊥ : EReal)) (fun _ => (0 : EReal)) (ix3 0 r x) := by
  have e : (kernelRun0_A c i a4 h4 a5 h5 a6 h6 a7 h7 a8 h8 T0 T1 x0 x1 x2 x3 q0 q1 q2).2.2.1 = (View.whole cc0_scratch1).writes (Elt Ideal) (View.whole cc0_scratch1).junk (kernelRun0_A.sl.HS1_9 a4 a5 x0 x1) := by
    unfold kernelRun0_A
    dsimp only
  rw [e]
  exact read_of (View.whole cc0_scratch1) _ _ ((A_newL a4 a5 x0 x1)) h r x

theorem A_read2 (c : Dev nD) (i a4 h4 a5 h5 a6 h6 a7 h7 a8 h8 T0 T1 x0 x1 x2 x3 q0 q1 q2) (h : Fin 8) (r : Fin 512) (x : Fin 128) :
    scM0_2.view.read (Elt Ideal) (kernelRun0_A c i a4 h4 a5 h5 a6 h6 a7 h7 a8 h8 T0 T1 x0 x1 x2 x3 q0 q1 q2).2.2.2.1 (ix3 h r x) = newA (sc True x0 x1 h) (fun _ => (⊥ : EReal)) (fun _ => (0 : EReal)) (pair x2 (half h)) (ix3 0 r x) := by
  have e : (kernelRun0_A c i a4 h4 a5 h5 a6 h6 a7 h7 a8 h8 T0 T1 x0 x1 x2 x3 q0 q1 q2).2.2.2.1 = (View.whole cc0_scratch2).writes (Elt Ideal) (View.whole cc0_scratch2).junk (kernelRun0_A.sl.HS2_9 a4 a5 a6 x0 x1 x2) := by
    unfold kernelRun0_A
    dsimp only
  rw [e]
  exact read_of (View.whole cc0_scratch2) _ _ ((A_newA a4 a5 a6 x0 x1 x2)) h r x

theorem A_block (c : Dev nD) (i a4 h4 a5 h5 a6 h6 a7 h7 a8 h8 T0 T1 x0 x1 x2 x3 q0 q1 q2) (r x : Fin 512) :
    out0_A_4 c i a4 h4 a5 h5 a6 h6 a7 h7 a8 h8 T0 T1 x0 x1 x2 x3 q0 q1 q2 (ix3 0 r x)
      = Ideal.div (newA (sc True x0 x1 (headOf x)) (fun _ => (⊥ : EReal)) (fun _ => (0 : EReal)) (pair x2 (half (headOf x))) (ix3 0 r (laneOf x))) (newL (sc True x0 x1 (headOf x)) (fun _ => (⊥ : EReal)) (fun _ => (0 : EReal)) (ix3 0 r (laneOf x))) * x3 (ix3 0 r x) := by
  have e : out0_A_4 c i a4 h4 a5 h5 a6 h6 a7 h7 a8 h8 T0 T1 x0 x1 x2 x3 q0 q1 q2 = VO0_4.read (Elt Ideal) (VO0_4.writes (Elt Ideal) VO0_4.junk
      (kernelRun0_A.sl.HO4_4 a4 a5 a6 a7 x0 x1 x2 x3)) := rfl
  rw [e, A_outs, read_outs]

theorem B_read0 (c : Dev nD) (i a4 h4 a5 h5 a6 h6 a7 h7 a8 h8 T0 T1 x0 x1 x2 x3 q0 q1 q2) (h : Fin 8) (r : Fin 512) (x : Fin 128) :
    scM0_0.view.read (Elt Ideal) (kernelRun0_B c i a4 h4 a5 h5 a6 h6 a7 h7 a8 h8 T0 T1 x0 x1 x2 x3 q0 q1 q2).1 (ix3 h r x) = newM (sc False x0 x1 h) (fun _ => (⊥ : EReal)) (ix3 0 r x) := by
  have e : (kernelRun0_B c i a4 h4 a5 h5 a6 h6 a7 h7 a8 h8 T0 T1 x0 x1 x2 x3 q0 q1 q2).1 = (View.whole cc0_scratch0).writes (Elt Ideal) (View.whole cc0_scratch0).junk (kernelRun0_B.sl.HS0_9 a4 a5 x0 x1) := by
    unfold kernelRun0_B
    dsimp only
  rw [e]
  exact read_of (View.whole cc0_scratch0) _ _ ((B_newM a4 a5 x0 x1)) h r x

theorem B_read1 (c : Dev nD) (i a4 h4 a5 h5 a6 h6 a7 h7 a8 h8 T0 T1 x0 x1 x2 x3 q0 q1 q2) (h : Fin 8) (r : Fin 512) (x : Fin 128) :
    scM0_1.view.read (Elt Ideal) (kernelRun0_B c i a4 h4 a5 h5 a6 h6 a7 h7 a8 h8 T0 T1 x0 x1 x2 x3 q0 q1 q2).2.1 (ix3 h r x) = newL (sc False x0 x1 h) (fun _ => (⊥ : EReal)) (fun _ => (0 : EReal)) (ix3 0 r x) := by
  have e : (kernelRun0_B c i a4 h4 a5 h5 a6 h6 a7 h7 a8 h8 T0 T1 x0 x1 x2 x3 q0 q1 q2).2.1 = (View.whole cc0_scratch1).writes (Elt Ideal) (View.whole cc0_scratch1).junk (kernelRun0_B.sl.HS1_9 a4 a5 x0 x1) := by
    unfold kernelRun0_B
    dsimp only
  rw [e]
  exact read_of (View.whole cc0_scratch1) _ _ ((B_newL a4 a5 x0 x1)) h r x

theorem B_read2 (c : Dev nD) (i a4 h4 a5 h5 a6 h6 a7 h7 a8 h8 T0 T1 x0 x1 x2 x3 q0 q1 q2) (h : Fin 8) (r : Fin 512) (x : Fin 128) :
    scM0_2.view.read (Elt Ideal) (kernelRun0_B c i a4 h4 a5 h5 a6 h6 a7 h7 a8 h8 T0 T1 x0 x1 x2 x3 q0 q1 q2).2.2.1 (ix3 h r x) = newA (sc False x0 x1 h) (fun _ => (⊥ : EReal)) (fun _ => (0 : EReal)) (pair x2 (half h)) (ix3 0 r x) := by
  have e : (kernelRun0_B c i a4 h4 a5 h5 a6 h6 a7 h7 a8 h8 T0 T1 x0 x1 x2 x3 q0 q1 q2).2.2.1 = (View.whole cc0_scratch2).writes (Elt Ideal) (View.whole cc0_scratch2).junk (kernelRun0_B.sl.HS2_9 a4 a5 a6 x0 x1 x2) := by
    unfold kernelRun0_B
    dsimp only
  rw [e]
  exact read_of (View.whole cc0_scratch2) _ _ ((B_newA a4 a5 a6 x0 x1 x2)) h r x

theorem C_read0 (c : Dev nD) (i a4 h4 a5 h5 a6 h6 a7 h7 a8 h8 T0 T1 x0 x1 x2 x3 xa0 xa1 xa2 q0 q1 q2) (h : Fin 8) (r : Fin 512) (x : Fin 128) :
    scM0_0.view.read (Elt Ideal) (kernelRun0_C c i a4 h4 a5 h5 a6 h6 a7 h7 a8 h8 T0 T1 x0 x1 x2 x3 xa0 xa1 xa2 q0 q1 q2).2.1 (ix3 h r x) = newM (sc True x0 x1 h) (pl (scM0_0.view.read (Elt Ideal) xa0) h) (ix3 0 r x) := by
  have e : (kernelRun0_C c i a4 h4 a5 h5 a6 h6 a7 h7 a8 h8 T0 T1 x0 x1 x2 x3 xa0 xa1 xa2 q0 q1 q2).2.1 = (View.whole cc0_scratch0).writes (Elt Ideal) (View.whole cc0_scratch0).junk (kernelRun0_C.sl.HS0_8 c a4 a5 x0 x1 xa0) := by
    unfold kernelRun0_C
    dsimp only
  rw [e]
  exact read_of (View.whole cc0_scratch0) _ [] ((C_newM c a4 a5 x0 x1 xa0).trans (List.append_nil _).symm) h r x

theorem C_read1 (c : Dev nD) (i a4 h4 a5 h5 a6 h6 a7 h7 a8 h8 T0 T1 x0 x1 x2 x3 xa0 xa1 xa2 q0 q1 q2) (h : Fin 8) (r : Fin 512) (x : Fin 128) :
    scM0_1.view.read (Elt Ideal) (kernelRun0_C c i a4 h4 a5 h5 a6 h6 a7 h7 a8 h8 T0 T1 x0 x1 x2 x3 xa0 xa1 xa2 q0 q1 q2).2.2.1 (ix3 h r x) = newL (sc True x0 x1 h) (pl (scM0_0.view.read (Elt Ideal) xa0) h) (pl (scM0_1.view.read (Elt Ideal) xa1) h) (ix3 0 r x) := by
  have e : (kernelRun0_C c i a4 h4 a5 h5 a6 h6 a7 h7 a8 h8 T0 T1 x0 x1 x2 x3 xa0 xa1 xa2 q0 q1 q2).2.2.1 = (View.whole cc0_scratch1).writes (Elt Ideal) (View.whole cc0_scratch1).junk (kernelRun0_C.sl.HS1_8 c a4 a5 x0 x1 xa0 xa1) := by
    unfold kernelRun0_C
    dsimp only
  rw [e]
  exact read_of (View.whole cc0_scratch1) _ [] ((C_newL c a4 a5 x0 x1 xa0 xa1).trans (List.append_nil _).symm) h r x

theorem C_read2 (c : Dev nD) (i a4 h4 a5 h5 a6 h6 a7 h7 a8 h8 T0 T1 x0 x1 x2 x3 xa0 xa1 xa2 q0 q1 q2) (h : Fin 8) (r : Fin 512) (x : Fin 128) :
    scM0_2.view.read (Elt Ideal) (kernelRun0_C c i a4 h4 a5 h5 a6 h6 a7 h7 a8 h8 T0 T1 x0 x1 x2 x3 xa0 xa1 xa2 q0 q1 q2).2.2.2.1 (ix3 h r x) = newA (sc True x0 x1 h) (pl (scM0_0.view.read (Elt Ideal) xa0) h) (pl (scM0_2.view.read (Elt Ideal) xa2) h) (pair x2 (half h)) (ix3 0 r x) := by
  have e : (kernelRun0_C c i a4 h4 a5 h5 a6 h6 a7 h7 a8 h8 T0 T1 x0 x1 x2 x3 xa0 xa1 xa2 q0 q1 q2).2.2.2.1 = (View.whole cc0_scratch2).writes (Elt Ideal) (View.whole cc0_scratch2).junk (kernelRun0_C.sl.HS2_8 c a4 a5 a6 x0 x1 x2 xa0 xa2) := by
    unfold kernelRun0_C
    dsimp only
  rw [e]
  exact read_of (View.whole cc0_scratch2) _ [] ((C_newA c a4 a5 a6 x0 x1 x2 xa0 xa2).trans (List.append_nil _).symm) h r x

theorem C_block (c : Dev nD) (i a4 h4 a5 h5 a6 h6 a7 h7 a8 h8 T0 T1 x0 x1 x2 x3 xa0 xa1 xa2 q0 q1 q2) (r x : Fin 512) :
    out0_C_4 c i a4 h4 a5 h5 a6 h6 a7 h7 a8 h8 T0 T1 x0 x1 x2 x3 xa0 xa1 xa2 q0 q1 q2 (ix3 0 r x)
      = Ideal.div (newA (sc True x0 x1 (headOf x)) (pl (scM0_0.view.read (Elt Ideal) xa0) (headOf x)) (pl (scM0_2.view.read (Elt Ideal) xa2) (headOf x)) (pair x2 (half (headOf x))) (ix3 0 r (laneOf x))) (newL (sc True x0 x1 (headOf x)) (pl (scM0_0.view.read (Elt Ideal) xa0) (headOf x)) (pl (scM0_1.view.read (Elt Ideal) xa1) (headOf x)) (ix3 0 r (laneOf x))) * x3 (ix3 0 r x) := by
  have e : out0_C_4 c i a4 h4 a5 h5 a6 h6 a7 h7 a8 h8 T0 T1 x0 x1 x2 x3 xa0 xa1 xa2 q0 q1 q2 = VO0_4.read (Elt Ideal) (VO0_4.writes (Elt Ideal) VO0_4.junk
      (kernelRun0_C.sl.HO4_4 c a4 a5 a6 a7 x0 x1 x2 x3 xa0 xa1 xa2)) := rfl
  rw [e, C_outs, read_outs]

theorem D_read0 (c : Dev nD) (i a4 h4 a5 h5 a6 h6 a7 h7 a8 h8 T0 T1 x0 x1 x2 x3 xa0 xa1 xa2 q0 q1 q2) (h : Fin 8) (r : Fin 512) (x : Fin 128) :
    scM0_0.view.read (Elt Ideal) (kernelRun0_D c i a4 h4 a5 h5 a6 h6 a7 h7 a8 h8 T0 T1 x0 x1 x2 x3 xa0 xa1 xa2 q0 q1 q2).1 (ix3 h r x) = newM (sc False x0 x1 h) (pl (scM0_0.view.read (Elt Ideal) xa0) h) (ix3 0 r x) := by
  have e : (kernelRun0_D c i a4 h4 a5 h5 a6 h6 a7 h7 a8 h8 T0 T1 x0 x1 x2 x3 xa0 xa1 xa2 q0 q1 q2).1 = (View.whole cc0_scratch0).writes (Elt Ideal) (View.whole cc0_scratch0).junk (kernelRun0_D.sl.HS0_8 c a4 a5 x0 x1 xa0) := by
    unfold kernelRun0_D
    dsimp only
  rw [e]
  exact read_of (View.whole cc0_scratch0) _ [] ((D_newM c a4 a5 x0 x1 xa0).trans (List.append_nil _).symm) h r x

theorem D_read1 (c : Dev nD) (i a4 h4 a5 h5 a6 h6 a7 h7 a8 h8 T0 T1 x0 x1 x2 x3 xa0 xa1 xa2 q0 q1 q2) (h : Fin 8) (r : Fin 512) (x : Fin 128) :
    scM0_1.view.read (Elt Ideal) (kernelRun0_D c i a4 h4 a5 h5 a6 h6 a7 h7 a8 h8 T0 T1 x0 x1 x2 x3 xa0 xa1 xa2 q0 q1 q2).2.1 (ix3 h r x) = newL (sc False x0 x1 h) (pl (scM0_0.view.read (Elt Ideal) xa0) h) (pl (scM0_1.view.read (Elt Ideal) xa1) h) (ix3 0 r x) := by
  have e : (kernelRun0_D c i a4 h4 a5 h5 a6 h6 a7 h7 a8 h8 T0 T1 x0 x1 x2 x3 xa0 xa1 xa2 q0 q1 q2).2.1 = (View.whole cc0_scratch1).writes (Elt Ideal) (View.whole cc0_scratch1).junk (kernelRun0_D.sl.HS1_8 c a4 a5 x0 x1 xa0 xa1) := by
    unfold kernelRun0_D
    dsimp only
  rw [e]
  exact read_of (View.whole cc0_scratch1) _ [] ((D_newL c a4 a5 x0 x1 xa0 xa1).trans (List.append_nil _).symm) h r x

theorem D_read2 (c : Dev nD) (i a4 h4 a5 h5 a6 h6 a7 h7 a8 h8 T0 T1 x0 x1 x2 x3 xa0 xa1 xa2 q0 q1 q2) (h : Fin 8) (r : Fin 512) (x : Fin 128) :
    scM0_2.view.read (Elt Ideal) (kernelRun0_D c i a4 h4 a5 h5 a6 h6 a7 h7 a8 h8 T0 T1 x0 x1 x2 x3 xa0 xa1 xa2 q0 q1 q2).2.2.1 (ix3 h r x) = newA (sc False x0 x1 h) (pl (scM0_0.view.read (Elt Ideal) xa0) h) (pl (scM0_2.view.read (Elt Ideal) xa2) h) (pair x2 (half h)) (ix3 0 r x) := by
  have e : (kernelRun0_D c i a4 h4 a5 h5 a6 h6 a7 h7 a8 h8 T0 T1 x0 x1 x2 x3 xa0 xa1 xa2 q0 q1 q2).2.2.1 = (View.whole cc0_scratch2).writes (Elt Ideal) (View.whole cc0_scratch2).junk (kernelRun0_D.sl.HS2_8 c a4 a5 a6 x0 x1 x2 xa0 xa2) := by
    unfold kernelRun0_D
    dsimp only
  rw [e]
  exact read_of (View.whole cc0_scratch2) _ [] ((D_newA c a4 a5 a6 x0 x1 x2 xa0 xa2).trans (List.append_nil _).symm) h r x

end Cert.KernelIdeal.Head

end
-- ==== Proof.Walk.lean ====
/- The walk of the grid: point `t` of batch row `t / 136` is at the pair `(qt t, kt t)` of the tables, the pairs of one
   block of queries run from key block 0 to the diagonal, and each window's block sits where the pair says. -/
module

public import proofs.«01_k».proof.Proof.Gen.KernelIdeal.Flash
public import Idealize.ShloMosaic.Lib.ValueIdx

@[expose] public section

set_option maxRecDepth 16384
set_option Elab.async false

noncomputable section

namespace Cert.KernelIdeal.Head

open Idealize.ShloMosaic Cert.KernelIdeal.Gen

/-- The batch row, the block of queries and the block of keys of a point. -/
def bt (t : ℕ) : ℕ := t / 136
def qt (t : ℕ) : ℕ := (pinT_0 0 (ValueIdx.ix1 (⟨t % 136, Nat.mod_lt _ (by decide)⟩ : Fin 136))).toNat
def kt (t : ℕ) : ℕ := (pinT_1 0 (ValueIdx.ix1 (⟨t % 136, Nat.mod_lt _ (by decide)⟩ : Fin 136))).toNat

theorem order : ∀ t : Fin 136, kt t.val ≤ qt t.val ∧ qt t.val < 16 := by decide +kernel

theorem before : ∀ t : Fin 544, kt t.val ≠ 0 → t.val ≠ 0 ∧ bt (t.val - 1) = bt t.val ∧ qt (t.val - 1) = qt t.val
    ∧ kt (t.val - 1) + 1 = kt t.val := by decide +kernel

theorem first : ∀ t : Fin (cfgA 0).N, P0_0 0 t ↔ kt t.val = 0 := by decide +kernel

theorem off_diag : ∀ t : Fin (cfgA 0).N, P0_1 0 t ↔ kt t.val < qt t.val := by decide +kernel

theorem index_0 : ∀ t : Fin (cfgA 0).N, ((cfgA 0).win (0 : Fin 5)).index t = ![bt t.val, qt t.val, 0] := by decide +kernel
theorem index_1 : ∀ t : Fin (cfgA 0).N, ((cfgA 0).win (1 : Fin 5)).index t = ![bt t.val, kt t.val, 0] := by decide +kernel
theorem index_2 : ∀ t : Fin (cfgA 0).N, ((cfgA 0).win (2 : Fin 5)).index t = ![bt t.val, kt t.val, 0] := by decide +kernel
theorem index_3 : ∀ t : Fin (cfgA 0).N, ((cfgA 0).win (3 : Fin 5)).index t = ![bt t.val, qt t.val, 0] := by decide +kernel
theorem index_4 : ∀ t : Fin (cfgA 0).N, ((cfgA 0).win (4 : Fin 5)).index t = ![bt t.val, qt t.val, 0] := by decide +kernel

end Cert.KernelIdeal.Head

end
-- ==== Proof.Tile.lean ====
/- One tile of keys, at the numbers: what a head's scores are, and that the update of its planes keeps the invariant of
   the online softmax. -/
module

public import proofs.«01_k».proof.Proof.Planes
public import proofs.«01_k».proof.Proof.Online

@[expose] public section

set_option maxRecDepth 16384

noncomputable section

namespace Cert.KernelIdeal.Head

open Idealize.ShloMosaic Cert.KernelIdeal.Gen Cert.Online

/-- A position as a row of the arrays. -/
def row (k : ℕ) : Fin 8192 := ⟨k % 8192, Nat.mod_lt _ (by decide)⟩

theorem row_of_lt {k : ℕ} (h : k < 8192) : row k = ⟨k, h⟩ := Fin.ext (Nat.mod_eq_of_lt h)

/-- Lane `e` of head `h` in a row of queries or keys. -/
def lane (h : Fin 8) (e : Fin 128) : Fin 1024 := ⟨h.val * 128 + e.val, by have := h.isLt; have := e.isLt; omega⟩

/-- Lane `x` of the pair of head `h` in a row of values. -/
def vlane (h : Fin 8) (x : Fin 128) : Fin 512 := ⟨(half h).val * 128 + x.val, by have := (half h).isLt; have := x.isLt; omega⟩

/-- The causal score of query `q` against key `k` under head `h`: `⊥` for a key after the query. -/
def score (Q K : Fin 8192 → Fin 1024 → EReal) (h : Fin 8) (q k : ℕ) : EReal :=
  if k ≤ q then ∑ e : Fin 128, Q (row q) (lane h e) * K (row k) (lane h e) else ⊥

/-- What key `k` adds in lane `x` of head `h`. -/
def value (V : Fin 8192 → Fin 512 → EReal) (h : Fin 8) (x : Fin 128) (k : ℕ) : EReal := V (row k) (vlane h x)

theorem sc_apply (on : Prop) [Decidable on] (Q K : Fin 8192 → Fin 1024 → EReal) (qi ki : ℕ) (hle : ki ≤ qi) (hon : on ↔ ki = qi)
    (x0 x1 : Vec Ideal S1x512x1024 .bf16) (hq : ∀ r e, x0 (ix3 0 r e) = Q (row (qi * 512 + r.val)) e)
    (hk : ∀ r e, x1 (ix3 0 r e) = K (row (ki * 512 + r.val)) e) (h : Fin 8) (r c : Fin 512) :
    sc on x0 x1 h (ix2 r c) = score Q K h (qi * 512 + r.val) (ki * 512 + c.val) := by
  have hr := r.isLt
  have hc := c.isLt
  have base : scores (qk x0 h) (qk x1 h) (ix2 r c)
      = ∑ e : Fin 128, Q (row (qi * 512 + r.val)) (lane h e) * K (row (ki * 512 + c.val)) (lane h e) := by
    rw [scores_apply]
    exact Finset.sum_congr rfl fun e _ => congrArg₂ (· * ·) (hq r (lane h e)) (hk c (lane h e))
  unfold sc score
  by_cases ho : on
  · have e := hon.1 ho
    rw [if_pos ho, masked_apply, base]
    by_cases hcr : c ≤ r
    · have : c.val ≤ r.val := hcr
      rw [if_pos hcr, if_pos (by omega)]
    · have : ¬ c.val ≤ r.val := hcr
      rw [if_neg hcr, if_neg (by omega)]
  · have e : ki ≠ qi := fun e => ho (hon.2 e)
    rw [if_neg ho, base, if_pos (by omega)]

/-- The update of one row of a head's planes. -/
theorem row_step {S : ℕ → EReal} {V : Fin 128 → ℕ → EReal} (hS : ∀ k, S k ≠ ⊤) (h0 : S 0 ≠ ⊥) {n : ℕ} (r : Fin 512)
    {s : FVec Ideal S512x512 .f32} (hs : ∀ c : Fin 512, s (ix2 r c) = S (n + c.val)) {m l a : FVec Ideal S1x512x128 .f32}
    {v : Vec Ideal S1x512x128 .bf16} (hv : ∀ (c : Fin 512) (x : Fin 128), v (ix3 0 c x) = V x (n + c.val))
    (h : ∀ x, Inv S (V x) n (m (ix3 0 r x)) (l (ix3 0 r x)) (a (ix3 0 r x))) (x : Fin 128) :
    Inv S (V x) (n + 512) (newM s m (ix3 0 r x)) (newL s m l (ix3 0 r x)) (newA s m a v (ix3 0 r x)) := by
  have top_eq : ∀ y, top s m (ix2 r y) = max (m (ix3 0 r x)) ((Finset.univ : Finset (Fin 512)).sup fun c => S (n + c.val)) := by
    intro y
    rw [top_apply, (h y).top, (h x).top]
    exact congrArg (max _) (Finset.sup_congr rfl fun c _ => hs c)
  rw [newM_apply, newL_apply, newA_apply, factor_apply]
  simp only [weights_apply, top_eq, hs, hv]
  exact Inv.step hS h0 (by decide) (h x) rfl

end Cert.KernelIdeal.Head

end
-- ==== Proof.Blocks.lean ====
/- What the windows' blocks hold at a point of the walk: rows of the argument arrays. -/
module

public import proofs.«01_k».proof.Proof.Walk
public import proofs.«01_k».proof.Proof.Tile
public import Idealize.ShloMosaic.Lib.Pipeline.ValueKit.Geometry

@[expose] public section

set_option maxRecDepth 16384

noncomputable section

namespace Cert.KernelIdeal.Head

open Idealize.ShloMosaic Cert.KernelIdeal.Gen

variable (m : (ℓ : Loc nD τ sig) → Buf (Elt Ideal) ℓ) (ρ : Dev nD → PrngReg) (c : Dev nD)

/-- The batch row of a point as a coordinate. -/
def batch (t : ℕ) : Fin 4 := ⟨t / 136 % 4, Nat.mod_lt _ (by decide)⟩

theorem points : (cfgA 0).N = 544 := N_0

theorem bt_eq (t : Fin (cfgA 0).N) : bt t.val = (batch t.val).val := by
  have h : t.val < 544 := points ▸ t.isLt
  show t.val / 136 = t.val / 136 % 4
  omega

theorem order_at (t : ℕ) : kt t ≤ qt t ∧ qt t < 16 := by
  have h := order ⟨t % 136, Nat.mod_lt _ (by decide)⟩
  have e : t % 136 % 136 = t % 136 := Nat.mod_mod _ _
  unfold kt qt at h ⊢
  simp only [e] at h
  exact h

/-- The arguments as rows of batch `b`. -/
def Qs (b : Fin 4) (r : Fin 8192) (e : Fin 1024) : EReal := m (c.tc.loc main_arg2) (ix3 b r e)
def Ks (b : Fin 4) (r : Fin 8192) (e : Fin 1024) : EReal := m (c.tc.loc main_arg3) (ix3 b r e)
def Vs (b : Fin 4) (r : Fin 8192) (e : Fin 512) : EReal := m (c.tc.loc main_arg4) (ix3 b r e)
def Gs (b : Fin 4) (r : Fin 8192) (e : Fin 512) : EReal := m (c.tc.loc main_arg5) (ix3 b r e)

theorem row_val {k : ℕ} (h : k < 8192) : (row k).val = k := Nat.mod_eq_of_lt h

theorem iblk_0 (t : Fin (cfgA 0).N) (r : Fin 512) (e : Fin 1024) :
    iblk 0 m ρ c (0 : Fin 5) t (ix3 0 r e) = Qs m c (batch t.val) (row (qt t.val * 512 + r.val)) e := by
  have h := order_at t.val
  have hr := r.isLt
  refine congrArg (m (c.tc.loc main_arg2)) (funext fun a => Fin.ext ?_)
  fin_cases a
  · show ((cfgA 0).win (0 : Fin 5)).index t 0 * 1 + 1 * 0 = (batch t.val).val
    rw [index_0 t, ← bt_eq]
    show bt t.val * 1 + 1 * 0 = _
    omega
  · show ((cfgA 0).win (0 : Fin 5)).index t 1 * 512 + 1 * r.val = (row (qt t.val * 512 + r.val)).val
    rw [index_0 t, row_val (by omega)]
    show qt t.val * 512 + 1 * r.val = _
    omega
  · show ((cfgA 0).win (0 : Fin 5)).index t 2 * 1024 + 1 * e.val = e.val
    rw [index_0 t]
    show 0 * 1024 + 1 * e.val = _
    omega

theorem iblk_1 (t : Fin (cfgA 0).N) (r : Fin 512) (e : Fin 1024) :
    iblk 0 m ρ c (1 : Fin 5) t (ix3 0 r e) = Ks m c (batch t.val) (row (kt t.val * 512 + r.val)) e := by
  have h := order_at t.val
  have hr := r.isLt
  refine congrArg (m (c.tc.loc main_arg3)) (funext fun a => Fin.ext ?_)
  fin_cases a
  · show ((cfgA 0).win (1 : Fin 5)).index t 0 * 1 + 1 * 0 = (batch t.val).val
    rw [index_1 t, ← bt_eq]
    show bt t.val * 1 + 1 * 0 = _
    omega
  · show ((cfgA 0).win (1 : Fin 5)).index t 1 * 512 + 1 * r.val = (row (kt t.val * 512 + r.val)).val
    rw [index_1 t, row_val (by omega)]
    show kt t.val * 512 + 1 * r.val = _
    omega
  · show ((cfgA 0).win (1 : Fin 5)).index t 2 * 1024 + 1 * e.val = e.val
    rw [index_1 t]
    show 0 * 1024 + 1 * e.val = _
    omega

theorem iblk_2 (t : Fin (cfgA 0).N) (r : Fin 512) (e : Fin 512) :
    iblk 0 m ρ c (2 : Fin 5) t (ix3 0 r e) = Vs m c (batch t.val) (row (kt t.val * 512 + r.val)) e := by
  have h := order_at t.val
  have hr := r.isLt
  refine congrArg (m (c.tc.loc main_arg4)) (funext fun a => Fin.ext ?_)
  fin_cases a
  · show ((cfgA 0).win (2 : Fin 5)).index t 0 * 1 + 1 * 0 = (batch t.val).val
    rw [index_2 t, ← bt_eq]
    show bt t.val * 1 + 1 * 0 = _
    omega
  · show ((cfgA 0).win (2 : Fin 5)).index t 1 * 512 + 1 * r.val = (row (kt t.val * 512 + r.val)).val
    rw [index_2 t, row_val (by omega)]
    show kt t.val * 512 + 1 * r.val = _
    omega
  · show ((cfgA 0).win (2 : Fin 5)).index t 2 * 512 + 1 * e.val = e.val
    rw [index_2 t]
    show 0 * 512 + 1 * e.val = _
    omega

theorem iblk_3 (t : Fin (cfgA 0).N) (r : Fin 512) (e : Fin 512) :
    iblk 0 m ρ c (3 : Fin 5) t (ix3 0 r e) = Gs m c (batch t.val) (row (qt t.val * 512 + r.val)) e := by
  have h := order_at t.val
  have hr := r.isLt
  refine congrArg (m (c.tc.loc main_arg5)) (funext fun a => Fin.ext ?_)
  fin_cases a
  · show ((cfgA 0).win (3 : Fin 5)).index t 0 * 1 + 1 * 0 = (batch t.val).val
    rw [index_3 t, ← bt_eq]
    show bt t.val * 1 + 1 * 0 = _
    omega
  · show ((cfgA 0).win (3 : Fin 5)).index t 1 * 512 + 1 * r.val = (row (qt t.val * 512 + r.val)).val
    rw [index_3 t, row_val (by omega)]
    show qt t.val * 512 + 1 * r.val = _
    omega
  · show ((cfgA 0).win (3 : Fin 5)).index t 2 * 512 + 1 * e.val = e.val
    rw [index_3 t]
    show 0 * 512 + 1 * e.val = _
    omega

end Cert.KernelIdeal.Head

end
-- ==== Proof.Traj.lean ====
/- The scratch arrays along the walk: after the point `(b, qi, ki)` every row of every head's planes holds the running
   maximum, sum and weighted sum of the scores of the keys up to block `ki`. -/
module

public import proofs.«01_k».proof.Proof.Reads
public import proofs.«01_k».proof.Proof.Blocks

@[expose] public section

set_option maxRecDepth 16384

noncomputable section

namespace Cert.KernelIdeal.Head

open Idealize.ShloMosaic Cert.KernelIdeal.Gen Cert.Online

variable (m : (ℓ : Loc nD τ sig) → Buf (Elt Ideal) ℓ) (ρ : Dev nD → PrngReg) (c : Dev nD)

/-- The scores of query `q` of batch row `b` under head `h`. -/
def S (b : Fin 4) (h : Fin 8) (q : ℕ) : ℕ → EReal := score (Qs m c b) (Ks m c b) h q

/-- No score is `⊤` and the first key's is a real number. -/
def Tame : Prop := (∀ b h q k, S m c b h q k ≠ ⊤) ∧ ∀ b h q, S m c b h q 0 ≠ ⊥

/-- The scratch arrays' contents after point `t`. -/
def Good (t : ℕ) (X : (S1x512x512.Idx → Elt Ideal .bf16) × Buf (Elt Ideal) ((c.tc : Thread nD τ).loc cc0_scratch0) × Buf (Elt Ideal) ((c.tc : Thread nD τ).loc cc0_scratch1) × Buf (Elt Ideal) ((c.tc : Thread nD τ).loc cc0_scratch2)) : Prop :=
  ∀ (h : Fin 8) (r : Fin 512) (x : Fin 128),
    Inv (S m c (batch t) h (qt t * 512 + r.val)) (value (Vs m c (batch t)) h x) (kt t * 512 + 512)
      (scM0_0.view.read (Elt Ideal) X.2.1 (ix3 h r x)) (scM0_1.view.read (Elt Ideal) X.2.2.1 (ix3 h r x))
      (scM0_2.view.read (Elt Ideal) X.2.2.2 (ix3 h r x))

/-- What one point's updates give, from planes that hold the invariant before it. -/
theorem update (hT : Tame m c) (t : Fin (cfgA 0).N) (on : Prop) [Decidable on] (hon : on ↔ kt t.val = qt t.val)
    (pm pl' pa : Fin 8 → FVec Ideal S1x512x128 .f32)
    (hp : ∀ (h : Fin 8) (r : Fin 512) (x : Fin 128),
      Inv (S m c (batch t.val) h (qt t.val * 512 + r.val)) (value (Vs m c (batch t.val)) h x) (kt t.val * 512)
        (pm h (ix3 0 r x)) (pl' h (ix3 0 r x)) (pa h (ix3 0 r x))) (h : Fin 8) (r : Fin 512) (x : Fin 128) :
    Inv (S m c (batch t.val) h (qt t.val * 512 + r.val)) (value (Vs m c (batch t.val)) h x) (kt t.val * 512 + 512)
      (newM (sc on (iblk 0 m ρ c (0 : Fin 5) t) (iblk 0 m ρ c (1 : Fin 5) t) h) (pm h) (ix3 0 r x))
      (newL (sc on (iblk 0 m ρ c (0 : Fin 5) t) (iblk 0 m ρ c (1 : Fin 5) t) h) (pm h) (pl' h) (ix3 0 r x))
      (newA (sc on (iblk 0 m ρ c (0 : Fin 5) t) (iblk 0 m ρ c (1 : Fin 5) t) h) (pm h) (pa h)
        (pair (iblk 0 m ρ c (2 : Fin 5) t) (half h)) (ix3 0 r x)) :=
  row_step (V := fun x => value (Vs m c (batch t.val)) h x) (hT.1 _ h _) (hT.2 _ h _) r
    (fun c' => sc_apply on (Qs m c (batch t.val)) (Ks m c (batch t.val)) (qt t.val) (kt t.val) (order_at t.val).1 hon _ _
      (fun r e => iblk_0 m ρ c t r e) (fun r e => iblk_1 m ρ c t r e) h r c')
    (fun c' x => iblk_2 m ρ c t c' (vlane h x)) (fun x => hp h r x) x

theorem of_eq {S V : ℕ → EReal} {n : ℕ} {M M' L L' A A' : EReal} (e0 : M = M') (e1 : L = L') (e2 : A = A') (h : Inv S V n M' L' A') :
    Inv S V n M L A := by
  rw [e0, e1, e2]
  exact h

/-- What the planes hold before point `t`, where the point carries on from the one before it. -/
def Ready (t : ℕ) (X : (S1x512x512.Idx → Elt Ideal .bf16) × Buf (Elt Ideal) ((c.tc : Thread nD τ).loc cc0_scratch0) × Buf (Elt Ideal) ((c.tc : Thread nD τ).loc cc0_scratch1) × Buf (Elt Ideal) ((c.tc : Thread nD τ).loc cc0_scratch2)) : Prop :=
  ∀ (h : Fin 8) (r : Fin 512) (x : Fin 128),
    Inv (S m c (batch t) h (qt t * 512 + r.val)) (value (Vs m c (batch t)) h x) (kt t * 512)
      (pl (scM0_0.view.read (Elt Ideal) X.2.1) h (ix3 0 r x)) (pl (scM0_1.view.read (Elt Ideal) X.2.2.1) h (ix3 0 r x))
      (pl (scM0_2.view.read (Elt Ideal) X.2.2.2) h (ix3 0 r x))

theorem good_step (hT : Tame m c) (t : Fin (cfgA 0).N) (X) (hX : kt t.val ≠ 0 → Ready m c t.val X) :
    Good m c t.val (step0 0 m ρ c t X) := by
  intro h r x
  have ho := (order_at t.val).1
  have fresh : kt t.val = 0 → ∀ (h : Fin 8) (r : Fin 512) (x : Fin 128),
      Inv (S m c (batch t.val) h (qt t.val * 512 + r.val)) (value (Vs m c (batch t.val)) h x) (kt t.val * 512)
        ((fun _ => (fun _ => (⊥ : EReal)) : Fin 8 → FVec Ideal S1x512x128 .f32) h (ix3 0 r x))
        ((fun _ => (fun _ => (0 : EReal)) : Fin 8 → FVec Ideal S1x512x128 .f32) h (ix3 0 r x))
        ((fun _ => (fun _ => (0 : EReal)) : Fin 8 → FVec Ideal S1x512x128 .f32) h (ix3 0 r x)) := by
    intro e h r x
    rw [e, Nat.zero_mul]
    exact Inv.zero _ _
  by_cases q0 : P0_0 0 t
  · have k0 := (first t).1 q0
    by_cases q1 : P0_1 0 t
    · have k1 := (off_diag t).1 q1
      have hon : False ↔ kt t.val = qt t.val := ⟨fun f => f.elim, fun e => absurd e (by omega)⟩
      rw [step0_B 0 m ρ c t X q0 q1]
      dsimp only
      exact of_eq (B_read0 _ _ _ _ _ _ _ _ _ _ _ _ _ _ _ _ _ _ _ _ _ h r x) (B_read1 _ _ _ _ _ _ _ _ _ _ _ _ _ _ _ _ _ _ _ _ _ h r x) (B_read2 _ _ _ _ _ _ _ _ _ _ _ _ _ _ _ _ _ _ _ _ _ h r x)
        (update m ρ c hT t False hon (fun _ => (fun _ => (⊥ : EReal))) (fun _ => (fun _ => (0 : EReal))) (fun _ => (fun _ => (0 : EReal))) (fresh k0) h r x)
    · have k1 : ¬ kt t.val < qt t.val := fun e => q1 ((off_diag t).2 e)
      have hon : True ↔ kt t.val = qt t.val := ⟨fun _ => by omega, fun _ => trivial⟩
      rw [step0_A 0 m ρ c t X q0 q1]
      dsimp only
      exact of_eq (A_read0 _ _ _ _ _ _ _ _ _ _ _ _ _ _ _ _ _ _ _ _ _ h r x) (A_read1 _ _ _ _ _ _ _ _ _ _ _ _ _ _ _ _ _ _ _ _ _ h r x) (A_read2 _ _ _ _ _ _ _ _ _ _ _ _ _ _ _ _ _ _ _ _ _ h r x)
        (update m ρ c hT t True hon (fun _ => (fun _ => (⊥ : EReal))) (fun _ => (fun _ => (0 : EReal))) (fun _ => (fun _ => (0 : EReal))) (fresh k0) h r x)
  · have k0 : kt t.val ≠ 0 := fun e => q0 ((first t).2 e)
    by_cases q1 : P0_1 0 t
    · have k1 := (off_diag t).1 q1
      have hon : False ↔ kt t.val = qt t.val := ⟨fun f => f.elim, fun e => absurd e (by omega)⟩
      rw [step0_D 0 m ρ c t X q0 q1]
      dsimp only
      exact of_eq (D_read0 _ _ _ _ _ _ _ _ _ _ _ _ _ _ _ _ _ _ _ _ _ _ _ _ h r x) (D_read1 _ _ _ _ _ _ _ _ _ _ _ _ _ _ _ _ _ _ _ _ _ _ _ _ h r x) (D_read2 _ _ _ _ _ _ _ _ _ _ _ _ _ _ _ _ _ _ _ _ _ _ _ _ h r x)
        (update m ρ c hT t False hon (pl (scM0_0.view.read (Elt Ideal) X.2.1)) (pl (scM0_1.view.read (Elt Ideal) X.2.2.1))
        (pl (scM0_2.view.read (Elt Ideal) X.2.2.2)) (hX k0) h r x)
    · have k1 : ¬ kt t.val < qt t.val := fun e => q1 ((off_diag t).2 e)
      have hon : True ↔ kt t.val = qt t.val := ⟨fun _ => by omega, fun _ => trivial⟩
      rw [step0_C 0 m ρ c t X q0 q1]
      dsimp only
      exact of_eq (C_read0 _ _ _ _ _ _ _ _ _ _ _ _ _ _ _ _ _ _ _ _ _ _ _ _ h r x) (C_read1 _ _ _ _ _ _ _ _ _ _ _ _ _ _ _ _ _ _ _ _ _ _ _ _ h r x) (C_read2 _ _ _ _ _ _ _ _ _ _ _ _ _ _ _ _ _ _ _ _ _ _ _ _ h r x)
        (update m ρ c hT t True hon (pl (scM0_0.view.read (Elt Ideal) X.2.1)) (pl (scM0_1.view.read (Elt Ideal) X.2.2.1))
        (pl (scM0_2.view.read (Elt Ideal) X.2.2.2)) (hX k0) h r x)

/-- A point that does not start a block of queries finds what the point before it left. -/
theorem ready_of_good (t : Fin (cfgA 0).N) (hk : kt t.val ≠ 0)
    (hg : ∀ h : t.val - 1 < (cfgA 0).N, Good m c (t.val - 1) (traj0 0 m ρ c (t.val - 1) h)) :
    Ready m c t.val (prev0 0 m ρ c t) := by
  obtain ⟨n0, eb, eq, ek⟩ := before ⟨t.val, points ▸ t.isLt⟩ hk
  dsimp only at n0 eb eq ek
  have g := hg (lt_of_le_of_lt (Nat.sub_le _ _) t.isLt)
  have e : prev0 0 m ρ c t = traj0 0 m ρ c (t.val - 1) (lt_of_le_of_lt (Nat.sub_le _ _) t.isLt) := by
    unfold prev0; rw [dif_neg n0]
  have eb' : batch (t.val - 1) = batch t.val := Fin.ext (congrArg (· % 4) eb)
  intro h r x
  have g1 := g h r x
  have e2 : kt (t.val - 1) * 512 + 512 = kt t.val * 512 := by omega
  rw [eb', eq, e2] at g1
  rw [e]
  exact g1

/-- The invariant holds after every point. -/
theorem good (hT : Tame m c) : ∀ (n : ℕ) (hn : n < (cfgA 0).N), Good m c n (traj0 0 m ρ c n hn) := by
  intro n
  induction n using Nat.strong_induction_on with
  | _ n ih =>
    intro hn
    have e := traj0_eq 0 m ρ c ⟨n, hn⟩
    dsimp only at e
    rw [e]
    refine good_step m ρ c hT ⟨n, hn⟩ _ fun hk => ready_of_good m ρ c ⟨n, hn⟩ hk fun h => ih (n - 1) ?_ h
    obtain ⟨n0, _⟩ := before ⟨n, points ▸ hn⟩ hk
    dsimp only at n0
    omega

theorem quot_eq {o A A' L L' g : EReal} (e : o = Ideal.div A L * g) (eA : A' = A) (eL : L' = L) : o = Ideal.div A' L' * g := by
  rw [e, eA, eL]

/-- The gated quotient the result holds, as the walk computes it. -/
theorem block_at (hT : Tame m c) (t : Fin (cfgA 0).N) (q1 : ¬P0_1 0 t) (r x : Fin 512) :
    ∃ M L A : EReal,
      Inv (S m c (batch t.val) (headOf x) (qt t.val * 512 + r.val)) (value (Vs m c (batch t.val)) (headOf x) (laneOf x))
        (qt t.val * 512 + 512) M L A
      ∧ (traj0 0 m ρ c t.val t.isLt).1 (ix3 0 r x) = Ideal.div A L * Gs m c (batch t.val) (row (qt t.val * 512 + r.val)) x := by
  have ho := (order_at t.val).1
  have k1 : ¬ kt t.val < qt t.val := fun e => q1 ((off_diag t).2 e)
  have hkq : kt t.val = qt t.val := by omega
  have g := good m ρ c hT t.val t.isLt (headOf x) r (laneOf x)
  rw [hkq] at g
  refine ⟨_, _, _, g, ?_⟩
  rw [traj0_eq 0 m ρ c t, ← iblk_3 m ρ c t r x]
  by_cases q0 : P0_0 0 t
  · rw [step0_A 0 m ρ c t _ q0 q1]
    dsimp only
    exact quot_eq (A_block _ _ _ _ _ _ _ _ _ _ _ _ _ _ _ _ _ _ _ _ _ r x) (A_read2 _ _ _ _ _ _ _ _ _ _ _ _ _ _ _ _ _ _ _ _ _ (headOf x) r (laneOf x)) (A_read1 _ _ _ _ _ _ _ _ _ _ _ _ _ _ _ _ _ _ _ _ _ (headOf x) r (laneOf x))
  · rw [step0_C 0 m ρ c t _ q0 q1]
    dsimp only
    exact quot_eq (C_block _ _ _ _ _ _ _ _ _ _ _ _ _ _ _ _ _ _ _ _ _ _ _ _ r x) (C_read2 _ _ _ _ _ _ _ _ _ _ _ _ _ _ _ _ _ _ _ _ _ _ _ _ (headOf x) r (laneOf x)) (C_read1 _ _ _ _ _ _ _ _ _ _ _ _ _ _ _ _ _ _ _ _ _ _ _ _ (headOf x) r (laneOf x))

end Cert.KernelIdeal.Head

end
-- ==== Proof.Cover.lean ====
/- The kernel's whole result, index by index: the softmax of the causal scores applied to the values, times the gate. -/
module

public import proofs.«01_k».proof.Proof.Traj

@[expose] public section

set_option maxRecDepth 16384

noncomputable section

namespace Cert.KernelIdeal.Head

open Idealize.ShloMosaic Cert.KernelIdeal.Gen Cert.Online Finset

/-- The gated attention of query `q` in lane `x`: the softmax over all 8192 keys, masked ones at `⊥`. -/
def attend (Q K : Fin 8192 → Fin 1024 → EReal) (V G : Fin 8192 → Fin 512 → EReal) (q : Fin 8192) (x : Fin 512) : EReal :=
  (∑ k ∈ range 8192, value V (headOf x) (laneOf x) k
      * Ideal.div (Ideal.exp (score Q K (headOf x) q.val k - (range 8192).sup (score Q K (headOf x) q.val)))
          (∑ j ∈ range 8192, Ideal.exp (score Q K (headOf x) q.val j - (range 8192).sup (score Q K (headOf x) q.val))))
    * G q x

variable (m : (ℓ : Loc nD τ sig) → Buf (Elt Ideal) ℓ) (ρ : Dev nD → PrngReg) (c : Dev nD)

/-- Real queries and keys have real scores. -/
theorem tame_of_real (hq : ∀ i, m (c.tc.loc main_arg2) i ≠ (⊤ : EReal) ∧ m (c.tc.loc main_arg2) i ≠ (⊥ : EReal))
    (hk : ∀ i, m (c.tc.loc main_arg3) i ≠ (⊤ : EReal) ∧ m (c.tc.loc main_arg3) i ≠ (⊥ : EReal)) : Tame m c := by
  have real : ∀ (b : Fin 4) (h : Fin 8) (q k : ℕ), ∃ z : ℝ,
      ∑ e : Fin 128, Qs m c b (row q) (lane h e) * Ks m c b (row k) (lane h e) = (z : EReal) := by
    intro b h q k
    refine ⟨∑ e : Fin 128, (Qs m c b (row q) (lane h e)).toReal * (Ks m c b (row k) (lane h e)).toReal, ?_⟩
    refine Eq.trans (Finset.sum_congr rfl fun e _ => ?_)
      (coe_sum_real (Finset.univ : Finset (Fin 128))
        fun e => (Qs m c b (row q) (lane h e)).toReal * (Ks m c b (row k) (lane h e)).toReal).symm
    rw [EReal.coe_mul]
    exact congrArg₂ (· * ·) (EReal.coe_toReal (hq _).1 (hq _).2).symm (EReal.coe_toReal (hk _).1 (hk _).2).symm
  constructor
  · intro b h q k
    obtain ⟨z, hz⟩ := real b h q k
    unfold S score
    split
    · rw [hz]; exact EReal.coe_ne_top z
    · exact bot_ne_top
  · intro b h q
    obtain ⟨z, hz⟩ := real b h q 0
    unfold S score
    rw [if_pos (Nat.zero_le q), hz]
    exact EReal.coe_ne_bot z

/-- The block written back after a block of queries has met its last keys. -/
theorem block_value (hT : Tame m c) (t : Fin (cfgA 0).N) (q1 : ¬P0_1 0 t) (r x : Fin 512) :
    (traj0 0 m ρ c t.val t.isLt).1 (ix3 0 r x)
      = attend (Qs m c (batch t.val)) (Ks m c (batch t.val)) (Vs m c (batch t.val)) (Gs m c (batch t.val))
          (row (qt t.val * 512 + r.val)) x := by
  obtain ⟨M, L, A, hI, e⟩ := block_at m ρ c hT t q1 r x
  have ho := (order_at t.val).2
  have hr := r.isLt
  have er : (row (qt t.val * 512 + r.val)).val = qt t.val * 512 + r.val := row_val (by omega)
  rw [e]
  unfold attend
  rw [er]
  refine congrArg (· * _) ?_
  refine Inv.quotient (hT.1 _ _ _) (hT.2 _ _ _) (by omega) (by omega) (fun k hk => ?_) hI
  unfold S score
  rw [if_neg (by omega)]

theorem flush_off : ∀ t : Fin (cfgA 0).N, ((cfgA 0).win (4 : Fin 5)).flush t = true → ¬P0_1 0 t := by
  intro t hf q1
  by_cases q0 : P0_0 0 t
  · have h := (sched0_B 0 t q0 q1).2.1
    rw [hf] at h
    cases h
  · have h := (sched0_D 0 t q0 q1).2.1
    rw [hf] at h
    cases h

/-- The kernel's result array. -/
def result : Buf (Elt Ideal) ((c.tc : Thread nD τ).loc main_v0) := fun i =>
  attend (Qs m c (i 0)) (Ks m c (i 0)) (Vs m c (i 0)) (Gs m c (i 0)) (i 1) (i 2)

theorem result_at (b : Fin 4) (q : Fin 8192) (x : Fin 512) :
    result m c (ix3 b q x) = attend (Qs m c b) (Ks m c b) (Vs m c b) (Gs m c b) q x := rfl

theorem place (t : Fin (cfgA 0).N) (r x : Fin 512) :
    (((cfgA 0).win (4 : Fin 5)).blk t).view.emb (ix3 (0 : Fin 1) r x) = ix3 (batch t.val) (row (qt t.val * 512 + r.val)) x := by
  have h := order_at t.val
  have hr := r.isLt
  refine funext fun a => Fin.ext ?_
  fin_cases a
  · show ((cfgA 0).win (4 : Fin 5)).index t 0 * 1 + 1 * 0 = (batch t.val).val
    rw [index_4 t, ← bt_eq]
    show bt t.val * 1 + 1 * 0 = _
    omega
  · show ((cfgA 0).win (4 : Fin 5)).index t 1 * 512 + 1 * r.val = (row (qt t.val * 512 + r.val)).val
    rw [index_4 t, row_val (by omega)]
    show qt t.val * 512 + 1 * r.val = _
    omega
  · show ((cfgA 0).win (4 : Fin 5)).index t 2 * 512 + 1 * x.val = x.val
    rw [index_4 t]
    show 0 * 512 + 1 * x.val = _
    omega

theorem covers : ((cfgA 0).win (4 : Fin 5)).Covers := by decide +kernel

/-- What the run leaves in the result array. -/
theorem final (hT : Tame m c) : (dats 0 m ρ 0 c).arrAt (4 : Fin 5) (cfgA 0).N = result m c := by
  refine (dats 0 m ρ 0 c).arrAt_eq_of_covers (4 : Fin 5) (result m c) covers fun t hf y => ?_
  have hy : y = ix3 (0 : Fin 1) (y 1) (y 2) := by
    refine funext fun a => ?_
    fin_cases a
    · exact Fin.ext (Nat.lt_one_iff.1 (y 0).isLt)
    · rfl
    · rfl
  refine Eq.trans (b := (traj0 0 m ρ c t.val t.isLt).1 (ix3 (0 : Fin 1) (y 1) (y 2))) ?_ ?_
  · exact congrArg (traj0 0 m ρ c t.val t.isLt).1 hy
  · exact (block_value m ρ c hT t (flush_off t hf) (y 1) (y 2)).trans
      (((congrArg (result m c) ((congrArg _ hy).trans (place t (y 1) (y 2)))).trans (result_at m c _ _ _)).symm)

end Cert.KernelIdeal.Head

end
-- ==== Proof.Ref.lean ====
/- The reference at one index: the same gated softmax sum the kernel's result is. -/
module

public import proofs.«01_k».proof.Proof.Cover
public import proofs.«01_k».proof.Proof.Gen.ReferenceIdeal.Read
public import proofs.«01_k».proof.Proof.Gen.ReferenceIdeal.Run

@[expose] public section

set_option maxRecDepth 16384

noncomputable section

namespace Cert.ReferenceIdeal.Read

open Cert.ReferenceIdeal Cert.ReferenceIdeal.Gen Idealize.ShloMosaic Cert.KernelIdeal.Head Finset

variable (x2 x3 : (⟨S4x8192x1024, .bf16⟩ : BufTy).Contents (Elt Ideal)) (x4 x5 : (⟨S4x8192x512, .bf16⟩ : BufTy).Contents (Elt Ideal))

/-- Batch row `b` of queries or keys. -/
def wide (x : (⟨S4x8192x1024, .bf16⟩ : BufTy).Contents (Elt Ideal)) (b : Fin 4) (r : Fin 8192) (e : Fin 1024) : EReal := x (ix3 b r e)

/-- Batch row `b` of values or gates. -/
def slim (x : (⟨S4x8192x512, .bf16⟩ : BufTy).Contents (Elt Ideal)) (b : Fin 4) (r : Fin 8192) (e : Fin 512) : EReal := x (ix3 b r e)

theorem row_self (q : Fin 8192) : row q.val = q := row_of_lt q.isLt

theorem head_lane (b : Fin 4) (r : Fin 8192) (h : Fin 8) (e : Fin 128) : idx_main_v0 (ix4 b r h e) = ix3 b r (lane h e) := by
  have hb := b.isLt
  have hr := r.isLt
  have hh := h.isLt
  have he := e.isLt
  funext a
  refine Fin.ext ?_
  fin_cases a
  · show (((b.val * 8192 + r.val) * 8 + h.val) * 128 + e.val) / 8388608 = b.val; omega
  · show (((b.val * 8192 + r.val) * 8 + h.val) * 128 + e.val) / 1024 % 8192 = r.val; omega
  · show (((b.val * 8192 + r.val) * 8 + h.val) * 128 + e.val) % 1024 = h.val * 128 + e.val; omega

/-- A product of a query and a key under one head. -/
theorem dots (b : Fin 4) (h : Fin 8) (q k : Fin 8192) :
    val_main_v3 (F := Ideal) x2 x3 (ix4 b h q k) = ∑ e : Fin 128, wide x2 b q (lane h e) * wide x3 b k (lane h e) := by
  refine (val_main_v3_apply x2 x3 (ix4 b h q k)).trans (Finset.sum_congr rfl fun e _ => ?_)
  have el : lidx_main_v3 (ix4 b h q k) e = ix4 b q h e := by
    funext a
    fin_cases a <;> rfl
  have er : ridx_main_v3 (ix4 b h q k) e = ix4 b k h e := by
    funext a
    fin_cases a <;> rfl
  rw [val_main_v0_apply, val_main_v1_apply, el, er]
  exact congrArg₂ (· * ·) (congrArg x2 (head_lane b q h e)) (congrArg x3 (head_lane b k h e))

theorem neg_inf : Ideal.ofBits .f32 0xFF800000#32 = (⊥ : EReal) := by simp [Ideal.ofBits, Ideal.ieee]

/-- The mask compares positions. -/
theorem mask (b : Fin 4) (h : Fin 8) (q k : Fin 8192) :
    val_main_call0_v1 (F := Ideal) (ix4 b h q k) = BitVec.ofBool (decide (k.val ≤ q.val)) := by
  rw [val_main_call0_v1_apply, val_main_v9_apply, val_main_v7_apply, val_main_v8_apply, val_main_v5_apply, val_main_v6_apply,
    val_main_v4_apply, val_main_v4_apply]
  show BitVec.ofBool ((BitVec.ofNat 32 k.val).sle (BitVec.ofNat 32 q.val)) = _
  have hk := k.isLt
  have hq := q.isLt
  congr 1
  rw [BitVec.sle_eq_decide]
  refine decide_eq_decide.2 ?_
  rw [BitVec.toInt_eq_toNat_of_lt (by rw [BitVec.toNat_ofNat, Nat.mod_eq_of_lt] <;> omega),
    BitVec.toInt_eq_toNat_of_lt (by rw [BitVec.toNat_ofNat, Nat.mod_eq_of_lt] <;> omega), BitVec.toNat_ofNat, BitVec.toNat_ofNat,
    Nat.mod_eq_of_lt (by omega), Nat.mod_eq_of_lt (by omega)]
  exact Int.ofNat_le

/-- The masked score. -/
theorem masked_score (b : Fin 4) (h : Fin 8) (q k : Fin 8192) :
    val_main_v10 (F := Ideal) x2 x3 (ix4 b h q k) = score (wide x2 b) (wide x3 b) h q.val k.val := by
  rw [val_main_v10_apply, mask, dots]
  unfold score
  by_cases hk : k.val ≤ q.val
  · rw [if_pos hk, row_self, row_self, decide_eq_true hk]
    rfl
  · rw [if_neg hk, decide_eq_false hk]
    exact neg_inf

theorem sup_range (f : ℕ → EReal) : (Finset.univ : Finset (Fin 8192)).sup (fun k => f k.val) = (range 8192).sup f := by
  refine le_antisymm (Finset.sup_le fun k _ => Finset.le_sup (f := f) (mem_range.2 k.isLt)) (Finset.sup_le fun k hk => ?_)
  exact Finset.le_sup (f := fun k : Fin 8192 => f k.val) (mem_univ (⟨k, mem_range.1 hk⟩ : Fin 8192))

/-- The largest score of a query. -/
theorem largest (b : Fin 4) (h : Fin 8) (q : Fin 8192) :
    val_main_v11 (F := Ideal) x2 x3 (ix3 b h q) = (range 8192).sup (score (wide x2 b) (wide x3 b) h q.val) := by
  have hr : S4x8x8192x8192.Reduces [3] S4x8x8192 := by decide
  unfold val_main_v11
  rw [Host.reduce_eq_fold_single FloatOps.maximumf _ _ reducesTo_S4x8x8192x8192_S4x8x8192_d3 hr h_S_]
  rw [← sup_range]
  have e : (val_main_v10 (F := Ideal) x2 x3) ∘ hr.lift (ix3 b h q)
      = fun k : Fin 8192 => score (wide x2 b) (wide x3 b) h q.val k.val := by
    funext k
    refine Eq.trans (congrArg (val_main_v10 (F := Ideal) x2 x3) ?_) (masked_score x2 x3 b h q k)
    funext a
    refine Fin.ext ?_
    fin_cases a <;> rfl
  have i : val_main_cst_0 (F := Ideal) (Shape.Idx.first h_S_) = (⊥ : EReal) := neg_inf
  rw [i]
  exact congrArg (fun f => Finset.fold max (⊥ : EReal) f (Finset.univ : Finset (Fin 8192))) e

theorem largest' (b : Fin 4) (h : Fin 8) (q : Fin 8192) :
    val_main_v13 (F := Ideal) x2 x3 (ix3 b h q) = (range 8192).sup (score (wide x2 b) (wide x3 b) h q.val) := by
  rw [val_main_v13_apply, largest, val_main_v12_apply]
  have i : val_main_cst_1 (F := Ideal) (idx_main_v12 (ix3 b h q)) = (⊥ : EReal) := neg_inf
  rw [i]
  exact max_eq_right bot_le

/-- A query's weight of a key before it is divided. -/
theorem weight (b : Fin 4) (h : Fin 8) (q k : Fin 8192) :
    val_main_v17 (F := Ideal) x2 x3 (ix4 b h q k)
      = Ideal.exp (score (wide x2 b) (wide x3 b) h q.val k.val - (range 8192).sup (score (wide x2 b) (wide x3 b) h q.val)) := by
  have e : idx_main_v14 (idx_main_v15 (ix4 b h q k)) = ix3 b h q := by
    funext a
    fin_cases a <;> rfl
  rw [val_main_v17_apply, val_main_v16_apply, masked_score, val_main_v15_apply, val_main_v14_apply, e, largest']
  rfl

/-- The sum of a query's weights. -/
theorem total (b : Fin 4) (h : Fin 8) (q : Fin 8192) :
    val_main_v18 (F := Ideal) x2 x3 (ix3 b h q)
      = ∑ j ∈ range 8192, Ideal.exp (score (wide x2 b) (wide x3 b) h q.val j - (range 8192).sup (score (wide x2 b) (wide x3 b) h q.val)) := by
  rw [val_main_v18_apply, Finset.sum_range]
  have z : val_main_cst_2 (F := Ideal) (Shape.Idx.first h_S_) = (0 : EReal) := by
    rw [val_main_cst_2_apply]
    show Ideal.ofBits .f32 0x00000000#32 = 0
    simp [Ideal.ofBits, Ideal.ieee]
  rw [z, zero_add]
  refine Finset.sum_congr rfl fun k _ => Eq.trans (congrArg _ ?_) (weight x2 x3 b h q k)
  funext a
  fin_cases a <;> rfl

/-- The weight the values are summed with. -/
theorem softmax (b : Fin 4) (h : Fin 8) (q k : Fin 8192) :
    val_main_v22 (F := Ideal) x2 x3 (ix4 b h q k)
      = Ideal.div (Ideal.exp (score (wide x2 b) (wide x3 b) h q.val k.val - (range 8192).sup (score (wide x2 b) (wide x3 b) h q.val)))
          (∑ j ∈ range 8192, Ideal.exp (score (wide x2 b) (wide x3 b) h q.val j - (range 8192).sup (score (wide x2 b) (wide x3 b) h q.val))) := by
  have e : idx_main_v19 (idx_main_v20 (ix4 b h q k)) = ix3 b h q := by
    funext a
    fin_cases a <;> rfl
  rw [val_main_v22_apply, val_main_v21_apply, weight, val_main_v20_apply, val_main_v19_apply, e, total]
  rfl

/-- The value a key brings to lane `x` of the result. -/
theorem value_lane (b : Fin 4) (k : Fin 8192) (x : Fin 512) :
    x4 (idx_main_v2 (ix4 b k (headOf x) (⟨x.val % 64, Nat.mod_lt _ (by decide)⟩ : Fin 64)))
      = value (slim x4 b) (headOf x) (laneOf x) k.val := by
  have hb := b.isLt
  have hk := k.isLt
  have hx := x.isLt
  unfold value slim
  rw [row_self]
  refine congrArg x4 (funext fun a => Fin.ext ?_)
  fin_cases a
  · show (((b.val * 8192 + k.val) * 8 + x.val / 64) * 64 + x.val % 64) / 4194304 = b.val; omega
  · show (((b.val * 8192 + k.val) * 8 + x.val / 64) * 64 + x.val % 64) / 512 % 8192 = k.val; omega
  · show (((b.val * 8192 + k.val) * 8 + x.val / 64) * 64 + x.val % 64) % 512 = x.val / 64 / 2 * 128 + x.val % 128; omega

/-- The reference's result at an index. -/
theorem result_apply (b : Fin 4) (q : Fin 8192) (x : Fin 512) :
    val_main_v27 (F := Ideal) x2 x3 x4 x5 (ix3 b q x) = attend (wide x2 b) (wide x3 b) (slim x4 b) (slim x5 b) q x := by
  have hb := b.isLt
  have hq := q.isLt
  have hx := x.isLt
  have e : idx_main_v24 (idx_main_v26 (ix3 b q x)) = ix4 b (headOf x) (⟨x.val % 64, Nat.mod_lt _ (by decide)⟩ : Fin 64) q := by
    funext a
    refine Fin.ext ?_
    fin_cases a
    · show ((b.val * 8192 + q.val) * 512 + x.val) / 4194304 = b.val; omega
    · show ((b.val * 8192 + q.val) * 512 + x.val) / 64 % 8 = x.val / 64; omega
    · show ((b.val * 8192 + q.val) * 512 + x.val) % 64 = x.val % 64; omega
    · show ((b.val * 8192 + q.val) * 512 + x.val) / 512 % 8192 = q.val; omega
  have s : val_main_v26 (F := Ideal) x2 x3 x4 (ix3 b q x)
      = val_main_v23 (F := Ideal) x2 x3 x4 (ix4 b (headOf x) (⟨x.val % 64, Nat.mod_lt _ (by decide)⟩ : Fin 64) q) := by
    rw [val_main_v26_apply, val_main_v25_apply, val_main_v24_apply, e]
    rfl
  rw [val_main_v27_apply, s, val_main_v23_apply]
  unfold attend
  rw [Finset.sum_range]
  refine congrArg (· * _) (Finset.sum_congr rfl fun k _ => ?_)
  have el : lidx_main_v23 (ix4 b (headOf x) (⟨x.val % 64, Nat.mod_lt _ (by decide)⟩ : Fin 64) q) k
      = ix4 b k (headOf x) (⟨x.val % 64, Nat.mod_lt _ (by decide)⟩ : Fin 64) := by
    funext a
    fin_cases a <;> rfl
  have er : ridx_main_v23 (ix4 b (headOf x) (⟨x.val % 64, Nat.mod_lt _ (by decide)⟩ : Fin 64) q) k = ix4 b (headOf x) q k := by
    funext a
    fin_cases a <;> rfl
  rw [el, er, softmax, val_main_v2_apply, value_lane x4]

end Cert.ReferenceIdeal.Read

end
-- ==== Proof.Mix.lean ====
/- The row arithmetic the two later calls share: a residual plus a product against a weight in two halves, and the
   normalisation of a row by its root mean square. -/
module

public import Idealize.ShloMosaic.Lib.Pointwise
public import Idealize.ShloMosaic.Lib.ValueIdx
public import Idealize.ShloMosaic.PureOps.Ideal.Laws

@[expose] public section

noncomputable section

namespace Cert.Mix

open Idealize.ShloMosaic

/-- A row of the weight's upper half. -/
def lo (k : Fin 512) : Fin 1024 := ⟨k.val, by have := k.isLt; omega⟩

/-- A row of the weight's lower half. -/
def hi (k : Fin 512) : Fin 1024 := ⟨512 + k.val, by have := k.isLt; omega⟩

/-- The residual row plus the products of its two inputs with the halves of the weight. -/
def hidden (X : Fin 1024 → EReal) (A G : Fin 512 → EReal) (W : Fin 1024 → Fin 1024 → EReal) (n : Fin 1024) : EReal :=
  X n + (∑ k : Fin 512, A k * W (lo k) n) + ∑ k : Fin 512, G k * W (hi k) n

/-- The reciprocal root of a row's mean square. -/
def scale (H : Fin 1024 → EReal) : EReal :=
  Ideal.rsqrt (Ideal.div (∑ k : Fin 1024, H k * H k) (Ideal.ofBits .f32 0x44800000#32) + Ideal.ofBits .f32 0x358637BD#32)

/-- The normalised row times its weight. -/
def normed (H g : Fin 1024 → EReal) (n : Fin 1024) : EReal := H n * scale H * g n

/-- Column `j` of the `g`-th of eight groups of the wide product. -/
def col (g : Fin 8) (j : Fin 512) : Fin 4096 := ⟨g.val * 512 + j.val, by have := g.isLt; have := j.isLt; omega⟩

/-- `x` times its logistic. -/
def silu (x : EReal) : EReal := x * Ideal.logistic x

/-- The normalised row against the wide weight. -/
def wide (H g : Fin 1024 → EReal) (W : Fin 1024 → Fin 4096 → EReal) (n : Fin 4096) : EReal := ∑ k : Fin 1024, normed H g k * W k n

/-- A sum over the joined inputs is the sum over the first plus the sum over the second. -/
theorem sum_halves (f : Fin 1024 → EReal) : ∑ k : Fin 1024, f k = (∑ k : Fin 512, f (lo k)) + ∑ k : Fin 512, f (hi k) :=
  Fin.sum_univ_add (a := 512) (b := 512) f

/-- Position `(t % 16) * 512 + r` of a batch row of 16 tiles. -/
def spot (t : ℕ) (r : Fin 512) : Fin 8192 := ⟨t % 16 * 512 + r.val, by have := r.isLt; omega⟩

/-- The batch row of a point in four rows of 16 tiles. -/
def batch (t : ℕ) : Fin 4 := ⟨t / 16 % 4, Nat.mod_lt _ (by decide)⟩

end Cert.Mix

end
-- ==== Proof.Out.lean ====
/- The output projection and the last norm: what one tile of the kernel leaves, and its whole result. -/
module

public import proofs.«01_k».proof.Proof.Mix
public import proofs.«01_k».proof.Proof.Gen.Kernel3Ideal.Frame
public import Idealize.ShloMosaic.Lib.Pipeline.Value
public import Idealize.ShloMosaic.Lib.Pipeline.ValueKit

@[expose] public section

set_option maxRecDepth 16384

noncomputable section

namespace Cert.Kernel3Ideal.Out

open Idealize.ShloMosaic Cert.Kernel3Ideal.Gen Cert.Mix

/-- One tile: each row's residual sum, normalised. -/
theorem tile (v0 : Vec Ideal S1x512x1024 .f32) (v2 : Vec Ideal S1x512x512 .bf16) (v4 : Vec Ideal S512x1024 .bf16)
    (v7 : Vec Ideal S1x512x512 .bf16) (v9 : Vec Ideal S512x1024 .bf16) (v12 : Vec Ideal S1x1024 .f32) (W : Fin 1024 → Fin 1024 → EReal)
    (h4 : ∀ k n, v4 (ix2 k n) = W (lo k) n) (h9 : ∀ k n, v9 (ix2 k n) = W (hi k) n) (r : Fin 512) (n : Fin 1024) :
    k0_pay1 v0 v2 v4 v7 v9 v12 (ix3 0 r n)
      = normed (hidden (fun j => v0 (ix3 0 r j)) (fun j => v2 (ix3 0 r j)) (fun j => v7 (ix3 0 r j)) W) (fun j => v12 (ix2 0 j)) n := by
  pointwise [k0_pay1]
  simp only [h4, h9]
  rfl

variable (m : (ℓ : Loc nD τ sig) → Buf (Elt Ideal) ℓ) (c : Dev nD)

/-- The arguments by their indices. -/
def Cs (b : Fin 4) (q : Fin 8192) (j : Fin 512) : EReal := m (c.tc.loc main_arg0) (ix3 b q j)
def As (b : Fin 4) (q : Fin 8192) (j : Fin 512) : EReal := m (c.tc.loc main_arg1) (ix3 b q j)
def Hs (b : Fin 4) (q : Fin 8192) (j : Fin 1024) : EReal := m (c.tc.loc main_arg2) (ix3 b q j)
def Ws (k n : Fin 1024) : EReal := m (c.tc.loc main_arg3) (ix2 k n)
def gs (n : Fin 1024) : EReal := m (c.tc.loc main_arg4) (ix2 0 n)

theorem index_0 : ∀ t : Fin cfg0.N, (cfg0.win (0 : Fin 6)).index t = ![t.val / 16 % 4, t.val % 16, 0] := by decide +kernel

theorem iblk_0 (t : Fin cfg0.N) (r : Fin 512) (e : Fin 512) : iblk m c (0 : Fin 6) t (ix3 0 r e) = Cs m c (batch t.val) (spot t.val r) e := by
  refine congrArg (m (c.tc.loc main_arg0)) (funext fun a => Fin.ext ?_)
  fin_cases a
  · show (cfg0.win (0 : Fin 6)).index t 0 * 1 + 1 * 0 = t.val / 16 % 4
    rw [index_0 t]
    show t.val / 16 % 4 * 1 + 1 * 0 = _
    omega
  · show (cfg0.win (0 : Fin 6)).index t 1 * 512 + 1 * r.val = t.val % 16 * 512 + r.val
    rw [index_0 t]
    show t.val % 16 * 512 + 1 * r.val = _
    omega
  · show (cfg0.win (0 : Fin 6)).index t 2 * 512 + 1 * e.val = e.val
    rw [index_0 t]
    show 0 * 512 + 1 * e.val = _
    omega

theorem index_1 : ∀ t : Fin cfg0.N, (cfg0.win (1 : Fin 6)).index t = ![t.val / 16 % 4, t.val % 16, 0] := by decide +kernel

theorem iblk_1 (t : Fin cfg0.N) (r : Fin 512) (e : Fin 512) : iblk m c (1 : Fin 6) t (ix3 0 r e) = As m c (batch t.val) (spot t.val r) e := by
  refine congrArg (m (c.tc.loc main_arg1)) (funext fun a => Fin.ext ?_)
  fin_cases a
  · show (cfg0.win (1 : Fin 6)).index t 0 * 1 + 1 * 0 = t.val / 16 % 4
    rw [index_1 t]
    show t.val / 16 % 4 * 1 + 1 * 0 = _
    omega
  · show (cfg0.win (1 : Fin 6)).index t 1 * 512 + 1 * r.val = t.val % 16 * 512 + r.val
    rw [index_1 t]
    show t.val % 16 * 512 + 1 * r.val = _
    omega
  · show (cfg0.win (1 : Fin 6)).index t 2 * 512 + 1 * e.val = e.val
    rw [index_1 t]
    show 0 * 512 + 1 * e.val = _
    omega

theorem index_2 : ∀ t : Fin cfg0.N, (cfg0.win (2 : Fin 6)).index t = ![t.val / 16 % 4, t.val % 16, 0] := by decide +kernel

theorem iblk_2 (t : Fin cfg0.N) (r : Fin 512) (e : Fin 1024) : iblk m c (2 : Fin 6) t (ix3 0 r e) = Hs m c (batch t.val) (spot t.val r) e := by
  refine congrArg (m (c.tc.loc main_arg2)) (funext fun a => Fin.ext ?_)
  fin_cases a
  · show (cfg0.win (2 : Fin 6)).index t 0 * 1 + 1 * 0 = t.val / 16 % 4
    rw [index_2 t]
    show t.val / 16 % 4 * 1 + 1 * 0 = _
    omega
  · show (cfg0.win (2 : Fin 6)).index t 1 * 512 + 1 * r.val = t.val % 16 * 512 + r.val
    rw [index_2 t]
    show t.val % 16 * 512 + 1 * r.val = _
    omega
  · show (cfg0.win (2 : Fin 6)).index t 2 * 1024 + 1 * e.val = e.val
    rw [index_2 t]
    show 0 * 1024 + 1 * e.val = _
    omega

theorem index_3 : ∀ t : Fin cfg0.N, (cfg0.win (3 : Fin 6)).index t = ![0, 0] := by decide +kernel

theorem iblk_3 (t : Fin cfg0.N) (k n : Fin 1024) : iblk m c (3 : Fin 6) t (ix2 k n) = Ws m c k n := by
  refine congrArg (m (c.tc.loc main_arg3)) (funext fun a => Fin.ext ?_)
  fin_cases a
  · show (cfg0.win (3 : Fin 6)).index t 0 * 1024 + 1 * k.val = k.val
    rw [index_3 t]
    show 0 * 1024 + 1 * k.val = _
    omega
  · show (cfg0.win (3 : Fin 6)).index t 1 * 1024 + 1 * n.val = n.val
    rw [index_3 t]
    show 0 * 1024 + 1 * n.val = _
    omega

theorem index_4 : ∀ t : Fin cfg0.N, (cfg0.win (4 : Fin 6)).index t = ![0, 0] := by decide +kernel

theorem iblk_4 (t : Fin cfg0.N) (n : Fin 1024) : iblk m c (4 : Fin 6) t (ix2 0 n) = gs m c n := by
  refine congrArg (m (c.tc.loc main_arg4)) (funext fun a => Fin.ext ?_)
  fin_cases a
  · show (cfg0.win (4 : Fin 6)).index t 0 * 1 + 1 * 0 = 0
    rw [index_4 t]
    rfl
  · show (cfg0.win (4 : Fin 6)).index t 1 * 1024 + 1 * n.val = n.val
    rw [index_4 t]
    show 0 * 1024 + 1 * n.val = _
    omega

/-- The result at one index. -/
def value (b : Fin 4) (q : Fin 8192) (n : Fin 1024) : EReal :=
  normed (hidden (Hs m c b q) (Cs m c b q) (As m c b q) (Ws m c)) (gs m c) n

def result : Buf (Elt Ideal) ((c.tc : Thread nD τ).loc main_v0) := fun i => value m c (i 0) (i 1) (i 2)

theorem block_value (t : Fin cfg0.N) (r : Fin 512) (n : Fin 1024) :
    (dats m 0 c).after (5 : Fin 6) t (ix3 0 r n) = value m c (batch t.val) (spot t.val r) n := by
  have e : (dats m 0 c).after (5 : Fin 6) t = out0_5 (iblk m c 0 t) (iblk m c 1 t) (iblk m c 2 t) (iblk m c 3 t) (iblk m c 4 t) :=
    after0_5 m c t
  rw [e]
  unfold out0_5
  rw [View.canon_cons_unit_lit _ _ _ fun a => by fin_cases a <;> rfl]
  refine (tile _ _ _ _ _ _ (Ws m c) (fun k n => ?_) (fun k n => ?_) r n).trans ?_
  · exact (congrArg (iblk m c (3 : Fin 6) t) (funext fun a => Fin.ext (by fin_cases a <;> simp [lo]))).trans (iblk_3 m c t (lo k) n)
  · exact (congrArg (iblk m c (3 : Fin 6) t) (funext fun a => Fin.ext (by fin_cases a <;> simp [hi]))).trans (iblk_3 m c t (hi k) n)
  · unfold value
    rw [View.ld_unit_lit, View.ld_unit_lit, View.ld_unit_lit, View.ld_unit_lit]
    · simp only [iblk_0, iblk_1, iblk_2, iblk_4]
    all_goals
      intro a
      fin_cases a <;> rfl

theorem index_5 : ∀ t : Fin cfg0.N, (cfg0.win (5 : Fin 6)).index t = ![t.val / 16 % 4, t.val % 16, 0] := by decide +kernel

theorem place (t : Fin cfg0.N) (r : Fin 512) (e : Fin 1024) :
    ((cfg0.win (5 : Fin 6)).blk t).view.emb (ix3 (0 : Fin 1) r e) = ix3 (batch t.val) (spot t.val r) e := by
  refine funext fun a => Fin.ext ?_
  fin_cases a
  · show (cfg0.win (5 : Fin 6)).index t 0 * 1 + 1 * 0 = t.val / 16 % 4
    rw [index_5 t]
    show t.val / 16 % 4 * 1 + 1 * 0 = _
    omega
  · show (cfg0.win (5 : Fin 6)).index t 1 * 512 + 1 * r.val = t.val % 16 * 512 + r.val
    rw [index_5 t]
    show t.val % 16 * 512 + 1 * r.val = _
    omega
  · show (cfg0.win (5 : Fin 6)).index t 2 * 1024 + 1 * e.val = e.val
    rw [index_5 t]
    show 0 * 1024 + 1 * e.val = _
    omega

theorem covers : (cfg0.win (5 : Fin 6)).Covers := by decide +kernel

/-- What the run leaves in the result array. -/
theorem final : (dats m 0 c).arrAt (5 : Fin 6) cfg0.N = result m c := by
  refine (dats m 0 c).arrAt_eq_of_covers (5 : Fin 6) (result m c) covers fun t hf y => ?_
  have hy : y = ix3 (0 : Fin 1) (y 1) (y 2) := by
    refine funext fun a => ?_
    fin_cases a
    · exact Fin.ext (Nat.lt_one_iff.1 (y 0).isLt)
    · rfl
    · rfl
  refine Eq.trans (b := (dats m 0 c).after (5 : Fin 6) t (ix3 (0 : Fin 1) (y 1) (y 2))) ?_ ?_
  · exact congrArg ((dats m 0 c).after (5 : Fin 6) t) hy
  · refine (block_value m c t (y 1) (y 2)).trans (Eq.trans ?_ (congrArg (result m c) ((congrArg _ hy).trans (place t (y 1) (y 2)))).symm)
    rfl

end Cert.Kernel3Ideal.Out

end
-- ==== Proof.OutRef.lean ====
/- The plain output projection and norm at one index. -/
module

public import proofs.«01_k».proof.Proof.Mix
public import proofs.«01_k».proof.Proof.Gen.Reference3Ideal.Run
public import proofs.«01_k».proof.Proof.Gen.Reference3Ideal.Read

@[expose] public section

set_option maxRecDepth 16384

noncomputable section

namespace Cert.Reference3Ideal.Read

open Cert.Reference3Ideal Cert.Reference3Ideal.Gen Idealize.ShloMosaic Cert.Mix

variable (x0 x1 : (⟨S4x8192x512, .bf16⟩ : BufTy).Contents (Elt Ideal)) (x2 : (⟨S4x8192x1024, .f32⟩ : BufTy).Contents (Elt Ideal))
  (x3 : (⟨S1024x1024, .bf16⟩ : BufTy).Contents (Elt Ideal)) (x4 : (⟨S1x1024, .f32⟩ : BufTy).Contents (Elt Ideal))

theorem joined_lo (b : Fin 4) (q : Fin 8192) (k : Fin 512) : val_main_v0 (F := Ideal) x0 x1 (ix3 b q (lo k)) = x0 (ix3 b q k) := by
  have hk : (lo k).val < 512 := k.isLt
  pointwise [val_main_v0]
  rw [dif_pos hk]
  rfl

theorem joined_hi (b : Fin 4) (q : Fin 8192) (k : Fin 512) : val_main_v0 (F := Ideal) x0 x1 (ix3 b q (hi k)) = x1 (ix3 b q k) := by
  have hk : ¬(hi k).val < 512 := by show ¬512 + k.val < 512; omega
  pointwise [val_main_v0]
  rw [dif_neg hk]
  congr 2
  refine Fin.ext ?_
  show 512 + k.val - 512 = k.val
  omega

/-- The residual sum of a row. -/
theorem summed (b : Fin 4) (q : Fin 8192) (n : Fin 1024) :
    val_main_v2 (F := Ideal) x0 x1 x2 x3 (ix3 b q n)
      = hidden (fun j => x2 (ix3 b q j)) (fun j => x0 (ix3 b q j)) (fun j => x1 (ix3 b q j)) (fun k j => x3 (ix2 k j)) n := by
  have e : val_main_v1 (F := Ideal) x0 x1 x3 (ix3 b q n)
      = ∑ k : Fin 1024, val_main_v0 (F := Ideal) x0 x1 (ix3 b q k) * x3 (ix2 k n) := by
    refine (val_main_v1_apply x0 x1 x3 (ix3 b q n)).trans (Finset.sum_congr rfl fun k _ => ?_)
    refine congrArg₂ (· * ·) (congrArg _ ?_) (congrArg x3 ?_) <;> funext a <;> fin_cases a <;> rfl
  rw [val_main_v2_apply, e, sum_halves]
  simp only [joined_lo, joined_hi]
  exact (add_assoc _ _ _).symm

theorem sum_zero : Ideal.ofBits .f32 0x00000000#32 = (0 : EReal) := by simp [Ideal.ofBits, Ideal.ieee]

/-- The reciprocal root of the row's mean square. -/
theorem scaled (b : Fin 4) (q : Fin 8192) :
    val_main_v11 (F := Ideal) x0 x1 x2 x3 (ix3 b q 0)
      = scale (hidden (fun j => x2 (ix3 b q j)) (fun j => x0 (ix3 b q j)) (fun j => x1 (ix3 b q j)) (fun k j => x3 (ix2 k j))) := by
  have e6 : idx_main_v6 (ix3 b q 0) = ix2 b q := by
    funext a
    fin_cases a <;> rfl
  have e5 : val_main_v5 (F := Ideal) x0 x1 x2 x3 (ix2 b q)
      = ∑ k : Fin 1024, val_main_v2 (F := Ideal) x0 x1 x2 x3 (ix3 b q k) * val_main_v2 (F := Ideal) x0 x1 x2 x3 (ix3 b q k) := by
    refine (val_main_v5_apply x0 x1 x2 x3 (ix2 b q)).trans ?_
    refine Eq.trans (congrArg₂ (· + ·) sum_zero (Finset.sum_congr rfl fun k _ => ?_)) (zero_add _)
    have ek : idx_main_v5 (ix2 b q) k = ix3 b q k := by
      funext a
      fin_cases a <;> rfl
    rw [ek, val_main_v4_apply]
    rfl
  rw [val_main_v11_apply, val_main_v10_apply, val_main_v8_apply, val_main_v6_apply, e6, e5, val_main_v7_apply, val_main_v9_apply]
  simp only [summed]
  rfl

/-- The result at one index. -/
theorem result_apply (b : Fin 4) (q : Fin 8192) (n : Fin 1024) :
    val_main_v16 (F := Ideal) x0 x1 x2 x3 x4 (ix3 b q n)
      = normed (hidden (fun j => x2 (ix3 b q j)) (fun j => x0 (ix3 b q j)) (fun j => x1 (ix3 b q j)) (fun k j => x3 (ix2 k j)))
          (fun j => x4 (ix2 0 j)) n := by
  have e12 : idx_main_v12 (ix3 b q n) = ix3 b q 0 := by
    funext a
    fin_cases a <;> rfl
  have e15 : val_main_v15 (F := Ideal) x4 (ix3 b q n) = x4 (ix2 0 n) := by
    rw [val_main_v15_apply, val_main_v14_apply, val_main_v3_apply]
    refine congrArg x4 (funext fun a => Fin.ext ?_)
    fin_cases a
    · rfl
    · exact Nat.mod_eq_of_lt n.isLt
  rw [val_main_v16_apply, e15, val_main_v13_apply, summed, val_main_v12_apply, e12, scaled]
  rfl

end Cert.Reference3Ideal.Read

end
-- ==== Proof.Mid.lean ====
/- The call between the layer's two halves, on one tile: the residual sum, the normalised row against the wide weight, and
   what each store holds at an index. -/
module

public import proofs.«01_k».proof.Proof.Mix
public import proofs.«01_k».proof.Proof.Gen.Kernel2Ideal.Skeleton
public import Idealize.ShloMosaic.Lib.Pipeline.Value
public import Idealize.ShloMosaic.Lib.Pipeline.ValueKit

@[expose] public section

set_option maxRecDepth 16384

noncomputable section

namespace Cert.Kernel2Ideal.Mid

open Idealize.ShloMosaic Cert.Kernel2Ideal.Gen Cert.Mix

theorem sum_apply (v0 : Vec Ideal S1x512x1024 .f32) (v2 : Vec Ideal S1x512x512 .bf16) (v4 : Vec Ideal S512x1024 .bf16)
    (v7 : Vec Ideal S1x512x512 .bf16) (v9 : Vec Ideal S512x1024 .bf16) (W : Fin 1024 → Fin 1024 → EReal)
    (h4 : ∀ k n, v4 (ix2 k n) = W (lo k) n) (h9 : ∀ k n, v9 (ix2 k n) = W (hi k) n) (r : Fin 512) (n : Fin 1024) :
    k0_pay4 v0 v2 v4 v7 v9 (ix3 0 r n)
      = hidden (fun j => v0 (ix3 0 r j)) (fun j => v2 (ix3 0 r j)) (fun j => v7 (ix3 0 r j)) W n := by
  pointwise [k0_pay4, k0_pay3]
  simp only [h4, h9]
  rfl

theorem wide_apply (v0 : Vec Ideal S1x512x1024 .f32) (v2 : Vec Ideal S1x512x512 .bf16) (v4 : Vec Ideal S512x1024 .bf16)
    (v7 : Vec Ideal S1x512x512 .bf16) (v9 : Vec Ideal S512x1024 .bf16) (v15 : Vec Ideal S1x1024 .f32) (v16 : Vec Ideal S1024x4096 .bf16)
    (W : Fin 1024 → Fin 1024 → EReal)
    (h4 : ∀ k n, v4 (ix2 k n) = W (lo k) n) (h9 : ∀ k n, v9 (ix2 k n) = W (hi k) n) (r : Fin 512) (n : Fin 4096) :
    k0_pay5 v0 v2 v4 v7 v9 v15 v16 (ix2 r n)
      = wide (hidden (fun j => v0 (ix3 0 r j)) (fun j => v2 (ix3 0 r j)) (fun j => v7 (ix3 0 r j)) W) (fun j => v15 (ix2 0 j))
          (fun k j => v16 (ix2 k j)) n := by
  pointwise [k0_pay5, k0_pay3]
  simp only [h4, h9]
  rfl

variable (p : FVec Ideal S512x4096 .f32)

/-- The product the short convolution runs over, at a row of the tile. -/
def gated (r j : Fin 512) : EReal := p (ix2 r (col 2 j)) * p (ix2 r (col 0 j))

theorem col_zero (j : Fin 512) (h : j.val < 4096) : (⟨j.val, h⟩ : Fin 4096) = col 0 j := Fin.ext (by simp [col])

theorem gated_apply (r j : Fin 512) : k0_pay8 p (ix2 r j) = gated p r j := by
  pointwise [k0_pay8, k0_pay6]
  rw [col_zero]
  rfl

theorem mixed_apply (w : Vec Ideal S3x512 .f32) (u v : Vec Ideal S512x512 .f32) (r j : Fin 512) :
    k0_pay12 (k0_pay11 p w u v) (ix3 0 r j)
      = p (ix2 r (col 1 j)) * (w (ix2 0 j) * u (ix2 r j) + w (ix2 1 j) * v (ix2 r j) + w (ix2 2 j) * gated p r j)
        * silu (p (ix2 r (col 3 j))) := by
  pointwise [k0_pay12, k0_pay11, k0_pay6]
  rw [col_zero]
  rfl

theorem query_apply (r j : Fin 512) : k0_pay13 p (ix3 0 r j) = p (ix2 r (col 4 j)) * Ideal.ofBits .f32 0x3E000000#32 := by
  pointwise [k0_pay13]
  rfl

theorem key_apply (r j : Fin 512) : k0_pay16 p (ix3 0 r j) = p (ix2 r (col 5 j)) := by
  pointwise [k0_pay16, k0_pay14]
  rfl

theorem key_apply' (r j : Fin 512) : k0_pay18 p (ix3 0 r j) = p (ix2 r (col 5 j)) := by
  pointwise [k0_pay18, k0_pay14]
  rfl

theorem value_apply (r j : Fin 512) : k0_pay17 p (ix3 0 r j) = p (ix2 r (col 6 j)) := by
  pointwise [k0_pay17, k0_pay15]
  rfl

theorem value_apply' (r j : Fin 512) : k0_pay19 p (ix3 0 r j) = p (ix2 r (col 6 j)) := by
  pointwise [k0_pay19, k0_pay15]
  rfl

theorem gate_apply (r j : Fin 512) : k0_pay20 p (ix3 0 r j) = silu (p (ix2 r (col 7 j))) := by
  pointwise [k0_pay20]
  rfl

/-- Row `r` of the first or the second half of a tile. -/
def halfRow (d : Fin 2) (r : Fin 256) : Fin 512 := ⟨d.val * 256 + r.val, by have := d.isLt; have := r.isLt; omega⟩

theorem mean_first (j : Fin 512) :
    k0_pay1 (k0_pay14 p) (ix4 0 0 0 j) = (∑ r : Fin 256, p (ix2 (halfRow 0 r) (col 5 j))) * Ideal.ofBits .f32 0x3B800000#32 := by
  pointwise [k0_pay1, k0_pay14]
  rfl

theorem mean_second (j : Fin 512) :
    k0_pay2 (k0_pay14 p) (ix4 0 0 0 j) = (∑ r : Fin 256, p (ix2 (halfRow 1 r) (col 5 j))) * Ideal.ofBits .f32 0x3B800000#32 := by
  pointwise [k0_pay2, k0_pay14]
  rfl

theorem tail_apply (v : Vec Ideal S8x512 .f32) (d : Fin 2) (j : Fin 512) :
    k0_pay10 v (ix3 0 d j) = v (ix2 ⟨6 + d.val, by have := d.isLt; omega⟩ j) := by
  pointwise [k0_pay10]

theorem kept_apply (v : Vec Ideal S8x512 .f32) (r : Fin 8) (j : Fin 512) : k0_pay9 v (ix2 r j) = v (ix2 r j) := by
  pointwise [k0_pay9]

theorem zero_apply (r : Fin 8) (j : Fin 512) : k0_pay7 (F := Ideal) (ix2 r j) = 0 := by
  pointwise [k0_pay7]

end Cert.Kernel2Ideal.Mid

end
-- ==== Proof.MidRuns.lean ====
/- What a point of the middle call leaves in each of its windows, from the blocks it reads and the rows it kept. -/
module

public import proofs.«01_k».proof.Proof.Mid
public import proofs.«01_k».proof.Proof.Gen.Kernel2Ideal.Frame
public import Idealize.ShloMosaic.Lib.VecWindow

@[expose] public section

set_option maxRecDepth 16384

noncomputable section

namespace Cert.Kernel2Ideal.Mid

open Idealize.ShloMosaic Cert.Kernel2Ideal.Gen Cert.Mix

/-- The residual sum of a tile's row. -/
def tileH (x0 x1 : Vec Ideal S1x512x512 .bf16) (x2 : Vec Ideal S1x512x1024 .f32) (x3 : Vec Ideal S1024x1024 .bf16) (r : Fin 512) (n : Fin 1024) : EReal :=
  hidden (fun j => x2 (ix3 0 r j)) (fun j => x0 (ix3 0 r j)) (fun j => x1 (ix3 0 r j)) (fun k n => x3 (ix2 k n)) n

/-- The wide product of a tile's row. -/
def tileZ (x0 x1 : Vec Ideal S1x512x512 .bf16) (x2 : Vec Ideal S1x512x1024 .f32) (x3 : Vec Ideal S1024x1024 .bf16) (x4 : Vec Ideal S1x1024 .f32)
    (x5 : Vec Ideal S1024x4096 .bf16) (r : Fin 512) (n : Fin 4096) : EReal :=
  wide (tileH x0 x1 x2 x3 r) (fun j => x4 (ix2 0 j)) (fun k j => x5 (ix2 k j)) n

/-- The product the convolution runs over, of a tile's row. -/
def tileP (x0 x1 : Vec Ideal S1x512x512 .bf16) (x2 : Vec Ideal S1x512x1024 .f32) (x3 : Vec Ideal S1024x1024 .bf16) (x4 : Vec Ideal S1x1024 .f32)
    (x5 : Vec Ideal S1024x4096 .bf16) (r j : Fin 512) : EReal :=
  tileZ x0 x1 x2 x3 x4 x5 r (col 2 j) * tileZ x0 x1 x2 x3 x4 x5 r (col 0 j)

/-- Row `r` looked up `d` rows earlier: in the tile, or among the eight rows kept from before it. -/
def back (d : ℕ) (kept : Fin 8 → Fin 512 → EReal) (P : Fin 512 → Fin 512 → EReal) (r j : Fin 512) : EReal :=
  if h : d ≤ r.val then P ⟨r.val - d, by have := r.isLt; omega⟩ j else kept ⟨8 + r.val - d, by omega⟩ j

theorem fresh {κ : Kind} {sp : Space} (v : View sig κ sp S520x512 .f32) (f : v.ty.Contents (Elt Ideal)) (p : FVec Ideal S512x4096 .f32) L
    (inb : ∀ a : Fin 2, ![8, 0] a + ![512, 512] a ≤ S520x512.size a) (y : S520x512.Idx) (r j : Fin 512)
    (h0 : (y 0).val = 8 + r.val) (h1 : (y 1).val = j.val) :
    v.read (Elt Ideal) (v.writes (Elt Ideal) f (⟨Rect.unit ![8, 0] ![512, 512] inb, k0_pay8 p⟩ :: L)) y = gated p r j :=
  (View.read_writes_cons_rows_of_mem v f inb (k0_pay8 p) L y (ix2 r j) rfl h0 h1).trans (gated_apply p r j)

theorem stale {κ : Kind} {sp : Space} (v : View sig κ sp S520x512 .f32) (f : v.ty.Contents (Elt Ideal)) (p : FVec Ideal S512x4096 .f32) L
    (inb : ∀ a : Fin 2, ![8, 0] a + ![512, 512] a ≤ S520x512.size a) (y : S520x512.Idx) (h : (y 0).val < 8) :
    v.read (Elt Ideal) (v.writes (Elt Ideal) f (⟨Rect.unit ![8, 0] ![512, 512] inb, k0_pay8 p⟩ :: L)) y
      = v.read (Elt Ideal) (v.writes (Elt Ideal) f L) y :=
  View.read_writes_cons_rows_of_not_mem v f inb (k0_pay8 p) L y rfl (W := 512) rfl (Or.inl h)

theorem topmost {κ : Kind} {sp : Space} (v : View sig κ sp S520x512 .f32) (f : v.ty.Contents (Elt Ideal)) (w : FVec Ideal S8x512 .f32) L
    (inb : ∀ a : Fin 2, ![0, 0] a + ![8, 512] a ≤ S520x512.size a) (y : S520x512.Idx) (k : Fin 8) (j : Fin 512)
    (h0 : (y 0).val = k.val) (h1 : (y 1).val = j.val) :
    v.read (Elt Ideal) (v.writes (Elt Ideal) f (⟨Rect.unit ![0, 0] ![8, 512] inb, w⟩ :: L)) y = w (ix2 k j) :=
  View.read_writes_cons_rows_of_mem v f inb w L y (ix2 k j) rfl (h0.trans (Nat.zero_add _).symm) h1

theorem looked_A {κ : Kind} {sp : Space} (v : View sig κ sp S520x512 .f32) (f : v.ty.Contents (Elt Ideal)) (p : FVec Ideal S512x4096 .f32)
    (inb : ∀ a : Fin 2, ![8, 0] a + ![512, 512] a ≤ S520x512.size a) (inb0 : ∀ a : Fin 2, ![0, 0] a + ![8, 512] a ≤ S520x512.size a)
    (d : ℕ) (hd : d ≤ 8) (y : S520x512.Idx) (r j : Fin 512) (h0 : (y 0).val = 8 - d + r.val) (h1 : (y 1).val = j.val) :
    v.read (Elt Ideal) (v.writes (Elt Ideal) f [⟨Rect.unit ![8, 0] ![512, 512] inb, k0_pay8 p⟩, ⟨Rect.unit ![0, 0] ![8, 512] inb0, k0_pay7 (F := Ideal)⟩]) y
      = back d (fun _ _ => 0) (gated p) r j := by
  unfold back
  split
  · exact fresh v f p _ inb y _ j (by show _ = 8 + (r.val - d); omega) h1
  · refine (stale v f p _ inb y (by omega)).trans ?_
    exact (View.read_writes_cons_rows_of_mem v f inb0 (k0_pay7 (F := Ideal)) [] y (ix2 ⟨8 - d + r.val, by omega⟩ j) rfl
      (by show _ = 0 + (8 - d + r.val); omega) h1).trans (zero_apply _ _)

theorem looked_B {κ : Kind} {sp : Space} (v : View sig κ sp S520x512 .f32) (f : v.ty.Contents (Elt Ideal)) (p : FVec Ideal S512x4096 .f32)
    (xs : Vec Ideal S520x512 .f32) (hx : v.read (Elt Ideal) f = xs)
    (inb : ∀ a : Fin 2, ![8, 0] a + ![512, 512] a ≤ S520x512.size a)
    (d : ℕ) (hd : d ≤ 8) (y : S520x512.Idx) (r j : Fin 512) (h0 : (y 0).val = 8 - d + r.val) (h1 : (y 1).val = j.val) :
    v.read (Elt Ideal) (v.writes (Elt Ideal) f [⟨Rect.unit ![8, 0] ![512, 512] inb, k0_pay8 p⟩]) y
      = back d (fun i j => xs (ix2 ⟨i.val, by have := i.isLt; omega⟩ j)) (gated p) r j := by
  unfold back
  split
  · exact fresh v f p _ inb y _ j (by show _ = 8 + (r.val - d); omega) h1
  · refine (stale v f p _ inb y (by omega)).trans ?_
    show v.read (Elt Ideal) f y = _
    rw [hx]
    refine congrArg xs (funext fun a => Fin.ext ?_)
    fin_cases a
    · show (y 0).val = 8 + r.val - d
      omega
    · exact h1

theorem rows_A (c : Dev nD) a2 h2 a3 h3 a4 h4 a5 h5 a6 h6 a7 h7 x0 x1 x2 x3 x4 x5 (r : Fin 512) (n : Fin 4096) :
    kernelRun0_A.sl.r (F := Ideal) c a2 h2 a3 h3 a4 h4 a5 h5 a6 h6 a7 h7 x0 x1 x2 x3 x4 x5 (ix2 r n) = tileZ x0 x1 x2 x3 x4 x5 r n := by
  unfold kernelRun0_A.sl.r
  simp only [View.readAt_eq_ld, Memref.IsWhole.read_unread]
  refine (wide_apply _ _ _ _ _ _ _ (fun k n => x3 (ix2 k n)) (fun k n => ?_) (fun k n => ?_) r n).trans ?_
  · exact congrArg x3 (funext fun a => Fin.ext (by fin_cases a <;> simp [lo]))
  · exact congrArg x3 (funext fun a => Fin.ext (by fin_cases a <;> simp [hi]))
  · rw [View.ld_unit_lit, View.ld_unit_lit, View.ld_unit_lit, View.ld_unit_lit, View.ld_unit_lit]
    · rfl
    all_goals
      intro a
      fin_cases a <;> rfl

theorem rows_B (c : Dev nD) a2 h2 a3 h3 a4 h4 a5 h5 a6 h6 a7 h7 x0 x1 x2 x3 x4 x5 (r : Fin 512) (n : Fin 4096) :
    kernelRun0_B.sl.r (F := Ideal) c a2 h2 a3 h3 a4 h4 a5 h5 a6 h6 a7 h7 x0 x1 x2 x3 x4 x5 (ix2 r n) = tileZ x0 x1 x2 x3 x4 x5 r n := by
  unfold kernelRun0_B.sl.r
  simp only [View.readAt_eq_ld, Memref.IsWhole.read_unread]
  refine (wide_apply _ _ _ _ _ _ _ (fun k n => x3 (ix2 k n)) (fun k n => ?_) (fun k n => ?_) r n).trans ?_
  · exact congrArg x3 (funext fun a => Fin.ext (by fin_cases a <;> simp [lo]))
  · exact congrArg x3 (funext fun a => Fin.ext (by fin_cases a <;> simp [hi]))
  · rw [View.ld_unit_lit, View.ld_unit_lit, View.ld_unit_lit, View.ld_unit_lit, View.ld_unit_lit]
    · rfl
    all_goals
      intro a
      fin_cases a <;> rfl

theorem out_A_7 (c : Dev nD) i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 (r : Fin 512) (n : Fin 1024) :
    out0_A_7 (F := Ideal) c i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 (ix3 0 r n) = tileH x0 x1 x2 x3 r n := by
  unfold out0_A_7 kernelRun0_A
  dsimp only
  refine (congrFun (View.read_writes_full _ _ _ _ _) _).trans ?_
  simp only [View.readAt_eq_ld, Memref.IsWhole.read_unread]
  refine (sum_apply _ _ _ _ _ (fun k n => x3 (ix2 k n)) (fun k n => ?_) (fun k n => ?_) r n).trans ?_
  · exact congrArg x3 (funext fun a => Fin.ext (by fin_cases a <;> simp [lo]))
  · exact congrArg x3 (funext fun a => Fin.ext (by fin_cases a <;> simp [hi]))
  · rw [View.ld_unit_lit, View.ld_unit_lit, View.ld_unit_lit]
    · rfl
    all_goals
      intro a
      fin_cases a <;> rfl

theorem out_A_9 (c : Dev nD) i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 (r j : Fin 512) :
    out0_A_9 (F := Ideal) c i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 (ix3 0 r j) = tileZ x0 x1 x2 x3 x4 x5 r (col 4 j) * Ideal.ofBits .f32 0x3E000000#32 := by
  unfold out0_A_9 kernelRun0_A
  dsimp only
  refine (congrFun (View.read_writes_full _ _ _ _ _) _).trans ?_
  rw [query_apply, rows_A]

theorem out_A_10 (c : Dev nD) i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 (r j : Fin 512) :
    out0_A_10 (F := Ideal) c i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 (ix3 0 r j) = tileZ x0 x1 x2 x3 x4 x5 r (col 5 j) := by
  unfold out0_A_10 kernelRun0_A
  dsimp only
  refine (congrFun (View.read_writes_full _ _ _ _ _) _).trans ?_
  rw [key_apply', rows_A]

theorem out_A_11 (c : Dev nD) i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 (r j : Fin 512) :
    out0_A_11 (F := Ideal) c i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 (ix3 0 r j) = tileZ x0 x1 x2 x3 x4 x5 r (col 6 j) := by
  unfold out0_A_11 kernelRun0_A
  dsimp only
  refine (congrFun (View.read_writes_full _ _ _ _ _) _).trans ?_
  rw [value_apply', rows_A]

theorem out_A_12 (c : Dev nD) i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 (r j : Fin 512) :
    out0_A_12 (F := Ideal) c i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 (ix3 0 r j) = silu (tileZ x0 x1 x2 x3 x4 x5 r (col 7 j)) := by
  unfold out0_A_12 kernelRun0_A
  dsimp only
  refine (congrFun (View.read_writes_full _ _ _ _ _) _).trans ?_
  unfold kernelRun0_A.sl.r_3
  rw [gate_apply, rows_A]

theorem out_A_13 (c : Dev nD) i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 (r j : Fin 512) :
    out0_A_13 (F := Ideal) c i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 (ix3 0 r j) = tileZ x0 x1 x2 x3 x4 x5 r (col 5 j) := by
  unfold out0_A_13 kernelRun0_A
  dsimp only
  refine (congrFun (View.read_writes_full _ _ _ _ _) _).trans ?_
  rw [key_apply, rows_A]

theorem out_A_14 (c : Dev nD) i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 (r j : Fin 512) :
    out0_A_14 (F := Ideal) c i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 (ix3 0 r j) = tileZ x0 x1 x2 x3 x4 x5 r (col 6 j) := by
  unfold out0_A_14 kernelRun0_A
  dsimp only
  refine (congrFun (View.read_writes_full _ _ _ _ _) _).trans ?_
  rw [value_apply, rows_A]

theorem out_A_15 (c : Dev nD) i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 (d : Fin 2) (j : Fin 512) :
    out0_A_15 (F := Ideal) c i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 (ix4 0 d 0 j)
      = (∑ r : Fin 256, tileZ x0 x1 x2 x3 x4 x5 (halfRow d r) (col 5 j)) * Ideal.ofBits .f32 0x3B800000#32 := by
  unfold out0_A_15 kernelRun0_A
  dsimp only
  fin_cases d
  · refine (View.read_writes_cons_unit_of_not_mem _ _ _ _ _ _ rfl (1 : Fin 4) (Or.inl (by simp))).trans ?_
    refine (View.read_writes_cons_unit_of_mem _ _ _ _ _ _ (ix4 0 0 0 j) rfl (fun a => by fin_cases a <;> simp)).trans ?_
    unfold kernelRun0_A.sl.r_2
    rw [mean_first]
    simp only [rows_A]
    rfl
  · refine (View.read_writes_cons_unit_of_mem _ _ _ _ _ _ (ix4 0 0 0 j) rfl (fun a => by fin_cases a <;> simp)).trans ?_
    unfold kernelRun0_A.sl.r_2
    rw [mean_second]
    simp only [rows_A]
    rfl

theorem out_B_7 (c : Dev nD) i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 xs (r : Fin 512) (n : Fin 1024) :
    out0_B_7 (F := Ideal) c i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 xs (ix3 0 r n) = tileH x0 x1 x2 x3 r n := by
  unfold out0_B_7 kernelRun0_B
  dsimp only
  refine (congrFun (View.read_writes_full _ _ _ _ _) _).trans ?_
  simp only [View.readAt_eq_ld, Memref.IsWhole.read_unread]
  refine (sum_apply _ _ _ _ _ (fun k n => x3 (ix2 k n)) (fun k n => ?_) (fun k n => ?_) r n).trans ?_
  · exact congrArg x3 (funext fun a => Fin.ext (by fin_cases a <;> simp [lo]))
  · exact congrArg x3 (funext fun a => Fin.ext (by fin_cases a <;> simp [hi]))
  · rw [View.ld_unit_lit, View.ld_unit_lit, View.ld_unit_lit]
    · rfl
    all_goals
      intro a
      fin_cases a <;> rfl

theorem out_B_9 (c : Dev nD) i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 xs (r j : Fin 512) :
    out0_B_9 (F := Ideal) c i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 xs (ix3 0 r j) = tileZ x0 x1 x2 x3 x4 x5 r (col 4 j) * Ideal.ofBits .f32 0x3E000000#32 := by
  unfold out0_B_9 kernelRun0_B
  dsimp only
  refine (congrFun (View.read_writes_full _ _ _ _ _) _).trans ?_
  rw [query_apply, rows_B]

theorem out_B_10 (c : Dev nD) i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 xs (r j : Fin 512) :
    out0_B_10 (F := Ideal) c i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 xs (ix3 0 r j) = tileZ x0 x1 x2 x3 x4 x5 r (col 5 j) := by
  unfold out0_B_10 kernelRun0_B
  dsimp only
  refine (congrFun (View.read_writes_full _ _ _ _ _) _).trans ?_
  rw [key_apply', rows_B]

theorem out_B_11 (c : Dev nD) i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 xs (r j : Fin 512) :
    out0_B_11 (F := Ideal) c i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 xs (ix3 0 r j) = tileZ x0 x1 x2 x3 x4 x5 r (col 6 j) := by
  unfold out0_B_11 kernelRun0_B
  dsimp only
  refine (congrFun (View.read_writes_full _ _ _ _ _) _).trans ?_
  rw [value_apply', rows_B]

theorem out_B_12 (c : Dev nD) i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 xs (r j : Fin 512) :
    out0_B_12 (F := Ideal) c i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 xs (ix3 0 r j) = silu (tileZ x0 x1 x2 x3 x4 x5 r (col 7 j)) := by
  unfold out0_B_12 kernelRun0_B
  dsimp only
  refine (congrFun (View.read_writes_full _ _ _ _ _) _).trans ?_
  unfold kernelRun0_B.sl.r_3
  rw [gate_apply, rows_B]

theorem out_B_13 (c : Dev nD) i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 xs (r j : Fin 512) :
    out0_B_13 (F := Ideal) c i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 xs (ix3 0 r j) = tileZ x0 x1 x2 x3 x4 x5 r (col 5 j) := by
  unfold out0_B_13 kernelRun0_B
  dsimp only
  refine (congrFun (View.read_writes_full _ _ _ _ _) _).trans ?_
  rw [key_apply, rows_B]

theorem out_B_14 (c : Dev nD) i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 xs (r j : Fin 512) :
    out0_B_14 (F := Ideal) c i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 xs (ix3 0 r j) = tileZ x0 x1 x2 x3 x4 x5 r (col 6 j) := by
  unfold out0_B_14 kernelRun0_B
  dsimp only
  refine (congrFun (View.read_writes_full _ _ _ _ _) _).trans ?_
  rw [value_apply, rows_B]

theorem out_B_15 (c : Dev nD) i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 xs (d : Fin 2) (j : Fin 512) :
    out0_B_15 (F := Ideal) c i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 xs (ix4 0 d 0 j)
      = (∑ r : Fin 256, tileZ x0 x1 x2 x3 x4 x5 (halfRow d r) (col 5 j)) * Ideal.ofBits .f32 0x3B800000#32 := by
  unfold out0_B_15 kernelRun0_B
  dsimp only
  fin_cases d
  · refine (View.read_writes_cons_unit_of_not_mem _ _ _ _ _ _ rfl (1 : Fin 4) (Or.inl (by simp))).trans ?_
    refine (View.read_writes_cons_unit_of_mem _ _ _ _ _ _ (ix4 0 0 0 j) rfl (fun a => by fin_cases a <;> simp)).trans ?_
    unfold kernelRun0_B.sl.r_2
    rw [mean_first]
    simp only [rows_B]
    rfl
  · refine (View.read_writes_cons_unit_of_mem _ _ _ _ _ _ (ix4 0 0 0 j) rfl (fun a => by fin_cases a <;> simp)).trans ?_
    unfold kernelRun0_B.sl.r_2
    rw [mean_second]
    simp only [rows_B]
    rfl

theorem gated_A (c : Dev nD) a2 h2 a3 h3 a4 h4 a5 h5 a6 h6 a7 h7 x0 x1 x2 x3 x4 x5 : gated (kernelRun0_A.sl.r (F := Ideal) c a2 h2 a3 h3 a4 h4 a5 h5 a6 h6 a7 h7 x0 x1 x2 x3 x4 x5) = tileP x0 x1 x2 x3 x4 x5 := by
  funext r j
  unfold gated
  rw [rows_A, rows_A]
  rfl

theorem out_A_8 (c : Dev nD) i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 (r j : Fin 512) :
    out0_A_8 (F := Ideal) c i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 (ix3 0 r j)
      = tileZ x0 x1 x2 x3 x4 x5 r (col 1 j) * (x6 (ix2 0 j) * back 2 (fun _ _ => 0) (tileP x0 x1 x2 x3 x4 x5) r j + x6 (ix2 1 j) * back 1 (fun _ _ => 0) (tileP x0 x1 x2 x3 x4 x5) r j + x6 (ix2 2 j) * tileP x0 x1 x2 x3 x4 x5 r j)
        * silu (tileZ x0 x1 x2 x3 x4 x5 r (col 3 j)) := by
  unfold out0_A_8 kernelRun0_A
  dsimp only
  refine (congrFun (View.read_writes_full _ _ _ _ _) _).trans ?_
  unfold kernelRun0_A.sl.r_1
  refine (mixed_apply _ _ _ _ r j).trans ?_
  simp only [View.readAt_eq_ld, Memref.IsWhole.read_unread]
  rw [← gated_A c a2 h2 a3 h3 a4 h4 a5 h5 a6 h6 a7 h7, rows_A, rows_A]
  rw [View.ld_unit_lit]
  · refine congrArg (_ * · * _) (congrArg₂ (· + ·) (congrArg₂ (· + ·) (congrArg (_ * ·) ?_) (congrArg (_ * ·) ?_)) rfl)
    · exact looked_A _ _ _ _ _ 2 (by decide) _ r j (by show 6 + 1 * r.val = _; omega) (by show 0 + 1 * j.val = _; omega)
    · exact looked_A _ _ _ _ _ 1 (by decide) _ r j (by show 7 + 1 * r.val = _; omega) (by show 0 + 1 * j.val = _; omega)
  · intro a
    fin_cases a <;> rfl

theorem out_A_16 (c : Dev nD) i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 (d : Fin 2) (j : Fin 512) :
    out0_A_16 (F := Ideal) c i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 (ix3 0 d j) = tileP x0 x1 x2 x3 x4 x5 ⟨510 + d.val, by have := d.isLt; omega⟩ j := by
  unfold out0_A_16 kernelRun0_A
  dsimp only
  refine (congrFun (View.read_writes_full _ _ _ _ _) _).trans ?_
  refine (tail_apply _ d j).trans ?_
  rw [← gated_A c a2 h2 a3 h3 a4 h4 a5 h5 a6 h6 a7 h7]
  exact fresh _ _ _ _ _ _ _ j (by show 512 + 1 * (6 + d.val) = 8 + (510 + d.val); omega) (by show 0 + 1 * j.val = _; omega)

theorem kept_A (c : Dev nD) i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 (k : Fin 8) (j : Fin 512) :
    sout0_A_0 (F := Ideal) c i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 (ix2 ⟨k.val, by have := k.isLt; omega⟩ j) = tileP x0 x1 x2 x3 x4 x5 ⟨504 + k.val, by have := k.isLt; omega⟩ j := by
  unfold sout0_A_0 kernelRun0_A
  dsimp only
  refine (topmost _ _ _ _ _ _ k j rfl rfl).trans ?_
  refine (kept_apply _ k j).trans ?_
  rw [← gated_A c a2 h2 a3 h3 a4 h4 a5 h5 a6 h6 a7 h7]
  exact fresh _ _ _ _ _ _ _ j (by show 512 + 1 * k.val = 8 + (504 + k.val); omega) (by show 0 + 1 * j.val = _; omega)

theorem gated_B (c : Dev nD) a2 h2 a3 h3 a4 h4 a5 h5 a6 h6 a7 h7 x0 x1 x2 x3 x4 x5 : gated (kernelRun0_B.sl.r (F := Ideal) c a2 h2 a3 h3 a4 h4 a5 h5 a6 h6 a7 h7 x0 x1 x2 x3 x4 x5) = tileP x0 x1 x2 x3 x4 x5 := by
  funext r j
  unfold gated
  rw [rows_B, rows_B]
  rfl

theorem out_B_8 (c : Dev nD) i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 xs (r j : Fin 512) :
    out0_B_8 (F := Ideal) c i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 xs (ix3 0 r j)
      = tileZ x0 x1 x2 x3 x4 x5 r (col 1 j) * (x6 (ix2 0 j) * back 2 (fun i j => xs (ix2 ⟨i.val, by have := i.isLt; omega⟩ j)) (tileP x0 x1 x2 x3 x4 x5) r j + x6 (ix2 1 j) * back 1 (fun i j => xs (ix2 ⟨i.val, by have := i.isLt; omega⟩ j)) (tileP x0 x1 x2 x3 x4 x5) r j + x6 (ix2 2 j) * tileP x0 x1 x2 x3 x4 x5 r j)
        * silu (tileZ x0 x1 x2 x3 x4 x5 r (col 3 j)) := by
  unfold out0_B_8 kernelRun0_B
  dsimp only
  refine (congrFun (View.read_writes_full _ _ _ _ _) _).trans ?_
  unfold kernelRun0_B.sl.r_1
  refine (mixed_apply _ _ _ _ r j).trans ?_
  simp only [View.readAt_eq_ld, Memref.IsWhole.read_unread]
  rw [← gated_B c a2 h2 a3 h3 a4 h4 a5 h5 a6 h6 a7 h7, rows_B, rows_B]
  rw [View.ld_unit_lit]
  · refine congrArg (_ * · * _) (congrArg₂ (· + ·) (congrArg₂ (· + ·) (congrArg (_ * ·) ?_) (congrArg (_ * ·) ?_)) rfl)
    · exact looked_B _ _ _ _ (h19.read_unread _) _ 2 (by decide) _ r j (by show 6 + 1 * r.val = _; omega) (by show 0 + 1 * j.val = _; omega)
    · exact looked_B _ _ _ _ (h19.read_unread _) _ 1 (by decide) _ r j (by show 7 + 1 * r.val = _; omega) (by show 0 + 1 * j.val = _; omega)
  · intro a
    fin_cases a <;> rfl

theorem out_B_16 (c : Dev nD) i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 xs (d : Fin 2) (j : Fin 512) :
    out0_B_16 (F := Ideal) c i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 xs (ix3 0 d j) = tileP x0 x1 x2 x3 x4 x5 ⟨510 + d.val, by have := d.isLt; omega⟩ j := by
  unfold out0_B_16 kernelRun0_B
  dsimp only
  refine (congrFun (View.read_writes_full _ _ _ _ _) _).trans ?_
  refine (tail_apply _ d j).trans ?_
  rw [← gated_B c a2 h2 a3 h3 a4 h4 a5 h5 a6 h6 a7 h7]
  exact fresh _ _ _ _ _ _ _ j (by show 512 + 1 * (6 + d.val) = 8 + (510 + d.val); omega) (by show 0 + 1 * j.val = _; omega)

theorem kept_B (c : Dev nD) i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 xs (k : Fin 8) (j : Fin 512) :
    sout0_B_0 (F := Ideal) c i a2 h2 a3 h3 a4 h4 a5 h5 a6 h6 a7 h7 a8 h8 a9 h9 a10 h10 a11 h11 a12 h12 a13 h13 a14 h14 a15 h15 a16 h16 a17 h17 a18 h18 a19 h19 q x0 x1 x2 x3 x4 x5 x6 xs (ix2 ⟨k.val, by have := k.isLt; omega⟩ j) = tileP x0 x1 x2 x3 x4 x5 ⟨504 + k.val, by have := k.isLt; omega⟩ j := by
  unfold sout0_B_0 kernelRun0_B
  dsimp only
  refine (topmost _ _ _ _ _ _ k j rfl rfl).trans ?_
  refine (kept_apply _ k j).trans ?_
  rw [← gated_B c a2 h2 a3 h3 a4 h4 a5 h5 a6 h6 a7 h7]
  exact fresh _ _ _ _ _ _ _ j (by show 512 + 1 * k.val = 8 + (504 + k.val); omega) (by show 0 + 1 * j.val = _; omega)

end Cert.Kernel2Ideal.Mid

end
-- ==== Proof.MidBlocks.lean ====
/- The blocks the middle call reads, by the arguments, and the values its results hold at an index. -/
module

public import proofs.«01_k».proof.Proof.MidRuns

@[expose] public section

set_option maxRecDepth 16384

noncomputable section

namespace Cert.Kernel2Ideal.Mid

open Idealize.ShloMosaic Cert.Kernel2Ideal.Gen Cert.Mix

variable (m : (ℓ : Loc nD τ sig) → Buf (Elt Ideal) ℓ) (c : Dev nD)

/-- The arguments by their indices. -/
def As (b : Fin 4) (q : Fin 8192) (j : Fin 512) : EReal := m (c.tc.loc main_arg0) (ix3 b q j)
def Gs (b : Fin 4) (q : Fin 8192) (j : Fin 512) : EReal := m (c.tc.loc main_arg1) (ix3 b q j)
def Xs (b : Fin 4) (q : Fin 8192) (j : Fin 1024) : EReal := m (c.tc.loc main_arg2) (ix3 b q j)
def Ws (k n : Fin 1024) : EReal := m (c.tc.loc main_arg3) (ix2 k n)
def gs (n : Fin 1024) : EReal := m (c.tc.loc main_arg4) (ix2 0 n)
def Vs (k : Fin 1024) (n : Fin 4096) : EReal := m (c.tc.loc main_arg5) (ix2 k n)
def Fs (k : Fin 3) (n : Fin 512) : EReal := m (c.tc.loc main_arg6) (ix2 k n)

/-- The residual sum, the wide product and the convolution's input at a position. -/
def hs (b : Fin 4) (q : Fin 8192) : Fin 1024 → EReal := hidden (Xs m c b q) (As m c b q) (Gs m c b q) (Ws m c)
def zs (b : Fin 4) (q : Fin 8192) : Fin 4096 → EReal := wide (hs m c b q) (gs m c) (Vs m c)
def ps (b : Fin 4) (q : Fin 8192) (j : Fin 512) : EReal := zs m c b q (col 2 j) * zs m c b q (col 0 j)

/-- The convolution's input `d` positions earlier, zero before the first. -/
def earlier (d : ℕ) (b : Fin 4) (q : Fin 8192) (j : Fin 512) : EReal :=
  if h : d ≤ q.val then ps m c b ⟨q.val - d, by have := q.isLt; omega⟩ j else 0

theorem index_0 : ∀ t : Fin cfg0.N, (cfg0.win (0 : Fin 17)).index t = ![t.val / 16 % 4, t.val % 16, 0] := by decide +kernel

theorem iblk_0 (t : Fin cfg0.N) (r : Fin 512) (e : Fin 512) : iblk m c (0 : Fin 17) t (ix3 0 r e) = As m c (batch t.val) (spot t.val r) e := by
  refine congrArg (m (c.tc.loc main_arg0)) (funext fun a => Fin.ext ?_)
  fin_cases a
  · show (cfg0.win (0 : Fin 17)).index t 0 * 1 + 1 * 0 = t.val / 16 % 4
    rw [index_0 t]
    show t.val / 16 % 4 * 1 + 1 * 0 = _
    omega
  · show (cfg0.win (0 : Fin 17)).index t 1 * 512 + 1 * r.val = t.val % 16 * 512 + r.val
    rw [index_0 t]
    show t.val % 16 * 512 + 1 * r.val = _
    omega
  · show (cfg0.win (0 : Fin 17)).index t 2 * 512 + 1 * e.val = e.val
    rw [index_0 t]
    show 0 * 512 + 1 * e.val = _
    omega

theorem index_1 : ∀ t : Fin cfg0.N, (cfg0.win (1 : Fin 17)).index t = ![t.val / 16 % 4, t.val % 16, 0] := by decide +kernel

theorem iblk_1 (t : Fin cfg0.N) (r : Fin 512) (e : Fin 512) : iblk m c (1 : Fin 17) t (ix3 0 r e) = Gs m c (batch t.val) (spot t.val r) e := by
  refine congrArg (m (c.tc.loc main_arg1)) (funext fun a => Fin.ext ?_)
  fin_cases a
  · show (cfg0.win (1 : Fin 17)).index t 0 * 1 + 1 * 0 = t.val / 16 % 4
    rw [index_1 t]
    show t.val / 16 % 4 * 1 + 1 * 0 = _
    omega
  · show (cfg0.win (1 : Fin 17)).index t 1 * 512 + 1 * r.val = t.val % 16 * 512 + r.val
    rw [index_1 t]
    show t.val % 16 * 512 + 1 * r.val = _
    omega
  · show (cfg0.win (1 : Fin 17)).index t 2 * 512 + 1 * e.val = e.val
    rw [index_1 t]
    show 0 * 512 + 1 * e.val = _
    omega

theorem index_2 : ∀ t : Fin cfg0.N, (cfg0.win (2 : Fin 17)).index t = ![t.val / 16 % 4, t.val % 16, 0] := by decide +kernel

theorem iblk_2 (t : Fin cfg0.N) (r : Fin 512) (e : Fin 1024) : iblk m c (2 : Fin 17) t (ix3 0 r e) = Xs m c (batch t.val) (spot t.val r) e := by
  refine congrArg (m (c.tc.loc main_arg2)) (funext fun a => Fin.ext ?_)
  fin_cases a
  · show (cfg0.win (2 : Fin 17)).index t 0 * 1 + 1 * 0 = t.val / 16 % 4
    rw [index_2 t]
    show t.val / 16 % 4 * 1 + 1 * 0 = _
    omega
  · show (cfg0.win (2 : Fin 17)).index t 1 * 512 + 1 * r.val = t.val % 16 * 512 + r.val
    rw [index_2 t]
    show t.val % 16 * 512 + 1 * r.val = _
    omega
  · show (cfg0.win (2 : Fin 17)).index t 2 * 1024 + 1 * e.val = e.val
    rw [index_2 t]
    show 0 * 1024 + 1 * e.val = _
    omega

theorem index_3 : ∀ t : Fin cfg0.N, (cfg0.win (3 : Fin 17)).index t = ![0, 0] := by decide +kernel

theorem iblk_3 (t : Fin cfg0.N) (k : Fin 1024) (n : Fin 1024) : iblk m c (3 : Fin 17) t (ix2 k n) = m (c.tc.loc main_arg3) (ix2 k n) := by
  refine congrArg (m (c.tc.loc main_arg3)) (funext fun a => Fin.ext ?_)
  fin_cases a
  · show (cfg0.win (3 : Fin 17)).index t 0 * 1024 + 1 * k.val = k.val
    rw [index_3 t]
    show 0 * 1024 + 1 * k.val = _
    omega
  · show (cfg0.win (3 : Fin 17)).index t 1 * 1024 + 1 * n.val = n.val
    rw [index_3 t]
    show 0 * 1024 + 1 * n.val = _
    omega

theorem index_4 : ∀ t : Fin cfg0.N, (cfg0.win (4 : Fin 17)).index t = ![0, 0] := by decide +kernel

theorem iblk_4 (t : Fin cfg0.N) (k : Fin 1) (n : Fin 1024) : iblk m c (4 : Fin 17) t (ix2 k n) = m (c.tc.loc main_arg4) (ix2 k n) := by
  refine congrArg (m (c.tc.loc main_arg4)) (funext fun a => Fin.ext ?_)
  fin_cases a
  · show (cfg0.win (4 : Fin 17)).index t 0 * 1 + 1 * k.val = k.val
    rw [index_4 t]
    show 0 * 1 + 1 * k.val = _
    omega
  · show (cfg0.win (4 : Fin 17)).index t 1 * 1024 + 1 * n.val = n.val
    rw [index_4 t]
    show 0 * 1024 + 1 * n.val = _
    omega

theorem index_5 : ∀ t : Fin cfg0.N, (cfg0.win (5 : Fin 17)).index t = ![0, 0] := by decide +kernel

theorem iblk_5 (t : Fin cfg0.N) (k : Fin 1024) (n : Fin 4096) : iblk m c (5 : Fin 17) t (ix2 k n) = m (c.tc.loc main_arg5) (ix2 k n) := by
  refine congrArg (m (c.tc.loc main_arg5)) (funext fun a => Fin.ext ?_)
  fin_cases a
  · show (cfg0.win (5 : Fin 17)).index t 0 * 1024 + 1 * k.val = k.val
    rw [index_5 t]
    show 0 * 1024 + 1 * k.val = _
    omega
  · show (cfg0.win (5 : Fin 17)).index t 1 * 4096 + 1 * n.val = n.val
    rw [index_5 t]
    show 0 * 4096 + 1 * n.val = _
    omega

theorem index_6 : ∀ t : Fin cfg0.N, (cfg0.win (6 : Fin 17)).index t = ![0, 0] := by decide +kernel

theorem iblk_6 (t : Fin cfg0.N) (k : Fin 3) (n : Fin 512) : iblk m c (6 : Fin 17) t (ix2 k n) = m (c.tc.loc main_arg6) (ix2 k n) := by
  refine congrArg (m (c.tc.loc main_arg6)) (funext fun a => Fin.ext ?_)
  fin_cases a
  · show (cfg0.win (6 : Fin 17)).index t 0 * 3 + 1 * k.val = k.val
    rw [index_6 t]
    show 0 * 3 + 1 * k.val = _
    omega
  · show (cfg0.win (6 : Fin 17)).index t 1 * 512 + 1 * n.val = n.val
    rw [index_6 t]
    show 0 * 512 + 1 * n.val = _
    omega

theorem tile_hs (t : Fin cfg0.N) (r : Fin 512) : tileH (iblk m c 0 t) (iblk m c 1 t) (iblk m c 2 t) (iblk m c 3 t) r = hs m c (batch t.val) (spot t.val r) := by
  funext n
  unfold tileH
  simp only [iblk_0, iblk_1, iblk_2, iblk_3]
  rfl

theorem tile_zs (t : Fin cfg0.N) (r : Fin 512) (n : Fin 4096) : tileZ (iblk m c 0 t) (iblk m c 1 t) (iblk m c 2 t) (iblk m c 3 t) (iblk m c 4 t) (iblk m c 5 t) r n = zs m c (batch t.val) (spot t.val r) n := by
  unfold tileZ
  rw [tile_hs]
  simp only [iblk_4, iblk_5]
  rfl

theorem tile_ps (t : Fin cfg0.N) (r j : Fin 512) : tileP (iblk m c 0 t) (iblk m c 1 t) (iblk m c 2 t) (iblk m c 3 t) (iblk m c 4 t) (iblk m c 5 t) r j = ps m c (batch t.val) (spot t.val r) j := by
  unfold tileP
  rw [tile_zs, tile_zs]
  rfl

end Cert.Kernel2Ideal.Mid

end
-- ==== Proof.MidPoints.lean ====
/- What the middle call's windows hold after a point, by the arguments. -/
module

public import proofs.«01_k».proof.Proof.MidBlocks

@[expose] public section

set_option maxRecDepth 16384

noncomputable section

namespace Cert.Kernel2Ideal.Mid

open Idealize.ShloMosaic Cert.Kernel2Ideal.Gen Cert.Mix

variable (m : (ℓ : Loc nD τ sig) → Buf (Elt Ideal) ℓ) (c : Dev nD)

attribute [local irreducible] outsAt0 out0_A_7 out0_A_8 out0_A_9 out0_A_10 out0_A_11 out0_A_12 out0_A_13 out0_A_14 out0_A_15 out0_A_16 sout0_A_0
  out0_B_7 out0_B_8 out0_B_9 out0_B_10 out0_B_11 out0_B_12 out0_B_13 out0_B_14 out0_B_15 out0_B_16 sout0_B_0

/-- The rows kept after a point are the last eight of its tile. -/
theorem kept_at (t : Fin cfg0.N) (k : Fin 8) (j : Fin 512) :
    (outsAt0 m c t.val t.isLt).2.2.2.2.2.2.2.2.2.2 (ix2 ⟨k.val, by have := k.isLt; omega⟩ j)
      = ps m c (batch t.val) (spot t.val ⟨504 + k.val, by have := k.isLt; omega⟩) j := by
  by_cases h0 : t.val % 16 = 0
  · rw [outsAt0_A m c t h0]
    exact (kept_A _ _ _ _ _ _ _ _ _ _ _ _ _ _ _ _ _ _ _ _ _ _ _ _ _ _ _ _ _ _ _ _ _ _ _ _ _ _ _ _ _ _ _ _ _ _ k j).trans (tile_ps m c t _ j)
  · rw [outsAt0_B m c t h0]
    exact (kept_B _ _ _ _ _ _ _ _ _ _ _ _ _ _ _ _ _ _ _ _ _ _ _ _ _ _ _ _ _ _ _ _ _ _ _ _ _ _ _ _ _ _ _ _ _ _ _ k j).trans (tile_ps m c t _ j)

theorem mix_congr {z z' f f' u u' g g' v v' k k' p p' y y' : EReal} (hz : z = z') (hf : f = f') (hu : u = u') (hg : g = g') (hv : v = v')
    (hk : k = k') (hp : p = p') (hy : y = y') : z * (f * u + g * v + k * p) * silu y = z' * (f' * u' + g' * v' + k' * p') * silu y' := by
  rw [hz, hf, hu, hg, hv, hk, hp, hy]

theorem back_first (t : Fin cfg0.N) (h0 : t.val % 16 = 0) (d : ℕ) (r j : Fin 512) :
    back d (fun _ _ => 0) (tileP (iblk m c 0 t) (iblk m c 1 t) (iblk m c 2 t) (iblk m c 3 t) (iblk m c 4 t) (iblk m c 5 t)) r j = earlier m c d (batch t.val) (spot t.val r) j := by
  unfold back earlier
  have e : (spot t.val r).val = r.val := by show t.val % 16 * 512 + r.val = _; omega
  by_cases h : d ≤ r.val
  · rw [dif_pos h, dif_pos (by omega), tile_ps]
    refine congrArg (ps m c _ · j) (Fin.ext ?_)
    show t.val % 16 * 512 + (r.val - d) = (spot t.val r).val - d
    omega
  · rw [dif_neg h, dif_neg (by omega)]

theorem back_later (t : Fin cfg0.N) (h0 : ¬t.val % 16 = 0) (d : ℕ) (hd : d ≤ 8) (r j : Fin 512) :
    back d (fun i j => (outsAt0 m c (t.val - 1) (Nat.lt_of_le_of_lt (Nat.sub_le _ _) t.isLt)).2.2.2.2.2.2.2.2.2.2 (ix2 ⟨i.val, by have := i.isLt; omega⟩ j))
        (tileP (iblk m c 0 t) (iblk m c 1 t) (iblk m c 2 t) (iblk m c 3 t) (iblk m c 4 t) (iblk m c 5 t)) r j
      = earlier m c d (batch t.val) (spot t.val r) j := by
  have e : (spot t.val r).val = t.val % 16 * 512 + r.val := rfl
  unfold back earlier
  rw [dif_pos (by omega : d ≤ (spot t.val r).val)]
  by_cases h : d ≤ r.val
  · rw [dif_pos h, tile_ps]
    refine congrArg (ps m c _ · j) (Fin.ext ?_)
    show t.val % 16 * 512 + (r.val - d) = (spot t.val r).val - d
    omega
  · rw [dif_neg h]
    refine (kept_at m c ⟨t.val - 1, Nat.lt_of_le_of_lt (Nat.sub_le _ _) t.isLt⟩ ⟨8 + r.val - d, by omega⟩ j).trans ?_
    refine congrArg₂ (ps m c · · j) (Fin.ext ?_) (Fin.ext ?_)
    · show (t.val - 1) / 16 % 4 = t.val / 16 % 4
      omega
    · show (t.val - 1) % 16 * 512 + (504 + (8 + r.val - d)) = (spot t.val r).val - d
      omega

theorem at_7 (t : Fin cfg0.N) (r : Fin 512) (n : Fin 1024) :
    (outsAt0 m c t.val t.isLt).1 (ix3 0 r n) = hs m c (batch t.val) (spot t.val r) n := by
  by_cases h0 : t.val % 16 = 0
  · rw [outsAt0_A m c t h0]
    dsimp only
    exact (out_A_7 _ _ _ _ _ _ _ _ _ _ _ _ _ _ _ _ _ _ _ _ _ _ _ _ _ _ _ _ _ _ _ _ _ _ _ _ _ _ _ _ _ _ _ _ _ _ r n).trans (congrFun (tile_hs m c t r) n)
  · rw [outsAt0_B m c t h0]
    dsimp only
    exact (out_B_7 _ _ _ _ _ _ _ _ _ _ _ _ _ _ _ _ _ _ _ _ _ _ _ _ _ _ _ _ _ _ _ _ _ _ _ _ _ _ _ _ _ _ _ _ _ _ _ r n).trans (congrFun (tile_hs m c t r) n)

theorem at_8 (t : Fin cfg0.N) (r j : Fin 512) :
    (outsAt0 m c t.val t.isLt).2.1 (ix3 0 r j) = zs m c (batch t.val) (spot t.val r) (col 1 j)
        * (Fs m c 0 j * earlier m c 2 (batch t.val) (spot t.val r) j + Fs m c 1 j * earlier m c 1 (batch t.val) (spot t.val r) j
          + Fs m c 2 j * ps m c (batch t.val) (spot t.val r) j)
        * silu (zs m c (batch t.val) (spot t.val r) (col 3 j)) := by
  by_cases h0 : t.val % 16 = 0
  · rw [outsAt0_A m c t h0]
    dsimp only
    exact (out_A_8 _ _ _ _ _ _ _ _ _ _ _ _ _ _ _ _ _ _ _ _ _ _ _ _ _ _ _ _ _ _ _ _ _ _ _ _ _ _ _ _ _ _ _ _ _ _ r j).trans (mix_congr (tile_zs m c t r _) (iblk_6 m c t 0 j) (back_first m c t h0 2 r j) (iblk_6 m c t 1 j) (back_first m c t h0 1 r j)
      (iblk_6 m c t 2 j) (tile_ps m c t r j) (tile_zs m c t r _))
  · rw [outsAt0_B m c t h0]
    dsimp only
    exact (out_B_8 _ _ _ _ _ _ _ _ _ _ _ _ _ _ _ _ _ _ _ _ _ _ _ _ _ _ _ _ _ _ _ _ _ _ _ _ _ _ _ _ _ _ _ _ _ _ _ r j).trans (mix_congr (tile_zs m c t r _) (iblk_6 m c t 0 j) (back_later m c t h0 2 (by decide) r j) (iblk_6 m c t 1 j)
      (back_later m c t h0 1 (by decide) r j) (iblk_6 m c t 2 j) (tile_ps m c t r j) (tile_zs m c t r _))

theorem at_9 (t : Fin cfg0.N) (r j : Fin 512) :
    (outsAt0 m c t.val t.isLt).2.2.1 (ix3 0 r j) = zs m c (batch t.val) (spot t.val r) (col 4 j) * Ideal.ofBits .f32 0x3E000000#32 := by
  by_cases h0 : t.val % 16 = 0
  · rw [outsAt0_A m c t h0]
    dsimp only
    exact (out_A_9 _ _ _ _ _ _ _ _ _ _ _ _ _ _ _ _ _ _ _ _ _ _ _ _ _ _ _ _ _ _ _ _ _ _ _ _ _ _ _ _ _ _ _ _ _ _ r j).trans (congrArg (· * _) (tile_zs m c t r _))
  · rw [outsAt0_B m c t h0]
    dsimp only
    exact (out_B_9 _ _ _ _ _ _ _ _ _ _ _ _ _ _ _ _ _ _ _ _ _ _ _ _ _ _ _ _ _ _ _ _ _ _ _ _ _ _ _ _ _ _ _ _ _ _ _ r j).trans (congrArg (· * _) (tile_zs m c t r _))

theorem at_10 (t : Fin cfg0.N) (r j : Fin 512) :
    (outsAt0 m c t.val t.isLt).2.2.2.1 (ix3 0 r j) = zs m c (batch t.val) (spot t.val r) (col 5 j) := by
  by_cases h0 : t.val % 16 = 0
  · rw [outsAt0_A m c t h0]
    dsimp only
    exact (out_A_10 _ _ _ _ _ _ _ _ _ _ _ _ _ _ _ _ _ _ _ _ _ _ _ _ _ _ _ _ _ _ _ _ _ _ _ _ _ _ _ _ _ _ _ _ _ _ r j).trans (tile_zs m c t r _)
  · rw [outsAt0_B m c t h0]
    dsimp only
    exact (out_B_10 _ _ _ _ _ _ _ _ _ _ _ _ _ _ _ _ _ _ _ _ _ _ _ _ _ _ _ _ _ _ _ _ _ _ _ _ _ _ _ _ _ _ _ _ _ _ _ r j).trans (tile_zs m c t r _)

theorem at_11 (t : Fin cfg0.N) (r j : Fin 512) :
    (outsAt0 m c t.val t.isLt).2.2.2.2.1 (ix3 0 r j) = zs m c (batch t.val) (spot t.val r) (col 6 j) := by
  by_cases h0 : t.val % 16 = 0
  · rw [outsAt0_A m c t h0]
    dsimp only
    exact (out_A_11 _ _ _ _ _ _ _ _ _ _ _ _ _ _ _ _ _ _ _ _ _ _ _ _ _ _ _ _ _ _ _ _ _ _ _ _ _ _ _ _ _ _ _ _ _ _ r j).trans (tile_zs m c t r _)
  · rw [outsAt0_B m c t h0]
    dsimp only
    exact (out_B_11 _ _ _ _ _ _ _ _ _ _ _ _ _ _ _ _ _ _ _ _ _ _ _ _ _ _ _ _ _ _ _ _ _ _ _ _ _ _ _ _ _ _ _ _ _ _ _ r j).trans (tile_zs m c t r _)

theorem at_12 (t : Fin cfg0.N) (r j : Fin 512) :
    (outsAt0 m c t.val t.isLt).2.2.2.2.2.1 (ix3 0 r j) = silu (zs m c (batch t.val) (spot t.val r) (col 7 j)) := by
  by_cases h0 : t.val % 16 = 0
  · rw [outsAt0_A m c t h0]
    dsimp only
    exact (out_A_12 _ _ _ _ _ _ _ _ _ _ _ _ _ _ _ _ _ _ _ _ _ _ _ _ _ _ _ _ _ _ _ _ _ _ _ _ _ _ _ _ _ _ _ _ _ _ r j).trans (congrArg silu (tile_zs m c t r _))
  · rw [outsAt0_B m c t h0]
    dsimp only
    exact (out_B_12 _ _ _ _ _ _ _ _ _ _ _ _ _ _ _ _ _ _ _ _ _ _ _ _ _ _ _ _ _ _ _ _ _ _ _ _ _ _ _ _ _ _ _ _ _ _ _ r j).trans (congrArg silu (tile_zs m c t r _))

theorem at_13 (t : Fin cfg0.N) (r j : Fin 512) :
    (outsAt0 m c t.val t.isLt).2.2.2.2.2.2.1 (ix3 0 r j) = zs m c (batch t.val) (spot t.val r) (col 5 j) := by
  by_cases h0 : t.val % 16 = 0
  · rw [outsAt0_A m c t h0]
    dsimp only
    exact (out_A_13 _ _ _ _ _ _ _ _ _ _ _ _ _ _ _ _ _ _ _ _ _ _ _ _ _ _ _ _ _ _ _ _ _ _ _ _ _ _ _ _ _ _ _ _ _ _ r j).trans (tile_zs m c t r _)
  · rw [outsAt0_B m c t h0]
    dsimp only
    exact (out_B_13 _ _ _ _ _ _ _ _ _ _ _ _ _ _ _ _ _ _ _ _ _ _ _ _ _ _ _ _ _ _ _ _ _ _ _ _ _ _ _ _ _ _ _ _ _ _ _ r j).trans (tile_zs m c t r _)

theorem at_14 (t : Fin cfg0.N) (r j : Fin 512) :
    (outsAt0 m c t.val t.isLt).2.2.2.2.2.2.2.1 (ix3 0 r j) = zs m c (batch t.val) (spot t.val r) (col 6 j) := by
  by_cases h0 : t.val % 16 = 0
  · rw [outsAt0_A m c t h0]
    dsimp only
    exact (out_A_14 _ _ _ _ _ _ _ _ _ _ _ _ _ _ _ _ _ _ _ _ _ _ _ _ _ _ _ _ _ _ _ _ _ _ _ _ _ _ _ _ _ _ _ _ _ _ r j).trans (tile_zs m c t r _)
  · rw [outsAt0_B m c t h0]
    dsimp only
    exact (out_B_14 _ _ _ _ _ _ _ _ _ _ _ _ _ _ _ _ _ _ _ _ _ _ _ _ _ _ _ _ _ _ _ _ _ _ _ _ _ _ _ _ _ _ _ _ _ _ _ r j).trans (tile_zs m c t r _)

theorem at_15 (t : Fin cfg0.N) (d : Fin 2) (j : Fin 512) :
    (outsAt0 m c t.val t.isLt).2.2.2.2.2.2.2.2.1 (ix4 0 d 0 j) = (∑ r : Fin 256, zs m c (batch t.val) (spot t.val (halfRow d r)) (col 5 j)) * Ideal.ofBits .f32 0x3B800000#32 := by
  by_cases h0 : t.val % 16 = 0
  · rw [outsAt0_A m c t h0]
    dsimp only
    exact (out_A_15 _ _ _ _ _ _ _ _ _ _ _ _ _ _ _ _ _ _ _ _ _ _ _ _ _ _ _ _ _ _ _ _ _ _ _ _ _ _ _ _ _ _ _ _ _ _ d j).trans (congrArg (· * _) (Finset.sum_congr rfl fun r _ => tile_zs m c t (halfRow d r) _))
  · rw [outsAt0_B m c t h0]
    dsimp only
    exact (out_B_15 _ _ _ _ _ _ _ _ _ _ _ _ _ _ _ _ _ _ _ _ _ _ _ _ _ _ _ _ _ _ _ _ _ _ _ _ _ _ _ _ _ _ _ _ _ _ _ d j).trans (congrArg (· * _) (Finset.sum_congr rfl fun r _ => tile_zs m c t (halfRow d r) _))

theorem at_16 (t : Fin cfg0.N) (d : Fin 2) (j : Fin 512) :
    (outsAt0 m c t.val t.isLt).2.2.2.2.2.2.2.2.2.1 (ix3 0 d j) = ps m c (batch t.val) (spot t.val ⟨510 + d.val, by have := d.isLt; omega⟩) j := by
  by_cases h0 : t.val % 16 = 0
  · rw [outsAt0_A m c t h0]
    dsimp only
    exact (out_A_16 _ _ _ _ _ _ _ _ _ _ _ _ _ _ _ _ _ _ _ _ _ _ _ _ _ _ _ _ _ _ _ _ _ _ _ _ _ _ _ _ _ _ _ _ _ _ d j).trans (tile_ps m c t _ j)
  · rw [outsAt0_B m c t h0]
    dsimp only
    exact (out_B_16 _ _ _ _ _ _ _ _ _ _ _ _ _ _ _ _ _ _ _ _ _ _ _ _ _ _ _ _ _ _ _ _ _ _ _ _ _ _ _ _ _ _ _ _ _ _ _ d j).trans (tile_ps m c t _ j)

end Cert.Kernel2Ideal.Mid

end
-- ==== Proof.MidCover.lean ====
/- The middle call's ten results, by the arguments. -/
module

public import proofs.«01_k».proof.Proof.MidPoints
public import Idealize.ShloMosaic.Lib.Pipeline.Covers

@[expose] public section

set_option maxRecDepth 16384

noncomputable section

namespace Cert.Kernel2Ideal.Mid

open Idealize.ShloMosaic Cert.Kernel2Ideal.Gen Cert.Mix

variable (m : (ℓ : Loc nD τ sig) → Buf (Elt Ideal) ℓ) (c : Dev nD)

/-- The gated convolution at a position. -/
def mixedAt (b : Fin 4) (q : Fin 8192) (j : Fin 512) : EReal :=
  zs m c b q (col 1 j) * (Fs m c 0 j * earlier m c 2 b q j + Fs m c 1 j * earlier m c 1 b q j + Fs m c 2 j * ps m c b q j)
    * silu (zs m c b q (col 3 j))

/-- Position `r` of the `k`-th of 32 blocks of 256. -/
def place256 (k : Fin 32) (r : Fin 256) : Fin 8192 := ⟨k.val * 256 + r.val, by have := k.isLt; have := r.isLt; omega⟩

/-- The mean of a block's keys. -/
def meanAt (b : Fin 4) (k : Fin 32) (j : Fin 512) : EReal :=
  (∑ r : Fin 256, zs m c b (place256 k r) (col 5 j)) * Ideal.ofBits .f32 0x3B800000#32

def result_7 : Buf (Elt Ideal) ((c.tc : Thread nD τ).loc main_v0_0) := fun i => hs m c (i 0) (i 1) (i 2)
def result_8 : Buf (Elt Ideal) ((c.tc : Thread nD τ).loc main_v0_1) := fun i => mixedAt m c (i 0) (i 1) (i 2)
def result_9 : Buf (Elt Ideal) ((c.tc : Thread nD τ).loc main_v0_2) := fun i => zs m c (i 0) (i 1) (col 4 (i 2)) * Ideal.ofBits .f32 0x3E000000#32
def result_10 : Buf (Elt Ideal) ((c.tc : Thread nD τ).loc main_v0_3) := fun i => zs m c (i 0) (i 1) (col 5 (i 2))
def result_11 : Buf (Elt Ideal) ((c.tc : Thread nD τ).loc main_v0_4) := fun i => zs m c (i 0) (i 1) (col 6 (i 2))
def result_12 : Buf (Elt Ideal) ((c.tc : Thread nD τ).loc main_v0_5) := fun i => silu (zs m c (i 0) (i 1) (col 7 (i 2)))
def result_13 : Buf (Elt Ideal) ((c.tc : Thread nD τ).loc main_v0_6) := fun i => zs m c (i 0) (i 1) (col 5 (i 2))
def result_14 : Buf (Elt Ideal) ((c.tc : Thread nD τ).loc main_v0_7) := fun i => zs m c (i 0) (i 1) (col 6 (i 2))
def result_15 : Buf (Elt Ideal) ((c.tc : Thread nD τ).loc main_v0_8) := fun i => meanAt m c (i 0) (i 1) (i 3)
def result_16 : Buf (Elt Ideal) ((c.tc : Thread nD τ).loc main_v0_9) :=
  fun i => ps m c (i 0) ⟨8190 + (i 1).val, by have : (i 1).val < 2 := (i 1).isLt; omega⟩ (i 2)

theorem index_7 : ∀ t : Fin cfg0.N, (cfg0.win (7 : Fin 17)).index t = ![t.val / 16 % 4, t.val % 16, 0] := by decide +kernel

theorem place_7 (t : Fin cfg0.N) (r : Fin 512) (e : Fin 1024) :
    ((cfg0.win (7 : Fin 17)).blk t).view.emb (ix3 (0 : Fin 1) r e) = ix3 (batch t.val) (spot t.val r) e := by
  refine funext fun a => Fin.ext ?_
  fin_cases a
  · show (cfg0.win (7 : Fin 17)).index t 0 * 1 + 1 * 0 = t.val / 16 % 4
    rw [index_7 t]
    show t.val / 16 % 4 * 1 + 1 * 0 = _
    omega
  · show (cfg0.win (7 : Fin 17)).index t 1 * 512 + 1 * r.val = t.val % 16 * 512 + r.val
    rw [index_7 t]
    show t.val % 16 * 512 + 1 * r.val = _
    omega
  · show (cfg0.win (7 : Fin 17)).index t 2 * 1024 + 1 * e.val = e.val
    rw [index_7 t]
    show 0 * 1024 + 1 * e.val = _
    omega

theorem covers_7 : (cfg0.win (7 : Fin 17)).Covers := by decide +kernel

theorem final_7 : (dats m 0 c).arrAt (7 : Fin 17) cfg0.N = result_7 m c := by
  refine (dats m 0 c).arrAt_eq_of_covers (7 : Fin 17) (result_7 m c) covers_7 fun t hf y => ?_
  have hy : y = ix3 (0 : Fin 1) (y 1) (y 2) := by
    refine funext fun a => ?_
    fin_cases a
    · exact Fin.ext (Nat.lt_one_iff.1 (y 0).isLt)
    · rfl
    · rfl
  refine Eq.trans (b := (dats m 0 c).after (7 : Fin 17) t (ix3 (0 : Fin 1) (y 1) (y 2))) ?_ ?_
  · exact congrArg ((dats m 0 c).after (7 : Fin 17) t) hy
  · refine ((congrFun (after0_7 m c t) _).trans (at_7 m c t (y 1) (y 2))).trans
      (Eq.trans ?_ (congrArg (result_7 m c) ((congrArg _ hy).trans (place_7 t (y 1) (y 2)))).symm)
    rfl

theorem index_8 : ∀ t : Fin cfg0.N, (cfg0.win (8 : Fin 17)).index t = ![t.val / 16 % 4, t.val % 16, 0] := by decide +kernel

theorem place_8 (t : Fin cfg0.N) (r : Fin 512) (e : Fin 512) :
    ((cfg0.win (8 : Fin 17)).blk t).view.emb (ix3 (0 : Fin 1) r e) = ix3 (batch t.val) (spot t.val r) e := by
  refine funext fun a => Fin.ext ?_
  fin_cases a
  · show (cfg0.win (8 : Fin 17)).index t 0 * 1 + 1 * 0 = t.val / 16 % 4
    rw [index_8 t]
    show t.val / 16 % 4 * 1 + 1 * 0 = _
    omega
  · show (cfg0.win (8 : Fin 17)).index t 1 * 512 + 1 * r.val = t.val % 16 * 512 + r.val
    rw [index_8 t]
    show t.val % 16 * 512 + 1 * r.val = _
    omega
  · show (cfg0.win (8 : Fin 17)).index t 2 * 512 + 1 * e.val = e.val
    rw [index_8 t]
    show 0 * 512 + 1 * e.val = _
    omega

theorem covers_8 : (cfg0.win (8 : Fin 17)).Covers := by decide +kernel

theorem final_8 : (dats m 0 c).arrAt (8 : Fin 17) cfg0.N = result_8 m c := by
  refine (dats m 0 c).arrAt_eq_of_covers (8 : Fin 17) (result_8 m c) covers_8 fun t hf y => ?_
  have hy : y = ix3 (0 : Fin 1) (y 1) (y 2) := by
    refine funext fun a => ?_
    fin_cases a
    · exact Fin.ext (Nat.lt_one_iff.1 (y 0).isLt)
    · rfl
    · rfl
  refine Eq.trans (b := (dats m 0 c).after (8 : Fin 17) t (ix3 (0 : Fin 1) (y 1) (y 2))) ?_ ?_
  · exact congrArg ((dats m 0 c).after (8 : Fin 17) t) hy
  · refine ((congrFun (after0_8 m c t) _).trans (at_8 m c t (y 1) (y 2))).trans
      (Eq.trans ?_ (congrArg (result_8 m c) ((congrArg _ hy).trans (place_8 t (y 1) (y 2)))).symm)
    rfl

theorem index_9 : ∀ t : Fin cfg0.N, (cfg0.win (9 : Fin 17)).index t = ![t.val / 16 % 4, t.val % 16, 0] := by decide +kernel

theorem place_9 (t : Fin cfg0.N) (r : Fin 512) (e : Fin 512) :
    ((cfg0.win (9 : Fin 17)).blk t).view.emb (ix3 (0 : Fin 1) r e) = ix3 (batch t.val) (spot t.val r) e := by
  refine funext fun a => Fin.ext ?_
  fin_cases a
  · show (cfg0.win (9 : Fin 17)).index t 0 * 1 + 1 * 0 = t.val / 16 % 4
    rw [index_9 t]
    show t.val / 16 % 4 * 1 + 1 * 0 = _
    omega
  · show (cfg0.win (9 : Fin 17)).index t 1 * 512 + 1 * r.val = t.val % 16 * 512 + r.val
    rw [index_9 t]
    show t.val % 16 * 512 + 1 * r.val = _
    omega
  · show (cfg0.win (9 : Fin 17)).index t 2 * 512 + 1 * e.val = e.val
    rw [index_9 t]
    show 0 * 512 + 1 * e.val = _
    omega

theorem covers_9 : (cfg0.win (9 : Fin 17)).Covers := by decide +kernel

theorem final_9 : (dats m 0 c).arrAt (9 : Fin 17) cfg0.N = result_9 m c := by
  refine (dats m 0 c).arrAt_eq_of_covers (9 : Fin 17) (result_9 m c) covers_9 fun t hf y => ?_
  have hy : y = ix3 (0 : Fin 1) (y 1) (y 2) := by
    refine funext fun a => ?_
    fin_cases a
    · exact Fin.ext (Nat.lt_one_iff.1 (y 0).isLt)
    · rfl
    · rfl
  refine Eq.trans (b := (dats m 0 c).after (9 : Fin 17) t (ix3 (0 : Fin 1) (y 1) (y 2))) ?_ ?_
  · exact congrArg ((dats m 0 c).after (9 : Fin 17) t) hy
  · refine ((congrFun (after0_9 m c t) _).trans (at_9 m c t (y 1) (y 2))).trans
      (Eq.trans ?_ (congrArg (result_9 m c) ((congrArg _ hy).trans (place_9 t (y 1) (y 2)))).symm)
    rfl

theorem index_10 : ∀ t : Fin cfg0.N, (cfg0.win (10 : Fin 17)).index t = ![t.val / 16 % 4, t.val % 16, 0] := by decide +kernel

theorem place_10 (t : Fin cfg0.N) (r : Fin 512) (e : Fin 512) :
    ((cfg0.win (10 : Fin 17)).blk t).view.emb (ix3 (0 : Fin 1) r e) = ix3 (batch t.val) (spot t.val r) e := by
  refine funext fun a => Fin.ext ?_
  fin_cases a
  · show (cfg0.win (10 : Fin 17)).index t 0 * 1 + 1 * 0 = t.val / 16 % 4
    rw [index_10 t]
    show t.val / 16 % 4 * 1 + 1 * 0 = _
    omega
  · show (cfg0.win (10 : Fin 17)).index t 1 * 512 + 1 * r.val = t.val % 16 * 512 + r.val
    rw [index_10 t]
    show t.val % 16 * 512 + 1 * r.val = _
    omega
  · show (cfg0.win (10 : Fin 17)).index t 2 * 512 + 1 * e.val = e.val
    rw [index_10 t]
    show 0 * 512 + 1 * e.val = _
    omega

theorem covers_10 : (cfg0.win (10 : Fin 17)).Covers := by decide +kernel

theorem final_10 : (dats m 0 c).arrAt (10 : Fin 17) cfg0.N = result_10 m c := by
  refine (dats m 0 c).arrAt_eq_of_covers (10 : Fin 17) (result_10 m c) covers_10 fun t hf y => ?_
  have hy : y = ix3 (0 : Fin 1) (y 1) (y 2) := by
    refine funext fun a => ?_
    fin_cases a
    · exact Fin.ext (Nat.lt_one_iff.1 (y 0).isLt)
    · rfl
    · rfl
  refine Eq.trans (b := (dats m 0 c).after (10 : Fin 17) t (ix3 (0 : Fin 1) (y 1) (y 2))) ?_ ?_
  · exact congrArg ((dats m 0 c).after (10 : Fin 17) t) hy
  · refine ((congrFun (after0_10 m c t) _).trans (at_10 m c t (y 1) (y 2))).trans
      (Eq.trans ?_ (congrArg (result_10 m c) ((congrArg _ hy).trans (place_10 t (y 1) (y 2)))).symm)
    rfl

theorem index_11 : ∀ t : Fin cfg0.N, (cfg0.win (11 : Fin 17)).index t = ![t.val / 16 % 4, t.val % 16, 0] := by decide +kernel

theorem place_11 (t : Fin cfg0.N) (r : Fin 512) (e : Fin 512) :
    ((cfg0.win (11 : Fin 17)).blk t).view.emb (ix3 (0 : Fin 1) r e) = ix3 (batch t.val) (spot t.val r) e := by
  refine funext fun a => Fin.ext ?_
  fin_cases a
  · show (cfg0.win (11 : Fin 17)).index t 0 * 1 + 1 * 0 = t.val / 16 % 4
    rw [index_11 t]
    show t.val / 16 % 4 * 1 + 1 * 0 = _
    omega
  · show (cfg0.win (11 : Fin 17)).index t 1 * 512 + 1 * r.val = t.val % 16 * 512 + r.val
    rw [index_11 t]
    show t.val % 16 * 512 + 1 * r.val = _
    omega
  · show (cfg0.win (11 : Fin 17)).index t 2 * 512 + 1 * e.val = e.val
    rw [index_11 t]
    show 0 * 512 + 1 * e.val = _
    omega

theorem covers_11 : (cfg0.win (11 : Fin 17)).Covers := by decide +kernel

theorem final_11 : (dats m 0 c).arrAt (11 : Fin 17) cfg0.N = result_11 m c := by
  refine (dats m 0 c).arrAt_eq_of_covers (11 : Fin 17) (result_11 m c) covers_11 fun t hf y => ?_
  have hy : y = ix3 (0 : Fin 1) (y 1) (y 2) := by
    refine funext fun a => ?_
    fin_cases a
    · exact Fin.ext (Nat.lt_one_iff.1 (y 0).isLt)
    · rfl
    · rfl
  refine Eq.trans (b := (dats m 0 c).after (11 : Fin 17) t (ix3 (0 : Fin 1) (y 1) (y 2))) ?_ ?_
  · exact congrArg ((dats m 0 c).after (11 : Fin 17) t) hy
  · refine ((congrFun (after0_11 m c t) _).trans (at_11 m c t (y 1) (y 2))).trans
      (Eq.trans ?_ (congrArg (result_11 m c) ((congrArg _ hy).trans (place_11 t (y 1) (y 2)))).symm)
    rfl

theorem index_12 : ∀ t : Fin cfg0.N, (cfg0.win (12 : Fin 17)).index t = ![t.val / 16 % 4, t.val % 16, 0] := by decide +kernel

theorem place_12 (t : Fin cfg0.N) (r : Fin 512) (e : Fin 512) :
    ((cfg0.win (12 : Fin 17)).blk t).view.emb (ix3 (0 : Fin 1) r e) = ix3 (batch t.val) (spot t.val r) e := by
  refine funext fun a => Fin.ext ?_
  fin_cases a
  · show (cfg0.win (12 : Fin 17)).index t 0 * 1 + 1 * 0 = t.val / 16 % 4
    rw [index_12 t]
    show t.val / 16 % 4 * 1 + 1 * 0 = _
    omega
  · show (cfg0.win (12 : Fin 17)).index t 1 * 512 + 1 * r.val = t.val % 16 * 512 + r.val
    rw [index_12 t]
    show t.val % 16 * 512 + 1 * r.val = _
    omega
  · show (cfg0.win (12 : Fin 17)).index t 2 * 512 + 1 * e.val = e.val
    rw [index_12 t]
    show 0 * 512 + 1 * e.val = _
    omega

theorem covers_12 : (cfg0.win (12 : Fin 17)).Covers := by decide +kernel

theorem final_12 : (dats m 0 c).arrAt (12 : Fin 17) cfg0.N = result_12 m c := by
  refine (dats m 0 c).arrAt_eq_of_covers (12 : Fin 17) (result_12 m c) covers_12 fun t hf y => ?_
  have hy : y = ix3 (0 : Fin 1) (y 1) (y 2) := by
    refine funext fun a => ?_
    fin_cases a
    · exact Fin.ext (Nat.lt_one_iff.1 (y 0).isLt)
    · rfl
    · rfl
  refine Eq.trans (b := (dats m 0 c).after (12 : Fin 17) t (ix3 (0 : Fin 1) (y 1) (y 2))) ?_ ?_
  · exact congrArg ((dats m 0 c).after (12 : Fin 17) t) hy
  · refine ((congrFun (after0_12 m c t) _).trans (at_12 m c t (y 1) (y 2))).trans
      (Eq.trans ?_ (congrArg (result_12 m c) ((congrArg _ hy).trans (place_12 t (y 1) (y 2)))).symm)
    rfl

theorem index_13 : ∀ t : Fin cfg0.N, (cfg0.win (13 : Fin 17)).index t = ![t.val / 16 % 4, t.val % 16, 0] := by decide +kernel

theorem place_13 (t : Fin cfg0.N) (r : Fin 512) (e : Fin 512) :
    ((cfg0.win (13 : Fin 17)).blk t).view.emb (ix3 (0 : Fin 1) r e) = ix3 (batch t.val) (spot t.val r) e := by
  refine funext fun a => Fin.ext ?_
  fin_cases a
  · show (cfg0.win (13 : Fin 17)).index t 0 * 1 + 1 * 0 = t.val / 16 % 4
    rw [index_13 t]
    show t.val / 16 % 4 * 1 + 1 * 0 = _
    omega
  · show (cfg0.win (13 : Fin 17)).index t 1 * 512 + 1 * r.val = t.val % 16 * 512 + r.val
    rw [index_13 t]
    show t.val % 16 * 512 + 1 * r.val = _
    omega
  · show (cfg0.win (13 : Fin 17)).index t 2 * 512 + 1 * e.val = e.val
    rw [index_13 t]
    show 0 * 512 + 1 * e.val = _
    omega

theorem covers_13 : (cfg0.win (13 : Fin 17)).Covers := by decide +kernel

theorem final_13 : (dats m 0 c).arrAt (13 : Fin 17) cfg0.N = result_13 m c := by
  refine (dats m 0 c).arrAt_eq_of_covers (13 : Fin 17) (result_13 m c) covers_13 fun t hf y => ?_
  have hy : y = ix3 (0 : Fin 1) (y 1) (y 2) := by
    refine funext fun a => ?_
    fin_cases a
    · exact Fin.ext (Nat.lt_one_iff.1 (y 0).isLt)
    · rfl
    · rfl
  refine Eq.trans (b := (dats m 0 c).after (13 : Fin 17) t (ix3 (0 : Fin 1) (y 1) (y 2))) ?_ ?_
  · exact congrArg ((dats m 0 c).after (13 : Fin 17) t) hy
  · refine ((congrFun (after0_13 m c t) _).trans (at_13 m c t (y 1) (y 2))).trans
      (Eq.trans ?_ (congrArg (result_13 m c) ((congrArg _ hy).trans (place_13 t (y 1) (y 2)))).symm)
    rfl

theorem index_14 : ∀ t : Fin cfg0.N, (cfg0.win (14 : Fin 17)).index t = ![t.val / 16 % 4, t.val % 16, 0] := by decide +kernel

theorem place_14 (t : Fin cfg0.N) (r : Fin 512) (e : Fin 512) :
    ((cfg0.win (14 : Fin 17)).blk t).view.emb (ix3 (0 : Fin 1) r e) = ix3 (batch t.val) (spot t.val r) e := by
  refine funext fun a => Fin.ext ?_
  fin_cases a
  · show (cfg0.win (14 : Fin 17)).index t 0 * 1 + 1 * 0 = t.val / 16 % 4
    rw [index_14 t]
    show t.val / 16 % 4 * 1 + 1 * 0 = _
    omega
  · show (cfg0.win (14 : Fin 17)).index t 1 * 512 + 1 * r.val = t.val % 16 * 512 + r.val
    rw [index_14 t]
    show t.val % 16 * 512 + 1 * r.val = _
    omega
  · show (cfg0.win (14 : Fin 17)).index t 2 * 512 + 1 * e.val = e.val
    rw [index_14 t]
    show 0 * 512 + 1 * e.val = _
    omega

theorem covers_14 : (cfg0.win (14 : Fin 17)).Covers := by decide +kernel

theorem final_14 : (dats m 0 c).arrAt (14 : Fin 17) cfg0.N = result_14 m c := by
  refine (dats m 0 c).arrAt_eq_of_covers (14 : Fin 17) (result_14 m c) covers_14 fun t hf y => ?_
  have hy : y = ix3 (0 : Fin 1) (y 1) (y 2) := by
    refine funext fun a => ?_
    fin_cases a
    · exact Fin.ext (Nat.lt_one_iff.1 (y 0).isLt)
    · rfl
    · rfl
  refine Eq.trans (b := (dats m 0 c).after (14 : Fin 17) t (ix3 (0 : Fin 1) (y 1) (y 2))) ?_ ?_
  · exact congrArg ((dats m 0 c).after (14 : Fin 17) t) hy
  · refine ((congrFun (after0_14 m c t) _).trans (at_14 m c t (y 1) (y 2))).trans
      (Eq.trans ?_ (congrArg (result_14 m c) ((congrArg _ hy).trans (place_14 t (y 1) (y 2)))).symm)
    rfl

theorem index_15 : ∀ t : Fin cfg0.N, (cfg0.win (15 : Fin 17)).index t = ![t.val / 16 % 4, t.val % 16, 0, 0] := by decide +kernel

/-- The `d`-th of a tile's two blocks of 256. -/
def block256 (t : ℕ) (d : Fin 2) : Fin 32 := ⟨t % 16 * 2 + d.val, by have := d.isLt; omega⟩

theorem place_15 (t : Fin cfg0.N) (d : Fin 2) (e : Fin 512) :
    ((cfg0.win (15 : Fin 17)).blk t).view.emb (ix4 (0 : Fin 1) d (0 : Fin 1) e) = ix4 (batch t.val) (block256 t.val d) (0 : Fin 1) e := by
  refine funext fun a => Fin.ext ?_
  fin_cases a
  · show (cfg0.win (15 : Fin 17)).index t 0 * 1 + 1 * 0 = t.val / 16 % 4
    rw [index_15 t]
    show t.val / 16 % 4 * 1 + 1 * 0 = _
    omega
  · show (cfg0.win (15 : Fin 17)).index t 1 * 2 + 1 * d.val = t.val % 16 * 2 + d.val
    rw [index_15 t]
    show t.val % 16 * 2 + 1 * d.val = _
    omega
  · show (cfg0.win (15 : Fin 17)).index t 2 * 1 + 1 * 0 = 0
    rw [index_15 t]
    rfl
  · show (cfg0.win (15 : Fin 17)).index t 3 * 512 + 1 * e.val = e.val
    rw [index_15 t]
    show 0 * 512 + 1 * e.val = _
    omega

theorem covers_15 : (cfg0.win (15 : Fin 17)).Covers := by decide +kernel

theorem final_15 : (dats m 0 c).arrAt (15 : Fin 17) cfg0.N = result_15 m c := by
  refine (dats m 0 c).arrAt_eq_of_covers (15 : Fin 17) (result_15 m c) covers_15 fun t hf y => ?_
  have hy : y = ix4 (0 : Fin 1) (y 1) (0 : Fin 1) (y 3) := by
    refine funext fun a => ?_
    fin_cases a
    · exact Fin.ext (Nat.lt_one_iff.1 (y 0).isLt)
    · rfl
    · exact Fin.ext (Nat.lt_one_iff.1 (y 2).isLt)
    · rfl
  refine Eq.trans (b := (dats m 0 c).after (15 : Fin 17) t (ix4 (0 : Fin 1) (y 1) (0 : Fin 1) (y 3))) ?_ ?_
  · exact congrArg ((dats m 0 c).after (15 : Fin 17) t) hy
  · refine ((congrFun (after0_15 m c t) _).trans (at_15 m c t (y 1) (y 3))).trans
      (Eq.trans ?_ (congrArg (result_15 m c) ((congrArg _ hy).trans (place_15 t (y 1) (y 3)))).symm)
    refine congrArg (· * _) (Finset.sum_congr rfl fun r _ => congrArg (zs m c (batch t.val) · _) (Fin.ext ?_))
    show t.val % 16 * 512 + ((y 1).val * 256 + r.val) = (t.val % 16 * 2 + (y 1).val) * 256 + r.val
    omega

theorem index_16 : ∀ t : Fin cfg0.N, (cfg0.win (16 : Fin 17)).index t = ![t.val / 16 % 4, 0, 0] := by decide +kernel

theorem place_16 (t : Fin cfg0.N) (d : Fin 2) (e : Fin 512) :
    ((cfg0.win (16 : Fin 17)).blk t).view.emb (ix3 (0 : Fin 1) d e) = ix3 (batch t.val) d e := by
  refine funext fun a => Fin.ext ?_
  fin_cases a
  · show (cfg0.win (16 : Fin 17)).index t 0 * 1 + 1 * 0 = t.val / 16 % 4
    rw [index_16 t]
    show t.val / 16 % 4 * 1 + 1 * 0 = _
    omega
  · show (cfg0.win (16 : Fin 17)).index t 1 * 2 + 1 * d.val = d.val
    rw [index_16 t]
    show 0 * 2 + 1 * d.val = _
    omega
  · show (cfg0.win (16 : Fin 17)).index t 2 * 512 + 1 * e.val = e.val
    rw [index_16 t]
    show 0 * 512 + 1 * e.val = _
    omega

theorem covers_16 : (cfg0.win (16 : Fin 17)).Covers := by decide +kernel

/-- The tail is written out after the last tile of a row. -/
theorem last_16 : ∀ t : Fin cfg0.N, (cfg0.win (16 : Fin 17)).flush t = true → t.val % 16 = 15 := by decide +kernel

theorem final_16 : (dats m 0 c).arrAt (16 : Fin 17) cfg0.N = result_16 m c := by
  refine (dats m 0 c).arrAt_eq_of_covers (16 : Fin 17) (result_16 m c) covers_16 fun t hf y => ?_
  have ht : t.val % 16 = 15 := last_16 t hf
  have hy : y = ix3 (0 : Fin 1) (y 1) (y 2) := by
    refine funext fun a => ?_
    fin_cases a
    · exact Fin.ext (Nat.lt_one_iff.1 (y 0).isLt)
    · rfl
    · rfl
  refine Eq.trans (b := (dats m 0 c).after (16 : Fin 17) t (ix3 (0 : Fin 1) (y 1) (y 2))) ?_ ?_
  · exact congrArg ((dats m 0 c).after (16 : Fin 17) t) hy
  · refine ((congrFun (after0_16 m c t) _).trans (at_16 m c t (y 1) (y 2))).trans
      (Eq.trans ?_ (congrArg (result_16 m c) ((congrArg _ hy).trans (place_16 t (y 1) (y 2)))).symm)
    refine congrArg (ps m c (batch t.val) · (y 2)) (Fin.ext ?_)
    show t.val % 16 * 512 + (510 + (y 1).val) = 8190 + (y 1).val
    omega

end Cert.Kernel2Ideal.Mid

end
-- ==== Proof.MidRef.lean ====
/- The plain middle layer at one index. -/
module

public import proofs.«01_k».proof.Proof.Mix
public import proofs.«01_k».proof.Proof.Gen.Reference2Ideal.Run
public import proofs.«01_k».proof.Proof.Gen.Reference2Ideal.Read
public import Idealize.ShloMosaic.Lib.KernelVsHost

@[expose] public section

set_option maxRecDepth 16384

noncomputable section

namespace Cert.Reference2Ideal.Read

open Cert.Reference2Ideal Cert.Reference2Ideal.Gen Idealize.ShloMosaic Cert.Mix

variable (x0 x1 : (⟨S4x8192x512, .bf16⟩ : BufTy).Contents (Elt Ideal)) (x2 : (⟨S4x8192x1024, .f32⟩ : BufTy).Contents (Elt Ideal))
  (x3 : (⟨S1024x1024, .bf16⟩ : BufTy).Contents (Elt Ideal)) (x4 : (⟨S1x1024, .f32⟩ : BufTy).Contents (Elt Ideal))
  (x5 : (⟨S1024x4096, .bf16⟩ : BufTy).Contents (Elt Ideal)) (x6 : (⟨S3x512, .f32⟩ : BufTy).Contents (Elt Ideal))

theorem joined_lo (b : Fin 4) (q : Fin 8192) (k : Fin 512) : val_main_v0 (F := Ideal) x0 x1 (ix3 b q (lo k)) = x0 (ix3 b q k) := by
  have hk : (lo k).val < 512 := k.isLt
  pointwise [val_main_v0]
  rw [dif_pos hk]
  rfl

theorem joined_hi (b : Fin 4) (q : Fin 8192) (k : Fin 512) : val_main_v0 (F := Ideal) x0 x1 (ix3 b q (hi k)) = x1 (ix3 b q k) := by
  have hk : ¬(hi k).val < 512 := by show ¬512 + k.val < 512; omega
  pointwise [val_main_v0]
  rw [dif_neg hk]
  congr 2
  refine Fin.ext ?_
  show 512 + k.val - 512 = k.val
  omega

/-- The residual sum of a row. -/
theorem summed (b : Fin 4) (q : Fin 8192) (n : Fin 1024) :
    val_main_v2 (F := Ideal) x0 x1 x2 x3 (ix3 b q n)
      = hidden (fun j => x2 (ix3 b q j)) (fun j => x0 (ix3 b q j)) (fun j => x1 (ix3 b q j)) (fun k j => x3 (ix2 k j)) n := by
  have e : val_main_v1 (F := Ideal) x0 x1 x3 (ix3 b q n)
      = ∑ k : Fin 1024, val_main_v0 (F := Ideal) x0 x1 (ix3 b q k) * x3 (ix2 k n) := by
    refine (val_main_v1_apply x0 x1 x3 (ix3 b q n)).trans (Finset.sum_congr rfl fun k _ => ?_)
    refine congrArg₂ (· * ·) (congrArg _ ?_) (congrArg x3 ?_) <;> funext a <;> fin_cases a <;> rfl
  rw [val_main_v2_apply, e, sum_halves]
  simp only [joined_lo, joined_hi]
  exact (add_assoc _ _ _).symm

theorem sum_zero : Ideal.ofBits .f32 0x00000000#32 = (0 : EReal) := by simp [Ideal.ofBits, Ideal.ieee]

/-- The reciprocal root of the row's mean square. -/
theorem scaled (b : Fin 4) (q : Fin 8192) :
    val_main_v11 (F := Ideal) x0 x1 x2 x3 (ix3 b q 0)
      = scale (hidden (fun j => x2 (ix3 b q j)) (fun j => x0 (ix3 b q j)) (fun j => x1 (ix3 b q j)) (fun k j => x3 (ix2 k j))) := by
  have e6 : idx_main_v6 (ix3 b q 0) = ix2 b q := by
    funext a
    fin_cases a <;> rfl
  have e5 : val_main_v5 (F := Ideal) x0 x1 x2 x3 (ix2 b q)
      = ∑ k : Fin 1024, val_main_v2 (F := Ideal) x0 x1 x2 x3 (ix3 b q k) * val_main_v2 (F := Ideal) x0 x1 x2 x3 (ix3 b q k) := by
    refine (val_main_v5_apply x0 x1 x2 x3 (ix2 b q)).trans ?_
    refine Eq.trans (congrArg₂ (· + ·) sum_zero (Finset.sum_congr rfl fun k _ => ?_)) (zero_add _)
    have ek : idx_main_v5 (ix2 b q) k = ix3 b q k := by
      funext a
      fin_cases a <;> rfl
    rw [ek, val_main_v4_apply]
    rfl
  rw [val_main_v11_apply, val_main_v10_apply, val_main_v8_apply, val_main_v6_apply, e6, e5, val_main_v7_apply, val_main_v9_apply]
  simp only [summed]
  rfl

/-- The residual sum of a position, and its wide product. -/
def rowH (b : Fin 4) (q : Fin 8192) : Fin 1024 → EReal :=
  hidden (fun j => x2 (ix3 b q j)) (fun j => x0 (ix3 b q j)) (fun j => x1 (ix3 b q j)) (fun k j => x3 (ix2 k j))

def rowZ (b : Fin 4) (q : Fin 8192) : Fin 4096 → EReal := wide (rowH x0 x1 x2 x3 b q) (fun j => x4 (ix2 0 j)) (fun k j => x5 (ix2 k j))

def rowP (b : Fin 4) (q : Fin 8192) (j : Fin 512) : EReal := rowZ x0 x1 x2 x3 x4 x5 b q (col 2 j) * rowZ x0 x1 x2 x3 x4 x5 b q (col 0 j)

theorem normed_apply (b : Fin 4) (q : Fin 8192) (n : Fin 1024) :
    val_main_v16 (F := Ideal) x0 x1 x2 x3 x4 (ix3 b q n) = normed (rowH x0 x1 x2 x3 b q) (fun j => x4 (ix2 0 j)) n := by
  have e12 : idx_main_v12 (ix3 b q n) = ix3 b q 0 := by
    funext a
    fin_cases a <;> rfl
  have e15 : val_main_v15 (F := Ideal) x4 (ix3 b q n) = x4 (ix2 0 n) := by
    rw [val_main_v15_apply, val_main_v14_apply, val_main_v3_apply]
    refine congrArg x4 (funext fun a => Fin.ext ?_)
    fin_cases a
    · rfl
    · exact Nat.mod_eq_of_lt n.isLt
  rw [val_main_v16_apply, e15, val_main_v13_apply, summed, val_main_v12_apply, e12, scaled]
  rfl

theorem wide_apply (b : Fin 4) (q : Fin 8192) (n : Fin 4096) : val_main_v18 (F := Ideal) x0 x1 x2 x3 x4 x5 (ix3 b q n) = rowZ x0 x1 x2 x3 x4 x5 b q n := by
  refine (val_main_v18_apply x0 x1 x2 x3 x4 x5 (ix3 b q n)).trans ?_
  unfold rowZ wide
  refine Finset.sum_congr rfl fun k _ => ?_
  refine congrArg₂ (· * ·) (Eq.trans (congrArg _ ?_) (normed_apply x0 x1 x2 x3 x4 b q k)) (congrArg x5 ?_) <;> funext a <;> fin_cases a <;> rfl

theorem group_0 (b : Fin 4) (q : Fin 8192) (j : Fin 512) : val_main_v19 (F := Ideal) x0 x1 x2 x3 x4 x5 (ix3 b q j) = rowZ x0 x1 x2 x3 x4 x5 b q (col 0 j) := by
  rw [val_main_v19_apply, ← wide_apply]
  refine congrArg _ (funext fun a => Fin.ext ?_)
  fin_cases a <;> first | rfl | exact (Nat.zero_mul 512 ▸ (Nat.zero_add j.val).symm : j.val = 0 * 512 + j.val)

theorem group_1 (b : Fin 4) (q : Fin 8192) (j : Fin 512) : val_main_v20 (F := Ideal) x0 x1 x2 x3 x4 x5 (ix3 b q j) = rowZ x0 x1 x2 x3 x4 x5 b q (col 1 j) := by
  rw [val_main_v20_apply, ← wide_apply]
  refine congrArg _ (funext fun a => Fin.ext ?_)
  fin_cases a <;> first | rfl | exact (Nat.zero_mul 512 ▸ (Nat.zero_add j.val).symm : j.val = 0 * 512 + j.val)

theorem group_2 (b : Fin 4) (q : Fin 8192) (j : Fin 512) : val_main_v21 (F := Ideal) x0 x1 x2 x3 x4 x5 (ix3 b q j) = rowZ x0 x1 x2 x3 x4 x5 b q (col 2 j) := by
  rw [val_main_v21_apply, ← wide_apply]
  refine congrArg _ (funext fun a => Fin.ext ?_)
  fin_cases a <;> first | rfl | exact (Nat.zero_mul 512 ▸ (Nat.zero_add j.val).symm : j.val = 0 * 512 + j.val)

theorem group_3 (b : Fin 4) (q : Fin 8192) (j : Fin 512) : val_main_v22 (F := Ideal) x0 x1 x2 x3 x4 x5 (ix3 b q j) = rowZ x0 x1 x2 x3 x4 x5 b q (col 3 j) := by
  rw [val_main_v22_apply, ← wide_apply]
  refine congrArg _ (funext fun a => Fin.ext ?_)
  fin_cases a <;> first | rfl | exact (Nat.zero_mul 512 ▸ (Nat.zero_add j.val).symm : j.val = 0 * 512 + j.val)

theorem group_4 (b : Fin 4) (q : Fin 8192) (j : Fin 512) : val_main_v23 (F := Ideal) x0 x1 x2 x3 x4 x5 (ix3 b q j) = rowZ x0 x1 x2 x3 x4 x5 b q (col 4 j) := by
  rw [val_main_v23_apply, ← wide_apply]
  refine congrArg _ (funext fun a => Fin.ext ?_)
  fin_cases a <;> first | rfl | exact (Nat.zero_mul 512 ▸ (Nat.zero_add j.val).symm : j.val = 0 * 512 + j.val)

theorem group_5 (b : Fin 4) (q : Fin 8192) (j : Fin 512) : val_main_v24 (F := Ideal) x0 x1 x2 x3 x4 x5 (ix3 b q j) = rowZ x0 x1 x2 x3 x4 x5 b q (col 5 j) := by
  rw [val_main_v24_apply, ← wide_apply]
  refine congrArg _ (funext fun a => Fin.ext ?_)
  fin_cases a <;> first | rfl | exact (Nat.zero_mul 512 ▸ (Nat.zero_add j.val).symm : j.val = 0 * 512 + j.val)

theorem group_6 (b : Fin 4) (q : Fin 8192) (j : Fin 512) : val_main_v25 (F := Ideal) x0 x1 x2 x3 x4 x5 (ix3 b q j) = rowZ x0 x1 x2 x3 x4 x5 b q (col 6 j) := by
  rw [val_main_v25_apply, ← wide_apply]
  refine congrArg _ (funext fun a => Fin.ext ?_)
  fin_cases a <;> first | rfl | exact (Nat.zero_mul 512 ▸ (Nat.zero_add j.val).symm : j.val = 0 * 512 + j.val)

theorem group_7 (b : Fin 4) (q : Fin 8192) (j : Fin 512) : val_main_v26 (F := Ideal) x0 x1 x2 x3 x4 x5 (ix3 b q j) = rowZ x0 x1 x2 x3 x4 x5 b q (col 7 j) := by
  rw [val_main_v26_apply, ← wide_apply]
  refine congrArg _ (funext fun a => Fin.ext ?_)
  fin_cases a <;> first | rfl | exact (Nat.zero_mul 512 ▸ (Nat.zero_add j.val).symm : j.val = 0 * 512 + j.val)

theorem product_apply (b : Fin 4) (q : Fin 8192) (j : Fin 512) : val_main_v27 (F := Ideal) x0 x1 x2 x3 x4 x5 (ix3 b q j) = rowP x0 x1 x2 x3 x4 x5 b q j := by
  rw [val_main_v27_apply, group_2, group_0]
  rfl

theorem filled : val_main_call0_v0 (F := Ideal) (Shape.Idx.first h_S_) = (0 : EReal) := by
  rw [val_main_call0_v0_apply]
  show (((0#32 : BitVec 32).toInt : ℝ) : EReal) = 0
  simp

theorem padded_late (b : Fin 4) (s : Fin 8194) (j : Fin 512) (h : 2 ≤ s.val) :
    val_main_v28 (F := Ideal) x0 x1 x2 x3 x4 x5 (ix3 b s j) = rowP x0 x1 x2 x3 x4 x5 b ⟨s.val - 2, by have := s.isLt; omega⟩ j := by
  rw [← product_apply]
  unfold val_main_v28
  refine pad_apply_of_inside _ _ _ _ _ _ _ _ _ fun a => ?_
  fin_cases a
  · show b.val = 0 + b.val * (0 + 1)
    omega
  · show s.val = 2 + (s.val - 2) * (0 + 1)
    omega
  · show j.val = 0 + j.val * (0 + 1)
    omega

theorem padded_early (b : Fin 4) (s : Fin 8194) (j : Fin 512) (h : ¬2 ≤ s.val) : val_main_v28 (F := Ideal) x0 x1 x2 x3 x4 x5 (ix3 b s j) = 0 := by
  rw [← filled]
  unfold val_main_v28
  exact pad_apply_of_not_inside _ _ _ _ _ _ _ _ (1 : Fin 3) fun hin => h hin.1

/-- The product `d` positions earlier, zero before the first. -/
def lag (d : ℕ) (b : Fin 4) (q : Fin 8192) (j : Fin 512) : EReal :=
  if h : d ≤ q.val then rowP x0 x1 x2 x3 x4 x5 b ⟨q.val - d, by have := q.isLt; omega⟩ j else 0

/-- The padded product at position `2 - d` past the sought one is the product `d` positions earlier. -/
theorem padded_apply (d : ℕ) (hd : d ≤ 2) (b : Fin 4) (q : Fin 8192) (j : Fin 512) (s : Fin 8194) (hs : s.val = 2 - d + q.val) :
    val_main_v28 (F := Ideal) x0 x1 x2 x3 x4 x5 (ix3 b s j) = lag x0 x1 x2 x3 x4 x5 d b q j := by
  unfold lag
  by_cases h : d ≤ q.val
  · rw [dif_pos h, padded_late x0 x1 x2 x3 x4 x5 b s j (by omega)]
    refine congrArg (rowP x0 x1 x2 x3 x4 x5 b · j) (Fin.ext ?_)
    show s.val - 2 = q.val - d
    omega
  · rw [dif_neg h, padded_early x0 x1 x2 x3 x4 x5 b s j (by omega)]

theorem lag_zero (b : Fin 4) (q : Fin 8192) (j : Fin 512) : lag x0 x1 x2 x3 x4 x5 0 b q j = rowP x0 x1 x2 x3 x4 x5 b q j := by
  unfold lag
  rw [dif_pos (Nat.zero_le _)]
  rfl

theorem one_bits : Ideal.ofBits .f32 0x3F800000#32 = (1 : EReal) := by
  simp [Ideal.ofBits, Ideal.ieee]
  norm_num
  rw [← EReal.coe_mul]
  norm_num

theorem gate_first (b : Fin 4) (q : Fin 8192) (j : Fin 512) : val_main_v50 (F := Ideal) x0 x1 x2 x3 x4 x5 (ix3 b q j) = silu (rowZ x0 x1 x2 x3 x4 x5 b q (col 3 j)) := by
  rw [val_main_v50_apply, val_main_call1_v5_apply, val_main_call1_v4_apply, val_main_call1_v3_apply, val_main_call1_v2_apply,
    val_main_call1_v1_apply, val_main_call1_v0_apply, group_3, val_main_call1_cst_apply, val_main_call1_cst_0_apply]
  show rowZ x0 x1 x2 x3 x4 x5 b q (col 3 j) * Ideal.div (Ideal.ofBits .f32 0x3F800000#32) (Ideal.ofBits .f32 0x3F800000#32 + Ideal.exp (-rowZ x0 x1 x2 x3 x4 x5 b q (col 3 j))) = _
  rw [one_bits]
  rfl

theorem gate_second (b : Fin 4) (q : Fin 8192) (j : Fin 512) : val_main_v64 (F := Ideal) x0 x1 x2 x3 x4 x5 (ix3 b q j) = silu (rowZ x0 x1 x2 x3 x4 x5 b q (col 7 j)) := by
  rw [val_main_v64_apply, val_main_v63_apply, val_main_call2_v5_apply, val_main_call2_v4_apply, val_main_call2_v3_apply, val_main_call2_v2_apply,
    val_main_call2_v1_apply, val_main_call2_v0_apply, group_7, val_main_call2_cst_apply, val_main_call2_cst_0_apply]
  show rowZ x0 x1 x2 x3 x4 x5 b q (col 7 j) * Ideal.div (Ideal.ofBits .f32 0x3F800000#32) (Ideal.ofBits .f32 0x3F800000#32 + Ideal.exp (-rowZ x0 x1 x2 x3 x4 x5 b q (col 7 j))) = _
  rw [one_bits]
  rfl

theorem weight_0 (b : Fin 4) (q : Fin 8192) (j : Fin 512) : val_main_v33 (F := Ideal) x6 (ix3 b q j) = x6 (ix2 0 j) := by
  rw [val_main_v33_apply, val_main_v32_apply, val_main_v30_apply, val_main_v29_apply]
  refine congrArg x6 (funext fun a => Fin.ext ?_)
  fin_cases a
  · rfl
  · exact Nat.mod_eq_of_lt j.isLt

theorem weight_1 (b : Fin 4) (q : Fin 8192) (j : Fin 512) : val_main_v39 (F := Ideal) x6 (ix3 b q j) = x6 (ix2 1 j) := by
  rw [val_main_v39_apply, val_main_v38_apply, val_main_v36_apply, val_main_v35_apply]
  refine congrArg x6 (funext fun a => Fin.ext ?_)
  fin_cases a
  · rfl
  · exact Nat.mod_eq_of_lt j.isLt

theorem weight_2 (b : Fin 4) (q : Fin 8192) (j : Fin 512) : val_main_v46 (F := Ideal) x6 (ix3 b q j) = x6 (ix2 2 j) := by
  rw [val_main_v46_apply, val_main_v45_apply, val_main_v43_apply, val_main_v42_apply]
  refine congrArg x6 (funext fun a => Fin.ext ?_)
  fin_cases a
  · rfl
  · exact Nat.mod_eq_of_lt j.isLt

theorem shifted_0 (b : Fin 4) (q : Fin 8192) (j : Fin 512) : val_main_v31 (F := Ideal) x0 x1 x2 x3 x4 x5 (ix3 b q j) = lag x0 x1 x2 x3 x4 x5 2 b q j := by
  have e : idx_main_v31 (ix3 b q j) = ix3 b ⟨0 + q.val, by have := q.isLt; omega⟩ j := by
    refine funext fun a => Fin.ext ?_
    fin_cases a
    · rfl
    · first | rfl | exact (Nat.zero_add q.val).symm
    · rfl
  rw [val_main_v31_apply, e]
  exact padded_apply x0 x1 x2 x3 x4 x5 2 (by decide) b q j _ rfl

theorem shifted_1 (b : Fin 4) (q : Fin 8192) (j : Fin 512) : val_main_v37 (F := Ideal) x0 x1 x2 x3 x4 x5 (ix3 b q j) = lag x0 x1 x2 x3 x4 x5 1 b q j := by
  have e : idx_main_v37 (ix3 b q j) = ix3 b ⟨1 + q.val, by have := q.isLt; omega⟩ j := by
    refine funext fun a => Fin.ext ?_
    fin_cases a
    · rfl
    · first | rfl | exact (Nat.zero_add q.val).symm
    · rfl
  rw [val_main_v37_apply, e]
  exact padded_apply x0 x1 x2 x3 x4 x5 1 (by decide) b q j _ rfl

theorem shifted_2 (b : Fin 4) (q : Fin 8192) (j : Fin 512) : val_main_v44 (F := Ideal) x0 x1 x2 x3 x4 x5 (ix3 b q j) = lag x0 x1 x2 x3 x4 x5 0 b q j := by
  have e : idx_main_v44 (ix3 b q j) = ix3 b ⟨2 + q.val, by have := q.isLt; omega⟩ j := by
    refine funext fun a => Fin.ext ?_
    fin_cases a
    · rfl
    · first | rfl | exact (Nat.zero_add q.val).symm
    · rfl
  rw [val_main_v44_apply, e]
  exact padded_apply x0 x1 x2 x3 x4 x5 0 (by decide) b q j _ rfl

theorem mixed_apply (b : Fin 4) (q : Fin 8192) (j : Fin 512) :
    val_main_v52 (F := Ideal) x0 x1 x2 x3 x4 x5 x6 (ix3 b q j)
      = rowZ x0 x1 x2 x3 x4 x5 b q (col 1 j) * (x6 (ix2 0 j) * lag x0 x1 x2 x3 x4 x5 2 b q j + x6 (ix2 1 j) * lag x0 x1 x2 x3 x4 x5 1 b q j + x6 (ix2 2 j) * rowP x0 x1 x2 x3 x4 x5 b q j)
        * silu (rowZ x0 x1 x2 x3 x4 x5 b q (col 3 j)) := by
  rw [val_main_v52_apply, val_main_v51_apply, gate_first, val_main_v49_apply, group_1, val_main_v48_apply, val_main_v41_apply,
    val_main_v34_apply, val_main_v40_apply, val_main_v47_apply, weight_0, weight_1, weight_2, shifted_0, shifted_1, shifted_2, lag_zero]
  rfl

theorem query_apply (b : Fin 4) (q : Fin 8192) (j : Fin 512) :
    val_main_v60 (F := Ideal) x0 x1 x2 x3 x4 x5 (ix3 b q j) = rowZ x0 x1 x2 x3 x4 x5 b q (col 4 j) * Ideal.ofBits .f32 0x3E000000#32 := by
  rw [val_main_v60_apply, val_main_v59_apply, group_4, val_main_v58_apply]
  rfl

theorem key_apply (b : Fin 4) (q : Fin 8192) (j : Fin 512) : val_main_v61 (F := Ideal) x0 x1 x2 x3 x4 x5 (ix3 b q j) = rowZ x0 x1 x2 x3 x4 x5 b q (col 5 j) := by
  rw [val_main_v61_apply, group_5]
  rfl

theorem value_apply (b : Fin 4) (q : Fin 8192) (j : Fin 512) : val_main_v62 (F := Ideal) x0 x1 x2 x3 x4 x5 (ix3 b q j) = rowZ x0 x1 x2 x3 x4 x5 b q (col 6 j) := by
  rw [val_main_v62_apply, group_6]
  rfl

theorem tail_apply (b : Fin 4) (d : Fin 2) (j : Fin 512) :
    val_main_v65 (F := Ideal) x0 x1 x2 x3 x4 x5 (ix3 b d j) = rowP x0 x1 x2 x3 x4 x5 b ⟨8190 + d.val, by have := d.isLt; omega⟩ j := by
  have e : idx_main_v65 (ix3 b d j) = ix3 b ⟨8192 + d.val, by have := d.isLt; omega⟩ j := by
    refine funext fun a => Fin.ext ?_
    fin_cases a <;> rfl
  rw [val_main_v65_apply, e, padded_late x0 x1 x2 x3 x4 x5 b _ j (by show 2 ≤ 8192 + d.val; omega)]
  refine congrArg (rowP x0 x1 x2 x3 x4 x5 b · j) (Fin.ext ?_)
  show 8192 + d.val - 2 = 8190 + d.val
  omega

/-- Dividing by 256 is multiplying by its reciprocal, which is exact. -/
theorem over_256 (x : EReal) : Ideal.div x (Ideal.ofBits .f32 0x43800000#32) = x * Ideal.ofBits .f32 0x3B800000#32 := by
  have e : Ideal.ofBits .f32 0x43800000#32 = ((256 : ℝ) : EReal) := by
    simp [Ideal.ofBits, Ideal.ieee]
    norm_num
    rw [← EReal.coe_mul]
    norm_num
  have e' : Ideal.ofBits .f32 0x3B800000#32 = ((1 / 256 : ℝ) : EReal) := by
    simp [Ideal.ofBits, Ideal.ieee]
    norm_num
    rw [← EReal.coe_mul]
    norm_num
  rw [e, e']
  exact Ideal.div_coe (by norm_num) x

/-- Position `r` of the `k`-th of 32 blocks of 256. -/
def inBlock (k : Fin 32) (r : Fin 256) : Fin 8192 := ⟨k.val * 256 + r.val, by have := k.isLt; have := r.isLt; omega⟩

theorem split_apply (b : Fin 4) (k : Fin 32) (r : Fin 256) (j : Fin 512) :
    val_main_v53 (F := Ideal) x0 x1 x2 x3 x4 x5 (ix4 b k r j) = rowZ x0 x1 x2 x3 x4 x5 b (inBlock k r) (col 5 j) := by
  rw [val_main_v53_apply, ← group_5]
  refine congrArg _ (funext fun a => Fin.ext ?_)
  have hb := b.isLt
  have hk := k.isLt
  have hr := r.isLt
  have hj := j.isLt
  fin_cases a
  · show (((b.val * 32 + k.val) * 256 + r.val) * 512 + j.val) / 4194304 = b.val
    omega
  · show (((b.val * 32 + k.val) * 256 + r.val) * 512 + j.val) / 512 % 8192 = k.val * 256 + r.val
    omega
  · show (((b.val * 32 + k.val) * 256 + r.val) * 512 + j.val) % 512 = j.val
    omega

theorem mean_apply (b : Fin 4) (k : Fin 32) (j : Fin 512) :
    val_main_v57 (F := Ideal) x0 x1 x2 x3 x4 x5 (ix4 b k 0 j)
      = (∑ r : Fin 256, rowZ x0 x1 x2 x3 x4 x5 b (inBlock k r) (col 5 j)) * Ideal.ofBits .f32 0x3B800000#32 := by
  have e55 : idx_main_v55 (ix4 b k 0 j) = ix3 b k j := by
    funext a
    fin_cases a <;> rfl
  have e54 : val_main_v54 (F := Ideal) x0 x1 x2 x3 x4 x5 (ix3 b k j) = ∑ r : Fin 256, rowZ x0 x1 x2 x3 x4 x5 b (inBlock k r) (col 5 j) := by
    refine (val_main_v54_apply x0 x1 x2 x3 x4 x5 (ix3 b k j)).trans ?_
    refine Eq.trans (congrArg₂ (· + ·) sum_zero (Finset.sum_congr rfl fun r _ => ?_)) (zero_add _)
    have er : idx_main_v54 (ix3 b k j) r = ix4 b k r j := by
      funext a
      fin_cases a <;> rfl
    rw [er, split_apply]
  rw [val_main_v57_apply, val_main_v55_apply, e55, e54, val_main_v56_apply]
  exact over_256 _

end Cert.Reference2Ideal.Read

end
-- ==== Proof.MidSame.lean ====
/- The plain middle layer's results are the middle call's. -/
module

public import proofs.«01_k».proof.Proof.MidCover
public import proofs.«01_k».proof.Proof.MidRef

@[expose] public section

set_option maxRecDepth 16384

noncomputable section

namespace Cert.Kernel2Ideal.Mid

open Idealize.ShloMosaic Cert.Kernel2Ideal.Gen Cert.Mix

variable (m : (ℓ : Loc nD τ sig) → Buf (Elt Ideal) ℓ) (c : Dev nD)

variable {x0 : (⟨Cert.Reference2Ideal.S4x8192x512, .bf16⟩ : BufTy).Contents (Elt Ideal)} {x1 : (⟨Cert.Reference2Ideal.S4x8192x512, .bf16⟩ : BufTy).Contents (Elt Ideal)} {x2 : (⟨Cert.Reference2Ideal.S4x8192x1024, .f32⟩ : BufTy).Contents (Elt Ideal)} {x3 : (⟨Cert.Reference2Ideal.S1024x1024, .bf16⟩ : BufTy).Contents (Elt Ideal)} {x4 : (⟨Cert.Reference2Ideal.S1x1024, .f32⟩ : BufTy).Contents (Elt Ideal)} {x5 : (⟨Cert.Reference2Ideal.S1024x4096, .bf16⟩ : BufTy).Contents (Elt Ideal)} {x6 : (⟨Cert.Reference2Ideal.S3x512, .f32⟩ : BufTy).Contents (Elt Ideal)}
  (e0 : x0 = m (c.tc.loc main_arg0)) (e1 : x1 = m (c.tc.loc main_arg1)) (e2 : x2 = m (c.tc.loc main_arg2)) (e3 : x3 = m (c.tc.loc main_arg3)) (e4 : x4 = m (c.tc.loc main_arg4)) (e5 : x5 = m (c.tc.loc main_arg5)) (e6 : x6 = m (c.tc.loc main_arg6))

include e0 e1 e2 e3 in
theorem same_7 : Cert.Reference2Ideal.Read.val_main_v2 (F := Ideal) x0 x1 x2 x3 = result_7 m c := by
  subst e0 e1 e2 e3
  funext i
  rw [eq_ix3 i]
  exact Cert.Reference2Ideal.Read.summed _ _ _ _ _ _ _

include e0 e1 e2 e3 e4 e5 e6 in
theorem same_8 : Cert.Reference2Ideal.Read.val_main_v52 (F := Ideal) x0 x1 x2 x3 x4 x5 x6 = result_8 m c := by
  subst e0 e1 e2 e3 e4 e5 e6
  funext i
  rw [eq_ix3 i]
  exact Cert.Reference2Ideal.Read.mixed_apply _ _ _ _ _ _ _ _ _ _

include e0 e1 e2 e3 e4 e5 in
theorem same_9 : Cert.Reference2Ideal.Read.val_main_v60 (F := Ideal) x0 x1 x2 x3 x4 x5 = result_9 m c := by
  subst e0 e1 e2 e3 e4 e5
  funext i
  rw [eq_ix3 i]
  exact Cert.Reference2Ideal.Read.query_apply _ _ _ _ _ _ _ _ _

include e0 e1 e2 e3 e4 e5 in
theorem same_10 : Cert.Reference2Ideal.Read.val_main_v61 (F := Ideal) x0 x1 x2 x3 x4 x5 = result_10 m c := by
  subst e0 e1 e2 e3 e4 e5
  funext i
  rw [eq_ix3 i]
  exact Cert.Reference2Ideal.Read.key_apply _ _ _ _ _ _ _ _ _

include e0 e1 e2 e3 e4 e5 in
theorem same_11 : Cert.Reference2Ideal.Read.val_main_v62 (F := Ideal) x0 x1 x2 x3 x4 x5 = result_11 m c := by
  subst e0 e1 e2 e3 e4 e5
  funext i
  rw [eq_ix3 i]
  exact Cert.Reference2Ideal.Read.value_apply _ _ _ _ _ _ _ _ _

include e0 e1 e2 e3 e4 e5 in
theorem same_12 : Cert.Reference2Ideal.Read.val_main_v64 (F := Ideal) x0 x1 x2 x3 x4 x5 = result_12 m c := by
  subst e0 e1 e2 e3 e4 e5
  funext i
  rw [eq_ix3 i]
  exact Cert.Reference2Ideal.Read.gate_second _ _ _ _ _ _ _ _ _

include e0 e1 e2 e3 e4 e5 in
theorem same_13 : Cert.Reference2Ideal.Read.val_main_v24 (F := Ideal) x0 x1 x2 x3 x4 x5 = result_13 m c := by
  subst e0 e1 e2 e3 e4 e5
  funext i
  rw [eq_ix3 i]
  exact Cert.Reference2Ideal.Read.group_5 _ _ _ _ _ _ _ _ _

include e0 e1 e2 e3 e4 e5 in
theorem same_14 : Cert.Reference2Ideal.Read.val_main_v25 (F := Ideal) x0 x1 x2 x3 x4 x5 = result_14 m c := by
  subst e0 e1 e2 e3 e4 e5
  funext i
  rw [eq_ix3 i]
  exact Cert.Reference2Ideal.Read.group_6 _ _ _ _ _ _ _ _ _

include e0 e1 e2 e3 e4 e5 in
theorem same_15 : Cert.Reference2Ideal.Read.val_main_v57 (F := Ideal) x0 x1 x2 x3 x4 x5 = result_15 m c := by
  subst e0 e1 e2 e3 e4 e5
  funext i
  have hi : i = ix4 (i 0) (i 1) (0 : Fin 1) (i 3) := by
    refine funext fun a => ?_
    fin_cases a
    · rfl
    · rfl
    · exact Fin.ext (Nat.lt_one_iff.1 (i 2).isLt)
    · rfl
  rw [hi]
  exact Cert.Reference2Ideal.Read.mean_apply _ _ _ _ _ _ _ _ _

include e0 e1 e2 e3 e4 e5 in
theorem same_16 : Cert.Reference2Ideal.Read.val_main_v65 (F := Ideal) x0 x1 x2 x3 x4 x5 = result_16 m c := by
  subst e0 e1 e2 e3 e4 e5
  funext i
  rw [eq_ix3 i]
  exact Cert.Reference2Ideal.Read.tail_apply _ _ _ _ _ _ _ _ _

end Cert.Kernel2Ideal.Mid

end
-- ==== Proof.Front.lean ====
/- The first call on one tile: the normalised row against its weights, and what each store holds at an index. -/
module

public import proofs.«01_k».proof.Proof.Mix
public import proofs.«01_k».proof.Proof.Gen.Kernel4Ideal.Skeleton
public import Idealize.ShloMosaic.Lib.Pipeline.Value
public import Idealize.ShloMosaic.Lib.Pipeline.ValueKit
public import Idealize.ShloMosaic.Lib.WordCmp

@[expose] public section

set_option maxRecDepth 16384

noncomputable section

namespace Cert.Front

open Idealize.ShloMosaic Cert.Mix

/-- The constant under the norms' roots. -/
def eps : EReal := Ideal.ofBits .f32 0x358637BD#32

/-- A row times the reciprocal root of its mean square, times its weight; `c` is the row's length. -/
def rooted {n : ℕ} (c : EReal) (H g : Fin n → EReal) (k : Fin n) : EReal :=
  H k * Ideal.rsqrt (Ideal.div (∑ j : Fin n, H j * H j) c + eps) * g k

/-- The lane 32 further on, around 128. -/
def turn (l : Fin 128) : Fin 128 := ⟨(l.val + 32) % 128, Nat.mod_lt _ (by decide)⟩

/-- Lane `l` of head `h`. -/
def lane (h : Fin 8) (l : Fin 128) : Fin 1024 := ⟨h.val * 128 + l.val, by have := h.isLt; have := l.isLt; omega⟩

/-- Columns of the first, second and third part of the narrow product. -/
def at0 (r : Fin 256) : Fin 512 := ⟨r.val, by have := r.isLt; omega⟩
def at1 (r : Fin 128) : Fin 512 := ⟨256 + r.val, by have := r.isLt; omega⟩
def at2 (r : Fin 128) : Fin 512 := ⟨384 + r.val, by have := r.isLt; omega⟩

/-- Column `j` of the `g`-th of four parts of the wide product. -/
def part (g : Fin 4) (j : Fin 512) : Fin 2048 := ⟨g.val * 512 + j.val, by have := g.isLt; have := j.isLt; omega⟩

theorem part_zero (j : Fin 512) : (part 0 j) = ⟨j.val, by have := j.isLt; omega⟩ := Fin.ext (by simp [part])

theorem lane_zero (l : Fin 128) : (lane 0 l) = ⟨l.val, by have := l.isLt; omega⟩ := Fin.ext (by simp [lane])

/-- Row or column `k` of the `c`-th block of 128 out of 512. -/
def blk (c : Fin 4) (k : Fin 128) : Fin 512 := ⟨c.val * 128 + k.val, by have := c.isLt; have := k.isLt; omega⟩

theorem blk_zero (k : Fin 128) : (blk 0 k) = ⟨k.val, by have := k.isLt; omega⟩ := Fin.ext (by simp [blk])

/-- The lower triangle of a square. -/
def lower (W : Fin 128 → Fin 128 → EReal) (r k : Fin 128) : EReal := if k.val ≤ r.val then W r k else 0

theorem select_lt (x : Fin 128) (a b : EReal) :
    Scalar.select (IntOp.cmpi .slt (BitVec.ofNat 32 x.val) 64#32) a b = if x.val < 64 then a else b := by
  have := x.isLt
  by_cases h : x.val < 64
  · rw [if_pos h, (WordCmp.cmpi_slt_ofNat_eq_one_iff (w := 32) (a := x.val) (b := 64) (by omega) (by omega)).2 h]; rfl
  · rw [if_neg h, (WordCmp.cmpi_slt_ofNat_eq_zero_iff (w := 32) (a := x.val) (b := 64) (by omega) (by omega)).2 (by omega)]; rfl

theorem select_le (r k : Fin 128) (a b : EReal) :
    Scalar.select (IntOp.cmpi .sle (BitVec.ofNat 32 k.val) (BitVec.ofNat 32 r.val)) a b = if k.val ≤ r.val then a else b := by
  rw [WordCmp.cmpi_sle_ofNat (by have := k.isLt; omega) (by have := r.isLt; omega)]
  by_cases h : k.val ≤ r.val
  · rw [if_pos h]; simp [h, Scalar.select]
  · rw [if_neg h]; simp [h, Scalar.select]

/-- The centred row of a layer norm, and the norm. -/
def centred (H : Fin 512 → EReal) (k : Fin 512) : EReal := H k - Ideal.div (∑ j : Fin 512, H j) (Ideal.ofBits .f32 0x44000000#32)
def layered (H g b : Fin 512 → EReal) (k : Fin 512) : EReal := rooted (Ideal.ofBits .f32 0x44000000#32) (centred H) g k + b k

end Cert.Front

namespace Cert.Kernel4Ideal.Front

open Idealize.ShloMosaic Cert.Kernel4Ideal.Gen Cert.Mix Cert.Front

theorem narrow_apply (x : Vec Ideal S1x512x1024 .f32) (g : Vec Ideal S1x1024 .f32) (w : Vec Ideal S1024x512 .bf16) (r n : Fin 512) :
    k0_pay8 x g w (ix2 r n)
      = ∑ k : Fin 1024, rooted (Ideal.ofBits .f32 0x44800000#32) (fun j => x (ix3 0 r j)) (fun j => g (ix2 0 j)) k * w (ix2 k n) := by
  pointwise [k0_pay8, k0_pay7]
  rfl

theorem wide_apply (x : Vec Ideal S1x512x1024 .f32) (g : Vec Ideal S1x1024 .f32) (w : Vec Ideal S1024x2048 .bf16) (r : Fin 512) (n : Fin 2048) :
    k0_pay9 x g w (ix2 r n)
      = ∑ k : Fin 1024, rooted (Ideal.ofBits .f32 0x44800000#32) (fun j => x (ix3 0 r j)) (fun j => g (ix2 0 j)) k * w (ix2 k n) := by
  pointwise [k0_pay9, k0_pay7]
  rfl

theorem query_apply (x : Vec Ideal S1x512x1024 .f32) (g : Vec Ideal S1x1024 .f32) (w : Vec Ideal S1024x512 .bf16)
    (u : Vec Ideal S1x256 .f32) (v : Vec Ideal S256x1024 .bf16) (r : Fin 512) (n : Fin 1024) :
    k0_pay12 (k0_pay4 u) (k0_pay6 v) (k0_pay10 x g w) (k0_pay11 x g w) (ix2 r n)
      = ∑ k : Fin 256, rooted (Ideal.ofBits .f32 0x43800000#32) (fun j => k0_pay8 x g w (ix2 r (at0 j))) (fun j => u (ix2 0 j)) k * v (ix2 k n) := by
  pointwise [k0_pay12, k0_pay4, k0_pay6, k0_pay10, k0_pay11]
  rfl

variable (p : FVec Ideal S512x512 .f32) (z : FVec Ideal S512x2048 .f32)

/-- The latent row of a tile's row, normalised. -/
def latentP (u : Vec Ideal S1x128 .f32) (r : Fin 512) : Fin 128 → EReal :=
  rooted (Ideal.ofBits .f32 0x43000000#32) (fun j => p (ix2 r (at1 j))) (fun j => u (ix2 0 j))

/-- The turned key of a tile's row. -/
def turnedP (t : Vec Ideal S4x512x128 .f32) (r : Fin 512) (l : Fin 128) : EReal :=
  p (ix2 r (at2 l)) * t (ix3 2 r l) + p (ix2 r (at2 (turn l))) * t (ix3 3 r l)

theorem latent_apply (u : Vec Ideal S1x128 .f32) (r : Fin 512) (j : Fin 128) :
    k0_pay15 (k0_pay5 u) p (ix3 0 r j) = latentP p u r j := by
  pointwise [k0_pay15, k0_pay13, k0_pay5]
  rfl

theorem latent_apply' (u : Vec Ideal S1x128 .f32) (r : Fin 512) (j : Fin 128) :
    k0_pay17 (k0_pay5 u) p (ix2 r j) = latentP p u r j := by
  pointwise [k0_pay17, k0_pay13, k0_pay5]
  rfl

theorem turned_apply (t : Vec Ideal S4x512x128 .f32) (r : Fin 512) (l : Fin 128) :
    k0_pay14 (k0_pay3 t) p (ix2 r l) = turnedP p t r l := by
  pointwise [k0_pay14, k0_pay3]
  rfl

theorem gate_apply (r j : Fin 512) : k0_pay39 z (ix3 0 r j) = silu (z (ix2 r (part 0 j))) := by
  pointwise [k0_pay39]
  rw [part_zero]; rfl

theorem blend_apply (r j : Fin 512) : k0_pay40 z (ix2 r j) = z (ix2 r (part 1 j)) := by
  pointwise [k0_pay40]
  rfl

theorem opened_apply (r j : Fin 512) : k0_pay41 z (ix2 r j) = z (ix2 r (part 3 j)) := by
  pointwise [k0_pay41]
  rfl

theorem layered_apply (g b : Vec Ideal S1x512 .f32) (r j : Fin 512) :
    k0_pay42 z g b (ix2 r j) = layered (fun k => z (ix2 r (part 2 k))) (fun k => g (ix2 0 k)) (fun k => b (ix2 0 k)) j := by
  pointwise [k0_pay42]
  rfl

theorem krope_apply (t : Vec Ideal S4x512x128 .f32) (r : Fin 512) (c : Fin 32) :
    k0_pay16 (k0_pay3 t) p (ix3 0 r c) = turnedP p t r ⟨64 + c.val, by have := c.isLt; omega⟩ := by
  pointwise [k0_pay16, k0_pay14, k0_pay3]
  rfl

variable (q : FVec Ideal S512x1024 .f32)

/-- A head's query lane, turned by the tables. -/
def headP (t : Vec Ideal S4x512x128 .f32) (h : Fin 8) (r : Fin 512) (l : Fin 128) : EReal :=
  q (ix2 r (lane h l)) * t (ix3 0 r l) + q (ix2 r (lane h (turn l))) * t (ix3 1 r l)

theorem head0 (t : Vec Ideal S4x512x128 .f32) (r : Fin 512) (l : Fin 128) :
    k0_pay20 (k0_pay3 t) q (ix3 0 r l) = headP q t 0 r l := by
  pointwise [k0_pay20, k0_pay3]
  simp only [headP, lane_zero]; rfl

theorem head1 (t : Vec Ideal S4x512x128 .f32) (r : Fin 512) (l : Fin 128) :
    k0_pay23 (k0_pay22 (k0_pay3 t) q) (ix3 0 r l) = headP q t 1 r l := by
  pointwise [k0_pay23, k0_pay22, k0_pay3]
  rfl

theorem head2 (t : Vec Ideal S4x512x128 .f32) (r : Fin 512) (l : Fin 128) :
    k0_pay25 (k0_pay3 t) q (ix3 0 r l) = headP q t 2 r l := by
  pointwise [k0_pay25, k0_pay3]
  rfl

theorem head3 (t : Vec Ideal S4x512x128 .f32) (r : Fin 512) (l : Fin 128) :
    k0_pay27 (k0_pay3 t) q (ix3 0 r l) = headP q t 3 r l := by
  pointwise [k0_pay27, k0_pay3]
  rfl

theorem head4 (t : Vec Ideal S4x512x128 .f32) (r : Fin 512) (l : Fin 128) :
    k0_pay30 (k0_pay3 t) q (ix3 0 r l) = headP q t 4 r l := by
  pointwise [k0_pay30, k0_pay3]
  rfl

theorem head5 (t : Vec Ideal S4x512x128 .f32) (r : Fin 512) (l : Fin 128) :
    k0_pay32 (k0_pay3 t) q (ix3 0 r l) = headP q t 5 r l := by
  pointwise [k0_pay32, k0_pay3]
  rfl

theorem head6 (t : Vec Ideal S4x512x128 .f32) (r : Fin 512) (l : Fin 128) :
    k0_pay35 (k0_pay3 t) q (ix3 0 r l) = headP q t 6 r l := by
  pointwise [k0_pay35, k0_pay3]
  rfl

theorem head7 (t : Vec Ideal S4x512x128 .f32) (r : Fin 512) (l : Fin 128) :
    k0_pay37 (k0_pay3 t) q (ix3 0 r l) = headP q t 7 r l := by
  pointwise [k0_pay37, k0_pay3]
  rfl

/-- A latent row's keys before the turned part. -/
theorem keys_apply (n : FVec Ideal S512x128 .bf16) (w : Vec Ideal S128x1024 .bf16) (r : Fin 512) (c : Fin 1024) :
    k0_pay18 n w (ix2 r c) = ∑ k : Fin 128, n (ix2 r k) * w (ix2 k c) := by
  pointwise [k0_pay18]

theorem values_apply (n : FVec Ideal S512x128 .bf16) (w : Vec Ideal S128x512 .bf16) (r c : Fin 512) :
    k0_pay19 n w (ix3 0 r c) = ∑ k : Fin 128, n (ix2 r k) * w (ix2 k c) := by
  pointwise [k0_pay19]

theorem key0 (a : FVec Ideal S512x128 .f32) (n : FVec Ideal S512x128 .bf16) (w : Vec Ideal S128x1024 .bf16) (r : Fin 512) (l : Fin 128) :
    k0_pay21 a n w (ix3 0 r l) = k0_pay18 n w (ix2 r (lane 0 l)) + a (ix2 r l) := by
  pointwise [k0_pay21]
  simp only [lane_zero]

theorem key1 (a : FVec Ideal S512x128 .f32) (n : FVec Ideal S512x1024 .f32) (r : Fin 512) (l : Fin 128) :
    k0_pay24 a n (ix3 0 r l) = n (ix2 r (lane 1 l)) + a (ix2 r l) := by
  pointwise [k0_pay24]
  rfl

theorem key2 (a : FVec Ideal S512x128 .f32) (n : FVec Ideal S512x1024 .f32) (r : Fin 512) (l : Fin 128) :
    k0_pay26 a n (ix3 0 r l) = n (ix2 r (lane 2 l)) + a (ix2 r l) := by
  pointwise [k0_pay26]
  rfl

theorem key3 (a : FVec Ideal S512x128 .f32) (n : FVec Ideal S512x1024 .f32) (r : Fin 512) (l : Fin 128) :
    k0_pay29 a (k0_pay28 n) (ix3 0 r l) = n (ix2 r (lane 3 l)) + a (ix2 r l) := by
  pointwise [k0_pay28, k0_pay29]
  rfl

theorem key4 (a : FVec Ideal S512x128 .f32) (n : FVec Ideal S512x1024 .f32) (r : Fin 512) (l : Fin 128) :
    k0_pay31 a n (ix3 0 r l) = n (ix2 r (lane 4 l)) + a (ix2 r l) := by
  pointwise [k0_pay31]
  rfl

theorem key5 (a : FVec Ideal S512x128 .f32) (n : FVec Ideal S512x1024 .f32) (r : Fin 512) (l : Fin 128) :
    k0_pay34 (k0_pay33 a n) (ix3 0 r l) = n (ix2 r (lane 5 l)) + a (ix2 r l) := by
  pointwise [k0_pay34, k0_pay33]
  rfl

theorem key6 (a : FVec Ideal S512x128 .f32) (n : FVec Ideal S512x1024 .f32) (r : Fin 512) (l : Fin 128) :
    k0_pay36 a n (ix3 0 r l) = n (ix2 r (lane 6 l)) + a (ix2 r l) := by
  pointwise [k0_pay36]
  rfl

theorem key7 (a : FVec Ideal S512x128 .f32) (n : FVec Ideal S512x1024 .f32) (r : Fin 512) (l : Fin 128) :
    k0_pay38 a n (ix3 0 r l) = n (ix2 r (lane 7 l)) + a (ix2 r l) := by
  pointwise [k0_pay38]
  rfl

theorem low0 (w : Vec Ideal S1x128x128 .f32) (r k : Fin 128) :
    k0_pay46 k0_pay43 (k0_pay44 w) k0_pay45 (ix2 r k) = lower (fun r k => w (ix3 0 r k)) r k := by
  pointwise [k0_pay43, k0_pay44, k0_pay45, k0_pay46]
  exact select_le r k _ _

theorem low1 (w : Vec Ideal S1x128x128 .f32) (r k : Fin 128) :
    k0_pay47 (iota .tc S128x128 32 [0] iota_S128x128_d0_w32) (iota .tc S128x128 32 [1] iota_S128x128_d1_w32) w (ix2 r k) = lower (fun r k => w (ix3 0 r k)) r k := by
  pointwise [k0_pay47]
  exact select_le r k _ _

theorem low2 (w : Vec Ideal S1x128x128 .f32) (r k : Fin 128) :
    k0_pay48 (iota .tc S128x128 32 [0] iota_S128x128_d0_w32) (iota .tc S128x128 32 [1] iota_S128x128_d1_w32) w (ix2 r k) = lower (fun r k => w (ix3 0 r k)) r k := by
  pointwise [k0_pay48]
  exact select_le r k _ _

theorem low3 (w : Vec Ideal S1x128x128 .f32) (r k : Fin 128) :
    k0_pay49 (iota .tc S128x128 32 [0] iota_S128x128_d0_w32) (iota .tc S128x128 32 [1] iota_S128x128_d1_w32) w (ix2 r k) = lower (fun r k => w (ix3 0 r k)) r k := by
  pointwise [k0_pay49]
  exact select_le r k _ _

theorem low4 (w : Vec Ideal S1x128x128 .f32) (r k : Fin 128) :
    k0_pay50 (iota .tc S128x128 32 [0] iota_S128x128_d0_w32) (iota .tc S128x128 32 [1] iota_S128x128_d1_w32) w (ix2 r k) = lower (fun r k => w (ix3 0 r k)) r k := by
  pointwise [k0_pay50]
  exact select_le r k _ _

theorem low5 (w : Vec Ideal S1x128x128 .f32) (r k : Fin 128) :
    k0_pay51 (iota .tc S128x128 32 [0] iota_S128x128_d0_w32) (iota .tc S128x128 32 [1] iota_S128x128_d1_w32) w (ix2 r k) = lower (fun r k => w (ix3 0 r k)) r k := by
  pointwise [k0_pay51]
  exact select_le r k _ _

theorem low6 (w : Vec Ideal S1x128x128 .f32) (r k : Fin 128) :
    k0_pay55 (k0_pay52 (iota .tc S128x128 32 [0] iota_S128x128_d0_w32) (iota .tc S128x128 32 [1] iota_S128x128_d1_w32)) (k0_pay53 w) k0_pay54 (ix2 r k) = lower (fun r k => w (ix3 0 r k)) r k := by
  pointwise [k0_pay52, k0_pay53, k0_pay54, k0_pay55]
  exact select_le r k _ _

theorem low7 (w : Vec Ideal S1x128x128 .f32) (r k : Fin 128) :
    k0_pay56 (iota .tc S128x128 32 [0] iota_S128x128_d0_w32) (iota .tc S128x128 32 [1] iota_S128x128_d1_w32) w (ix2 r k) = lower (fun r k => w (ix3 0 r k)) r k := by
  pointwise [k0_pay56]
  exact select_le r k _ _

/-- One stored square of the mixed rows: the two groups' triangles against the block's columns, the offset, the two gates. -/
def squareP (u g : FVec Ideal S512x512 .f32) (v : FVec Ideal S512x512 .bf16) (m m' : FVec Ideal S128x128 .bf16)
    (b : Vec Ideal S128x128 .f32) (ci cj : Fin 4) (r k : Fin 128) : EReal :=
  u (ix2 (blk ci r) (blk cj k))
    * ((if k.val < 64 then ∑ x : Fin 128, m (ix2 r x) * v (ix2 (blk ci x) (blk cj k))
        else ∑ x : Fin 128, m' (ix2 r x) * v (ix2 (blk ci x) (blk cj k))) + b (ix2 r k))
    * silu (g (ix2 (blk ci r) (blk cj k)))

theorem square00 (u g : FVec Ideal S512x512 .f32) (v : FVec Ideal S512x512 .bf16) (m m' : FVec Ideal S128x128 .bf16)
    (b : Vec Ideal S128x128 .f32) (r k : Fin 128) :
    k0_pay57 u g v (iota .tc S128x128 32 [1] iota_S128x128_d1_w32) m m' b (ix3 0 r k) = squareP u g v m m' b 0 0 r k := by
  pointwise [k0_pay57]
  rw [select_lt]
  simp only [squareP, blk_zero]; rfl

theorem square01 (u g : FVec Ideal S512x512 .f32) (v : FVec Ideal S512x512 .bf16) (m m' : FVec Ideal S128x128 .bf16)
    (b : Vec Ideal S128x128 .f32) (r k : Fin 128) :
    k0_pay59 (k0_pay58 u g v (iota .tc S128x128 32 [1] iota_S128x128_d1_w32) m m' b) (ix3 0 r k) = squareP u g v m m' b 0 1 r k := by
  pointwise [k0_pay58, k0_pay59]
  rw [select_lt]
  simp only [squareP, blk_zero]; rfl

theorem square02 (u g : FVec Ideal S512x512 .f32) (v : FVec Ideal S512x512 .bf16) (m m' : FVec Ideal S128x128 .bf16)
    (b : Vec Ideal S128x128 .f32) (r k : Fin 128) :
    k0_pay60 u g v (iota .tc S128x128 32 [1] iota_S128x128_d1_w32) m m' b (ix3 0 r k) = squareP u g v m m' b 0 2 r k := by
  pointwise [k0_pay60]
  rw [select_lt]
  simp only [squareP, blk_zero]; rfl

theorem square03 (u g : FVec Ideal S512x512 .f32) (v : FVec Ideal S512x512 .bf16) (m m' : FVec Ideal S128x128 .bf16)
    (b : Vec Ideal S128x128 .f32) (r k : Fin 128) :
    k0_pay62 (k0_pay61 u g v (iota .tc S128x128 32 [1] iota_S128x128_d1_w32) m m' b) (ix3 0 r k) = squareP u g v m m' b 0 3 r k := by
  pointwise [k0_pay61, k0_pay62]
  rw [select_lt]
  simp only [squareP, blk_zero]; rfl

theorem square10 (u g : FVec Ideal S512x512 .f32) (v : FVec Ideal S512x512 .bf16) (m m' : FVec Ideal S128x128 .bf16)
    (b : Vec Ideal S128x128 .f32) (r k : Fin 128) :
    k0_pay63 u g v (iota .tc S128x128 32 [1] iota_S128x128_d1_w32) m m' b (ix3 0 r k) = squareP u g v m m' b 1 0 r k := by
  pointwise [k0_pay63]
  rw [select_lt]
  simp only [squareP, blk_zero]; rfl

theorem square11 (u g : FVec Ideal S512x512 .f32) (v : FVec Ideal S512x512 .bf16) (m m' : FVec Ideal S128x128 .bf16)
    (b : Vec Ideal S128x128 .f32) (r k : Fin 128) :
    k0_pay64 u g v (iota .tc S128x128 32 [1] iota_S128x128_d1_w32) m m' b (ix3 0 r k) = squareP u g v m m' b 1 1 r k := by
  pointwise [k0_pay64]
  rw [select_lt]
  rfl

theorem square12 (u g : FVec Ideal S512x512 .f32) (v : FVec Ideal S512x512 .bf16) (m m' : FVec Ideal S128x128 .bf16)
    (b : Vec Ideal S128x128 .f32) (r k : Fin 128) :
    k0_pay65 u g v (iota .tc S128x128 32 [1] iota_S128x128_d1_w32) m m' b (ix3 0 r k) = squareP u g v m m' b 1 2 r k := by
  pointwise [k0_pay65]
  rw [select_lt]
  rfl

theorem square13 (u g : FVec Ideal S512x512 .f32) (v : FVec Ideal S512x512 .bf16) (m m' : FVec Ideal S128x128 .bf16)
    (b : Vec Ideal S128x128 .f32) (r k : Fin 128) :
    k0_pay66 u g v (iota .tc S128x128 32 [1] iota_S128x128_d1_w32) m m' b (ix3 0 r k) = squareP u g v m m' b 1 3 r k := by
  pointwise [k0_pay66]
  rw [select_lt]
  rfl

theorem square20 (u g : FVec Ideal S512x512 .f32) (v : FVec Ideal S512x512 .bf16) (m m' : FVec Ideal S128x128 .bf16)
    (b : Vec Ideal S128x128 .f32) (r k : Fin 128) :
    k0_pay69 u g (iota .tc S128x128 32 [1] iota_S128x128_d1_w32) m' (k0_pay67 v) (k0_pay68 v m) (constant S128x128 .f32 0x00000000#32) b (ix3 0 r k) = squareP u g v m m' b 2 0 r k := by
  pointwise [k0_pay67, k0_pay68, k0_pay69]
  rw [select_lt]
  simp only [squareP, blk_zero]; rfl

theorem square21 (u g : FVec Ideal S512x512 .f32) (v : FVec Ideal S512x512 .bf16) (m m' : FVec Ideal S128x128 .bf16)
    (b : Vec Ideal S128x128 .f32) (r k : Fin 128) :
    k0_pay70 u g v (iota .tc S128x128 32 [1] iota_S128x128_d1_w32) m m' b (ix3 0 r k) = squareP u g v m m' b 2 1 r k := by
  pointwise [k0_pay70]
  rw [select_lt]
  rfl

theorem square22 (u g : FVec Ideal S512x512 .f32) (v : FVec Ideal S512x512 .bf16) (m m' : FVec Ideal S128x128 .bf16)
    (b : Vec Ideal S128x128 .f32) (r k : Fin 128) :
    k0_pay75 u g (k0_pay72 v m) (k0_pay73 v m') (k0_pay74 (iota .tc S128x128 32 [1] iota_S128x128_d1_w32)) b (ix3 0 r k) = squareP u g v m m' b 2 2 r k := by
  pointwise [k0_pay71, k0_pay72, k0_pay73, k0_pay74, k0_pay75]
  rw [select_lt]
  rfl

theorem square23 (u g : FVec Ideal S512x512 .f32) (v : FVec Ideal S512x512 .bf16) (m m' : FVec Ideal S128x128 .bf16)
    (b : Vec Ideal S128x128 .f32) (r k : Fin 128) :
    k0_pay76 u g v (iota .tc S128x128 32 [1] iota_S128x128_d1_w32) m m' b (ix3 0 r k) = squareP u g v m m' b 2 3 r k := by
  pointwise [k0_pay76]
  rw [select_lt]
  rfl

theorem square30 (u g : FVec Ideal S512x512 .f32) (v : FVec Ideal S512x512 .bf16) (m m' : FVec Ideal S128x128 .bf16)
    (b : Vec Ideal S128x128 .f32) (r k : Fin 128) :
    k0_pay78 u g (k0_pay77 v (iota .tc S128x128 32 [1] iota_S128x128_d1_w32) m m') b (ix3 0 r k) = squareP u g v m m' b 3 0 r k := by
  pointwise [k0_pay77, k0_pay78]
  rw [select_lt]
  simp only [squareP, blk_zero]; rfl

theorem square31 (u g : FVec Ideal S512x512 .f32) (v : FVec Ideal S512x512 .bf16) (m m' : FVec Ideal S128x128 .bf16)
    (b : Vec Ideal S128x128 .f32) (r k : Fin 128) :
    k0_pay79 u g v (iota .tc S128x128 32 [1] iota_S128x128_d1_w32) m m' b (ix3 0 r k) = squareP u g v m m' b 3 1 r k := by
  pointwise [k0_pay79]
  rw [select_lt]
  rfl

theorem square32 (u g : FVec Ideal S512x512 .f32) (v : FVec Ideal S512x512 .bf16) (m m' : FVec Ideal S128x128 .bf16)
    (b : Vec Ideal S128x128 .f32) (r k : Fin 128) :
    k0_pay1 g (k0_pay80 u v (iota .tc S128x128 32 [1] iota_S128x128_d1_w32) m m' b) (ix3 0 r k) = squareP u g v m m' b 3 2 r k := by
  pointwise [k0_pay80, k0_pay1]
  rw [select_lt]
  rfl

theorem square33 (u g : FVec Ideal S512x512 .f32) (v : FVec Ideal S512x512 .bf16) (m m' : FVec Ideal S128x128 .bf16)
    (b : Vec Ideal S128x128 .f32) (r k : Fin 128) :
    k0_pay2 u g v (iota .tc S128x128 32 [1] iota_S128x128_d1_w32) m m' b (ix3 0 r k) = squareP u g v m m' b 3 3 r k := by
  pointwise [k0_pay2]
  rw [select_lt]
  rfl

end Cert.Kernel4Ideal.Front

end
-- ==== Proof.FrontRuns.lean ====
/- What one grid point of the first call leaves in its seven result blocks, at an index. -/
module

public import proofs.«01_k».proof.Proof.Front
public import proofs.«01_k».proof.Proof.Gen.Kernel4Ideal.Frame

@[expose] public section

set_option maxRecDepth 16384

noncomputable section

namespace Cert.Front

open Idealize.ShloMosaic Cert.Mix

/-- The normalised row against the columns of a weight. -/
def across {N : ℕ} (H g : Fin 1024 → EReal) (W : Fin 1024 → Fin N → EReal) (n : Fin N) : EReal :=
  ∑ k : Fin 1024, rooted (Ideal.ofBits .f32 0x44800000#32) H g k * W k n

/-- The queries of a row from its narrow product. -/
def queries (Z : Fin 512 → EReal) (u : Fin 256 → EReal) (V : Fin 256 → Fin 1024 → EReal) (n : Fin 1024) : EReal :=
  ∑ k : Fin 256, rooted (Ideal.ofBits .f32 0x43800000#32) (fun j => Z (at0 j)) u k * V k n

/-- The latent row from the narrow product. -/
def latent (Z : Fin 512 → EReal) (u : Fin 128 → EReal) : Fin 128 → EReal :=
  rooted (Ideal.ofBits .f32 0x43000000#32) (fun j => Z (at1 j)) u

/-- The turned key from the narrow product and two tables. -/
def turned (Z : Fin 512 → EReal) (t t' : Fin 128 → EReal) (l : Fin 128) : EReal := Z (at2 l) * t l + Z (at2 (turn l)) * t' l

/-- A query lane, turned. -/
def asked (Q : Fin 1024 → EReal) (t t' : Fin 128 → EReal) (h : Fin 8) (l : Fin 128) : EReal :=
  Q (lane h l) * t l + Q (lane h (turn l)) * t' l

/-- A key lane. -/
def keyed (L : Fin 128 → EReal) (K : Fin 128 → Fin 1024 → EReal) (T : Fin 128 → EReal) (h : Fin 8) (l : Fin 128) : EReal :=
  (∑ k : Fin 128, L k * K k (lane h l)) + T l

/-- The values of a latent row. -/
def valued (L : Fin 128 → EReal) (V : Fin 128 → Fin 512 → EReal) (n : Fin 512) : EReal := ∑ k : Fin 128, L k * V k n

/-- The group of a column. -/
def group (j : Fin 512) : Fin 8 := ⟨j.val / 64, by have := j.isLt; omega⟩

/-- A chunk's mixed rows, from the wide products of its rows. -/
def mixed (Z : Fin 128 → Fin 2048 → EReal) (g b : Fin 512 → EReal) (W : Fin 8 → Fin 128 → Fin 128 → EReal) (B : Fin 128 → Fin 512 → EReal)
    (r : Fin 128) (j : Fin 512) : EReal :=
  Z r (part 1 j) * ((∑ x : Fin 128, lower (W (group j)) r x * layered (fun i => Z x (part 2 i)) g b j) + B r j) * silu (Z r (part 3 j))

/-- A lane's head and its place in the head. -/
def headOf (c : Fin 1024) : Fin 8 := ⟨c.val / 128, by have := c.isLt; omega⟩
def laneOf (c : Fin 1024) : Fin 128 := ⟨c.val % 128, Nat.mod_lt _ (by decide)⟩

theorem headOf_lane (h : Fin 8) (l : Fin 128) : headOf (lane h l) = h :=
  Fin.ext (by show (h.val * 128 + l.val) / 128 = h.val; have := l.isLt; omega)
theorem laneOf_lane (h : Fin 8) (l : Fin 128) : laneOf (lane h l) = l :=
  Fin.ext (by show (h.val * 128 + l.val) % 128 = l.val; have := l.isLt; omega)

/-- A row's block and its place in the block. -/
def blkOf (c : Fin 512) : Fin 4 := ⟨c.val / 128, by have := c.isLt; omega⟩
def inBlk (c : Fin 512) : Fin 128 := ⟨c.val % 128, Nat.mod_lt _ (by decide)⟩

theorem blkOf_blk (h : Fin 4) (l : Fin 128) : blkOf (blk h l) = h :=
  Fin.ext (by show (h.val * 128 + l.val) / 128 = h.val; have := l.isLt; omega)
theorem inBlk_blk (h : Fin 4) (l : Fin 128) : inBlk (blk h l) = l :=
  Fin.ext (by show (h.val * 128 + l.val) % 128 = l.val; have := l.isLt; omega)
theorem blk_of (c : Fin 512) : blk (blkOf c) (inBlk c) = c :=
  Fin.ext (by show c.val / 128 * 128 + c.val % 128 = c.val; omega)

end Cert.Front

namespace Cert.Kernel4Ideal.Front

open Idealize.ShloMosaic Cert.Kernel4Ideal.Gen Cert.Mix Cert.Front

variable (x0 : Vec Ideal S1x512x1024 .f32) (x1 : Vec Ideal S4x512x128 .f32) (x2 : Vec Ideal S1x1024 .f32) (x3 : Vec Ideal S1024x512 .bf16) (x4 : Vec Ideal S1024x2048 .bf16) (x5 : Vec Ideal S1x256 .f32) (x6 : Vec Ideal S1x128 .f32) (x7 : Vec Ideal S256x1024 .bf16) (x8 : Vec Ideal S128x1024 .bf16) (x9 : Vec Ideal S128x512 .bf16) (x10 : Vec Ideal S1x512 .f32) (x11 : Vec Ideal S1x512 .f32) (x12 : Vec Ideal S8x128x128 .f32) (x13 : Vec Ideal S128x512 .f32)

theorem ld1 (x : Vec Ideal S1x512x1024 .f32) : View.ld x r0_1 = x := View.ld_unit_lit _ _ fun a => by fin_cases a <;> rfl
theorem ld0 (x : Vec Ideal S4x512x128 .f32) : View.ld x r0_0 = x := View.ld_unit_lit _ _ fun a => by fin_cases a <;> rfl
theorem ld2 (x : Vec Ideal S1x1024 .f32) : View.ld x r0_2 = x := View.ld_unit_lit _ _ fun a => by fin_cases a <;> rfl
theorem ld3 (x : Vec Ideal S1024x512 .bf16) : View.ld x r0_3 = x := View.ld_unit_lit _ _ fun a => by fin_cases a <;> rfl
theorem ld4 (x : Vec Ideal S1024x2048 .bf16) : View.ld x r0_4 = x := View.ld_unit_lit _ _ fun a => by fin_cases a <;> rfl
theorem ld5 (x : Vec Ideal S1x256 .f32) : View.ld x r0_5 = x := View.ld_unit_lit _ _ fun a => by fin_cases a <;> rfl
theorem ld6 (x : Vec Ideal S1x128 .f32) : View.ld x r0_6 = x := View.ld_unit_lit _ _ fun a => by fin_cases a <;> rfl
theorem ld7 (x : Vec Ideal S256x1024 .bf16) : View.ld x r0_7 = x := View.ld_unit_lit _ _ fun a => by fin_cases a <;> rfl
theorem ld10 (x : Vec Ideal S128x1024 .bf16) : View.ld x r0_10 = x := View.ld_unit_lit _ _ fun a => by fin_cases a <;> rfl
theorem ld11 (x : Vec Ideal S128x512 .bf16) : View.ld x r0_11 = x := View.ld_unit_lit _ _ fun a => by fin_cases a <;> rfl
theorem ld21 (x : Vec Ideal S1x512 .f32) : View.ld x r0_21 = x := View.ld_unit_lit _ _ fun a => by fin_cases a <;> rfl

/-- The tile's narrow and wide products, and what follows from them row by row. -/
def narrowT (r : Fin 512) : Fin 512 → EReal := across (fun j => x0 (ix3 0 r j)) (fun j => x2 (ix2 0 j)) fun k n => x3 (ix2 k n)
def wideT (r : Fin 512) : Fin 2048 → EReal := across (fun j => x0 (ix3 0 r j)) (fun j => x2 (ix2 0 j)) fun k n => x4 (ix2 k n)
def latentT (r : Fin 512) : Fin 128 → EReal := latent (narrowT x0 x2 x3 r) fun j => x6 (ix2 0 j)
def turnedT (r : Fin 512) : Fin 128 → EReal := turned (narrowT x0 x2 x3 r) (fun l => x1 (ix3 2 r l)) fun l => x1 (ix3 3 r l)
def queryT (r : Fin 512) : Fin 1024 → EReal := queries (narrowT x0 x2 x3 r) (fun j => x5 (ix2 0 j)) fun k n => x7 (ix2 k n)

theorem narrow_eq (r n : Fin 512) : k0_pay83 x0 x1 x2 x3 x4 x5 x6 x7 x8 x9 x10 x11 x12 x13 (ix2 r n) = narrowT x0 x2 x3 r n := by
  unfold k0_pay83
  rw [ld1, ld2, ld3]
  exact narrow_apply _ _ _ r n

theorem wide_eq (r : Fin 512) (n : Fin 2048) : k0_pay84 x0 x1 x2 x3 x4 x5 x6 x7 x8 x9 x10 x11 x12 x13 (ix2 r n) = wideT x0 x2 x4 r n := by
  unfold k0_pay84
  rw [ld1, ld2, ld4]
  exact wide_apply _ _ _ r n

theorem query_eq (r : Fin 512) (n : Fin 1024) : k0_pay85 x0 x1 x2 x3 x4 x5 x6 x7 x8 x9 x10 x11 x12 x13 (ix2 r n) = queryT x0 x2 x3 x5 x7 r n := by
  unfold k0_pay85
  rw [ld1, ld2, ld3, ld5, ld7]
  refine (query_apply _ _ _ _ _ r n).trans ?_
  simp only [narrow_apply]
  rfl

theorem latent_eq (r : Fin 512) (j : Fin 128) : k0_pay87 x0 x1 x2 x3 x4 x5 x6 x7 x8 x9 x10 x11 x12 x13 (ix2 r j) = latentT x0 x2 x3 x6 r j := by
  unfold k0_pay87 k0_pay82
  rw [ld6]
  refine (latent_apply' _ _ r j).trans ?_
  simp only [latentP, narrow_eq]
  rfl

theorem turned_eq (r : Fin 512) (l : Fin 128) : k0_pay86 x0 x1 x2 x3 x4 x5 x6 x7 x8 x9 x10 x11 x12 x13 (ix2 r l) = turnedT x0 x1 x2 x3 r l := by
  unfold k0_pay86 k0_pay81
  rw [ld0]
  refine (turned_apply _ _ r l).trans ?_
  simp only [turnedP, narrow_eq]
  rfl

theorem keys_eq (r : Fin 512) (n : Fin 1024) : k0_pay88 x0 x1 x2 x3 x4 x5 x6 x7 x8 x9 x10 x11 x12 x13 (ix2 r n) = ∑ k : Fin 128, latentT x0 x2 x3 x6 r k * x8 (ix2 k n) := by
  unfold k0_pay88
  rw [ld10]
  refine (keys_apply _ _ r n).trans ?_
  simp only [latent_eq]

theorem block_lane (o : ℕ) (h : Fin 8) (e : o = h.val * 128) (inb) (r : Fin 512) (l : Fin 128) :
    (Rect.unit (s := S1x512x1024) ![0, 0, o] S1x512x128.size inb).emb (ix3 (0 : Fin 1) r l) = ix3 (0 : Fin 1) r (lane h l) := by
  subst e
  refine funext fun a => Fin.ext ?_
  rw [ValueKit.rect_emb_unit_val]
  fin_cases a
  · rfl
  · exact Nat.zero_add _
  · rfl

theorem flat_lane (x : S1x512x128.Idx) : ∃ (r : Fin 512) (l : Fin 128), x = ix3 (0 : Fin 1) r l := by
  refine ⟨x 1, x 2, ?_⟩
  refine funext fun a => ?_
  fin_cases a
  · exact Fin.ext (Nat.lt_one_iff.1 (x 0).isLt)
  · rfl
  · rfl

theorem flat_square (x : S1x128x128.Idx) : ∃ r l : Fin 128, x = ix3 (0 : Fin 1) r l := by
  refine ⟨x 1, x 2, ?_⟩
  refine funext fun a => ?_
  fin_cases a
  · exact Fin.ext (Nat.lt_one_iff.1 (x 0).isLt)
  · rfl
  · rfl

/-- A piece of eight lanes' blocks holds a function of row, head and lane when it does so at each row and lane. -/
theorem piece_lane (o : ℕ) (h : Fin 8) (e : o = h.val * 128) (inb) (f : S1x512x128.Idx → EReal) (F : Fin 512 → Fin 8 → Fin 128 → EReal)
    (hf : ∀ r l, f (ix3 (0 : Fin 1) r l) = F r h l) (x : S1x512x128.Idx) :
    f x = (fun y : S1x512x1024.Idx => F (y 1) (headOf (y 2)) (laneOf (y 2))) ((Rect.unit (s := S1x512x1024) ![0, 0, o] S1x512x128.size inb).emb x) := by
  obtain ⟨r, l, rfl⟩ := flat_lane x
  refine (hf r l).trans ?_
  refine Eq.trans ?_ (congrArg (fun y : S1x512x1024.Idx => F (y 1) (headOf (y 2)) (laneOf (y 2))) (block_lane o h e inb r l)).symm
  show _ = F r (headOf (lane h l)) (laneOf (lane h l))
  rw [headOf_lane, laneOf_lane]

theorem out14 (r : Fin 512) (n : Fin 1024) :
    out0_14 x0 x1 x2 x3 x4 x5 x6 x7 x8 x9 x10 x11 x12 x13 (ix3 0 r n) = asked (queryT x0 x2 x3 x5 x7 r) (fun l => x1 (ix3 0 r l)) (fun l => x1 (ix3 1 r l)) (headOf n) (laneOf n) := by
  unfold out0_14
  refine (View.canon_apply_of_pieces (Val := Elt Ideal) (fun y : S1x512x1024.Idx =>
    (fun r h l => asked (queryT x0 x2 x3 x5 x7 r) (fun l => x1 (ix3 0 r l)) (fun l => x1 (ix3 1 r l)) h l) (y 1) (headOf (y 2)) (laneOf (y 2))) _ ?_ (ix3 0 r n) (cover0_14 _ _ _ _ _ _ _ _ _)).trans rfl
  simp only [List.forall_mem_cons]
  have key : ∀ (h : Fin 8) r l, headP (k0_pay85 x0 x1 x2 x3 x4 x5 x6 x7 x8 x9 x10 x11 x12 x13) x1 h r l = asked (queryT x0 x2 x3 x5 x7 r) (fun l => x1 (ix3 0 r l)) (fun l => x1 (ix3 1 r l)) h l := by
    intro h r l
    simp only [headP, query_eq]
    rfl
  have e81 : k0_pay81 x0 x1 x2 x3 x4 x5 x6 x7 x8 x9 x10 x11 x12 x13 = k0_pay3 x1 := by unfold k0_pay81; rw [ld0]
  rw [e81]
  refine ⟨piece_lane 896 7 rfl _ _ _ fun r l => (head7 _ _ r l).trans (key 7 r l), piece_lane 768 6 rfl _ _ _ fun r l => (head6 _ _ r l).trans (key 6 r l),
    piece_lane 640 5 rfl _ _ _ fun r l => (head5 _ _ r l).trans (key 5 r l), piece_lane 512 4 rfl _ _ _ fun r l => (head4 _ _ r l).trans (key 4 r l),
    piece_lane 384 3 rfl _ _ _ fun r l => (head3 _ _ r l).trans (key 3 r l), piece_lane 256 2 rfl _ _ _ fun r l => (head2 _ _ r l).trans (key 2 r l),
    piece_lane 128 1 rfl _ _ _ fun r l => (head1 _ _ r l).trans (key 1 r l), piece_lane 0 0 rfl _ _ _ fun r l => (head0 _ _ r l).trans (key 0 r l), ?_⟩
  exact fun _ h => absurd h List.not_mem_nil

theorem out15 (r : Fin 512) (n : Fin 1024) :
    out0_15 x0 x1 x2 x3 x4 x5 x6 x7 x8 x9 x10 x11 x12 x13 (ix3 0 r n) = keyed (latentT x0 x2 x3 x6 r) (fun k n => x8 (ix2 k n)) (turnedT x0 x1 x2 x3 r) (headOf n) (laneOf n) := by
  unfold out0_15
  refine (View.canon_apply_of_pieces (Val := Elt Ideal) (fun y : S1x512x1024.Idx =>
    (fun r h l => keyed (latentT x0 x2 x3 x6 r) (fun k n => x8 (ix2 k n)) (turnedT x0 x1 x2 x3 r) h l) (y 1) (headOf (y 2)) (laneOf (y 2))) _ ?_ (ix3 0 r n) (cover0_15 _ _ _ _ _ _ _ _ _)).trans rfl
  simp only [List.forall_mem_cons]
  have key : ∀ (h : Fin 8) r l, k0_pay88 x0 x1 x2 x3 x4 x5 x6 x7 x8 x9 x10 x11 x12 x13 (ix2 r (lane h l)) + k0_pay86 x0 x1 x2 x3 x4 x5 x6 x7 x8 x9 x10 x11 x12 x13 (ix2 r l) = keyed (latentT x0 x2 x3 x6 r) (fun k n => x8 (ix2 k n)) (turnedT x0 x1 x2 x3 r) h l := by
    intro h r l
    rw [keys_eq, turned_eq]
    rfl
  refine ⟨piece_lane 896 7 rfl _ _ _ fun r l => (key7 _ _ r l).trans (key 7 r l), piece_lane 768 6 rfl _ _ _ fun r l => (key6 _ _ r l).trans (key 6 r l),
    piece_lane 640 5 rfl _ _ _ fun r l => (key5 _ _ r l).trans (key 5 r l), piece_lane 512 4 rfl _ _ _ fun r l => (key4 _ _ r l).trans (key 4 r l),
    piece_lane 384 3 rfl _ _ _ fun r l => (key3 _ _ r l).trans (key 3 r l), piece_lane 256 2 rfl _ _ _ fun r l => (key2 _ _ r l).trans (key 2 r l),
    piece_lane 128 1 rfl _ _ _ fun r l => (key1 _ _ r l).trans (key 1 r l), piece_lane 0 0 rfl _ _ _ fun r l => (key0 _ _ _ r l).trans (key 0 r l), ?_⟩
  exact fun _ h => absurd h List.not_mem_nil

theorem out16 (r n : Fin 512) : out0_16 x0 x1 x2 x3 x4 x5 x6 x7 x8 x9 x10 x11 x12 x13 (ix3 0 r n) = valued (latentT x0 x2 x3 x6 r) (fun k n => x9 (ix2 k n)) n := by
  unfold out0_16
  rw [View.canon_cons_unit_lit _ _ _ fun a => by fin_cases a <;> rfl, ld11]
  refine (values_apply _ _ r n).trans ?_
  simp only [latent_eq]
  rfl

theorem out17 (r : Fin 512) (n : Fin 128) : out0_17 x0 x1 x2 x3 x4 x5 x6 x7 x8 x9 x10 x11 x12 x13 (ix3 0 r n) = latentT x0 x2 x3 x6 r n := by
  unfold out0_17 k0_pay82
  rw [View.canon_cons_unit_lit _ _ _ fun a => by fin_cases a <;> rfl, ld6]
  refine (latent_apply _ _ r n).trans ?_
  simp only [latentP, narrow_eq]
  rfl

theorem out18 (r : Fin 512) (n : Fin 32) : out0_18 x0 x1 x2 x3 x4 x5 x6 x7 x8 x9 x10 x11 x12 x13 (ix3 0 r n) = turnedT x0 x1 x2 x3 r ⟨64 + n.val, by have := n.isLt; omega⟩ := by
  unfold out0_18 k0_pay81
  rw [View.canon_cons_unit_lit _ _ _ fun a => by fin_cases a <;> rfl, ld0]
  refine (krope_apply _ _ r n).trans ?_
  simp only [turnedP, narrow_eq]
  rfl

theorem out19 (r n : Fin 512) : out0_19 x0 x1 x2 x3 x4 x5 x6 x7 x8 x9 x10 x11 x12 x13 (ix3 0 r n) = silu (wideT x0 x2 x4 r (part 0 n)) := by
  unfold out0_19
  rw [View.canon_cons_unit_lit _ _ _ fun a => by fin_cases a <;> rfl]
  refine (gate_apply _ r n).trans ?_
  rw [wide_eq]

/-- The columns of a block and the groups they lie in. -/
theorem group_low (c : Fin 4) (k : Fin 128) (h : k.val < 64) : group (blk c k) = ⟨2 * c.val, by have := c.isLt; omega⟩ :=
  Fin.ext (by show (c.val * 128 + k.val) / 64 = 2 * c.val; omega)
theorem group_high (c : Fin 4) (k : Fin 128) (h : ¬ k.val < 64) : group (blk c k) = ⟨2 * c.val + 1, by have := c.isLt; omega⟩ :=
  Fin.ext (by show (c.val * 128 + k.val) / 64 = 2 * c.val + 1; have := k.isLt; omega)

/-- The mixed rows of a tile, chunk by chunk. -/
def mixedT (ci : Fin 4) : Fin 128 → Fin 512 → EReal :=
  mixed (fun x => wideT x0 x2 x4 (blk ci x)) (fun k => x10 (ix2 0 k)) (fun k => x11 (ix2 0 k)) (fun h r k => x12 (ix3 h r k)) fun r k => x13 (ix2 r k)

theorem block_square (o o' : ℕ) (ci cj : Fin 4) (e : o = ci.val * 128) (e' : o' = cj.val * 128) (inb) (r l : Fin 128) :
    (Rect.unit (s := S1x512x512) ![0, o, o'] S1x128x128.size inb).emb (ix3 (0 : Fin 1) r l) = ix3 (0 : Fin 1) (blk ci r) (blk cj l) := by
  subst e e'
  refine funext fun a => Fin.ext ?_
  rw [ValueKit.rect_emb_unit_val]
  fin_cases a
  · rfl
  · rfl
  · rfl

theorem piece_square (o o' : ℕ) (ci cj : Fin 4) (e : o = ci.val * 128) (e' : o' = cj.val * 128) (inb) (f : S1x128x128.Idx → EReal)
    (F : Fin 4 → Fin 128 → Fin 512 → EReal) (hf : ∀ r l, f (ix3 (0 : Fin 1) r l) = F ci r (blk cj l)) (x : S1x128x128.Idx) :
    f x = (fun y : S1x512x512.Idx => F (blkOf (y 1)) (inBlk (y 1)) (y 2)) ((Rect.unit (s := S1x512x512) ![0, o, o'] S1x128x128.size inb).emb x) := by
  obtain ⟨r, l, rfl⟩ := flat_square x
  refine (hf r l).trans ?_
  refine Eq.trans ?_ (congrArg (fun y : S1x512x512.Idx => F (blkOf (y 1)) (inBlk (y 1)) (y 2)) (block_square o o' ci cj e e' inb r l)).symm
  show _ = F (blkOf (blk ci r)) (inBlk (blk ci r)) (blk cj l)
  rw [blkOf_blk, inBlk_blk]

theorem layered_eq (r j : Fin 512) : k0_pay94 x0 x1 x2 x3 x4 x5 x6 x7 x8 x9 x10 x11 x12 x13 (ix2 r j)
    = layered (fun i => wideT x0 x2 x4 r (part 2 i)) (fun k => x10 (ix2 0 k)) (fun k => x11 (ix2 0 k)) j := by
  unfold k0_pay94
  rw [ld21, ld21]
  refine (layered_apply _ _ _ r j).trans ?_
  simp only [wide_eq]

theorem square_eq (m m' : FVec Ideal S128x128 .bf16) (b : Vec Ideal S128x128 .f32) (ci cj : Fin 4)
    (hm : ∀ r k, m (ix2 r k) = lower (fun r k => x12 (ix3 ⟨2 * cj.val, by have := cj.isLt; omega⟩ r k)) r k)
    (hm' : ∀ r k, m' (ix2 r k) = lower (fun r k => x12 (ix3 ⟨2 * cj.val + 1, by have := cj.isLt; omega⟩ r k)) r k)
    (hb : ∀ r k, b (ix2 r k) = x13 (ix2 r (blk cj k))) (r k : Fin 128) :
    squareP (k0_pay92 x0 x1 x2 x3 x4 x5 x6 x7 x8 x9 x10 x11 x12 x13) (k0_pay93 x0 x1 x2 x3 x4 x5 x6 x7 x8 x9 x10 x11 x12 x13) (k0_pay94 x0 x1 x2 x3 x4 x5 x6 x7 x8 x9 x10 x11 x12 x13) m m' b ci cj r k = mixedT x0 x2 x4 x10 x11 x12 x13 ci r (blk cj k) := by
  unfold squareP mixedT mixed k0_pay92 k0_pay93
  simp only [blend_apply, opened_apply, wide_eq, layered_eq, hm, hm', hb]
  by_cases h : k.val < 64
  · rw [if_pos h, group_low cj k h]
  · rw [if_neg h, group_high cj k h]

theorem tri0 (r k : Fin 128) : k0_pay95 x0 x1 x2 x3 x4 x5 x6 x7 x8 x9 x10 x11 x12 x13 (ix2 r k) = lower (fun r k => x12 (ix3 0 r k)) r k := by
  unfold k0_pay95
  refine (low0 _ r k).trans (congrArg (fun W => lower W r k) (funext fun r => funext fun k => congrArg x12 (funext fun a => Fin.ext ?_)))
  fin_cases a
  · rfl
  · simp
  · simp

theorem tri1 (r k : Fin 128) : k0_pay96 x0 x1 x2 x3 x4 x5 x6 x7 x8 x9 x10 x11 x12 x13 (ix2 r k) = lower (fun r k => x12 (ix3 1 r k)) r k := by
  unfold k0_pay96 k0_pay89 k0_pay90
  refine (low1 _ r k).trans (congrArg (fun W => lower W r k) (funext fun r => funext fun k => congrArg x12 (funext fun a => Fin.ext ?_)))
  fin_cases a
  · rfl
  · simp
  · simp

theorem tri2 (r k : Fin 128) : k0_pay97 x0 x1 x2 x3 x4 x5 x6 x7 x8 x9 x10 x11 x12 x13 (ix2 r k) = lower (fun r k => x12 (ix3 2 r k)) r k := by
  unfold k0_pay97 k0_pay89 k0_pay90
  refine (low2 _ r k).trans (congrArg (fun W => lower W r k) (funext fun r => funext fun k => congrArg x12 (funext fun a => Fin.ext ?_)))
  fin_cases a
  · rfl
  · simp
  · simp

theorem tri3 (r k : Fin 128) : k0_pay98 x0 x1 x2 x3 x4 x5 x6 x7 x8 x9 x10 x11 x12 x13 (ix2 r k) = lower (fun r k => x12 (ix3 3 r k)) r k := by
  unfold k0_pay98 k0_pay89 k0_pay90
  refine (low3 _ r k).trans (congrArg (fun W => lower W r k) (funext fun r => funext fun k => congrArg x12 (funext fun a => Fin.ext ?_)))
  fin_cases a
  · rfl
  · simp
  · simp

theorem tri4 (r k : Fin 128) : k0_pay99 x0 x1 x2 x3 x4 x5 x6 x7 x8 x9 x10 x11 x12 x13 (ix2 r k) = lower (fun r k => x12 (ix3 4 r k)) r k := by
  unfold k0_pay99 k0_pay89 k0_pay90
  refine (low4 _ r k).trans (congrArg (fun W => lower W r k) (funext fun r => funext fun k => congrArg x12 (funext fun a => Fin.ext ?_)))
  fin_cases a
  · rfl
  · simp
  · simp

theorem tri5 (r k : Fin 128) : k0_pay100 x0 x1 x2 x3 x4 x5 x6 x7 x8 x9 x10 x11 x12 x13 (ix2 r k) = lower (fun r k => x12 (ix3 5 r k)) r k := by
  unfold k0_pay100 k0_pay89 k0_pay90
  refine (low5 _ r k).trans (congrArg (fun W => lower W r k) (funext fun r => funext fun k => congrArg x12 (funext fun a => Fin.ext ?_)))
  fin_cases a
  · rfl
  · simp
  · simp

theorem tri6 (r k : Fin 128) : k0_pay101 x0 x1 x2 x3 x4 x5 x6 x7 x8 x9 x10 x11 x12 x13 (ix2 r k) = lower (fun r k => x12 (ix3 6 r k)) r k := by
  unfold k0_pay101 k0_pay89 k0_pay90
  refine (low6 _ r k).trans (congrArg (fun W => lower W r k) (funext fun r => funext fun k => congrArg x12 (funext fun a => Fin.ext ?_)))
  fin_cases a
  · rfl
  · simp
  · simp

theorem tri7 (r k : Fin 128) : k0_pay102 x0 x1 x2 x3 x4 x5 x6 x7 x8 x9 x10 x11 x12 x13 (ix2 r k) = lower (fun r k => x12 (ix3 7 r k)) r k := by
  unfold k0_pay102 k0_pay89 k0_pay90
  refine (low7 _ r k).trans (congrArg (fun W => lower W r k) (funext fun r => funext fun k => congrArg x12 (funext fun a => Fin.ext ?_)))
  fin_cases a
  · rfl
  · simp
  · simp

theorem bias0 (r k : Fin 128) : View.ld x13 r0_30 (ix2 r k) = x13 (ix2 r (blk 0 k)) :=
  congrArg x13 (funext fun a => Fin.ext (by fin_cases a <;> simp [blk]))

theorem bias1 (r k : Fin 128) : View.ld x13 r0_32 (ix2 r k) = x13 (ix2 r (blk 1 k)) :=
  congrArg x13 (funext fun a => Fin.ext (by fin_cases a <;> simp [blk]))

theorem bias2 (r k : Fin 128) : View.ld x13 r0_34 (ix2 r k) = x13 (ix2 r (blk 2 k)) :=
  congrArg x13 (funext fun a => Fin.ext (by fin_cases a <;> simp [blk]))

theorem bias3 (r k : Fin 128) : View.ld x13 r0_36 (ix2 r k) = x13 (ix2 r (blk 3 k)) :=
  congrArg x13 (funext fun a => Fin.ext (by fin_cases a <;> simp [blk]))

theorem out20 (r n : Fin 512) : out0_20 x0 x1 x2 x3 x4 x5 x6 x7 x8 x9 x10 x11 x12 x13 (ix3 0 r n) = mixedT x0 x2 x4 x10 x11 x12 x13 (blkOf r) (inBlk r) n := by
  unfold out0_20
  refine (View.canon_apply_of_pieces (Val := Elt Ideal) (fun y : S1x512x512.Idx => mixedT x0 x2 x4 x10 x11 x12 x13 (blkOf (y 1)) (inBlk (y 1)) (y 2)) _ ?_ (ix3 0 r n)
    (cover0_20 _ _ _ _ _ _ _ _ _ _ _ _ _ _ _ _ _)).trans rfl
  simp only [List.forall_mem_cons]
  refine ⟨piece_square 384 384 3 3 rfl rfl _ _ _ fun r l => (square33 _ _ _ _ _ _ r l).trans (square_eq x0 x1 x2 x3 x4 x5 x6 x7 x8 x9 x10 x11 x12 x13 _ _ _ 3 3 (tri6 x0 x1 x2 x3 x4 x5 x6 x7 x8 x9 x10 x11 x12 x13) (tri7 x0 x1 x2 x3 x4 x5 x6 x7 x8 x9 x10 x11 x12 x13) (bias3 x13) r l),
    piece_square 384 256 3 2 rfl rfl _ _ _ fun r l => (square32 _ _ _ _ _ _ r l).trans (square_eq x0 x1 x2 x3 x4 x5 x6 x7 x8 x9 x10 x11 x12 x13 _ _ _ 3 2 (tri4 x0 x1 x2 x3 x4 x5 x6 x7 x8 x9 x10 x11 x12 x13) (tri5 x0 x1 x2 x3 x4 x5 x6 x7 x8 x9 x10 x11 x12 x13) (bias2 x13) r l),
    piece_square 384 128 3 1 rfl rfl _ _ _ fun r l => (square31 _ _ _ _ _ _ r l).trans (square_eq x0 x1 x2 x3 x4 x5 x6 x7 x8 x9 x10 x11 x12 x13 _ _ _ 3 1 (tri2 x0 x1 x2 x3 x4 x5 x6 x7 x8 x9 x10 x11 x12 x13) (tri3 x0 x1 x2 x3 x4 x5 x6 x7 x8 x9 x10 x11 x12 x13) (bias1 x13) r l),
    piece_square 384 0 3 0 rfl rfl _ _ _ fun r l => (square30 _ _ _ _ _ _ r l).trans (square_eq x0 x1 x2 x3 x4 x5 x6 x7 x8 x9 x10 x11 x12 x13 _ _ _ 3 0 (tri0 x0 x1 x2 x3 x4 x5 x6 x7 x8 x9 x10 x11 x12 x13) (tri1 x0 x1 x2 x3 x4 x5 x6 x7 x8 x9 x10 x11 x12 x13) (bias0 x13) r l),
    piece_square 256 384 2 3 rfl rfl _ _ _ fun r l => (square23 _ _ _ _ _ _ r l).trans (square_eq x0 x1 x2 x3 x4 x5 x6 x7 x8 x9 x10 x11 x12 x13 _ _ _ 2 3 (tri6 x0 x1 x2 x3 x4 x5 x6 x7 x8 x9 x10 x11 x12 x13) (tri7 x0 x1 x2 x3 x4 x5 x6 x7 x8 x9 x10 x11 x12 x13) (bias3 x13) r l),
    piece_square 256 256 2 2 rfl rfl _ _ _ fun r l => (square22 _ _ _ _ _ _ r l).trans (square_eq x0 x1 x2 x3 x4 x5 x6 x7 x8 x9 x10 x11 x12 x13 _ _ _ 2 2 (tri4 x0 x1 x2 x3 x4 x5 x6 x7 x8 x9 x10 x11 x12 x13) (tri5 x0 x1 x2 x3 x4 x5 x6 x7 x8 x9 x10 x11 x12 x13) (bias2 x13) r l),
    piece_square 256 128 2 1 rfl rfl _ _ _ fun r l => (square21 _ _ _ _ _ _ r l).trans (square_eq x0 x1 x2 x3 x4 x5 x6 x7 x8 x9 x10 x11 x12 x13 _ _ _ 2 1 (tri2 x0 x1 x2 x3 x4 x5 x6 x7 x8 x9 x10 x11 x12 x13) (tri3 x0 x1 x2 x3 x4 x5 x6 x7 x8 x9 x10 x11 x12 x13) (bias1 x13) r l),
    piece_square 256 0 2 0 rfl rfl _ _ _ fun r l => (square20 _ _ _ _ _ _ r l).trans (square_eq x0 x1 x2 x3 x4 x5 x6 x7 x8 x9 x10 x11 x12 x13 _ _ _ 2 0 (tri0 x0 x1 x2 x3 x4 x5 x6 x7 x8 x9 x10 x11 x12 x13) (tri1 x0 x1 x2 x3 x4 x5 x6 x7 x8 x9 x10 x11 x12 x13) (bias0 x13) r l),
    piece_square 128 384 1 3 rfl rfl _ _ _ fun r l => (square13 _ _ _ _ _ _ r l).trans (square_eq x0 x1 x2 x3 x4 x5 x6 x7 x8 x9 x10 x11 x12 x13 _ _ _ 1 3 (tri6 x0 x1 x2 x3 x4 x5 x6 x7 x8 x9 x10 x11 x12 x13) (tri7 x0 x1 x2 x3 x4 x5 x6 x7 x8 x9 x10 x11 x12 x13) (bias3 x13) r l),
    piece_square 128 256 1 2 rfl rfl _ _ _ fun r l => (square12 _ _ _ _ _ _ r l).trans (square_eq x0 x1 x2 x3 x4 x5 x6 x7 x8 x9 x10 x11 x12 x13 _ _ _ 1 2 (tri4 x0 x1 x2 x3 x4 x5 x6 x7 x8 x9 x10 x11 x12 x13) (tri5 x0 x1 x2 x3 x4 x5 x6 x7 x8 x9 x10 x11 x12 x13) (bias2 x13) r l),
    piece_square 128 128 1 1 rfl rfl _ _ _ fun r l => (square11 _ _ _ _ _ _ r l).trans (square_eq x0 x1 x2 x3 x4 x5 x6 x7 x8 x9 x10 x11 x12 x13 _ _ _ 1 1 (tri2 x0 x1 x2 x3 x4 x5 x6 x7 x8 x9 x10 x11 x12 x13) (tri3 x0 x1 x2 x3 x4 x5 x6 x7 x8 x9 x10 x11 x12 x13) (bias1 x13) r l),
    piece_square 128 0 1 0 rfl rfl _ _ _ fun r l => (square10 _ _ _ _ _ _ r l).trans (square_eq x0 x1 x2 x3 x4 x5 x6 x7 x8 x9 x10 x11 x12 x13 _ _ _ 1 0 (tri0 x0 x1 x2 x3 x4 x5 x6 x7 x8 x9 x10 x11 x12 x13) (tri1 x0 x1 x2 x3 x4 x5 x6 x7 x8 x9 x10 x11 x12 x13) (bias0 x13) r l),
    piece_square 0 384 0 3 rfl rfl _ _ _ fun r l => (square03 _ _ _ _ _ _ r l).trans (square_eq x0 x1 x2 x3 x4 x5 x6 x7 x8 x9 x10 x11 x12 x13 _ _ _ 0 3 (tri6 x0 x1 x2 x3 x4 x5 x6 x7 x8 x9 x10 x11 x12 x13) (tri7 x0 x1 x2 x3 x4 x5 x6 x7 x8 x9 x10 x11 x12 x13) (bias3 x13) r l),
    piece_square 0 256 0 2 rfl rfl _ _ _ fun r l => (square02 _ _ _ _ _ _ r l).trans (square_eq x0 x1 x2 x3 x4 x5 x6 x7 x8 x9 x10 x11 x12 x13 _ _ _ 0 2 (tri4 x0 x1 x2 x3 x4 x5 x6 x7 x8 x9 x10 x11 x12 x13) (tri5 x0 x1 x2 x3 x4 x5 x6 x7 x8 x9 x10 x11 x12 x13) (bias2 x13) r l),
    piece_square 0 128 0 1 rfl rfl _ _ _ fun r l => (square01 _ _ _ _ _ _ r l).trans (square_eq x0 x1 x2 x3 x4 x5 x6 x7 x8 x9 x10 x11 x12 x13 _ _ _ 0 1 (tri2 x0 x1 x2 x3 x4 x5 x6 x7 x8 x9 x10 x11 x12 x13) (tri3 x0 x1 x2 x3 x4 x5 x6 x7 x8 x9 x10 x11 x12 x13) (bias1 x13) r l),
    piece_square 0 0 0 0 rfl rfl _ _ _ fun r l => (square00 _ _ _ _ _ _ r l).trans (square_eq x0 x1 x2 x3 x4 x5 x6 x7 x8 x9 x10 x11 x12 x13 _ _ _ 0 0 (tri0 x0 x1 x2 x3 x4 x5 x6 x7 x8 x9 x10 x11 x12 x13) (tri1 x0 x1 x2 x3 x4 x5 x6 x7 x8 x9 x10 x11 x12 x13) (bias0 x13) r l), ?_⟩
  exact fun _ h => absurd h List.not_mem_nil

end Cert.Kernel4Ideal.Front

end
-- ==== Proof.FrontMath.lean ====
/- The input side of the first layer as formulas over its arguments, and the padded weights and tables brought to them. -/
module

public import proofs.«01_k».proof.Proof.FrontRuns

@[expose] public section

set_option maxRecDepth 16384

noncomputable section

namespace Cert.Front

open Idealize.ShloMosaic Cert.Mix

/-- The angle of frequency `f` at a position. -/
def angle (q : ℕ) (f : ℕ) : EReal :=
  FloatOps.sitofp (F := Ideal) .f32 (BitVec.ofNat 32 q)
    * Ideal.pow (Ideal.ofBits .f32 1176256512#32)
      (Ideal.div (-FloatOps.sitofp (F := Ideal) .f32 (BitVec.ofNat 32 f)) (Ideal.ofBits .f32 1098907648#32))

/-- Cosine and sine of a position for the 32 turned lanes. -/
def cosv (q : ℕ) (i : ℕ) : EReal := if i < 16 then Ideal.cos (angle q i) else Ideal.cos (angle q (i - 16))
def sinv (q : ℕ) (i : ℕ) : EReal := if i < 16 then Ideal.sin (angle q i) else Ideal.sin (angle q (i - 16))

/-- The queries' scale. -/
def scl : EReal := Ideal.ofBits .f32 1037108716#32

/-- The four tables by lane. -/
def tabA (q : ℕ) (l : Fin 128) : EReal := (if l.val < 64 then 1 else if l.val - 64 < 32 then cosv q (l.val - 64) else 0) * scl
def tabB (q : ℕ) (l : Fin 128) : EReal := (if l.val < 64 then 0 else if l.val - 64 < 32 then sinv q (l.val - 64) else 0) * scl
def tabC (q : ℕ) (l : Fin 128) : EReal := if l.val < 64 then 0 else if l.val - 64 < 32 then cosv q (l.val - 64) else 0
def tabD (q : ℕ) (l : Fin 128) : EReal := if l.val < 64 then 0 else if l.val - 64 < 32 then sinv q (l.val - 64) else 0

/-- The columns whose product is the turned row: minus the second half of a span of 32, then the first. -/
def swap {N : ℕ} (o : ℕ) (ho : o + 32 ≤ N) (W : Fin N → EReal) (i : Fin 32) : EReal :=
  if h : i.val < 16 then -W ⟨o + (16 + i.val), by omega⟩ else W ⟨o + (i.val - 16), by have := i.isLt; omega⟩

/-- The narrow weight: three spans of the columns, the last padded in front by zeros and behind by its turned columns. -/
def padA (W : Fin 2464 → EReal) (n : Fin 512) : EReal :=
  if h : n.val < 256 then W ⟨n.val, by omega⟩
  else if h : n.val - 256 < 128 then W ⟨256 + (n.val - 256), by omega⟩
  else if h : n.val - 256 - 128 < 64 then 0
  else if h : n.val - 256 - 128 - 64 < 32 then W ⟨384 + (n.val - 256 - 128 - 64), by omega⟩
  else swap 384 (by decide) W ⟨n.val - 256 - 128 - 64 - 32, by have := n.isLt; omega⟩

/-- A head's query weight with the turned columns behind. -/
def padQ (U : Fin 96 → EReal) (l : Fin 128) : EReal :=
  if h : l.val < 64 then U ⟨l.val, by omega⟩
  else if h : l.val - 64 < 32 then U ⟨64 + (l.val - 64), by omega⟩
  else swap 64 (by decide) U ⟨l.val - 64 - 32, by have := l.isLt; omega⟩

/-- A head's key weight, the lanes behind zero. -/
def padK (U : Fin 128 → EReal) (l : Fin 128) : EReal := if l.val < 64 then U l else 0

variable (X G : Fin 1024 → EReal) (W : Fin 1024 → Fin 2464 → EReal)

/-- The turned part of a row's product, before and after the exchange of halves. -/
def plain32 (i : Fin 32) : EReal := across X G W ⟨384 + i.val, by have := i.isLt; omega⟩
def swapped32 (i : Fin 32) : EReal := across X G (fun k => swap 384 (by decide) (W k)) i

/-- The turned key. -/
def krope (q : ℕ) (i : Fin 32) : EReal := plain32 X G W i * cosv q i.val + swapped32 X G W i * sinv q i.val

/-- The normalised query and latent rows. -/
def cquery (u : Fin 256 → EReal) : Fin 256 → EReal :=
  rooted (Ideal.ofBits .f32 0x43800000#32) (fun j => across X G W ⟨j.val, by have := j.isLt; omega⟩) u
def clatent (u : Fin 128 → EReal) : Fin 128 → EReal :=
  rooted (Ideal.ofBits .f32 0x43000000#32) (fun j => across X G W ⟨256 + j.val, by have := j.isLt; omega⟩) u

/-- A lane of a head's query. -/
def qlane (C : Fin 256 → EReal) (U : Fin 256 → Fin 96 → EReal) (q : ℕ) (l : Fin 128) : EReal :=
  if h : l.val < 64 then (∑ k : Fin 256, C k * U k ⟨l.val, by omega⟩) * scl
  else if h : l.val - 64 < 32 then
    (∑ k : Fin 256, C k * U k ⟨64 + (l.val - 64), by omega⟩) * (cosv q (l.val - 64) * scl)
      + (∑ k : Fin 256, C k * swap 64 (by decide) (U k) ⟨l.val - 64, by omega⟩) * (sinv q (l.val - 64) * scl)
  else 0

/-- A lane of a head's key. -/
def klane (L : Fin 128 → EReal) (U : Fin 128 → Fin 128 → EReal) (T : Fin 32 → EReal) (l : Fin 128) : EReal :=
  if h : l.val < 64 then ∑ k : Fin 128, L k * U k l
  else if h : l.val - 64 < 32 then T ⟨l.val - 64, by omega⟩ else 0

/-- A column of the wide part. -/
def past (n : Fin 2048) : Fin 2464 := ⟨416 + n.val, by have := n.isLt; omega⟩

variable {A : Fin 1024 → Fin 512 → EReal} (hA : ∀ k n, A k n = padA (W k) n)
include hA

theorem narrow_at0 (j : Fin 256) : across X G A (at0 j) = across X G W ⟨j.val, by have := j.isLt; omega⟩ := by
  unfold across
  refine Finset.sum_congr rfl fun k _ => congrArg _ ?_
  rw [hA, padA, dif_pos (show (at0 j).val < 256 from j.isLt)]
  rfl

theorem narrow_at1 (j : Fin 128) : across X G A (at1 j) = across X G W ⟨256 + j.val, by have := j.isLt; omega⟩ := by
  unfold across
  refine Finset.sum_congr rfl fun k _ => congrArg _ ?_
  have e : (at1 j).val = 256 + j.val := rfl
  have := j.isLt
  rw [hA, padA, dif_neg (by omega), dif_pos (by omega)]
  congr 2
  omega

theorem narrow_at2 (l : Fin 128) (h : ¬l.val < 64) (h' : l.val - 64 < 32) :
    across X G A (at2 l) = plain32 X G W ⟨l.val - 64, h'⟩ := by
  unfold plain32 across
  refine Finset.sum_congr rfl fun k _ => congrArg _ ?_
  have e : (at2 l).val = 384 + l.val := rfl
  rw [hA, padA, dif_neg (by omega), dif_neg (by omega), dif_neg (by omega), dif_pos (by omega)]
  congr 2
  show 384 + ((at2 l).val - 256 - 128 - 64) = 384 + (l.val - 64)
  omega

theorem narrow_at2' (l : Fin 128) (h : ¬l.val < 64) (h' : l.val - 64 < 32) :
    across X G A (at2 (turn l)) = swapped32 X G W ⟨l.val - 64, h'⟩ := by
  unfold swapped32 across
  refine Finset.sum_congr rfl fun k _ => congrArg _ ?_
  have e : (at2 (turn l)).val = 384 + (l.val + 32) % 128 := rfl
  have e' : (l.val + 32) % 128 = l.val + 32 := Nat.mod_eq_of_lt (by omega)
  have e2 : (at2 (turn l)).val = 384 + (l.val + 32) := e.trans (congrArg (384 + ·) e')
  rw [hA, padA, dif_neg (by omega), dif_neg (by omega), dif_neg (by omega), dif_neg (by omega)]
  refine congrArg (swap 384 _ (W k)) (Fin.ext ?_)
  dsimp only
  omega

theorem turned_spec (q : ℕ) (l : Fin 128) :
    turned (across X G A) (tabC q) (tabD q) l
      = if h : l.val < 64 then 0 else if h' : l.val - 64 < 32 then krope X G W q ⟨l.val - 64, h'⟩ else 0 := by
  unfold turned tabC tabD
  by_cases h : l.val < 64
  · rw [if_pos h, if_pos h, dif_pos h, mul_zero, mul_zero, add_zero]
  · rw [if_neg h, if_neg h, dif_neg h]
    by_cases h' : l.val - 64 < 32
    · rw [if_pos h', if_pos h', dif_pos h', narrow_at2 X G W hA l h h', narrow_at2' X G W hA l h h']
      rfl
    · rw [if_neg h', if_neg h', dif_neg h', mul_zero, mul_zero, add_zero]

theorem latent_spec (u : Fin 128 → EReal) : latent (across X G A) u = clatent X G W u := by
  unfold latent clatent
  congr 1
  exact funext fun j => narrow_at1 X G W hA j

theorem query_spec (u : Fin 256 → EReal) (V : Fin 256 → Fin 1024 → EReal) (n : Fin 1024) :
    queries (across X G A) u V n = ∑ k : Fin 256, cquery X G W u k * V k n := by
  unfold queries cquery
  rw [show (fun j => across X G A (at0 j)) = fun j : Fin 256 => across X G W ⟨j.val, by have := j.isLt; omega⟩ from
    funext fun j => narrow_at0 X G W hA j]

omit hA

theorem asked_spec (C : Fin 256 → EReal) (V : Fin 256 → Fin 1024 → EReal) (U : Fin 256 → Fin 8 → Fin 96 → EReal)
    (hV : ∀ k n, V k n = padQ (U k (headOf n)) (laneOf n)) (q : ℕ) (h : Fin 8) (l : Fin 128) :
    asked (fun n => ∑ k : Fin 256, C k * V k n) (tabA q) (tabB q) h l = qlane C (fun k => U k h) q l := by
  have hV' : ∀ k l, V k (lane h l) = padQ (U k h) l := fun k l => by rw [hV, headOf_lane, laneOf_lane]
  unfold asked tabA tabB qlane
  simp only [hV']
  by_cases h0 : l.val < 64
  · rw [if_pos h0, if_pos h0, dif_pos h0, one_mul, zero_mul, mul_zero, add_zero]
    simp only [padQ, dif_pos h0]
  · rw [if_neg h0, if_neg h0, dif_neg h0]
    by_cases h1 : l.val - 64 < 32
    · rw [if_pos h1, if_pos h1, dif_pos h1]
      have e' : (turn l).val = l.val + 32 := (show (turn l).val = (l.val + 32) % 128 from rfl).trans (Nat.mod_eq_of_lt (by omega))
      have a : ∀ k, padQ (U k h) l = U k h ⟨64 + (l.val - 64), by omega⟩ := fun k => by
        rw [padQ, dif_neg h0, dif_pos h1]
      have b : ∀ k, padQ (U k h) (turn l) = swap 64 (by decide) (U k h) ⟨l.val - 64, by omega⟩ := fun k => by
        rw [padQ, dif_neg (by omega), dif_neg (by omega)]
        refine congrArg (swap 64 _ (U k h)) (Fin.ext ?_)
        dsimp only
        omega
      simp only [a, b]
    · rw [if_neg h1, if_neg h1, dif_neg h1, zero_mul, mul_zero, mul_zero, add_zero]

theorem keyed_spec (L : Fin 128 → EReal) (K : Fin 128 → Fin 1024 → EReal) (U : Fin 128 → Fin 8 → Fin 128 → EReal)
    (hK : ∀ k n, K k n = padK (U k (headOf n)) (laneOf n)) (T : Fin 32 → EReal) (t : Fin 128 → EReal)
    (ht : ∀ l : Fin 128, t l = if h : l.val < 64 then 0 else if h' : l.val - 64 < 32 then T ⟨l.val - 64, h'⟩ else 0) (h : Fin 8) (l : Fin 128) :
    keyed L K t h l = klane L (fun k => U k h) T l := by
  have hK' : ∀ k, K k (lane h l) = padK (U k h) l := fun k => by rw [hK, headOf_lane, laneOf_lane]
  unfold keyed klane padK at *
  simp only [hK', ht]
  by_cases h0 : l.val < 64
  · simp only [if_pos h0, dif_pos h0, add_zero]
  · simp only [if_neg h0, dif_neg h0, mul_zero, Finset.sum_const_zero, zero_add]

end Cert.Front

end
-- ==== Proof.FrontHost.lean ====
/- What the call's prelude hands it, at an index. -/
module

public import proofs.«01_k».proof.Proof.FrontMath
public import Idealize.ShloMosaic.Lib.StableHlo.RunRead
public import Idealize.ShloMosaic.Lib.KernelVsHost

@[expose] public section

set_option maxRecDepth 16384

noncomputable section

namespace Cert.Kernel4Ideal.Front

open Idealize.ShloMosaic Cert.Kernel4Ideal.Gen Cert.Mix Cert.Front

variable (m : (ℓ : Loc nD τ sig) → Buf (Elt Ideal) ℓ) (c : Dev nD)

theorem host_66 (n : Fin 1024) : V m c main_v66 (ix2 0 n) = m (c.tc.loc main_arg1) (ix1 n) := by
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []

theorem host_67 (n : Fin 256) : V m c main_v67 (ix2 0 n) = m (c.tc.loc main_arg3) (ix1 n) := by
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []

theorem host_68 (n : Fin 128) : V m c main_v68 (ix2 0 n) = m (c.tc.loc main_arg4) (ix1 n) := by
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []

theorem host_69 (n : Fin 512) : V m c main_v69 (ix2 0 n) = m (c.tc.loc main_arg7) (ix1 n) := by
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []

theorem host_70 (n : Fin 512) : V m c main_v70 (ix2 0 n) = m (c.tc.loc main_arg8) (ix1 n) := by
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []

theorem host_12 (k : Fin 1024) (n : Fin 2048) : V m c main_v12 (ix2 k n) = m (c.tc.loc main_arg2) (ix2 k (past n)) := by
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  rfl

theorem host_32 (k : Fin 128) (n : Fin 512) : V m c main_v32 (ix2 k n) = m (c.tc.loc main_arg10) (ix2 (group n) k) := by
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  rfl

theorem host_29 (k : Fin 128) (n : Fin 512) : V m c main_v29 (ix2 k n) = m (c.tc.loc main_arg6) (ix3 k (group n) ⟨64 + n.val % 64, by omega⟩) := by
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  rfl

theorem host_10 (k : Fin 1024) (n : Fin 512) : V m c main_v10 (ix2 k n) = padA (fun j => m (c.tc.loc main_arg2) (ix2 k j)) n := by
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  rfl

theorem host_21 (k : Fin 256) (n : Fin 1024) : V m c main_v21 (ix2 k n) = padQ (fun j => m (c.tc.loc main_arg5) (ix3 k (headOf n) j)) (laneOf n) := by
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  rfl

theorem host_27 (k : Fin 128) (n : Fin 1024) : V m c main_v27 (ix2 k n) = padK (fun j => m (c.tc.loc main_arg6) (ix3 k (headOf n) j)) (laneOf n) := by
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  rfl

theorem host_65A (q : Fin 8192) (l : Fin 128) : V m c main_v65 (ix3 0 q l) = tabA q l := by
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  rfl

theorem host_65B (q : Fin 8192) (l : Fin 128) : V m c main_v65 (ix3 1 q l) = tabB q l := by
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  rfl

theorem host_65C (q : Fin 8192) (l : Fin 128) : V m c main_v65 (ix3 2 q l) = tabC q l := by
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  rfl

theorem host_65D (q : Fin 8192) (l : Fin 128) : V m c main_v65 (ix3 3 q l) = tabD q l := by
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  rfl

end Cert.Kernel4Ideal.Front

end
-- ==== Proof.FrontCover.lean ====
/- The call's seven results over its arguments: the blocks of a grid point, and the whole arrays they tile. -/
module

public import proofs.«01_k».proof.Proof.FrontHost

@[expose] public section

set_option maxRecDepth 16384

noncomputable section

namespace Cert.Front

/-- The position of row `r` of the tile at a grid point, and the point's batch row. -/
def at4 (t : ℕ) (r : Fin 512) : Fin 8192 := ⟨t / 4 % 16 * 512 + r.val, by have := r.isLt; omega⟩
def row4 (t : ℕ) : Fin 4 := ⟨t % 4, Nat.mod_lt _ (by decide)⟩

/-- Row `x` of the chunk of 128 a position lies in, and the position in its chunk. -/
def chunk (q : Fin 8192) (x : Fin 128) : Fin 8192 := ⟨q.val / 128 * 128 + x.val, by have := q.isLt; have := x.isLt; omega⟩
def inChunk (q : Fin 8192) : Fin 128 := ⟨q.val % 128, Nat.mod_lt _ (by decide)⟩

theorem at4_blk (t : ℕ) (r : Fin 512) (x : Fin 128) : at4 t (blk (blkOf r) x) = chunk (at4 t r) x :=
  Fin.ext (by
    show t / 4 % 16 * 512 + (r.val / 128 * 128 + x.val) = (t / 4 % 16 * 512 + r.val) / 128 * 128 + x.val
    omega)
theorem inChunk_at4 (t : ℕ) (r : Fin 512) : inChunk (at4 t r) = inBlk r :=
  Fin.ext (by
    show (t / 4 % 16 * 512 + r.val) % 128 = r.val % 128
    omega)

end Cert.Front

namespace Cert.Kernel4Ideal.Front

open Idealize.ShloMosaic Cert.Kernel4Ideal.Gen Cert.Mix Cert.Front

variable (m : (ℓ : Loc nD τ sig) → Buf (Elt Ideal) ℓ) (c : Dev nD)

/-- The arguments by their indices. -/
def Xs (b : Fin 4) (q : Fin 8192) (j : Fin 1024) : EReal := m (c.tc.loc main_arg0) (ix3 b q j)
def Gs (j : Fin 1024) : EReal := m (c.tc.loc main_arg1) (ix1 j)
def Ws (k : Fin 1024) (n : Fin 2464) : EReal := m (c.tc.loc main_arg2) (ix2 k n)
def us (j : Fin 256) : EReal := m (c.tc.loc main_arg3) (ix1 j)
def ks (j : Fin 128) : EReal := m (c.tc.loc main_arg4) (ix1 j)
def Qs (k : Fin 256) (h : Fin 8) (j : Fin 96) : EReal := m (c.tc.loc main_arg5) (ix3 k h j)
def Ks (k : Fin 128) (h : Fin 8) (j : Fin 128) : EReal := m (c.tc.loc main_arg6) (ix3 k h j)
def gs (j : Fin 512) : EReal := m (c.tc.loc main_arg7) (ix1 j)
def bs (j : Fin 512) : EReal := m (c.tc.loc main_arg8) (ix1 j)
def Ms (h : Fin 8) (r k : Fin 128) : EReal := m (c.tc.loc main_arg9) (ix3 h r k)
def Bs (h : Fin 8) (r : Fin 128) : EReal := m (c.tc.loc main_arg10) (ix2 h r)

theorem index_0 : ∀ t : Fin cfg0.N, (cfg0.win (0 : Fin 21)).index t = ![t.val % 4, t.val / 4, 0] := by decide +kernel

theorem iblk_0 (t : Fin cfg0.N) (r : Fin 512) (e : Fin 1024) : iblk m c (0 : Fin 21) t (ix3 0 r e) = Xs m c (row4 t.val) (at4 t.val r) e := by
  refine Eq.trans (b := V m c main_arg0 (ix3 (row4 t.val) (at4 t.val r) e)) (congrArg (V m c main_arg0) (funext fun a => Fin.ext ?_)) (congrFun (V_main_arg0 m c) _)
  fin_cases a
  · show (cfg0.win (0 : Fin 21)).index t 0 * 1 + 1 * 0 = t.val % 4
    rw [index_0 t]
    show t.val % 4 * 1 + 1 * 0 = _
    omega
  · show (cfg0.win (0 : Fin 21)).index t 1 * 512 + 1 * r.val = t.val / 4 % 16 * 512 + r.val
    rw [index_0 t]
    show t.val / 4 * 512 + 1 * r.val = _
    have ht : t.val < 64 := t.isLt
    omega
  · show (cfg0.win (0 : Fin 21)).index t 2 * 1024 + 1 * e.val = e.val
    rw [index_0 t]
    show 0 * 1024 + 1 * e.val = _
    omega

theorem index_1 : ∀ t : Fin cfg0.N, (cfg0.win (1 : Fin 21)).index t = ![0, t.val / 4, 0] := by decide +kernel

theorem iblk_1 (t : Fin cfg0.N) (g : Fin 4) (r : Fin 512) (e : Fin 128) : iblk m c (1 : Fin 21) t (ix3 g r e) = V m c main_v65 (ix3 g (at4 t.val r) e) := by
  refine Eq.trans (b := V m c main_v65 (ix3 g (at4 t.val r) e)) (congrArg (V m c main_v65) (funext fun a => Fin.ext ?_)) rfl
  fin_cases a
  · show (cfg0.win (1 : Fin 21)).index t 0 * 4 + 1 * g.val = g.val
    rw [index_1 t]
    show 0 * 4 + 1 * g.val = _
    omega
  · show (cfg0.win (1 : Fin 21)).index t 1 * 512 + 1 * r.val = t.val / 4 % 16 * 512 + r.val
    rw [index_1 t]
    show t.val / 4 * 512 + 1 * r.val = _
    have ht : t.val < 64 := t.isLt
    omega
  · show (cfg0.win (1 : Fin 21)).index t 2 * 128 + 1 * e.val = e.val
    rw [index_1 t]
    show 0 * 128 + 1 * e.val = _
    omega

theorem index_2 : ∀ t : Fin cfg0.N, (cfg0.win (2 : Fin 21)).index t = ![0, 0] := by decide +kernel

theorem iblk_2 (t : Fin cfg0.N) (e : Fin 1024) : iblk m c (2 : Fin 21) t (ix2 0 e) = Gs m c e := by
  refine Eq.trans (b := V m c main_v66 (ix2 0 e)) (congrArg (V m c main_v66) (funext fun a => Fin.ext ?_)) (host_66 m c e)
  fin_cases a
  · show (cfg0.win (2 : Fin 21)).index t 0 * 1 + 1 * 0 = 0
    rw [index_2 t]
    show 0 * 1 + 1 * 0 = _
    omega
  · show (cfg0.win (2 : Fin 21)).index t 1 * 1024 + 1 * e.val = e.val
    rw [index_2 t]
    show 0 * 1024 + 1 * e.val = _
    omega

theorem index_3 : ∀ t : Fin cfg0.N, (cfg0.win (3 : Fin 21)).index t = ![0, 0] := by decide +kernel

theorem iblk_3 (t : Fin cfg0.N) (k : Fin 1024) (e : Fin 512) : iblk m c (3 : Fin 21) t (ix2 k e) = padA (Ws m c k) e := by
  refine Eq.trans (b := V m c main_v10 (ix2 k e)) (congrArg (V m c main_v10) (funext fun a => Fin.ext ?_)) (host_10 m c k e)
  fin_cases a
  · show (cfg0.win (3 : Fin 21)).index t 0 * 1024 + 1 * k.val = k.val
    rw [index_3 t]
    show 0 * 1024 + 1 * k.val = _
    omega
  · show (cfg0.win (3 : Fin 21)).index t 1 * 512 + 1 * e.val = e.val
    rw [index_3 t]
    show 0 * 512 + 1 * e.val = _
    omega

theorem index_4 : ∀ t : Fin cfg0.N, (cfg0.win (4 : Fin 21)).index t = ![0, 0] := by decide +kernel

theorem iblk_4 (t : Fin cfg0.N) (k : Fin 1024) (e : Fin 2048) : iblk m c (4 : Fin 21) t (ix2 k e) = Ws m c k (past e) := by
  refine Eq.trans (b := V m c main_v12 (ix2 k e)) (congrArg (V m c main_v12) (funext fun a => Fin.ext ?_)) (host_12 m c k e)
  fin_cases a
  · show (cfg0.win (4 : Fin 21)).index t 0 * 1024 + 1 * k.val = k.val
    rw [index_4 t]
    show 0 * 1024 + 1 * k.val = _
    omega
  · show (cfg0.win (4 : Fin 21)).index t 1 * 2048 + 1 * e.val = e.val
    rw [index_4 t]
    show 0 * 2048 + 1 * e.val = _
    omega

theorem index_5 : ∀ t : Fin cfg0.N, (cfg0.win (5 : Fin 21)).index t = ![0, 0] := by decide +kernel

theorem iblk_5 (t : Fin cfg0.N) (e : Fin 256) : iblk m c (5 : Fin 21) t (ix2 0 e) = us m c e := by
  refine Eq.trans (b := V m c main_v67 (ix2 0 e)) (congrArg (V m c main_v67) (funext fun a => Fin.ext ?_)) (host_67 m c e)
  fin_cases a
  · show (cfg0.win (5 : Fin 21)).index t 0 * 1 + 1 * 0 = 0
    rw [index_5 t]
    show 0 * 1 + 1 * 0 = _
    omega
  · show (cfg0.win (5 : Fin 21)).index t 1 * 256 + 1 * e.val = e.val
    rw [index_5 t]
    show 0 * 256 + 1 * e.val = _
    omega

theorem index_6 : ∀ t : Fin cfg0.N, (cfg0.win (6 : Fin 21)).index t = ![0, 0] := by decide +kernel

theorem iblk_6 (t : Fin cfg0.N) (e : Fin 128) : iblk m c (6 : Fin 21) t (ix2 0 e) = ks m c e := by
  refine Eq.trans (b := V m c main_v68 (ix2 0 e)) (congrArg (V m c main_v68) (funext fun a => Fin.ext ?_)) (host_68 m c e)
  fin_cases a
  · show (cfg0.win (6 : Fin 21)).index t 0 * 1 + 1 * 0 = 0
    rw [index_6 t]
    show 0 * 1 + 1 * 0 = _
    omega
  · show (cfg0.win (6 : Fin 21)).index t 1 * 128 + 1 * e.val = e.val
    rw [index_6 t]
    show 0 * 128 + 1 * e.val = _
    omega

theorem index_7 : ∀ t : Fin cfg0.N, (cfg0.win (7 : Fin 21)).index t = ![0, 0] := by decide +kernel

theorem iblk_7 (t : Fin cfg0.N) (k : Fin 256) (e : Fin 1024) : iblk m c (7 : Fin 21) t (ix2 k e) = padQ (Qs m c k (headOf e)) (laneOf e) := by
  refine Eq.trans (b := V m c main_v21 (ix2 k e)) (congrArg (V m c main_v21) (funext fun a => Fin.ext ?_)) (host_21 m c k e)
  fin_cases a
  · show (cfg0.win (7 : Fin 21)).index t 0 * 256 + 1 * k.val = k.val
    rw [index_7 t]
    show 0 * 256 + 1 * k.val = _
    omega
  · show (cfg0.win (7 : Fin 21)).index t 1 * 1024 + 1 * e.val = e.val
    rw [index_7 t]
    show 0 * 1024 + 1 * e.val = _
    omega

theorem index_8 : ∀ t : Fin cfg0.N, (cfg0.win (8 : Fin 21)).index t = ![0, 0] := by decide +kernel

theorem iblk_8 (t : Fin cfg0.N) (k : Fin 128) (e : Fin 1024) : iblk m c (8 : Fin 21) t (ix2 k e) = padK (Ks m c k (headOf e)) (laneOf e) := by
  refine Eq.trans (b := V m c main_v27 (ix2 k e)) (congrArg (V m c main_v27) (funext fun a => Fin.ext ?_)) (host_27 m c k e)
  fin_cases a
  · show (cfg0.win (8 : Fin 21)).index t 0 * 128 + 1 * k.val = k.val
    rw [index_8 t]
    show 0 * 128 + 1 * k.val = _
    omega
  · show (cfg0.win (8 : Fin 21)).index t 1 * 1024 + 1 * e.val = e.val
    rw [index_8 t]
    show 0 * 1024 + 1 * e.val = _
    omega

theorem index_9 : ∀ t : Fin cfg0.N, (cfg0.win (9 : Fin 21)).index t = ![0, 0] := by decide +kernel

theorem iblk_9 (t : Fin cfg0.N) (k : Fin 128) (e : Fin 512) : iblk m c (9 : Fin 21) t (ix2 k e) = Ks m c k (group e) ⟨64 + e.val % 64, by omega⟩ := by
  refine Eq.trans (b := V m c main_v29 (ix2 k e)) (congrArg (V m c main_v29) (funext fun a => Fin.ext ?_)) (host_29 m c k e)
  fin_cases a
  · show (cfg0.win (9 : Fin 21)).index t 0 * 128 + 1 * k.val = k.val
    rw [index_9 t]
    show 0 * 128 + 1 * k.val = _
    omega
  · show (cfg0.win (9 : Fin 21)).index t 1 * 512 + 1 * e.val = e.val
    rw [index_9 t]
    show 0 * 512 + 1 * e.val = _
    omega

theorem index_10 : ∀ t : Fin cfg0.N, (cfg0.win (10 : Fin 21)).index t = ![0, 0] := by decide +kernel

theorem iblk_10 (t : Fin cfg0.N) (e : Fin 512) : iblk m c (10 : Fin 21) t (ix2 0 e) = gs m c e := by
  refine Eq.trans (b := V m c main_v69 (ix2 0 e)) (congrArg (V m c main_v69) (funext fun a => Fin.ext ?_)) (host_69 m c e)
  fin_cases a
  · show (cfg0.win (10 : Fin 21)).index t 0 * 1 + 1 * 0 = 0
    rw [index_10 t]
    show 0 * 1 + 1 * 0 = _
    omega
  · show (cfg0.win (10 : Fin 21)).index t 1 * 512 + 1 * e.val = e.val
    rw [index_10 t]
    show 0 * 512 + 1 * e.val = _
    omega

theorem index_11 : ∀ t : Fin cfg0.N, (cfg0.win (11 : Fin 21)).index t = ![0, 0] := by decide +kernel

theorem iblk_11 (t : Fin cfg0.N) (e : Fin 512) : iblk m c (11 : Fin 21) t (ix2 0 e) = bs m c e := by
  refine Eq.trans (b := V m c main_v70 (ix2 0 e)) (congrArg (V m c main_v70) (funext fun a => Fin.ext ?_)) (host_70 m c e)
  fin_cases a
  · show (cfg0.win (11 : Fin 21)).index t 0 * 1 + 1 * 0 = 0
    rw [index_11 t]
    show 0 * 1 + 1 * 0 = _
    omega
  · show (cfg0.win (11 : Fin 21)).index t 1 * 512 + 1 * e.val = e.val
    rw [index_11 t]
    show 0 * 512 + 1 * e.val = _
    omega

theorem index_12 : ∀ t : Fin cfg0.N, (cfg0.win (12 : Fin 21)).index t = ![0, 0, 0] := by decide +kernel

theorem iblk_12 (t : Fin cfg0.N) (h : Fin 8) (r k : Fin 128) : iblk m c (12 : Fin 21) t (ix3 h r k) = Ms m c h r k := by
  refine Eq.trans (b := V m c main_arg9 (ix3 h r k)) (congrArg (V m c main_arg9) (funext fun a => Fin.ext ?_)) (congrFun (V_main_arg9 m c) _)
  fin_cases a
  · show (cfg0.win (12 : Fin 21)).index t 0 * 8 + 1 * h.val = h.val
    rw [index_12 t]
    show 0 * 8 + 1 * h.val = _
    omega
  · show (cfg0.win (12 : Fin 21)).index t 1 * 128 + 1 * r.val = r.val
    rw [index_12 t]
    show 0 * 128 + 1 * r.val = _
    omega
  · show (cfg0.win (12 : Fin 21)).index t 2 * 128 + 1 * k.val = k.val
    rw [index_12 t]
    show 0 * 128 + 1 * k.val = _
    omega

theorem index_13 : ∀ t : Fin cfg0.N, (cfg0.win (13 : Fin 21)).index t = ![0, 0] := by decide +kernel

theorem iblk_13 (t : Fin cfg0.N) (k : Fin 128) (e : Fin 512) : iblk m c (13 : Fin 21) t (ix2 k e) = Bs m c (group e) k := by
  refine Eq.trans (b := V m c main_v32 (ix2 k e)) (congrArg (V m c main_v32) (funext fun a => Fin.ext ?_)) (host_32 m c k e)
  fin_cases a
  · show (cfg0.win (13 : Fin 21)).index t 0 * 128 + 1 * k.val = k.val
    rw [index_13 t]
    show 0 * 128 + 1 * k.val = _
    omega
  · show (cfg0.win (13 : Fin 21)).index t 1 * 512 + 1 * e.val = e.val
    rw [index_13 t]
    show 0 * 512 + 1 * e.val = _
    omega

/-- The point's narrow product is the row's against the padded weight. -/
theorem narrow_row (t : Fin cfg0.N) (r : Fin 512) :
    narrowT (iblk m c 0 t) (iblk m c 2 t) (iblk m c 3 t) r
      = across (Xs m c (row4 t.val) (at4 t.val r)) (Gs m c) (fun k => padA (Ws m c k)) := by
  unfold narrowT
  simp only [iblk_0, iblk_2, iblk_3]

theorem wide_row (t : Fin cfg0.N) (r : Fin 512) (n : Fin 2048) :
    wideT (iblk m c 0 t) (iblk m c 2 t) (iblk m c 4 t) r n
      = across (Xs m c (row4 t.val) (at4 t.val r)) (Gs m c) (Ws m c) (past n) := by
  unfold wideT
  simp only [iblk_0, iblk_2, iblk_4]
  rfl

/-- The latent row and the turned key at a position. -/
def Ls (b : Fin 4) (q : Fin 8192) : Fin 128 → EReal := clatent (Xs m c b q) (Gs m c) (Ws m c) (ks m c)
def Ts (b : Fin 4) (q : Fin 8192) : Fin 32 → EReal := krope (Xs m c b q) (Gs m c) (Ws m c) q

theorem latent_row (t : Fin cfg0.N) (r : Fin 512) :
    latentT (iblk m c 0 t) (iblk m c 2 t) (iblk m c 3 t) (iblk m c 6 t) r = Ls m c (row4 t.val) (at4 t.val r) := by
  unfold latentT
  rw [narrow_row]
  simp only [iblk_6]
  exact latent_spec _ _ (Ws m c) (fun _ _ => rfl) _

theorem turned_row (t : Fin cfg0.N) (r : Fin 512) (l : Fin 128) :
    turnedT (iblk m c 0 t) (iblk m c 1 t) (iblk m c 2 t) (iblk m c 3 t) r l
      = if h : l.val < 64 then 0 else if h' : l.val - 64 < 32 then Ts m c (row4 t.val) (at4 t.val r) ⟨l.val - 64, h'⟩ else 0 := by
  unfold turnedT
  rw [narrow_row]
  simp only [iblk_1, host_65C, host_65D]
  have hC : (fun l => V m c main_v65 (ix3 2 (at4 t.val r) l)) = tabC (at4 t.val r) := funext fun l => host_65C m c _ l
  have hD : (fun l => V m c main_v65 (ix3 3 (at4 t.val r) l)) = tabD (at4 t.val r) := funext fun l => host_65D m c _ l
  rw [hC, hD]
  unfold Ts
  exact turned_spec (Xs m c (row4 t.val) (at4 t.val r)) (Gs m c) (Ws m c) (A := fun k => padA (Ws m c k)) (fun _ _ => rfl) (at4 t.val r) l

/-- Result 0 at one index. -/
def value_14 (b : Fin 4) (q : Fin 8192) (n : Fin 1024) : EReal :=
  qlane (cquery (Xs m c b q) (Gs m c) (Ws m c) (us m c)) (fun k => Qs m c k (headOf n)) q (laneOf n)

def result_14 : Buf (Elt Ideal) ((c.tc : Thread nD τ).loc (Pipeline.arrRef spec0 (14 : Fin 21))) := fun i => value_14 m c (i 0) (i 1) (i 2)

theorem block_14 (t : Fin cfg0.N) (r : Fin 512) (n : Fin 1024) :
    (dats m 0 c).after (14 : Fin 21) t (ix3 0 r n) = value_14 m c (row4 t.val) (at4 t.val r) n := by
  refine (congrFun (after0_14 m c t) (ix3 0 r n)).trans ?_
  refine (out14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r n).trans ?_
  simp only [iblk_1, host_65A, host_65B]
  have e : queryT (iblk m c 0 t) (iblk m c 2 t) (iblk m c 3 t) (iblk m c 5 t) (iblk m c 7 t) r
      = fun n => ∑ k : Fin 256, cquery (Xs m c (row4 t.val) (at4 t.val r)) (Gs m c) (Ws m c) (us m c) k * padQ (Qs m c k (headOf n)) (laneOf n) := by
    funext n
    unfold queryT
    rw [narrow_row]
    simp only [iblk_5, iblk_7]
    exact query_spec _ _ (Ws m c) (fun _ _ => rfl) _ _ n
  rw [e]
  have hA : (fun l => V m c main_v65 (ix3 0 (at4 t.val r) l)) = tabA (at4 t.val r) := funext fun l => host_65A m c _ l
  have hB : (fun l => V m c main_v65 (ix3 1 (at4 t.val r) l)) = tabB (at4 t.val r) := funext fun l => host_65B m c _ l
  rw [hA, hB]
  unfold value_14
  exact asked_spec (cquery (Xs m c (row4 t.val) (at4 t.val r)) (Gs m c) (Ws m c) (us m c)) (fun k n => padQ (Qs m c k (headOf n)) (laneOf n))
    (Qs m c) (fun _ _ => rfl) (at4 t.val r) (headOf n) (laneOf n)

theorem index_14 : ∀ t : Fin cfg0.N, (cfg0.win (14 : Fin 21)).index t = ![t.val % 4, t.val / 4, 0] := by decide +kernel

theorem place_14 (t : Fin cfg0.N) (r : Fin 512) (e : Fin 1024) :
    ((cfg0.win (14 : Fin 21)).blk t).view.emb (ix3 (0 : Fin 1) r e) = ix3 (row4 t.val) (at4 t.val r) e := by
  refine funext fun a => Fin.ext ?_
  fin_cases a
  · show (cfg0.win (14 : Fin 21)).index t 0 * 1 + 1 * 0 = t.val % 4
    rw [index_14 t]
    show t.val % 4 * 1 + 1 * 0 = _
    omega
  · show (cfg0.win (14 : Fin 21)).index t 1 * 512 + 1 * r.val = t.val / 4 % 16 * 512 + r.val
    rw [index_14 t]
    show t.val / 4 * 512 + 1 * r.val = _
    have ht : t.val < 64 := t.isLt
    omega
  · show (cfg0.win (14 : Fin 21)).index t 2 * 1024 + 1 * e.val = e.val
    rw [index_14 t]
    show 0 * 1024 + 1 * e.val = _
    omega

theorem covers_14 : (cfg0.win (14 : Fin 21)).Covers := by decide +kernel

theorem final_14 : (dats m 0 c).arrAt (14 : Fin 21) cfg0.N = result_14 m c := by
  refine (dats m 0 c).arrAt_eq_of_covers (14 : Fin 21) (result_14 m c) covers_14 fun t hf y => ?_
  have hy : y = ix3 (0 : Fin 1) (y 1) (y 2) := by
    refine funext fun a => ?_
    fin_cases a
    · exact Fin.ext (Nat.lt_one_iff.1 (y 0).isLt)
    · rfl
    · rfl
  refine Eq.trans (b := (dats m 0 c).after (14 : Fin 21) t (ix3 (0 : Fin 1) (y 1) (y 2))) ?_ ?_
  · exact congrArg ((dats m 0 c).after (14 : Fin 21) t) hy
  · refine (block_14 m c t (y 1) (y 2)).trans (Eq.trans ?_ (congrArg (result_14 m c) ((congrArg _ hy).trans (place_14 t (y 1) (y 2)))).symm)
    rfl

/-- Result 1 at one index. -/
def value_15 (b : Fin 4) (q : Fin 8192) (n : Fin 1024) : EReal :=
  klane (Ls m c b q) (fun k => Ks m c k (headOf n)) (Ts m c b q) (laneOf n)

def result_15 : Buf (Elt Ideal) ((c.tc : Thread nD τ).loc (Pipeline.arrRef spec0 (15 : Fin 21))) := fun i => value_15 m c (i 0) (i 1) (i 2)

theorem block_15 (t : Fin cfg0.N) (r : Fin 512) (n : Fin 1024) :
    (dats m 0 c).after (15 : Fin 21) t (ix3 0 r n) = value_15 m c (row4 t.val) (at4 t.val r) n := by
  refine (congrFun (after0_15 m c t) (ix3 0 r n)).trans ?_
  refine (out15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r n).trans ?_
  rw [latent_row]
  simp only [iblk_8]
  exact keyed_spec _ _ (Ks m c) (fun _ _ => rfl) (Ts m c (row4 t.val) (at4 t.val r)) _ (turned_row m c t r) _ _

theorem index_15 : ∀ t : Fin cfg0.N, (cfg0.win (15 : Fin 21)).index t = ![t.val % 4, t.val / 4, 0] := by decide +kernel

theorem place_15 (t : Fin cfg0.N) (r : Fin 512) (e : Fin 1024) :
    ((cfg0.win (15 : Fin 21)).blk t).view.emb (ix3 (0 : Fin 1) r e) = ix3 (row4 t.val) (at4 t.val r) e := by
  refine funext fun a => Fin.ext ?_
  fin_cases a
  · show (cfg0.win (15 : Fin 21)).index t 0 * 1 + 1 * 0 = t.val % 4
    rw [index_15 t]
    show t.val % 4 * 1 + 1 * 0 = _
    omega
  · show (cfg0.win (15 : Fin 21)).index t 1 * 512 + 1 * r.val = t.val / 4 % 16 * 512 + r.val
    rw [index_15 t]
    show t.val / 4 * 512 + 1 * r.val = _
    have ht : t.val < 64 := t.isLt
    omega
  · show (cfg0.win (15 : Fin 21)).index t 2 * 1024 + 1 * e.val = e.val
    rw [index_15 t]
    show 0 * 1024 + 1 * e.val = _
    omega

theorem covers_15 : (cfg0.win (15 : Fin 21)).Covers := by decide +kernel

theorem final_15 : (dats m 0 c).arrAt (15 : Fin 21) cfg0.N = result_15 m c := by
  refine (dats m 0 c).arrAt_eq_of_covers (15 : Fin 21) (result_15 m c) covers_15 fun t hf y => ?_
  have hy : y = ix3 (0 : Fin 1) (y 1) (y 2) := by
    refine funext fun a => ?_
    fin_cases a
    · exact Fin.ext (Nat.lt_one_iff.1 (y 0).isLt)
    · rfl
    · rfl
  refine Eq.trans (b := (dats m 0 c).after (15 : Fin 21) t (ix3 (0 : Fin 1) (y 1) (y 2))) ?_ ?_
  · exact congrArg ((dats m 0 c).after (15 : Fin 21) t) hy
  · refine (block_15 m c t (y 1) (y 2)).trans (Eq.trans ?_ (congrArg (result_15 m c) ((congrArg _ hy).trans (place_15 t (y 1) (y 2)))).symm)
    rfl

/-- Result 2 at one index. -/
def value_16 (b : Fin 4) (q : Fin 8192) (n : Fin 512) : EReal :=
  ∑ k : Fin 128, Ls m c b q k * Ks m c k (group n) ⟨64 + n.val % 64, by omega⟩

def result_16 : Buf (Elt Ideal) ((c.tc : Thread nD τ).loc (Pipeline.arrRef spec0 (16 : Fin 21))) := fun i => value_16 m c (i 0) (i 1) (i 2)

theorem block_16 (t : Fin cfg0.N) (r : Fin 512) (n : Fin 512) :
    (dats m 0 c).after (16 : Fin 21) t (ix3 0 r n) = value_16 m c (row4 t.val) (at4 t.val r) n := by
  refine (congrFun (after0_16 m c t) (ix3 0 r n)).trans ?_
  refine (out16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r n).trans ?_
  rw [latent_row]
  unfold valued
  simp only [iblk_9]
  rfl

theorem index_16 : ∀ t : Fin cfg0.N, (cfg0.win (16 : Fin 21)).index t = ![t.val % 4, t.val / 4, 0] := by decide +kernel

theorem place_16 (t : Fin cfg0.N) (r : Fin 512) (e : Fin 512) :
    ((cfg0.win (16 : Fin 21)).blk t).view.emb (ix3 (0 : Fin 1) r e) = ix3 (row4 t.val) (at4 t.val r) e := by
  refine funext fun a => Fin.ext ?_
  fin_cases a
  · show (cfg0.win (16 : Fin 21)).index t 0 * 1 + 1 * 0 = t.val % 4
    rw [index_16 t]
    show t.val % 4 * 1 + 1 * 0 = _
    omega
  · show (cfg0.win (16 : Fin 21)).index t 1 * 512 + 1 * r.val = t.val / 4 % 16 * 512 + r.val
    rw [index_16 t]
    show t.val / 4 * 512 + 1 * r.val = _
    have ht : t.val < 64 := t.isLt
    omega
  · show (cfg0.win (16 : Fin 21)).index t 2 * 512 + 1 * e.val = e.val
    rw [index_16 t]
    show 0 * 512 + 1 * e.val = _
    omega

theorem covers_16 : (cfg0.win (16 : Fin 21)).Covers := by decide +kernel

theorem final_16 : (dats m 0 c).arrAt (16 : Fin 21) cfg0.N = result_16 m c := by
  refine (dats m 0 c).arrAt_eq_of_covers (16 : Fin 21) (result_16 m c) covers_16 fun t hf y => ?_
  have hy : y = ix3 (0 : Fin 1) (y 1) (y 2) := by
    refine funext fun a => ?_
    fin_cases a
    · exact Fin.ext (Nat.lt_one_iff.1 (y 0).isLt)
    · rfl
    · rfl
  refine Eq.trans (b := (dats m 0 c).after (16 : Fin 21) t (ix3 (0 : Fin 1) (y 1) (y 2))) ?_ ?_
  · exact congrArg ((dats m 0 c).after (16 : Fin 21) t) hy
  · refine (block_16 m c t (y 1) (y 2)).trans (Eq.trans ?_ (congrArg (result_16 m c) ((congrArg _ hy).trans (place_16 t (y 1) (y 2)))).symm)
    rfl

/-- Result 3 at one index. -/
def value_17 (b : Fin 4) (q : Fin 8192) (n : Fin 128) : EReal :=
  Ls m c b q n

def result_17 : Buf (Elt Ideal) ((c.tc : Thread nD τ).loc (Pipeline.arrRef spec0 (17 : Fin 21))) := fun i => value_17 m c (i 0) (i 1) (i 2)

theorem block_17 (t : Fin cfg0.N) (r : Fin 512) (n : Fin 128) :
    (dats m 0 c).after (17 : Fin 21) t (ix3 0 r n) = value_17 m c (row4 t.val) (at4 t.val r) n := by
  refine (congrFun (after0_17 m c t) (ix3 0 r n)).trans ?_
  refine (out17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r n).trans ?_
  rw [latent_row]
  rfl

theorem index_17 : ∀ t : Fin cfg0.N, (cfg0.win (17 : Fin 21)).index t = ![t.val % 4, t.val / 4, 0] := by decide +kernel

theorem place_17 (t : Fin cfg0.N) (r : Fin 512) (e : Fin 128) :
    ((cfg0.win (17 : Fin 21)).blk t).view.emb (ix3 (0 : Fin 1) r e) = ix3 (row4 t.val) (at4 t.val r) e := by
  refine funext fun a => Fin.ext ?_
  fin_cases a
  · show (cfg0.win (17 : Fin 21)).index t 0 * 1 + 1 * 0 = t.val % 4
    rw [index_17 t]
    show t.val % 4 * 1 + 1 * 0 = _
    omega
  · show (cfg0.win (17 : Fin 21)).index t 1 * 512 + 1 * r.val = t.val / 4 % 16 * 512 + r.val
    rw [index_17 t]
    show t.val / 4 * 512 + 1 * r.val = _
    have ht : t.val < 64 := t.isLt
    omega
  · show (cfg0.win (17 : Fin 21)).index t 2 * 128 + 1 * e.val = e.val
    rw [index_17 t]
    show 0 * 128 + 1 * e.val = _
    omega

theorem covers_17 : (cfg0.win (17 : Fin 21)).Covers := by decide +kernel

theorem final_17 : (dats m 0 c).arrAt (17 : Fin 21) cfg0.N = result_17 m c := by
  refine (dats m 0 c).arrAt_eq_of_covers (17 : Fin 21) (result_17 m c) covers_17 fun t hf y => ?_
  have hy : y = ix3 (0 : Fin 1) (y 1) (y 2) := by
    refine funext fun a => ?_
    fin_cases a
    · exact Fin.ext (Nat.lt_one_iff.1 (y 0).isLt)
    · rfl
    · rfl
  refine Eq.trans (b := (dats m 0 c).after (17 : Fin 21) t (ix3 (0 : Fin 1) (y 1) (y 2))) ?_ ?_
  · exact congrArg ((dats m 0 c).after (17 : Fin 21) t) hy
  · refine (block_17 m c t (y 1) (y 2)).trans (Eq.trans ?_ (congrArg (result_17 m c) ((congrArg _ hy).trans (place_17 t (y 1) (y 2)))).symm)
    rfl

/-- Result 4 at one index. -/
def value_18 (b : Fin 4) (q : Fin 8192) (n : Fin 32) : EReal :=
  Ts m c b q n

def result_18 : Buf (Elt Ideal) ((c.tc : Thread nD τ).loc (Pipeline.arrRef spec0 (18 : Fin 21))) := fun i => value_18 m c (i 0) (i 1) (i 2)

theorem block_18 (t : Fin cfg0.N) (r : Fin 512) (n : Fin 32) :
    (dats m 0 c).after (18 : Fin 21) t (ix3 0 r n) = value_18 m c (row4 t.val) (at4 t.val r) n := by
  refine (congrFun (after0_18 m c t) (ix3 0 r n)).trans ?_
  refine (out18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r n).trans ?_
  rw [turned_row, dif_neg (by dsimp only; omega), dif_pos (by have := n.isLt; dsimp only; omega)]
  refine congrArg (Ts m c (row4 t.val) (at4 t.val r)) (Fin.ext ?_)
  dsimp only
  omega

theorem index_18 : ∀ t : Fin cfg0.N, (cfg0.win (18 : Fin 21)).index t = ![t.val % 4, t.val / 4, 0] := by decide +kernel

theorem place_18 (t : Fin cfg0.N) (r : Fin 512) (e : Fin 32) :
    ((cfg0.win (18 : Fin 21)).blk t).view.emb (ix3 (0 : Fin 1) r e) = ix3 (row4 t.val) (at4 t.val r) e := by
  refine funext fun a => Fin.ext ?_
  fin_cases a
  · show (cfg0.win (18 : Fin 21)).index t 0 * 1 + 1 * 0 = t.val % 4
    rw [index_18 t]
    show t.val % 4 * 1 + 1 * 0 = _
    omega
  · show (cfg0.win (18 : Fin 21)).index t 1 * 512 + 1 * r.val = t.val / 4 % 16 * 512 + r.val
    rw [index_18 t]
    show t.val / 4 * 512 + 1 * r.val = _
    have ht : t.val < 64 := t.isLt
    omega
  · show (cfg0.win (18 : Fin 21)).index t 2 * 32 + 1 * e.val = e.val
    rw [index_18 t]
    show 0 * 32 + 1 * e.val = _
    omega

theorem covers_18 : (cfg0.win (18 : Fin 21)).Covers := by decide +kernel

theorem final_18 : (dats m 0 c).arrAt (18 : Fin 21) cfg0.N = result_18 m c := by
  refine (dats m 0 c).arrAt_eq_of_covers (18 : Fin 21) (result_18 m c) covers_18 fun t hf y => ?_
  have hy : y = ix3 (0 : Fin 1) (y 1) (y 2) := by
    refine funext fun a => ?_
    fin_cases a
    · exact Fin.ext (Nat.lt_one_iff.1 (y 0).isLt)
    · rfl
    · rfl
  refine Eq.trans (b := (dats m 0 c).after (18 : Fin 21) t (ix3 (0 : Fin 1) (y 1) (y 2))) ?_ ?_
  · exact congrArg ((dats m 0 c).after (18 : Fin 21) t) hy
  · refine (block_18 m c t (y 1) (y 2)).trans (Eq.trans ?_ (congrArg (result_18 m c) ((congrArg _ hy).trans (place_18 t (y 1) (y 2)))).symm)
    rfl

/-- Result 5 at one index. -/
def value_19 (b : Fin 4) (q : Fin 8192) (n : Fin 512) : EReal :=
  silu (across (Xs m c b q) (Gs m c) (Ws m c) (past (part 0 n)))

def result_19 : Buf (Elt Ideal) ((c.tc : Thread nD τ).loc (Pipeline.arrRef spec0 (19 : Fin 21))) := fun i => value_19 m c (i 0) (i 1) (i 2)

theorem block_19 (t : Fin cfg0.N) (r : Fin 512) (n : Fin 512) :
    (dats m 0 c).after (19 : Fin 21) t (ix3 0 r n) = value_19 m c (row4 t.val) (at4 t.val r) n := by
  refine (congrFun (after0_19 m c t) (ix3 0 r n)).trans ?_
  refine (out19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r n).trans ?_
  rw [wide_row]
  rfl

theorem index_19 : ∀ t : Fin cfg0.N, (cfg0.win (19 : Fin 21)).index t = ![t.val % 4, t.val / 4, 0] := by decide +kernel

theorem place_19 (t : Fin cfg0.N) (r : Fin 512) (e : Fin 512) :
    ((cfg0.win (19 : Fin 21)).blk t).view.emb (ix3 (0 : Fin 1) r e) = ix3 (row4 t.val) (at4 t.val r) e := by
  refine funext fun a => Fin.ext ?_
  fin_cases a
  · show (cfg0.win (19 : Fin 21)).index t 0 * 1 + 1 * 0 = t.val % 4
    rw [index_19 t]
    show t.val % 4 * 1 + 1 * 0 = _
    omega
  · show (cfg0.win (19 : Fin 21)).index t 1 * 512 + 1 * r.val = t.val / 4 % 16 * 512 + r.val
    rw [index_19 t]
    show t.val / 4 * 512 + 1 * r.val = _
    have ht : t.val < 64 := t.isLt
    omega
  · show (cfg0.win (19 : Fin 21)).index t 2 * 512 + 1 * e.val = e.val
    rw [index_19 t]
    show 0 * 512 + 1 * e.val = _
    omega

theorem covers_19 : (cfg0.win (19 : Fin 21)).Covers := by decide +kernel

theorem final_19 : (dats m 0 c).arrAt (19 : Fin 21) cfg0.N = result_19 m c := by
  refine (dats m 0 c).arrAt_eq_of_covers (19 : Fin 21) (result_19 m c) covers_19 fun t hf y => ?_
  have hy : y = ix3 (0 : Fin 1) (y 1) (y 2) := by
    refine funext fun a => ?_
    fin_cases a
    · exact Fin.ext (Nat.lt_one_iff.1 (y 0).isLt)
    · rfl
    · rfl
  refine Eq.trans (b := (dats m 0 c).after (19 : Fin 21) t (ix3 (0 : Fin 1) (y 1) (y 2))) ?_ ?_
  · exact congrArg ((dats m 0 c).after (19 : Fin 21) t) hy
  · refine (block_19 m c t (y 1) (y 2)).trans (Eq.trans ?_ (congrArg (result_19 m c) ((congrArg _ hy).trans (place_19 t (y 1) (y 2)))).symm)
    rfl

/-- Result 6 at one index. -/
def value_20 (b : Fin 4) (q : Fin 8192) (n : Fin 512) : EReal :=
  mixed (fun x n => across (Xs m c b (chunk q x)) (Gs m c) (Ws m c) (past n)) (gs m c) (bs m c) (Ms m c) (fun r j => Bs m c (group j) r) (inChunk q) n

def result_20 : Buf (Elt Ideal) ((c.tc : Thread nD τ).loc (Pipeline.arrRef spec0 (20 : Fin 21))) := fun i => value_20 m c (i 0) (i 1) (i 2)

theorem block_20 (t : Fin cfg0.N) (r : Fin 512) (n : Fin 512) :
    (dats m 0 c).after (20 : Fin 21) t (ix3 0 r n) = value_20 m c (row4 t.val) (at4 t.val r) n := by
  refine (congrFun (after0_20 m c t) (ix3 0 r n)).trans ?_
  refine (out20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r n).trans ?_
  have eZ : (fun x => wideT (iblk m c 0 t) (iblk m c 2 t) (iblk m c 4 t) (blk (blkOf r) x))
      = fun x n => across (Xs m c (row4 t.val) (chunk (at4 t.val r) x)) (Gs m c) (Ws m c) (past n) := by
    funext x n
    rw [wide_row, at4_blk]
  have eg : (fun k => iblk m c 10 t (ix2 0 k)) = gs m c := funext (iblk_10 m c t)
  have eb : (fun k => iblk m c 11 t (ix2 0 k)) = bs m c := funext (iblk_11 m c t)
  have eM : (fun h r k => iblk m c 12 t (ix3 h r k)) = Ms m c := funext fun h => funext fun r => funext fun k => iblk_12 m c t h r k
  have eB : (fun r k => iblk m c 13 t (ix2 r k)) = fun r j => Bs m c (group j) r := funext fun r => funext fun j => iblk_13 m c t r j
  unfold mixedT value_20
  rw [eZ, eg, eb, eM, eB, inChunk_at4]

theorem index_20 : ∀ t : Fin cfg0.N, (cfg0.win (20 : Fin 21)).index t = ![t.val % 4, t.val / 4, 0] := by decide +kernel

theorem place_20 (t : Fin cfg0.N) (r : Fin 512) (e : Fin 512) :
    ((cfg0.win (20 : Fin 21)).blk t).view.emb (ix3 (0 : Fin 1) r e) = ix3 (row4 t.val) (at4 t.val r) e := by
  refine funext fun a => Fin.ext ?_
  fin_cases a
  · show (cfg0.win (20 : Fin 21)).index t 0 * 1 + 1 * 0 = t.val % 4
    rw [index_20 t]
    show t.val % 4 * 1 + 1 * 0 = _
    omega
  · show (cfg0.win (20 : Fin 21)).index t 1 * 512 + 1 * r.val = t.val / 4 % 16 * 512 + r.val
    rw [index_20 t]
    show t.val / 4 * 512 + 1 * r.val = _
    have ht : t.val < 64 := t.isLt
    omega
  · show (cfg0.win (20 : Fin 21)).index t 2 * 512 + 1 * e.val = e.val
    rw [index_20 t]
    show 0 * 512 + 1 * e.val = _
    omega

theorem covers_20 : (cfg0.win (20 : Fin 21)).Covers := by decide +kernel

theorem final_20 : (dats m 0 c).arrAt (20 : Fin 21) cfg0.N = result_20 m c := by
  refine (dats m 0 c).arrAt_eq_of_covers (20 : Fin 21) (result_20 m c) covers_20 fun t hf y => ?_
  have hy : y = ix3 (0 : Fin 1) (y 1) (y 2) := by
    refine funext fun a => ?_
    fin_cases a
    · exact Fin.ext (Nat.lt_one_iff.1 (y 0).isLt)
    · rfl
    · rfl
  refine Eq.trans (b := (dats m 0 c).after (20 : Fin 21) t (ix3 (0 : Fin 1) (y 1) (y 2))) ?_ ?_
  · exact congrArg ((dats m 0 c).after (20 : Fin 21) t) hy
  · refine (block_20 m c t (y 1) (y 2)).trans (Eq.trans ?_ (congrArg (result_20 m c) ((congrArg _ hy).trans (place_20 t (y 1) (y 2)))).symm)
    rfl

end Cert.Kernel4Ideal.Front

end
-- ==== Proof.FrontRef.lean ====
/- The plain input side at one index: the norms, the products and the turned parts. -/
module

public import proofs.«01_k».proof.Proof.FrontMath
public import proofs.«01_k».proof.Proof.Gen.Reference4Ideal.Run
public import proofs.«01_k».proof.Proof.Gen.Reference4Ideal.Read
public import Idealize.ShloMosaic.Lib.KernelVsHost

@[expose] public section

set_option maxRecDepth 16384

noncomputable section

namespace Cert.Reference4Ideal.Read

open Cert.Reference4Ideal Cert.Reference4Ideal.Gen Idealize.ShloMosaic Cert.Mix Cert.Front

variable (x0 : (⟨S4x8192x1024, .f32⟩ : BufTy).Contents (Elt Ideal)) (x1 : (⟨S1024, .f32⟩ : BufTy).Contents (Elt Ideal))
  (x2 : (⟨S1024x2464, .f32⟩ : BufTy).Contents (Elt Ideal)) (x3 : (⟨S256, .f32⟩ : BufTy).Contents (Elt Ideal))
  (x4 : (⟨S128, .f32⟩ : BufTy).Contents (Elt Ideal)) (x5 : (⟨S256x8x96, .f32⟩ : BufTy).Contents (Elt Ideal))
  (x6 : (⟨S128x8x128, .f32⟩ : BufTy).Contents (Elt Ideal))

/-- The arguments by their indices. -/
def rX (b : Fin 4) (q : Fin 8192) (j : Fin 1024) : EReal := x0 (ix3 b q j)
def rG (j : Fin 1024) : EReal := x1 (ix1 j)
def rW (k : Fin 1024) (n : Fin 2464) : EReal := x2 (ix2 k n)
def ru (j : Fin 256) : EReal := x3 (ix1 j)
def rk (j : Fin 128) : EReal := x4 (ix1 j)
def rQ (k : Fin 256) (h : Fin 8) (j : Fin 96) : EReal := x5 (ix3 k h j)
def rK (k : Fin 128) (h : Fin 8) (j : Fin 128) : EReal := x6 (ix3 k h j)

theorem sum_zero : Ideal.ofBits .f32 0x00000000#32 = (0 : EReal) := by simp [Ideal.ofBits, Ideal.ieee]

theorem normed_ref (b : Fin 4) (q : Fin 8192) (n : Fin 1024) :
    val_main_v12 (F := Ideal) x0 x1 (ix3 b q n) = rooted (Ideal.ofBits .f32 0x44800000#32) (rX x0 b q) (rG x1) n := by
  have e1 : idx_main_v10 (idx_main_v11 (ix3 b q n)) = ix1 n := by
    funext a
    fin_cases a <;> rfl
  have e0 : ∀ k, idx_main_v1 (idx_main_v2 (idx_main_v8 (ix3 b q n))) k = ix3 b q k := fun k => by
    funext a
    fin_cases a <;> rfl
  have e : val_main_v1 (F := Ideal) x0 (idx_main_v2 (idx_main_v8 (ix3 b q n))) = ∑ k : Fin 1024, rX x0 b q k * rX x0 b q k := by
    refine (val_main_v1_apply x0 _).trans ?_
    refine Eq.trans (congrArg₂ (· + ·) sum_zero (Finset.sum_congr rfl fun k _ => ?_)) (zero_add _)
    rw [e0, val_main_v0_apply]
    rfl
  rw [val_main_v12_apply, val_main_v9_apply, val_main_v8_apply, val_main_v7_apply, val_main_v6_apply, val_main_v4_apply, val_main_v2_apply, e,
    val_main_v3_apply, val_main_v5_apply, val_main_v11_apply, val_main_v10_apply, e1]
  rfl

theorem across_ref (b : Fin 4) (q : Fin 8192) (n : Fin 2464) :
    val_main_v13 (F := Ideal) x0 x1 x2 (ix3 b q n) = across (rX x0 b q) (rG x1) (rW x2) n := by
  refine (val_main_v13_apply x0 x1 x2 (ix3 b q n)).trans ?_
  unfold across
  refine Finset.sum_congr rfl fun k _ => ?_
  refine congrArg₂ (· * ·) (Eq.trans (congrArg _ ?_) (normed_ref x0 x1 b q k)) (congrArg x2 ?_) <;> funext a <;> fin_cases a <;> rfl

theorem part_14 (b : Fin 4) (q : Fin 8192) (j : Fin 256) :
    val_main_v14 (F := Ideal) x0 x1 x2 (ix3 b q j) = across (rX x0 b q) (rG x1) (rW x2) ⟨j.val, by have := j.isLt; omega⟩ := by
  rw [val_main_v14_apply, ← across_ref]
  refine congrArg _ (funext fun a => Fin.ext ?_)
  fin_cases a <;> first | rfl | exact Nat.zero_add _

theorem part_15 (b : Fin 4) (q : Fin 8192) (j : Fin 128) :
    val_main_v15 (F := Ideal) x0 x1 x2 (ix3 b q j) = across (rX x0 b q) (rG x1) (rW x2) ⟨256 + j.val, by have := j.isLt; omega⟩ := by
  rw [val_main_v15_apply, ← across_ref]
  refine congrArg _ (funext fun a => Fin.ext ?_)
  fin_cases a <;> rfl

theorem part_16 (b : Fin 4) (q : Fin 8192) (j : Fin 32) :
    val_main_v16 (F := Ideal) x0 x1 x2 (ix3 b q j) = plain32 (rX x0 b q) (rG x1) (rW x2) j := by
  unfold plain32
  rw [val_main_v16_apply, ← across_ref]
  refine congrArg _ (funext fun a => Fin.ext ?_)
  fin_cases a <;> rfl

theorem part_17 (b : Fin 4) (q : Fin 8192) (j : Fin 512) :
    val_main_v17 (F := Ideal) x0 x1 x2 (ix3 b q j) = across (rX x0 b q) (rG x1) (rW x2) (past (part 0 j)) := by
  rw [val_main_v17_apply, ← across_ref]
  refine congrArg _ (funext fun a => Fin.ext ?_)
  fin_cases a
  · rfl
  · rfl
  · show 416 + j.val = 416 + (0 * 512 + j.val)
    omega

theorem part_18 (b : Fin 4) (q : Fin 8192) (j : Fin 512) :
    val_main_v18 (F := Ideal) x0 x1 x2 (ix3 b q j) = across (rX x0 b q) (rG x1) (rW x2) (past (part 1 j)) := by
  rw [val_main_v18_apply, ← across_ref]
  refine congrArg _ (funext fun a => Fin.ext ?_)
  fin_cases a
  · rfl
  · rfl
  · show 928 + j.val = 416 + (1 * 512 + j.val)
    omega

theorem part_19 (b : Fin 4) (q : Fin 8192) (j : Fin 512) :
    val_main_v19 (F := Ideal) x0 x1 x2 (ix3 b q j) = across (rX x0 b q) (rG x1) (rW x2) (past (part 2 j)) := by
  rw [val_main_v19_apply, ← across_ref]
  refine congrArg _ (funext fun a => Fin.ext ?_)
  fin_cases a
  · rfl
  · rfl
  · show 1440 + j.val = 416 + (2 * 512 + j.val)
    omega

theorem part_20 (b : Fin 4) (q : Fin 8192) (j : Fin 512) :
    val_main_v20 (F := Ideal) x0 x1 x2 (ix3 b q j) = across (rX x0 b q) (rG x1) (rW x2) (past (part 3 j)) := by
  rw [val_main_v20_apply, ← across_ref]
  refine congrArg _ (funext fun a => Fin.ext ?_)
  fin_cases a
  · rfl
  · rfl
  · show 1952 + j.val = 416 + (3 * 512 + j.val)
    omega

theorem cquery_ref (b : Fin 4) (q : Fin 8192) (n : Fin 256) :
    val_main_v50 (F := Ideal) x0 x1 x2 x3 (ix3 b q n) = cquery (rX x0 b q) (rG x1) (rW x2) (ru x3) n := by
  have e1 : idx_main_v48 (idx_main_v49 (ix3 b q n)) = ix1 n := by
    funext a
    fin_cases a <;> rfl
  have e0 : ∀ k, idx_main_v39 (idx_main_v40 (idx_main_v46 (ix3 b q n))) k = ix3 b q k := fun k => by
    funext a
    fin_cases a <;> rfl
  have e : val_main_v39 (F := Ideal) x0 x1 x2 (idx_main_v40 (idx_main_v46 (ix3 b q n)))
      = ∑ k : Fin 256, val_main_v14 (F := Ideal) x0 x1 x2 (ix3 b q k) * val_main_v14 (F := Ideal) x0 x1 x2 (ix3 b q k) := by
    refine (val_main_v39_apply x0 x1 x2 _).trans ?_
    refine Eq.trans (congrArg₂ (· + ·) sum_zero (Finset.sum_congr rfl fun k _ => ?_)) (zero_add _)
    rw [e0, val_main_v38_apply]
    rfl
  rw [val_main_v50_apply, val_main_v47_apply, val_main_v46_apply, val_main_v45_apply, val_main_v44_apply, val_main_v42_apply, val_main_v40_apply, e,
    val_main_v41_apply, val_main_v43_apply, val_main_v49_apply, val_main_v48_apply, e1]
  simp only [part_14]
  rfl

theorem clatent_ref (b : Fin 4) (q : Fin 8192) (n : Fin 128) :
    val_main_v89 (F := Ideal) x0 x1 x2 x4 (ix3 b q n) = clatent (rX x0 b q) (rG x1) (rW x2) (rk x4) n := by
  have e1 : idx_main_v87 (idx_main_v88 (ix3 b q n)) = ix1 n := by
    funext a
    fin_cases a <;> rfl
  have e0 : ∀ k, idx_main_v78 (idx_main_v79 (idx_main_v85 (ix3 b q n))) k = ix3 b q k := fun k => by
    funext a
    fin_cases a <;> rfl
  have e : val_main_v78 (F := Ideal) x0 x1 x2 (idx_main_v79 (idx_main_v85 (ix3 b q n)))
      = ∑ k : Fin 128, val_main_v15 (F := Ideal) x0 x1 x2 (ix3 b q k) * val_main_v15 (F := Ideal) x0 x1 x2 (ix3 b q k) := by
    refine (val_main_v78_apply x0 x1 x2 _).trans ?_
    refine Eq.trans (congrArg₂ (· + ·) sum_zero (Finset.sum_congr rfl fun k _ => ?_)) (zero_add _)
    rw [e0, val_main_v77_apply]
    rfl
  rw [val_main_v89_apply, val_main_v86_apply, val_main_v85_apply, val_main_v84_apply, val_main_v83_apply, val_main_v81_apply, val_main_v79_apply, e,
    val_main_v80_apply, val_main_v82_apply, val_main_v88_apply, val_main_v87_apply, e1]
  simp only [part_15]
  rfl

theorem angle_ref (q : Fin 8192) (f : Fin 16) : val_main_v33 (F := Ideal) (ix2 q f) = angle q f.val := by
  rw [val_main_v33_apply, val_main_v31_apply, val_main_v29_apply, val_main_v28_apply, val_main_v27_apply, val_main_v32_apply, val_main_v30_apply,
    val_main_v26_apply, val_main_v25_apply, val_main_v24_apply, val_main_v23_apply, val_main_v22_apply]
  unfold val_main_v21
  rfl

theorem cos_ref (q : Fin 8192) (i : Fin 32) : val_main_v36 (F := Ideal) (ix2 q i) = cosv q i.val := by
  have hi := i.isLt
  unfold cosv
  by_cases h : i.val < 16
  · pointwise [val_main_v36]
    rw [dif_pos h, if_pos h, val_main_v34_apply]
    exact congrArg Ideal.cos (angle_ref q ⟨i.val, h⟩)
  · pointwise [val_main_v36]
    rw [dif_neg h, if_neg h, val_main_v34_apply]
    exact congrArg Ideal.cos (angle_ref q ⟨i.val - 16, by omega⟩)

theorem sin_ref (q : Fin 8192) (i : Fin 32) : val_main_v37 (F := Ideal) (ix2 q i) = sinv q i.val := by
  have hi := i.isLt
  unfold sinv
  by_cases h : i.val < 16
  · pointwise [val_main_v37]
    rw [dif_pos h, if_pos h, val_main_v35_apply]
    exact congrArg Ideal.sin (angle_ref q ⟨i.val, h⟩)
  · pointwise [val_main_v37]
    rw [dif_neg h, if_neg h, val_main_v35_apply]
    exact congrArg Ideal.sin (angle_ref q ⟨i.val - 16, by omega⟩)

theorem swap_in (k : Fin 1024) (i : Fin 32) : val_main_v97 (F := Ideal) x2 (ix2 k i) = swap 384 (by decide) (rW x2 k) i := by
  have hi := i.isLt
  unfold swap rW
  by_cases h : i.val < 16
  · pointwise [val_main_v97, val_main_v96, val_main_v95, val_main_v93]
    rw [dif_pos h, dif_pos h]
  · pointwise [val_main_v97, val_main_v94, val_main_v93]
    rw [dif_neg h, dif_neg h]

theorem swap_query (k : Fin 256) (h : Fin 8) (i : Fin 32) : val_main_v56 (F := Ideal) x5 (ix3 k h i) = swap 64 (by decide) (rQ x5 k h) i := by
  have hi := i.isLt
  unfold swap rQ
  by_cases h' : i.val < 16
  · pointwise [val_main_v56, val_main_v55, val_main_v54, val_main_v52]
    rw [dif_pos h', dif_pos h']
  · pointwise [val_main_v56, val_main_v53, val_main_v52]
    rw [dif_neg h', dif_neg h']

/-- The turned key. -/
theorem krope_ref (b : Fin 4) (q : Fin 8192) (i : Fin 32) :
    val_main_v102 (F := Ideal) x0 x1 x2 (ix3 b q i) = krope (rX x0 b q) (rG x1) (rW x2) q i := by
  have e : val_main_v98 (F := Ideal) x0 x1 x2 (ix3 b q i) = swapped32 (rX x0 b q) (rG x1) (rW x2) i := by
    refine (val_main_v98_apply x0 x1 x2 (ix3 b q i)).trans ?_
    unfold swapped32 across
    refine Finset.sum_congr rfl fun k _ => ?_
    refine congrArg₂ (· * ·) (Eq.trans (congrArg _ ?_) (normed_ref x0 x1 b q k)) (Eq.trans (congrArg _ ?_) (swap_in x2 k i)) <;> funext a <;> fin_cases a <;> rfl
  have ec : idx_main_v90 (idx_main_v91 (ix3 b q i)) = ix2 q i := by
    funext a
    fin_cases a <;> rfl
  have es : idx_main_v99 (idx_main_v100 (ix3 b q i)) = ix2 q i := by
    funext a
    fin_cases a <;> rfl
  rw [val_main_v102_apply, val_main_v101_apply, val_main_v92_apply, e, part_16, val_main_v91_apply, val_main_v90_apply, ec, cos_ref,
    val_main_v100_apply, val_main_v99_apply, es, sin_ref]
  rfl

/-- A head's query columns, and its turned columns. -/
theorem query_ref (b : Fin 4) (q : Fin 8192) (h : Fin 8) (j : Fin 96) :
    val_main_v51 (F := Ideal) x0 x1 x2 x3 x5 (ix4 b q h j) = ∑ k : Fin 256, cquery (rX x0 b q) (rG x1) (rW x2) (ru x3) k * rQ x5 k h j := by
  refine (val_main_v51_apply x0 x1 x2 x3 x5 (ix4 b q h j)).trans ?_
  refine Finset.sum_congr rfl fun k _ => ?_
  refine congrArg₂ (· * ·) (Eq.trans (congrArg _ ?_) (cquery_ref x0 x1 x2 x3 b q k)) (congrArg x5 ?_) <;> funext a <;> fin_cases a <;> rfl

theorem turned_ref (b : Fin 4) (q : Fin 8192) (h : Fin 8) (i : Fin 32) :
    val_main_v57 (F := Ideal) x0 x1 x2 x3 x5 (ix4 b q h i)
      = ∑ k : Fin 256, cquery (rX x0 b q) (rG x1) (rW x2) (ru x3) k * swap 64 (by decide) (rQ x5 k h) i := by
  refine (val_main_v57_apply x0 x1 x2 x3 x5 (ix4 b q h i)).trans ?_
  refine Finset.sum_congr rfl fun k _ => ?_
  refine congrArg₂ (· * ·) (Eq.trans (congrArg _ ?_) (cquery_ref x0 x1 x2 x3 b q k)) (Eq.trans (congrArg _ ?_) (swap_query x5 k h i)) <;> funext a <;> fin_cases a <;> rfl

/-- A head's key and value columns. -/
theorem key_ref (b : Fin 4) (q : Fin 8192) (h : Fin 8) (j : Fin 128) :
    val_main_v103 (F := Ideal) x0 x1 x2 x4 x6 (ix4 b q h j) = ∑ k : Fin 128, clatent (rX x0 b q) (rG x1) (rW x2) (rk x4) k * rK x6 k h j := by
  refine (val_main_v103_apply x0 x1 x2 x4 x6 (ix4 b q h j)).trans ?_
  refine Finset.sum_congr rfl fun k _ => ?_
  refine congrArg₂ (· * ·) (Eq.trans (congrArg _ ?_) (clatent_ref x0 x1 x2 x4 b q k)) (congrArg x6 ?_) <;> funext a <;> fin_cases a <;> rfl

end Cert.Reference4Ideal.Read

end
-- ==== Proof.FrontRefEnd.lean ====
/- The plain input side's seven results at one index. -/
module

public import proofs.«01_k».proof.Proof.FrontRef

@[expose] public section

set_option maxRecDepth 16384

noncomputable section

namespace Cert.Reference4Ideal.Read

open Cert.Reference4Ideal Cert.Reference4Ideal.Gen Idealize.ShloMosaic Cert.Mix Cert.Front

variable (x0 : (⟨S4x8192x1024, .f32⟩ : BufTy).Contents (Elt Ideal)) (x1 : (⟨S1024, .f32⟩ : BufTy).Contents (Elt Ideal))
  (x2 : (⟨S1024x2464, .f32⟩ : BufTy).Contents (Elt Ideal)) (x3 : (⟨S256, .f32⟩ : BufTy).Contents (Elt Ideal))
  (x4 : (⟨S128, .f32⟩ : BufTy).Contents (Elt Ideal)) (x5 : (⟨S256x8x96, .f32⟩ : BufTy).Contents (Elt Ideal))
  (x6 : (⟨S128x8x128, .f32⟩ : BufTy).Contents (Elt Ideal)) (x7 x8 : (⟨S512, .f32⟩ : BufTy).Contents (Elt Ideal))
  (x9 : (⟨S8x128x128, .f32⟩ : BufTy).Contents (Elt Ideal)) (x10 : (⟨S8x128, .f32⟩ : BufTy).Contents (Elt Ideal))

def rg (j : Fin 512) : EReal := x7 (ix1 j)
def rM (h : Fin 8) (r k : Fin 128) : EReal := x9 (ix3 h r k)
def rB (h : Fin 8) (r : Fin 128) : EReal := x10 (ix2 h r)

theorem plain_lane (b : Fin 4) (q : Fin 8192) (h : Fin 8) (j : Fin 64) :
    val_main_v74 (F := Ideal) x0 x1 x2 x3 x5 (ix4 b q h j)
      = (∑ k : Fin 256, cquery (rX x0 b q) (rG x1) (rW x2) (ru x3) k * rQ x5 k h ⟨j.val, by have := j.isLt; omega⟩) * scl := by
  have e : idx_main_v72 (ix4 b q h j) = ix4 b q h ⟨j.val, by have := j.isLt; omega⟩ := by
    refine funext fun a => Fin.ext ?_
    fin_cases a <;> first | rfl | exact Nat.zero_add _
  rw [val_main_v74_apply, val_main_v72_apply, e, query_ref, val_main_v73_apply]
  rfl

theorem turned_lane (b : Fin 4) (q : Fin 8192) (h : Fin 8) (i : Fin 32) :
    val_main_v71 (F := Ideal) x0 x1 x2 x3 x5 (ix4 b q h i)
      = (∑ k : Fin 256, cquery (rX x0 b q) (rG x1) (rW x2) (ru x3) k * rQ x5 k h ⟨64 + i.val, by have := i.isLt; omega⟩) * (cosv q i.val * scl)
        + (∑ k : Fin 256, cquery (rX x0 b q) (rG x1) (rW x2) (ru x3) k * swap 64 (by decide) (rQ x5 k h) i) * (sinv q i.val * scl) := by
  have e : idx_main_v58 (ix4 b q h i) = ix4 b q h ⟨64 + i.val, by have := i.isLt; omega⟩ := by
    refine funext fun a => Fin.ext ?_
    fin_cases a <;> rfl
  have ec : idx_main_v61 (idx_main_v62 (idx_main_v63 (ix4 b q h i))) = ix2 q i := by
    funext a
    fin_cases a <;> rfl
  have es : idx_main_v67 (idx_main_v68 (idx_main_v69 (ix4 b q h i))) = ix2 q i := by
    funext a
    fin_cases a <;> rfl
  rw [val_main_v71_apply, val_main_v64_apply, val_main_v70_apply, val_main_v58_apply, e, query_ref, turned_ref, val_main_v63_apply, val_main_v62_apply,
    val_main_v61_apply, ec, val_main_v60_apply, cos_ref, val_main_v69_apply, val_main_v68_apply, val_main_v67_apply, es, val_main_v66_apply, sin_ref,
    val_main_v59_apply, val_main_v65_apply]
  rfl

theorem lanes_ref (b : Fin 4) (q : Fin 8192) (h : Fin 8) (l : Fin 128) :
    val_main_v76 (F := Ideal) x0 x1 x2 x3 x5 (ix4 b q h l)
      = qlane (cquery (rX x0 b q) (rG x1) (rW x2) (ru x3)) (fun k => rQ x5 k h) q l := by
  have hl := l.isLt
  unfold qlane
  by_cases c : l.val < 64
  · pointwise [val_main_v76]
    rw [dif_pos c, dif_pos c]
    exact plain_lane x0 x1 x2 x3 x5 b q h ⟨l.val, c⟩
  · by_cases c' : l.val - 64 < 32
    · pointwise [val_main_v76]
      rw [dif_neg c, dif_neg c, dif_pos c', dif_pos c']
      exact turned_lane x0 x1 x2 x3 x5 b q h ⟨l.val - 64, c'⟩
    · pointwise [val_main_v76]
      rw [dif_neg c, dif_neg c, dif_neg c', dif_neg c', val_main_v75_apply]
      exact sum_zero

theorem keys_ref (b : Fin 4) (q : Fin 8192) (h : Fin 8) (l : Fin 128) :
    val_main_v108 (F := Ideal) x0 x1 x2 x4 x6 (ix4 b q h l)
      = klane (clatent (rX x0 b q) (rG x1) (rW x2) (rk x4)) (fun k => rK x6 k h) (krope (rX x0 b q) (rG x1) (rW x2) q) l := by
  have hl := l.isLt
  unfold klane
  by_cases c : l.val < 64
  · pointwise [val_main_v108]
    rw [dif_pos c, dif_pos c, ← key_ref, val_main_v106_apply]
    refine congrArg _ (funext fun a => Fin.ext ?_)
    fin_cases a <;> first | rfl | exact Nat.zero_add _
  · by_cases c' : l.val - 64 < 32
    · pointwise [val_main_v108]
      rw [dif_neg c, dif_neg c, dif_pos c', dif_pos c', ← krope_ref, val_main_v105_apply, val_main_v104_apply]
      refine congrArg _ (funext fun a => Fin.ext ?_)
      fin_cases a <;> rfl
    · pointwise [val_main_v108]
      rw [dif_neg c, dif_neg c, dif_neg c', dif_neg c', val_main_v107_apply]
      exact sum_zero

theorem heads_idx (b : Fin 4) (q : Fin 8192) (n : Fin 1024) : idx_main_v148 (ix3 b q n) = ix4 b q (headOf n) (laneOf n) := by
  have hb := b.isLt
  have hq := q.isLt
  have hn := n.isLt
  refine funext fun a => Fin.ext ?_
  fin_cases a
  · show ((b.val * 8192 + q.val) * 1024 + n.val) / 8388608 = b.val
    omega
  · show ((b.val * 8192 + q.val) * 1024 + n.val) / 1024 % 8192 = q.val
    omega
  · show ((b.val * 8192 + q.val) * 1024 + n.val) / 128 % 8 = n.val / 128
    omega
  · show ((b.val * 8192 + q.val) * 1024 + n.val) % 128 = n.val % 128
    omega

/-- The queries. -/
theorem ref_14 (b : Fin 4) (q : Fin 8192) (n : Fin 1024) :
    val_main_v149 (F := Ideal) x0 x1 x2 x3 x5 (ix3 b q n)
      = qlane (cquery (rX x0 b q) (rG x1) (rW x2) (ru x3)) (fun k => rQ x5 k (headOf n)) q (laneOf n) := by
  rw [val_main_v149_apply, val_main_v148_apply, heads_idx, lanes_ref]
  rfl

/-- The keys. -/
theorem ref_15 (b : Fin 4) (q : Fin 8192) (n : Fin 1024) :
    val_main_v151 (F := Ideal) x0 x1 x2 x4 x6 (ix3 b q n)
      = klane (clatent (rX x0 b q) (rG x1) (rW x2) (rk x4)) (fun k => rK x6 k (headOf n)) (krope (rX x0 b q) (rG x1) (rW x2) q) (laneOf n) := by
  rw [val_main_v151_apply, val_main_v150_apply, show idx_main_v150 (ix3 b q n) = _ from heads_idx b q n, keys_ref]
  rfl

/-- The values. -/
theorem ref_16 (b : Fin 4) (q : Fin 8192) (n : Fin 512) :
    val_main_v153 (F := Ideal) x0 x1 x2 x4 x6 (ix3 b q n)
      = ∑ k : Fin 128, clatent (rX x0 b q) (rG x1) (rW x2) (rk x4) k * rK x6 k (group n) ⟨64 + n.val % 64, by omega⟩ := by
  have hb := b.isLt
  have hq := q.isLt
  have hn := n.isLt
  have e : idx_main_v109 (idx_main_v152 (ix3 b q n)) = ix4 b q (group n) ⟨64 + n.val % 64, by omega⟩ := by
    refine funext fun a => Fin.ext ?_
    fin_cases a
    · show ((b.val * 8192 + q.val) * 512 + n.val) / 4194304 = b.val
      omega
    · show ((b.val * 8192 + q.val) * 512 + n.val) / 512 % 8192 = q.val
      omega
    · show ((b.val * 8192 + q.val) * 512 + n.val) / 64 % 8 = n.val / 64
      omega
    · show 64 + ((b.val * 8192 + q.val) * 512 + n.val) % 64 = 64 + n.val % 64
      omega
  rw [val_main_v153_apply, val_main_v152_apply, val_main_v109_apply, e, key_ref]
  rfl

theorem one_bits : Ideal.ofBits .f32 0x3F800000#32 = (1 : EReal) := by
  simp [Ideal.ofBits, Ideal.ieee]
  norm_num
  rw [← EReal.coe_mul]
  norm_num

/-- The attention's gate. -/
theorem ref_19 (b : Fin 4) (q : Fin 8192) (n : Fin 512) :
    val_main_v155 (F := Ideal) x0 x1 x2 (ix3 b q n) = silu (across (rX x0 b q) (rG x1) (rW x2) (past (part 0 n))) := by
  rw [val_main_v155_apply, val_main_v154_apply, val_main_call3_v5_apply, val_main_call3_v4_apply, val_main_call3_v3_apply, val_main_call3_v2_apply,
    val_main_call3_v1_apply, val_main_call3_v0_apply, part_17, val_main_call3_cst_apply, val_main_call3_cst_0_apply]
  generalize across (rX x0 b q) (rG x1) (rW x2) (past (part 0 n)) = z
  show z * Ideal.div (Ideal.ofBits .f32 0x3F800000#32) (Ideal.ofBits .f32 0x3F800000#32 + Ideal.exp (-z)) = _
  rw [one_bits]
  rfl

theorem gate_ref (b : Fin 4) (q : Fin 8192) (n : Fin 512) :
    val_main_v146 (F := Ideal) x0 x1 x2 (ix3 b q n) = silu (across (rX x0 b q) (rG x1) (rW x2) (past (part 3 n))) := by
  rw [val_main_v146_apply, val_main_call2_v5_apply, val_main_call2_v4_apply, val_main_call2_v3_apply, val_main_call2_v2_apply,
    val_main_call2_v1_apply, val_main_call2_v0_apply, part_20, val_main_call2_cst_apply, val_main_call2_cst_0_apply]
  generalize across (rX x0 b q) (rG x1) (rW x2) (past (part 3 n)) = z
  show z * Ideal.div (Ideal.ofBits .f32 0x3F800000#32) (Ideal.ofBits .f32 0x3F800000#32 + Ideal.exp (-z)) = _
  rw [one_bits]
  rfl

/-- The span the layer norm works on. -/
def rV (b : Fin 4) (q : Fin 8192) (i : Fin 512) : EReal := across (rX x0 b q) (rG x1) (rW x2) (past (part 2 i))

theorem centred_ref (b : Fin 4) (q : Fin 8192) (n : Fin 512) :
    val_main_v115 (F := Ideal) x0 x1 x2 (ix3 b q n) = centred (rV x0 x1 x2 b q) n := by
  have e0 : ∀ k, idx_main_v110 (idx_main_v111 (idx_main_v114 (ix3 b q n))) k = ix3 b q k := fun k => by
    funext a
    fin_cases a <;> rfl
  have e : val_main_v110 (F := Ideal) x0 x1 x2 (idx_main_v111 (idx_main_v114 (ix3 b q n))) = ∑ k : Fin 512, rV x0 x1 x2 b q k := by
    refine (val_main_v110_apply x0 x1 x2 _).trans ?_
    refine Eq.trans (congrArg₂ (· + ·) sum_zero (Finset.sum_congr rfl fun k _ => ?_)) (zero_add _)
    rw [e0, part_19]
    rfl
  rw [val_main_v115_apply, part_19, val_main_v114_apply, val_main_v113_apply, val_main_v111_apply, e, val_main_v112_apply]
  rfl

theorem centred_ref' (b : Fin 4) (q : Fin 8192) (n : Fin 512) :
    val_main_v122 (F := Ideal) x0 x1 x2 (ix3 b q n) = centred (rV x0 x1 x2 b q) n := centred_ref x0 x1 x2 b q n

theorem layered_ref (b : Fin 4) (q : Fin 8192) (n : Fin 512) :
    val_main_v133 (F := Ideal) x0 x1 x2 x7 x8 (ix3 b q n) = layered (rV x0 x1 x2 b q) (rg x7) (rg x8) n := by
  have e1 : idx_main_v128 (idx_main_v129 (ix3 b q n)) = ix1 n := by
    funext a
    fin_cases a <;> rfl
  have e2 : idx_main_v131 (idx_main_v132 (ix3 b q n)) = ix1 n := by
    funext a
    fin_cases a <;> rfl
  have e0 : ∀ k, idx_main_v117 (idx_main_v118 (idx_main_v126 (ix3 b q n))) k = ix3 b q k := fun k => by
    funext a
    fin_cases a <;> rfl
  have e : val_main_v117 (F := Ideal) x0 x1 x2 (idx_main_v118 (idx_main_v126 (ix3 b q n)))
      = ∑ k : Fin 512, centred (rV x0 x1 x2 b q) k * centred (rV x0 x1 x2 b q) k := by
    refine (val_main_v117_apply x0 x1 x2 _).trans ?_
    refine Eq.trans (congrArg₂ (· + ·) sum_zero (Finset.sum_congr rfl fun k _ => ?_)) (zero_add _)
    rw [e0, val_main_v116_apply, centred_ref]
    rfl
  rw [val_main_v133_apply, val_main_v130_apply, val_main_v127_apply, centred_ref', val_main_v126_apply, val_main_v125_apply, val_main_v124_apply,
    val_main_v120_apply, val_main_v118_apply, e, val_main_v119_apply, val_main_v123_apply, val_main_v129_apply, val_main_v128_apply, e1,
    val_main_v132_apply, val_main_v131_apply, e2]
  rfl

theorem masked_ref (h : Fin 8) (r k : Fin 128) : val_main_v137 (F := Ideal) x9 (ix3 h r k) = lower (rM x9 h) r k := by
  have e : idx_main_call1_v1 (ix3 h r k) = ix2 r k := by
    funext a
    fin_cases a <;> rfl
  have hz : (val_main_call1_v2 (F := Ideal)) (ix3 h r k) = (0 : EReal) := by
    rw [val_main_call1_v2_apply, val_main_call1_v0_apply]
    show (((0#32 : BitVec 32).toInt : ℝ) : EReal) = 0
    simp
  have hc : val_main_v136 (F := Ideal) (ix2 r k) = if k.val ≤ r.val then 1#1 else 0#1 := by
    rw [val_main_v136_apply, val_main_call0_v4_apply, val_main_call0_v2_apply]
    show Scalar.select (IntOp.cmpi .sge (BitVec.ofNat 32 r.val + 0#32) (BitVec.ofNat 32 k.val)) 1#1 0#1 = _
    rw [BitVec.add_zero]
    by_cases hk : k.val ≤ r.val
    · rw [if_pos hk, (WordCmp.cmpi_sge_ofNat_eq_one_iff (w := 32) (by have := r.isLt; omega) (by have := k.isLt; omega)).2 hk]
      rfl
    · rw [if_neg hk, (WordCmp.cmpi_sge_ofNat_eq_zero_iff (w := 32) (by have := r.isLt; omega) (by have := k.isLt; omega)).2 (by omega)]
      rfl
  rw [val_main_v137_apply, val_main_call1_v1_apply, e, hc, hz]
  unfold lower
  by_cases hk : k.val ≤ r.val
  · rw [if_pos hk, if_pos hk]
    rfl
  · rw [if_neg hk, if_neg hk]
    rfl

/-- A position's chunk's row, and the position in its chunk. -/
def chunkR (q : Fin 8192) (x : Fin 128) : Fin 8192 := ⟨q.val / 128 * 128 + x.val, by have := q.isLt; have := x.isLt; omega⟩
def inChunkR (q : Fin 8192) : Fin 128 := ⟨q.val % 128, Nat.mod_lt _ (by decide)⟩

theorem mixing_ref (b : Fin 4) (q : Fin 8192) (n : Fin 512) :
    val_main_v144 (F := Ideal) x0 x1 x2 x7 x8 x9 x10 (ix3 b q n)
      = (∑ x : Fin 128, lower (rM x9 (group n)) (inChunkR q) x * layered (rV x0 x1 x2 b (chunkR q x)) (rg x7) (rg x8) n)
        + rB x10 (group n) (inChunkR q) := by
  have hb := b.isLt
  have hq := q.isLt
  have hn := n.isLt
  have e : idx_main_v144 (ix3 b q n) = ix5 b (⟨q.val / 128, by omega⟩ : Fin 64) (inChunkR q) (group n) (⟨n.val % 64, by omega⟩ : Fin 64) := by
    refine funext fun a => Fin.ext ?_
    fin_cases a
    · show ((b.val * 8192 + q.val) * 512 + n.val) / 4194304 = b.val
      omega
    · show ((b.val * 8192 + q.val) * 512 + n.val) / 65536 % 64 = q.val / 128
      omega
    · show ((b.val * 8192 + q.val) * 512 + n.val) / 512 % 128 = q.val % 128
      omega
    · show ((b.val * 8192 + q.val) * 512 + n.val) / 64 % 8 = n.val / 64
      omega
    · show ((b.val * 8192 + q.val) * 512 + n.val) % 64 = n.val % 64
      omega
  have eb : idx_main_v140 (idx_main_v141 (idx_main_v142 (ix5 b (⟨q.val / 128, by omega⟩ : Fin 64) (inChunkR q) (group n) (⟨n.val % 64, by omega⟩ : Fin 64))))
      = ix2 (group n) (inChunkR q) := by
    funext a
    fin_cases a <;> rfl
  have ev : ∀ x : Fin 128, idx_main_v134 (lidx_main_v138 (idx_main_v139 (ix5 b (⟨q.val / 128, by omega⟩ : Fin 64) (inChunkR q) (group n)
      (⟨n.val % 64, by omega⟩ : Fin 64))) x) = ix3 b (chunkR q x) n := fun x => by
    have hx := x.isLt
    refine funext fun a => Fin.ext ?_
    fin_cases a
    · show ((((b.val * 64 + q.val / 128) * 128 + x.val) * 8 + n.val / 64) * 64 + n.val % 64) / 4194304 = b.val
      omega
    · show ((((b.val * 64 + q.val / 128) * 128 + x.val) * 8 + n.val / 64) * 64 + n.val % 64) / 512 % 8192 = q.val / 128 * 128 + x.val
      omega
    · show ((((b.val * 64 + q.val / 128) * 128 + x.val) * 8 + n.val / 64) * 64 + n.val % 64) % 512 = n.val
      omega
  have ew : ∀ x : Fin 128, ridx_main_v138 (idx_main_v139 (ix5 b (⟨q.val / 128, by omega⟩ : Fin 64) (inChunkR q) (group n)
      (⟨n.val % 64, by omega⟩ : Fin 64))) x = ix3 (group n) (inChunkR q) x := fun x => by
    funext a
    fin_cases a <;> rfl
  have es := val_main_v138_apply x0 x1 x2 x7 x8 x9 (idx_main_v139 (ix5 b (⟨q.val / 128, by omega⟩ : Fin 64) (inChunkR q) (group n)
      (⟨n.val % 64, by omega⟩ : Fin 64)))
  rw [val_main_v144_apply, e, val_main_v143_apply, val_main_v139_apply, es, val_main_v142_apply, val_main_v141_apply, val_main_v140_apply, eb]
  refine congrArg₂ (· + ·) (Finset.sum_congr rfl fun x _ => ?_) rfl
  rw [val_main_v134_apply, ev, ew, layered_ref, masked_ref]
  exact mul_comm _ _

/-- The mixed chunks, gated. -/
theorem ref_20 (b : Fin 4) (q : Fin 8192) (n : Fin 512) :
    val_main_v156 (F := Ideal) x0 x1 x2 x7 x8 x9 x10 (ix3 b q n)
      = mixed (fun x n => across (rX x0 b (chunkR q x)) (rG x1) (rW x2) (past n)) (rg x7) (rg x8) (rM x9) (fun r j => rB x10 (group j) r)
          (inChunkR q) n := by
  have hc : chunkR q (inChunkR q) = q := Fin.ext (by
    show q.val / 128 * 128 + q.val % 128 = q.val
    omega)
  unfold mixed
  dsimp only
  rw [hc, val_main_v156_apply, val_main_v147_apply, val_main_v145_apply, part_18, mixing_ref, gate_ref]
  rfl

end Cert.Reference4Ideal.Read

end
-- ==== Proof.FrontSame.lean ====
/- The plain input side's results are the call's. -/
module

public import proofs.«01_k».proof.Proof.FrontCover
public import proofs.«01_k».proof.Proof.FrontRefEnd

@[expose] public section

set_option maxRecDepth 16384

noncomputable section

namespace Cert.Kernel4Ideal.Front

open Idealize.ShloMosaic Cert.Kernel4Ideal.Gen Cert.Mix Cert.Front

variable (m : (ℓ : Loc nD τ sig) → Buf (Elt Ideal) ℓ) (c : Dev nD)

variable {x0 : (⟨Cert.Reference4Ideal.S4x8192x1024, .f32⟩ : BufTy).Contents (Elt Ideal)}
  {x1 : (⟨Cert.Reference4Ideal.S1024, .f32⟩ : BufTy).Contents (Elt Ideal)}
  {x2 : (⟨Cert.Reference4Ideal.S1024x2464, .f32⟩ : BufTy).Contents (Elt Ideal)}
  {x3 : (⟨Cert.Reference4Ideal.S256, .f32⟩ : BufTy).Contents (Elt Ideal)}
  {x4 : (⟨Cert.Reference4Ideal.S128, .f32⟩ : BufTy).Contents (Elt Ideal)}
  {x5 : (⟨Cert.Reference4Ideal.S256x8x96, .f32⟩ : BufTy).Contents (Elt Ideal)}
  {x6 : (⟨Cert.Reference4Ideal.S128x8x128, .f32⟩ : BufTy).Contents (Elt Ideal)}
  {x7 : (⟨Cert.Reference4Ideal.S512, .f32⟩ : BufTy).Contents (Elt Ideal)}
  {x8 : (⟨Cert.Reference4Ideal.S512, .f32⟩ : BufTy).Contents (Elt Ideal)}
  {x9 : (⟨Cert.Reference4Ideal.S8x128x128, .f32⟩ : BufTy).Contents (Elt Ideal)}
  {x10 : (⟨Cert.Reference4Ideal.S8x128, .f32⟩ : BufTy).Contents (Elt Ideal)}
  (e0 : x0 = m (c.tc.loc main_arg0))
  (e1 : x1 = m (c.tc.loc main_arg1))
  (e2 : x2 = m (c.tc.loc main_arg2))
  (e3 : x3 = m (c.tc.loc main_arg3))
  (e4 : x4 = m (c.tc.loc main_arg4))
  (e5 : x5 = m (c.tc.loc main_arg5))
  (e6 : x6 = m (c.tc.loc main_arg6))
  (e7 : x7 = m (c.tc.loc main_arg7))
  (e8 : x8 = m (c.tc.loc main_arg8))
  (e9 : x9 = m (c.tc.loc main_arg9))
  (e10 : x10 = m (c.tc.loc main_arg10))

include e0 e1 e2 e3 e5 in
theorem same_14 : Cert.Reference4Ideal.Read.val_main_v149 (F := Ideal) x0 x1 x2 x3 x5 = result_14 m c := by
  subst e0 e1 e2 e3 e5
  funext i
  rw [eq_ix3 i]
  exact Cert.Reference4Ideal.Read.ref_14 _ _ _ _ _ _ _ _

include e0 e1 e2 e4 e6 in
theorem same_15 : Cert.Reference4Ideal.Read.val_main_v151 (F := Ideal) x0 x1 x2 x4 x6 = result_15 m c := by
  subst e0 e1 e2 e4 e6
  funext i
  rw [eq_ix3 i]
  exact Cert.Reference4Ideal.Read.ref_15 _ _ _ _ _ _ _ _

include e0 e1 e2 e4 e6 in
theorem same_16 : Cert.Reference4Ideal.Read.val_main_v153 (F := Ideal) x0 x1 x2 x4 x6 = result_16 m c := by
  subst e0 e1 e2 e4 e6
  funext i
  rw [eq_ix3 i]
  exact Cert.Reference4Ideal.Read.ref_16 _ _ _ _ _ _ _ _

include e0 e1 e2 e4 in
theorem same_17 : Cert.Reference4Ideal.Read.val_main_v89 (F := Ideal) x0 x1 x2 x4 = result_17 m c := by
  subst e0 e1 e2 e4
  funext i
  rw [eq_ix3 i]
  exact Cert.Reference4Ideal.Read.clatent_ref _ _ _ _ _ _ _

include e0 e1 e2 in
theorem same_18 : Cert.Reference4Ideal.Read.val_main_v102 (F := Ideal) x0 x1 x2 = result_18 m c := by
  subst e0 e1 e2
  funext i
  rw [eq_ix3 i]
  exact Cert.Reference4Ideal.Read.krope_ref _ _ _ _ _ _

include e0 e1 e2 in
theorem same_19 : Cert.Reference4Ideal.Read.val_main_v155 (F := Ideal) x0 x1 x2 = result_19 m c := by
  subst e0 e1 e2
  funext i
  rw [eq_ix3 i]
  exact Cert.Reference4Ideal.Read.ref_19 _ _ _ _ _ _

include e0 e1 e2 e7 e8 e9 e10 in
theorem same_20 : Cert.Reference4Ideal.Read.val_main_v156 (F := Ideal) x0 x1 x2 x7 x8 x9 x10 = result_20 m c := by
  subst e0 e1 e2 e7 e8 e9 e10
  funext i
  rw [eq_ix3 i]
  exact Cert.Reference4Ideal.Read.ref_20 _ _ _ _ _ _ _ _ _ _

end Cert.Kernel4Ideal.Front

end
-- ==== Proof.Step.lean ====
/- The sample group's first call: what each of its stores holds at an index, and its seven result blocks. -/
module

public import proofs.«01_k».proof.Proof.FrontMath
public import proofs.«01_k».proof.Proof.Gen.Kernel5Ideal.Frame

@[expose] public section

set_option maxRecDepth 16384

noncomputable section

namespace Cert.Front

open Idealize.ShloMosaic Cert.Mix

/-- Lane `e` of head `h` among the latent queries, and a lane's head and place. -/
def wide (h : Fin 8) (e : Fin 256) : Fin 2048 := ⟨h.val * 256 + e.val, by have := h.isLt; have := e.isLt; omega⟩
def headIn (n : Fin 2048) : Fin 8 := ⟨n.val / 256, by have := n.isLt; omega⟩
def laneIn (n : Fin 2048) : Fin 256 := ⟨n.val % 256, Nat.mod_lt _ (by decide)⟩

theorem headIn_wide (h : Fin 8) (e : Fin 256) : headIn (wide h e) = h :=
  Fin.ext (by show (h.val * 256 + e.val) / 256 = h.val; have := e.isLt; omega)
theorem laneIn_wide (h : Fin 8) (e : Fin 256) : laneIn (wide h e) = e :=
  Fin.ext (by show (h.val * 256 + e.val) % 256 = e.val; have := e.isLt; omega)

/-- The gated first row of a chunk: its one weight, its offset, the two gates. -/
def first (Z : Fin 2048 → EReal) (g b w o : Fin 512 → EReal) (j : Fin 512) : EReal :=
  Z (part 1 j) * (layered (fun i => Z (part 2 i)) g b j * w j + o j) * silu (Z (part 3 j))

end Cert.Front

namespace Cert.Kernel5Ideal.Step

open Idealize.ShloMosaic Cert.Kernel5Ideal.Gen Cert.Mix Cert.Front

theorem narrow_apply (x : Vec Ideal S128x1024 .f32) (g : Vec Ideal S1x1024 .f32) (w : Vec Ideal S1024x512 .bf16) (r : Fin 128) (n : Fin 512) :
    k0_pay6 x g w (ix2 r n) = across (fun j => x (ix2 r j)) (fun j => g (ix2 0 j)) (fun k n => w (ix2 k n)) n := by
  pointwise [k0_pay6, k0_pay5]
  rfl

theorem wide_apply (x : Vec Ideal S128x1024 .f32) (g : Vec Ideal S1x1024 .f32) (w : Vec Ideal S1024x2048 .bf16) (r : Fin 128) (n : Fin 2048) :
    k0_pay7 x g w (ix2 r n) = across (fun j => x (ix2 r j)) (fun j => g (ix2 0 j)) (fun k n => w (ix2 k n)) n := by
  pointwise [k0_pay7, k0_pay5]
  rfl

theorem query_apply (x : Vec Ideal S128x1024 .f32) (g : Vec Ideal S1x1024 .f32) (w : Vec Ideal S1024x512 .bf16)
    (u : Vec Ideal S1x256 .f32) (v : Vec Ideal S256x1024 .bf16) (r : Fin 128) (n : Fin 1024) :
    k0_pay10 (k0_pay2 u) (k0_pay4 v) (k0_pay8 x g w) (k0_pay9 x g w) (ix2 r n)
      = queries (fun n => k0_pay6 x g w (ix2 r n)) (fun j => u (ix2 0 j)) (fun k n => v (ix2 k n)) n := by
  pointwise [k0_pay10, k0_pay2, k0_pay4, k0_pay8, k0_pay9]
  rfl

variable (p : FVec Ideal S128x512 .f32) (z : FVec Ideal S128x2048 .f32) (q : FVec Ideal S128x1024 .f32)

theorem latent_apply (u : Vec Ideal S1x128 .f32) (r j : Fin 128) :
    k0_pay11 (k0_pay3 u) p (ix2 r j) = latent (fun n => p (ix2 r n)) (fun j => u (ix2 0 j)) j := by
  pointwise [k0_pay11, k0_pay3]
  rfl

theorem turned_apply (t : Vec Ideal S4x128x128 .f32) (r l : Fin 128) :
    k0_pay12 (k0_pay1 t) p (ix2 r l) = turned (fun n => p (ix2 r n)) (fun l => t (ix3 2 r l)) (fun l => t (ix3 3 r l)) l := by
  pointwise [k0_pay12, k0_pay1]
  rfl

theorem krope_apply (t : FVec Ideal S4x128x128 .f32) (r : Fin 128) (c : Fin 32) :
    k0_pay13 t p (ix2 r c) = k0_pay12 t p (ix2 r ⟨64 + c.val, by have := c.isLt; omega⟩) := by
  pointwise [k0_pay13]

theorem layered_apply (g b : Vec Ideal S1x512 .f32) (r : Fin 128) (j : Fin 512) :
    k0_pay26 z g b (ix2 r j) = layered (fun k => z (ix2 r (part 2 k))) (fun k => g (ix2 0 k)) (fun k => b (ix2 0 k)) j := by
  pointwise [k0_pay26]
  rfl

theorem gate_apply (r : Fin 128) (j : Fin 512) : k0_pay25 z (ix2 r j) = silu (z (ix2 r (part 0 j))) := by
  pointwise [k0_pay25]
  rw [part_zero]; rfl

theorem first_apply (g b w o : Vec Ideal S1x512 .f32) (r : Fin 128) (j : Fin 512) :
    k0_pay27 z g b w o (ix2 r j)
      = z (ix2 r (part 1 j)) * (k0_pay26 z g b (ix2 r j) * w (ix2 0 j) + o (ix2 0 j)) * silu (z (ix2 r (part 3 j))) := by
  pointwise [k0_pay27]
  rfl

/-- A head's turned query against one column of the weight that takes it to the latent side. -/
def drawn (t : Vec Ideal S4x128x128 .f32) (h : Fin 8) (w : Vec Ideal S1x128x256 .bf16) (r : Fin 128) (e : Fin 256) : EReal :=
  ∑ l : Fin 128, asked (fun n => q (ix2 r n)) (fun l => t (ix3 0 r l)) (fun l => t (ix3 1 r l)) h l * w (ix3 0 l e)

theorem drawn0 (t : Vec Ideal S4x128x128 .f32) (a : FVec Ideal S1x256 .f32) (b : FVec Ideal S256x1024 .bf16) (c : FVec Ideal S128x256 .f32)
    (d : FVec Ideal S128x1 .f32) (w : Vec Ideal S1x128x256 .bf16) (r : Fin 128) (e : Fin 256) :
    k0_pay15 (k0_pay14 (k0_pay1 t) a b c d) w (ix2 r e) = drawn (k0_pay10 a b c d) t 0 w r e := by
  pointwise [k0_pay15, k0_pay14, k0_pay1]
  simp only [drawn, asked, lane_zero]; rfl

theorem drawn1 (t : Vec Ideal S4x128x128 .f32) (w : Vec Ideal S1x128x256 .bf16) (r : Fin 128) (e : Fin 256) :
    k0_pay16 (k0_pay1 t) q w (ix2 r e) = drawn q t 1 w r e := by
  pointwise [k0_pay16, k0_pay1]
  rfl

theorem drawn2 (t : Vec Ideal S4x128x128 .f32) (w : Vec Ideal S1x128x256 .bf16) (r : Fin 128) (e : Fin 256) :
    k0_pay17 (k0_pay1 t) q w (ix2 r e) = drawn q t 2 w r e := by
  pointwise [k0_pay17, k0_pay1]
  rfl

theorem drawn3 (t : Vec Ideal S4x128x128 .f32) (w : Vec Ideal S1x128x256 .bf16) (r : Fin 128) (e : Fin 256) :
    k0_pay19 (k0_pay1 t) (k0_pay18 q) w (ix2 r e) = drawn q t 3 w r e := by
  pointwise [k0_pay19, k0_pay1, k0_pay18]
  rfl

theorem drawn4 (t : Vec Ideal S4x128x128 .f32) (w : Vec Ideal S1x128x256 .bf16) (r : Fin 128) (e : Fin 256) :
    k0_pay20 (k0_pay1 t) q w (ix2 r e) = drawn q t 4 w r e := by
  pointwise [k0_pay20, k0_pay1]
  rfl

theorem drawn5 (t : Vec Ideal S4x128x128 .f32) (w : Vec Ideal S1x128x256 .bf16) (r : Fin 128) (e : Fin 256) :
    k0_pay22 (k0_pay21 (k0_pay1 t) q) w (ix2 r e) = drawn q t 5 w r e := by
  pointwise [k0_pay22, k0_pay21, k0_pay1]
  rfl

theorem drawn6 (t : Vec Ideal S4x128x128 .f32) (w : Vec Ideal S1x128x256 .bf16) (r : Fin 128) (e : Fin 256) :
    k0_pay23 (k0_pay1 t) q w (ix2 r e) = drawn q t 6 w r e := by
  pointwise [k0_pay23, k0_pay1]
  rfl

theorem drawn7 (t : Vec Ideal S4x128x128 .f32) (w : Vec Ideal S1x128x256 .bf16) (r : Fin 128) (e : Fin 256) :
    k0_pay24 (k0_pay1 t) q w (ix2 r e) = drawn q t 7 w r e := by
  pointwise [k0_pay24, k0_pay1]
  rfl

variable (x0 : Vec Ideal S128x1024 .f32) (x1 : Vec Ideal S4x128x128 .f32) (x2 : Vec Ideal S1x1024 .f32) (x3 : Vec Ideal S1024x512 .bf16) (x4 : Vec Ideal S1024x2048 .bf16) (x5 : Vec Ideal S1x256 .f32) (x6 : Vec Ideal S1x128 .f32) (x7 : Vec Ideal S256x1024 .bf16) (x8 : Vec Ideal S8x128x256 .bf16) (x9 : Vec Ideal S1x512 .f32) (x10 : Vec Ideal S1x512 .f32) (x11 : Vec Ideal S1x512 .f32) (x12 : Vec Ideal S1x512 .f32)

theorem ld1 (x : Vec Ideal S128x1024 .f32) : View.ld x r0_1 = x := View.ld_unit_lit _ _ fun a => by fin_cases a <;> rfl
theorem ld0 (x : Vec Ideal S4x128x128 .f32) : View.ld x r0_0 = x := View.ld_unit_lit _ _ fun a => by fin_cases a <;> rfl
theorem ld2 (x : Vec Ideal S1x1024 .f32) : View.ld x r0_2 = x := View.ld_unit_lit _ _ fun a => by fin_cases a <;> rfl
theorem ld3 (x : Vec Ideal S1024x512 .bf16) : View.ld x r0_3 = x := View.ld_unit_lit _ _ fun a => by fin_cases a <;> rfl
theorem ld4 (x : Vec Ideal S1024x2048 .bf16) : View.ld x r0_4 = x := View.ld_unit_lit _ _ fun a => by fin_cases a <;> rfl
theorem ld5 (x : Vec Ideal S1x256 .f32) : View.ld x r0_5 = x := View.ld_unit_lit _ _ fun a => by fin_cases a <;> rfl
theorem ld6 (x : Vec Ideal S1x128 .f32) : View.ld x r0_6 = x := View.ld_unit_lit _ _ fun a => by fin_cases a <;> rfl
theorem ld7 (x : Vec Ideal S256x1024 .bf16) : View.ld x r0_7 = x := View.ld_unit_lit _ _ fun a => by fin_cases a <;> rfl
theorem ld27 (x : Vec Ideal S1x512 .f32) : View.ld x r0_27 = x := View.ld_unit_lit _ _ fun a => by fin_cases a <;> rfl

/-- The rows' narrow and wide products, and what follows from them. -/
def narrowT (r : Fin 128) : Fin 512 → EReal := across (fun j => x0 (ix2 r j)) (fun j => x2 (ix2 0 j)) fun k n => x3 (ix2 k n)
def wideT (r : Fin 128) : Fin 2048 → EReal := across (fun j => x0 (ix2 r j)) (fun j => x2 (ix2 0 j)) fun k n => x4 (ix2 k n)
def latentT (r : Fin 128) : Fin 128 → EReal := latent (narrowT x0 x2 x3 r) fun j => x6 (ix2 0 j)
def turnedT (r : Fin 128) : Fin 128 → EReal := turned (narrowT x0 x2 x3 r) (fun l => x1 (ix3 2 r l)) fun l => x1 (ix3 3 r l)
def queryT (r : Fin 128) : Fin 1024 → EReal := queries (narrowT x0 x2 x3 r) (fun j => x5 (ix2 0 j)) fun k n => x7 (ix2 k n)

theorem narrow_eq (r : Fin 128) (n : Fin 512) : k0_pay31 x0 x1 x2 x3 x4 x5 x6 x7 x8 x9 x10 x11 x12 (ix2 r n) = narrowT x0 x2 x3 r n := by
  unfold k0_pay31
  rw [ld1, ld2, ld3]
  exact narrow_apply _ _ _ r n

theorem wide_eq (r : Fin 128) (n : Fin 2048) : k0_pay32 x0 x1 x2 x3 x4 x5 x6 x7 x8 x9 x10 x11 x12 (ix2 r n) = wideT x0 x2 x4 r n := by
  unfold k0_pay32
  rw [ld1, ld2, ld4]
  exact wide_apply _ _ _ r n

theorem query_eq (r : Fin 128) (n : Fin 1024) : k0_pay35 x0 x1 x2 x3 x4 x5 x6 x7 x8 x9 x10 x11 x12 (ix2 r n) = queryT x0 x2 x3 x5 x7 r n := by
  unfold k0_pay35 k0_pay29 k0_pay30 k0_pay33 k0_pay34
  rw [ld1, ld2, ld3, ld5, ld7]
  refine (query_apply _ _ _ _ _ r n).trans ?_
  simp only [narrow_apply]
  rfl

theorem turned_eq (r l : Fin 128) : k0_pay12 (k0_pay28 x0 x1 x2 x3 x4 x5 x6 x7 x8 x9 x10 x11 x12) (k0_pay31 x0 x1 x2 x3 x4 x5 x6 x7 x8 x9 x10 x11 x12) (ix2 r l) = turnedT x0 x1 x2 x3 r l := by
  unfold k0_pay28
  rw [ld0]
  refine (turned_apply _ _ r l).trans ?_
  simp only [narrow_eq]
  rfl

theorem layered_eq (r : Fin 128) (j : Fin 512) :
    k0_pay26 (k0_pay32 x0 x1 x2 x3 x4 x5 x6 x7 x8 x9 x10 x11 x12) x9 x10 (ix2 r j) = layered (fun k => wideT x0 x2 x4 r (part 2 k)) (fun k => x9 (ix2 0 k)) (fun k => x10 (ix2 0 k)) j := by
  refine (layered_apply _ _ _ r j).trans ?_
  simp only [wide_eq]

theorem piece_wide (o : ℕ) (h : Fin 8) (e : o = h.val * 256) (inb) (f : S128x256.Idx → EReal) (F : Fin 128 → Fin 8 → Fin 256 → EReal)
    (hf : ∀ r l, f (ix2 r l) = F r h l) (x : S128x256.Idx) :
    f x = (fun y : S128x2048.Idx => F (y 0) (headIn (y 1)) (laneIn (y 1))) ((Rect.unit (s := S128x2048) ![0, o] S128x256.size inb).emb x) := by
  obtain ⟨r, l, rfl⟩ : ∃ (r : Fin 128) (l : Fin 256), x = ix2 r l := ⟨x 0, x 1, funext fun a => by fin_cases a <;> rfl⟩
  refine (hf r l).trans ?_
  have hb : (Rect.unit (s := S128x2048) ![0, o] S128x256.size inb).emb (ix2 r l) = ix2 r (wide h l) := by
    subst e
    refine funext fun a => Fin.ext ?_
    rw [ValueKit.rect_emb_unit_val]
    fin_cases a
    · exact Nat.zero_add _
    · rfl
  refine Eq.trans ?_ (congrArg (fun y : S128x2048.Idx => F (y 0) (headIn (y 1)) (laneIn (y 1))) hb).symm
  show _ = F r (headIn (wide h l)) (laneIn (wide h l))
  rw [headIn_wide, laneIn_wide]

/-- One head's slab of the weight to the latent side. -/
theorem slab (o : ℕ) (h : Fin 8) (e : o = h.val) (inb) (l : Fin 128) (c : Fin 256) :
    View.ld x8 (Rect.unit (s := S8x128x256) ![o, 0, 0] S1x128x256.size inb) (ix3 (0 : Fin 1) l c) = x8 (ix3 h l c) := by
  subst e
  refine congrArg x8 (funext fun a => Fin.ext ?_)
  refine (ValueKit.rect_emb_unit_val _ _ _ _ _).trans ?_
  fin_cases a
  · rfl
  · exact Nat.zero_add _
  · exact Nat.zero_add _

/-- A row's latent query. -/
def drawnT (r : Fin 128) (h : Fin 8) (e : Fin 256) : EReal :=
  ∑ l : Fin 128, asked (queryT x0 x2 x3 x5 x7 r) (fun l => x1 (ix3 0 r l)) (fun l => x1 (ix3 1 r l)) h l * x8 (ix3 h l e)

theorem drawn_eq (h : Fin 8) (w : Vec Ideal S1x128x256 .bf16) (hw : ∀ l e, w (ix3 0 l e) = x8 (ix3 h l e)) (r : Fin 128) (e : Fin 256) :
    drawn (k0_pay35 x0 x1 x2 x3 x4 x5 x6 x7 x8 x9 x10 x11 x12) x1 h w r e = drawnT x0 x1 x2 x3 x5 x7 x8 r h e := by
  simp only [drawn, query_eq, hw, drawnT]

theorem out13 (r : Fin 128) (n : Fin 2048) : out0_13 x0 x1 x2 x3 x4 x5 x6 x7 x8 x9 x10 x11 x12 (ix2 r n) = drawnT x0 x1 x2 x3 x5 x7 x8 r (headIn n) (laneIn n) := by
  unfold out0_13
  refine (View.canon_apply_of_pieces (Val := Elt Ideal) (fun y : S128x2048.Idx => drawnT x0 x1 x2 x3 x5 x7 x8 (y 0) (headIn (y 1)) (laneIn (y 1)))
    _ ?_ (ix2 r n) (cover0_13 _ _ _ _ _ _ _ _ _)).trans rfl
  simp only [List.forall_mem_cons]
  have key := drawn_eq x0 x1 x2 x3 x4 x5 x6 x7 x8 x9 x10 x11 x12
  have e28 : k0_pay28 x0 x1 x2 x3 x4 x5 x6 x7 x8 x9 x10 x11 x12 = k0_pay1 x1 := by unfold k0_pay28; rw [ld0]
  rw [e28]
  refine ⟨?_, ?_, ?_, ?_, ?_, ?_, ?_, ?_, fun _ h => absurd h List.not_mem_nil⟩
  · exact piece_wide 1792 7 rfl _ _ (drawnT x0 x1 x2 x3 x5 x7 x8) fun r e => (drawn7 _ x1 (View.ld x8 r0_24) r e).trans (key 7 (View.ld x8 r0_24) (slab x8 7 7 rfl inb_S8x128x256_S1x128x256_7_0_0) r e)
  · exact piece_wide 1536 6 rfl _ _ (drawnT x0 x1 x2 x3 x5 x7 x8) fun r e => (drawn6 _ x1 (View.ld x8 r0_22) r e).trans (key 6 (View.ld x8 r0_22) (slab x8 6 6 rfl inb_S8x128x256_S1x128x256_6_0_0) r e)
  · exact piece_wide 1280 5 rfl _ _ (drawnT x0 x1 x2 x3 x5 x7 x8) fun r e => (drawn5 _ x1 (View.ld x8 r0_20) r e).trans (key 5 (View.ld x8 r0_20) (slab x8 5 5 rfl inb_S8x128x256_S1x128x256_5_0_0) r e)
  · exact piece_wide 1024 4 rfl _ _ (drawnT x0 x1 x2 x3 x5 x7 x8) fun r e => (drawn4 _ x1 (View.ld x8 r0_18) r e).trans (key 4 (View.ld x8 r0_18) (slab x8 4 4 rfl inb_S8x128x256_S1x128x256_4_0_0) r e)
  · exact piece_wide 768 3 rfl _ _ (drawnT x0 x1 x2 x3 x5 x7 x8) fun r e => (drawn3 _ x1 (View.ld x8 r0_16) r e).trans (key 3 (View.ld x8 r0_16) (slab x8 3 3 rfl inb_S8x128x256_S1x128x256_3_0_0) r e)
  · exact piece_wide 512 2 rfl _ _ (drawnT x0 x1 x2 x3 x5 x7 x8) fun r e => (drawn2 _ x1 (View.ld x8 r0_14) r e).trans (key 2 (View.ld x8 r0_14) (slab x8 2 2 rfl inb_S8x128x256_S1x128x256_2_0_0) r e)
  · exact piece_wide 256 1 rfl _ _ (drawnT x0 x1 x2 x3 x5 x7 x8) fun r e => (drawn1 _ x1 (View.ld x8 r0_12) r e).trans (key 1 (View.ld x8 r0_12) (slab x8 1 1 rfl inb_S8x128x256_S1x128x256_1_0_0) r e)
  · refine piece_wide 0 0 rfl _ _ (drawnT x0 x1 x2 x3 x5 x7 x8) fun r e => (drawn0 x1 _ _ _ _ (View.ld x8 r0_10) r e).trans (Eq.trans ?_ (key 0 (View.ld x8 r0_10) (slab x8 0 0 rfl inb_S8x128x256_S1x128x256_0_0_0) r e))
    unfold k0_pay35
    rfl

theorem out14 (r j : Fin 128) : out0_14 x0 x1 x2 x3 x4 x5 x6 x7 x8 x9 x10 x11 x12 (ix2 r j) = latentT x0 x2 x3 x6 r j := by
  unfold out0_14
  rw [View.canon_cons_unit_lit _ _ _ fun a => by fin_cases a <;> rfl, ld6]
  refine (latent_apply _ _ r j).trans ?_
  simp only [narrow_eq]
  rfl

theorem out15 (r l : Fin 128) : out0_15 x0 x1 x2 x3 x4 x5 x6 x7 x8 x9 x10 x11 x12 (ix2 r l) = turnedT x0 x1 x2 x3 r l := by
  unfold out0_15
  rw [View.canon_cons_unit_lit _ _ _ fun a => by fin_cases a <;> rfl]
  exact turned_eq _ _ _ _ _ _ _ _ _ _ _ _ _ r l

theorem out16 (r : Fin 128) (n : Fin 32) : out0_16 x0 x1 x2 x3 x4 x5 x6 x7 x8 x9 x10 x11 x12 (ix2 r n) = turnedT x0 x1 x2 x3 r ⟨64 + n.val, by have := n.isLt; omega⟩ := by
  unfold out0_16
  rw [View.canon_cons_unit_lit _ _ _ fun a => by fin_cases a <;> rfl]
  exact (krope_apply _ _ r n).trans (turned_eq _ _ _ _ _ _ _ _ _ _ _ _ _ r _)

theorem out17 (r : Fin 128) (j : Fin 512) :
    out0_17 x0 x1 x2 x3 x4 x5 x6 x7 x8 x9 x10 x11 x12 (ix2 r j) = layered (fun k => wideT x0 x2 x4 r (part 2 k)) (fun k => x9 (ix2 0 k)) (fun k => x10 (ix2 0 k)) j := by
  unfold out0_17
  rw [View.canon_cons_unit_lit _ _ _ fun a => by fin_cases a <;> rfl, ld27, ld27]
  exact layered_eq _ _ _ _ _ _ _ _ _ _ _ _ _ r j

theorem out18 (r : Fin 128) (j : Fin 512) : out0_18 x0 x1 x2 x3 x4 x5 x6 x7 x8 x9 x10 x11 x12 (ix2 r j) = silu (wideT x0 x2 x4 r (part 0 j)) := by
  unfold out0_18
  rw [View.canon_cons_unit_lit _ _ _ fun a => by fin_cases a <;> rfl]
  refine (gate_apply _ r j).trans ?_
  rw [wide_eq]

theorem out19 (r : Fin 128) (j : Fin 512) :
    out0_19 x0 x1 x2 x3 x4 x5 x6 x7 x8 x9 x10 x11 x12 (ix2 r j) = first (wideT x0 x2 x4 r) (fun k => x9 (ix2 0 k)) (fun k => x10 (ix2 0 k)) (fun k => x11 (ix2 0 k)) (fun k => x12 (ix2 0 k)) j := by
  unfold out0_19
  rw [View.canon_cons_unit_lit _ _ _ fun a => by fin_cases a <;> rfl, ld27, ld27, ld27, ld27]
  refine (first_apply _ _ _ _ _ r j).trans ?_
  rw [layered_eq, wide_eq, wide_eq]
  rfl

end Cert.Kernel5Ideal.Step

end
-- ==== Proof.StepHost.lean ====
/- What the prelude of the sample group's first call hands it, at an index. -/
module

public import proofs.«01_k».proof.Proof.Step
public import Idealize.ShloMosaic.Lib.StableHlo.RunRead
public import Idealize.ShloMosaic.Lib.KernelVsHost

@[expose] public section

set_option maxRecDepth 16384

noncomputable section

namespace Cert.Front

open Idealize.ShloMosaic Cert.Mix

/-- The unit square's entry as it is written. -/
def unit (i j : ℕ) : EReal := FloatOps.uitofp (F := Ideal) .f32 (IntOp.cmpi .eq (IntOp.addi (BitVec.ofNat 32 i) 0#32) (BitVec.ofNat 32 j))

/-- A head's weight to the latent side: plain lanes through the key weight, the others onto themselves. -/
def absorbed (U : Fin 128 → Fin 128 → EReal) (l : Fin 128) (e : Fin 256) : EReal :=
  if l.val < 64 then if h : e.val < 128 then U ⟨e.val, h⟩ l else 0
  else if e.val < 128 then 0 else unit (64 + (l.val - 64)) (e.val - 128)

end Cert.Front

namespace Cert.Kernel5Ideal.Step

open Idealize.ShloMosaic Cert.Kernel5Ideal.Gen Cert.Mix Cert.Front

variable (m : (ℓ : Loc nD τ sig) → Buf (Elt Ideal) ℓ) (c : Dev nD)

theorem host_89 (n : Fin 1024) : V m c main_v89 (ix2 0 n) = m (c.tc.loc main_arg1) (ix1 n) := by
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []

theorem host_90 (n : Fin 256) : V m c main_v90 (ix2 0 n) = m (c.tc.loc main_arg3) (ix1 n) := by
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []

theorem host_91 (n : Fin 128) : V m c main_v91 (ix2 0 n) = m (c.tc.loc main_arg4) (ix1 n) := by
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []

theorem host_92 (n : Fin 512) : V m c main_v92 (ix2 0 n) = m (c.tc.loc main_arg7) (ix1 n) := by
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []

theorem host_93 (n : Fin 512) : V m c main_v93 (ix2 0 n) = m (c.tc.loc main_arg8) (ix1 n) := by
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []

theorem host_12 (k : Fin 1024) (n : Fin 2048) : V m c main_v12 (ix2 k n) = m (c.tc.loc main_arg2) (ix2 k (past n)) := by
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  rfl

theorem host_w (n : Fin 512) : V m c main_v51 (ix2 0 n) = m (c.tc.loc main_arg9) (ix3 (group n) 0 0) := by
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  rfl

theorem host_o (n : Fin 512) : V m c main_v55 (ix2 0 n) = m (c.tc.loc main_arg10) (ix2 (group n) 0) := by
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  rfl

theorem host_10 (k : Fin 1024) (n : Fin 512) : V m c main_v10 (ix2 k n) = padA (fun j => m (c.tc.loc main_arg2) (ix2 k j)) n := by
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  rfl

theorem host_21 (k : Fin 256) (n : Fin 1024) : V m c main_v21 (ix2 k n) = padQ (fun j => m (c.tc.loc main_arg5) (ix3 k (headOf n) j)) (laneOf n) := by
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  rfl

theorem host_46 (h : Fin 8) (l : Fin 128) (e : Fin 256) : V m c main_v46 (ix3 h l e) = absorbed (fun k l => m (c.tc.loc main_arg6) (ix3 k h l)) l e := by
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  rfl

theorem host_88A (q l : Fin 128) : V m c main_v88 (ix3 0 q l) = tabA 16384 l := by
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  rfl

theorem host_88B (q l : Fin 128) : V m c main_v88 (ix3 1 q l) = tabB 16384 l := by
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  rfl

theorem host_88C (q l : Fin 128) : V m c main_v88 (ix3 2 q l) = tabC 16384 l := by
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  rfl

theorem host_88D (q l : Fin 128) : V m c main_v88 (ix3 3 q l) = tabD 16384 l := by
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  try after_reads_simp
  try simp only [Matrix.cons_val]
  try dsimp only [Matrix.cons_val, Matrix.cons_val_zero, Matrix.cons_val_one]
  try after_reads_simp
  try simp only [Matrix.cons_val]
  try dsimp only [Matrix.cons_val, Matrix.cons_val_zero, Matrix.cons_val_one]
  try after_reads_simp
  try pointwise []
  rfl

end Cert.Kernel5Ideal.Step

end
-- ==== Proof.StepMath.lean ====
/- A head's latent lanes: the query's lanes through the absorbed key weight. -/
module

public import proofs.«01_k».proof.Proof.StepHost

@[expose] public section

set_option maxRecDepth 16384

noncomputable section

namespace Cert.Front

open Idealize.ShloMosaic Cert.Mix

theorem unit_eq (i j : ℕ) (hi : i < 128) (hj : j < 128) : unit i j = if i = j then 1 else 0 := by
  unfold unit
  have e : IntOp.cmpi .eq (IntOp.addi (BitVec.ofNat 32 i) 0#32) (BitVec.ofNat 32 j) = if i = j then 1#1 else 0#1 := by
    have e' : IntOp.addi (BitVec.ofNat 32 i) 0#32 = BitVec.ofNat 32 i := BitVec.add_zero _
    rw [e']
    by_cases h : i = j
    · subst h
      rw [if_pos rfl]
      simp [IntOp.cmpi]
    · rw [if_neg h]
      have : BitVec.ofNat 32 i ≠ BitVec.ofNat 32 j := fun e => h (by
        have := congrArg BitVec.toNat e
        simp only [BitVec.toNat_ofNat] at this
        omega)
      show BitVec.ofBool (BitVec.ofNat 32 i == BitVec.ofNat 32 j) = 0#1
      rw [beq_false_of_ne this]
      rfl
  rw [e]
  by_cases h : i = j
  · rw [if_pos h, if_pos h]
    show (((1#1 : BitVec 1).toNat : ℝ) : EReal) = 1
    simp
  · rw [if_neg h, if_neg h]
    show (((0#1 : BitVec 1).toNat : ℝ) : EReal) = 0
    simp

/-- A turned lane of a head's query. -/
def rlane (C : Fin 256 → EReal) (U : Fin 256 → Fin 96 → EReal) (q : ℕ) (i : Fin 32) : EReal :=
  (∑ k : Fin 256, C k * U k ⟨64 + i.val, by have := i.isLt; omega⟩) * (cosv q i.val * scl)
    + (∑ k : Fin 256, C k * swap 64 (by decide) (U k) i) * (sinv q i.val * scl)

/-- A plain lane of a head's query. -/
def plane (C : Fin 256 → EReal) (U : Fin 256 → Fin 96 → EReal) (i : Fin 64) : EReal :=
  (∑ k : Fin 256, C k * U k ⟨i.val, by have := i.isLt; omega⟩) * scl

/-- A lane of a head's latent query: the plain lanes through the key weight, then the turned lanes among zeros. -/
def latentlane (C : Fin 256 → EReal) (U : Fin 256 → Fin 96 → EReal) (K : Fin 128 → Fin 128 → EReal) (q : ℕ) (e : Fin 256) : EReal :=
  if h : e.val < 128 then ∑ i : Fin 64, K ⟨e.val, h⟩ ⟨i.val, by have := i.isLt; omega⟩ * plane C U i
  else if e.val - 128 < 64 then 0
  else if h : e.val - 128 - 64 < 32 then rlane C U q ⟨e.val - 128 - 64, h⟩ else 0

theorem drawn_spec (C : Fin 256 → EReal) (U : Fin 256 → Fin 96 → EReal) (K : Fin 128 → Fin 128 → EReal) (q : ℕ) (e : Fin 256) :
    ∑ l : Fin 128, qlane C U q l * absorbed K l e = latentlane C U K q e := by
  unfold latentlane
  by_cases h : e.val < 128
  · rw [dif_pos h]
    refine (Fin.sum_univ_add (a := 64) (b := 64) fun l : Fin 128 => qlane C U q l * absorbed K l e).trans ?_
    have z : ∀ i : Fin 64, qlane C U q (Fin.natAdd 64 i) * absorbed K (Fin.natAdd 64 i) e = 0 := fun i => by
      have hv : (Fin.natAdd 64 i).val = 64 + i.val := rfl
      rw [absorbed, if_neg (by omega), if_pos h, mul_zero]
    rw [Finset.sum_congr rfl fun i _ => z i, Finset.sum_const_zero, add_zero]
    refine Finset.sum_congr rfl fun i _ => ?_
    have hv : (Fin.castAdd 64 i).val = i.val := rfl
    have hi := i.isLt
    rw [absorbed, if_pos (by omega), dif_pos h, qlane, dif_pos (by omega), mul_comm]
    rfl
  · rw [dif_neg h]
    have he := e.isLt
    have s : ∀ l : Fin 128, l ≠ (⟨e.val - 128, by omega⟩ : Fin 128) → qlane C U q l * absorbed K l e = 0 := fun l hl => by
      have hl' : l.val ≠ e.val - 128 := fun x => hl (Fin.ext x)
      have hll := l.isLt
      unfold absorbed
      by_cases h0 : l.val < 64
      · rw [if_pos h0, dif_neg h, mul_zero]
      · rw [if_neg h0, if_neg h, unit_eq _ _ (by omega) (by omega), if_neg (by omega), mul_zero]
    rw [Finset.sum_eq_single (⟨e.val - 128, by omega⟩ : Fin 128) (fun l _ hl => s l hl) (fun x => absurd (Finset.mem_univ _) x)]
    unfold absorbed
    by_cases h0 : e.val - 128 < 64
    · rw [if_pos h0, dif_neg h, if_pos h0, mul_zero]
    · rw [if_neg h0, if_neg h, if_neg h0, unit_eq _ _ (by dsimp only; omega) (by omega), if_pos (by dsimp only; omega), mul_one]
      unfold qlane
      rw [dif_neg h0]
      rfl

end Cert.Front

end
-- ==== Proof.StepCover.lean ====
/- The sample group's first call over its arguments: the blocks it reads, and the seven whole results. -/
module

public import proofs.«01_k».proof.Proof.StepMath

@[expose] public section

set_option maxRecDepth 16384

noncomputable section

namespace Cert.Kernel5Ideal.Step

open Idealize.ShloMosaic Cert.Kernel5Ideal.Gen Cert.Mix Cert.Front

variable (m : (ℓ : Loc nD τ sig) → Buf (Elt Ideal) ℓ) (c : Dev nD)

/-- The arguments by their indices. -/
def Xs (r : Fin 128) (j : Fin 1024) : EReal := m (c.tc.loc main_arg0) (ix2 r j)
def Gs (j : Fin 1024) : EReal := m (c.tc.loc main_arg1) (ix1 j)
def Ws (k : Fin 1024) (n : Fin 2464) : EReal := m (c.tc.loc main_arg2) (ix2 k n)
def us (j : Fin 256) : EReal := m (c.tc.loc main_arg3) (ix1 j)
def ks (j : Fin 128) : EReal := m (c.tc.loc main_arg4) (ix1 j)
def Qs (k : Fin 256) (h : Fin 8) (j : Fin 96) : EReal := m (c.tc.loc main_arg5) (ix3 k h j)
def Ks (k : Fin 128) (h : Fin 8) (j : Fin 128) : EReal := m (c.tc.loc main_arg6) (ix3 k h j)
def gs (j : Fin 512) : EReal := m (c.tc.loc main_arg7) (ix1 j)
def bs (j : Fin 512) : EReal := m (c.tc.loc main_arg8) (ix1 j)
def Ms (h : Fin 8) : EReal := m (c.tc.loc main_arg9) (ix3 h 0 0)
def Bs (h : Fin 8) : EReal := m (c.tc.loc main_arg10) (ix2 h 0)

theorem at_0 (t : Fin cfg0.N) (r : Fin 128) (e : Fin 1024) : ((cfg0.win (0 : Fin 20)).blk t).view.emb (ix2 r e) = ix2 r e := by
  refine funext fun a => Fin.ext ?_
  fin_cases a
  · show 0 * 128 + 1 * r.val = r.val
    omega
  · show 0 * 1024 + 1 * e.val = e.val
    omega

theorem iblk_0 (t : Fin cfg0.N) (r : Fin 128) (e : Fin 1024) : iblk m c (0 : Fin 20) t (ix2 r e) = Xs m c r e := by
  refine Eq.trans (b := V m c (Pipeline.arrRef spec0 (0 : Fin 20)) (((cfg0.win (0 : Fin 20)).blk t).view.emb (ix2 r e))) rfl ?_
  rw [at_0]
  exact (congrFun (V_main_arg0 m c) _)

theorem at_1 (t : Fin cfg0.N) (g : Fin 4) (r : Fin 128) (e : Fin 128) : ((cfg0.win (1 : Fin 20)).blk t).view.emb (ix3 g r e) = ix3 g r e := by
  refine funext fun a => Fin.ext ?_
  fin_cases a
  · show 0 * 4 + 1 * g.val = g.val
    omega
  · show 0 * 128 + 1 * r.val = r.val
    omega
  · show 0 * 128 + 1 * e.val = e.val
    omega

theorem iblk_1 (t : Fin cfg0.N) (g : Fin 4) (r : Fin 128) (e : Fin 128) : iblk m c (1 : Fin 20) t (ix3 g r e) = V m c main_v88 (ix3 g r e) := by
  refine Eq.trans (b := V m c (Pipeline.arrRef spec0 (1 : Fin 20)) (((cfg0.win (1 : Fin 20)).blk t).view.emb (ix3 g r e))) rfl ?_
  rw [at_1]

theorem at_2 (t : Fin cfg0.N) (e : Fin 1024) : ((cfg0.win (2 : Fin 20)).blk t).view.emb (ix2 0 e) = ix2 0 e := by
  refine funext fun a => Fin.ext ?_
  fin_cases a
  · show 0 * 1 + 1 * 0 = 0
    omega
  · show 0 * 1024 + 1 * e.val = e.val
    omega

theorem iblk_2 (t : Fin cfg0.N) (e : Fin 1024) : iblk m c (2 : Fin 20) t (ix2 0 e) = Gs m c e := by
  refine Eq.trans (b := V m c (Pipeline.arrRef spec0 (2 : Fin 20)) (((cfg0.win (2 : Fin 20)).blk t).view.emb (ix2 0 e))) rfl ?_
  rw [at_2]
  exact (host_89 m c e)

theorem at_5 (t : Fin cfg0.N) (e : Fin 256) : ((cfg0.win (5 : Fin 20)).blk t).view.emb (ix2 0 e) = ix2 0 e := by
  refine funext fun a => Fin.ext ?_
  fin_cases a
  · show 0 * 1 + 1 * 0 = 0
    omega
  · show 0 * 256 + 1 * e.val = e.val
    omega

theorem iblk_5 (t : Fin cfg0.N) (e : Fin 256) : iblk m c (5 : Fin 20) t (ix2 0 e) = us m c e := by
  refine Eq.trans (b := V m c (Pipeline.arrRef spec0 (5 : Fin 20)) (((cfg0.win (5 : Fin 20)).blk t).view.emb (ix2 0 e))) rfl ?_
  rw [at_5]
  exact (host_90 m c e)

theorem at_6 (t : Fin cfg0.N) (e : Fin 128) : ((cfg0.win (6 : Fin 20)).blk t).view.emb (ix2 0 e) = ix2 0 e := by
  refine funext fun a => Fin.ext ?_
  fin_cases a
  · show 0 * 1 + 1 * 0 = 0
    omega
  · show 0 * 128 + 1 * e.val = e.val
    omega

theorem iblk_6 (t : Fin cfg0.N) (e : Fin 128) : iblk m c (6 : Fin 20) t (ix2 0 e) = ks m c e := by
  refine Eq.trans (b := V m c (Pipeline.arrRef spec0 (6 : Fin 20)) (((cfg0.win (6 : Fin 20)).blk t).view.emb (ix2 0 e))) rfl ?_
  rw [at_6]
  exact (host_91 m c e)

theorem at_9 (t : Fin cfg0.N) (e : Fin 512) : ((cfg0.win (9 : Fin 20)).blk t).view.emb (ix2 0 e) = ix2 0 e := by
  refine funext fun a => Fin.ext ?_
  fin_cases a
  · show 0 * 1 + 1 * 0 = 0
    omega
  · show 0 * 512 + 1 * e.val = e.val
    omega

theorem iblk_9 (t : Fin cfg0.N) (e : Fin 512) : iblk m c (9 : Fin 20) t (ix2 0 e) = gs m c e := by
  refine Eq.trans (b := V m c (Pipeline.arrRef spec0 (9 : Fin 20)) (((cfg0.win (9 : Fin 20)).blk t).view.emb (ix2 0 e))) rfl ?_
  rw [at_9]
  exact (host_92 m c e)

theorem at_10 (t : Fin cfg0.N) (e : Fin 512) : ((cfg0.win (10 : Fin 20)).blk t).view.emb (ix2 0 e) = ix2 0 e := by
  refine funext fun a => Fin.ext ?_
  fin_cases a
  · show 0 * 1 + 1 * 0 = 0
    omega
  · show 0 * 512 + 1 * e.val = e.val
    omega

theorem iblk_10 (t : Fin cfg0.N) (e : Fin 512) : iblk m c (10 : Fin 20) t (ix2 0 e) = bs m c e := by
  refine Eq.trans (b := V m c (Pipeline.arrRef spec0 (10 : Fin 20)) (((cfg0.win (10 : Fin 20)).blk t).view.emb (ix2 0 e))) rfl ?_
  rw [at_10]
  exact (host_93 m c e)

theorem at_11 (t : Fin cfg0.N) (e : Fin 512) : ((cfg0.win (11 : Fin 20)).blk t).view.emb (ix2 0 e) = ix2 0 e := by
  refine funext fun a => Fin.ext ?_
  fin_cases a
  · show 0 * 1 + 1 * 0 = 0
    omega
  · show 0 * 512 + 1 * e.val = e.val
    omega

theorem iblk_11 (t : Fin cfg0.N) (e : Fin 512) : iblk m c (11 : Fin 20) t (ix2 0 e) = Ms m c (group e) := by
  refine Eq.trans (b := V m c (Pipeline.arrRef spec0 (11 : Fin 20)) (((cfg0.win (11 : Fin 20)).blk t).view.emb (ix2 0 e))) rfl ?_
  rw [at_11]
  exact (host_w m c e)

theorem at_12 (t : Fin cfg0.N) (e : Fin 512) : ((cfg0.win (12 : Fin 20)).blk t).view.emb (ix2 0 e) = ix2 0 e := by
  refine funext fun a => Fin.ext ?_
  fin_cases a
  · show 0 * 1 + 1 * 0 = 0
    omega
  · show 0 * 512 + 1 * e.val = e.val
    omega

theorem iblk_12 (t : Fin cfg0.N) (e : Fin 512) : iblk m c (12 : Fin 20) t (ix2 0 e) = Bs m c (group e) := by
  refine Eq.trans (b := V m c (Pipeline.arrRef spec0 (12 : Fin 20)) (((cfg0.win (12 : Fin 20)).blk t).view.emb (ix2 0 e))) rfl ?_
  rw [at_12]
  exact (host_o m c e)

theorem at_3 (t : Fin cfg0.N) (k : Fin 1024) (e : Fin 512) : ((cfg0.win (3 : Fin 20)).blk t).view.emb (ix2 k e) = ix2 k e := by
  refine funext fun a => Fin.ext ?_
  fin_cases a
  · show 0 * 1024 + 1 * k.val = k.val
    omega
  · show 0 * 512 + 1 * e.val = e.val
    omega

theorem iblk_3 (t : Fin cfg0.N) (k : Fin 1024) (e : Fin 512) : iblk m c (3 : Fin 20) t (ix2 k e) = padA (Ws m c k) e := by
  refine Eq.trans (b := V m c (Pipeline.arrRef spec0 (3 : Fin 20)) (((cfg0.win (3 : Fin 20)).blk t).view.emb (ix2 k e))) rfl ?_
  rw [at_3]
  exact (host_10 m c k e)

theorem at_4 (t : Fin cfg0.N) (k : Fin 1024) (e : Fin 2048) : ((cfg0.win (4 : Fin 20)).blk t).view.emb (ix2 k e) = ix2 k e := by
  refine funext fun a => Fin.ext ?_
  fin_cases a
  · show 0 * 1024 + 1 * k.val = k.val
    omega
  · show 0 * 2048 + 1 * e.val = e.val
    omega

theorem iblk_4 (t : Fin cfg0.N) (k : Fin 1024) (e : Fin 2048) : iblk m c (4 : Fin 20) t (ix2 k e) = Ws m c k (past e) := by
  refine Eq.trans (b := V m c (Pipeline.arrRef spec0 (4 : Fin 20)) (((cfg0.win (4 : Fin 20)).blk t).view.emb (ix2 k e))) rfl ?_
  rw [at_4]
  exact (host_12 m c k e)

theorem at_7 (t : Fin cfg0.N) (k : Fin 256) (e : Fin 1024) : ((cfg0.win (7 : Fin 20)).blk t).view.emb (ix2 k e) = ix2 k e := by
  refine funext fun a => Fin.ext ?_
  fin_cases a
  · show 0 * 256 + 1 * k.val = k.val
    omega
  · show 0 * 1024 + 1 * e.val = e.val
    omega

theorem iblk_7 (t : Fin cfg0.N) (k : Fin 256) (e : Fin 1024) : iblk m c (7 : Fin 20) t (ix2 k e) = padQ (Qs m c k (headOf e)) (laneOf e) := by
  refine Eq.trans (b := V m c (Pipeline.arrRef spec0 (7 : Fin 20)) (((cfg0.win (7 : Fin 20)).blk t).view.emb (ix2 k e))) rfl ?_
  rw [at_7]
  exact (host_21 m c k e)

theorem at_8 (t : Fin cfg0.N) (h : Fin 8) (l : Fin 128) (e : Fin 256) : ((cfg0.win (8 : Fin 20)).blk t).view.emb (ix3 h l e) = ix3 h l e := by
  refine funext fun a => Fin.ext ?_
  fin_cases a
  · show 0 * 8 + 1 * h.val = h.val
    omega
  · show 0 * 128 + 1 * l.val = l.val
    omega
  · show 0 * 256 + 1 * e.val = e.val
    omega

theorem iblk_8 (t : Fin cfg0.N) (h : Fin 8) (l : Fin 128) (e : Fin 256) : iblk m c (8 : Fin 20) t (ix3 h l e) = absorbed (fun k l => Ks m c k h l) l e := by
  refine Eq.trans (b := V m c (Pipeline.arrRef spec0 (8 : Fin 20)) (((cfg0.win (8 : Fin 20)).blk t).view.emb (ix3 h l e))) rfl ?_
  rw [at_8]
  exact (host_46 m c h l e)

/-- The narrow product is the row's against the padded weight. -/
theorem narrow_row (t : Fin cfg0.N) (r : Fin 128) :
    narrowT (iblk m c 0 t) (iblk m c 2 t) (iblk m c 3 t) r = across (Xs m c r) (Gs m c) (fun k => padA (Ws m c k)) := by
  unfold narrowT
  simp only [iblk_0, iblk_2, iblk_3]

/-- The wide product of a row. -/
def zs (r : Fin 128) (n : Fin 2048) : EReal := across (Xs m c r) (Gs m c) (Ws m c) (past n)

theorem wide_row (t : Fin cfg0.N) (r : Fin 128) : wideT (iblk m c 0 t) (iblk m c 2 t) (iblk m c 4 t) r = zs m c r := by
  funext n
  unfold wideT
  simp only [iblk_0, iblk_2, iblk_4]
  rfl

theorem turned_row (t : Fin cfg0.N) (r l : Fin 128) :
    turnedT (iblk m c 0 t) (iblk m c 1 t) (iblk m c 2 t) (iblk m c 3 t) r l
      = if h : l.val < 64 then 0 else if h' : l.val - 64 < 32 then krope (Xs m c r) (Gs m c) (Ws m c) 16384 ⟨l.val - 64, h'⟩ else 0 := by
  unfold turnedT
  rw [narrow_row]
  simp only [iblk_1]
  have hC : (fun l => V m c main_v88 (ix3 2 r l)) = tabC 16384 := funext fun l => host_88C m c _ l
  have hD : (fun l => V m c main_v88 (ix3 3 r l)) = tabD 16384 := funext fun l => host_88D m c _ l
  rw [hC, hD]
  exact turned_spec (Xs m c r) (Gs m c) (Ws m c) (A := fun k => padA (Ws m c k)) (fun _ _ => rfl) 16384 l

/-- Result 0 at one index. -/
def value_13 (r : Fin 128) (n : Fin 2048) : EReal :=
  latentlane (cquery (Xs m c r) (Gs m c) (Ws m c) (us m c)) (fun k => Qs m c k (headIn n)) (fun k l => Ks m c k (headIn n) l) 16384 (laneIn n)

def result_13 : Buf (Elt Ideal) ((c.tc : Thread nD τ).loc (Pipeline.arrRef spec0 (13 : Fin 20))) := fun i => value_13 m c (i 0) (i 1)

theorem block_13 (t : Fin cfg0.N) (r : Fin 128) (n : Fin 2048) : (dats m 0 c).after (13 : Fin 20) t (ix2 r n) = value_13 m c r n := by
  refine (congrFun (after0_13 m c t) (ix2 r n)).trans ?_
  refine (out13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r n).trans ?_
  unfold drawnT
  have e : queryT (iblk m c 0 t) (iblk m c 2 t) (iblk m c 3 t) (iblk m c 5 t) (iblk m c 7 t) r
      = fun n => ∑ k : Fin 256, cquery (Xs m c r) (Gs m c) (Ws m c) (us m c) k * padQ (Qs m c k (headOf n)) (laneOf n) := by
    funext n
    unfold queryT
    rw [narrow_row]
    simp only [iblk_5, iblk_7]
    exact query_spec _ _ (Ws m c) (fun _ _ => rfl) _ _ n
  have hA : (fun l => iblk m c 1 t (ix3 0 r l)) = tabA 16384 := funext fun l => (iblk_1 m c t 0 r l).trans (host_88A m c _ l)
  have hB : (fun l => iblk m c 1 t (ix3 1 r l)) = tabB 16384 := funext fun l => (iblk_1 m c t 1 r l).trans (host_88B m c _ l)
  rw [e, hA, hB]
  simp only [iblk_8, asked_spec (cquery (Xs m c r) (Gs m c) (Ws m c) (us m c)) (fun k n => padQ (Qs m c k (headOf n)) (laneOf n))
    (Qs m c) (fun _ _ => rfl) 16384]
  exact drawn_spec _ _ _ 16384 _

theorem place_13 (t : Fin cfg0.N) (r : Fin 128) (e : Fin 2048) : ((cfg0.win (13 : Fin 20)).blk t).view.emb (ix2 r e) = ix2 r e := by
  refine funext fun a => Fin.ext ?_
  fin_cases a
  · show 0 * 128 + 1 * r.val = r.val
    omega
  · show 0 * 2048 + 1 * e.val = e.val
    omega

theorem covers_13 : (cfg0.win (13 : Fin 20)).Covers := by decide +kernel

theorem final_13 : (dats m 0 c).arrAt (13 : Fin 20) cfg0.N = result_13 m c := by
  refine (dats m 0 c).arrAt_eq_of_covers (13 : Fin 20) (result_13 m c) covers_13 fun t hf y => ?_
  have hy : y = ix2 (y 0) (y 1) := funext fun a => by fin_cases a <;> rfl
  refine Eq.trans (b := (dats m 0 c).after (13 : Fin 20) t (ix2 (y 0) (y 1))) ?_ ?_
  · exact congrArg ((dats m 0 c).after (13 : Fin 20) t) hy
  · refine (block_13 m c t (y 0) (y 1)).trans (Eq.trans ?_ (congrArg (result_13 m c) ((congrArg _ hy).trans (place_13 t (y 0) (y 1)))).symm)
    rfl

/-- Result 1 at one index. -/
def value_14 (r : Fin 128) (n : Fin 128) : EReal :=
  clatent (Xs m c r) (Gs m c) (Ws m c) (ks m c) n

def result_14 : Buf (Elt Ideal) ((c.tc : Thread nD τ).loc (Pipeline.arrRef spec0 (14 : Fin 20))) := fun i => value_14 m c (i 0) (i 1)

theorem block_14 (t : Fin cfg0.N) (r : Fin 128) (n : Fin 128) : (dats m 0 c).after (14 : Fin 20) t (ix2 r n) = value_14 m c r n := by
  refine (congrFun (after0_14 m c t) (ix2 r n)).trans ?_
  refine (out14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r n).trans ?_
  unfold latentT
  rw [narrow_row]
  simp only [iblk_6]
  exact congrFun (latent_spec _ _ (Ws m c) (fun _ _ => rfl) _) n

theorem place_14 (t : Fin cfg0.N) (r : Fin 128) (e : Fin 128) : ((cfg0.win (14 : Fin 20)).blk t).view.emb (ix2 r e) = ix2 r e := by
  refine funext fun a => Fin.ext ?_
  fin_cases a
  · show 0 * 128 + 1 * r.val = r.val
    omega
  · show 0 * 128 + 1 * e.val = e.val
    omega

theorem covers_14 : (cfg0.win (14 : Fin 20)).Covers := by decide +kernel

theorem final_14 : (dats m 0 c).arrAt (14 : Fin 20) cfg0.N = result_14 m c := by
  refine (dats m 0 c).arrAt_eq_of_covers (14 : Fin 20) (result_14 m c) covers_14 fun t hf y => ?_
  have hy : y = ix2 (y 0) (y 1) := funext fun a => by fin_cases a <;> rfl
  refine Eq.trans (b := (dats m 0 c).after (14 : Fin 20) t (ix2 (y 0) (y 1))) ?_ ?_
  · exact congrArg ((dats m 0 c).after (14 : Fin 20) t) hy
  · refine (block_14 m c t (y 0) (y 1)).trans (Eq.trans ?_ (congrArg (result_14 m c) ((congrArg _ hy).trans (place_14 t (y 0) (y 1)))).symm)
    rfl

/-- Result 2 at one index. -/
def value_15 (r : Fin 128) (n : Fin 128) : EReal :=
  if h : n.val < 64 then 0 else if h' : n.val - 64 < 32 then krope (Xs m c r) (Gs m c) (Ws m c) 16384 ⟨n.val - 64, h'⟩ else 0

def result_15 : Buf (Elt Ideal) ((c.tc : Thread nD τ).loc (Pipeline.arrRef spec0 (15 : Fin 20))) := fun i => value_15 m c (i 0) (i 1)

theorem block_15 (t : Fin cfg0.N) (r : Fin 128) (n : Fin 128) : (dats m 0 c).after (15 : Fin 20) t (ix2 r n) = value_15 m c r n := by
  refine (congrFun (after0_15 m c t) (ix2 r n)).trans ?_
  refine (out15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r n).trans ?_
  exact turned_row m c t r n

theorem place_15 (t : Fin cfg0.N) (r : Fin 128) (e : Fin 128) : ((cfg0.win (15 : Fin 20)).blk t).view.emb (ix2 r e) = ix2 r e := by
  refine funext fun a => Fin.ext ?_
  fin_cases a
  · show 0 * 128 + 1 * r.val = r.val
    omega
  · show 0 * 128 + 1 * e.val = e.val
    omega

theorem covers_15 : (cfg0.win (15 : Fin 20)).Covers := by decide +kernel

theorem final_15 : (dats m 0 c).arrAt (15 : Fin 20) cfg0.N = result_15 m c := by
  refine (dats m 0 c).arrAt_eq_of_covers (15 : Fin 20) (result_15 m c) covers_15 fun t hf y => ?_
  have hy : y = ix2 (y 0) (y 1) := funext fun a => by fin_cases a <;> rfl
  refine Eq.trans (b := (dats m 0 c).after (15 : Fin 20) t (ix2 (y 0) (y 1))) ?_ ?_
  · exact congrArg ((dats m 0 c).after (15 : Fin 20) t) hy
  · refine (block_15 m c t (y 0) (y 1)).trans (Eq.trans ?_ (congrArg (result_15 m c) ((congrArg _ hy).trans (place_15 t (y 0) (y 1)))).symm)
    rfl

/-- Result 3 at one index. -/
def value_16 (r : Fin 128) (n : Fin 32) : EReal :=
  krope (Xs m c r) (Gs m c) (Ws m c) 16384 n

def result_16 : Buf (Elt Ideal) ((c.tc : Thread nD τ).loc (Pipeline.arrRef spec0 (16 : Fin 20))) := fun i => value_16 m c (i 0) (i 1)

theorem block_16 (t : Fin cfg0.N) (r : Fin 128) (n : Fin 32) : (dats m 0 c).after (16 : Fin 20) t (ix2 r n) = value_16 m c r n := by
  refine (congrFun (after0_16 m c t) (ix2 r n)).trans ?_
  refine (out16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r n).trans ?_
  refine (turned_row m c t r _).trans ?_
  have hn := n.isLt
  rw [dif_neg (by dsimp only; omega), dif_pos (by dsimp only; omega)]
  refine congrArg (krope (Xs m c r) (Gs m c) (Ws m c) 16384) (Fin.ext ?_)
  dsimp only
  omega

theorem place_16 (t : Fin cfg0.N) (r : Fin 128) (e : Fin 32) : ((cfg0.win (16 : Fin 20)).blk t).view.emb (ix2 r e) = ix2 r e := by
  refine funext fun a => Fin.ext ?_
  fin_cases a
  · show 0 * 128 + 1 * r.val = r.val
    omega
  · show 0 * 32 + 1 * e.val = e.val
    omega

theorem covers_16 : (cfg0.win (16 : Fin 20)).Covers := by decide +kernel

theorem final_16 : (dats m 0 c).arrAt (16 : Fin 20) cfg0.N = result_16 m c := by
  refine (dats m 0 c).arrAt_eq_of_covers (16 : Fin 20) (result_16 m c) covers_16 fun t hf y => ?_
  have hy : y = ix2 (y 0) (y 1) := funext fun a => by fin_cases a <;> rfl
  refine Eq.trans (b := (dats m 0 c).after (16 : Fin 20) t (ix2 (y 0) (y 1))) ?_ ?_
  · exact congrArg ((dats m 0 c).after (16 : Fin 20) t) hy
  · refine (block_16 m c t (y 0) (y 1)).trans (Eq.trans ?_ (congrArg (result_16 m c) ((congrArg _ hy).trans (place_16 t (y 0) (y 1)))).symm)
    rfl

/-- Result 4 at one index. -/
def value_17 (r : Fin 128) (n : Fin 512) : EReal :=
  layered (fun k => zs m c r (part 2 k)) (gs m c) (bs m c) n

def result_17 : Buf (Elt Ideal) ((c.tc : Thread nD τ).loc (Pipeline.arrRef spec0 (17 : Fin 20))) := fun i => value_17 m c (i 0) (i 1)

theorem block_17 (t : Fin cfg0.N) (r : Fin 128) (n : Fin 512) : (dats m 0 c).after (17 : Fin 20) t (ix2 r n) = value_17 m c r n := by
  refine (congrFun (after0_17 m c t) (ix2 r n)).trans ?_
  refine (out17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r n).trans ?_
  rw [wide_row]
  simp only [iblk_9, iblk_10]
  rfl

theorem place_17 (t : Fin cfg0.N) (r : Fin 128) (e : Fin 512) : ((cfg0.win (17 : Fin 20)).blk t).view.emb (ix2 r e) = ix2 r e := by
  refine funext fun a => Fin.ext ?_
  fin_cases a
  · show 0 * 128 + 1 * r.val = r.val
    omega
  · show 0 * 512 + 1 * e.val = e.val
    omega

theorem covers_17 : (cfg0.win (17 : Fin 20)).Covers := by decide +kernel

theorem final_17 : (dats m 0 c).arrAt (17 : Fin 20) cfg0.N = result_17 m c := by
  refine (dats m 0 c).arrAt_eq_of_covers (17 : Fin 20) (result_17 m c) covers_17 fun t hf y => ?_
  have hy : y = ix2 (y 0) (y 1) := funext fun a => by fin_cases a <;> rfl
  refine Eq.trans (b := (dats m 0 c).after (17 : Fin 20) t (ix2 (y 0) (y 1))) ?_ ?_
  · exact congrArg ((dats m 0 c).after (17 : Fin 20) t) hy
  · refine (block_17 m c t (y 0) (y 1)).trans (Eq.trans ?_ (congrArg (result_17 m c) ((congrArg _ hy).trans (place_17 t (y 0) (y 1)))).symm)
    rfl

/-- Result 5 at one index. -/
def value_18 (r : Fin 128) (n : Fin 512) : EReal :=
  silu (zs m c r (part 0 n))

def result_18 : Buf (Elt Ideal) ((c.tc : Thread nD τ).loc (Pipeline.arrRef spec0 (18 : Fin 20))) := fun i => value_18 m c (i 0) (i 1)

theorem block_18 (t : Fin cfg0.N) (r : Fin 128) (n : Fin 512) : (dats m 0 c).after (18 : Fin 20) t (ix2 r n) = value_18 m c r n := by
  refine (congrFun (after0_18 m c t) (ix2 r n)).trans ?_
  refine (out18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r n).trans ?_
  rw [wide_row]
  rfl

theorem place_18 (t : Fin cfg0.N) (r : Fin 128) (e : Fin 512) : ((cfg0.win (18 : Fin 20)).blk t).view.emb (ix2 r e) = ix2 r e := by
  refine funext fun a => Fin.ext ?_
  fin_cases a
  · show 0 * 128 + 1 * r.val = r.val
    omega
  · show 0 * 512 + 1 * e.val = e.val
    omega

theorem covers_18 : (cfg0.win (18 : Fin 20)).Covers := by decide +kernel

theorem final_18 : (dats m 0 c).arrAt (18 : Fin 20) cfg0.N = result_18 m c := by
  refine (dats m 0 c).arrAt_eq_of_covers (18 : Fin 20) (result_18 m c) covers_18 fun t hf y => ?_
  have hy : y = ix2 (y 0) (y 1) := funext fun a => by fin_cases a <;> rfl
  refine Eq.trans (b := (dats m 0 c).after (18 : Fin 20) t (ix2 (y 0) (y 1))) ?_ ?_
  · exact congrArg ((dats m 0 c).after (18 : Fin 20) t) hy
  · refine (block_18 m c t (y 0) (y 1)).trans (Eq.trans ?_ (congrArg (result_18 m c) ((congrArg _ hy).trans (place_18 t (y 0) (y 1)))).symm)
    rfl

/-- Result 6 at one index. -/
def value_19 (r : Fin 128) (n : Fin 512) : EReal :=
  first (zs m c r) (gs m c) (bs m c) (fun j => Ms m c (group j)) (fun j => Bs m c (group j)) n

def result_19 : Buf (Elt Ideal) ((c.tc : Thread nD τ).loc (Pipeline.arrRef spec0 (19 : Fin 20))) := fun i => value_19 m c (i 0) (i 1)

theorem block_19 (t : Fin cfg0.N) (r : Fin 128) (n : Fin 512) : (dats m 0 c).after (19 : Fin 20) t (ix2 r n) = value_19 m c r n := by
  refine (congrFun (after0_19 m c t) (ix2 r n)).trans ?_
  refine (out19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r n).trans ?_
  rw [wide_row]
  simp only [iblk_9, iblk_10, iblk_11, iblk_12]
  rfl

theorem place_19 (t : Fin cfg0.N) (r : Fin 128) (e : Fin 512) : ((cfg0.win (19 : Fin 20)).blk t).view.emb (ix2 r e) = ix2 r e := by
  refine funext fun a => Fin.ext ?_
  fin_cases a
  · show 0 * 128 + 1 * r.val = r.val
    omega
  · show 0 * 512 + 1 * e.val = e.val
    omega

theorem covers_19 : (cfg0.win (19 : Fin 20)).Covers := by decide +kernel

theorem final_19 : (dats m 0 c).arrAt (19 : Fin 20) cfg0.N = result_19 m c := by
  refine (dats m 0 c).arrAt_eq_of_covers (19 : Fin 20) (result_19 m c) covers_19 fun t hf y => ?_
  have hy : y = ix2 (y 0) (y 1) := funext fun a => by fin_cases a <;> rfl
  refine Eq.trans (b := (dats m 0 c).after (19 : Fin 20) t (ix2 (y 0) (y 1))) ?_ ?_
  · exact congrArg ((dats m 0 c).after (19 : Fin 20) t) hy
  · refine (block_19 m c t (y 0) (y 1)).trans (Eq.trans ?_ (congrArg (result_19 m c) ((congrArg _ hy).trans (place_19 t (y 0) (y 1)))).symm)
    rfl

variable {r : PUnit × MemSt nD τ sig (Elt Ideal)} (h : Pipeline.FramePost cfgs (dats m) 0 (V m) r)
include h

theorem lands_13 : r.2.mem ((c.tc : Thread nD τ).loc main_v94_0) = result_13 m c := ((h c).1 (13 : Fin 20)).trans (final_13 m c)
theorem lands_14 : r.2.mem ((c.tc : Thread nD τ).loc main_v94_1) = result_14 m c := ((h c).1 (14 : Fin 20)).trans (final_14 m c)
theorem lands_15 : r.2.mem ((c.tc : Thread nD τ).loc main_v94_2) = result_15 m c := ((h c).1 (15 : Fin 20)).trans (final_15 m c)
theorem lands_16 : r.2.mem ((c.tc : Thread nD τ).loc main_v94_3) = result_16 m c := ((h c).1 (16 : Fin 20)).trans (final_16 m c)
theorem lands_17 : r.2.mem ((c.tc : Thread nD τ).loc main_v94_4) = result_17 m c := ((h c).1 (17 : Fin 20)).trans (final_17 m c)
theorem lands_18 : r.2.mem ((c.tc : Thread nD τ).loc main_v94_5) = result_18 m c := ((h c).1 (18 : Fin 20)).trans (final_18 m c)
theorem lands_19 : r.2.mem ((c.tc : Thread nD τ).loc main_v94_6) = result_19 m c := ((h c).1 (19 : Fin 20)).trans (final_19 m c)

end Cert.Kernel5Ideal.Step

end
-- ==== Proof.StepRef.lean ====
/- The plain sample input side at one index: the norms, the products and the turned parts. -/
module

public import proofs.«01_k».proof.Proof.FrontMath
public import proofs.«01_k».proof.Proof.Gen.Reference5Ideal.Run
public import proofs.«01_k».proof.Proof.Gen.Reference5Ideal.Read
public import Idealize.ShloMosaic.Lib.KernelVsHost

@[expose] public section

set_option maxRecDepth 16384

noncomputable section

namespace Cert.Reference5Ideal.Read

open Cert.Reference5Ideal Cert.Reference5Ideal.Gen Idealize.ShloMosaic Cert.Mix Cert.Front

variable (x0 : (⟨S128x1024, .f32⟩ : BufTy).Contents (Elt Ideal)) (x1 : (⟨S1024, .f32⟩ : BufTy).Contents (Elt Ideal))
  (x2 : (⟨S1024x2464, .f32⟩ : BufTy).Contents (Elt Ideal)) (x3 : (⟨S256, .f32⟩ : BufTy).Contents (Elt Ideal))
  (x4 : (⟨S128, .f32⟩ : BufTy).Contents (Elt Ideal)) (x5 : (⟨S256x8x96, .f32⟩ : BufTy).Contents (Elt Ideal))
  (x6 : (⟨S128x8x128, .f32⟩ : BufTy).Contents (Elt Ideal))

/-- The arguments by their indices. -/
def rX (r : Fin 128) (j : Fin 1024) : EReal := x0 (ix2 r j)
def rG (j : Fin 1024) : EReal := x1 (ix1 j)
def rW (k : Fin 1024) (n : Fin 2464) : EReal := x2 (ix2 k n)
def ru (j : Fin 256) : EReal := x3 (ix1 j)
def rk (j : Fin 128) : EReal := x4 (ix1 j)
def rQ (k : Fin 256) (h : Fin 8) (j : Fin 96) : EReal := x5 (ix3 k h j)
def rK (k : Fin 128) (h : Fin 8) (j : Fin 128) : EReal := x6 (ix3 k h j)

theorem sum_zero : Ideal.ofBits .f32 0x00000000#32 = (0 : EReal) := by simp [Ideal.ofBits, Ideal.ieee]

theorem normed_ref (r : Fin 128) (n : Fin 1024) :
    val_main_v12 (F := Ideal) x0 x1 (ix2 r n) = rooted (Ideal.ofBits .f32 0x44800000#32) (rX x0 r) (rG x1) n := by
  have e1 : idx_main_v10 (idx_main_v11 (ix2 r n)) = ix1 n := by
    funext a
    fin_cases a <;> rfl
  have e0 : ∀ k, idx_main_v1 (idx_main_v2 (idx_main_v8 (ix2 r n))) k = ix2 r k := fun k => by
    funext a
    fin_cases a <;> rfl
  have e : val_main_v1 (F := Ideal) x0 (idx_main_v2 (idx_main_v8 (ix2 r n))) = ∑ k : Fin 1024, rX x0 r k * rX x0 r k := by
    refine (val_main_v1_apply x0 _).trans ?_
    refine Eq.trans (congrArg₂ (· + ·) sum_zero (Finset.sum_congr rfl fun k _ => ?_)) (zero_add _)
    rw [e0, val_main_v0_apply]
    rfl
  rw [val_main_v12_apply, val_main_v9_apply, val_main_v8_apply, val_main_v7_apply, val_main_v6_apply, val_main_v4_apply, val_main_v2_apply, e,
    val_main_v3_apply, val_main_v5_apply, val_main_v11_apply, val_main_v10_apply, e1]
  rfl

theorem across_ref (r : Fin 128) (n : Fin 2464) :
    val_main_v13 (F := Ideal) x0 x1 x2 (ix2 r n) = across (rX x0 r) (rG x1) (rW x2) n := by
  refine (val_main_v13_apply x0 x1 x2 (ix2 r n)).trans ?_
  unfold across
  refine Finset.sum_congr rfl fun k _ => ?_
  refine congrArg₂ (· * ·) (Eq.trans (congrArg _ ?_) (normed_ref x0 x1 r k)) (congrArg x2 ?_) <;> funext a <;> fin_cases a <;> rfl

theorem part_14 (r : Fin 128) (j : Fin 256) :
    val_main_v14 (F := Ideal) x0 x1 x2 (ix2 r j) = across (rX x0 r) (rG x1) (rW x2) ⟨j.val, by have := j.isLt; omega⟩ := by
  rw [val_main_v14_apply, ← across_ref]
  refine congrArg _ (funext fun a => Fin.ext ?_)
  fin_cases a <;> first | rfl | exact Nat.zero_add _

theorem part_15 (r : Fin 128) (j : Fin 128) :
    val_main_v15 (F := Ideal) x0 x1 x2 (ix2 r j) = across (rX x0 r) (rG x1) (rW x2) ⟨256 + j.val, by have := j.isLt; omega⟩ := by
  rw [val_main_v15_apply, ← across_ref]
  refine congrArg _ (funext fun a => Fin.ext ?_)
  fin_cases a <;> rfl

theorem part_16 (r : Fin 128) (j : Fin 32) :
    val_main_v16 (F := Ideal) x0 x1 x2 (ix2 r j) = plain32 (rX x0 r) (rG x1) (rW x2) j := by
  unfold plain32
  rw [val_main_v16_apply, ← across_ref]
  refine congrArg _ (funext fun a => Fin.ext ?_)
  fin_cases a <;> rfl

theorem part_17 (r : Fin 128) (j : Fin 512) :
    val_main_v17 (F := Ideal) x0 x1 x2 (ix2 r j) = across (rX x0 r) (rG x1) (rW x2) (past (part 0 j)) := by
  rw [val_main_v17_apply, ← across_ref]
  refine congrArg _ (funext fun a => Fin.ext ?_)
  fin_cases a
  · rfl
  · show 416 + j.val = 416 + (0 * 512 + j.val)
    omega

theorem part_18 (r : Fin 128) (j : Fin 512) :
    val_main_v18 (F := Ideal) x0 x1 x2 (ix2 r j) = across (rX x0 r) (rG x1) (rW x2) (past (part 1 j)) := by
  rw [val_main_v18_apply, ← across_ref]
  refine congrArg _ (funext fun a => Fin.ext ?_)
  fin_cases a
  · rfl
  · show 928 + j.val = 416 + (1 * 512 + j.val)
    omega

theorem part_19 (r : Fin 128) (j : Fin 512) :
    val_main_v19 (F := Ideal) x0 x1 x2 (ix2 r j) = across (rX x0 r) (rG x1) (rW x2) (past (part 2 j)) := by
  rw [val_main_v19_apply, ← across_ref]
  refine congrArg _ (funext fun a => Fin.ext ?_)
  fin_cases a
  · rfl
  · show 1440 + j.val = 416 + (2 * 512 + j.val)
    omega

theorem part_20 (r : Fin 128) (j : Fin 512) :
    val_main_v20 (F := Ideal) x0 x1 x2 (ix2 r j) = across (rX x0 r) (rG x1) (rW x2) (past (part 3 j)) := by
  rw [val_main_v20_apply, ← across_ref]
  refine congrArg _ (funext fun a => Fin.ext ?_)
  fin_cases a
  · rfl
  · show 1952 + j.val = 416 + (3 * 512 + j.val)
    omega

theorem cquery_ref (r : Fin 128) (n : Fin 256) :
    val_main_v49 (F := Ideal) x0 x1 x2 x3 (ix2 r n) = cquery (rX x0 r) (rG x1) (rW x2) (ru x3) n := by
  have e1 : idx_main_v47 (idx_main_v48 (ix2 r n)) = ix1 n := by
    funext a
    fin_cases a <;> rfl
  have e0 : ∀ k, idx_main_v38 (idx_main_v39 (idx_main_v45 (ix2 r n))) k = ix2 r k := fun k => by
    funext a
    fin_cases a <;> rfl
  have e : val_main_v38 (F := Ideal) x0 x1 x2 (idx_main_v39 (idx_main_v45 (ix2 r n)))
      = ∑ k : Fin 256, val_main_v14 (F := Ideal) x0 x1 x2 (ix2 r k) * val_main_v14 (F := Ideal) x0 x1 x2 (ix2 r k) := by
    refine (val_main_v38_apply x0 x1 x2 _).trans ?_
    refine Eq.trans (congrArg₂ (· + ·) sum_zero (Finset.sum_congr rfl fun k _ => ?_)) (zero_add _)
    rw [e0, val_main_v37_apply]
    rfl
  rw [val_main_v49_apply, val_main_v46_apply, val_main_v45_apply, val_main_v44_apply, val_main_v43_apply, val_main_v41_apply, val_main_v39_apply, e,
    val_main_v40_apply, val_main_v42_apply, val_main_v48_apply, val_main_v47_apply, e1]
  simp only [part_14]
  rfl

theorem clatent_ref (r : Fin 128) (n : Fin 128) :
    val_main_v89 (F := Ideal) x0 x1 x2 x4 (ix2 r n) = clatent (rX x0 r) (rG x1) (rW x2) (rk x4) n := by
  have e1 : idx_main_v87 (idx_main_v88 (ix2 r n)) = ix1 n := by
    funext a
    fin_cases a <;> rfl
  have e0 : ∀ k, idx_main_v78 (idx_main_v79 (idx_main_v85 (ix2 r n))) k = ix2 r k := fun k => by
    funext a
    fin_cases a <;> rfl
  have e : val_main_v78 (F := Ideal) x0 x1 x2 (idx_main_v79 (idx_main_v85 (ix2 r n)))
      = ∑ k : Fin 128, val_main_v15 (F := Ideal) x0 x1 x2 (ix2 r k) * val_main_v15 (F := Ideal) x0 x1 x2 (ix2 r k) := by
    refine (val_main_v78_apply x0 x1 x2 _).trans ?_
    refine Eq.trans (congrArg₂ (· + ·) sum_zero (Finset.sum_congr rfl fun k _ => ?_)) (zero_add _)
    rw [e0, val_main_v77_apply]
    rfl
  rw [val_main_v89_apply, val_main_v86_apply, val_main_v85_apply, val_main_v84_apply, val_main_v83_apply, val_main_v81_apply, val_main_v79_apply, e,
    val_main_v80_apply, val_main_v82_apply, val_main_v88_apply, val_main_v87_apply, e1]
  simp only [part_15]
  rfl

theorem angle_ref (r : Fin 128) (f : Fin 16) : val_main_v32 (F := Ideal) (ix2 r f) = angle 16384 f.val := by
  rw [val_main_v32_apply, val_main_v30_apply, val_main_v28_apply, val_main_v27_apply, val_main_v31_apply, val_main_v29_apply,
    val_main_v26_apply, val_main_v25_apply, val_main_v24_apply, val_main_v23_apply, val_main_v22_apply]
  unfold val_main_v21
  rfl

theorem cos_ref (r : Fin 128) (i : Fin 32) : val_main_v35 (F := Ideal) (ix2 r i) = cosv 16384 i.val := by
  have hi := i.isLt
  unfold cosv
  by_cases h : i.val < 16
  · pointwise [val_main_v35]
    rw [dif_pos h, if_pos h, val_main_v33_apply]
    exact congrArg Ideal.cos (angle_ref r ⟨i.val, h⟩)
  · pointwise [val_main_v35]
    rw [dif_neg h, if_neg h, val_main_v33_apply]
    exact congrArg Ideal.cos (angle_ref r ⟨i.val - 16, by omega⟩)

theorem sin_ref (r : Fin 128) (i : Fin 32) : val_main_v36 (F := Ideal) (ix2 r i) = sinv 16384 i.val := by
  have hi := i.isLt
  unfold sinv
  by_cases h : i.val < 16
  · pointwise [val_main_v36]
    rw [dif_pos h, if_pos h, val_main_v34_apply]
    exact congrArg Ideal.sin (angle_ref r ⟨i.val, h⟩)
  · pointwise [val_main_v36]
    rw [dif_neg h, if_neg h, val_main_v34_apply]
    exact congrArg Ideal.sin (angle_ref r ⟨i.val - 16, by omega⟩)

theorem swap_in (k : Fin 1024) (i : Fin 32) : val_main_v95 (F := Ideal) x2 (ix2 k i) = swap 384 (by decide) (rW x2 k) i := by
  have hi := i.isLt
  unfold swap rW
  by_cases h : i.val < 16
  · pointwise [val_main_v95, val_main_v94, val_main_v93, val_main_v91]
    rw [dif_pos h, dif_pos h]
  · pointwise [val_main_v95, val_main_v92, val_main_v91]
    rw [dif_neg h, dif_neg h]

theorem swap_query (k : Fin 256) (h : Fin 8) (i : Fin 32) : val_main_v55 (F := Ideal) x5 (ix3 k h i) = swap 64 (by decide) (rQ x5 k h) i := by
  have hi := i.isLt
  unfold swap rQ
  by_cases h' : i.val < 16
  · pointwise [val_main_v55, val_main_v54, val_main_v53, val_main_v51]
    rw [dif_pos h', dif_pos h']
  · pointwise [val_main_v55, val_main_v52, val_main_v51]
    rw [dif_neg h', dif_neg h']

/-- The turned key. -/
theorem krope_ref (r : Fin 128) (i : Fin 32) :
    val_main_v98 (F := Ideal) x0 x1 x2 (ix2 r i) = krope (rX x0 r) (rG x1) (rW x2) 16384 i := by
  have e : val_main_v96 (F := Ideal) x0 x1 x2 (ix2 r i) = swapped32 (rX x0 r) (rG x1) (rW x2) i := by
    refine (val_main_v96_apply x0 x1 x2 (ix2 r i)).trans ?_
    unfold swapped32 across
    refine Finset.sum_congr rfl fun k _ => ?_
    refine congrArg₂ (· * ·) (Eq.trans (congrArg _ ?_) (normed_ref x0 x1 r k)) (Eq.trans (congrArg _ ?_) (swap_in x2 k i)) <;> funext a <;> fin_cases a <;> rfl
  rw [val_main_v98_apply, val_main_v97_apply, val_main_v90_apply, e, part_16, cos_ref, sin_ref]
  rfl

/-- A head's query columns, and its turned columns. -/
theorem query_ref (r : Fin 128) (h : Fin 8) (j : Fin 96) :
    val_main_v50 (F := Ideal) x0 x1 x2 x3 x5 (ix3 r h j) = ∑ k : Fin 256, cquery (rX x0 r) (rG x1) (rW x2) (ru x3) k * rQ x5 k h j := by
  refine (val_main_v50_apply x0 x1 x2 x3 x5 (ix3 r h j)).trans ?_
  refine Finset.sum_congr rfl fun k _ => ?_
  refine congrArg₂ (· * ·) (Eq.trans (congrArg _ ?_) (cquery_ref x0 x1 x2 x3 r k)) (congrArg x5 ?_) <;> funext a <;> fin_cases a <;> rfl

theorem turned_ref (r : Fin 128) (h : Fin 8) (i : Fin 32) :
    val_main_v56 (F := Ideal) x0 x1 x2 x3 x5 (ix3 r h i)
      = ∑ k : Fin 256, cquery (rX x0 r) (rG x1) (rW x2) (ru x3) k * swap 64 (by decide) (rQ x5 k h) i := by
  refine (val_main_v56_apply x0 x1 x2 x3 x5 (ix3 r h i)).trans ?_
  refine Finset.sum_congr rfl fun k _ => ?_
  refine congrArg₂ (· * ·) (Eq.trans (congrArg _ ?_) (cquery_ref x0 x1 x2 x3 r k)) (Eq.trans (congrArg _ ?_) (swap_query x5 k h i)) <;> funext a <;> fin_cases a <;> rfl

end Cert.Reference5Ideal.Read

end
-- ==== Proof.StepRefEnd.lean ====
/- The plain sample input side's results at one index. -/
module

public import proofs.«01_k».proof.Proof.StepRef
public import proofs.«01_k».proof.Proof.StepMath

@[expose] public section

set_option maxRecDepth 16384

noncomputable section

namespace Cert.Reference5Ideal.Read

open Cert.Reference5Ideal Cert.Reference5Ideal.Gen Idealize.ShloMosaic Cert.Mix Cert.Front

variable (x0 : (⟨S128x1024, .f32⟩ : BufTy).Contents (Elt Ideal)) (x1 : (⟨S1024, .f32⟩ : BufTy).Contents (Elt Ideal))
  (x2 : (⟨S1024x2464, .f32⟩ : BufTy).Contents (Elt Ideal)) (x3 : (⟨S256, .f32⟩ : BufTy).Contents (Elt Ideal))
  (x4 : (⟨S128, .f32⟩ : BufTy).Contents (Elt Ideal)) (x5 : (⟨S256x8x96, .f32⟩ : BufTy).Contents (Elt Ideal))
  (x6 : (⟨S128x8x128, .f32⟩ : BufTy).Contents (Elt Ideal)) (x7 x8 : (⟨S512, .f32⟩ : BufTy).Contents (Elt Ideal))
  (x9 : (⟨S8x128x128, .f32⟩ : BufTy).Contents (Elt Ideal)) (x10 : (⟨S8x128, .f32⟩ : BufTy).Contents (Elt Ideal))

def rg (j : Fin 512) : EReal := x7 (ix1 j)
def rM (h : Fin 8) : EReal := x9 (ix3 h 0 0)
def rB (h : Fin 8) : EReal := x10 (ix2 h 0)

theorem plain_lane (r : Fin 128) (h : Fin 8) (j : Fin 64) :
    val_main_v71 (F := Ideal) x0 x1 x2 x3 x5 (ix3 r h j)
      = (∑ k : Fin 256, cquery (rX x0 r) (rG x1) (rW x2) (ru x3) k * rQ x5 k h ⟨j.val, by have := j.isLt; omega⟩) * scl := by
  have e : idx_main_v69 (ix3 r h j) = ix3 r h ⟨j.val, by have := j.isLt; omega⟩ := by
    refine funext fun a => Fin.ext ?_
    fin_cases a <;> first | rfl | exact Nat.zero_add _
  rw [val_main_v71_apply, val_main_v69_apply, e, query_ref, val_main_v70_apply]
  rfl

theorem turned_lane (r : Fin 128) (h : Fin 8) (i : Fin 32) :
    val_main_v68 (F := Ideal) x0 x1 x2 x3 x5 (ix3 r h i)
      = (∑ k : Fin 256, cquery (rX x0 r) (rG x1) (rW x2) (ru x3) k * rQ x5 k h ⟨64 + i.val, by have := i.isLt; omega⟩) * (cosv 16384 i.val * scl)
        + (∑ k : Fin 256, cquery (rX x0 r) (rG x1) (rW x2) (ru x3) k * swap 64 (by decide) (rQ x5 k h) i) * (sinv 16384 i.val * scl) := by
  have e : idx_main_v57 (ix3 r h i) = ix3 r h ⟨64 + i.val, by have := i.isLt; omega⟩ := by
    refine funext fun a => Fin.ext ?_
    fin_cases a <;> rfl
  have ec : idx_main_v60 (idx_main_v61 (ix3 r h i)) = ix2 r i := by
    funext a
    fin_cases a <;> rfl
  have es : idx_main_v65 (idx_main_v66 (ix3 r h i)) = ix2 r i := by
    funext a
    fin_cases a <;> rfl
  rw [val_main_v68_apply, val_main_v62_apply, val_main_v67_apply, val_main_v57_apply, e, query_ref, turned_ref, val_main_v61_apply, val_main_v60_apply, ec, val_main_v59_apply, cos_ref, val_main_v66_apply, val_main_v65_apply, es, val_main_v64_apply, sin_ref,
    val_main_v58_apply, val_main_v63_apply]
  rfl

/-- A head's latent lanes. -/
theorem drawn_ref (r : Fin 128) (h : Fin 8) (l : Fin 128) :
    val_main_v74 (F := Ideal) x0 x1 x2 x3 x5 x6 (ix3 r h l)
      = ∑ i : Fin 64, rK x6 l h ⟨i.val, by have := i.isLt; omega⟩ * plane (cquery (rX x0 r) (rG x1) (rW x2) (ru x3)) (fun k => rQ x5 k h) i := by
  have e : idx_main_v74 (ix3 r h l) = ix3 h l r := by
    funext a
    fin_cases a <;> rfl
  rw [val_main_v74_apply, e]
  refine (val_main_v73_apply x0 x1 x2 x3 x5 x6 (ix3 h l r)).trans (Finset.sum_congr rfl fun i _ => ?_)
  have el : lidx_main_v73 (ix3 h l r) i = ix3 l h i := by
    funext a
    fin_cases a <;> rfl
  have er : ridx_main_v73 (ix3 h l r) i = ix3 r h i := by
    funext a
    fin_cases a <;> rfl
  have ek : idx_main_v72 (ix3 l h i) = ix3 l h ⟨i.val, by have := i.isLt; omega⟩ := by
    refine funext fun a => Fin.ext ?_
    fin_cases a <;> first | rfl | exact Nat.zero_add _
  rw [el, er, val_main_v72_apply, ek, plain_lane]
  rfl

theorem lanes_ref (r : Fin 128) (h : Fin 8) (e : Fin 256) :
    val_main_v76 (F := Ideal) x0 x1 x2 x3 x5 x6 (ix3 r h e)
      = latentlane (cquery (rX x0 r) (rG x1) (rW x2) (ru x3)) (fun k => rQ x5 k h) (fun k l => rK x6 k h l) 16384 e := by
  have he := e.isLt
  unfold latentlane
  by_cases c : e.val < 128
  · pointwise [val_main_v76]
    rw [dif_pos c, dif_pos c]
    exact drawn_ref x0 x1 x2 x3 x5 x6 r h ⟨e.val, c⟩
  · rw [dif_neg c]
    by_cases c1 : e.val - 128 < 32
    · rw [if_pos (show e.val - 128 < 64 by omega)]
      pointwise [val_main_v76]
      rw [dif_neg c, dif_pos c1, val_main_v75_apply]
      exact sum_zero
    · by_cases c2 : e.val - 128 - 32 < 32
      · rw [if_pos (show e.val - 128 < 64 by omega)]
        pointwise [val_main_v76]
        rw [dif_neg c, dif_neg c1, dif_pos c2, val_main_v75_apply]
        exact sum_zero
      · by_cases c3 : e.val - 128 - 32 - 32 < 32
        · rw [if_neg (show ¬ e.val - 128 < 64 by omega), dif_pos (show e.val - 128 - 64 < 32 by omega)]
          pointwise [val_main_v76]
          rw [dif_neg c, dif_neg c1, dif_neg c2, dif_pos c3]
          refine Eq.trans (congrArg _ ?_) (turned_lane x0 x1 x2 x3 x5 r h ⟨e.val - 128 - 64, by omega⟩)
          refine funext fun a => Fin.ext ?_
          fin_cases a
          · rfl
          · rfl
          · show e.val - 128 - 32 - 32 = e.val - 128 - 64
            omega
        · rw [if_neg (show ¬ e.val - 128 < 64 by omega), dif_neg (show ¬ e.val - 128 - 64 < 32 by omega)]
          pointwise [val_main_v76]
          rw [dif_neg c, dif_neg c1, dif_neg c2, dif_neg c3, val_main_v75_apply]
          exact sum_zero

/-- The latent queries. -/
theorem ref_13 (r : Fin 128) (n : Fin 2048) :
    val_main_v141 (F := Ideal) x0 x1 x2 x3 x5 x6 (ix2 r n)
      = latentlane (cquery (rX x0 r) (rG x1) (rW x2) (ru x3)) (fun k => rQ x5 k (headIn n)) (fun k l => rK x6 k (headIn n) l) 16384 (laneIn n) := by
  have hr := r.isLt
  have hn := n.isLt
  have e : idx_main_v140 (ix2 r n) = ix3 r (headIn n) (laneIn n) := by
    refine funext fun a => Fin.ext ?_
    fin_cases a
    · show (r.val * 2048 + n.val) / 2048 = r.val
      omega
    · show (r.val * 2048 + n.val) / 256 % 8 = n.val / 256
      omega
    · show (r.val * 2048 + n.val) % 256 = n.val % 256
      omega
  rw [val_main_v141_apply, val_main_v140_apply, e, lanes_ref]
  rfl

/-- The padded turned key. -/
theorem ref_15 (r l : Fin 128) :
    val_main_v100 (F := Ideal) x0 x1 x2 (ix2 r l)
      = if h : l.val < 64 then 0 else if h' : l.val - 64 < 32 then krope (rX x0 r) (rG x1) (rW x2) 16384 ⟨l.val - 64, h'⟩ else 0 := by
  have hl := l.isLt
  by_cases c1 : l.val < 32
  · rw [dif_pos (show l.val < 64 by omega)]
    pointwise [val_main_v100]
    rw [dif_pos c1, val_main_v99_apply]
    exact sum_zero
  · by_cases c2 : l.val - 32 < 32
    · rw [dif_pos (show l.val < 64 by omega)]
      pointwise [val_main_v100]
      rw [dif_neg c1, dif_pos c2, val_main_v99_apply]
      exact sum_zero
    · by_cases c3 : l.val - 32 - 32 < 32
      · rw [dif_neg (show ¬ l.val < 64 by omega), dif_pos (show l.val - 64 < 32 by omega)]
        pointwise [val_main_v100]
        rw [dif_neg c1, dif_neg c2, dif_pos c3]
        refine Eq.trans (congrArg _ ?_) (krope_ref x0 x1 x2 r ⟨l.val - 64, by omega⟩)
        refine funext fun a => Fin.ext ?_
        fin_cases a
        · rfl
        · show l.val - 32 - 32 = l.val - 64
          omega
      · rw [dif_neg (show ¬ l.val < 64 by omega), dif_neg (show ¬ l.val - 64 < 32 by omega)]
        pointwise [val_main_v100]
        rw [dif_neg c1, dif_neg c2, dif_neg c3, val_main_v99_apply]
        exact sum_zero

theorem one_bits : Ideal.ofBits .f32 0x3F800000#32 = (1 : EReal) := by
  simp [Ideal.ofBits, Ideal.ieee]
  norm_num
  rw [← EReal.coe_mul]
  norm_num

/-- The attention's gate. -/
theorem ref_18 (r : Fin 128) (n : Fin 512) :
    val_main_v143 (F := Ideal) x0 x1 x2 (ix2 r n) = silu (across (rX x0 r) (rG x1) (rW x2) (past (part 0 n))) := by
  rw [val_main_v143_apply, val_main_v142_apply, val_main_call1_v5_apply, val_main_call1_v4_apply, val_main_call1_v3_apply, val_main_call1_v2_apply,
    val_main_call1_v1_apply, val_main_call1_v0_apply, part_17, val_main_call1_cst_apply, val_main_call1_cst_0_apply]
  generalize across (rX x0 r) (rG x1) (rW x2) (past (part 0 n)) = z
  show z * Ideal.div (Ideal.ofBits .f32 0x3F800000#32) (Ideal.ofBits .f32 0x3F800000#32 + Ideal.exp (-z)) = _
  rw [one_bits]
  rfl

theorem gate_ref (r : Fin 128) (n : Fin 512) :
    val_main_v138 (F := Ideal) x0 x1 x2 (ix2 r n) = silu (across (rX x0 r) (rG x1) (rW x2) (past (part 3 n))) := by
  rw [val_main_v138_apply, val_main_call0_v5_apply, val_main_call0_v4_apply, val_main_call0_v3_apply, val_main_call0_v2_apply,
    val_main_call0_v1_apply, val_main_call0_v0_apply, part_20, val_main_call0_cst_apply, val_main_call0_cst_0_apply]
  generalize across (rX x0 r) (rG x1) (rW x2) (past (part 3 n)) = z
  show z * Ideal.div (Ideal.ofBits .f32 0x3F800000#32) (Ideal.ofBits .f32 0x3F800000#32 + Ideal.exp (-z)) = _
  rw [one_bits]
  rfl

/-- The span the layer norm works on. -/
def rV (r : Fin 128) (i : Fin 512) : EReal := across (rX x0 r) (rG x1) (rW x2) (past (part 2 i))

theorem centred_ref (r : Fin 128) (n : Fin 512) :
    val_main_v106 (F := Ideal) x0 x1 x2 (ix2 r n) = centred (rV x0 x1 x2 r) n := by
  have e0 : ∀ k, idx_main_v101 (idx_main_v102 (idx_main_v105 (ix2 r n))) k = ix2 r k := fun k => by
    funext a
    fin_cases a <;> rfl
  have e : val_main_v101 (F := Ideal) x0 x1 x2 (idx_main_v102 (idx_main_v105 (ix2 r n))) = ∑ k : Fin 512, rV x0 x1 x2 r k := by
    refine (val_main_v101_apply x0 x1 x2 _).trans ?_
    refine Eq.trans (congrArg₂ (· + ·) sum_zero (Finset.sum_congr rfl fun k _ => ?_)) (zero_add _)
    rw [e0, part_19]
    rfl
  rw [val_main_v106_apply, part_19, val_main_v105_apply, val_main_v104_apply, val_main_v102_apply, e, val_main_v103_apply]
  rfl

theorem centred_ref' (r : Fin 128) (n : Fin 512) :
    val_main_v113 (F := Ideal) x0 x1 x2 (ix2 r n) = centred (rV x0 x1 x2 r) n := centred_ref x0 x1 x2 r n

theorem layered_ref (r : Fin 128) (n : Fin 512) :
    val_main_v124 (F := Ideal) x0 x1 x2 x7 x8 (ix2 r n) = layered (rV x0 x1 x2 r) (rg x7) (rg x8) n := by
  have e1 : idx_main_v119 (idx_main_v120 (ix2 r n)) = ix1 n := by
    funext a
    fin_cases a <;> rfl
  have e2 : idx_main_v122 (idx_main_v123 (ix2 r n)) = ix1 n := by
    funext a
    fin_cases a <;> rfl
  have e0 : ∀ k, idx_main_v108 (idx_main_v109 (idx_main_v117 (ix2 r n))) k = ix2 r k := fun k => by
    funext a
    fin_cases a <;> rfl
  have e : val_main_v108 (F := Ideal) x0 x1 x2 (idx_main_v109 (idx_main_v117 (ix2 r n)))
      = ∑ k : Fin 512, centred (rV x0 x1 x2 r) k * centred (rV x0 x1 x2 r) k := by
    refine (val_main_v108_apply x0 x1 x2 _).trans ?_
    refine Eq.trans (congrArg₂ (· + ·) sum_zero (Finset.sum_congr rfl fun k _ => ?_)) (zero_add _)
    rw [e0, val_main_v107_apply, centred_ref]
    rfl
  rw [val_main_v124_apply, val_main_v121_apply, val_main_v118_apply, centred_ref', val_main_v117_apply, val_main_v116_apply, val_main_v115_apply,
    val_main_v111_apply, val_main_v109_apply, e, val_main_v110_apply, val_main_v114_apply, val_main_v120_apply, val_main_v119_apply, e1,
    val_main_v123_apply, val_main_v122_apply, e2]
  rfl

/-- The gated first row of a chunk. -/
theorem ref_19 (r : Fin 128) (n : Fin 512) :
    val_main_v144 (F := Ideal) x0 x1 x2 x7 x8 x9 x10 (ix2 r n)
      = first (fun n => across (rX x0 r) (rG x1) (rW x2) (past n)) (rg x7) (rg x8) (fun j => rM x9 (group j)) (fun j => rB x10 (group j)) n := by
  have hr := r.isLt
  have hn := n.isLt
  have e : idx_main_v136 (ix2 r n) = ix3 r (group n) (⟨n.val % 64, by omega⟩ : Fin 64) := by
    refine funext fun a => Fin.ext ?_
    fin_cases a
    · show (r.val * 512 + n.val) / 512 = r.val
      omega
    · show (r.val * 512 + n.val) / 64 % 8 = n.val / 64
      omega
    · show (r.val * 512 + n.val) % 64 = n.val % 64
      omega
  have ev : idx_main_v125 (ix3 r (group n) (⟨n.val % 64, by omega⟩ : Fin 64)) = ix2 r n := by
    refine funext fun a => Fin.ext ?_
    fin_cases a
    · show ((r.val * 8 + n.val / 64) * 64 + n.val % 64) / 512 = r.val
      omega
    · show ((r.val * 8 + n.val / 64) * 64 + n.val % 64) % 512 = n.val
      omega
  have ew : idx_main_v126 (idx_main_v127 (idx_main_v128 (idx_main_v129 (ix3 r (group n) (⟨n.val % 64, by omega⟩ : Fin 64))))) = ix3 (group n) 0 0 := by
    refine funext fun a => Fin.ext ?_
    fin_cases a <;> first | rfl | exact Nat.div_one _
  have eb : idx_main_v131 (idx_main_v132 (idx_main_v133 (idx_main_v134 (ix3 r (group n) (⟨n.val % 64, by omega⟩ : Fin 64))))) = ix2 (group n) 0 := by
    refine funext fun a => Fin.ext ?_
    fin_cases a <;> first | rfl | exact Nat.div_one _
  rw [val_main_v144_apply, val_main_v139_apply, val_main_v137_apply, part_18, val_main_v136_apply, e, val_main_v135_apply, val_main_v130_apply,
    val_main_v125_apply, ev, layered_ref, val_main_v129_apply, val_main_v128_apply, val_main_v127_apply, val_main_v126_apply, ew,
    val_main_v134_apply, val_main_v133_apply, val_main_v132_apply, val_main_v131_apply, eb, gate_ref]
  rfl

end Cert.Reference5Ideal.Read

end
-- ==== Proof.StepSame.lean ====
/- The plain sample input side's results are the call's. -/
module

public import proofs.«01_k».proof.Proof.StepCover
public import proofs.«01_k».proof.Proof.StepRefEnd

@[expose] public section

set_option maxRecDepth 16384

noncomputable section

namespace Cert.Kernel5Ideal.Step

open Idealize.ShloMosaic Cert.Kernel5Ideal.Gen Cert.Mix Cert.Front

variable (m : (ℓ : Loc nD τ sig) → Buf (Elt Ideal) ℓ) (c : Dev nD)

variable {x0 : (⟨Cert.Reference5Ideal.S128x1024, .f32⟩ : BufTy).Contents (Elt Ideal)}
  {x1 : (⟨Cert.Reference5Ideal.S1024, .f32⟩ : BufTy).Contents (Elt Ideal)}
  {x2 : (⟨Cert.Reference5Ideal.S1024x2464, .f32⟩ : BufTy).Contents (Elt Ideal)}
  {x3 : (⟨Cert.Reference5Ideal.S256, .f32⟩ : BufTy).Contents (Elt Ideal)}
  {x4 : (⟨Cert.Reference5Ideal.S128, .f32⟩ : BufTy).Contents (Elt Ideal)}
  {x5 : (⟨Cert.Reference5Ideal.S256x8x96, .f32⟩ : BufTy).Contents (Elt Ideal)}
  {x6 : (⟨Cert.Reference5Ideal.S128x8x128, .f32⟩ : BufTy).Contents (Elt Ideal)}
  {x7 : (⟨Cert.Reference5Ideal.S512, .f32⟩ : BufTy).Contents (Elt Ideal)}
  {x8 : (⟨Cert.Reference5Ideal.S512, .f32⟩ : BufTy).Contents (Elt Ideal)}
  {x9 : (⟨Cert.Reference5Ideal.S8x128x128, .f32⟩ : BufTy).Contents (Elt Ideal)}
  {x10 : (⟨Cert.Reference5Ideal.S8x128, .f32⟩ : BufTy).Contents (Elt Ideal)}
  (e0 : x0 = m (c.tc.loc main_arg0))
  (e1 : x1 = m (c.tc.loc main_arg1))
  (e2 : x2 = m (c.tc.loc main_arg2))
  (e3 : x3 = m (c.tc.loc main_arg3))
  (e4 : x4 = m (c.tc.loc main_arg4))
  (e5 : x5 = m (c.tc.loc main_arg5))
  (e6 : x6 = m (c.tc.loc main_arg6))
  (e7 : x7 = m (c.tc.loc main_arg7))
  (e8 : x8 = m (c.tc.loc main_arg8))
  (e9 : x9 = m (c.tc.loc main_arg9))
  (e10 : x10 = m (c.tc.loc main_arg10))

include e0 e1 e2 e3 e5 e6 in
theorem same_13 : Cert.Reference5Ideal.Read.val_main_v141 (F := Ideal) x0 x1 x2 x3 x5 x6 = result_13 m c := by
  subst e0 e1 e2 e3 e5 e6
  funext i
  rw [eq_ix2 i]
  exact Cert.Reference5Ideal.Read.ref_13 _ _ _ _ _ _ _ _

include e0 e1 e2 e4 in
theorem same_14 : Cert.Reference5Ideal.Read.val_main_v89 (F := Ideal) x0 x1 x2 x4 = result_14 m c := by
  subst e0 e1 e2 e4
  funext i
  rw [eq_ix2 i]
  exact Cert.Reference5Ideal.Read.clatent_ref _ _ _ _ _ _

include e0 e1 e2 in
theorem same_15 : Cert.Reference5Ideal.Read.val_main_v100 (F := Ideal) x0 x1 x2 = result_15 m c := by
  subst e0 e1 e2
  funext i
  rw [eq_ix2 i]
  exact Cert.Reference5Ideal.Read.ref_15 _ _ _ _ _

include e0 e1 e2 in
theorem same_16 : Cert.Reference5Ideal.Read.val_main_v98 (F := Ideal) x0 x1 x2 = result_16 m c := by
  subst e0 e1 e2
  funext i
  rw [eq_ix2 i]
  exact Cert.Reference5Ideal.Read.krope_ref _ _ _ _ _

include e0 e1 e2 e7 e8 in
theorem same_17 : Cert.Reference5Ideal.Read.val_main_v124 (F := Ideal) x0 x1 x2 x7 x8 = result_17 m c := by
  subst e0 e1 e2 e7 e8
  funext i
  rw [eq_ix2 i]
  exact Cert.Reference5Ideal.Read.layered_ref _ _ _ _ _ _ _

include e0 e1 e2 in
theorem same_18 : Cert.Reference5Ideal.Read.val_main_v143 (F := Ideal) x0 x1 x2 = result_18 m c := by
  subst e0 e1 e2
  funext i
  rw [eq_ix2 i]
  exact Cert.Reference5Ideal.Read.ref_18 _ _ _ _ _

include e0 e1 e2 e7 e8 e9 e10 in
theorem same_19 : Cert.Reference5Ideal.Read.val_main_v144 (F := Ideal) x0 x1 x2 x7 x8 x9 x10 = result_19 m c := by
  subst e0 e1 e2 e7 e8 e9 e10
  funext i
  rw [eq_ix2 i]
  exact Cert.Reference5Ideal.Read.ref_19 _ _ _ _ _ _ _ _ _

end Cert.Kernel5Ideal.Step

end
-- ==== Proof.Last.lean ====
/- The output projection and the last norm for the sample group: the call's whole result. -/
module

public import proofs.«01_k».proof.Proof.Mix
public import proofs.«01_k».proof.Proof.Gen.Kernel6Ideal.Frame
public import Idealize.ShloMosaic.Lib.Pipeline.Value
public import Idealize.ShloMosaic.Lib.Pipeline.ValueKit

@[expose] public section

set_option maxRecDepth 16384

noncomputable section

namespace Cert.Kernel6Ideal.Last

open Idealize.ShloMosaic Cert.Kernel6Ideal.Gen Cert.Mix

/-- One tile: each row's residual sum, normalised. -/
theorem tile (v0 : Vec Ideal S1x128x1024 .f32) (v2 : Vec Ideal S1x128x512 .bf16) (v4 : Vec Ideal S512x1024 .bf16)
    (v7 : Vec Ideal S1x128x512 .bf16) (v9 : Vec Ideal S512x1024 .bf16) (v12 : Vec Ideal S1x1024 .f32) (W : Fin 1024 → Fin 1024 → EReal)
    (h4 : ∀ k n, v4 (ix2 k n) = W (lo k) n) (h9 : ∀ k n, v9 (ix2 k n) = W (hi k) n) (r : Fin 128) (n : Fin 1024) :
    k0_pay1 v0 v2 v4 v7 v9 v12 (ix3 0 r n)
      = normed (hidden (fun j => v0 (ix3 0 r j)) (fun j => v2 (ix3 0 r j)) (fun j => v7 (ix3 0 r j)) W) (fun j => v12 (ix2 0 j)) n := by
  pointwise [k0_pay1]
  simp only [h4, h9]
  rfl

variable (m : (ℓ : Loc nD τ sig) → Buf (Elt Ideal) ℓ) (c : Dev nD)

/-- The arguments by their indices. -/
def Cs (r : Fin 128) (j : Fin 512) : EReal := m (c.tc.loc main_arg0) (ix3 0 r j)
def As (r : Fin 128) (j : Fin 512) : EReal := m (c.tc.loc main_arg1) (ix3 0 r j)
def Hs (r : Fin 128) (j : Fin 1024) : EReal := m (c.tc.loc main_arg2) (ix3 0 r j)
def Ws (k n : Fin 1024) : EReal := m (c.tc.loc main_arg3) (ix2 k n)
def gs (n : Fin 1024) : EReal := m (c.tc.loc main_arg4) (ix2 0 n)

theorem index_0 : ∀ t : Fin cfg0.N, (cfg0.win (0 : Fin 6)).index t = ![0, 0, 0] := by decide +kernel

theorem iblk_0 (t : Fin cfg0.N) (r : Fin 128) (e : Fin 512) : iblk m c (0 : Fin 6) t (ix3 0 r e) = Cs m c r e := by
  refine congrArg (m (c.tc.loc main_arg0)) (funext fun a => Fin.ext ?_)
  fin_cases a
  · show (cfg0.win (0 : Fin 6)).index t 0 * 1 + 1 * 0 = 0
    rw [index_0 t]
    show 0 * 1 + 1 * 0 = _
    omega
  · show (cfg0.win (0 : Fin 6)).index t 1 * 128 + 1 * r.val = r.val
    rw [index_0 t]
    show 0 * 128 + 1 * r.val = _
    omega
  · show (cfg0.win (0 : Fin 6)).index t 2 * 512 + 1 * e.val = e.val
    rw [index_0 t]
    show 0 * 512 + 1 * e.val = _
    omega

theorem index_1 : ∀ t : Fin cfg0.N, (cfg0.win (1 : Fin 6)).index t = ![0, 0, 0] := by decide +kernel

theorem iblk_1 (t : Fin cfg0.N) (r : Fin 128) (e : Fin 512) : iblk m c (1 : Fin 6) t (ix3 0 r e) = As m c r e := by
  refine congrArg (m (c.tc.loc main_arg1)) (funext fun a => Fin.ext ?_)
  fin_cases a
  · show (cfg0.win (1 : Fin 6)).index t 0 * 1 + 1 * 0 = 0
    rw [index_1 t]
    show 0 * 1 + 1 * 0 = _
    omega
  · show (cfg0.win (1 : Fin 6)).index t 1 * 128 + 1 * r.val = r.val
    rw [index_1 t]
    show 0 * 128 + 1 * r.val = _
    omega
  · show (cfg0.win (1 : Fin 6)).index t 2 * 512 + 1 * e.val = e.val
    rw [index_1 t]
    show 0 * 512 + 1 * e.val = _
    omega

theorem index_2 : ∀ t : Fin cfg0.N, (cfg0.win (2 : Fin 6)).index t = ![0, 0, 0] := by decide +kernel

theorem iblk_2 (t : Fin cfg0.N) (r : Fin 128) (e : Fin 1024) : iblk m c (2 : Fin 6) t (ix3 0 r e) = Hs m c r e := by
  refine congrArg (m (c.tc.loc main_arg2)) (funext fun a => Fin.ext ?_)
  fin_cases a
  · show (cfg0.win (2 : Fin 6)).index t 0 * 1 + 1 * 0 = 0
    rw [index_2 t]
    show 0 * 1 + 1 * 0 = _
    omega
  · show (cfg0.win (2 : Fin 6)).index t 1 * 128 + 1 * r.val = r.val
    rw [index_2 t]
    show 0 * 128 + 1 * r.val = _
    omega
  · show (cfg0.win (2 : Fin 6)).index t 2 * 1024 + 1 * e.val = e.val
    rw [index_2 t]
    show 0 * 1024 + 1 * e.val = _
    omega

theorem index_3 : ∀ t : Fin cfg0.N, (cfg0.win (3 : Fin 6)).index t = ![0, 0] := by decide +kernel

theorem iblk_3 (t : Fin cfg0.N) (k n : Fin 1024) : iblk m c (3 : Fin 6) t (ix2 k n) = Ws m c k n := by
  refine congrArg (m (c.tc.loc main_arg3)) (funext fun a => Fin.ext ?_)
  fin_cases a
  · show (cfg0.win (3 : Fin 6)).index t 0 * 1024 + 1 * k.val = k.val
    rw [index_3 t]
    show 0 * 1024 + 1 * k.val = _
    omega
  · show (cfg0.win (3 : Fin 6)).index t 1 * 1024 + 1 * n.val = n.val
    rw [index_3 t]
    show 0 * 1024 + 1 * n.val = _
    omega

theorem index_4 : ∀ t : Fin cfg0.N, (cfg0.win (4 : Fin 6)).index t = ![0, 0] := by decide +kernel

theorem iblk_4 (t : Fin cfg0.N) (n : Fin 1024) : iblk m c (4 : Fin 6) t (ix2 0 n) = gs m c n := by
  refine congrArg (m (c.tc.loc main_arg4)) (funext fun a => Fin.ext ?_)
  fin_cases a
  · show (cfg0.win (4 : Fin 6)).index t 0 * 1 + 1 * 0 = 0
    rw [index_4 t]
    show 0 * 1 + 1 * 0 = _
    omega
  · show (cfg0.win (4 : Fin 6)).index t 1 * 1024 + 1 * n.val = n.val
    rw [index_4 t]
    show 0 * 1024 + 1 * n.val = _
    omega

/-- The result at one index. -/
def value (r : Fin 128) (n : Fin 1024) : EReal :=
  normed (hidden (Hs m c r) (Cs m c r) (As m c r) (Ws m c)) (gs m c) n

def result : Buf (Elt Ideal) ((c.tc : Thread nD τ).loc main_v0) := fun i => value m c (i 1) (i 2)

theorem block_value (t : Fin cfg0.N) (r : Fin 128) (n : Fin 1024) :
    (dats m 0 c).after (5 : Fin 6) t (ix3 0 r n) = value m c r n := by
  have e : (dats m 0 c).after (5 : Fin 6) t = out0_5 (iblk m c 0 t) (iblk m c 1 t) (iblk m c 2 t) (iblk m c 3 t) (iblk m c 4 t) :=
    after0_5 m c t
  rw [e]
  unfold out0_5
  rw [View.canon_cons_unit_lit _ _ _ fun a => by fin_cases a <;> rfl]
  refine (tile _ _ _ _ _ _ (Ws m c) (fun k n => ?_) (fun k n => ?_) r n).trans ?_
  · exact (congrArg (iblk m c (3 : Fin 6) t) (funext fun a => Fin.ext (by fin_cases a <;> simp [lo]))).trans (iblk_3 m c t (lo k) n)
  · exact (congrArg (iblk m c (3 : Fin 6) t) (funext fun a => Fin.ext (by fin_cases a <;> simp [hi]))).trans (iblk_3 m c t (hi k) n)
  · unfold value
    rw [View.ld_unit_lit, View.ld_unit_lit, View.ld_unit_lit, View.ld_unit_lit]
    · simp only [iblk_0, iblk_1, iblk_2, iblk_4]
    all_goals
      intro a
      fin_cases a <;> rfl

theorem index_5 : ∀ t : Fin cfg0.N, (cfg0.win (5 : Fin 6)).index t = ![0, 0, 0] := by decide +kernel

theorem place (t : Fin cfg0.N) (r : Fin 128) (e : Fin 1024) : ((cfg0.win (5 : Fin 6)).blk t).view.emb (ix3 (0 : Fin 1) r e) = ix3 0 r e := by
  refine funext fun a => Fin.ext ?_
  fin_cases a
  · show (cfg0.win (5 : Fin 6)).index t 0 * 1 + 1 * 0 = 0
    rw [index_5 t]
    show 0 * 1 + 1 * 0 = _
    omega
  · show (cfg0.win (5 : Fin 6)).index t 1 * 128 + 1 * r.val = r.val
    rw [index_5 t]
    show 0 * 128 + 1 * r.val = _
    omega
  · show (cfg0.win (5 : Fin 6)).index t 2 * 1024 + 1 * e.val = e.val
    rw [index_5 t]
    show 0 * 1024 + 1 * e.val = _
    omega

theorem covers : (cfg0.win (5 : Fin 6)).Covers := by decide +kernel

/-- What the run leaves in the result array. -/
theorem final : (dats m 0 c).arrAt (5 : Fin 6) cfg0.N = result m c := by
  refine (dats m 0 c).arrAt_eq_of_covers (5 : Fin 6) (result m c) covers fun t hf y => ?_
  have hy : y = ix3 (0 : Fin 1) (y 1) (y 2) := by
    refine funext fun a => ?_
    fin_cases a
    · exact Fin.ext (Nat.lt_one_iff.1 (y 0).isLt)
    · rfl
    · rfl
  refine Eq.trans (b := (dats m 0 c).after (5 : Fin 6) t (ix3 (0 : Fin 1) (y 1) (y 2))) ?_ ?_
  · exact congrArg ((dats m 0 c).after (5 : Fin 6) t) hy
  · refine (block_value m c t (y 1) (y 2)).trans (Eq.trans ?_ (congrArg (result m c) ((congrArg _ hy).trans (place t (y 1) (y 2)))).symm)
    rfl

end Cert.Kernel6Ideal.Last

end
-- ==== Proof.LastRef.lean ====
/- The plain output projection and norm of the sample group at one index. -/
module

public import proofs.«01_k».proof.Proof.Mix
public import proofs.«01_k».proof.Proof.Gen.Reference6Ideal.Run
public import proofs.«01_k».proof.Proof.Gen.Reference6Ideal.Read

@[expose] public section

set_option maxRecDepth 16384

noncomputable section

namespace Cert.Reference6Ideal.Read

open Cert.Reference6Ideal Cert.Reference6Ideal.Gen Idealize.ShloMosaic Cert.Mix

variable (x0 x1 : (⟨S1x128x512, .bf16⟩ : BufTy).Contents (Elt Ideal)) (x2 : (⟨S1x128x1024, .f32⟩ : BufTy).Contents (Elt Ideal))
  (x3 : (⟨S1024x1024, .bf16⟩ : BufTy).Contents (Elt Ideal)) (x4 : (⟨S1x1024, .f32⟩ : BufTy).Contents (Elt Ideal))

theorem joined_lo (r : Fin 128) (k : Fin 512) : val_main_v0 (F := Ideal) x0 x1 (ix3 0 r (lo k)) = x0 (ix3 0 r k) := by
  have hk : (lo k).val < 512 := k.isLt
  pointwise [val_main_v0]
  rw [dif_pos hk]
  rfl

theorem joined_hi (r : Fin 128) (k : Fin 512) : val_main_v0 (F := Ideal) x0 x1 (ix3 0 r (hi k)) = x1 (ix3 0 r k) := by
  have hk : ¬(hi k).val < 512 := by show ¬512 + k.val < 512; omega
  pointwise [val_main_v0]
  rw [dif_neg hk]
  congr 2
  refine Fin.ext ?_
  show 512 + k.val - 512 = k.val
  omega

/-- The residual sum of a row. -/
theorem summed (r : Fin 128) (n : Fin 1024) :
    val_main_v2 (F := Ideal) x0 x1 x2 x3 (ix3 0 r n)
      = hidden (fun j => x2 (ix3 0 r j)) (fun j => x0 (ix3 0 r j)) (fun j => x1 (ix3 0 r j)) (fun k j => x3 (ix2 k j)) n := by
  have e : val_main_v1 (F := Ideal) x0 x1 x3 (ix3 0 r n)
      = ∑ k : Fin 1024, val_main_v0 (F := Ideal) x0 x1 (ix3 0 r k) * x3 (ix2 k n) := by
    refine (val_main_v1_apply x0 x1 x3 (ix3 0 r n)).trans (Finset.sum_congr rfl fun k _ => ?_)
    refine congrArg₂ (· * ·) (congrArg _ ?_) (congrArg x3 ?_) <;> funext a <;> fin_cases a <;> rfl
  rw [val_main_v2_apply, e, sum_halves]
  simp only [joined_lo, joined_hi]
  exact (add_assoc _ _ _).symm

theorem sum_zero : Ideal.ofBits .f32 0x00000000#32 = (0 : EReal) := by simp [Ideal.ofBits, Ideal.ieee]

/-- The reciprocal root of the row's mean square. -/
theorem scaled (r : Fin 128) :
    val_main_v11 (F := Ideal) x0 x1 x2 x3 (ix3 0 r 0)
      = scale (hidden (fun j => x2 (ix3 0 r j)) (fun j => x0 (ix3 0 r j)) (fun j => x1 (ix3 0 r j)) (fun k j => x3 (ix2 k j))) := by
  have e6 : idx_main_v6 (ix3 0 r 0) = ix2 0 r := by
    funext a
    fin_cases a <;> rfl
  have e5 : val_main_v5 (F := Ideal) x0 x1 x2 x3 (ix2 0 r)
      = ∑ k : Fin 1024, val_main_v2 (F := Ideal) x0 x1 x2 x3 (ix3 0 r k) * val_main_v2 (F := Ideal) x0 x1 x2 x3 (ix3 0 r k) := by
    refine (val_main_v5_apply x0 x1 x2 x3 (ix2 0 r)).trans ?_
    refine Eq.trans (congrArg₂ (· + ·) sum_zero (Finset.sum_congr rfl fun k _ => ?_)) (zero_add _)
    have ek : idx_main_v5 (ix2 0 r) k = ix3 0 r k := by
      funext a
      fin_cases a <;> rfl
    rw [ek, val_main_v4_apply]
    rfl
  rw [val_main_v11_apply, val_main_v10_apply, val_main_v8_apply, val_main_v6_apply, e6, e5, val_main_v7_apply, val_main_v9_apply]
  simp only [summed]
  rfl

/-- The result at one index. -/
theorem result_apply (r : Fin 128) (n : Fin 1024) :
    val_main_v16 (F := Ideal) x0 x1 x2 x3 x4 (ix3 0 r n)
      = normed (hidden (fun j => x2 (ix3 0 r j)) (fun j => x0 (ix3 0 r j)) (fun j => x1 (ix3 0 r j)) (fun k j => x3 (ix2 k j)))
          (fun j => x4 (ix2 0 j)) n := by
  have e12 : idx_main_v12 (ix3 0 r n) = ix3 0 r 0 := by
    funext a
    fin_cases a <;> rfl
  have e15 : val_main_v15 (F := Ideal) x4 (ix3 0 r n) = x4 (ix2 0 n) := by
    rw [val_main_v15_apply, val_main_v14_apply, val_main_v3_apply]
    refine congrArg x4 (funext fun a => Fin.ext ?_)
    fin_cases a
    · rfl
    · exact Nat.mod_eq_of_lt n.isLt
  rw [val_main_v16_apply, e15, val_main_v13_apply, summed, val_main_v12_apply, e12, scaled]
  rfl

end Cert.Reference6Ideal.Read

end
-- ==== Proof.FrontLand.lean ====
/- The call's end memory holds its seven results. -/
module

public import proofs.«01_k».proof.Proof.FrontCover

@[expose] public section

set_option maxRecDepth 16384

noncomputable section

namespace Cert.Kernel4Ideal.Front

open Idealize.ShloMosaic Cert.Kernel4Ideal.Gen Cert.Mix Cert.Front

variable (m : (ℓ : Loc nD τ sig) → Buf (Elt Ideal) ℓ) (c : Dev nD) {r : PUnit × MemSt nD τ sig (Elt Ideal)}
  (h : Pipeline.FramePost cfgs (dats m) 0 (V m) r)
include h

theorem lands_14 : r.2.mem ((c.tc : Thread nD τ).loc main_v71_0) = result_14 m c := ((h c).1 (14 : Fin 21)).trans (final_14 m c)

theorem lands_15 : r.2.mem ((c.tc : Thread nD τ).loc main_v71_1) = result_15 m c := ((h c).1 (15 : Fin 21)).trans (final_15 m c)

theorem lands_16 : r.2.mem ((c.tc : Thread nD τ).loc main_v71_2) = result_16 m c := ((h c).1 (16 : Fin 21)).trans (final_16 m c)

theorem lands_17 : r.2.mem ((c.tc : Thread nD τ).loc main_v71_3) = result_17 m c := ((h c).1 (17 : Fin 21)).trans (final_17 m c)

theorem lands_18 : r.2.mem ((c.tc : Thread nD τ).loc main_v71_4) = result_18 m c := ((h c).1 (18 : Fin 21)).trans (final_18 m c)

theorem lands_19 : r.2.mem ((c.tc : Thread nD τ).loc main_v71_5) = result_19 m c := ((h c).1 (19 : Fin 21)).trans (final_19 m c)

theorem lands_20 : r.2.mem ((c.tc : Thread nD τ).loc main_v71_6) = result_20 m c := ((h c).1 (20 : Fin 21)).trans (final_20 m c)

end Cert.Kernel4Ideal.Front

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_triangle
public import proofs.«01_k».proof.Proof.Gen.Pre_real_scores
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Gen.Reference4Ideal.Run
public import proofs.«01_k».proof.Proof.Gen.Reference4Ideal.Read
public import proofs.«01_k».proof.Proof.Pre
public import proofs.«01_k».proof.Proof.Ref
public import proofs.«01_k».proof.Proof.Out
public import proofs.«01_k».proof.Proof.OutRef
public import proofs.«01_k».proof.Proof.MidSame
public import proofs.«01_k».proof.Proof.FrontSame
public import proofs.«01_k».proof.Proof.StepSame
public import proofs.«01_k».proof.Proof.Last
public import proofs.«01_k».proof.Proof.LastRef
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.FrontLand
public import Idealize.ShloMosaic.Adequacy
public import Idealize.ShloMosaic.Init

@[expose] public section

noncomputable section

namespace Cert.Proof

open Idealize.ShloMosaic Idealize.SL.Sem Cert.Kernel

/-- Both programs leave the gated softmax sum of the arguments. -/
theorem values [hK : Cert.KernelIdeal.Facts] [hR : Cert.ReferenceIdeal.Facts] [hP : Cert.Pre_real_scores.Facts] :
    algebraic_KernelIdeal_ReferenceIdeal_pre_real_scores := by
  intro m g m' g' h hm
  have tame : ∀ c, Cert.KernelIdeal.Head.Tame m c := fun c =>
    Cert.KernelIdeal.Head.tame_of_real m c (Cert.Pre.entries_of_real_scores _ _ _ _ _ _ (h c)).2.1
      (Cert.Pre.entries_of_real_scores _ _ _ _ _ _ (h c)).2.2
  refine ⟨fun c => Cert.KernelIdeal.Head.result m c, ?_, ?_⟩
  · refine (θ_run Cert.KernelIdeal.defs _ _).mono (fun r hq c => ?_)
      (θ_run_and (Cert.KernelIdeal.Gen.run_main 0 m g (Cert.KernelIdeal.pinned_of_real m h))
        (Cert.KernelIdeal.Gen.unchanged 0 m g (Cert.KernelIdeal.pinned_of_real m h)))
    exact ⟨((hq.1 c).1 (4 : Fin 5)).trans (Cert.KernelIdeal.Head.final m g c (tame c)), hq.2 c⟩
  · refine (θ_run Cert.ReferenceIdeal.defs _ _).mono (fun r hq c => ?_) (Cert.ReferenceIdeal.Value.run (F := Ideal) m' g')
    refine ⟨((hq c).1.trans (Cert.ReferenceIdeal.Read.val_main_v27_eq m' c)).trans ?_, (hq c).2⟩
    obtain ⟨-, -, e2, e3, e4, e5⟩ := hm c
    rw [e2, e3, e4, e5]
    funext i
    rw [eq_ix3 i]
    exact Cert.ReferenceIdeal.Read.result_apply _ _ _ _ _ _ _

/-- Both programs leave the normalised residual sum of the arguments. -/
theorem out_values [hK : Cert.Kernel3Ideal.Facts] [hR : Cert.Reference3Ideal.Facts] : algebraic_Kernel3Ideal_Reference3Ideal := by
  intro m g m' g' h hm
  refine ⟨fun c => Cert.Kernel3Ideal.Out.result m c, ?_, ?_⟩
  · refine (θ_run Cert.Kernel3Ideal.defs _ _).mono (fun r hq c => ?_)
      (θ_run_and (Cert.Kernel3Ideal.Gen.run_main m g) (Cert.Kernel3Ideal.Gen.unchanged m g))
    exact ⟨((hq.1 c).1 (5 : Fin 6)).trans (Cert.Kernel3Ideal.Out.final m c), hq.2 c⟩
  · refine (θ_run Cert.Reference3Ideal.defs _ _).mono (fun r hq c => ?_) (Cert.Reference3Ideal.Value.run (F := Ideal) m' g')
    refine ⟨((hq c).1.trans (Cert.Reference3Ideal.Read.val_main_v16_eq _ _ _ _ _)).trans ?_, (hq c).2⟩
    obtain ⟨e0, e1, e2, e3, e4⟩ := hm c
    rw [e0, e1, e2, e3, e4]
    funext i
    rw [eq_ix3 i]
    exact Cert.Reference3Ideal.Read.result_apply _ _ _ _ _ _ _ _

theorem mid_values [hK : Cert.Kernel2Ideal.Facts] [hR : Cert.Reference2Ideal.Facts] : algebraic_Kernel2Ideal_Reference2Ideal := by
  intro m g m' g' _ hm
  refine ⟨fun c => Cert.Kernel2Ideal.Mid.result_7 m c, fun c => Cert.Kernel2Ideal.Mid.result_8 m c, fun c => Cert.Kernel2Ideal.Mid.result_9 m c, fun c => Cert.Kernel2Ideal.Mid.result_10 m c, fun c => Cert.Kernel2Ideal.Mid.result_11 m c, fun c => Cert.Kernel2Ideal.Mid.result_12 m c, fun c => Cert.Kernel2Ideal.Mid.result_13 m c, fun c => Cert.Kernel2Ideal.Mid.result_14 m c, fun c => Cert.Kernel2Ideal.Mid.result_15 m c, fun c => Cert.Kernel2Ideal.Mid.result_16 m c, ?_, ?_⟩
  · refine (θ_run Cert.Kernel2Ideal.defs _ _).mono (fun r hq c => ?_)
      (θ_run_and (Cert.Kernel2Ideal.Gen.run_main m g) (Cert.Kernel2Ideal.Gen.unchanged m g))
    exact ⟨((hq.1 c).1 (7 : Fin 17)).trans (Cert.Kernel2Ideal.Mid.final_7 m c),
      ((hq.1 c).1 (8 : Fin 17)).trans (Cert.Kernel2Ideal.Mid.final_8 m c),
      ((hq.1 c).1 (9 : Fin 17)).trans (Cert.Kernel2Ideal.Mid.final_9 m c),
      ((hq.1 c).1 (10 : Fin 17)).trans (Cert.Kernel2Ideal.Mid.final_10 m c),
      ((hq.1 c).1 (11 : Fin 17)).trans (Cert.Kernel2Ideal.Mid.final_11 m c),
      ((hq.1 c).1 (12 : Fin 17)).trans (Cert.Kernel2Ideal.Mid.final_12 m c),
      ((hq.1 c).1 (13 : Fin 17)).trans (Cert.Kernel2Ideal.Mid.final_13 m c),
      ((hq.1 c).1 (14 : Fin 17)).trans (Cert.Kernel2Ideal.Mid.final_14 m c),
      ((hq.1 c).1 (15 : Fin 17)).trans (Cert.Kernel2Ideal.Mid.final_15 m c),
      ((hq.1 c).1 (16 : Fin 17)).trans (Cert.Kernel2Ideal.Mid.final_16 m c), hq.2 c⟩
  · refine (θ_run Cert.Reference2Ideal.defs _ _).mono (fun r hq c => ?_) (Cert.Reference2Ideal.Value.run (F := Ideal) m' g')
    obtain ⟨r0, r1, r2, r3, r4, r5, r6, r7, r8, r9, ra⟩ := hq c
    obtain ⟨e0, e1, e2, e3, e4, e5, e6⟩ := hm c
    refine ⟨?_, ?_, ?_, ?_, ?_, ?_, ?_, ?_, ?_, ?_, ra⟩
    · exact (r0.trans (Cert.Reference2Ideal.Read.val_main_v2_eq _ _ _ _)).trans (Cert.Kernel2Ideal.Mid.same_7 m c e0 e1 e2 e3)
    · exact (r1.trans (Cert.Reference2Ideal.Read.val_main_v52_eq m' c)).trans (Cert.Kernel2Ideal.Mid.same_8 m c e0 e1 e2 e3 e4 e5 e6)
    · exact (r2.trans (Cert.Reference2Ideal.Read.val_main_v60_eq _ _ _ _ _ _)).trans (Cert.Kernel2Ideal.Mid.same_9 m c e0 e1 e2 e3 e4 e5)
    · exact (r3.trans (Cert.Reference2Ideal.Read.val_main_v61_eq _ _ _ _ _ _)).trans (Cert.Kernel2Ideal.Mid.same_10 m c e0 e1 e2 e3 e4 e5)
    · exact (r4.trans (Cert.Reference2Ideal.Read.val_main_v62_eq _ _ _ _ _ _)).trans (Cert.Kernel2Ideal.Mid.same_11 m c e0 e1 e2 e3 e4 e5)
    · exact (r5.trans (Cert.Reference2Ideal.Read.val_main_v64_eq m' c)).trans (Cert.Kernel2Ideal.Mid.same_12 m c e0 e1 e2 e3 e4 e5)
    · exact (r6.trans (Cert.Reference2Ideal.Read.val_main_v24_eq _ _ _ _ _ _)).trans (Cert.Kernel2Ideal.Mid.same_13 m c e0 e1 e2 e3 e4 e5)
    · exact (r7.trans (Cert.Reference2Ideal.Read.val_main_v25_eq _ _ _ _ _ _)).trans (Cert.Kernel2Ideal.Mid.same_14 m c e0 e1 e2 e3 e4 e5)
    · exact (r8.trans (Cert.Reference2Ideal.Read.val_main_v57_eq _ _ _ _ _ _)).trans (Cert.Kernel2Ideal.Mid.same_15 m c e0 e1 e2 e3 e4 e5)
    · exact (r9.trans (Cert.Reference2Ideal.Read.val_main_v65_eq m' c)).trans (Cert.Kernel2Ideal.Mid.same_16 m c e0 e1 e2 e3 e4 e5)

/-- Both programs leave the layer's input side: queries, keys, values, the two latent results, the gate and the mixed chunks. -/
theorem front_values [hK : Cert.Kernel4Ideal.Facts] [hR : Cert.Reference4Ideal.Facts] : algebraic_Kernel4Ideal_Reference4Ideal := by
  intro m g m' g' _ hm
  refine ⟨fun c => Cert.Kernel4Ideal.Front.result_14 m c, fun c => Cert.Kernel4Ideal.Front.result_15 m c, fun c => Cert.Kernel4Ideal.Front.result_16 m c, fun c => Cert.Kernel4Ideal.Front.result_17 m c, fun c => Cert.Kernel4Ideal.Front.result_18 m c, fun c => Cert.Kernel4Ideal.Front.result_19 m c, fun c => Cert.Kernel4Ideal.Front.result_20 m c, ?_, ?_⟩
  · refine (θ_run Cert.Kernel4Ideal.defs _ _).mono (fun r hq c => ?_)
      (θ_run_and (Cert.Kernel4Ideal.Gen.run_main m g) (Cert.Kernel4Ideal.Gen.unchanged m g))
    exact ⟨Cert.Kernel4Ideal.Front.lands_14 m c hq.1,
      Cert.Kernel4Ideal.Front.lands_15 m c hq.1,
      Cert.Kernel4Ideal.Front.lands_16 m c hq.1,
      Cert.Kernel4Ideal.Front.lands_17 m c hq.1,
      Cert.Kernel4Ideal.Front.lands_18 m c hq.1,
      Cert.Kernel4Ideal.Front.lands_19 m c hq.1,
      Cert.Kernel4Ideal.Front.lands_20 m c hq.1, hq.2 c⟩
  · refine (θ_run Cert.Reference4Ideal.defs _ _).mono (fun r hq c => ?_) (Cert.Reference4Ideal.Value.run (F := Ideal) m' g')
    obtain ⟨r0, r1, r2, r3, r4, r5, r6, ra⟩ := hq c
    obtain ⟨e0, e1, e2, e3, e4, e5, e6, e7, e8, e9, e10⟩ := hm c
    refine ⟨?_, ?_, ?_, ?_, ?_, ?_, ?_, ra⟩
    · exact (r0.trans (Cert.Reference4Ideal.Read.val_main_v149_eq _)).trans (Cert.Kernel4Ideal.Front.same_14 m c e0 e1 e2 e3 e5)
    · exact (r1.trans (Cert.Reference4Ideal.Read.val_main_v151_eq _)).trans (Cert.Kernel4Ideal.Front.same_15 m c e0 e1 e2 e4 e6)
    · exact (r2.trans (Cert.Reference4Ideal.Read.val_main_v153_eq _)).trans (Cert.Kernel4Ideal.Front.same_16 m c e0 e1 e2 e4 e6)
    · exact (r3.trans (Cert.Reference4Ideal.Read.val_main_v89_eq _)).trans (Cert.Kernel4Ideal.Front.same_17 m c e0 e1 e2 e4)
    · exact (r4.trans (Cert.Reference4Ideal.Read.val_main_v102_eq _)).trans (Cert.Kernel4Ideal.Front.same_18 m c e0 e1 e2)
    · exact (r5.trans (Cert.Reference4Ideal.Read.val_main_v155_eq _)).trans (Cert.Kernel4Ideal.Front.same_19 m c e0 e1 e2)
    · exact (r6.trans (Cert.Reference4Ideal.Read.val_main_v156_eq _)).trans (Cert.Kernel4Ideal.Front.same_20 m c e0 e1 e2 e7 e8 e9 e10)

set_option maxHeartbeats 1000000 in
/-- Both programs leave the sample group's input side: latent queries, latent row, the padded and the plain turned key, the layer norm, the
    gate and the gated first row of a chunk. -/
theorem step_values [hK : Cert.Kernel5Ideal.Facts] [hR : Cert.Reference5Ideal.Facts] : algebraic_Kernel5Ideal_Reference5Ideal := by
  intro m g m' g' _ hm
  refine ⟨fun c => Cert.Kernel5Ideal.Step.result_13 m c, fun c => Cert.Kernel5Ideal.Step.result_14 m c, fun c => Cert.Kernel5Ideal.Step.result_15 m c, fun c => Cert.Kernel5Ideal.Step.result_16 m c, fun c => Cert.Kernel5Ideal.Step.result_17 m c, fun c => Cert.Kernel5Ideal.Step.result_18 m c, fun c => Cert.Kernel5Ideal.Step.result_19 m c, ?_, ?_⟩
  · refine (θ_run Cert.Kernel5Ideal.defs _ _).mono (fun r hq c => ?_)
      (θ_run_and (Cert.Kernel5Ideal.Gen.run_main m g) (Cert.Kernel5Ideal.Gen.unchanged m g))
    exact ⟨Cert.Kernel5Ideal.Step.lands_13 m c hq.1,
      Cert.Kernel5Ideal.Step.lands_14 m c hq.1,
      Cert.Kernel5Ideal.Step.lands_15 m c hq.1,
      Cert.Kernel5Ideal.Step.lands_16 m c hq.1,
      Cert.Kernel5Ideal.Step.lands_17 m c hq.1,
      Cert.Kernel5Ideal.Step.lands_18 m c hq.1,
      Cert.Kernel5Ideal.Step.lands_19 m c hq.1, hq.2 c⟩
  · refine (θ_run Cert.Reference5Ideal.defs _ _).mono (fun r hq c => ?_) (Cert.Reference5Ideal.Value.run (F := Ideal) m' g')
    obtain ⟨r0, r1, r2, r3, r4, r5, r6, ra⟩ := hq c
    obtain ⟨e0, e1, e2, e3, e4, e5, e6, e7, e8, e9, e10⟩ := hm c
    refine ⟨?_, ?_, ?_, ?_, ?_, ?_, ?_, ra⟩
    · exact (r0.trans (Cert.Reference5Ideal.Read.val_main_v141_eq _)).trans (Cert.Kernel5Ideal.Step.same_13 m c e0 e1 e2 e3 e5 e6)
    · exact (r1.trans (Cert.Reference5Ideal.Read.val_main_v89_eq _)).trans (Cert.Kernel5Ideal.Step.same_14 m c e0 e1 e2 e4)
    · exact (r2.trans (Cert.Reference5Ideal.Read.val_main_v100_eq _)).trans (Cert.Kernel5Ideal.Step.same_15 m c e0 e1 e2)
    · exact (r3.trans (Cert.Reference5Ideal.Read.val_main_v98_eq _)).trans (Cert.Kernel5Ideal.Step.same_16 m c e0 e1 e2)
    · exact (r4.trans (Cert.Reference5Ideal.Read.val_main_v124_eq _)).trans (Cert.Kernel5Ideal.Step.same_17 m c e0 e1 e2 e7 e8)
    · exact (r5.trans (Cert.Reference5Ideal.Read.val_main_v143_eq _)).trans (Cert.Kernel5Ideal.Step.same_18 m c e0 e1 e2)
    · exact (r6.trans (Cert.Reference5Ideal.Read.val_main_v144_eq _)).trans (Cert.Kernel5Ideal.Step.same_19 m c e0 e1 e2 e7 e8 e9 e10)

/-- Both programs leave the normalised residual sum of the sample group. -/
theorem last_values [hK : Cert.Kernel6Ideal.Facts] [hR : Cert.Reference6Ideal.Facts] : algebraic_Kernel6Ideal_Reference6Ideal := by
  intro m g m' g' h hm
  refine ⟨fun c => Cert.Kernel6Ideal.Last.result m c, ?_, ?_⟩
  · refine (θ_run Cert.Kernel6Ideal.defs _ _).mono (fun r hq c => ?_)
      (θ_run_and (Cert.Kernel6Ideal.Gen.run_main m g) (Cert.Kernel6Ideal.Gen.unchanged m g))
    exact ⟨((hq.1 c).1 (5 : Fin 6)).trans (Cert.Kernel6Ideal.Last.final m c), hq.2 c⟩
  · refine (θ_run Cert.Reference6Ideal.defs _ _).mono (fun r hq c => ?_) (Cert.Reference6Ideal.Value.run (F := Ideal) m' g')
    refine ⟨((hq c).1.trans (Cert.Reference6Ideal.Read.val_main_v16_eq _ _ _ _ _)).trans ?_, (hq c).2⟩
    obtain ⟨e0, e1, e2, e3, e4⟩ := hm c
    rw [e0, e1, e2, e3, e4]
    funext i
    have hi : i = ix3 (0 : Fin 1) (i 1) (i 2) := funext fun a => by
      fin_cases a
      · exact Fin.ext (Nat.lt_one_iff.1 (i 0).isLt)
      · rfl
      · rfl
    rw [hi]
    exact Cert.Reference6Ideal.Read.result_apply _ _ _ _ _ _ _

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Pre_triangle.Gen.facts, Cert.Pre_real_scores.Gen.facts,
    fun m ρ h => Cert.Kernel.Gen.frame 0 m ρ (Cert.Kernel.pinned_of_pre m h),
    fun m ρ h => Cert.KernelIdeal.Gen.frame 0 m ρ (Cert.KernelIdeal.pinned_of_pre m h),
    fun m ρ h => Cert.KernelIdeal.Gen.frame 0 m ρ (Cert.KernelIdeal.pinned_of_real m h),
    fun m ρ _ => (θ_run Cert.ReferenceIdeal.defs _ _).mono
      (fun r h => ⟨fun c => (h c).2, sem_eq_zero_of_no_sems (by decide) r.2⟩) (Cert.ReferenceIdeal.Value.run (F := Ideal) m ρ),
    fun m ρ _ => (θ_run Cert.ReferenceIdeal.defs _ _).mono
      (fun r h => ⟨fun c => (h c).2, sem_eq_zero_of_no_sems (by decide) r.2⟩) (Cert.ReferenceIdeal.Value.run (F := Ideal) m ρ),
    fun m ρ _ => Cert.Kernel2.Gen.frame m ρ,
    fun m ρ _ => Cert.Kernel2Ideal.Gen.frame m ρ,
    fun m ρ _ => (θ_run Cert.Reference2Ideal.defs _ _).mono
      (fun r h => ⟨fun c => (h c).2.2.2.2.2.2.2.2.2.2, sem_eq_zero_of_no_sems (by decide) r.2⟩) (Cert.Reference2Ideal.Value.run (F := Ideal) m ρ),
    fun m ρ _ => Cert.Kernel3.Gen.frame m ρ,
    fun m ρ _ => Cert.Kernel3Ideal.Gen.frame m ρ,
    fun m ρ _ => (θ_run Cert.Reference3Ideal.defs _ _).mono
      (fun r h => ⟨fun c => (h c).2, sem_eq_zero_of_no_sems (by decide) r.2⟩) (Cert.Reference3Ideal.Value.run (F := Ideal) m ρ),
    fun m ρ _ => Cert.Kernel4.Gen.frame m ρ,
    fun m ρ _ => Cert.Kernel4Ideal.Gen.frame m ρ,
    fun m ρ _ => (θ_run Cert.Reference4Ideal.defs _ _).mono
      (fun r h => ⟨fun c => (h c).2.2.2.2.2.2.2, sem_eq_zero_of_no_sems (by decide) r.2⟩) (Cert.Reference4Ideal.Value.run (F := Ideal) m ρ),
    fun m ρ _ => Cert.Kernel5.Gen.frame m ρ,
    fun m ρ _ => Cert.Kernel5Ideal.Gen.frame m ρ,
    fun m ρ _ => (θ_run Cert.Reference5Ideal.defs _ _).mono
      (fun r h => ⟨fun c => (h c).2.2.2.2.2.2.2, sem_eq_zero_of_no_sems (by decide) r.2⟩) (Cert.Reference5Ideal.Value.run (F := Ideal) m ρ),
    fun m ρ _ => Cert.Kernel6.Gen.frame m ρ,
    fun m ρ _ => Cert.Kernel6Ideal.Gen.frame m ρ,
    fun m ρ _ => (θ_run Cert.Reference6Ideal.defs _ _).mono
      (fun r h => ⟨fun c => (h c).2, sem_eq_zero_of_no_sems (by decide) r.2⟩) (Cert.Reference6Ideal.Value.run (F := Ideal) m ρ),
    IdealRules.named_const.statement Cert.KernelIdeal.κ "masked" .f32 0xF149F2CA#32 ⊥ rfl,
    values,
    trivial,
    mid_values,
    trivial,
    out_values,
    trivial,
    front_values,
    trivial,
    step_values,
    trivial,
    last_values⟩

end Cert.Proof

end
